-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S256x4096 : Shape := ⟨2, ![256, 4096]⟩
abbrev S2 : Shape := ⟨1, ![2]⟩
abbrev S2x3 : Shape := ⟨2, ![2, 3]⟩
abbrev S2x3x4 : Shape := ⟨3, ![2, 3, 4]⟩
abbrev S1 : Shape := ⟨1, ![1]⟩
abbrev S_ : Shape := ⟨0, ![]⟩
abbrev S1x256x4096 : Shape := ⟨3, ![1, 256, 4096]⟩
abbrev S128x4096 : Shape := ⟨2, ![128, 4096]⟩
abbrev S1x4096 : Shape := ⟨2, ![1, 4096]⟩
abbrev S128 : Shape := ⟨1, ![128]⟩
abbrev S128x1 : Shape := ⟨2, ![128, 1]⟩
abbrev S1x1 : Shape := ⟨2, ![1, 1]⟩
abbrev S256x2048 : Shape := ⟨2, ![256, 2048]⟩
abbrev S1x1x1 : Shape := ⟨3, ![1, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .local _ .vmem, ⟨0, _⟩ => ⟨S4096, .f32⟩
  | .local _ .vmem, ⟨1, _⟩ => ⟨S4096x4096, .bf16⟩
  | .local _ .vmem, ⟨2, _⟩ => ⟨S256x4096, .f32⟩
  | .local _ .vmem, ⟨3, _⟩ => ⟨S256x4096, .bf16⟩
  | .local _ .vmem, ⟨4, _⟩ => ⟨S256x4096, .bf16⟩
  | .local _ .vmem, ⟨5, _⟩ => ⟨S256x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_i32 : BitVec 32 := 0#32
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c256_i32 : BitVec 32 := 256#32
  let v11 : BitVec 32 := Scalar.muli v10 c256_i32
  let c0_i32_4 : BitVec 32 := 0#32
  ![0, v11.toNat, 0]
def k0_off2 (d0 : Dev nD) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c256_i32 : BitVec 32 := 256#32
  let v11 : BitVec 32 := Scalar.muli v10 c256_i32
  let c0_i32_6 : BitVec 32 := 0#32
  ![v11.toNat, 0]
def k0_dev1 (d0 : Dev nD) : Nat :=
  let c0_i32_10 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_7 v2
  let c16_i32_9 : BitVec 32 := 16#32
  let v21 : BitVec 32 := Scalar.muli v20 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_13 : BitVec 32 := 0#32
  let v27 : BitVec 1 := Scalar.cmpi .sgt v5 c0_i32_13
  let v28 : BitVec 32 := Scalar.extui v27
  let c0_i32_14 : BitVec 32 := 0#32
  let v29 : BitVec 1 := Scalar.cmpi .ne v28 c0_i32_14
  v29

def k0_dev2 (d0 : Dev nD) : Nat :=
  let c0_i32_5493 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5492 : BitVec 32 := 16#32
  let v3945 : BitVec 32 := Scalar.muli v2 c16_i32_5492
  let v3946 : BitVec 32 := Scalar.addi c0_i32_5493 v3945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5490 : BitVec 32 := 1#32
  let v3944 : BitVec 32 := Scalar.subi v5 c1_i32_5490
  let c4_i32_5494 : BitVec 32 := 4#32
  let v3947 : BitVec 32 := Scalar.muli v3944 c4_i32_5494
  let v3948 : BitVec 32 := Scalar.addi v3946 v3947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5495 : BitVec 32 := 1#32
  let v3949 : BitVec 32 := Scalar.muli v8 c1_i32_5495
  let v3950 : BitVec 32 := Scalar.addi v3948 v3949
  v3950.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v30 : BitVec 1 := Scalar.cmpi .slt v5 c3_i32
  let v31 : BitVec 32 := Scalar.extui v30
  let c0_i32_15 : BitVec 32 := 0#32
  let v32 : BitVec 1 := Scalar.cmpi .ne v31 c0_i32_15
  v32

def k0_dev3 (d0 : Dev nD) : Nat :=
  let c0_i32_5493 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5492 : BitVec 32 := 16#32
  let v3945 : BitVec 32 := Scalar.muli v2 c16_i32_5492
  let v3946 : BitVec 32 := Scalar.addi c0_i32_5493 v3945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5490 : BitVec 32 := 1#32
  let v3944 : BitVec 32 := Scalar.addi v5 c1_i32_5490
  let c4_i32_5494 : BitVec 32 := 4#32
  let v3947 : BitVec 32 := Scalar.muli v3944 c4_i32_5494
  let v3948 : BitVec 32 := Scalar.addi v3946 v3947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5495 : BitVec 32 := 1#32
  let v3949 : BitVec 32 := Scalar.muli v8 c1_i32_5495
  let v3950 : BitVec 32 := Scalar.addi v3948 v3949
  v3950.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_16 : BitVec 32 := 0#32
  let v33 : BitVec 1 := Scalar.cmpi .sgt v8 c0_i32_16
  let v34 : BitVec 32 := Scalar.extui v33
  let c0_i32_17 : BitVec 32 := 0#32
  let v35 : BitVec 1 := Scalar.cmpi .ne v34 c0_i32_17
  v35

def k0_dev4 (d0 : Dev nD) : Nat :=
  let c0_i32_5493 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5492 : BitVec 32 := 16#32
  let v3945 : BitVec 32 := Scalar.muli v2 c16_i32_5492
  let v3946 : BitVec 32 := Scalar.addi c0_i32_5493 v3945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5494 : BitVec 32 := 4#32
  let v3947 : BitVec 32 := Scalar.muli v5 c4_i32_5494
  let v3948 : BitVec 32 := Scalar.addi v3946 v3947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5490 : BitVec 32 := 1#32
  let v3944 : BitVec 32 := Scalar.subi v8 c1_i32_5490
  let c1_i32_5495 : BitVec 32 := 1#32
  let v3949 : BitVec 32 := Scalar.muli v3944 c1_i32_5495
  let v3950 : BitVec 32 := Scalar.addi v3948 v3949
  v3950.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_18 : BitVec 32 := 3#32
  let v36 : BitVec 1 := Scalar.cmpi .slt v8 c3_i32_18
  let v37 : BitVec 32 := Scalar.extui v36
  let c0_i32_19 : BitVec 32 := 0#32
  let v38 : BitVec 1 := Scalar.cmpi .ne v37 c0_i32_19
  v38

def k0_dev5 (d0 : Dev nD) : Nat :=
  let c0_i32_5493 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5492 : BitVec 32 := 16#32
  let v3945 : BitVec 32 := Scalar.muli v2 c16_i32_5492
  let v3946 : BitVec 32 := Scalar.addi c0_i32_5493 v3945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5494 : BitVec 32 := 4#32
  let v3947 : BitVec 32 := Scalar.muli v5 c4_i32_5494
  let v3948 : BitVec 32 := Scalar.addi v3946 v3947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5490 : BitVec 32 := 1#32
  let v3944 : BitVec 32 := Scalar.addi v8 c1_i32_5490
  let c1_i32_5495 : BitVec 32 := 1#32
  let v3949 : BitVec 32 := Scalar.muli v3944 c1_i32_5495
  let v3950 : BitVec 32 := Scalar.addi v3948 v3949
  v3950.toNat
def k0_dev6 (d0 : Dev nD) : Nat :=
  let c0_i32_39 : BitVec 32 := 0#32
  let c1_i32_35 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v60 : BitVec 32 := Scalar.subi c1_i32_35 v2
  let c16_i32_38 : BitVec 32 := 16#32
  let v61 : BitVec 32 := Scalar.muli v60 c16_i32_38
  let v62 : BitVec 32 := Scalar.addi c0_i32_39 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v63 : BitVec 32 := Scalar.muli v5 c4_i32_40
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v65 : BitVec 32 := Scalar.muli v8 c1_i32_41
  let v66 : BitVec 32 := Scalar.addi v64 v65
  v66.toNat
def k0_dev7 (d0 : Dev nD) : Nat :=
  let c0_i32_50 : BitVec 32 := 0#32
  let c1_i32_46 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v73 : BitVec 32 := Scalar.subi c1_i32_46 v2
  let c16_i32_49 : BitVec 32 := 16#32
  let v74 : BitVec 32 := Scalar.muli v73 c16_i32_49
  let v75 : BitVec 32 := Scalar.addi c0_i32_50 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v76 : BitVec 32 := Scalar.muli v5 c4_i32_51
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v78 : BitVec 32 := Scalar.muli v8 c1_i32_52
  let v79 : BitVec 32 := Scalar.addi v77 v78
  v79.toNat
def k0_off3 (d0 : Dev nD) (c0_i32_77 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c256_i32 : BitVec 32 := 256#32
  let v11 : BitVec 32 := Scalar.muli v10 c256_i32
  let v121 : BitVec 32 := Scalar.addi v11 c0_i32_77
  let v122 : Index := Scalar.indexCast v121
  let c0_78 : Index := 0#32
  ![v122.toNat, 0]
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_99 : BitVec 32 := 0#32
  let v156 : BitVec 1 := Scalar.cmpi .sge v8 c0_i32_99
  let c3_i32_100 : BitVec 32 := 3#32
  let v157 : BitVec 1 := Scalar.cmpi .slt v8 c3_i32_100
  let v158 : BitVec 1 := Scalar.andi v156 v157
  let v166 : BitVec 32 := Scalar.extui v158
  let c0_i32_111 : BitVec 32 := 0#32
  let v167 : BitVec 1 := Scalar.cmpi .ne v166 c0_i32_111
  v167

def k0_off4 (d0 : Dev nD) : Fin 2 → Nat :=
  let c4_i32_104 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v162 : BitVec 32 := Scalar.muli c4_i32_104 v5
  let c3_i32_103 : BitVec 32 := 3#32
  let c0_i32_102 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_101 : BitVec 32 := 0#32
  let v159 : BitVec 32 := Scalar.subi v8 c0_i32_101
  let v160 : BitVec 32 := Scalar.maxsi c0_i32_102 v159
  let v161 : BitVec 32 := Scalar.minsi c3_i32_103 v160
  let v163 : BitVec 32 := Scalar.addi v162 v161
  let c256_i32_105 : BitVec 32 := 256#32
  let v164 : BitVec 32 := Scalar.muli v163 c256_i32_105
  let c0_i32_5494 : BitVec 32 := 0#32
  ![v164.toNat, 0]
def k0_dev8 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v165 : BitVec 32 := Scalar.addi v8 c1_i32_106
  let c1_i32_5493 : BitVec 32 := 1#32
  let v3948 : BitVec 32 := Scalar.muli v165 c1_i32_5493
  let v3949 : BitVec 32 := Scalar.addi v3947 v3948
  v3949.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_112 : BitVec 32 := 3#32
  let v168 : BitVec 1 := Scalar.cmpi .sle v8 c3_i32_112
  let c0_i32_113 : BitVec 32 := 0#32
  let v169 : BitVec 1 := Scalar.cmpi .sgt v8 c0_i32_113
  let v170 : BitVec 1 := Scalar.andi v168 v169
  let v178 : BitVec 32 := Scalar.extui v170
  let c0_i32_123 : BitVec 32 := 0#32
  let v179 : BitVec 1 := Scalar.cmpi .ne v178 c0_i32_123
  v179

def k0_off5 (d0 : Dev nD) : Fin 2 → Nat :=
  let c4_i32_117 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v174 : BitVec 32 := Scalar.muli c4_i32_117 v5
  let c3_i32_116 : BitVec 32 := 3#32
  let c0_i32_115 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_114 : BitVec 32 := 0#32
  let v171 : BitVec 32 := Scalar.addi v8 c0_i32_114
  let v172 : BitVec 32 := Scalar.maxsi c0_i32_115 v171
  let v173 : BitVec 32 := Scalar.minsi c3_i32_116 v172
  let v175 : BitVec 32 := Scalar.addi v174 v173
  let c256_i32_118 : BitVec 32 := 256#32
  let v176 : BitVec 32 := Scalar.muli v175 c256_i32_118
  let c0_i32_5494 : BitVec 32 := 0#32
  ![v176.toNat, 0]
def k0_dev9 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v177 : BitVec 32 := Scalar.addi v8 c_m1_i32
  let c1_i32_5493 : BitVec 32 := 1#32
  let v3948 : BitVec 32 := Scalar.muli v177 c1_i32_5493
  let v3949 : BitVec 32 := Scalar.addi v3947 v3948
  v3949.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_124 : BitVec 32 := 0#32
  let v180 : BitVec 1 := Scalar.cmpi .sge v5 c0_i32_124
  let c3_i32_125 : BitVec 32 := 3#32
  let v181 : BitVec 1 := Scalar.cmpi .slt v5 c3_i32_125
  let v182 : BitVec 1 := Scalar.andi v180 v181
  let v190 : BitVec 32 := Scalar.extui v182
  let c0_i32_136 : BitVec 32 := 0#32
  let v191 : BitVec 1 := Scalar.cmpi .ne v190 c0_i32_136
  v191

def k0_off6 (d0 : Dev nD) : Fin 2 → Nat :=
  let c4_i32_129 : BitVec 32 := 4#32
  let c3_i32_128 : BitVec 32 := 3#32
  let c0_i32_127 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_126 : BitVec 32 := 0#32
  let v183 : BitVec 32 := Scalar.subi v5 c0_i32_126
  let v184 : BitVec 32 := Scalar.maxsi c0_i32_127 v183
  let v185 : BitVec 32 := Scalar.minsi c3_i32_128 v184
  let v186 : BitVec 32 := Scalar.muli c4_i32_129 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v187 : BitVec 32 := Scalar.addi v186 v8
  let c256_i32_130 : BitVec 32 := 256#32
  let v188 : BitVec 32 := Scalar.muli v187 c256_i32_130
  let c2048_i32 : BitVec 32 := 2048#32
  ![v188.toNat, 2048]
def k0_dev10 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_131 : BitVec 32 := 1#32
  let v189 : BitVec 32 := Scalar.addi v5 c1_i32_131
  let c4_i32_5492 : BitVec 32 := 4#32
  let v3946 : BitVec 32 := Scalar.muli v189 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_137 : BitVec 32 := 3#32
  let v192 : BitVec 1 := Scalar.cmpi .sle v5 c3_i32_137
  let c0_i32_138 : BitVec 32 := 0#32
  let v193 : BitVec 1 := Scalar.cmpi .sgt v5 c0_i32_138
  let v194 : BitVec 1 := Scalar.andi v192 v193
  let v202 : BitVec 32 := Scalar.extui v194
  let c0_i32_149 : BitVec 32 := 0#32
  let v203 : BitVec 1 := Scalar.cmpi .ne v202 c0_i32_149
  v203

def k0_off7 (d0 : Dev nD) : Fin 2 → Nat :=
  let c4_i32_142 : BitVec 32 := 4#32
  let c3_i32_141 : BitVec 32 := 3#32
  let c0_i32_140 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_139 : BitVec 32 := 0#32
  let v195 : BitVec 32 := Scalar.addi v5 c0_i32_139
  let v196 : BitVec 32 := Scalar.maxsi c0_i32_140 v195
  let v197 : BitVec 32 := Scalar.minsi c3_i32_141 v196
  let v198 : BitVec 32 := Scalar.muli c4_i32_142 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v199 : BitVec 32 := Scalar.addi v198 v8
  let c256_i32_143 : BitVec 32 := 256#32
  let v200 : BitVec 32 := Scalar.muli v199 c256_i32_143
  let c2048_i32 : BitVec 32 := 2048#32
  ![v200.toNat, 2048]
def k0_dev11 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_144 : BitVec 32 := 4294967295#32
  let v201 : BitVec 32 := Scalar.addi v5 c_m1_i32_144
  let c4_i32_5492 : BitVec 32 := 4#32
  let v3946 : BitVec 32 := Scalar.muli v201 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_151 : BitVec 32 := 0#32
  let v205 : BitVec 1 := Scalar.cmpi .sge v5 c0_i32_151
  let c3_i32_152 : BitVec 32 := 3#32
  let v206 : BitVec 1 := Scalar.cmpi .slt v5 c3_i32_152
  let v207 : BitVec 1 := Scalar.andi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_150 : BitVec 32 := 0#32
  let v204 : BitVec 1 := Scalar.cmpi .eq v8 c0_i32_150
  let v208 : BitVec 1 := Scalar.andi v207 v204
  let v216 : BitVec 32 := Scalar.extui v208
  let c0_i32_166 : BitVec 32 := 0#32
  let v217 : BitVec 1 := Scalar.cmpi .ne v216 c0_i32_166
  v217

def k0_off8 (d0 : Dev nD) : Fin 2 → Nat :=
  let c4_i32_156 : BitVec 32 := 4#32
  let c3_i32_155 : BitVec 32 := 3#32
  let c0_i32_154 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_153 : BitVec 32 := 0#32
  let v209 : BitVec 32 := Scalar.subi v5 c0_i32_153
  let v210 : BitVec 32 := Scalar.maxsi c0_i32_154 v209
  let v211 : BitVec 32 := Scalar.minsi c3_i32_155 v210
  let v212 : BitVec 32 := Scalar.muli c4_i32_156 v211
  let c0_i32_157 : BitVec 32 := 0#32
  let v213 : BitVec 32 := Scalar.addi v212 c0_i32_157
  let c256_i32_158 : BitVec 32 := 256#32
  let v214 : BitVec 32 := Scalar.muli v213 c256_i32_158
  let c0_i32_5494 : BitVec 32 := 0#32
  ![v214.toNat, 0]
def k0_dev12 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_159 : BitVec 32 := 1#32
  let v215 : BitVec 32 := Scalar.addi v5 c1_i32_159
  let c4_i32_5492 : BitVec 32 := 4#32
  let v3946 : BitVec 32 := Scalar.muli v215 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_167 : BitVec 32 := 3#32
  let v218 : BitVec 1 := Scalar.cmpi .sle v5 c3_i32_167
  let c0_i32_168 : BitVec 32 := 0#32
  let v219 : BitVec 1 := Scalar.cmpi .sgt v5 c0_i32_168
  let v220 : BitVec 1 := Scalar.andi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_150 : BitVec 32 := 0#32
  let v204 : BitVec 1 := Scalar.cmpi .eq v8 c0_i32_150
  let v221 : BitVec 1 := Scalar.andi v220 v204
  let v229 : BitVec 32 := Scalar.extui v221
  let c0_i32_182 : BitVec 32 := 0#32
  let v230 : BitVec 1 := Scalar.cmpi .ne v229 c0_i32_182
  v230

def k0_off9 (d0 : Dev nD) : Fin 2 → Nat :=
  let c4_i32_172 : BitVec 32 := 4#32
  let c3_i32_171 : BitVec 32 := 3#32
  let c0_i32_170 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_169 : BitVec 32 := 0#32
  let v222 : BitVec 32 := Scalar.addi v5 c0_i32_169
  let v223 : BitVec 32 := Scalar.maxsi c0_i32_170 v222
  let v224 : BitVec 32 := Scalar.minsi c3_i32_171 v223
  let v225 : BitVec 32 := Scalar.muli c4_i32_172 v224
  let c0_i32_173 : BitVec 32 := 0#32
  let v226 : BitVec 32 := Scalar.addi v225 c0_i32_173
  let c256_i32_174 : BitVec 32 := 256#32
  let v227 : BitVec 32 := Scalar.muli v226 c256_i32_174
  let c0_i32_5494 : BitVec 32 := 0#32
  ![v227.toNat, 0]
def k0_dev13 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_175 : BitVec 32 := 4294967295#32
  let v228 : BitVec 32 := Scalar.addi v5 c_m1_i32_175
  let c4_i32_5492 : BitVec 32 := 4#32
  let v3946 : BitVec 32 := Scalar.muli v228 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_184 : BitVec 32 := 0#32
  let v232 : BitVec 1 := Scalar.cmpi .sge v8 c0_i32_184
  let c3_i32_185 : BitVec 32 := 3#32
  let v233 : BitVec 1 := Scalar.cmpi .slt v8 c3_i32_185
  let v234 : BitVec 1 := Scalar.andi v232 v233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_183 : BitVec 32 := 0#32
  let v231 : BitVec 1 := Scalar.cmpi .eq v5 c0_i32_183
  let v235 : BitVec 1 := Scalar.andi v234 v231
  let v242 : BitVec 32 := Scalar.extui v235
  let c0_i32_198 : BitVec 32 := 0#32
  let v243 : BitVec 1 := Scalar.cmpi .ne v242 c0_i32_198
  v243

def k0_off10 (d0 : Dev nD) : Fin 2 → Nat :=
  let c0_i32_189 : BitVec 32 := 0#32
  let c3_i32_188 : BitVec 32 := 3#32
  let c0_i32_187 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_186 : BitVec 32 := 0#32
  let v236 : BitVec 32 := Scalar.subi v8 c0_i32_186
  let v237 : BitVec 32 := Scalar.maxsi c0_i32_187 v236
  let v238 : BitVec 32 := Scalar.minsi c3_i32_188 v237
  let v239 : BitVec 32 := Scalar.addi c0_i32_189 v238
  let c256_i32_190 : BitVec 32 := 256#32
  let v240 : BitVec 32 := Scalar.muli v239 c256_i32_190
  let c2048_i32 : BitVec 32 := 2048#32
  ![v240.toNat, 2048]
def k0_dev14 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v241 : BitVec 32 := Scalar.addi v8 c1_i32_191
  let c1_i32_5493 : BitVec 32 := 1#32
  let v3948 : BitVec 32 := Scalar.muli v241 c1_i32_5493
  let v3949 : BitVec 32 := Scalar.addi v3947 v3948
  v3949.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_199 : BitVec 32 := 3#32
  let v244 : BitVec 1 := Scalar.cmpi .sle v8 c3_i32_199
  let c0_i32_200 : BitVec 32 := 0#32
  let v245 : BitVec 1 := Scalar.cmpi .sgt v8 c0_i32_200
  let v246 : BitVec 1 := Scalar.andi v244 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_183 : BitVec 32 := 0#32
  let v231 : BitVec 1 := Scalar.cmpi .eq v5 c0_i32_183
  let v247 : BitVec 1 := Scalar.andi v246 v231
  let v254 : BitVec 32 := Scalar.extui v247
  let c0_i32_213 : BitVec 32 := 0#32
  let v255 : BitVec 1 := Scalar.cmpi .ne v254 c0_i32_213
  v255

def k0_off11 (d0 : Dev nD) : Fin 2 → Nat :=
  let c0_i32_204 : BitVec 32 := 0#32
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_201 : BitVec 32 := 0#32
  let v248 : BitVec 32 := Scalar.addi v8 c0_i32_201
  let v249 : BitVec 32 := Scalar.maxsi c0_i32_202 v248
  let v250 : BitVec 32 := Scalar.minsi c3_i32_203 v249
  let v251 : BitVec 32 := Scalar.addi c0_i32_204 v250
  let c256_i32_205 : BitVec 32 := 256#32
  let v252 : BitVec 32 := Scalar.muli v251 c256_i32_205
  let c2048_i32 : BitVec 32 := 2048#32
  ![v252.toNat, 2048]
def k0_dev15 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_206 : BitVec 32 := 4294967295#32
  let v253 : BitVec 32 := Scalar.addi v8 c_m1_i32_206
  let c1_i32_5493 : BitVec 32 := 1#32
  let v3948 : BitVec 32 := Scalar.muli v253 c1_i32_5493
  let v3949 : BitVec 32 := Scalar.addi v3947 v3948
  v3949.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_215 : BitVec 32 := 0#32
  let v257 : BitVec 1 := Scalar.cmpi .sge v5 c0_i32_215
  let c3_i32_216 : BitVec 32 := 3#32
  let v258 : BitVec 1 := Scalar.cmpi .slt v5 c3_i32_216
  let v259 : BitVec 1 := Scalar.andi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v256 : BitVec 1 := Scalar.cmpi .eq v8 c1_i32_214
  let v260 : BitVec 1 := Scalar.andi v259 v256
  let v268 : BitVec 32 := Scalar.extui v260
  let c0_i32_230 : BitVec 32 := 0#32
  let v269 : BitVec 1 := Scalar.cmpi .ne v268 c0_i32_230
  v269

def k0_off12 (d0 : Dev nD) : Fin 2 → Nat :=
  let c4_i32_220 : BitVec 32 := 4#32
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_217 : BitVec 32 := 0#32
  let v261 : BitVec 32 := Scalar.subi v5 c0_i32_217
  let v262 : BitVec 32 := Scalar.maxsi c0_i32_218 v261
  let v263 : BitVec 32 := Scalar.minsi c3_i32_219 v262
  let v264 : BitVec 32 := Scalar.muli c4_i32_220 v263
  let c1_i32_221 : BitVec 32 := 1#32
  let v265 : BitVec 32 := Scalar.addi v264 c1_i32_221
  let c256_i32_222 : BitVec 32 := 256#32
  let v266 : BitVec 32 := Scalar.muli v265 c256_i32_222
  let c0_i32_5494 : BitVec 32 := 0#32
  ![v266.toNat, 0]
def k0_dev16 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_223 : BitVec 32 := 1#32
  let v267 : BitVec 32 := Scalar.addi v5 c1_i32_223
  let c4_i32_5492 : BitVec 32 := 4#32
  let v3946 : BitVec 32 := Scalar.muli v267 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v270 : BitVec 1 := Scalar.cmpi .sle v5 c3_i32_231
  let c0_i32_232 : BitVec 32 := 0#32
  let v271 : BitVec 1 := Scalar.cmpi .sgt v5 c0_i32_232
  let v272 : BitVec 1 := Scalar.andi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v256 : BitVec 1 := Scalar.cmpi .eq v8 c1_i32_214
  let v273 : BitVec 1 := Scalar.andi v272 v256
  let v281 : BitVec 32 := Scalar.extui v273
  let c0_i32_246 : BitVec 32 := 0#32
  let v282 : BitVec 1 := Scalar.cmpi .ne v281 c0_i32_246
  v282

def k0_off13 (d0 : Dev nD) : Fin 2 → Nat :=
  let c4_i32_236 : BitVec 32 := 4#32
  let c3_i32_235 : BitVec 32 := 3#32
  let c0_i32_234 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_233 : BitVec 32 := 0#32
  let v274 : BitVec 32 := Scalar.addi v5 c0_i32_233
  let v275 : BitVec 32 := Scalar.maxsi c0_i32_234 v274
  let v276 : BitVec 32 := Scalar.minsi c3_i32_235 v275
  let v277 : BitVec 32 := Scalar.muli c4_i32_236 v276
  let c1_i32_237 : BitVec 32 := 1#32
  let v278 : BitVec 32 := Scalar.addi v277 c1_i32_237
  let c256_i32_238 : BitVec 32 := 256#32
  let v279 : BitVec 32 := Scalar.muli v278 c256_i32_238
  let c0_i32_5494 : BitVec 32 := 0#32
  ![v279.toNat, 0]
def k0_dev17 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_239 : BitVec 32 := 4294967295#32
  let v280 : BitVec 32 := Scalar.addi v5 c_m1_i32_239
  let c4_i32_5492 : BitVec 32 := 4#32
  let v3946 : BitVec 32 := Scalar.muli v280 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_248 : BitVec 32 := 0#32
  let v284 : BitVec 1 := Scalar.cmpi .sge v8 c0_i32_248
  let c3_i32_249 : BitVec 32 := 3#32
  let v285 : BitVec 1 := Scalar.cmpi .slt v8 c3_i32_249
  let v286 : BitVec 1 := Scalar.andi v284 v285
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_247 : BitVec 32 := 1#32
  let v283 : BitVec 1 := Scalar.cmpi .eq v5 c1_i32_247
  let v287 : BitVec 1 := Scalar.andi v286 v283
  let v294 : BitVec 32 := Scalar.extui v287
  let c0_i32_262 : BitVec 32 := 0#32
  let v295 : BitVec 1 := Scalar.cmpi .ne v294 c0_i32_262
  v295

def k0_off14 (d0 : Dev nD) : Fin 2 → Nat :=
  let c4_i32_253 : BitVec 32 := 4#32
  let c3_i32_252 : BitVec 32 := 3#32
  let c0_i32_251 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_250 : BitVec 32 := 0#32
  let v288 : BitVec 32 := Scalar.subi v8 c0_i32_250
  let v289 : BitVec 32 := Scalar.maxsi c0_i32_251 v288
  let v290 : BitVec 32 := Scalar.minsi c3_i32_252 v289
  let v291 : BitVec 32 := Scalar.addi c4_i32_253 v290
  let c256_i32_254 : BitVec 32 := 256#32
  let v292 : BitVec 32 := Scalar.muli v291 c256_i32_254
  let c2048_i32 : BitVec 32 := 2048#32
  ![v292.toNat, 2048]
def k0_dev18 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v293 : BitVec 32 := Scalar.addi v8 c1_i32_255
  let c1_i32_5493 : BitVec 32 := 1#32
  let v3948 : BitVec 32 := Scalar.muli v293 c1_i32_5493
  let v3949 : BitVec 32 := Scalar.addi v3947 v3948
  v3949.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_263 : BitVec 32 := 3#32
  let v296 : BitVec 1 := Scalar.cmpi .sle v8 c3_i32_263
  let c0_i32_264 : BitVec 32 := 0#32
  let v297 : BitVec 1 := Scalar.cmpi .sgt v8 c0_i32_264
  let v298 : BitVec 1 := Scalar.andi v296 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_247 : BitVec 32 := 1#32
  let v283 : BitVec 1 := Scalar.cmpi .eq v5 c1_i32_247
  let v299 : BitVec 1 := Scalar.andi v298 v283
  let v306 : BitVec 32 := Scalar.extui v299
  let c0_i32_277 : BitVec 32 := 0#32
  let v307 : BitVec 1 := Scalar.cmpi .ne v306 c0_i32_277
  v307

def k0_off15 (d0 : Dev nD) : Fin 2 → Nat :=
  let c4_i32_268 : BitVec 32 := 4#32
  let c3_i32_267 : BitVec 32 := 3#32
  let c0_i32_266 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_265 : BitVec 32 := 0#32
  let v300 : BitVec 32 := Scalar.addi v8 c0_i32_265
  let v301 : BitVec 32 := Scalar.maxsi c0_i32_266 v300
  let v302 : BitVec 32 := Scalar.minsi c3_i32_267 v301
  let v303 : BitVec 32 := Scalar.addi c4_i32_268 v302
  let c256_i32_269 : BitVec 32 := 256#32
  let v304 : BitVec 32 := Scalar.muli v303 c256_i32_269
  let c2048_i32 : BitVec 32 := 2048#32
  ![v304.toNat, 2048]
def k0_dev19 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_270 : BitVec 32 := 4294967295#32
  let v305 : BitVec 32 := Scalar.addi v8 c_m1_i32_270
  let c1_i32_5493 : BitVec 32 := 1#32
  let v3948 : BitVec 32 := Scalar.muli v305 c1_i32_5493
  let v3949 : BitVec 32 := Scalar.addi v3947 v3948
  v3949.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v309 : BitVec 1 := Scalar.cmpi .sge v5 c0_i32_279
  let c3_i32_280 : BitVec 32 := 3#32
  let v310 : BitVec 1 := Scalar.cmpi .slt v5 c3_i32_280
  let v311 : BitVec 1 := Scalar.andi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_278 : BitVec 32 := 2#32
  let v308 : BitVec 1 := Scalar.cmpi .eq v8 c2_i32_278
  let v312 : BitVec 1 := Scalar.andi v311 v308
  let v320 : BitVec 32 := Scalar.extui v312
  let c0_i32_294 : BitVec 32 := 0#32
  let v321 : BitVec 1 := Scalar.cmpi .ne v320 c0_i32_294
  v321

def k0_off16 (d0 : Dev nD) : Fin 2 → Nat :=
  let c4_i32_284 : BitVec 32 := 4#32
  let c3_i32_283 : BitVec 32 := 3#32
  let c0_i32_282 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_281 : BitVec 32 := 0#32
  let v313 : BitVec 32 := Scalar.subi v5 c0_i32_281
  let v314 : BitVec 32 := Scalar.maxsi c0_i32_282 v313
  let v315 : BitVec 32 := Scalar.minsi c3_i32_283 v314
  let v316 : BitVec 32 := Scalar.muli c4_i32_284 v315
  let c2_i32_285 : BitVec 32 := 2#32
  let v317 : BitVec 32 := Scalar.addi v316 c2_i32_285
  let c256_i32_286 : BitVec 32 := 256#32
  let v318 : BitVec 32 := Scalar.muli v317 c256_i32_286
  let c0_i32_5494 : BitVec 32 := 0#32
  ![v318.toNat, 0]
def k0_dev20 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_287 : BitVec 32 := 1#32
  let v319 : BitVec 32 := Scalar.addi v5 c1_i32_287
  let c4_i32_5492 : BitVec 32 := 4#32
  let v3946 : BitVec 32 := Scalar.muli v319 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_295 : BitVec 32 := 3#32
  let v322 : BitVec 1 := Scalar.cmpi .sle v5 c3_i32_295
  let c0_i32_296 : BitVec 32 := 0#32
  let v323 : BitVec 1 := Scalar.cmpi .sgt v5 c0_i32_296
  let v324 : BitVec 1 := Scalar.andi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_278 : BitVec 32 := 2#32
  let v308 : BitVec 1 := Scalar.cmpi .eq v8 c2_i32_278
  let v325 : BitVec 1 := Scalar.andi v324 v308
  let v333 : BitVec 32 := Scalar.extui v325
  let c0_i32_310 : BitVec 32 := 0#32
  let v334 : BitVec 1 := Scalar.cmpi .ne v333 c0_i32_310
  v334

def k0_off17 (d0 : Dev nD) : Fin 2 → Nat :=
  let c4_i32_300 : BitVec 32 := 4#32
  let c3_i32_299 : BitVec 32 := 3#32
  let c0_i32_298 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_297 : BitVec 32 := 0#32
  let v326 : BitVec 32 := Scalar.addi v5 c0_i32_297
  let v327 : BitVec 32 := Scalar.maxsi c0_i32_298 v326
  let v328 : BitVec 32 := Scalar.minsi c3_i32_299 v327
  let v329 : BitVec 32 := Scalar.muli c4_i32_300 v328
  let c2_i32_301 : BitVec 32 := 2#32
  let v330 : BitVec 32 := Scalar.addi v329 c2_i32_301
  let c256_i32_302 : BitVec 32 := 256#32
  let v331 : BitVec 32 := Scalar.muli v330 c256_i32_302
  let c0_i32_5494 : BitVec 32 := 0#32
  ![v331.toNat, 0]
def k0_dev21 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_303 : BitVec 32 := 4294967295#32
  let v332 : BitVec 32 := Scalar.addi v5 c_m1_i32_303
  let c4_i32_5492 : BitVec 32 := 4#32
  let v3946 : BitVec 32 := Scalar.muli v332 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_312 : BitVec 32 := 0#32
  let v336 : BitVec 1 := Scalar.cmpi .sge v8 c0_i32_312
  let c3_i32_313 : BitVec 32 := 3#32
  let v337 : BitVec 1 := Scalar.cmpi .slt v8 c3_i32_313
  let v338 : BitVec 1 := Scalar.andi v336 v337
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_311 : BitVec 32 := 2#32
  let v335 : BitVec 1 := Scalar.cmpi .eq v5 c2_i32_311
  let v339 : BitVec 1 := Scalar.andi v338 v335
  let v346 : BitVec 32 := Scalar.extui v339
  let c0_i32_325 : BitVec 32 := 0#32
  let v347 : BitVec 1 := Scalar.cmpi .ne v346 c0_i32_325
  v347

def k0_off18 (d0 : Dev nD) : Fin 2 → Nat :=
  let c8_i32 : BitVec 32 := 8#32
  let c3_i32_316 : BitVec 32 := 3#32
  let c0_i32_315 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_314 : BitVec 32 := 0#32
  let v340 : BitVec 32 := Scalar.subi v8 c0_i32_314
  let v341 : BitVec 32 := Scalar.maxsi c0_i32_315 v340
  let v342 : BitVec 32 := Scalar.minsi c3_i32_316 v341
  let v343 : BitVec 32 := Scalar.addi c8_i32 v342
  let c256_i32_317 : BitVec 32 := 256#32
  let v344 : BitVec 32 := Scalar.muli v343 c256_i32_317
  let c2048_i32 : BitVec 32 := 2048#32
  ![v344.toNat, 2048]
def k0_dev22 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v345 : BitVec 32 := Scalar.addi v8 c1_i32_318
  let c1_i32_5493 : BitVec 32 := 1#32
  let v3948 : BitVec 32 := Scalar.muli v345 c1_i32_5493
  let v3949 : BitVec 32 := Scalar.addi v3947 v3948
  v3949.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_326 : BitVec 32 := 3#32
  let v348 : BitVec 1 := Scalar.cmpi .sle v8 c3_i32_326
  let c0_i32_327 : BitVec 32 := 0#32
  let v349 : BitVec 1 := Scalar.cmpi .sgt v8 c0_i32_327
  let v350 : BitVec 1 := Scalar.andi v348 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_311 : BitVec 32 := 2#32
  let v335 : BitVec 1 := Scalar.cmpi .eq v5 c2_i32_311
  let v351 : BitVec 1 := Scalar.andi v350 v335
  let v358 : BitVec 32 := Scalar.extui v351
  let c0_i32_340 : BitVec 32 := 0#32
  let v359 : BitVec 1 := Scalar.cmpi .ne v358 c0_i32_340
  v359

def k0_off19 (d0 : Dev nD) : Fin 2 → Nat :=
  let c8_i32_331 : BitVec 32 := 8#32
  let c3_i32_330 : BitVec 32 := 3#32
  let c0_i32_329 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_328 : BitVec 32 := 0#32
  let v352 : BitVec 32 := Scalar.addi v8 c0_i32_328
  let v353 : BitVec 32 := Scalar.maxsi c0_i32_329 v352
  let v354 : BitVec 32 := Scalar.minsi c3_i32_330 v353
  let v355 : BitVec 32 := Scalar.addi c8_i32_331 v354
  let c256_i32_332 : BitVec 32 := 256#32
  let v356 : BitVec 32 := Scalar.muli v355 c256_i32_332
  let c2048_i32 : BitVec 32 := 2048#32
  ![v356.toNat, 2048]
def k0_dev23 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_333 : BitVec 32 := 4294967295#32
  let v357 : BitVec 32 := Scalar.addi v8 c_m1_i32_333
  let c1_i32_5493 : BitVec 32 := 1#32
  let v3948 : BitVec 32 := Scalar.muli v357 c1_i32_5493
  let v3949 : BitVec 32 := Scalar.addi v3947 v3948
  v3949.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_342 : BitVec 32 := 0#32
  let v361 : BitVec 1 := Scalar.cmpi .sge v5 c0_i32_342
  let c3_i32_343 : BitVec 32 := 3#32
  let v362 : BitVec 1 := Scalar.cmpi .slt v5 c3_i32_343
  let v363 : BitVec 1 := Scalar.andi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_341 : BitVec 32 := 3#32
  let v360 : BitVec 1 := Scalar.cmpi .eq v8 c3_i32_341
  let v364 : BitVec 1 := Scalar.andi v363 v360
  let v372 : BitVec 32 := Scalar.extui v364
  let c0_i32_357 : BitVec 32 := 0#32
  let v373 : BitVec 1 := Scalar.cmpi .ne v372 c0_i32_357
  v373

def k0_off20 (d0 : Dev nD) : Fin 2 → Nat :=
  let c4_i32_347 : BitVec 32 := 4#32
  let c3_i32_346 : BitVec 32 := 3#32
  let c0_i32_345 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_344 : BitVec 32 := 0#32
  let v365 : BitVec 32 := Scalar.subi v5 c0_i32_344
  let v366 : BitVec 32 := Scalar.maxsi c0_i32_345 v365
  let v367 : BitVec 32 := Scalar.minsi c3_i32_346 v366
  let v368 : BitVec 32 := Scalar.muli c4_i32_347 v367
  let c3_i32_348 : BitVec 32 := 3#32
  let v369 : BitVec 32 := Scalar.addi v368 c3_i32_348
  let c256_i32_349 : BitVec 32 := 256#32
  let v370 : BitVec 32 := Scalar.muli v369 c256_i32_349
  let c0_i32_5494 : BitVec 32 := 0#32
  ![v370.toNat, 0]
def k0_dev24 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_350 : BitVec 32 := 1#32
  let v371 : BitVec 32 := Scalar.addi v5 c1_i32_350
  let c4_i32_5492 : BitVec 32 := 4#32
  let v3946 : BitVec 32 := Scalar.muli v371 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_358 : BitVec 32 := 3#32
  let v374 : BitVec 1 := Scalar.cmpi .sle v5 c3_i32_358
  let c0_i32_359 : BitVec 32 := 0#32
  let v375 : BitVec 1 := Scalar.cmpi .sgt v5 c0_i32_359
  let v376 : BitVec 1 := Scalar.andi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_341 : BitVec 32 := 3#32
  let v360 : BitVec 1 := Scalar.cmpi .eq v8 c3_i32_341
  let v377 : BitVec 1 := Scalar.andi v376 v360
  let v385 : BitVec 32 := Scalar.extui v377
  let c0_i32_373 : BitVec 32 := 0#32
  let v386 : BitVec 1 := Scalar.cmpi .ne v385 c0_i32_373
  v386

def k0_off21 (d0 : Dev nD) : Fin 2 → Nat :=
  let c4_i32_363 : BitVec 32 := 4#32
  let c3_i32_362 : BitVec 32 := 3#32
  let c0_i32_361 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_360 : BitVec 32 := 0#32
  let v378 : BitVec 32 := Scalar.addi v5 c0_i32_360
  let v379 : BitVec 32 := Scalar.maxsi c0_i32_361 v378
  let v380 : BitVec 32 := Scalar.minsi c3_i32_362 v379
  let v381 : BitVec 32 := Scalar.muli c4_i32_363 v380
  let c3_i32_364 : BitVec 32 := 3#32
  let v382 : BitVec 32 := Scalar.addi v381 c3_i32_364
  let c256_i32_365 : BitVec 32 := 256#32
  let v383 : BitVec 32 := Scalar.muli v382 c256_i32_365
  let c0_i32_5494 : BitVec 32 := 0#32
  ![v383.toNat, 0]
def k0_dev25 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_366 : BitVec 32 := 4294967295#32
  let v384 : BitVec 32 := Scalar.addi v5 c_m1_i32_366
  let c4_i32_5492 : BitVec 32 := 4#32
  let v3946 : BitVec 32 := Scalar.muli v384 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_375 : BitVec 32 := 0#32
  let v388 : BitVec 1 := Scalar.cmpi .sge v8 c0_i32_375
  let c3_i32_376 : BitVec 32 := 3#32
  let v389 : BitVec 1 := Scalar.cmpi .slt v8 c3_i32_376
  let v390 : BitVec 1 := Scalar.andi v388 v389
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_374 : BitVec 32 := 3#32
  let v387 : BitVec 1 := Scalar.cmpi .eq v5 c3_i32_374
  let v391 : BitVec 1 := Scalar.andi v390 v387
  let v398 : BitVec 32 := Scalar.extui v391
  let c0_i32_388 : BitVec 32 := 0#32
  let v399 : BitVec 1 := Scalar.cmpi .ne v398 c0_i32_388
  v399

def k0_off22 (d0 : Dev nD) : Fin 2 → Nat :=
  let c12_i32 : BitVec 32 := 12#32
  let c3_i32_379 : BitVec 32 := 3#32
  let c0_i32_378 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_377 : BitVec 32 := 0#32
  let v392 : BitVec 32 := Scalar.subi v8 c0_i32_377
  let v393 : BitVec 32 := Scalar.maxsi c0_i32_378 v392
  let v394 : BitVec 32 := Scalar.minsi c3_i32_379 v393
  let v395 : BitVec 32 := Scalar.addi c12_i32 v394
  let c256_i32_380 : BitVec 32 := 256#32
  let v396 : BitVec 32 := Scalar.muli v395 c256_i32_380
  let c2048_i32 : BitVec 32 := 2048#32
  ![v396.toNat, 2048]
def k0_dev26 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v397 : BitVec 32 := Scalar.addi v8 c1_i32_381
  let c1_i32_5493 : BitVec 32 := 1#32
  let v3948 : BitVec 32 := Scalar.muli v397 c1_i32_5493
  let v3949 : BitVec 32 := Scalar.addi v3947 v3948
  v3949.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_389 : BitVec 32 := 3#32
  let v400 : BitVec 1 := Scalar.cmpi .sle v8 c3_i32_389
  let c0_i32_390 : BitVec 32 := 0#32
  let v401 : BitVec 1 := Scalar.cmpi .sgt v8 c0_i32_390
  let v402 : BitVec 1 := Scalar.andi v400 v401
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_374 : BitVec 32 := 3#32
  let v387 : BitVec 1 := Scalar.cmpi .eq v5 c3_i32_374
  let v403 : BitVec 1 := Scalar.andi v402 v387
  let v410 : BitVec 32 := Scalar.extui v403
  let c0_i32_403 : BitVec 32 := 0#32
  let v411 : BitVec 1 := Scalar.cmpi .ne v410 c0_i32_403
  v411

def k0_off23 (d0 : Dev nD) : Fin 2 → Nat :=
  let c12_i32_394 : BitVec 32 := 12#32
  let c3_i32_393 : BitVec 32 := 3#32
  let c0_i32_392 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_391 : BitVec 32 := 0#32
  let v404 : BitVec 32 := Scalar.addi v8 c0_i32_391
  let v405 : BitVec 32 := Scalar.maxsi c0_i32_392 v404
  let v406 : BitVec 32 := Scalar.minsi c3_i32_393 v405
  let v407 : BitVec 32 := Scalar.addi c12_i32_394 v406
  let c256_i32_395 : BitVec 32 := 256#32
  let v408 : BitVec 32 := Scalar.muli v407 c256_i32_395
  let c2048_i32 : BitVec 32 := 2048#32
  ![v408.toNat, 2048]
def k0_dev27 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_396 : BitVec 32 := 4294967295#32
  let v409 : BitVec 32 := Scalar.addi v8 c_m1_i32_396
  let c1_i32_5493 : BitVec 32 := 1#32
  let v3948 : BitVec 32 := Scalar.muli v409 c1_i32_5493
  let v3949 : BitVec 32 := Scalar.addi v3947 v3948
  v3949.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v412 : BitVec 1 := Scalar.cmpi .sge v8 c1_i32_404
  let v421 : BitVec 32 := Scalar.extui v412
  let c0_i32_416 : BitVec 32 := 0#32
  let v422 : BitVec 1 := Scalar.cmpi .ne v421 c0_i32_416
  v422

def k0_off24 (d0 : Dev nD) : Fin 2 → Nat :=
  let c4_i32_409 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v417 : BitVec 32 := Scalar.muli c4_i32_409 v5
  let c3_i32_408 : BitVec 32 := 3#32
  let c0_i32_407 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_405 : BitVec 32 := 1#32
  let v413 : BitVec 32 := Scalar.subi v8 c1_i32_405
  let c0_i32_406 : BitVec 32 := 0#32
  let v414 : BitVec 32 := Scalar.subi v413 c0_i32_406
  let v415 : BitVec 32 := Scalar.maxsi c0_i32_407 v414
  let v416 : BitVec 32 := Scalar.minsi c3_i32_408 v415
  let v418 : BitVec 32 := Scalar.addi v417 v416
  let c256_i32_410 : BitVec 32 := 256#32
  let v419 : BitVec 32 := Scalar.muli v418 c256_i32_410
  let c0_i32_5494 : BitVec 32 := 0#32
  ![v419.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v423 : BitVec 1 := Scalar.cmpi .sle v8 c2_i32_417
  let v432 : BitVec 32 := Scalar.extui v423
  let c0_i32_429 : BitVec 32 := 0#32
  let v433 : BitVec 1 := Scalar.cmpi .ne v432 c0_i32_429
  v433

def k0_off25 (d0 : Dev nD) : Fin 2 → Nat :=
  let c4_i32_422 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v428 : BitVec 32 := Scalar.muli c4_i32_422 v5
  let c3_i32_421 : BitVec 32 := 3#32
  let c0_i32_420 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v424 : BitVec 32 := Scalar.addi v8 c1_i32_418
  let c0_i32_419 : BitVec 32 := 0#32
  let v425 : BitVec 32 := Scalar.addi v424 c0_i32_419
  let v426 : BitVec 32 := Scalar.maxsi c0_i32_420 v425
  let v427 : BitVec 32 := Scalar.minsi c3_i32_421 v426
  let v429 : BitVec 32 := Scalar.addi v428 v427
  let c256_i32_423 : BitVec 32 := 256#32
  let v430 : BitVec 32 := Scalar.muli v429 c256_i32_423
  let c0_i32_5494 : BitVec 32 := 0#32
  ![v430.toNat, 0]
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_430 : BitVec 32 := 1#32
  let v434 : BitVec 1 := Scalar.cmpi .sge v5 c1_i32_430
  let v443 : BitVec 32 := Scalar.extui v434
  let c0_i32_442 : BitVec 32 := 0#32
  let v444 : BitVec 1 := Scalar.cmpi .ne v443 c0_i32_442
  v444

def k0_off26 (d0 : Dev nD) : Fin 2 → Nat :=
  let c4_i32_435 : BitVec 32 := 4#32
  let c3_i32_434 : BitVec 32 := 3#32
  let c0_i32_433 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_431 : BitVec 32 := 1#32
  let v435 : BitVec 32 := Scalar.subi v5 c1_i32_431
  let c0_i32_432 : BitVec 32 := 0#32
  let v436 : BitVec 32 := Scalar.subi v435 c0_i32_432
  let v437 : BitVec 32 := Scalar.maxsi c0_i32_433 v436
  let v438 : BitVec 32 := Scalar.minsi c3_i32_434 v437
  let v439 : BitVec 32 := Scalar.muli c4_i32_435 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v440 : BitVec 32 := Scalar.addi v439 v8
  let c256_i32_436 : BitVec 32 := 256#32
  let v441 : BitVec 32 := Scalar.muli v440 c256_i32_436
  let c2048_i32 : BitVec 32 := 2048#32
  ![v441.toNat, 2048]
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_443 : BitVec 32 := 2#32
  let v445 : BitVec 1 := Scalar.cmpi .sle v5 c2_i32_443
  let v454 : BitVec 32 := Scalar.extui v445
  let c0_i32_455 : BitVec 32 := 0#32
  let v455 : BitVec 1 := Scalar.cmpi .ne v454 c0_i32_455
  v455

def k0_off27 (d0 : Dev nD) : Fin 2 → Nat :=
  let c4_i32_448 : BitVec 32 := 4#32
  let c3_i32_447 : BitVec 32 := 3#32
  let c0_i32_446 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_444 : BitVec 32 := 1#32
  let v446 : BitVec 32 := Scalar.addi v5 c1_i32_444
  let c0_i32_445 : BitVec 32 := 0#32
  let v447 : BitVec 32 := Scalar.addi v446 c0_i32_445
  let v448 : BitVec 32 := Scalar.maxsi c0_i32_446 v447
  let v449 : BitVec 32 := Scalar.minsi c3_i32_447 v448
  let v450 : BitVec 32 := Scalar.muli c4_i32_448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v451 : BitVec 32 := Scalar.addi v450 v8
  let c256_i32_449 : BitVec 32 := 256#32
  let v452 : BitVec 32 := Scalar.muli v451 c256_i32_449
  let c2048_i32 : BitVec 32 := 2048#32
  ![v452.toNat, 2048]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_456 : BitVec 32 := 1#32
  let v456 : BitVec 1 := Scalar.cmpi .sge v8 c1_i32_456
  let c3_i32_457 : BitVec 32 := 3#32
  let v457 : BitVec 1 := Scalar.cmpi .slt v8 c3_i32_457
  let v458 : BitVec 1 := Scalar.andi v456 v457
  let v466 : BitVec 32 := Scalar.extui v458
  let c0_i32_468 : BitVec 32 := 0#32
  let v467 : BitVec 1 := Scalar.cmpi .ne v466 c0_i32_468
  v467

def k0_off28 (d0 : Dev nD) : Fin 2 → Nat :=
  let c4_i32_461 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v462 : BitVec 32 := Scalar.muli c4_i32_461 v5
  let c3_i32_460 : BitVec 32 := 3#32
  let c0_i32_459 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v459 : BitVec 32 := Scalar.subi v8 c1_i32_458
  let v460 : BitVec 32 := Scalar.maxsi c0_i32_459 v459
  let v461 : BitVec 32 := Scalar.minsi c3_i32_460 v460
  let v463 : BitVec 32 := Scalar.addi v462 v461
  let c256_i32_462 : BitVec 32 := 256#32
  let v464 : BitVec 32 := Scalar.muli v463 c256_i32_462
  let c0_i32_5494 : BitVec 32 := 0#32
  ![v464.toNat, 0]
def k0_dev28 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v465 : BitVec 32 := Scalar.addi v8 c1_i32_463
  let c1_i32_5493 : BitVec 32 := 1#32
  let v3948 : BitVec 32 := Scalar.muli v465 c1_i32_5493
  let v3949 : BitVec 32 := Scalar.addi v3947 v3948
  v3949.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_469 : BitVec 32 := 2#32
  let v468 : BitVec 1 := Scalar.cmpi .sle v8 c2_i32_469
  let c0_i32_470 : BitVec 32 := 0#32
  let v469 : BitVec 1 := Scalar.cmpi .sgt v8 c0_i32_470
  let v470 : BitVec 1 := Scalar.andi v468 v469
  let v478 : BitVec 32 := Scalar.extui v470
  let c0_i32_481 : BitVec 32 := 0#32
  let v479 : BitVec 1 := Scalar.cmpi .ne v478 c0_i32_481
  v479

def k0_off29 (d0 : Dev nD) : Fin 2 → Nat :=
  let c4_i32_474 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v474 : BitVec 32 := Scalar.muli c4_i32_474 v5
  let c3_i32_473 : BitVec 32 := 3#32
  let c0_i32_472 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v471 : BitVec 32 := Scalar.addi v8 c1_i32_471
  let v472 : BitVec 32 := Scalar.maxsi c0_i32_472 v471
  let v473 : BitVec 32 := Scalar.minsi c3_i32_473 v472
  let v475 : BitVec 32 := Scalar.addi v474 v473
  let c256_i32_475 : BitVec 32 := 256#32
  let v476 : BitVec 32 := Scalar.muli v475 c256_i32_475
  let c0_i32_5494 : BitVec 32 := 0#32
  ![v476.toNat, 0]
def k0_dev29 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_476 : BitVec 32 := 4294967295#32
  let v477 : BitVec 32 := Scalar.addi v8 c_m1_i32_476
  let c1_i32_5493 : BitVec 32 := 1#32
  let v3948 : BitVec 32 := Scalar.muli v477 c1_i32_5493
  let v3949 : BitVec 32 := Scalar.addi v3947 v3948
  v3949.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_482 : BitVec 32 := 1#32
  let v480 : BitVec 1 := Scalar.cmpi .sge v5 c1_i32_482
  let c3_i32_483 : BitVec 32 := 3#32
  let v481 : BitVec 1 := Scalar.cmpi .slt v5 c3_i32_483
  let v482 : BitVec 1 := Scalar.andi v480 v481
  let v490 : BitVec 32 := Scalar.extui v482
  let c0_i32_494 : BitVec 32 := 0#32
  let v491 : BitVec 1 := Scalar.cmpi .ne v490 c0_i32_494
  v491

def k0_off30 (d0 : Dev nD) : Fin 2 → Nat :=
  let c4_i32_487 : BitVec 32 := 4#32
  let c3_i32_486 : BitVec 32 := 3#32
  let c0_i32_485 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_484 : BitVec 32 := 1#32
  let v483 : BitVec 32 := Scalar.subi v5 c1_i32_484
  let v484 : BitVec 32 := Scalar.maxsi c0_i32_485 v483
  let v485 : BitVec 32 := Scalar.minsi c3_i32_486 v484
  let v486 : BitVec 32 := Scalar.muli c4_i32_487 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v487 : BitVec 32 := Scalar.addi v486 v8
  let c256_i32_488 : BitVec 32 := 256#32
  let v488 : BitVec 32 := Scalar.muli v487 c256_i32_488
  let c2048_i32 : BitVec 32 := 2048#32
  ![v488.toNat, 2048]
def k0_dev30 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_489 : BitVec 32 := 1#32
  let v489 : BitVec 32 := Scalar.addi v5 c1_i32_489
  let c4_i32_5492 : BitVec 32 := 4#32
  let v3946 : BitVec 32 := Scalar.muli v489 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_495 : BitVec 32 := 2#32
  let v492 : BitVec 1 := Scalar.cmpi .sle v5 c2_i32_495
  let c0_i32_496 : BitVec 32 := 0#32
  let v493 : BitVec 1 := Scalar.cmpi .sgt v5 c0_i32_496
  let v494 : BitVec 1 := Scalar.andi v492 v493
  let v502 : BitVec 32 := Scalar.extui v494
  let c0_i32_507 : BitVec 32 := 0#32
  let v503 : BitVec 1 := Scalar.cmpi .ne v502 c0_i32_507
  v503

def k0_off31 (d0 : Dev nD) : Fin 2 → Nat :=
  let c4_i32_500 : BitVec 32 := 4#32
  let c3_i32_499 : BitVec 32 := 3#32
  let c0_i32_498 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_497 : BitVec 32 := 1#32
  let v495 : BitVec 32 := Scalar.addi v5 c1_i32_497
  let v496 : BitVec 32 := Scalar.maxsi c0_i32_498 v495
  let v497 : BitVec 32 := Scalar.minsi c3_i32_499 v496
  let v498 : BitVec 32 := Scalar.muli c4_i32_500 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v499 : BitVec 32 := Scalar.addi v498 v8
  let c256_i32_501 : BitVec 32 := 256#32
  let v500 : BitVec 32 := Scalar.muli v499 c256_i32_501
  let c2048_i32 : BitVec 32 := 2048#32
  ![v500.toNat, 2048]
def k0_dev31 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_502 : BitVec 32 := 4294967295#32
  let v501 : BitVec 32 := Scalar.addi v5 c_m1_i32_502
  let c4_i32_5492 : BitVec 32 := 4#32
  let v3946 : BitVec 32 := Scalar.muli v501 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_514 : BitVec 32 := 0#32
  let v511 : BitVec 1 := Scalar.cmpi .sge v5 c0_i32_514
  let c3_i32_515 : BitVec 32 := 3#32
  let v512 : BitVec 1 := Scalar.cmpi .slt v5 c3_i32_515
  let v513 : BitVec 1 := Scalar.andi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v504 : BitVec 32 := Scalar.subi v8 c1_i32_508
  let c0_i32_509 : BitVec 32 := 0#32
  let v505 : BitVec 32 := Scalar.subi v504 c0_i32_509
  let c0_i32_510 : BitVec 32 := 0#32
  let v506 : BitVec 1 := Scalar.cmpi .eq v505 c0_i32_510
  let c1_i32_511 : BitVec 32 := 1#32
  let v507 : BitVec 32 := Scalar.addi v8 c1_i32_511
  let c0_i32_512 : BitVec 32 := 0#32
  let v508 : BitVec 32 := Scalar.addi v507 c0_i32_512
  let c0_i32_513 : BitVec 32 := 0#32
  let v509 : BitVec 1 := Scalar.cmpi .eq v508 c0_i32_513
  let v510 : BitVec 1 := Scalar.ori v506 v509
  let v514 : BitVec 1 := Scalar.andi v513 v510
  let v522 : BitVec 32 := Scalar.extui v514
  let c0_i32_529 : BitVec 32 := 0#32
  let v523 : BitVec 1 := Scalar.cmpi .ne v522 c0_i32_529
  v523

def k0_off32 (d0 : Dev nD) : Fin 2 → Nat :=
  let c4_i32_519 : BitVec 32 := 4#32
  let c3_i32_518 : BitVec 32 := 3#32
  let c0_i32_517 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_516 : BitVec 32 := 0#32
  let v515 : BitVec 32 := Scalar.subi v5 c0_i32_516
  let v516 : BitVec 32 := Scalar.maxsi c0_i32_517 v515
  let v517 : BitVec 32 := Scalar.minsi c3_i32_518 v516
  let v518 : BitVec 32 := Scalar.muli c4_i32_519 v517
  let c0_i32_520 : BitVec 32 := 0#32
  let v519 : BitVec 32 := Scalar.addi v518 c0_i32_520
  let c256_i32_521 : BitVec 32 := 256#32
  let v520 : BitVec 32 := Scalar.muli v519 c256_i32_521
  let c0_i32_5494 : BitVec 32 := 0#32
  ![v520.toNat, 0]
def k0_dev32 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_522 : BitVec 32 := 1#32
  let v521 : BitVec 32 := Scalar.addi v5 c1_i32_522
  let c4_i32_5492 : BitVec 32 := 4#32
  let v3946 : BitVec 32 := Scalar.muli v521 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_530 : BitVec 32 := 3#32
  let v524 : BitVec 1 := Scalar.cmpi .sle v5 c3_i32_530
  let c0_i32_531 : BitVec 32 := 0#32
  let v525 : BitVec 1 := Scalar.cmpi .sgt v5 c0_i32_531
  let v526 : BitVec 1 := Scalar.andi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v504 : BitVec 32 := Scalar.subi v8 c1_i32_508
  let c0_i32_509 : BitVec 32 := 0#32
  let v505 : BitVec 32 := Scalar.subi v504 c0_i32_509
  let c0_i32_510 : BitVec 32 := 0#32
  let v506 : BitVec 1 := Scalar.cmpi .eq v505 c0_i32_510
  let c1_i32_511 : BitVec 32 := 1#32
  let v507 : BitVec 32 := Scalar.addi v8 c1_i32_511
  let c0_i32_512 : BitVec 32 := 0#32
  let v508 : BitVec 32 := Scalar.addi v507 c0_i32_512
  let c0_i32_513 : BitVec 32 := 0#32
  let v509 : BitVec 1 := Scalar.cmpi .eq v508 c0_i32_513
  let v510 : BitVec 1 := Scalar.ori v506 v509
  let v527 : BitVec 1 := Scalar.andi v526 v510
  let v535 : BitVec 32 := Scalar.extui v527
  let c0_i32_545 : BitVec 32 := 0#32
  let v536 : BitVec 1 := Scalar.cmpi .ne v535 c0_i32_545
  v536

def k0_off33 (d0 : Dev nD) : Fin 2 → Nat :=
  let c4_i32_535 : BitVec 32 := 4#32
  let c3_i32_534 : BitVec 32 := 3#32
  let c0_i32_533 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_532 : BitVec 32 := 0#32
  let v528 : BitVec 32 := Scalar.addi v5 c0_i32_532
  let v529 : BitVec 32 := Scalar.maxsi c0_i32_533 v528
  let v530 : BitVec 32 := Scalar.minsi c3_i32_534 v529
  let v531 : BitVec 32 := Scalar.muli c4_i32_535 v530
  let c0_i32_536 : BitVec 32 := 0#32
  let v532 : BitVec 32 := Scalar.addi v531 c0_i32_536
  let c256_i32_537 : BitVec 32 := 256#32
  let v533 : BitVec 32 := Scalar.muli v532 c256_i32_537
  let c0_i32_5494 : BitVec 32 := 0#32
  ![v533.toNat, 0]
def k0_dev33 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_538 : BitVec 32 := 4294967295#32
  let v534 : BitVec 32 := Scalar.addi v5 c_m1_i32_538
  let c4_i32_5492 : BitVec 32 := 4#32
  let v3946 : BitVec 32 := Scalar.muli v534 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_552 : BitVec 32 := 0#32
  let v544 : BitVec 1 := Scalar.cmpi .sge v5 c0_i32_552
  let c3_i32_553 : BitVec 32 := 3#32
  let v545 : BitVec 1 := Scalar.cmpi .slt v5 c3_i32_553
  let v546 : BitVec 1 := Scalar.andi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v537 : BitVec 32 := Scalar.subi v8 c1_i32_546
  let c0_i32_547 : BitVec 32 := 0#32
  let v538 : BitVec 32 := Scalar.subi v537 c0_i32_547
  let c1_i32_548 : BitVec 32 := 1#32
  let v539 : BitVec 1 := Scalar.cmpi .eq v538 c1_i32_548
  let c1_i32_549 : BitVec 32 := 1#32
  let v540 : BitVec 32 := Scalar.addi v8 c1_i32_549
  let c0_i32_550 : BitVec 32 := 0#32
  let v541 : BitVec 32 := Scalar.addi v540 c0_i32_550
  let c1_i32_551 : BitVec 32 := 1#32
  let v542 : BitVec 1 := Scalar.cmpi .eq v541 c1_i32_551
  let v543 : BitVec 1 := Scalar.ori v539 v542
  let v547 : BitVec 1 := Scalar.andi v546 v543
  let v555 : BitVec 32 := Scalar.extui v547
  let c0_i32_567 : BitVec 32 := 0#32
  let v556 : BitVec 1 := Scalar.cmpi .ne v555 c0_i32_567
  v556

def k0_off34 (d0 : Dev nD) : Fin 2 → Nat :=
  let c4_i32_557 : BitVec 32 := 4#32
  let c3_i32_556 : BitVec 32 := 3#32
  let c0_i32_555 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_554 : BitVec 32 := 0#32
  let v548 : BitVec 32 := Scalar.subi v5 c0_i32_554
  let v549 : BitVec 32 := Scalar.maxsi c0_i32_555 v548
  let v550 : BitVec 32 := Scalar.minsi c3_i32_556 v549
  let v551 : BitVec 32 := Scalar.muli c4_i32_557 v550
  let c1_i32_558 : BitVec 32 := 1#32
  let v552 : BitVec 32 := Scalar.addi v551 c1_i32_558
  let c256_i32_559 : BitVec 32 := 256#32
  let v553 : BitVec 32 := Scalar.muli v552 c256_i32_559
  let c0_i32_5494 : BitVec 32 := 0#32
  ![v553.toNat, 0]
def k0_dev34 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_560 : BitVec 32 := 1#32
  let v554 : BitVec 32 := Scalar.addi v5 c1_i32_560
  let c4_i32_5492 : BitVec 32 := 4#32
  let v3946 : BitVec 32 := Scalar.muli v554 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_568 : BitVec 32 := 3#32
  let v557 : BitVec 1 := Scalar.cmpi .sle v5 c3_i32_568
  let c0_i32_569 : BitVec 32 := 0#32
  let v558 : BitVec 1 := Scalar.cmpi .sgt v5 c0_i32_569
  let v559 : BitVec 1 := Scalar.andi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v537 : BitVec 32 := Scalar.subi v8 c1_i32_546
  let c0_i32_547 : BitVec 32 := 0#32
  let v538 : BitVec 32 := Scalar.subi v537 c0_i32_547
  let c1_i32_548 : BitVec 32 := 1#32
  let v539 : BitVec 1 := Scalar.cmpi .eq v538 c1_i32_548
  let c1_i32_549 : BitVec 32 := 1#32
  let v540 : BitVec 32 := Scalar.addi v8 c1_i32_549
  let c0_i32_550 : BitVec 32 := 0#32
  let v541 : BitVec 32 := Scalar.addi v540 c0_i32_550
  let c1_i32_551 : BitVec 32 := 1#32
  let v542 : BitVec 1 := Scalar.cmpi .eq v541 c1_i32_551
  let v543 : BitVec 1 := Scalar.ori v539 v542
  let v560 : BitVec 1 := Scalar.andi v559 v543
  let v568 : BitVec 32 := Scalar.extui v560
  let c0_i32_583 : BitVec 32 := 0#32
  let v569 : BitVec 1 := Scalar.cmpi .ne v568 c0_i32_583
  v569

def k0_off35 (d0 : Dev nD) : Fin 2 → Nat :=
  let c4_i32_573 : BitVec 32 := 4#32
  let c3_i32_572 : BitVec 32 := 3#32
  let c0_i32_571 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_570 : BitVec 32 := 0#32
  let v561 : BitVec 32 := Scalar.addi v5 c0_i32_570
  let v562 : BitVec 32 := Scalar.maxsi c0_i32_571 v561
  let v563 : BitVec 32 := Scalar.minsi c3_i32_572 v562
  let v564 : BitVec 32 := Scalar.muli c4_i32_573 v563
  let c1_i32_574 : BitVec 32 := 1#32
  let v565 : BitVec 32 := Scalar.addi v564 c1_i32_574
  let c256_i32_575 : BitVec 32 := 256#32
  let v566 : BitVec 32 := Scalar.muli v565 c256_i32_575
  let c0_i32_5494 : BitVec 32 := 0#32
  ![v566.toNat, 0]
def k0_dev35 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_576 : BitVec 32 := 4294967295#32
  let v567 : BitVec 32 := Scalar.addi v5 c_m1_i32_576
  let c4_i32_5492 : BitVec 32 := 4#32
  let v3946 : BitVec 32 := Scalar.muli v567 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_590 : BitVec 32 := 0#32
  let v577 : BitVec 1 := Scalar.cmpi .sge v5 c0_i32_590
  let c3_i32_591 : BitVec 32 := 3#32
  let v578 : BitVec 1 := Scalar.cmpi .slt v5 c3_i32_591
  let v579 : BitVec 1 := Scalar.andi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v570 : BitVec 32 := Scalar.subi v8 c1_i32_584
  let c0_i32_585 : BitVec 32 := 0#32
  let v571 : BitVec 32 := Scalar.subi v570 c0_i32_585
  let c2_i32_586 : BitVec 32 := 2#32
  let v572 : BitVec 1 := Scalar.cmpi .eq v571 c2_i32_586
  let c1_i32_587 : BitVec 32 := 1#32
  let v573 : BitVec 32 := Scalar.addi v8 c1_i32_587
  let c0_i32_588 : BitVec 32 := 0#32
  let v574 : BitVec 32 := Scalar.addi v573 c0_i32_588
  let c2_i32_589 : BitVec 32 := 2#32
  let v575 : BitVec 1 := Scalar.cmpi .eq v574 c2_i32_589
  let v576 : BitVec 1 := Scalar.ori v572 v575
  let v580 : BitVec 1 := Scalar.andi v579 v576
  let v588 : BitVec 32 := Scalar.extui v580
  let c0_i32_605 : BitVec 32 := 0#32
  let v589 : BitVec 1 := Scalar.cmpi .ne v588 c0_i32_605
  v589

def k0_off36 (d0 : Dev nD) : Fin 2 → Nat :=
  let c4_i32_595 : BitVec 32 := 4#32
  let c3_i32_594 : BitVec 32 := 3#32
  let c0_i32_593 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_592 : BitVec 32 := 0#32
  let v581 : BitVec 32 := Scalar.subi v5 c0_i32_592
  let v582 : BitVec 32 := Scalar.maxsi c0_i32_593 v581
  let v583 : BitVec 32 := Scalar.minsi c3_i32_594 v582
  let v584 : BitVec 32 := Scalar.muli c4_i32_595 v583
  let c2_i32_596 : BitVec 32 := 2#32
  let v585 : BitVec 32 := Scalar.addi v584 c2_i32_596
  let c256_i32_597 : BitVec 32 := 256#32
  let v586 : BitVec 32 := Scalar.muli v585 c256_i32_597
  let c0_i32_5494 : BitVec 32 := 0#32
  ![v586.toNat, 0]
def k0_dev36 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_598 : BitVec 32 := 1#32
  let v587 : BitVec 32 := Scalar.addi v5 c1_i32_598
  let c4_i32_5492 : BitVec 32 := 4#32
  let v3946 : BitVec 32 := Scalar.muli v587 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_606 : BitVec 32 := 3#32
  let v590 : BitVec 1 := Scalar.cmpi .sle v5 c3_i32_606
  let c0_i32_607 : BitVec 32 := 0#32
  let v591 : BitVec 1 := Scalar.cmpi .sgt v5 c0_i32_607
  let v592 : BitVec 1 := Scalar.andi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v570 : BitVec 32 := Scalar.subi v8 c1_i32_584
  let c0_i32_585 : BitVec 32 := 0#32
  let v571 : BitVec 32 := Scalar.subi v570 c0_i32_585
  let c2_i32_586 : BitVec 32 := 2#32
  let v572 : BitVec 1 := Scalar.cmpi .eq v571 c2_i32_586
  let c1_i32_587 : BitVec 32 := 1#32
  let v573 : BitVec 32 := Scalar.addi v8 c1_i32_587
  let c0_i32_588 : BitVec 32 := 0#32
  let v574 : BitVec 32 := Scalar.addi v573 c0_i32_588
  let c2_i32_589 : BitVec 32 := 2#32
  let v575 : BitVec 1 := Scalar.cmpi .eq v574 c2_i32_589
  let v576 : BitVec 1 := Scalar.ori v572 v575
  let v593 : BitVec 1 := Scalar.andi v592 v576
  let v601 : BitVec 32 := Scalar.extui v593
  let c0_i32_621 : BitVec 32 := 0#32
  let v602 : BitVec 1 := Scalar.cmpi .ne v601 c0_i32_621
  v602

def k0_off37 (d0 : Dev nD) : Fin 2 → Nat :=
  let c4_i32_611 : BitVec 32 := 4#32
  let c3_i32_610 : BitVec 32 := 3#32
  let c0_i32_609 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_608 : BitVec 32 := 0#32
  let v594 : BitVec 32 := Scalar.addi v5 c0_i32_608
  let v595 : BitVec 32 := Scalar.maxsi c0_i32_609 v594
  let v596 : BitVec 32 := Scalar.minsi c3_i32_610 v595
  let v597 : BitVec 32 := Scalar.muli c4_i32_611 v596
  let c2_i32_612 : BitVec 32 := 2#32
  let v598 : BitVec 32 := Scalar.addi v597 c2_i32_612
  let c256_i32_613 : BitVec 32 := 256#32
  let v599 : BitVec 32 := Scalar.muli v598 c256_i32_613
  let c0_i32_5494 : BitVec 32 := 0#32
  ![v599.toNat, 0]
def k0_dev37 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_614 : BitVec 32 := 4294967295#32
  let v600 : BitVec 32 := Scalar.addi v5 c_m1_i32_614
  let c4_i32_5492 : BitVec 32 := 4#32
  let v3946 : BitVec 32 := Scalar.muli v600 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_628 : BitVec 32 := 0#32
  let v610 : BitVec 1 := Scalar.cmpi .sge v5 c0_i32_628
  let c3_i32_629 : BitVec 32 := 3#32
  let v611 : BitVec 1 := Scalar.cmpi .slt v5 c3_i32_629
  let v612 : BitVec 1 := Scalar.andi v610 v611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v603 : BitVec 32 := Scalar.subi v8 c1_i32_622
  let c0_i32_623 : BitVec 32 := 0#32
  let v604 : BitVec 32 := Scalar.subi v603 c0_i32_623
  let c3_i32_624 : BitVec 32 := 3#32
  let v605 : BitVec 1 := Scalar.cmpi .eq v604 c3_i32_624
  let c1_i32_625 : BitVec 32 := 1#32
  let v606 : BitVec 32 := Scalar.addi v8 c1_i32_625
  let c0_i32_626 : BitVec 32 := 0#32
  let v607 : BitVec 32 := Scalar.addi v606 c0_i32_626
  let c3_i32_627 : BitVec 32 := 3#32
  let v608 : BitVec 1 := Scalar.cmpi .eq v607 c3_i32_627
  let v609 : BitVec 1 := Scalar.ori v605 v608
  let v613 : BitVec 1 := Scalar.andi v612 v609
  let v621 : BitVec 32 := Scalar.extui v613
  let c0_i32_643 : BitVec 32 := 0#32
  let v622 : BitVec 1 := Scalar.cmpi .ne v621 c0_i32_643
  v622

def k0_off38 (d0 : Dev nD) : Fin 2 → Nat :=
  let c4_i32_633 : BitVec 32 := 4#32
  let c3_i32_632 : BitVec 32 := 3#32
  let c0_i32_631 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_630 : BitVec 32 := 0#32
  let v614 : BitVec 32 := Scalar.subi v5 c0_i32_630
  let v615 : BitVec 32 := Scalar.maxsi c0_i32_631 v614
  let v616 : BitVec 32 := Scalar.minsi c3_i32_632 v615
  let v617 : BitVec 32 := Scalar.muli c4_i32_633 v616
  let c3_i32_634 : BitVec 32 := 3#32
  let v618 : BitVec 32 := Scalar.addi v617 c3_i32_634
  let c256_i32_635 : BitVec 32 := 256#32
  let v619 : BitVec 32 := Scalar.muli v618 c256_i32_635
  let c0_i32_5494 : BitVec 32 := 0#32
  ![v619.toNat, 0]
def k0_dev38 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_636 : BitVec 32 := 1#32
  let v620 : BitVec 32 := Scalar.addi v5 c1_i32_636
  let c4_i32_5492 : BitVec 32 := 4#32
  let v3946 : BitVec 32 := Scalar.muli v620 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_644 : BitVec 32 := 3#32
  let v623 : BitVec 1 := Scalar.cmpi .sle v5 c3_i32_644
  let c0_i32_645 : BitVec 32 := 0#32
  let v624 : BitVec 1 := Scalar.cmpi .sgt v5 c0_i32_645
  let v625 : BitVec 1 := Scalar.andi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v603 : BitVec 32 := Scalar.subi v8 c1_i32_622
  let c0_i32_623 : BitVec 32 := 0#32
  let v604 : BitVec 32 := Scalar.subi v603 c0_i32_623
  let c3_i32_624 : BitVec 32 := 3#32
  let v605 : BitVec 1 := Scalar.cmpi .eq v604 c3_i32_624
  let c1_i32_625 : BitVec 32 := 1#32
  let v606 : BitVec 32 := Scalar.addi v8 c1_i32_625
  let c0_i32_626 : BitVec 32 := 0#32
  let v607 : BitVec 32 := Scalar.addi v606 c0_i32_626
  let c3_i32_627 : BitVec 32 := 3#32
  let v608 : BitVec 1 := Scalar.cmpi .eq v607 c3_i32_627
  let v609 : BitVec 1 := Scalar.ori v605 v608
  let v626 : BitVec 1 := Scalar.andi v625 v609
  let v634 : BitVec 32 := Scalar.extui v626
  let c0_i32_659 : BitVec 32 := 0#32
  let v635 : BitVec 1 := Scalar.cmpi .ne v634 c0_i32_659
  v635

def k0_off39 (d0 : Dev nD) : Fin 2 → Nat :=
  let c4_i32_649 : BitVec 32 := 4#32
  let c3_i32_648 : BitVec 32 := 3#32
  let c0_i32_647 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_646 : BitVec 32 := 0#32
  let v627 : BitVec 32 := Scalar.addi v5 c0_i32_646
  let v628 : BitVec 32 := Scalar.maxsi c0_i32_647 v627
  let v629 : BitVec 32 := Scalar.minsi c3_i32_648 v628
  let v630 : BitVec 32 := Scalar.muli c4_i32_649 v629
  let c3_i32_650 : BitVec 32 := 3#32
  let v631 : BitVec 32 := Scalar.addi v630 c3_i32_650
  let c256_i32_651 : BitVec 32 := 256#32
  let v632 : BitVec 32 := Scalar.muli v631 c256_i32_651
  let c0_i32_5494 : BitVec 32 := 0#32
  ![v632.toNat, 0]
def k0_dev39 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_652 : BitVec 32 := 4294967295#32
  let v633 : BitVec 32 := Scalar.addi v5 c_m1_i32_652
  let c4_i32_5492 : BitVec 32 := 4#32
  let v3946 : BitVec 32 := Scalar.muli v633 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_666 : BitVec 32 := 0#32
  let v643 : BitVec 1 := Scalar.cmpi .sge v8 c0_i32_666
  let c3_i32_667 : BitVec 32 := 3#32
  let v644 : BitVec 1 := Scalar.cmpi .slt v8 c3_i32_667
  let v645 : BitVec 1 := Scalar.andi v643 v644
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_660 : BitVec 32 := 1#32
  let v636 : BitVec 32 := Scalar.subi v5 c1_i32_660
  let c0_i32_661 : BitVec 32 := 0#32
  let v637 : BitVec 32 := Scalar.subi v636 c0_i32_661
  let c0_i32_662 : BitVec 32 := 0#32
  let v638 : BitVec 1 := Scalar.cmpi .eq v637 c0_i32_662
  let c1_i32_663 : BitVec 32 := 1#32
  let v639 : BitVec 32 := Scalar.addi v5 c1_i32_663
  let c0_i32_664 : BitVec 32 := 0#32
  let v640 : BitVec 32 := Scalar.addi v639 c0_i32_664
  let c0_i32_665 : BitVec 32 := 0#32
  let v641 : BitVec 1 := Scalar.cmpi .eq v640 c0_i32_665
  let v642 : BitVec 1 := Scalar.ori v638 v641
  let v646 : BitVec 1 := Scalar.andi v645 v642
  let v653 : BitVec 32 := Scalar.extui v646
  let c0_i32_680 : BitVec 32 := 0#32
  let v654 : BitVec 1 := Scalar.cmpi .ne v653 c0_i32_680
  v654

def k0_off40 (d0 : Dev nD) : Fin 2 → Nat :=
  let c0_i32_671 : BitVec 32 := 0#32
  let c3_i32_670 : BitVec 32 := 3#32
  let c0_i32_669 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_668 : BitVec 32 := 0#32
  let v647 : BitVec 32 := Scalar.subi v8 c0_i32_668
  let v648 : BitVec 32 := Scalar.maxsi c0_i32_669 v647
  let v649 : BitVec 32 := Scalar.minsi c3_i32_670 v648
  let v650 : BitVec 32 := Scalar.addi c0_i32_671 v649
  let c256_i32_672 : BitVec 32 := 256#32
  let v651 : BitVec 32 := Scalar.muli v650 c256_i32_672
  let c2048_i32 : BitVec 32 := 2048#32
  ![v651.toNat, 2048]
def k0_dev40 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_673 : BitVec 32 := 1#32
  let v652 : BitVec 32 := Scalar.addi v8 c1_i32_673
  let c1_i32_5493 : BitVec 32 := 1#32
  let v3948 : BitVec 32 := Scalar.muli v652 c1_i32_5493
  let v3949 : BitVec 32 := Scalar.addi v3947 v3948
  v3949.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v655 : BitVec 1 := Scalar.cmpi .sle v8 c3_i32_681
  let c0_i32_682 : BitVec 32 := 0#32
  let v656 : BitVec 1 := Scalar.cmpi .sgt v8 c0_i32_682
  let v657 : BitVec 1 := Scalar.andi v655 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_660 : BitVec 32 := 1#32
  let v636 : BitVec 32 := Scalar.subi v5 c1_i32_660
  let c0_i32_661 : BitVec 32 := 0#32
  let v637 : BitVec 32 := Scalar.subi v636 c0_i32_661
  let c0_i32_662 : BitVec 32 := 0#32
  let v638 : BitVec 1 := Scalar.cmpi .eq v637 c0_i32_662
  let c1_i32_663 : BitVec 32 := 1#32
  let v639 : BitVec 32 := Scalar.addi v5 c1_i32_663
  let c0_i32_664 : BitVec 32 := 0#32
  let v640 : BitVec 32 := Scalar.addi v639 c0_i32_664
  let c0_i32_665 : BitVec 32 := 0#32
  let v641 : BitVec 1 := Scalar.cmpi .eq v640 c0_i32_665
  let v642 : BitVec 1 := Scalar.ori v638 v641
  let v658 : BitVec 1 := Scalar.andi v657 v642
  let v665 : BitVec 32 := Scalar.extui v658
  let c0_i32_695 : BitVec 32 := 0#32
  let v666 : BitVec 1 := Scalar.cmpi .ne v665 c0_i32_695
  v666

def k0_off41 (d0 : Dev nD) : Fin 2 → Nat :=
  let c0_i32_686 : BitVec 32 := 0#32
  let c3_i32_685 : BitVec 32 := 3#32
  let c0_i32_684 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_683 : BitVec 32 := 0#32
  let v659 : BitVec 32 := Scalar.addi v8 c0_i32_683
  let v660 : BitVec 32 := Scalar.maxsi c0_i32_684 v659
  let v661 : BitVec 32 := Scalar.minsi c3_i32_685 v660
  let v662 : BitVec 32 := Scalar.addi c0_i32_686 v661
  let c256_i32_687 : BitVec 32 := 256#32
  let v663 : BitVec 32 := Scalar.muli v662 c256_i32_687
  let c2048_i32 : BitVec 32 := 2048#32
  ![v663.toNat, 2048]
def k0_dev41 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_688 : BitVec 32 := 4294967295#32
  let v664 : BitVec 32 := Scalar.addi v8 c_m1_i32_688
  let c1_i32_5493 : BitVec 32 := 1#32
  let v3948 : BitVec 32 := Scalar.muli v664 c1_i32_5493
  let v3949 : BitVec 32 := Scalar.addi v3947 v3948
  v3949.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_702 : BitVec 32 := 0#32
  let v674 : BitVec 1 := Scalar.cmpi .sge v8 c0_i32_702
  let c3_i32_703 : BitVec 32 := 3#32
  let v675 : BitVec 1 := Scalar.cmpi .slt v8 c3_i32_703
  let v676 : BitVec 1 := Scalar.andi v674 v675
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_696 : BitVec 32 := 1#32
  let v667 : BitVec 32 := Scalar.subi v5 c1_i32_696
  let c0_i32_697 : BitVec 32 := 0#32
  let v668 : BitVec 32 := Scalar.subi v667 c0_i32_697
  let c1_i32_698 : BitVec 32 := 1#32
  let v669 : BitVec 1 := Scalar.cmpi .eq v668 c1_i32_698
  let c1_i32_699 : BitVec 32 := 1#32
  let v670 : BitVec 32 := Scalar.addi v5 c1_i32_699
  let c0_i32_700 : BitVec 32 := 0#32
  let v671 : BitVec 32 := Scalar.addi v670 c0_i32_700
  let c1_i32_701 : BitVec 32 := 1#32
  let v672 : BitVec 1 := Scalar.cmpi .eq v671 c1_i32_701
  let v673 : BitVec 1 := Scalar.ori v669 v672
  let v677 : BitVec 1 := Scalar.andi v676 v673
  let v684 : BitVec 32 := Scalar.extui v677
  let c0_i32_716 : BitVec 32 := 0#32
  let v685 : BitVec 1 := Scalar.cmpi .ne v684 c0_i32_716
  v685

def k0_off42 (d0 : Dev nD) : Fin 2 → Nat :=
  let c4_i32_707 : BitVec 32 := 4#32
  let c3_i32_706 : BitVec 32 := 3#32
  let c0_i32_705 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_704 : BitVec 32 := 0#32
  let v678 : BitVec 32 := Scalar.subi v8 c0_i32_704
  let v679 : BitVec 32 := Scalar.maxsi c0_i32_705 v678
  let v680 : BitVec 32 := Scalar.minsi c3_i32_706 v679
  let v681 : BitVec 32 := Scalar.addi c4_i32_707 v680
  let c256_i32_708 : BitVec 32 := 256#32
  let v682 : BitVec 32 := Scalar.muli v681 c256_i32_708
  let c2048_i32 : BitVec 32 := 2048#32
  ![v682.toNat, 2048]
def k0_dev42 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_709 : BitVec 32 := 1#32
  let v683 : BitVec 32 := Scalar.addi v8 c1_i32_709
  let c1_i32_5493 : BitVec 32 := 1#32
  let v3948 : BitVec 32 := Scalar.muli v683 c1_i32_5493
  let v3949 : BitVec 32 := Scalar.addi v3947 v3948
  v3949.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_717 : BitVec 32 := 3#32
  let v686 : BitVec 1 := Scalar.cmpi .sle v8 c3_i32_717
  let c0_i32_718 : BitVec 32 := 0#32
  let v687 : BitVec 1 := Scalar.cmpi .sgt v8 c0_i32_718
  let v688 : BitVec 1 := Scalar.andi v686 v687
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_696 : BitVec 32 := 1#32
  let v667 : BitVec 32 := Scalar.subi v5 c1_i32_696
  let c0_i32_697 : BitVec 32 := 0#32
  let v668 : BitVec 32 := Scalar.subi v667 c0_i32_697
  let c1_i32_698 : BitVec 32 := 1#32
  let v669 : BitVec 1 := Scalar.cmpi .eq v668 c1_i32_698
  let c1_i32_699 : BitVec 32 := 1#32
  let v670 : BitVec 32 := Scalar.addi v5 c1_i32_699
  let c0_i32_700 : BitVec 32 := 0#32
  let v671 : BitVec 32 := Scalar.addi v670 c0_i32_700
  let c1_i32_701 : BitVec 32 := 1#32
  let v672 : BitVec 1 := Scalar.cmpi .eq v671 c1_i32_701
  let v673 : BitVec 1 := Scalar.ori v669 v672
  let v689 : BitVec 1 := Scalar.andi v688 v673
  let v696 : BitVec 32 := Scalar.extui v689
  let c0_i32_731 : BitVec 32 := 0#32
  let v697 : BitVec 1 := Scalar.cmpi .ne v696 c0_i32_731
  v697

def k0_off43 (d0 : Dev nD) : Fin 2 → Nat :=
  let c4_i32_722 : BitVec 32 := 4#32
  let c3_i32_721 : BitVec 32 := 3#32
  let c0_i32_720 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_719 : BitVec 32 := 0#32
  let v690 : BitVec 32 := Scalar.addi v8 c0_i32_719
  let v691 : BitVec 32 := Scalar.maxsi c0_i32_720 v690
  let v692 : BitVec 32 := Scalar.minsi c3_i32_721 v691
  let v693 : BitVec 32 := Scalar.addi c4_i32_722 v692
  let c256_i32_723 : BitVec 32 := 256#32
  let v694 : BitVec 32 := Scalar.muli v693 c256_i32_723
  let c2048_i32 : BitVec 32 := 2048#32
  ![v694.toNat, 2048]
def k0_dev43 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_724 : BitVec 32 := 4294967295#32
  let v695 : BitVec 32 := Scalar.addi v8 c_m1_i32_724
  let c1_i32_5493 : BitVec 32 := 1#32
  let v3948 : BitVec 32 := Scalar.muli v695 c1_i32_5493
  let v3949 : BitVec 32 := Scalar.addi v3947 v3948
  v3949.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_738 : BitVec 32 := 0#32
  let v705 : BitVec 1 := Scalar.cmpi .sge v8 c0_i32_738
  let c3_i32_739 : BitVec 32 := 3#32
  let v706 : BitVec 1 := Scalar.cmpi .slt v8 c3_i32_739
  let v707 : BitVec 1 := Scalar.andi v705 v706
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_732 : BitVec 32 := 1#32
  let v698 : BitVec 32 := Scalar.subi v5 c1_i32_732
  let c0_i32_733 : BitVec 32 := 0#32
  let v699 : BitVec 32 := Scalar.subi v698 c0_i32_733
  let c2_i32_734 : BitVec 32 := 2#32
  let v700 : BitVec 1 := Scalar.cmpi .eq v699 c2_i32_734
  let c1_i32_735 : BitVec 32 := 1#32
  let v701 : BitVec 32 := Scalar.addi v5 c1_i32_735
  let c0_i32_736 : BitVec 32 := 0#32
  let v702 : BitVec 32 := Scalar.addi v701 c0_i32_736
  let c2_i32_737 : BitVec 32 := 2#32
  let v703 : BitVec 1 := Scalar.cmpi .eq v702 c2_i32_737
  let v704 : BitVec 1 := Scalar.ori v700 v703
  let v708 : BitVec 1 := Scalar.andi v707 v704
  let v715 : BitVec 32 := Scalar.extui v708
  let c0_i32_752 : BitVec 32 := 0#32
  let v716 : BitVec 1 := Scalar.cmpi .ne v715 c0_i32_752
  v716

def k0_off44 (d0 : Dev nD) : Fin 2 → Nat :=
  let c8_i32_743 : BitVec 32 := 8#32
  let c3_i32_742 : BitVec 32 := 3#32
  let c0_i32_741 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_740 : BitVec 32 := 0#32
  let v709 : BitVec 32 := Scalar.subi v8 c0_i32_740
  let v710 : BitVec 32 := Scalar.maxsi c0_i32_741 v709
  let v711 : BitVec 32 := Scalar.minsi c3_i32_742 v710
  let v712 : BitVec 32 := Scalar.addi c8_i32_743 v711
  let c256_i32_744 : BitVec 32 := 256#32
  let v713 : BitVec 32 := Scalar.muli v712 c256_i32_744
  let c2048_i32 : BitVec 32 := 2048#32
  ![v713.toNat, 2048]
def k0_dev44 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v714 : BitVec 32 := Scalar.addi v8 c1_i32_745
  let c1_i32_5493 : BitVec 32 := 1#32
  let v3948 : BitVec 32 := Scalar.muli v714 c1_i32_5493
  let v3949 : BitVec 32 := Scalar.addi v3947 v3948
  v3949.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_753 : BitVec 32 := 3#32
  let v717 : BitVec 1 := Scalar.cmpi .sle v8 c3_i32_753
  let c0_i32_754 : BitVec 32 := 0#32
  let v718 : BitVec 1 := Scalar.cmpi .sgt v8 c0_i32_754
  let v719 : BitVec 1 := Scalar.andi v717 v718
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_732 : BitVec 32 := 1#32
  let v698 : BitVec 32 := Scalar.subi v5 c1_i32_732
  let c0_i32_733 : BitVec 32 := 0#32
  let v699 : BitVec 32 := Scalar.subi v698 c0_i32_733
  let c2_i32_734 : BitVec 32 := 2#32
  let v700 : BitVec 1 := Scalar.cmpi .eq v699 c2_i32_734
  let c1_i32_735 : BitVec 32 := 1#32
  let v701 : BitVec 32 := Scalar.addi v5 c1_i32_735
  let c0_i32_736 : BitVec 32 := 0#32
  let v702 : BitVec 32 := Scalar.addi v701 c0_i32_736
  let c2_i32_737 : BitVec 32 := 2#32
  let v703 : BitVec 1 := Scalar.cmpi .eq v702 c2_i32_737
  let v704 : BitVec 1 := Scalar.ori v700 v703
  let v720 : BitVec 1 := Scalar.andi v719 v704
  let v727 : BitVec 32 := Scalar.extui v720
  let c0_i32_767 : BitVec 32 := 0#32
  let v728 : BitVec 1 := Scalar.cmpi .ne v727 c0_i32_767
  v728

def k0_off45 (d0 : Dev nD) : Fin 2 → Nat :=
  let c8_i32_758 : BitVec 32 := 8#32
  let c3_i32_757 : BitVec 32 := 3#32
  let c0_i32_756 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_755 : BitVec 32 := 0#32
  let v721 : BitVec 32 := Scalar.addi v8 c0_i32_755
  let v722 : BitVec 32 := Scalar.maxsi c0_i32_756 v721
  let v723 : BitVec 32 := Scalar.minsi c3_i32_757 v722
  let v724 : BitVec 32 := Scalar.addi c8_i32_758 v723
  let c256_i32_759 : BitVec 32 := 256#32
  let v725 : BitVec 32 := Scalar.muli v724 c256_i32_759
  let c2048_i32 : BitVec 32 := 2048#32
  ![v725.toNat, 2048]
def k0_dev45 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_760 : BitVec 32 := 4294967295#32
  let v726 : BitVec 32 := Scalar.addi v8 c_m1_i32_760
  let c1_i32_5493 : BitVec 32 := 1#32
  let v3948 : BitVec 32 := Scalar.muli v726 c1_i32_5493
  let v3949 : BitVec 32 := Scalar.addi v3947 v3948
  v3949.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_774 : BitVec 32 := 0#32
  let v736 : BitVec 1 := Scalar.cmpi .sge v8 c0_i32_774
  let c3_i32_775 : BitVec 32 := 3#32
  let v737 : BitVec 1 := Scalar.cmpi .slt v8 c3_i32_775
  let v738 : BitVec 1 := Scalar.andi v736 v737
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_768 : BitVec 32 := 1#32
  let v729 : BitVec 32 := Scalar.subi v5 c1_i32_768
  let c0_i32_769 : BitVec 32 := 0#32
  let v730 : BitVec 32 := Scalar.subi v729 c0_i32_769
  let c3_i32_770 : BitVec 32 := 3#32
  let v731 : BitVec 1 := Scalar.cmpi .eq v730 c3_i32_770
  let c1_i32_771 : BitVec 32 := 1#32
  let v732 : BitVec 32 := Scalar.addi v5 c1_i32_771
  let c0_i32_772 : BitVec 32 := 0#32
  let v733 : BitVec 32 := Scalar.addi v732 c0_i32_772
  let c3_i32_773 : BitVec 32 := 3#32
  let v734 : BitVec 1 := Scalar.cmpi .eq v733 c3_i32_773
  let v735 : BitVec 1 := Scalar.ori v731 v734
  let v739 : BitVec 1 := Scalar.andi v738 v735
  let v746 : BitVec 32 := Scalar.extui v739
  let c0_i32_788 : BitVec 32 := 0#32
  let v747 : BitVec 1 := Scalar.cmpi .ne v746 c0_i32_788
  v747

def k0_off46 (d0 : Dev nD) : Fin 2 → Nat :=
  let c12_i32_779 : BitVec 32 := 12#32
  let c3_i32_778 : BitVec 32 := 3#32
  let c0_i32_777 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_776 : BitVec 32 := 0#32
  let v740 : BitVec 32 := Scalar.subi v8 c0_i32_776
  let v741 : BitVec 32 := Scalar.maxsi c0_i32_777 v740
  let v742 : BitVec 32 := Scalar.minsi c3_i32_778 v741
  let v743 : BitVec 32 := Scalar.addi c12_i32_779 v742
  let c256_i32_780 : BitVec 32 := 256#32
  let v744 : BitVec 32 := Scalar.muli v743 c256_i32_780
  let c2048_i32 : BitVec 32 := 2048#32
  ![v744.toNat, 2048]
def k0_dev46 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v745 : BitVec 32 := Scalar.addi v8 c1_i32_781
  let c1_i32_5493 : BitVec 32 := 1#32
  let v3948 : BitVec 32 := Scalar.muli v745 c1_i32_5493
  let v3949 : BitVec 32 := Scalar.addi v3947 v3948
  v3949.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_789 : BitVec 32 := 3#32
  let v748 : BitVec 1 := Scalar.cmpi .sle v8 c3_i32_789
  let c0_i32_790 : BitVec 32 := 0#32
  let v749 : BitVec 1 := Scalar.cmpi .sgt v8 c0_i32_790
  let v750 : BitVec 1 := Scalar.andi v748 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_768 : BitVec 32 := 1#32
  let v729 : BitVec 32 := Scalar.subi v5 c1_i32_768
  let c0_i32_769 : BitVec 32 := 0#32
  let v730 : BitVec 32 := Scalar.subi v729 c0_i32_769
  let c3_i32_770 : BitVec 32 := 3#32
  let v731 : BitVec 1 := Scalar.cmpi .eq v730 c3_i32_770
  let c1_i32_771 : BitVec 32 := 1#32
  let v732 : BitVec 32 := Scalar.addi v5 c1_i32_771
  let c0_i32_772 : BitVec 32 := 0#32
  let v733 : BitVec 32 := Scalar.addi v732 c0_i32_772
  let c3_i32_773 : BitVec 32 := 3#32
  let v734 : BitVec 1 := Scalar.cmpi .eq v733 c3_i32_773
  let v735 : BitVec 1 := Scalar.ori v731 v734
  let v751 : BitVec 1 := Scalar.andi v750 v735
  let v758 : BitVec 32 := Scalar.extui v751
  let c0_i32_803 : BitVec 32 := 0#32
  let v759 : BitVec 1 := Scalar.cmpi .ne v758 c0_i32_803
  v759

def k0_off47 (d0 : Dev nD) : Fin 2 → Nat :=
  let c12_i32_794 : BitVec 32 := 12#32
  let c3_i32_793 : BitVec 32 := 3#32
  let c0_i32_792 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_791 : BitVec 32 := 0#32
  let v752 : BitVec 32 := Scalar.addi v8 c0_i32_791
  let v753 : BitVec 32 := Scalar.maxsi c0_i32_792 v752
  let v754 : BitVec 32 := Scalar.minsi c3_i32_793 v753
  let v755 : BitVec 32 := Scalar.addi c12_i32_794 v754
  let c256_i32_795 : BitVec 32 := 256#32
  let v756 : BitVec 32 := Scalar.muli v755 c256_i32_795
  let c2048_i32 : BitVec 32 := 2048#32
  ![v756.toNat, 2048]
def k0_dev47 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_796 : BitVec 32 := 4294967295#32
  let v757 : BitVec 32 := Scalar.addi v8 c_m1_i32_796
  let c1_i32_5493 : BitVec 32 := 1#32
  let v3948 : BitVec 32 := Scalar.muli v757 c1_i32_5493
  let v3949 : BitVec 32 := Scalar.addi v3947 v3948
  v3949.toNat
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_808 : BitVec 32 := 1#32
  let v765 : BitVec 1 := Scalar.cmpi .sge v5 c1_i32_808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_804 : BitVec 32 := 0#32
  let v760 : BitVec 32 := Scalar.subi v8 c0_i32_804
  let c0_i32_805 : BitVec 32 := 0#32
  let v761 : BitVec 1 := Scalar.cmpi .eq v760 c0_i32_805
  let c0_i32_806 : BitVec 32 := 0#32
  let v762 : BitVec 32 := Scalar.addi v8 c0_i32_806
  let c0_i32_807 : BitVec 32 := 0#32
  let v763 : BitVec 1 := Scalar.cmpi .eq v762 c0_i32_807
  let v764 : BitVec 1 := Scalar.ori v761 v763
  let v766 : BitVec 1 := Scalar.andi v765 v764
  let v775 : BitVec 32 := Scalar.extui v766
  let c0_i32_823 : BitVec 32 := 0#32
  let v776 : BitVec 1 := Scalar.cmpi .ne v775 c0_i32_823
  v776

def k0_off48 (d0 : Dev nD) : Fin 2 → Nat :=
  let c4_i32_813 : BitVec 32 := 4#32
  let c3_i32_812 : BitVec 32 := 3#32
  let c0_i32_811 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_809 : BitVec 32 := 1#32
  let v767 : BitVec 32 := Scalar.subi v5 c1_i32_809
  let c0_i32_810 : BitVec 32 := 0#32
  let v768 : BitVec 32 := Scalar.subi v767 c0_i32_810
  let v769 : BitVec 32 := Scalar.maxsi c0_i32_811 v768
  let v770 : BitVec 32 := Scalar.minsi c3_i32_812 v769
  let v771 : BitVec 32 := Scalar.muli c4_i32_813 v770
  let c0_i32_814 : BitVec 32 := 0#32
  let v772 : BitVec 32 := Scalar.addi v771 c0_i32_814
  let c256_i32_815 : BitVec 32 := 256#32
  let v773 : BitVec 32 := Scalar.muli v772 c256_i32_815
  let c0_i32_5494 : BitVec 32 := 0#32
  ![v773.toNat, 0]
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_824 : BitVec 32 := 2#32
  let v777 : BitVec 1 := Scalar.cmpi .sle v5 c2_i32_824
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_804 : BitVec 32 := 0#32
  let v760 : BitVec 32 := Scalar.subi v8 c0_i32_804
  let c0_i32_805 : BitVec 32 := 0#32
  let v761 : BitVec 1 := Scalar.cmpi .eq v760 c0_i32_805
  let c0_i32_806 : BitVec 32 := 0#32
  let v762 : BitVec 32 := Scalar.addi v8 c0_i32_806
  let c0_i32_807 : BitVec 32 := 0#32
  let v763 : BitVec 1 := Scalar.cmpi .eq v762 c0_i32_807
  let v764 : BitVec 1 := Scalar.ori v761 v763
  let v778 : BitVec 1 := Scalar.andi v777 v764
  let v787 : BitVec 32 := Scalar.extui v778
  let c0_i32_839 : BitVec 32 := 0#32
  let v788 : BitVec 1 := Scalar.cmpi .ne v787 c0_i32_839
  v788

def k0_off49 (d0 : Dev nD) : Fin 2 → Nat :=
  let c4_i32_829 : BitVec 32 := 4#32
  let c3_i32_828 : BitVec 32 := 3#32
  let c0_i32_827 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_825 : BitVec 32 := 1#32
  let v779 : BitVec 32 := Scalar.addi v5 c1_i32_825
  let c0_i32_826 : BitVec 32 := 0#32
  let v780 : BitVec 32 := Scalar.addi v779 c0_i32_826
  let v781 : BitVec 32 := Scalar.maxsi c0_i32_827 v780
  let v782 : BitVec 32 := Scalar.minsi c3_i32_828 v781
  let v783 : BitVec 32 := Scalar.muli c4_i32_829 v782
  let c0_i32_830 : BitVec 32 := 0#32
  let v784 : BitVec 32 := Scalar.addi v783 c0_i32_830
  let c256_i32_831 : BitVec 32 := 256#32
  let v785 : BitVec 32 := Scalar.muli v784 c256_i32_831
  let c0_i32_5494 : BitVec 32 := 0#32
  ![v785.toNat, 0]
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_840 : BitVec 32 := 1#32
  let v789 : BitVec 1 := Scalar.cmpi .sge v5 c1_i32_840
  let c3_i32_841 : BitVec 32 := 3#32
  let v790 : BitVec 1 := Scalar.cmpi .slt v5 c3_i32_841
  let v791 : BitVec 1 := Scalar.andi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_804 : BitVec 32 := 0#32
  let v760 : BitVec 32 := Scalar.subi v8 c0_i32_804
  let c0_i32_805 : BitVec 32 := 0#32
  let v761 : BitVec 1 := Scalar.cmpi .eq v760 c0_i32_805
  let c0_i32_806 : BitVec 32 := 0#32
  let v762 : BitVec 32 := Scalar.addi v8 c0_i32_806
  let c0_i32_807 : BitVec 32 := 0#32
  let v763 : BitVec 1 := Scalar.cmpi .eq v762 c0_i32_807
  let v764 : BitVec 1 := Scalar.ori v761 v763
  let v792 : BitVec 1 := Scalar.andi v791 v764
  let v800 : BitVec 32 := Scalar.extui v792
  let c0_i32_855 : BitVec 32 := 0#32
  let v801 : BitVec 1 := Scalar.cmpi .ne v800 c0_i32_855
  v801

def k0_off50 (d0 : Dev nD) : Fin 2 → Nat :=
  let c4_i32_845 : BitVec 32 := 4#32
  let c3_i32_844 : BitVec 32 := 3#32
  let c0_i32_843 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_842 : BitVec 32 := 1#32
  let v793 : BitVec 32 := Scalar.subi v5 c1_i32_842
  let v794 : BitVec 32 := Scalar.maxsi c0_i32_843 v793
  let v795 : BitVec 32 := Scalar.minsi c3_i32_844 v794
  let v796 : BitVec 32 := Scalar.muli c4_i32_845 v795
  let c0_i32_846 : BitVec 32 := 0#32
  let v797 : BitVec 32 := Scalar.addi v796 c0_i32_846
  let c256_i32_847 : BitVec 32 := 256#32
  let v798 : BitVec 32 := Scalar.muli v797 c256_i32_847
  let c0_i32_5494 : BitVec 32 := 0#32
  ![v798.toNat, 0]
def k0_dev48 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_848 : BitVec 32 := 1#32
  let v799 : BitVec 32 := Scalar.addi v5 c1_i32_848
  let c4_i32_5492 : BitVec 32 := 4#32
  let v3946 : BitVec 32 := Scalar.muli v799 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_856 : BitVec 32 := 2#32
  let v802 : BitVec 1 := Scalar.cmpi .sle v5 c2_i32_856
  let c0_i32_857 : BitVec 32 := 0#32
  let v803 : BitVec 1 := Scalar.cmpi .sgt v5 c0_i32_857
  let v804 : BitVec 1 := Scalar.andi v802 v803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_804 : BitVec 32 := 0#32
  let v760 : BitVec 32 := Scalar.subi v8 c0_i32_804
  let c0_i32_805 : BitVec 32 := 0#32
  let v761 : BitVec 1 := Scalar.cmpi .eq v760 c0_i32_805
  let c0_i32_806 : BitVec 32 := 0#32
  let v762 : BitVec 32 := Scalar.addi v8 c0_i32_806
  let c0_i32_807 : BitVec 32 := 0#32
  let v763 : BitVec 1 := Scalar.cmpi .eq v762 c0_i32_807
  let v764 : BitVec 1 := Scalar.ori v761 v763
  let v805 : BitVec 1 := Scalar.andi v804 v764
  let v813 : BitVec 32 := Scalar.extui v805
  let c0_i32_871 : BitVec 32 := 0#32
  let v814 : BitVec 1 := Scalar.cmpi .ne v813 c0_i32_871
  v814

def k0_off51 (d0 : Dev nD) : Fin 2 → Nat :=
  let c4_i32_861 : BitVec 32 := 4#32
  let c3_i32_860 : BitVec 32 := 3#32
  let c0_i32_859 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_858 : BitVec 32 := 1#32
  let v806 : BitVec 32 := Scalar.addi v5 c1_i32_858
  let v807 : BitVec 32 := Scalar.maxsi c0_i32_859 v806
  let v808 : BitVec 32 := Scalar.minsi c3_i32_860 v807
  let v809 : BitVec 32 := Scalar.muli c4_i32_861 v808
  let c0_i32_862 : BitVec 32 := 0#32
  let v810 : BitVec 32 := Scalar.addi v809 c0_i32_862
  let c256_i32_863 : BitVec 32 := 256#32
  let v811 : BitVec 32 := Scalar.muli v810 c256_i32_863
  let c0_i32_5494 : BitVec 32 := 0#32
  ![v811.toNat, 0]
def k0_dev49 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_864 : BitVec 32 := 4294967295#32
  let v812 : BitVec 32 := Scalar.addi v5 c_m1_i32_864
  let c4_i32_5492 : BitVec 32 := 4#32
  let v3946 : BitVec 32 := Scalar.muli v812 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v820 : BitVec 1 := Scalar.cmpi .sge v8 c1_i32_876
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_872 : BitVec 32 := 0#32
  let v815 : BitVec 32 := Scalar.subi v5 c0_i32_872
  let c0_i32_873 : BitVec 32 := 0#32
  let v816 : BitVec 1 := Scalar.cmpi .eq v815 c0_i32_873
  let c0_i32_874 : BitVec 32 := 0#32
  let v817 : BitVec 32 := Scalar.addi v5 c0_i32_874
  let c0_i32_875 : BitVec 32 := 0#32
  let v818 : BitVec 1 := Scalar.cmpi .eq v817 c0_i32_875
  let v819 : BitVec 1 := Scalar.ori v816 v818
  let v821 : BitVec 1 := Scalar.andi v820 v819
  let v829 : BitVec 32 := Scalar.extui v821
  let c0_i32_890 : BitVec 32 := 0#32
  let v830 : BitVec 1 := Scalar.cmpi .ne v829 c0_i32_890
  v830

def k0_off52 (d0 : Dev nD) : Fin 2 → Nat :=
  let c0_i32_881 : BitVec 32 := 0#32
  let c3_i32_880 : BitVec 32 := 3#32
  let c0_i32_879 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_877 : BitVec 32 := 1#32
  let v822 : BitVec 32 := Scalar.subi v8 c1_i32_877
  let c0_i32_878 : BitVec 32 := 0#32
  let v823 : BitVec 32 := Scalar.subi v822 c0_i32_878
  let v824 : BitVec 32 := Scalar.maxsi c0_i32_879 v823
  let v825 : BitVec 32 := Scalar.minsi c3_i32_880 v824
  let v826 : BitVec 32 := Scalar.addi c0_i32_881 v825
  let c256_i32_882 : BitVec 32 := 256#32
  let v827 : BitVec 32 := Scalar.muli v826 c256_i32_882
  let c2048_i32 : BitVec 32 := 2048#32
  ![v827.toNat, 2048]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_891 : BitVec 32 := 2#32
  let v831 : BitVec 1 := Scalar.cmpi .sle v8 c2_i32_891
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_872 : BitVec 32 := 0#32
  let v815 : BitVec 32 := Scalar.subi v5 c0_i32_872
  let c0_i32_873 : BitVec 32 := 0#32
  let v816 : BitVec 1 := Scalar.cmpi .eq v815 c0_i32_873
  let c0_i32_874 : BitVec 32 := 0#32
  let v817 : BitVec 32 := Scalar.addi v5 c0_i32_874
  let c0_i32_875 : BitVec 32 := 0#32
  let v818 : BitVec 1 := Scalar.cmpi .eq v817 c0_i32_875
  let v819 : BitVec 1 := Scalar.ori v816 v818
  let v832 : BitVec 1 := Scalar.andi v831 v819
  let v840 : BitVec 32 := Scalar.extui v832
  let c0_i32_905 : BitVec 32 := 0#32
  let v841 : BitVec 1 := Scalar.cmpi .ne v840 c0_i32_905
  v841

def k0_off53 (d0 : Dev nD) : Fin 2 → Nat :=
  let c0_i32_896 : BitVec 32 := 0#32
  let c3_i32_895 : BitVec 32 := 3#32
  let c0_i32_894 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_892 : BitVec 32 := 1#32
  let v833 : BitVec 32 := Scalar.addi v8 c1_i32_892
  let c0_i32_893 : BitVec 32 := 0#32
  let v834 : BitVec 32 := Scalar.addi v833 c0_i32_893
  let v835 : BitVec 32 := Scalar.maxsi c0_i32_894 v834
  let v836 : BitVec 32 := Scalar.minsi c3_i32_895 v835
  let v837 : BitVec 32 := Scalar.addi c0_i32_896 v836
  let c256_i32_897 : BitVec 32 := 256#32
  let v838 : BitVec 32 := Scalar.muli v837 c256_i32_897
  let c2048_i32 : BitVec 32 := 2048#32
  ![v838.toNat, 2048]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v842 : BitVec 1 := Scalar.cmpi .sge v8 c1_i32_906
  let c3_i32_907 : BitVec 32 := 3#32
  let v843 : BitVec 1 := Scalar.cmpi .slt v8 c3_i32_907
  let v844 : BitVec 1 := Scalar.andi v842 v843
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_872 : BitVec 32 := 0#32
  let v815 : BitVec 32 := Scalar.subi v5 c0_i32_872
  let c0_i32_873 : BitVec 32 := 0#32
  let v816 : BitVec 1 := Scalar.cmpi .eq v815 c0_i32_873
  let c0_i32_874 : BitVec 32 := 0#32
  let v817 : BitVec 32 := Scalar.addi v5 c0_i32_874
  let c0_i32_875 : BitVec 32 := 0#32
  let v818 : BitVec 1 := Scalar.cmpi .eq v817 c0_i32_875
  let v819 : BitVec 1 := Scalar.ori v816 v818
  let v845 : BitVec 1 := Scalar.andi v844 v819
  let v852 : BitVec 32 := Scalar.extui v845
  let c0_i32_920 : BitVec 32 := 0#32
  let v853 : BitVec 1 := Scalar.cmpi .ne v852 c0_i32_920
  v853

def k0_off54 (d0 : Dev nD) : Fin 2 → Nat :=
  let c0_i32_911 : BitVec 32 := 0#32
  let c3_i32_910 : BitVec 32 := 3#32
  let c0_i32_909 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_908 : BitVec 32 := 1#32
  let v846 : BitVec 32 := Scalar.subi v8 c1_i32_908
  let v847 : BitVec 32 := Scalar.maxsi c0_i32_909 v846
  let v848 : BitVec 32 := Scalar.minsi c3_i32_910 v847
  let v849 : BitVec 32 := Scalar.addi c0_i32_911 v848
  let c256_i32_912 : BitVec 32 := 256#32
  let v850 : BitVec 32 := Scalar.muli v849 c256_i32_912
  let c2048_i32 : BitVec 32 := 2048#32
  ![v850.toNat, 2048]
def k0_dev50 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_913 : BitVec 32 := 1#32
  let v851 : BitVec 32 := Scalar.addi v8 c1_i32_913
  let c1_i32_5493 : BitVec 32 := 1#32
  let v3948 : BitVec 32 := Scalar.muli v851 c1_i32_5493
  let v3949 : BitVec 32 := Scalar.addi v3947 v3948
  v3949.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_921 : BitVec 32 := 2#32
  let v854 : BitVec 1 := Scalar.cmpi .sle v8 c2_i32_921
  let c0_i32_922 : BitVec 32 := 0#32
  let v855 : BitVec 1 := Scalar.cmpi .sgt v8 c0_i32_922
  let v856 : BitVec 1 := Scalar.andi v854 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_872 : BitVec 32 := 0#32
  let v815 : BitVec 32 := Scalar.subi v5 c0_i32_872
  let c0_i32_873 : BitVec 32 := 0#32
  let v816 : BitVec 1 := Scalar.cmpi .eq v815 c0_i32_873
  let c0_i32_874 : BitVec 32 := 0#32
  let v817 : BitVec 32 := Scalar.addi v5 c0_i32_874
  let c0_i32_875 : BitVec 32 := 0#32
  let v818 : BitVec 1 := Scalar.cmpi .eq v817 c0_i32_875
  let v819 : BitVec 1 := Scalar.ori v816 v818
  let v857 : BitVec 1 := Scalar.andi v856 v819
  let v864 : BitVec 32 := Scalar.extui v857
  let c0_i32_935 : BitVec 32 := 0#32
  let v865 : BitVec 1 := Scalar.cmpi .ne v864 c0_i32_935
  v865

def k0_off55 (d0 : Dev nD) : Fin 2 → Nat :=
  let c0_i32_926 : BitVec 32 := 0#32
  let c3_i32_925 : BitVec 32 := 3#32
  let c0_i32_924 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v858 : BitVec 32 := Scalar.addi v8 c1_i32_923
  let v859 : BitVec 32 := Scalar.maxsi c0_i32_924 v858
  let v860 : BitVec 32 := Scalar.minsi c3_i32_925 v859
  let v861 : BitVec 32 := Scalar.addi c0_i32_926 v860
  let c256_i32_927 : BitVec 32 := 256#32
  let v862 : BitVec 32 := Scalar.muli v861 c256_i32_927
  let c2048_i32 : BitVec 32 := 2048#32
  ![v862.toNat, 2048]
def k0_dev51 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_928 : BitVec 32 := 4294967295#32
  let v863 : BitVec 32 := Scalar.addi v8 c_m1_i32_928
  let c1_i32_5493 : BitVec 32 := 1#32
  let v3948 : BitVec 32 := Scalar.muli v863 c1_i32_5493
  let v3949 : BitVec 32 := Scalar.addi v3947 v3948
  v3949.toNat
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_940 : BitVec 32 := 1#32
  let v871 : BitVec 1 := Scalar.cmpi .sge v5 c1_i32_940
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_936 : BitVec 32 := 0#32
  let v866 : BitVec 32 := Scalar.subi v8 c0_i32_936
  let c1_i32_937 : BitVec 32 := 1#32
  let v867 : BitVec 1 := Scalar.cmpi .eq v866 c1_i32_937
  let c0_i32_938 : BitVec 32 := 0#32
  let v868 : BitVec 32 := Scalar.addi v8 c0_i32_938
  let c1_i32_939 : BitVec 32 := 1#32
  let v869 : BitVec 1 := Scalar.cmpi .eq v868 c1_i32_939
  let v870 : BitVec 1 := Scalar.ori v867 v869
  let v872 : BitVec 1 := Scalar.andi v871 v870
  let v881 : BitVec 32 := Scalar.extui v872
  let c0_i32_955 : BitVec 32 := 0#32
  let v882 : BitVec 1 := Scalar.cmpi .ne v881 c0_i32_955
  v882

def k0_off56 (d0 : Dev nD) : Fin 2 → Nat :=
  let c4_i32_945 : BitVec 32 := 4#32
  let c3_i32_944 : BitVec 32 := 3#32
  let c0_i32_943 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_941 : BitVec 32 := 1#32
  let v873 : BitVec 32 := Scalar.subi v5 c1_i32_941
  let c0_i32_942 : BitVec 32 := 0#32
  let v874 : BitVec 32 := Scalar.subi v873 c0_i32_942
  let v875 : BitVec 32 := Scalar.maxsi c0_i32_943 v874
  let v876 : BitVec 32 := Scalar.minsi c3_i32_944 v875
  let v877 : BitVec 32 := Scalar.muli c4_i32_945 v876
  let c1_i32_946 : BitVec 32 := 1#32
  let v878 : BitVec 32 := Scalar.addi v877 c1_i32_946
  let c256_i32_947 : BitVec 32 := 256#32
  let v879 : BitVec 32 := Scalar.muli v878 c256_i32_947
  let c0_i32_5494 : BitVec 32 := 0#32
  ![v879.toNat, 0]
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_956 : BitVec 32 := 2#32
  let v883 : BitVec 1 := Scalar.cmpi .sle v5 c2_i32_956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_936 : BitVec 32 := 0#32
  let v866 : BitVec 32 := Scalar.subi v8 c0_i32_936
  let c1_i32_937 : BitVec 32 := 1#32
  let v867 : BitVec 1 := Scalar.cmpi .eq v866 c1_i32_937
  let c0_i32_938 : BitVec 32 := 0#32
  let v868 : BitVec 32 := Scalar.addi v8 c0_i32_938
  let c1_i32_939 : BitVec 32 := 1#32
  let v869 : BitVec 1 := Scalar.cmpi .eq v868 c1_i32_939
  let v870 : BitVec 1 := Scalar.ori v867 v869
  let v884 : BitVec 1 := Scalar.andi v883 v870
  let v893 : BitVec 32 := Scalar.extui v884
  let c0_i32_971 : BitVec 32 := 0#32
  let v894 : BitVec 1 := Scalar.cmpi .ne v893 c0_i32_971
  v894

def k0_off57 (d0 : Dev nD) : Fin 2 → Nat :=
  let c4_i32_961 : BitVec 32 := 4#32
  let c3_i32_960 : BitVec 32 := 3#32
  let c0_i32_959 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_957 : BitVec 32 := 1#32
  let v885 : BitVec 32 := Scalar.addi v5 c1_i32_957
  let c0_i32_958 : BitVec 32 := 0#32
  let v886 : BitVec 32 := Scalar.addi v885 c0_i32_958
  let v887 : BitVec 32 := Scalar.maxsi c0_i32_959 v886
  let v888 : BitVec 32 := Scalar.minsi c3_i32_960 v887
  let v889 : BitVec 32 := Scalar.muli c4_i32_961 v888
  let c1_i32_962 : BitVec 32 := 1#32
  let v890 : BitVec 32 := Scalar.addi v889 c1_i32_962
  let c256_i32_963 : BitVec 32 := 256#32
  let v891 : BitVec 32 := Scalar.muli v890 c256_i32_963
  let c0_i32_5494 : BitVec 32 := 0#32
  ![v891.toNat, 0]
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_972 : BitVec 32 := 1#32
  let v895 : BitVec 1 := Scalar.cmpi .sge v5 c1_i32_972
  let c3_i32_973 : BitVec 32 := 3#32
  let v896 : BitVec 1 := Scalar.cmpi .slt v5 c3_i32_973
  let v897 : BitVec 1 := Scalar.andi v895 v896
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_936 : BitVec 32 := 0#32
  let v866 : BitVec 32 := Scalar.subi v8 c0_i32_936
  let c1_i32_937 : BitVec 32 := 1#32
  let v867 : BitVec 1 := Scalar.cmpi .eq v866 c1_i32_937
  let c0_i32_938 : BitVec 32 := 0#32
  let v868 : BitVec 32 := Scalar.addi v8 c0_i32_938
  let c1_i32_939 : BitVec 32 := 1#32
  let v869 : BitVec 1 := Scalar.cmpi .eq v868 c1_i32_939
  let v870 : BitVec 1 := Scalar.ori v867 v869
  let v898 : BitVec 1 := Scalar.andi v897 v870
  let v906 : BitVec 32 := Scalar.extui v898
  let c0_i32_987 : BitVec 32 := 0#32
  let v907 : BitVec 1 := Scalar.cmpi .ne v906 c0_i32_987
  v907

def k0_off58 (d0 : Dev nD) : Fin 2 → Nat :=
  let c4_i32_977 : BitVec 32 := 4#32
  let c3_i32_976 : BitVec 32 := 3#32
  let c0_i32_975 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_974 : BitVec 32 := 1#32
  let v899 : BitVec 32 := Scalar.subi v5 c1_i32_974
  let v900 : BitVec 32 := Scalar.maxsi c0_i32_975 v899
  let v901 : BitVec 32 := Scalar.minsi c3_i32_976 v900
  let v902 : BitVec 32 := Scalar.muli c4_i32_977 v901
  let c1_i32_978 : BitVec 32 := 1#32
  let v903 : BitVec 32 := Scalar.addi v902 c1_i32_978
  let c256_i32_979 : BitVec 32 := 256#32
  let v904 : BitVec 32 := Scalar.muli v903 c256_i32_979
  let c0_i32_5494 : BitVec 32 := 0#32
  ![v904.toNat, 0]
def k0_dev52 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_980 : BitVec 32 := 1#32
  let v905 : BitVec 32 := Scalar.addi v5 c1_i32_980
  let c4_i32_5492 : BitVec 32 := 4#32
  let v3946 : BitVec 32 := Scalar.muli v905 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_988 : BitVec 32 := 2#32
  let v908 : BitVec 1 := Scalar.cmpi .sle v5 c2_i32_988
  let c0_i32_989 : BitVec 32 := 0#32
  let v909 : BitVec 1 := Scalar.cmpi .sgt v5 c0_i32_989
  let v910 : BitVec 1 := Scalar.andi v908 v909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_936 : BitVec 32 := 0#32
  let v866 : BitVec 32 := Scalar.subi v8 c0_i32_936
  let c1_i32_937 : BitVec 32 := 1#32
  let v867 : BitVec 1 := Scalar.cmpi .eq v866 c1_i32_937
  let c0_i32_938 : BitVec 32 := 0#32
  let v868 : BitVec 32 := Scalar.addi v8 c0_i32_938
  let c1_i32_939 : BitVec 32 := 1#32
  let v869 : BitVec 1 := Scalar.cmpi .eq v868 c1_i32_939
  let v870 : BitVec 1 := Scalar.ori v867 v869
  let v911 : BitVec 1 := Scalar.andi v910 v870
  let v919 : BitVec 32 := Scalar.extui v911
  let c0_i32_1003 : BitVec 32 := 0#32
  let v920 : BitVec 1 := Scalar.cmpi .ne v919 c0_i32_1003
  v920

def k0_off59 (d0 : Dev nD) : Fin 2 → Nat :=
  let c4_i32_993 : BitVec 32 := 4#32
  let c3_i32_992 : BitVec 32 := 3#32
  let c0_i32_991 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_990 : BitVec 32 := 1#32
  let v912 : BitVec 32 := Scalar.addi v5 c1_i32_990
  let v913 : BitVec 32 := Scalar.maxsi c0_i32_991 v912
  let v914 : BitVec 32 := Scalar.minsi c3_i32_992 v913
  let v915 : BitVec 32 := Scalar.muli c4_i32_993 v914
  let c1_i32_994 : BitVec 32 := 1#32
  let v916 : BitVec 32 := Scalar.addi v915 c1_i32_994
  let c256_i32_995 : BitVec 32 := 256#32
  let v917 : BitVec 32 := Scalar.muli v916 c256_i32_995
  let c0_i32_5494 : BitVec 32 := 0#32
  ![v917.toNat, 0]
def k0_dev53 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_996 : BitVec 32 := 4294967295#32
  let v918 : BitVec 32 := Scalar.addi v5 c_m1_i32_996
  let c4_i32_5492 : BitVec 32 := 4#32
  let v3946 : BitVec 32 := Scalar.muli v918 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v926 : BitVec 1 := Scalar.cmpi .sge v8 c1_i32_1008
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1004 : BitVec 32 := 0#32
  let v921 : BitVec 32 := Scalar.subi v5 c0_i32_1004
  let c1_i32_1005 : BitVec 32 := 1#32
  let v922 : BitVec 1 := Scalar.cmpi .eq v921 c1_i32_1005
  let c0_i32_1006 : BitVec 32 := 0#32
  let v923 : BitVec 32 := Scalar.addi v5 c0_i32_1006
  let c1_i32_1007 : BitVec 32 := 1#32
  let v924 : BitVec 1 := Scalar.cmpi .eq v923 c1_i32_1007
  let v925 : BitVec 1 := Scalar.ori v922 v924
  let v927 : BitVec 1 := Scalar.andi v926 v925
  let v935 : BitVec 32 := Scalar.extui v927
  let c0_i32_1022 : BitVec 32 := 0#32
  let v936 : BitVec 1 := Scalar.cmpi .ne v935 c0_i32_1022
  v936

def k0_off60 (d0 : Dev nD) : Fin 2 → Nat :=
  let c4_i32_1013 : BitVec 32 := 4#32
  let c3_i32_1012 : BitVec 32 := 3#32
  let c0_i32_1011 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v928 : BitVec 32 := Scalar.subi v8 c1_i32_1009
  let c0_i32_1010 : BitVec 32 := 0#32
  let v929 : BitVec 32 := Scalar.subi v928 c0_i32_1010
  let v930 : BitVec 32 := Scalar.maxsi c0_i32_1011 v929
  let v931 : BitVec 32 := Scalar.minsi c3_i32_1012 v930
  let v932 : BitVec 32 := Scalar.addi c4_i32_1013 v931
  let c256_i32_1014 : BitVec 32 := 256#32
  let v933 : BitVec 32 := Scalar.muli v932 c256_i32_1014
  let c2048_i32 : BitVec 32 := 2048#32
  ![v933.toNat, 2048]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1023 : BitVec 32 := 2#32
  let v937 : BitVec 1 := Scalar.cmpi .sle v8 c2_i32_1023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1004 : BitVec 32 := 0#32
  let v921 : BitVec 32 := Scalar.subi v5 c0_i32_1004
  let c1_i32_1005 : BitVec 32 := 1#32
  let v922 : BitVec 1 := Scalar.cmpi .eq v921 c1_i32_1005
  let c0_i32_1006 : BitVec 32 := 0#32
  let v923 : BitVec 32 := Scalar.addi v5 c0_i32_1006
  let c1_i32_1007 : BitVec 32 := 1#32
  let v924 : BitVec 1 := Scalar.cmpi .eq v923 c1_i32_1007
  let v925 : BitVec 1 := Scalar.ori v922 v924
  let v938 : BitVec 1 := Scalar.andi v937 v925
  let v946 : BitVec 32 := Scalar.extui v938
  let c0_i32_1037 : BitVec 32 := 0#32
  let v947 : BitVec 1 := Scalar.cmpi .ne v946 c0_i32_1037
  v947

def k0_off61 (d0 : Dev nD) : Fin 2 → Nat :=
  let c4_i32_1028 : BitVec 32 := 4#32
  let c3_i32_1027 : BitVec 32 := 3#32
  let c0_i32_1026 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v939 : BitVec 32 := Scalar.addi v8 c1_i32_1024
  let c0_i32_1025 : BitVec 32 := 0#32
  let v940 : BitVec 32 := Scalar.addi v939 c0_i32_1025
  let v941 : BitVec 32 := Scalar.maxsi c0_i32_1026 v940
  let v942 : BitVec 32 := Scalar.minsi c3_i32_1027 v941
  let v943 : BitVec 32 := Scalar.addi c4_i32_1028 v942
  let c256_i32_1029 : BitVec 32 := 256#32
  let v944 : BitVec 32 := Scalar.muli v943 c256_i32_1029
  let c2048_i32 : BitVec 32 := 2048#32
  ![v944.toNat, 2048]
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1038 : BitVec 32 := 1#32
  let v948 : BitVec 1 := Scalar.cmpi .sge v8 c1_i32_1038
  let c3_i32_1039 : BitVec 32 := 3#32
  let v949 : BitVec 1 := Scalar.cmpi .slt v8 c3_i32_1039
  let v950 : BitVec 1 := Scalar.andi v948 v949
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1004 : BitVec 32 := 0#32
  let v921 : BitVec 32 := Scalar.subi v5 c0_i32_1004
  let c1_i32_1005 : BitVec 32 := 1#32
  let v922 : BitVec 1 := Scalar.cmpi .eq v921 c1_i32_1005
  let c0_i32_1006 : BitVec 32 := 0#32
  let v923 : BitVec 32 := Scalar.addi v5 c0_i32_1006
  let c1_i32_1007 : BitVec 32 := 1#32
  let v924 : BitVec 1 := Scalar.cmpi .eq v923 c1_i32_1007
  let v925 : BitVec 1 := Scalar.ori v922 v924
  let v951 : BitVec 1 := Scalar.andi v950 v925
  let v958 : BitVec 32 := Scalar.extui v951
  let c0_i32_1052 : BitVec 32 := 0#32
  let v959 : BitVec 1 := Scalar.cmpi .ne v958 c0_i32_1052
  v959

def k0_off62 (d0 : Dev nD) : Fin 2 → Nat :=
  let c4_i32_1043 : BitVec 32 := 4#32
  let c3_i32_1042 : BitVec 32 := 3#32
  let c0_i32_1041 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v952 : BitVec 32 := Scalar.subi v8 c1_i32_1040
  let v953 : BitVec 32 := Scalar.maxsi c0_i32_1041 v952
  let v954 : BitVec 32 := Scalar.minsi c3_i32_1042 v953
  let v955 : BitVec 32 := Scalar.addi c4_i32_1043 v954
  let c256_i32_1044 : BitVec 32 := 256#32
  let v956 : BitVec 32 := Scalar.muli v955 c256_i32_1044
  let c2048_i32 : BitVec 32 := 2048#32
  ![v956.toNat, 2048]
def k0_dev54 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1045 : BitVec 32 := 1#32
  let v957 : BitVec 32 := Scalar.addi v8 c1_i32_1045
  let c1_i32_5493 : BitVec 32 := 1#32
  let v3948 : BitVec 32 := Scalar.muli v957 c1_i32_5493
  let v3949 : BitVec 32 := Scalar.addi v3947 v3948
  v3949.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1053 : BitVec 32 := 2#32
  let v960 : BitVec 1 := Scalar.cmpi .sle v8 c2_i32_1053
  let c0_i32_1054 : BitVec 32 := 0#32
  let v961 : BitVec 1 := Scalar.cmpi .sgt v8 c0_i32_1054
  let v962 : BitVec 1 := Scalar.andi v960 v961
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1004 : BitVec 32 := 0#32
  let v921 : BitVec 32 := Scalar.subi v5 c0_i32_1004
  let c1_i32_1005 : BitVec 32 := 1#32
  let v922 : BitVec 1 := Scalar.cmpi .eq v921 c1_i32_1005
  let c0_i32_1006 : BitVec 32 := 0#32
  let v923 : BitVec 32 := Scalar.addi v5 c0_i32_1006
  let c1_i32_1007 : BitVec 32 := 1#32
  let v924 : BitVec 1 := Scalar.cmpi .eq v923 c1_i32_1007
  let v925 : BitVec 1 := Scalar.ori v922 v924
  let v963 : BitVec 1 := Scalar.andi v962 v925
  let v970 : BitVec 32 := Scalar.extui v963
  let c0_i32_1067 : BitVec 32 := 0#32
  let v971 : BitVec 1 := Scalar.cmpi .ne v970 c0_i32_1067
  v971

def k0_off63 (d0 : Dev nD) : Fin 2 → Nat :=
  let c4_i32_1058 : BitVec 32 := 4#32
  let c3_i32_1057 : BitVec 32 := 3#32
  let c0_i32_1056 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1055 : BitVec 32 := 1#32
  let v964 : BitVec 32 := Scalar.addi v8 c1_i32_1055
  let v965 : BitVec 32 := Scalar.maxsi c0_i32_1056 v964
  let v966 : BitVec 32 := Scalar.minsi c3_i32_1057 v965
  let v967 : BitVec 32 := Scalar.addi c4_i32_1058 v966
  let c256_i32_1059 : BitVec 32 := 256#32
  let v968 : BitVec 32 := Scalar.muli v967 c256_i32_1059
  let c2048_i32 : BitVec 32 := 2048#32
  ![v968.toNat, 2048]
def k0_dev55 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1060 : BitVec 32 := 4294967295#32
  let v969 : BitVec 32 := Scalar.addi v8 c_m1_i32_1060
  let c1_i32_5493 : BitVec 32 := 1#32
  let v3948 : BitVec 32 := Scalar.muli v969 c1_i32_5493
  let v3949 : BitVec 32 := Scalar.addi v3947 v3948
  v3949.toNat
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1072 : BitVec 32 := 1#32
  let v977 : BitVec 1 := Scalar.cmpi .sge v5 c1_i32_1072
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1068 : BitVec 32 := 0#32
  let v972 : BitVec 32 := Scalar.subi v8 c0_i32_1068
  let c2_i32_1069 : BitVec 32 := 2#32
  let v973 : BitVec 1 := Scalar.cmpi .eq v972 c2_i32_1069
  let c0_i32_1070 : BitVec 32 := 0#32
  let v974 : BitVec 32 := Scalar.addi v8 c0_i32_1070
  let c2_i32_1071 : BitVec 32 := 2#32
  let v975 : BitVec 1 := Scalar.cmpi .eq v974 c2_i32_1071
  let v976 : BitVec 1 := Scalar.ori v973 v975
  let v978 : BitVec 1 := Scalar.andi v977 v976
  let v987 : BitVec 32 := Scalar.extui v978
  let c0_i32_1087 : BitVec 32 := 0#32
  let v988 : BitVec 1 := Scalar.cmpi .ne v987 c0_i32_1087
  v988

def k0_off64 (d0 : Dev nD) : Fin 2 → Nat :=
  let c4_i32_1077 : BitVec 32 := 4#32
  let c3_i32_1076 : BitVec 32 := 3#32
  let c0_i32_1075 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1073 : BitVec 32 := 1#32
  let v979 : BitVec 32 := Scalar.subi v5 c1_i32_1073
  let c0_i32_1074 : BitVec 32 := 0#32
  let v980 : BitVec 32 := Scalar.subi v979 c0_i32_1074
  let v981 : BitVec 32 := Scalar.maxsi c0_i32_1075 v980
  let v982 : BitVec 32 := Scalar.minsi c3_i32_1076 v981
  let v983 : BitVec 32 := Scalar.muli c4_i32_1077 v982
  let c2_i32_1078 : BitVec 32 := 2#32
  let v984 : BitVec 32 := Scalar.addi v983 c2_i32_1078
  let c256_i32_1079 : BitVec 32 := 256#32
  let v985 : BitVec 32 := Scalar.muli v984 c256_i32_1079
  let c0_i32_5494 : BitVec 32 := 0#32
  ![v985.toNat, 0]
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1088 : BitVec 32 := 2#32
  let v989 : BitVec 1 := Scalar.cmpi .sle v5 c2_i32_1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1068 : BitVec 32 := 0#32
  let v972 : BitVec 32 := Scalar.subi v8 c0_i32_1068
  let c2_i32_1069 : BitVec 32 := 2#32
  let v973 : BitVec 1 := Scalar.cmpi .eq v972 c2_i32_1069
  let c0_i32_1070 : BitVec 32 := 0#32
  let v974 : BitVec 32 := Scalar.addi v8 c0_i32_1070
  let c2_i32_1071 : BitVec 32 := 2#32
  let v975 : BitVec 1 := Scalar.cmpi .eq v974 c2_i32_1071
  let v976 : BitVec 1 := Scalar.ori v973 v975
  let v990 : BitVec 1 := Scalar.andi v989 v976
  let v999 : BitVec 32 := Scalar.extui v990
  let c0_i32_1103 : BitVec 32 := 0#32
  let v1000 : BitVec 1 := Scalar.cmpi .ne v999 c0_i32_1103
  v1000

def k0_off65 (d0 : Dev nD) : Fin 2 → Nat :=
  let c4_i32_1093 : BitVec 32 := 4#32
  let c3_i32_1092 : BitVec 32 := 3#32
  let c0_i32_1091 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1089 : BitVec 32 := 1#32
  let v991 : BitVec 32 := Scalar.addi v5 c1_i32_1089
  let c0_i32_1090 : BitVec 32 := 0#32
  let v992 : BitVec 32 := Scalar.addi v991 c0_i32_1090
  let v993 : BitVec 32 := Scalar.maxsi c0_i32_1091 v992
  let v994 : BitVec 32 := Scalar.minsi c3_i32_1092 v993
  let v995 : BitVec 32 := Scalar.muli c4_i32_1093 v994
  let c2_i32_1094 : BitVec 32 := 2#32
  let v996 : BitVec 32 := Scalar.addi v995 c2_i32_1094
  let c256_i32_1095 : BitVec 32 := 256#32
  let v997 : BitVec 32 := Scalar.muli v996 c256_i32_1095
  let c0_i32_5494 : BitVec 32 := 0#32
  ![v997.toNat, 0]
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1104 : BitVec 32 := 1#32
  let v1001 : BitVec 1 := Scalar.cmpi .sge v5 c1_i32_1104
  let c3_i32_1105 : BitVec 32 := 3#32
  let v1002 : BitVec 1 := Scalar.cmpi .slt v5 c3_i32_1105
  let v1003 : BitVec 1 := Scalar.andi v1001 v1002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1068 : BitVec 32 := 0#32
  let v972 : BitVec 32 := Scalar.subi v8 c0_i32_1068
  let c2_i32_1069 : BitVec 32 := 2#32
  let v973 : BitVec 1 := Scalar.cmpi .eq v972 c2_i32_1069
  let c0_i32_1070 : BitVec 32 := 0#32
  let v974 : BitVec 32 := Scalar.addi v8 c0_i32_1070
  let c2_i32_1071 : BitVec 32 := 2#32
  let v975 : BitVec 1 := Scalar.cmpi .eq v974 c2_i32_1071
  let v976 : BitVec 1 := Scalar.ori v973 v975
  let v1004 : BitVec 1 := Scalar.andi v1003 v976
  let v1012 : BitVec 32 := Scalar.extui v1004
  let c0_i32_1119 : BitVec 32 := 0#32
  let v1013 : BitVec 1 := Scalar.cmpi .ne v1012 c0_i32_1119
  v1013

def k0_off66 (d0 : Dev nD) : Fin 2 → Nat :=
  let c4_i32_1109 : BitVec 32 := 4#32
  let c3_i32_1108 : BitVec 32 := 3#32
  let c0_i32_1107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1106 : BitVec 32 := 1#32
  let v1005 : BitVec 32 := Scalar.subi v5 c1_i32_1106
  let v1006 : BitVec 32 := Scalar.maxsi c0_i32_1107 v1005
  let v1007 : BitVec 32 := Scalar.minsi c3_i32_1108 v1006
  let v1008 : BitVec 32 := Scalar.muli c4_i32_1109 v1007
  let c2_i32_1110 : BitVec 32 := 2#32
  let v1009 : BitVec 32 := Scalar.addi v1008 c2_i32_1110
  let c256_i32_1111 : BitVec 32 := 256#32
  let v1010 : BitVec 32 := Scalar.muli v1009 c256_i32_1111
  let c0_i32_5494 : BitVec 32 := 0#32
  ![v1010.toNat, 0]
def k0_dev56 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1112 : BitVec 32 := 1#32
  let v1011 : BitVec 32 := Scalar.addi v5 c1_i32_1112
  let c4_i32_5492 : BitVec 32 := 4#32
  let v3946 : BitVec 32 := Scalar.muli v1011 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1120 : BitVec 32 := 2#32
  let v1014 : BitVec 1 := Scalar.cmpi .sle v5 c2_i32_1120
  let c0_i32_1121 : BitVec 32 := 0#32
  let v1015 : BitVec 1 := Scalar.cmpi .sgt v5 c0_i32_1121
  let v1016 : BitVec 1 := Scalar.andi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1068 : BitVec 32 := 0#32
  let v972 : BitVec 32 := Scalar.subi v8 c0_i32_1068
  let c2_i32_1069 : BitVec 32 := 2#32
  let v973 : BitVec 1 := Scalar.cmpi .eq v972 c2_i32_1069
  let c0_i32_1070 : BitVec 32 := 0#32
  let v974 : BitVec 32 := Scalar.addi v8 c0_i32_1070
  let c2_i32_1071 : BitVec 32 := 2#32
  let v975 : BitVec 1 := Scalar.cmpi .eq v974 c2_i32_1071
  let v976 : BitVec 1 := Scalar.ori v973 v975
  let v1017 : BitVec 1 := Scalar.andi v1016 v976
  let v1025 : BitVec 32 := Scalar.extui v1017
  let c0_i32_1135 : BitVec 32 := 0#32
  let v1026 : BitVec 1 := Scalar.cmpi .ne v1025 c0_i32_1135
  v1026

def k0_off67 (d0 : Dev nD) : Fin 2 → Nat :=
  let c4_i32_1125 : BitVec 32 := 4#32
  let c3_i32_1124 : BitVec 32 := 3#32
  let c0_i32_1123 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1122 : BitVec 32 := 1#32
  let v1018 : BitVec 32 := Scalar.addi v5 c1_i32_1122
  let v1019 : BitVec 32 := Scalar.maxsi c0_i32_1123 v1018
  let v1020 : BitVec 32 := Scalar.minsi c3_i32_1124 v1019
  let v1021 : BitVec 32 := Scalar.muli c4_i32_1125 v1020
  let c2_i32_1126 : BitVec 32 := 2#32
  let v1022 : BitVec 32 := Scalar.addi v1021 c2_i32_1126
  let c256_i32_1127 : BitVec 32 := 256#32
  let v1023 : BitVec 32 := Scalar.muli v1022 c256_i32_1127
  let c0_i32_5494 : BitVec 32 := 0#32
  ![v1023.toNat, 0]
def k0_dev57 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1128 : BitVec 32 := 4294967295#32
  let v1024 : BitVec 32 := Scalar.addi v5 c_m1_i32_1128
  let c4_i32_5492 : BitVec 32 := 4#32
  let v3946 : BitVec 32 := Scalar.muli v1024 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1140 : BitVec 32 := 1#32
  let v1032 : BitVec 1 := Scalar.cmpi .sge v8 c1_i32_1140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1136 : BitVec 32 := 0#32
  let v1027 : BitVec 32 := Scalar.subi v5 c0_i32_1136
  let c2_i32_1137 : BitVec 32 := 2#32
  let v1028 : BitVec 1 := Scalar.cmpi .eq v1027 c2_i32_1137
  let c0_i32_1138 : BitVec 32 := 0#32
  let v1029 : BitVec 32 := Scalar.addi v5 c0_i32_1138
  let c2_i32_1139 : BitVec 32 := 2#32
  let v1030 : BitVec 1 := Scalar.cmpi .eq v1029 c2_i32_1139
  let v1031 : BitVec 1 := Scalar.ori v1028 v1030
  let v1033 : BitVec 1 := Scalar.andi v1032 v1031
  let v1041 : BitVec 32 := Scalar.extui v1033
  let c0_i32_1154 : BitVec 32 := 0#32
  let v1042 : BitVec 1 := Scalar.cmpi .ne v1041 c0_i32_1154
  v1042

def k0_off68 (d0 : Dev nD) : Fin 2 → Nat :=
  let c8_i32_1145 : BitVec 32 := 8#32
  let c3_i32_1144 : BitVec 32 := 3#32
  let c0_i32_1143 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1141 : BitVec 32 := 1#32
  let v1034 : BitVec 32 := Scalar.subi v8 c1_i32_1141
  let c0_i32_1142 : BitVec 32 := 0#32
  let v1035 : BitVec 32 := Scalar.subi v1034 c0_i32_1142
  let v1036 : BitVec 32 := Scalar.maxsi c0_i32_1143 v1035
  let v1037 : BitVec 32 := Scalar.minsi c3_i32_1144 v1036
  let v1038 : BitVec 32 := Scalar.addi c8_i32_1145 v1037
  let c256_i32_1146 : BitVec 32 := 256#32
  let v1039 : BitVec 32 := Scalar.muli v1038 c256_i32_1146
  let c2048_i32 : BitVec 32 := 2048#32
  ![v1039.toNat, 2048]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1155 : BitVec 32 := 2#32
  let v1043 : BitVec 1 := Scalar.cmpi .sle v8 c2_i32_1155
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1136 : BitVec 32 := 0#32
  let v1027 : BitVec 32 := Scalar.subi v5 c0_i32_1136
  let c2_i32_1137 : BitVec 32 := 2#32
  let v1028 : BitVec 1 := Scalar.cmpi .eq v1027 c2_i32_1137
  let c0_i32_1138 : BitVec 32 := 0#32
  let v1029 : BitVec 32 := Scalar.addi v5 c0_i32_1138
  let c2_i32_1139 : BitVec 32 := 2#32
  let v1030 : BitVec 1 := Scalar.cmpi .eq v1029 c2_i32_1139
  let v1031 : BitVec 1 := Scalar.ori v1028 v1030
  let v1044 : BitVec 1 := Scalar.andi v1043 v1031
  let v1052 : BitVec 32 := Scalar.extui v1044
  let c0_i32_1169 : BitVec 32 := 0#32
  let v1053 : BitVec 1 := Scalar.cmpi .ne v1052 c0_i32_1169
  v1053

def k0_off69 (d0 : Dev nD) : Fin 2 → Nat :=
  let c8_i32_1160 : BitVec 32 := 8#32
  let c3_i32_1159 : BitVec 32 := 3#32
  let c0_i32_1158 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1156 : BitVec 32 := 1#32
  let v1045 : BitVec 32 := Scalar.addi v8 c1_i32_1156
  let c0_i32_1157 : BitVec 32 := 0#32
  let v1046 : BitVec 32 := Scalar.addi v1045 c0_i32_1157
  let v1047 : BitVec 32 := Scalar.maxsi c0_i32_1158 v1046
  let v1048 : BitVec 32 := Scalar.minsi c3_i32_1159 v1047
  let v1049 : BitVec 32 := Scalar.addi c8_i32_1160 v1048
  let c256_i32_1161 : BitVec 32 := 256#32
  let v1050 : BitVec 32 := Scalar.muli v1049 c256_i32_1161
  let c2048_i32 : BitVec 32 := 2048#32
  ![v1050.toNat, 2048]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1170 : BitVec 32 := 1#32
  let v1054 : BitVec 1 := Scalar.cmpi .sge v8 c1_i32_1170
  let c3_i32_1171 : BitVec 32 := 3#32
  let v1055 : BitVec 1 := Scalar.cmpi .slt v8 c3_i32_1171
  let v1056 : BitVec 1 := Scalar.andi v1054 v1055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1136 : BitVec 32 := 0#32
  let v1027 : BitVec 32 := Scalar.subi v5 c0_i32_1136
  let c2_i32_1137 : BitVec 32 := 2#32
  let v1028 : BitVec 1 := Scalar.cmpi .eq v1027 c2_i32_1137
  let c0_i32_1138 : BitVec 32 := 0#32
  let v1029 : BitVec 32 := Scalar.addi v5 c0_i32_1138
  let c2_i32_1139 : BitVec 32 := 2#32
  let v1030 : BitVec 1 := Scalar.cmpi .eq v1029 c2_i32_1139
  let v1031 : BitVec 1 := Scalar.ori v1028 v1030
  let v1057 : BitVec 1 := Scalar.andi v1056 v1031
  let v1064 : BitVec 32 := Scalar.extui v1057
  let c0_i32_1184 : BitVec 32 := 0#32
  let v1065 : BitVec 1 := Scalar.cmpi .ne v1064 c0_i32_1184
  v1065

def k0_off70 (d0 : Dev nD) : Fin 2 → Nat :=
  let c8_i32_1175 : BitVec 32 := 8#32
  let c3_i32_1174 : BitVec 32 := 3#32
  let c0_i32_1173 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1172 : BitVec 32 := 1#32
  let v1058 : BitVec 32 := Scalar.subi v8 c1_i32_1172
  let v1059 : BitVec 32 := Scalar.maxsi c0_i32_1173 v1058
  let v1060 : BitVec 32 := Scalar.minsi c3_i32_1174 v1059
  let v1061 : BitVec 32 := Scalar.addi c8_i32_1175 v1060
  let c256_i32_1176 : BitVec 32 := 256#32
  let v1062 : BitVec 32 := Scalar.muli v1061 c256_i32_1176
  let c2048_i32 : BitVec 32 := 2048#32
  ![v1062.toNat, 2048]
def k0_dev58 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1177 : BitVec 32 := 1#32
  let v1063 : BitVec 32 := Scalar.addi v8 c1_i32_1177
  let c1_i32_5493 : BitVec 32 := 1#32
  let v3948 : BitVec 32 := Scalar.muli v1063 c1_i32_5493
  let v3949 : BitVec 32 := Scalar.addi v3947 v3948
  v3949.toNat
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1185 : BitVec 32 := 2#32
  let v1066 : BitVec 1 := Scalar.cmpi .sle v8 c2_i32_1185
  let c0_i32_1186 : BitVec 32 := 0#32
  let v1067 : BitVec 1 := Scalar.cmpi .sgt v8 c0_i32_1186
  let v1068 : BitVec 1 := Scalar.andi v1066 v1067
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1136 : BitVec 32 := 0#32
  let v1027 : BitVec 32 := Scalar.subi v5 c0_i32_1136
  let c2_i32_1137 : BitVec 32 := 2#32
  let v1028 : BitVec 1 := Scalar.cmpi .eq v1027 c2_i32_1137
  let c0_i32_1138 : BitVec 32 := 0#32
  let v1029 : BitVec 32 := Scalar.addi v5 c0_i32_1138
  let c2_i32_1139 : BitVec 32 := 2#32
  let v1030 : BitVec 1 := Scalar.cmpi .eq v1029 c2_i32_1139
  let v1031 : BitVec 1 := Scalar.ori v1028 v1030
  let v1069 : BitVec 1 := Scalar.andi v1068 v1031
  let v1076 : BitVec 32 := Scalar.extui v1069
  let c0_i32_1199 : BitVec 32 := 0#32
  let v1077 : BitVec 1 := Scalar.cmpi .ne v1076 c0_i32_1199
  v1077

def k0_off71 (d0 : Dev nD) : Fin 2 → Nat :=
  let c8_i32_1190 : BitVec 32 := 8#32
  let c3_i32_1189 : BitVec 32 := 3#32
  let c0_i32_1188 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1187 : BitVec 32 := 1#32
  let v1070 : BitVec 32 := Scalar.addi v8 c1_i32_1187
  let v1071 : BitVec 32 := Scalar.maxsi c0_i32_1188 v1070
  let v1072 : BitVec 32 := Scalar.minsi c3_i32_1189 v1071
  let v1073 : BitVec 32 := Scalar.addi c8_i32_1190 v1072
  let c256_i32_1191 : BitVec 32 := 256#32
  let v1074 : BitVec 32 := Scalar.muli v1073 c256_i32_1191
  let c2048_i32 : BitVec 32 := 2048#32
  ![v1074.toNat, 2048]
def k0_dev59 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1192 : BitVec 32 := 4294967295#32
  let v1075 : BitVec 32 := Scalar.addi v8 c_m1_i32_1192
  let c1_i32_5493 : BitVec 32 := 1#32
  let v3948 : BitVec 32 := Scalar.muli v1075 c1_i32_5493
  let v3949 : BitVec 32 := Scalar.addi v3947 v3948
  v3949.toNat
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1204 : BitVec 32 := 1#32
  let v1083 : BitVec 1 := Scalar.cmpi .sge v5 c1_i32_1204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1200 : BitVec 32 := 0#32
  let v1078 : BitVec 32 := Scalar.subi v8 c0_i32_1200
  let c3_i32_1201 : BitVec 32 := 3#32
  let v1079 : BitVec 1 := Scalar.cmpi .eq v1078 c3_i32_1201
  let c0_i32_1202 : BitVec 32 := 0#32
  let v1080 : BitVec 32 := Scalar.addi v8 c0_i32_1202
  let c3_i32_1203 : BitVec 32 := 3#32
  let v1081 : BitVec 1 := Scalar.cmpi .eq v1080 c3_i32_1203
  let v1082 : BitVec 1 := Scalar.ori v1079 v1081
  let v1084 : BitVec 1 := Scalar.andi v1083 v1082
  let v1093 : BitVec 32 := Scalar.extui v1084
  let c0_i32_1219 : BitVec 32 := 0#32
  let v1094 : BitVec 1 := Scalar.cmpi .ne v1093 c0_i32_1219
  v1094

def k0_off72 (d0 : Dev nD) : Fin 2 → Nat :=
  let c4_i32_1209 : BitVec 32 := 4#32
  let c3_i32_1208 : BitVec 32 := 3#32
  let c0_i32_1207 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1205 : BitVec 32 := 1#32
  let v1085 : BitVec 32 := Scalar.subi v5 c1_i32_1205
  let c0_i32_1206 : BitVec 32 := 0#32
  let v1086 : BitVec 32 := Scalar.subi v1085 c0_i32_1206
  let v1087 : BitVec 32 := Scalar.maxsi c0_i32_1207 v1086
  let v1088 : BitVec 32 := Scalar.minsi c3_i32_1208 v1087
  let v1089 : BitVec 32 := Scalar.muli c4_i32_1209 v1088
  let c3_i32_1210 : BitVec 32 := 3#32
  let v1090 : BitVec 32 := Scalar.addi v1089 c3_i32_1210
  let c256_i32_1211 : BitVec 32 := 256#32
  let v1091 : BitVec 32 := Scalar.muli v1090 c256_i32_1211
  let c0_i32_5494 : BitVec 32 := 0#32
  ![v1091.toNat, 0]
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1220 : BitVec 32 := 2#32
  let v1095 : BitVec 1 := Scalar.cmpi .sle v5 c2_i32_1220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1200 : BitVec 32 := 0#32
  let v1078 : BitVec 32 := Scalar.subi v8 c0_i32_1200
  let c3_i32_1201 : BitVec 32 := 3#32
  let v1079 : BitVec 1 := Scalar.cmpi .eq v1078 c3_i32_1201
  let c0_i32_1202 : BitVec 32 := 0#32
  let v1080 : BitVec 32 := Scalar.addi v8 c0_i32_1202
  let c3_i32_1203 : BitVec 32 := 3#32
  let v1081 : BitVec 1 := Scalar.cmpi .eq v1080 c3_i32_1203
  let v1082 : BitVec 1 := Scalar.ori v1079 v1081
  let v1096 : BitVec 1 := Scalar.andi v1095 v1082
  let v1105 : BitVec 32 := Scalar.extui v1096
  let c0_i32_1235 : BitVec 32 := 0#32
  let v1106 : BitVec 1 := Scalar.cmpi .ne v1105 c0_i32_1235
  v1106

def k0_off73 (d0 : Dev nD) : Fin 2 → Nat :=
  let c4_i32_1225 : BitVec 32 := 4#32
  let c3_i32_1224 : BitVec 32 := 3#32
  let c0_i32_1223 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1221 : BitVec 32 := 1#32
  let v1097 : BitVec 32 := Scalar.addi v5 c1_i32_1221
  let c0_i32_1222 : BitVec 32 := 0#32
  let v1098 : BitVec 32 := Scalar.addi v1097 c0_i32_1222
  let v1099 : BitVec 32 := Scalar.maxsi c0_i32_1223 v1098
  let v1100 : BitVec 32 := Scalar.minsi c3_i32_1224 v1099
  let v1101 : BitVec 32 := Scalar.muli c4_i32_1225 v1100
  let c3_i32_1226 : BitVec 32 := 3#32
  let v1102 : BitVec 32 := Scalar.addi v1101 c3_i32_1226
  let c256_i32_1227 : BitVec 32 := 256#32
  let v1103 : BitVec 32 := Scalar.muli v1102 c256_i32_1227
  let c0_i32_5494 : BitVec 32 := 0#32
  ![v1103.toNat, 0]
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1236 : BitVec 32 := 1#32
  let v1107 : BitVec 1 := Scalar.cmpi .sge v5 c1_i32_1236
  let c3_i32_1237 : BitVec 32 := 3#32
  let v1108 : BitVec 1 := Scalar.cmpi .slt v5 c3_i32_1237
  let v1109 : BitVec 1 := Scalar.andi v1107 v1108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1200 : BitVec 32 := 0#32
  let v1078 : BitVec 32 := Scalar.subi v8 c0_i32_1200
  let c3_i32_1201 : BitVec 32 := 3#32
  let v1079 : BitVec 1 := Scalar.cmpi .eq v1078 c3_i32_1201
  let c0_i32_1202 : BitVec 32 := 0#32
  let v1080 : BitVec 32 := Scalar.addi v8 c0_i32_1202
  let c3_i32_1203 : BitVec 32 := 3#32
  let v1081 : BitVec 1 := Scalar.cmpi .eq v1080 c3_i32_1203
  let v1082 : BitVec 1 := Scalar.ori v1079 v1081
  let v1110 : BitVec 1 := Scalar.andi v1109 v1082
  let v1118 : BitVec 32 := Scalar.extui v1110
  let c0_i32_1251 : BitVec 32 := 0#32
  let v1119 : BitVec 1 := Scalar.cmpi .ne v1118 c0_i32_1251
  v1119

def k0_off74 (d0 : Dev nD) : Fin 2 → Nat :=
  let c4_i32_1241 : BitVec 32 := 4#32
  let c3_i32_1240 : BitVec 32 := 3#32
  let c0_i32_1239 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1238 : BitVec 32 := 1#32
  let v1111 : BitVec 32 := Scalar.subi v5 c1_i32_1238
  let v1112 : BitVec 32 := Scalar.maxsi c0_i32_1239 v1111
  let v1113 : BitVec 32 := Scalar.minsi c3_i32_1240 v1112
  let v1114 : BitVec 32 := Scalar.muli c4_i32_1241 v1113
  let c3_i32_1242 : BitVec 32 := 3#32
  let v1115 : BitVec 32 := Scalar.addi v1114 c3_i32_1242
  let c256_i32_1243 : BitVec 32 := 256#32
  let v1116 : BitVec 32 := Scalar.muli v1115 c256_i32_1243
  let c0_i32_5494 : BitVec 32 := 0#32
  ![v1116.toNat, 0]
def k0_dev60 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1244 : BitVec 32 := 1#32
  let v1117 : BitVec 32 := Scalar.addi v5 c1_i32_1244
  let c4_i32_5492 : BitVec 32 := 4#32
  let v3946 : BitVec 32 := Scalar.muli v1117 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1252 : BitVec 32 := 2#32
  let v1120 : BitVec 1 := Scalar.cmpi .sle v5 c2_i32_1252
  let c0_i32_1253 : BitVec 32 := 0#32
  let v1121 : BitVec 1 := Scalar.cmpi .sgt v5 c0_i32_1253
  let v1122 : BitVec 1 := Scalar.andi v1120 v1121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1200 : BitVec 32 := 0#32
  let v1078 : BitVec 32 := Scalar.subi v8 c0_i32_1200
  let c3_i32_1201 : BitVec 32 := 3#32
  let v1079 : BitVec 1 := Scalar.cmpi .eq v1078 c3_i32_1201
  let c0_i32_1202 : BitVec 32 := 0#32
  let v1080 : BitVec 32 := Scalar.addi v8 c0_i32_1202
  let c3_i32_1203 : BitVec 32 := 3#32
  let v1081 : BitVec 1 := Scalar.cmpi .eq v1080 c3_i32_1203
  let v1082 : BitVec 1 := Scalar.ori v1079 v1081
  let v1123 : BitVec 1 := Scalar.andi v1122 v1082
  let v1131 : BitVec 32 := Scalar.extui v1123
  let c0_i32_1267 : BitVec 32 := 0#32
  let v1132 : BitVec 1 := Scalar.cmpi .ne v1131 c0_i32_1267
  v1132

def k0_off75 (d0 : Dev nD) : Fin 2 → Nat :=
  let c4_i32_1257 : BitVec 32 := 4#32
  let c3_i32_1256 : BitVec 32 := 3#32
  let c0_i32_1255 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1254 : BitVec 32 := 1#32
  let v1124 : BitVec 32 := Scalar.addi v5 c1_i32_1254
  let v1125 : BitVec 32 := Scalar.maxsi c0_i32_1255 v1124
  let v1126 : BitVec 32 := Scalar.minsi c3_i32_1256 v1125
  let v1127 : BitVec 32 := Scalar.muli c4_i32_1257 v1126
  let c3_i32_1258 : BitVec 32 := 3#32
  let v1128 : BitVec 32 := Scalar.addi v1127 c3_i32_1258
  let c256_i32_1259 : BitVec 32 := 256#32
  let v1129 : BitVec 32 := Scalar.muli v1128 c256_i32_1259
  let c0_i32_5494 : BitVec 32 := 0#32
  ![v1129.toNat, 0]
def k0_dev61 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1260 : BitVec 32 := 4294967295#32
  let v1130 : BitVec 32 := Scalar.addi v5 c_m1_i32_1260
  let c4_i32_5492 : BitVec 32 := 4#32
  let v3946 : BitVec 32 := Scalar.muli v1130 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1138 : BitVec 1 := Scalar.cmpi .sge v8 c1_i32_1272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1268 : BitVec 32 := 0#32
  let v1133 : BitVec 32 := Scalar.subi v5 c0_i32_1268
  let c3_i32_1269 : BitVec 32 := 3#32
  let v1134 : BitVec 1 := Scalar.cmpi .eq v1133 c3_i32_1269
  let c0_i32_1270 : BitVec 32 := 0#32
  let v1135 : BitVec 32 := Scalar.addi v5 c0_i32_1270
  let c3_i32_1271 : BitVec 32 := 3#32
  let v1136 : BitVec 1 := Scalar.cmpi .eq v1135 c3_i32_1271
  let v1137 : BitVec 1 := Scalar.ori v1134 v1136
  let v1139 : BitVec 1 := Scalar.andi v1138 v1137
  let v1147 : BitVec 32 := Scalar.extui v1139
  let c0_i32_1286 : BitVec 32 := 0#32
  let v1148 : BitVec 1 := Scalar.cmpi .ne v1147 c0_i32_1286
  v1148

def k0_off76 (d0 : Dev nD) : Fin 2 → Nat :=
  let c12_i32_1277 : BitVec 32 := 12#32
  let c3_i32_1276 : BitVec 32 := 3#32
  let c0_i32_1275 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1273 : BitVec 32 := 1#32
  let v1140 : BitVec 32 := Scalar.subi v8 c1_i32_1273
  let c0_i32_1274 : BitVec 32 := 0#32
  let v1141 : BitVec 32 := Scalar.subi v1140 c0_i32_1274
  let v1142 : BitVec 32 := Scalar.maxsi c0_i32_1275 v1141
  let v1143 : BitVec 32 := Scalar.minsi c3_i32_1276 v1142
  let v1144 : BitVec 32 := Scalar.addi c12_i32_1277 v1143
  let c256_i32_1278 : BitVec 32 := 256#32
  let v1145 : BitVec 32 := Scalar.muli v1144 c256_i32_1278
  let c2048_i32 : BitVec 32 := 2048#32
  ![v1145.toNat, 2048]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1287 : BitVec 32 := 2#32
  let v1149 : BitVec 1 := Scalar.cmpi .sle v8 c2_i32_1287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1268 : BitVec 32 := 0#32
  let v1133 : BitVec 32 := Scalar.subi v5 c0_i32_1268
  let c3_i32_1269 : BitVec 32 := 3#32
  let v1134 : BitVec 1 := Scalar.cmpi .eq v1133 c3_i32_1269
  let c0_i32_1270 : BitVec 32 := 0#32
  let v1135 : BitVec 32 := Scalar.addi v5 c0_i32_1270
  let c3_i32_1271 : BitVec 32 := 3#32
  let v1136 : BitVec 1 := Scalar.cmpi .eq v1135 c3_i32_1271
  let v1137 : BitVec 1 := Scalar.ori v1134 v1136
  let v1150 : BitVec 1 := Scalar.andi v1149 v1137
  let v1158 : BitVec 32 := Scalar.extui v1150
  let c0_i32_1301 : BitVec 32 := 0#32
  let v1159 : BitVec 1 := Scalar.cmpi .ne v1158 c0_i32_1301
  v1159

def k0_off77 (d0 : Dev nD) : Fin 2 → Nat :=
  let c12_i32_1292 : BitVec 32 := 12#32
  let c3_i32_1291 : BitVec 32 := 3#32
  let c0_i32_1290 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1288 : BitVec 32 := 1#32
  let v1151 : BitVec 32 := Scalar.addi v8 c1_i32_1288
  let c0_i32_1289 : BitVec 32 := 0#32
  let v1152 : BitVec 32 := Scalar.addi v1151 c0_i32_1289
  let v1153 : BitVec 32 := Scalar.maxsi c0_i32_1290 v1152
  let v1154 : BitVec 32 := Scalar.minsi c3_i32_1291 v1153
  let v1155 : BitVec 32 := Scalar.addi c12_i32_1292 v1154
  let c256_i32_1293 : BitVec 32 := 256#32
  let v1156 : BitVec 32 := Scalar.muli v1155 c256_i32_1293
  let c2048_i32 : BitVec 32 := 2048#32
  ![v1156.toNat, 2048]
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1302 : BitVec 32 := 1#32
  let v1160 : BitVec 1 := Scalar.cmpi .sge v8 c1_i32_1302
  let c3_i32_1303 : BitVec 32 := 3#32
  let v1161 : BitVec 1 := Scalar.cmpi .slt v8 c3_i32_1303
  let v1162 : BitVec 1 := Scalar.andi v1160 v1161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1268 : BitVec 32 := 0#32
  let v1133 : BitVec 32 := Scalar.subi v5 c0_i32_1268
  let c3_i32_1269 : BitVec 32 := 3#32
  let v1134 : BitVec 1 := Scalar.cmpi .eq v1133 c3_i32_1269
  let c0_i32_1270 : BitVec 32 := 0#32
  let v1135 : BitVec 32 := Scalar.addi v5 c0_i32_1270
  let c3_i32_1271 : BitVec 32 := 3#32
  let v1136 : BitVec 1 := Scalar.cmpi .eq v1135 c3_i32_1271
  let v1137 : BitVec 1 := Scalar.ori v1134 v1136
  let v1163 : BitVec 1 := Scalar.andi v1162 v1137
  let v1170 : BitVec 32 := Scalar.extui v1163
  let c0_i32_1316 : BitVec 32 := 0#32
  let v1171 : BitVec 1 := Scalar.cmpi .ne v1170 c0_i32_1316
  v1171

def k0_off78 (d0 : Dev nD) : Fin 2 → Nat :=
  let c12_i32_1307 : BitVec 32 := 12#32
  let c3_i32_1306 : BitVec 32 := 3#32
  let c0_i32_1305 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1304 : BitVec 32 := 1#32
  let v1164 : BitVec 32 := Scalar.subi v8 c1_i32_1304
  let v1165 : BitVec 32 := Scalar.maxsi c0_i32_1305 v1164
  let v1166 : BitVec 32 := Scalar.minsi c3_i32_1306 v1165
  let v1167 : BitVec 32 := Scalar.addi c12_i32_1307 v1166
  let c256_i32_1308 : BitVec 32 := 256#32
  let v1168 : BitVec 32 := Scalar.muli v1167 c256_i32_1308
  let c2048_i32 : BitVec 32 := 2048#32
  ![v1168.toNat, 2048]
def k0_dev62 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1309 : BitVec 32 := 1#32
  let v1169 : BitVec 32 := Scalar.addi v8 c1_i32_1309
  let c1_i32_5493 : BitVec 32 := 1#32
  let v3948 : BitVec 32 := Scalar.muli v1169 c1_i32_5493
  let v3949 : BitVec 32 := Scalar.addi v3947 v3948
  v3949.toNat
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1317 : BitVec 32 := 2#32
  let v1172 : BitVec 1 := Scalar.cmpi .sle v8 c2_i32_1317
  let c0_i32_1318 : BitVec 32 := 0#32
  let v1173 : BitVec 1 := Scalar.cmpi .sgt v8 c0_i32_1318
  let v1174 : BitVec 1 := Scalar.andi v1172 v1173
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1268 : BitVec 32 := 0#32
  let v1133 : BitVec 32 := Scalar.subi v5 c0_i32_1268
  let c3_i32_1269 : BitVec 32 := 3#32
  let v1134 : BitVec 1 := Scalar.cmpi .eq v1133 c3_i32_1269
  let c0_i32_1270 : BitVec 32 := 0#32
  let v1135 : BitVec 32 := Scalar.addi v5 c0_i32_1270
  let c3_i32_1271 : BitVec 32 := 3#32
  let v1136 : BitVec 1 := Scalar.cmpi .eq v1135 c3_i32_1271
  let v1137 : BitVec 1 := Scalar.ori v1134 v1136
  let v1175 : BitVec 1 := Scalar.andi v1174 v1137
  let v1182 : BitVec 32 := Scalar.extui v1175
  let c0_i32_1331 : BitVec 32 := 0#32
  let v1183 : BitVec 1 := Scalar.cmpi .ne v1182 c0_i32_1331
  v1183

def k0_off79 (d0 : Dev nD) : Fin 2 → Nat :=
  let c12_i32_1322 : BitVec 32 := 12#32
  let c3_i32_1321 : BitVec 32 := 3#32
  let c0_i32_1320 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1319 : BitVec 32 := 1#32
  let v1176 : BitVec 32 := Scalar.addi v8 c1_i32_1319
  let v1177 : BitVec 32 := Scalar.maxsi c0_i32_1320 v1176
  let v1178 : BitVec 32 := Scalar.minsi c3_i32_1321 v1177
  let v1179 : BitVec 32 := Scalar.addi c12_i32_1322 v1178
  let c256_i32_1323 : BitVec 32 := 256#32
  let v1180 : BitVec 32 := Scalar.muli v1179 c256_i32_1323
  let c2048_i32 : BitVec 32 := 2048#32
  ![v1180.toNat, 2048]
def k0_dev63 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1324 : BitVec 32 := 4294967295#32
  let v1181 : BitVec 32 := Scalar.addi v8 c_m1_i32_1324
  let c1_i32_5493 : BitVec 32 := 1#32
  let v3948 : BitVec 32 := Scalar.muli v1181 c1_i32_5493
  let v3949 : BitVec 32 := Scalar.addi v3947 v3948
  v3949.toNat
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1332 : BitVec 32 := 2#32
  let v1184 : BitVec 1 := Scalar.cmpi .sge v8 c2_i32_1332
  let v1193 : BitVec 32 := Scalar.extui v1184
  let c0_i32_1344 : BitVec 32 := 0#32
  let v1194 : BitVec 1 := Scalar.cmpi .ne v1193 c0_i32_1344
  v1194

def k0_off80 (d0 : Dev nD) : Fin 2 → Nat :=
  let c4_i32_1337 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1189 : BitVec 32 := Scalar.muli c4_i32_1337 v5
  let c3_i32_1336 : BitVec 32 := 3#32
  let c0_i32_1335 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1333 : BitVec 32 := 1#32
  let v1185 : BitVec 32 := Scalar.subi v8 c1_i32_1333
  let c1_i32_1334 : BitVec 32 := 1#32
  let v1186 : BitVec 32 := Scalar.subi v1185 c1_i32_1334
  let v1187 : BitVec 32 := Scalar.maxsi c0_i32_1335 v1186
  let v1188 : BitVec 32 := Scalar.minsi c3_i32_1336 v1187
  let v1190 : BitVec 32 := Scalar.addi v1189 v1188
  let c256_i32_1338 : BitVec 32 := 256#32
  let v1191 : BitVec 32 := Scalar.muli v1190 c256_i32_1338
  let c0_i32_5494 : BitVec 32 := 0#32
  ![v1191.toNat, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1345 : BitVec 32 := 1#32
  let v1195 : BitVec 1 := Scalar.cmpi .sle v8 c1_i32_1345
  let v1204 : BitVec 32 := Scalar.extui v1195
  let c0_i32_1357 : BitVec 32 := 0#32
  let v1205 : BitVec 1 := Scalar.cmpi .ne v1204 c0_i32_1357
  v1205

def k0_off81 (d0 : Dev nD) : Fin 2 → Nat :=
  let c4_i32_1350 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1200 : BitVec 32 := Scalar.muli c4_i32_1350 v5
  let c3_i32_1349 : BitVec 32 := 3#32
  let c0_i32_1348 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1346 : BitVec 32 := 1#32
  let v1196 : BitVec 32 := Scalar.addi v8 c1_i32_1346
  let c1_i32_1347 : BitVec 32 := 1#32
  let v1197 : BitVec 32 := Scalar.addi v1196 c1_i32_1347
  let v1198 : BitVec 32 := Scalar.maxsi c0_i32_1348 v1197
  let v1199 : BitVec 32 := Scalar.minsi c3_i32_1349 v1198
  let v1201 : BitVec 32 := Scalar.addi v1200 v1199
  let c256_i32_1351 : BitVec 32 := 256#32
  let v1202 : BitVec 32 := Scalar.muli v1201 c256_i32_1351
  let c0_i32_5494 : BitVec 32 := 0#32
  ![v1202.toNat, 0]
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1358 : BitVec 32 := 2#32
  let v1206 : BitVec 1 := Scalar.cmpi .sge v5 c2_i32_1358
  let v1215 : BitVec 32 := Scalar.extui v1206
  let c0_i32_1370 : BitVec 32 := 0#32
  let v1216 : BitVec 1 := Scalar.cmpi .ne v1215 c0_i32_1370
  v1216

def k0_off82 (d0 : Dev nD) : Fin 2 → Nat :=
  let c4_i32_1363 : BitVec 32 := 4#32
  let c3_i32_1362 : BitVec 32 := 3#32
  let c0_i32_1361 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1359 : BitVec 32 := 1#32
  let v1207 : BitVec 32 := Scalar.subi v5 c1_i32_1359
  let c1_i32_1360 : BitVec 32 := 1#32
  let v1208 : BitVec 32 := Scalar.subi v1207 c1_i32_1360
  let v1209 : BitVec 32 := Scalar.maxsi c0_i32_1361 v1208
  let v1210 : BitVec 32 := Scalar.minsi c3_i32_1362 v1209
  let v1211 : BitVec 32 := Scalar.muli c4_i32_1363 v1210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1212 : BitVec 32 := Scalar.addi v1211 v8
  let c256_i32_1364 : BitVec 32 := 256#32
  let v1213 : BitVec 32 := Scalar.muli v1212 c256_i32_1364
  let c2048_i32 : BitVec 32 := 2048#32
  ![v1213.toNat, 2048]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1371 : BitVec 32 := 1#32
  let v1217 : BitVec 1 := Scalar.cmpi .sle v5 c1_i32_1371
  let v1226 : BitVec 32 := Scalar.extui v1217
  let c0_i32_1383 : BitVec 32 := 0#32
  let v1227 : BitVec 1 := Scalar.cmpi .ne v1226 c0_i32_1383
  v1227

def k0_off83 (d0 : Dev nD) : Fin 2 → Nat :=
  let c4_i32_1376 : BitVec 32 := 4#32
  let c3_i32_1375 : BitVec 32 := 3#32
  let c0_i32_1374 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1372 : BitVec 32 := 1#32
  let v1218 : BitVec 32 := Scalar.addi v5 c1_i32_1372
  let c1_i32_1373 : BitVec 32 := 1#32
  let v1219 : BitVec 32 := Scalar.addi v1218 c1_i32_1373
  let v1220 : BitVec 32 := Scalar.maxsi c0_i32_1374 v1219
  let v1221 : BitVec 32 := Scalar.minsi c3_i32_1375 v1220
  let v1222 : BitVec 32 := Scalar.muli c4_i32_1376 v1221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1223 : BitVec 32 := Scalar.addi v1222 v8
  let c256_i32_1377 : BitVec 32 := 256#32
  let v1224 : BitVec 32 := Scalar.muli v1223 c256_i32_1377
  let c2048_i32 : BitVec 32 := 2048#32
  ![v1224.toNat, 2048]
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1384 : BitVec 32 := 2#32
  let v1228 : BitVec 1 := Scalar.cmpi .sge v8 c2_i32_1384
  let c3_i32_1385 : BitVec 32 := 3#32
  let v1229 : BitVec 1 := Scalar.cmpi .slt v8 c3_i32_1385
  let v1230 : BitVec 1 := Scalar.andi v1228 v1229
  let v1238 : BitVec 32 := Scalar.extui v1230
  let c0_i32_1396 : BitVec 32 := 0#32
  let v1239 : BitVec 1 := Scalar.cmpi .ne v1238 c0_i32_1396
  v1239

def k0_off84 (d0 : Dev nD) : Fin 2 → Nat :=
  let c4_i32_1389 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1234 : BitVec 32 := Scalar.muli c4_i32_1389 v5
  let c3_i32_1388 : BitVec 32 := 3#32
  let c0_i32_1387 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1386 : BitVec 32 := 2#32
  let v1231 : BitVec 32 := Scalar.subi v8 c2_i32_1386
  let v1232 : BitVec 32 := Scalar.maxsi c0_i32_1387 v1231
  let v1233 : BitVec 32 := Scalar.minsi c3_i32_1388 v1232
  let v1235 : BitVec 32 := Scalar.addi v1234 v1233
  let c256_i32_1390 : BitVec 32 := 256#32
  let v1236 : BitVec 32 := Scalar.muli v1235 c256_i32_1390
  let c0_i32_5494 : BitVec 32 := 0#32
  ![v1236.toNat, 0]
def k0_dev64 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1391 : BitVec 32 := 1#32
  let v1237 : BitVec 32 := Scalar.addi v8 c1_i32_1391
  let c1_i32_5493 : BitVec 32 := 1#32
  let v3948 : BitVec 32 := Scalar.muli v1237 c1_i32_5493
  let v3949 : BitVec 32 := Scalar.addi v3947 v3948
  v3949.toNat
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1397 : BitVec 32 := 1#32
  let v1240 : BitVec 1 := Scalar.cmpi .sle v8 c1_i32_1397
  let c0_i32_1398 : BitVec 32 := 0#32
  let v1241 : BitVec 1 := Scalar.cmpi .sgt v8 c0_i32_1398
  let v1242 : BitVec 1 := Scalar.andi v1240 v1241
  let v1250 : BitVec 32 := Scalar.extui v1242
  let c0_i32_1409 : BitVec 32 := 0#32
  let v1251 : BitVec 1 := Scalar.cmpi .ne v1250 c0_i32_1409
  v1251

def k0_off85 (d0 : Dev nD) : Fin 2 → Nat :=
  let c4_i32_1402 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1246 : BitVec 32 := Scalar.muli c4_i32_1402 v5
  let c3_i32_1401 : BitVec 32 := 3#32
  let c0_i32_1400 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1399 : BitVec 32 := 2#32
  let v1243 : BitVec 32 := Scalar.addi v8 c2_i32_1399
  let v1244 : BitVec 32 := Scalar.maxsi c0_i32_1400 v1243
  let v1245 : BitVec 32 := Scalar.minsi c3_i32_1401 v1244
  let v1247 : BitVec 32 := Scalar.addi v1246 v1245
  let c256_i32_1403 : BitVec 32 := 256#32
  let v1248 : BitVec 32 := Scalar.muli v1247 c256_i32_1403
  let c0_i32_5494 : BitVec 32 := 0#32
  ![v1248.toNat, 0]
def k0_dev65 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1404 : BitVec 32 := 4294967295#32
  let v1249 : BitVec 32 := Scalar.addi v8 c_m1_i32_1404
  let c1_i32_5493 : BitVec 32 := 1#32
  let v3948 : BitVec 32 := Scalar.muli v1249 c1_i32_5493
  let v3949 : BitVec 32 := Scalar.addi v3947 v3948
  v3949.toNat
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1410 : BitVec 32 := 2#32
  let v1252 : BitVec 1 := Scalar.cmpi .sge v5 c2_i32_1410
  let c3_i32_1411 : BitVec 32 := 3#32
  let v1253 : BitVec 1 := Scalar.cmpi .slt v5 c3_i32_1411
  let v1254 : BitVec 1 := Scalar.andi v1252 v1253
  let v1262 : BitVec 32 := Scalar.extui v1254
  let c0_i32_1422 : BitVec 32 := 0#32
  let v1263 : BitVec 1 := Scalar.cmpi .ne v1262 c0_i32_1422
  v1263

def k0_off86 (d0 : Dev nD) : Fin 2 → Nat :=
  let c4_i32_1415 : BitVec 32 := 4#32
  let c3_i32_1414 : BitVec 32 := 3#32
  let c0_i32_1413 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1412 : BitVec 32 := 2#32
  let v1255 : BitVec 32 := Scalar.subi v5 c2_i32_1412
  let v1256 : BitVec 32 := Scalar.maxsi c0_i32_1413 v1255
  let v1257 : BitVec 32 := Scalar.minsi c3_i32_1414 v1256
  let v1258 : BitVec 32 := Scalar.muli c4_i32_1415 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1259 : BitVec 32 := Scalar.addi v1258 v8
  let c256_i32_1416 : BitVec 32 := 256#32
  let v1260 : BitVec 32 := Scalar.muli v1259 c256_i32_1416
  let c2048_i32 : BitVec 32 := 2048#32
  ![v1260.toNat, 2048]
def k0_dev66 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1417 : BitVec 32 := 1#32
  let v1261 : BitVec 32 := Scalar.addi v5 c1_i32_1417
  let c4_i32_5492 : BitVec 32 := 4#32
  let v3946 : BitVec 32 := Scalar.muli v1261 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1423 : BitVec 32 := 1#32
  let v1264 : BitVec 1 := Scalar.cmpi .sle v5 c1_i32_1423
  let c0_i32_1424 : BitVec 32 := 0#32
  let v1265 : BitVec 1 := Scalar.cmpi .sgt v5 c0_i32_1424
  let v1266 : BitVec 1 := Scalar.andi v1264 v1265
  let v1274 : BitVec 32 := Scalar.extui v1266
  let c0_i32_1435 : BitVec 32 := 0#32
  let v1275 : BitVec 1 := Scalar.cmpi .ne v1274 c0_i32_1435
  v1275

def k0_off87 (d0 : Dev nD) : Fin 2 → Nat :=
  let c4_i32_1428 : BitVec 32 := 4#32
  let c3_i32_1427 : BitVec 32 := 3#32
  let c0_i32_1426 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1425 : BitVec 32 := 2#32
  let v1267 : BitVec 32 := Scalar.addi v5 c2_i32_1425
  let v1268 : BitVec 32 := Scalar.maxsi c0_i32_1426 v1267
  let v1269 : BitVec 32 := Scalar.minsi c3_i32_1427 v1268
  let v1270 : BitVec 32 := Scalar.muli c4_i32_1428 v1269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c256_i32_1429 : BitVec 32 := 256#32
  let v1272 : BitVec 32 := Scalar.muli v1271 c256_i32_1429
  let c2048_i32 : BitVec 32 := 2048#32
  ![v1272.toNat, 2048]
def k0_dev67 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1430 : BitVec 32 := 4294967295#32
  let v1273 : BitVec 32 := Scalar.addi v5 c_m1_i32_1430
  let c4_i32_5492 : BitVec 32 := 4#32
  let v3946 : BitVec 32 := Scalar.muli v1273 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1442 : BitVec 32 := 0#32
  let v1283 : BitVec 1 := Scalar.cmpi .sge v5 c0_i32_1442
  let c3_i32_1443 : BitVec 32 := 3#32
  let v1284 : BitVec 1 := Scalar.cmpi .slt v5 c3_i32_1443
  let v1285 : BitVec 1 := Scalar.andi v1283 v1284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1436 : BitVec 32 := 1#32
  let v1276 : BitVec 32 := Scalar.subi v8 c1_i32_1436
  let c1_i32_1437 : BitVec 32 := 1#32
  let v1277 : BitVec 32 := Scalar.subi v1276 c1_i32_1437
  let c0_i32_1438 : BitVec 32 := 0#32
  let v1278 : BitVec 1 := Scalar.cmpi .eq v1277 c0_i32_1438
  let c1_i32_1439 : BitVec 32 := 1#32
  let v1279 : BitVec 32 := Scalar.addi v8 c1_i32_1439
  let c1_i32_1440 : BitVec 32 := 1#32
  let v1280 : BitVec 32 := Scalar.addi v1279 c1_i32_1440
  let c0_i32_1441 : BitVec 32 := 0#32
  let v1281 : BitVec 1 := Scalar.cmpi .eq v1280 c0_i32_1441
  let v1282 : BitVec 1 := Scalar.ori v1278 v1281
  let v1286 : BitVec 1 := Scalar.andi v1285 v1282
  let v1294 : BitVec 32 := Scalar.extui v1286
  let c0_i32_1457 : BitVec 32 := 0#32
  let v1295 : BitVec 1 := Scalar.cmpi .ne v1294 c0_i32_1457
  v1295

def k0_off88 (d0 : Dev nD) : Fin 2 → Nat :=
  let c4_i32_1447 : BitVec 32 := 4#32
  let c3_i32_1446 : BitVec 32 := 3#32
  let c0_i32_1445 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1444 : BitVec 32 := 0#32
  let v1287 : BitVec 32 := Scalar.subi v5 c0_i32_1444
  let v1288 : BitVec 32 := Scalar.maxsi c0_i32_1445 v1287
  let v1289 : BitVec 32 := Scalar.minsi c3_i32_1446 v1288
  let v1290 : BitVec 32 := Scalar.muli c4_i32_1447 v1289
  let c0_i32_1448 : BitVec 32 := 0#32
  let v1291 : BitVec 32 := Scalar.addi v1290 c0_i32_1448
  let c256_i32_1449 : BitVec 32 := 256#32
  let v1292 : BitVec 32 := Scalar.muli v1291 c256_i32_1449
  let c0_i32_5494 : BitVec 32 := 0#32
  ![v1292.toNat, 0]
def k0_dev68 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1450 : BitVec 32 := 1#32
  let v1293 : BitVec 32 := Scalar.addi v5 c1_i32_1450
  let c4_i32_5492 : BitVec 32 := 4#32
  let v3946 : BitVec 32 := Scalar.muli v1293 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1458 : BitVec 32 := 3#32
  let v1296 : BitVec 1 := Scalar.cmpi .sle v5 c3_i32_1458
  let c0_i32_1459 : BitVec 32 := 0#32
  let v1297 : BitVec 1 := Scalar.cmpi .sgt v5 c0_i32_1459
  let v1298 : BitVec 1 := Scalar.andi v1296 v1297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1436 : BitVec 32 := 1#32
  let v1276 : BitVec 32 := Scalar.subi v8 c1_i32_1436
  let c1_i32_1437 : BitVec 32 := 1#32
  let v1277 : BitVec 32 := Scalar.subi v1276 c1_i32_1437
  let c0_i32_1438 : BitVec 32 := 0#32
  let v1278 : BitVec 1 := Scalar.cmpi .eq v1277 c0_i32_1438
  let c1_i32_1439 : BitVec 32 := 1#32
  let v1279 : BitVec 32 := Scalar.addi v8 c1_i32_1439
  let c1_i32_1440 : BitVec 32 := 1#32
  let v1280 : BitVec 32 := Scalar.addi v1279 c1_i32_1440
  let c0_i32_1441 : BitVec 32 := 0#32
  let v1281 : BitVec 1 := Scalar.cmpi .eq v1280 c0_i32_1441
  let v1282 : BitVec 1 := Scalar.ori v1278 v1281
  let v1299 : BitVec 1 := Scalar.andi v1298 v1282
  let v1307 : BitVec 32 := Scalar.extui v1299
  let c0_i32_1473 : BitVec 32 := 0#32
  let v1308 : BitVec 1 := Scalar.cmpi .ne v1307 c0_i32_1473
  v1308

def k0_off89 (d0 : Dev nD) : Fin 2 → Nat :=
  let c4_i32_1463 : BitVec 32 := 4#32
  let c3_i32_1462 : BitVec 32 := 3#32
  let c0_i32_1461 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1460 : BitVec 32 := 0#32
  let v1300 : BitVec 32 := Scalar.addi v5 c0_i32_1460
  let v1301 : BitVec 32 := Scalar.maxsi c0_i32_1461 v1300
  let v1302 : BitVec 32 := Scalar.minsi c3_i32_1462 v1301
  let v1303 : BitVec 32 := Scalar.muli c4_i32_1463 v1302
  let c0_i32_1464 : BitVec 32 := 0#32
  let v1304 : BitVec 32 := Scalar.addi v1303 c0_i32_1464
  let c256_i32_1465 : BitVec 32 := 256#32
  let v1305 : BitVec 32 := Scalar.muli v1304 c256_i32_1465
  let c0_i32_5494 : BitVec 32 := 0#32
  ![v1305.toNat, 0]
def k0_dev69 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1466 : BitVec 32 := 4294967295#32
  let v1306 : BitVec 32 := Scalar.addi v5 c_m1_i32_1466
  let c4_i32_5492 : BitVec 32 := 4#32
  let v3946 : BitVec 32 := Scalar.muli v1306 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1480 : BitVec 32 := 0#32
  let v1316 : BitVec 1 := Scalar.cmpi .sge v5 c0_i32_1480
  let c3_i32_1481 : BitVec 32 := 3#32
  let v1317 : BitVec 1 := Scalar.cmpi .slt v5 c3_i32_1481
  let v1318 : BitVec 1 := Scalar.andi v1316 v1317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1474 : BitVec 32 := 1#32
  let v1309 : BitVec 32 := Scalar.subi v8 c1_i32_1474
  let c1_i32_1475 : BitVec 32 := 1#32
  let v1310 : BitVec 32 := Scalar.subi v1309 c1_i32_1475
  let c1_i32_1476 : BitVec 32 := 1#32
  let v1311 : BitVec 1 := Scalar.cmpi .eq v1310 c1_i32_1476
  let c1_i32_1477 : BitVec 32 := 1#32
  let v1312 : BitVec 32 := Scalar.addi v8 c1_i32_1477
  let c1_i32_1478 : BitVec 32 := 1#32
  let v1313 : BitVec 32 := Scalar.addi v1312 c1_i32_1478
  let c1_i32_1479 : BitVec 32 := 1#32
  let v1314 : BitVec 1 := Scalar.cmpi .eq v1313 c1_i32_1479
  let v1315 : BitVec 1 := Scalar.ori v1311 v1314
  let v1319 : BitVec 1 := Scalar.andi v1318 v1315
  let v1327 : BitVec 32 := Scalar.extui v1319
  let c0_i32_1495 : BitVec 32 := 0#32
  let v1328 : BitVec 1 := Scalar.cmpi .ne v1327 c0_i32_1495
  v1328

def k0_off90 (d0 : Dev nD) : Fin 2 → Nat :=
  let c4_i32_1485 : BitVec 32 := 4#32
  let c3_i32_1484 : BitVec 32 := 3#32
  let c0_i32_1483 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1482 : BitVec 32 := 0#32
  let v1320 : BitVec 32 := Scalar.subi v5 c0_i32_1482
  let v1321 : BitVec 32 := Scalar.maxsi c0_i32_1483 v1320
  let v1322 : BitVec 32 := Scalar.minsi c3_i32_1484 v1321
  let v1323 : BitVec 32 := Scalar.muli c4_i32_1485 v1322
  let c1_i32_1486 : BitVec 32 := 1#32
  let v1324 : BitVec 32 := Scalar.addi v1323 c1_i32_1486
  let c256_i32_1487 : BitVec 32 := 256#32
  let v1325 : BitVec 32 := Scalar.muli v1324 c256_i32_1487
  let c0_i32_5494 : BitVec 32 := 0#32
  ![v1325.toNat, 0]
def k0_dev70 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1488 : BitVec 32 := 1#32
  let v1326 : BitVec 32 := Scalar.addi v5 c1_i32_1488
  let c4_i32_5492 : BitVec 32 := 4#32
  let v3946 : BitVec 32 := Scalar.muli v1326 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1496 : BitVec 32 := 3#32
  let v1329 : BitVec 1 := Scalar.cmpi .sle v5 c3_i32_1496
  let c0_i32_1497 : BitVec 32 := 0#32
  let v1330 : BitVec 1 := Scalar.cmpi .sgt v5 c0_i32_1497
  let v1331 : BitVec 1 := Scalar.andi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1474 : BitVec 32 := 1#32
  let v1309 : BitVec 32 := Scalar.subi v8 c1_i32_1474
  let c1_i32_1475 : BitVec 32 := 1#32
  let v1310 : BitVec 32 := Scalar.subi v1309 c1_i32_1475
  let c1_i32_1476 : BitVec 32 := 1#32
  let v1311 : BitVec 1 := Scalar.cmpi .eq v1310 c1_i32_1476
  let c1_i32_1477 : BitVec 32 := 1#32
  let v1312 : BitVec 32 := Scalar.addi v8 c1_i32_1477
  let c1_i32_1478 : BitVec 32 := 1#32
  let v1313 : BitVec 32 := Scalar.addi v1312 c1_i32_1478
  let c1_i32_1479 : BitVec 32 := 1#32
  let v1314 : BitVec 1 := Scalar.cmpi .eq v1313 c1_i32_1479
  let v1315 : BitVec 1 := Scalar.ori v1311 v1314
  let v1332 : BitVec 1 := Scalar.andi v1331 v1315
  let v1340 : BitVec 32 := Scalar.extui v1332
  let c0_i32_1511 : BitVec 32 := 0#32
  let v1341 : BitVec 1 := Scalar.cmpi .ne v1340 c0_i32_1511
  v1341

def k0_off91 (d0 : Dev nD) : Fin 2 → Nat :=
  let c4_i32_1501 : BitVec 32 := 4#32
  let c3_i32_1500 : BitVec 32 := 3#32
  let c0_i32_1499 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1498 : BitVec 32 := 0#32
  let v1333 : BitVec 32 := Scalar.addi v5 c0_i32_1498
  let v1334 : BitVec 32 := Scalar.maxsi c0_i32_1499 v1333
  let v1335 : BitVec 32 := Scalar.minsi c3_i32_1500 v1334
  let v1336 : BitVec 32 := Scalar.muli c4_i32_1501 v1335
  let c1_i32_1502 : BitVec 32 := 1#32
  let v1337 : BitVec 32 := Scalar.addi v1336 c1_i32_1502
  let c256_i32_1503 : BitVec 32 := 256#32
  let v1338 : BitVec 32 := Scalar.muli v1337 c256_i32_1503
  let c0_i32_5494 : BitVec 32 := 0#32
  ![v1338.toNat, 0]
def k0_dev71 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1504 : BitVec 32 := 4294967295#32
  let v1339 : BitVec 32 := Scalar.addi v5 c_m1_i32_1504
  let c4_i32_5492 : BitVec 32 := 4#32
  let v3946 : BitVec 32 := Scalar.muli v1339 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1518 : BitVec 32 := 0#32
  let v1349 : BitVec 1 := Scalar.cmpi .sge v5 c0_i32_1518
  let c3_i32_1519 : BitVec 32 := 3#32
  let v1350 : BitVec 1 := Scalar.cmpi .slt v5 c3_i32_1519
  let v1351 : BitVec 1 := Scalar.andi v1349 v1350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1512 : BitVec 32 := 1#32
  let v1342 : BitVec 32 := Scalar.subi v8 c1_i32_1512
  let c1_i32_1513 : BitVec 32 := 1#32
  let v1343 : BitVec 32 := Scalar.subi v1342 c1_i32_1513
  let c2_i32_1514 : BitVec 32 := 2#32
  let v1344 : BitVec 1 := Scalar.cmpi .eq v1343 c2_i32_1514
  let c1_i32_1515 : BitVec 32 := 1#32
  let v1345 : BitVec 32 := Scalar.addi v8 c1_i32_1515
  let c1_i32_1516 : BitVec 32 := 1#32
  let v1346 : BitVec 32 := Scalar.addi v1345 c1_i32_1516
  let c2_i32_1517 : BitVec 32 := 2#32
  let v1347 : BitVec 1 := Scalar.cmpi .eq v1346 c2_i32_1517
  let v1348 : BitVec 1 := Scalar.ori v1344 v1347
  let v1352 : BitVec 1 := Scalar.andi v1351 v1348
  let v1360 : BitVec 32 := Scalar.extui v1352
  let c0_i32_1533 : BitVec 32 := 0#32
  let v1361 : BitVec 1 := Scalar.cmpi .ne v1360 c0_i32_1533
  v1361

def k0_off92 (d0 : Dev nD) : Fin 2 → Nat :=
  let c4_i32_1523 : BitVec 32 := 4#32
  let c3_i32_1522 : BitVec 32 := 3#32
  let c0_i32_1521 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1520 : BitVec 32 := 0#32
  let v1353 : BitVec 32 := Scalar.subi v5 c0_i32_1520
  let v1354 : BitVec 32 := Scalar.maxsi c0_i32_1521 v1353
  let v1355 : BitVec 32 := Scalar.minsi c3_i32_1522 v1354
  let v1356 : BitVec 32 := Scalar.muli c4_i32_1523 v1355
  let c2_i32_1524 : BitVec 32 := 2#32
  let v1357 : BitVec 32 := Scalar.addi v1356 c2_i32_1524
  let c256_i32_1525 : BitVec 32 := 256#32
  let v1358 : BitVec 32 := Scalar.muli v1357 c256_i32_1525
  let c0_i32_5494 : BitVec 32 := 0#32
  ![v1358.toNat, 0]
def k0_dev72 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1526 : BitVec 32 := 1#32
  let v1359 : BitVec 32 := Scalar.addi v5 c1_i32_1526
  let c4_i32_5492 : BitVec 32 := 4#32
  let v3946 : BitVec 32 := Scalar.muli v1359 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1534 : BitVec 32 := 3#32
  let v1362 : BitVec 1 := Scalar.cmpi .sle v5 c3_i32_1534
  let c0_i32_1535 : BitVec 32 := 0#32
  let v1363 : BitVec 1 := Scalar.cmpi .sgt v5 c0_i32_1535
  let v1364 : BitVec 1 := Scalar.andi v1362 v1363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1512 : BitVec 32 := 1#32
  let v1342 : BitVec 32 := Scalar.subi v8 c1_i32_1512
  let c1_i32_1513 : BitVec 32 := 1#32
  let v1343 : BitVec 32 := Scalar.subi v1342 c1_i32_1513
  let c2_i32_1514 : BitVec 32 := 2#32
  let v1344 : BitVec 1 := Scalar.cmpi .eq v1343 c2_i32_1514
  let c1_i32_1515 : BitVec 32 := 1#32
  let v1345 : BitVec 32 := Scalar.addi v8 c1_i32_1515
  let c1_i32_1516 : BitVec 32 := 1#32
  let v1346 : BitVec 32 := Scalar.addi v1345 c1_i32_1516
  let c2_i32_1517 : BitVec 32 := 2#32
  let v1347 : BitVec 1 := Scalar.cmpi .eq v1346 c2_i32_1517
  let v1348 : BitVec 1 := Scalar.ori v1344 v1347
  let v1365 : BitVec 1 := Scalar.andi v1364 v1348
  let v1373 : BitVec 32 := Scalar.extui v1365
  let c0_i32_1549 : BitVec 32 := 0#32
  let v1374 : BitVec 1 := Scalar.cmpi .ne v1373 c0_i32_1549
  v1374

def k0_off93 (d0 : Dev nD) : Fin 2 → Nat :=
  let c4_i32_1539 : BitVec 32 := 4#32
  let c3_i32_1538 : BitVec 32 := 3#32
  let c0_i32_1537 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1536 : BitVec 32 := 0#32
  let v1366 : BitVec 32 := Scalar.addi v5 c0_i32_1536
  let v1367 : BitVec 32 := Scalar.maxsi c0_i32_1537 v1366
  let v1368 : BitVec 32 := Scalar.minsi c3_i32_1538 v1367
  let v1369 : BitVec 32 := Scalar.muli c4_i32_1539 v1368
  let c2_i32_1540 : BitVec 32 := 2#32
  let v1370 : BitVec 32 := Scalar.addi v1369 c2_i32_1540
  let c256_i32_1541 : BitVec 32 := 256#32
  let v1371 : BitVec 32 := Scalar.muli v1370 c256_i32_1541
  let c0_i32_5494 : BitVec 32 := 0#32
  ![v1371.toNat, 0]
def k0_dev73 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1542 : BitVec 32 := 4294967295#32
  let v1372 : BitVec 32 := Scalar.addi v5 c_m1_i32_1542
  let c4_i32_5492 : BitVec 32 := 4#32
  let v3946 : BitVec 32 := Scalar.muli v1372 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1556 : BitVec 32 := 0#32
  let v1382 : BitVec 1 := Scalar.cmpi .sge v5 c0_i32_1556
  let c3_i32_1557 : BitVec 32 := 3#32
  let v1383 : BitVec 1 := Scalar.cmpi .slt v5 c3_i32_1557
  let v1384 : BitVec 1 := Scalar.andi v1382 v1383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1550 : BitVec 32 := 1#32
  let v1375 : BitVec 32 := Scalar.subi v8 c1_i32_1550
  let c1_i32_1551 : BitVec 32 := 1#32
  let v1376 : BitVec 32 := Scalar.subi v1375 c1_i32_1551
  let c3_i32_1552 : BitVec 32 := 3#32
  let v1377 : BitVec 1 := Scalar.cmpi .eq v1376 c3_i32_1552
  let c1_i32_1553 : BitVec 32 := 1#32
  let v1378 : BitVec 32 := Scalar.addi v8 c1_i32_1553
  let c1_i32_1554 : BitVec 32 := 1#32
  let v1379 : BitVec 32 := Scalar.addi v1378 c1_i32_1554
  let c3_i32_1555 : BitVec 32 := 3#32
  let v1380 : BitVec 1 := Scalar.cmpi .eq v1379 c3_i32_1555
  let v1381 : BitVec 1 := Scalar.ori v1377 v1380
  let v1385 : BitVec 1 := Scalar.andi v1384 v1381
  let v1393 : BitVec 32 := Scalar.extui v1385
  let c0_i32_1571 : BitVec 32 := 0#32
  let v1394 : BitVec 1 := Scalar.cmpi .ne v1393 c0_i32_1571
  v1394

def k0_off94 (d0 : Dev nD) : Fin 2 → Nat :=
  let c4_i32_1561 : BitVec 32 := 4#32
  let c3_i32_1560 : BitVec 32 := 3#32
  let c0_i32_1559 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1558 : BitVec 32 := 0#32
  let v1386 : BitVec 32 := Scalar.subi v5 c0_i32_1558
  let v1387 : BitVec 32 := Scalar.maxsi c0_i32_1559 v1386
  let v1388 : BitVec 32 := Scalar.minsi c3_i32_1560 v1387
  let v1389 : BitVec 32 := Scalar.muli c4_i32_1561 v1388
  let c3_i32_1562 : BitVec 32 := 3#32
  let v1390 : BitVec 32 := Scalar.addi v1389 c3_i32_1562
  let c256_i32_1563 : BitVec 32 := 256#32
  let v1391 : BitVec 32 := Scalar.muli v1390 c256_i32_1563
  let c0_i32_5494 : BitVec 32 := 0#32
  ![v1391.toNat, 0]
def k0_dev74 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1564 : BitVec 32 := 1#32
  let v1392 : BitVec 32 := Scalar.addi v5 c1_i32_1564
  let c4_i32_5492 : BitVec 32 := 4#32
  let v3946 : BitVec 32 := Scalar.muli v1392 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1572 : BitVec 32 := 3#32
  let v1395 : BitVec 1 := Scalar.cmpi .sle v5 c3_i32_1572
  let c0_i32_1573 : BitVec 32 := 0#32
  let v1396 : BitVec 1 := Scalar.cmpi .sgt v5 c0_i32_1573
  let v1397 : BitVec 1 := Scalar.andi v1395 v1396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1550 : BitVec 32 := 1#32
  let v1375 : BitVec 32 := Scalar.subi v8 c1_i32_1550
  let c1_i32_1551 : BitVec 32 := 1#32
  let v1376 : BitVec 32 := Scalar.subi v1375 c1_i32_1551
  let c3_i32_1552 : BitVec 32 := 3#32
  let v1377 : BitVec 1 := Scalar.cmpi .eq v1376 c3_i32_1552
  let c1_i32_1553 : BitVec 32 := 1#32
  let v1378 : BitVec 32 := Scalar.addi v8 c1_i32_1553
  let c1_i32_1554 : BitVec 32 := 1#32
  let v1379 : BitVec 32 := Scalar.addi v1378 c1_i32_1554
  let c3_i32_1555 : BitVec 32 := 3#32
  let v1380 : BitVec 1 := Scalar.cmpi .eq v1379 c3_i32_1555
  let v1381 : BitVec 1 := Scalar.ori v1377 v1380
  let v1398 : BitVec 1 := Scalar.andi v1397 v1381
  let v1406 : BitVec 32 := Scalar.extui v1398
  let c0_i32_1587 : BitVec 32 := 0#32
  let v1407 : BitVec 1 := Scalar.cmpi .ne v1406 c0_i32_1587
  v1407

def k0_off95 (d0 : Dev nD) : Fin 2 → Nat :=
  let c4_i32_1577 : BitVec 32 := 4#32
  let c3_i32_1576 : BitVec 32 := 3#32
  let c0_i32_1575 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1574 : BitVec 32 := 0#32
  let v1399 : BitVec 32 := Scalar.addi v5 c0_i32_1574
  let v1400 : BitVec 32 := Scalar.maxsi c0_i32_1575 v1399
  let v1401 : BitVec 32 := Scalar.minsi c3_i32_1576 v1400
  let v1402 : BitVec 32 := Scalar.muli c4_i32_1577 v1401
  let c3_i32_1578 : BitVec 32 := 3#32
  let v1403 : BitVec 32 := Scalar.addi v1402 c3_i32_1578
  let c256_i32_1579 : BitVec 32 := 256#32
  let v1404 : BitVec 32 := Scalar.muli v1403 c256_i32_1579
  let c0_i32_5494 : BitVec 32 := 0#32
  ![v1404.toNat, 0]
def k0_dev75 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1580 : BitVec 32 := 4294967295#32
  let v1405 : BitVec 32 := Scalar.addi v5 c_m1_i32_1580
  let c4_i32_5492 : BitVec 32 := 4#32
  let v3946 : BitVec 32 := Scalar.muli v1405 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1594 : BitVec 32 := 0#32
  let v1415 : BitVec 1 := Scalar.cmpi .sge v8 c0_i32_1594
  let c3_i32_1595 : BitVec 32 := 3#32
  let v1416 : BitVec 1 := Scalar.cmpi .slt v8 c3_i32_1595
  let v1417 : BitVec 1 := Scalar.andi v1415 v1416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1588 : BitVec 32 := 1#32
  let v1408 : BitVec 32 := Scalar.subi v5 c1_i32_1588
  let c1_i32_1589 : BitVec 32 := 1#32
  let v1409 : BitVec 32 := Scalar.subi v1408 c1_i32_1589
  let c0_i32_1590 : BitVec 32 := 0#32
  let v1410 : BitVec 1 := Scalar.cmpi .eq v1409 c0_i32_1590
  let c1_i32_1591 : BitVec 32 := 1#32
  let v1411 : BitVec 32 := Scalar.addi v5 c1_i32_1591
  let c1_i32_1592 : BitVec 32 := 1#32
  let v1412 : BitVec 32 := Scalar.addi v1411 c1_i32_1592
  let c0_i32_1593 : BitVec 32 := 0#32
  let v1413 : BitVec 1 := Scalar.cmpi .eq v1412 c0_i32_1593
  let v1414 : BitVec 1 := Scalar.ori v1410 v1413
  let v1418 : BitVec 1 := Scalar.andi v1417 v1414
  let v1425 : BitVec 32 := Scalar.extui v1418
  let c0_i32_1608 : BitVec 32 := 0#32
  let v1426 : BitVec 1 := Scalar.cmpi .ne v1425 c0_i32_1608
  v1426

def k0_off96 (d0 : Dev nD) : Fin 2 → Nat :=
  let c0_i32_1599 : BitVec 32 := 0#32
  let c3_i32_1598 : BitVec 32 := 3#32
  let c0_i32_1597 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1596 : BitVec 32 := 0#32
  let v1419 : BitVec 32 := Scalar.subi v8 c0_i32_1596
  let v1420 : BitVec 32 := Scalar.maxsi c0_i32_1597 v1419
  let v1421 : BitVec 32 := Scalar.minsi c3_i32_1598 v1420
  let v1422 : BitVec 32 := Scalar.addi c0_i32_1599 v1421
  let c256_i32_1600 : BitVec 32 := 256#32
  let v1423 : BitVec 32 := Scalar.muli v1422 c256_i32_1600
  let c2048_i32 : BitVec 32 := 2048#32
  ![v1423.toNat, 2048]
def k0_dev76 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1601 : BitVec 32 := 1#32
  let v1424 : BitVec 32 := Scalar.addi v8 c1_i32_1601
  let c1_i32_5493 : BitVec 32 := 1#32
  let v3948 : BitVec 32 := Scalar.muli v1424 c1_i32_5493
  let v3949 : BitVec 32 := Scalar.addi v3947 v3948
  v3949.toNat
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1609 : BitVec 32 := 3#32
  let v1427 : BitVec 1 := Scalar.cmpi .sle v8 c3_i32_1609
  let c0_i32_1610 : BitVec 32 := 0#32
  let v1428 : BitVec 1 := Scalar.cmpi .sgt v8 c0_i32_1610
  let v1429 : BitVec 1 := Scalar.andi v1427 v1428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1588 : BitVec 32 := 1#32
  let v1408 : BitVec 32 := Scalar.subi v5 c1_i32_1588
  let c1_i32_1589 : BitVec 32 := 1#32
  let v1409 : BitVec 32 := Scalar.subi v1408 c1_i32_1589
  let c0_i32_1590 : BitVec 32 := 0#32
  let v1410 : BitVec 1 := Scalar.cmpi .eq v1409 c0_i32_1590
  let c1_i32_1591 : BitVec 32 := 1#32
  let v1411 : BitVec 32 := Scalar.addi v5 c1_i32_1591
  let c1_i32_1592 : BitVec 32 := 1#32
  let v1412 : BitVec 32 := Scalar.addi v1411 c1_i32_1592
  let c0_i32_1593 : BitVec 32 := 0#32
  let v1413 : BitVec 1 := Scalar.cmpi .eq v1412 c0_i32_1593
  let v1414 : BitVec 1 := Scalar.ori v1410 v1413
  let v1430 : BitVec 1 := Scalar.andi v1429 v1414
  let v1437 : BitVec 32 := Scalar.extui v1430
  let c0_i32_1623 : BitVec 32 := 0#32
  let v1438 : BitVec 1 := Scalar.cmpi .ne v1437 c0_i32_1623
  v1438

def k0_off97 (d0 : Dev nD) : Fin 2 → Nat :=
  let c0_i32_1614 : BitVec 32 := 0#32
  let c3_i32_1613 : BitVec 32 := 3#32
  let c0_i32_1612 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1611 : BitVec 32 := 0#32
  let v1431 : BitVec 32 := Scalar.addi v8 c0_i32_1611
  let v1432 : BitVec 32 := Scalar.maxsi c0_i32_1612 v1431
  let v1433 : BitVec 32 := Scalar.minsi c3_i32_1613 v1432
  let v1434 : BitVec 32 := Scalar.addi c0_i32_1614 v1433
  let c256_i32_1615 : BitVec 32 := 256#32
  let v1435 : BitVec 32 := Scalar.muli v1434 c256_i32_1615
  let c2048_i32 : BitVec 32 := 2048#32
  ![v1435.toNat, 2048]
def k0_dev77 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1616 : BitVec 32 := 4294967295#32
  let v1436 : BitVec 32 := Scalar.addi v8 c_m1_i32_1616
  let c1_i32_5493 : BitVec 32 := 1#32
  let v3948 : BitVec 32 := Scalar.muli v1436 c1_i32_5493
  let v3949 : BitVec 32 := Scalar.addi v3947 v3948
  v3949.toNat
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1630 : BitVec 32 := 0#32
  let v1446 : BitVec 1 := Scalar.cmpi .sge v8 c0_i32_1630
  let c3_i32_1631 : BitVec 32 := 3#32
  let v1447 : BitVec 1 := Scalar.cmpi .slt v8 c3_i32_1631
  let v1448 : BitVec 1 := Scalar.andi v1446 v1447
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1624 : BitVec 32 := 1#32
  let v1439 : BitVec 32 := Scalar.subi v5 c1_i32_1624
  let c1_i32_1625 : BitVec 32 := 1#32
  let v1440 : BitVec 32 := Scalar.subi v1439 c1_i32_1625
  let c1_i32_1626 : BitVec 32 := 1#32
  let v1441 : BitVec 1 := Scalar.cmpi .eq v1440 c1_i32_1626
  let c1_i32_1627 : BitVec 32 := 1#32
  let v1442 : BitVec 32 := Scalar.addi v5 c1_i32_1627
  let c1_i32_1628 : BitVec 32 := 1#32
  let v1443 : BitVec 32 := Scalar.addi v1442 c1_i32_1628
  let c1_i32_1629 : BitVec 32 := 1#32
  let v1444 : BitVec 1 := Scalar.cmpi .eq v1443 c1_i32_1629
  let v1445 : BitVec 1 := Scalar.ori v1441 v1444
  let v1449 : BitVec 1 := Scalar.andi v1448 v1445
  let v1456 : BitVec 32 := Scalar.extui v1449
  let c0_i32_1644 : BitVec 32 := 0#32
  let v1457 : BitVec 1 := Scalar.cmpi .ne v1456 c0_i32_1644
  v1457

def k0_off98 (d0 : Dev nD) : Fin 2 → Nat :=
  let c4_i32_1635 : BitVec 32 := 4#32
  let c3_i32_1634 : BitVec 32 := 3#32
  let c0_i32_1633 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1632 : BitVec 32 := 0#32
  let v1450 : BitVec 32 := Scalar.subi v8 c0_i32_1632
  let v1451 : BitVec 32 := Scalar.maxsi c0_i32_1633 v1450
  let v1452 : BitVec 32 := Scalar.minsi c3_i32_1634 v1451
  let v1453 : BitVec 32 := Scalar.addi c4_i32_1635 v1452
  let c256_i32_1636 : BitVec 32 := 256#32
  let v1454 : BitVec 32 := Scalar.muli v1453 c256_i32_1636
  let c2048_i32 : BitVec 32 := 2048#32
  ![v1454.toNat, 2048]
def k0_dev78 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1637 : BitVec 32 := 1#32
  let v1455 : BitVec 32 := Scalar.addi v8 c1_i32_1637
  let c1_i32_5493 : BitVec 32 := 1#32
  let v3948 : BitVec 32 := Scalar.muli v1455 c1_i32_5493
  let v3949 : BitVec 32 := Scalar.addi v3947 v3948
  v3949.toNat
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1645 : BitVec 32 := 3#32
  let v1458 : BitVec 1 := Scalar.cmpi .sle v8 c3_i32_1645
  let c0_i32_1646 : BitVec 32 := 0#32
  let v1459 : BitVec 1 := Scalar.cmpi .sgt v8 c0_i32_1646
  let v1460 : BitVec 1 := Scalar.andi v1458 v1459
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1624 : BitVec 32 := 1#32
  let v1439 : BitVec 32 := Scalar.subi v5 c1_i32_1624
  let c1_i32_1625 : BitVec 32 := 1#32
  let v1440 : BitVec 32 := Scalar.subi v1439 c1_i32_1625
  let c1_i32_1626 : BitVec 32 := 1#32
  let v1441 : BitVec 1 := Scalar.cmpi .eq v1440 c1_i32_1626
  let c1_i32_1627 : BitVec 32 := 1#32
  let v1442 : BitVec 32 := Scalar.addi v5 c1_i32_1627
  let c1_i32_1628 : BitVec 32 := 1#32
  let v1443 : BitVec 32 := Scalar.addi v1442 c1_i32_1628
  let c1_i32_1629 : BitVec 32 := 1#32
  let v1444 : BitVec 1 := Scalar.cmpi .eq v1443 c1_i32_1629
  let v1445 : BitVec 1 := Scalar.ori v1441 v1444
  let v1461 : BitVec 1 := Scalar.andi v1460 v1445
  let v1468 : BitVec 32 := Scalar.extui v1461
  let c0_i32_1659 : BitVec 32 := 0#32
  let v1469 : BitVec 1 := Scalar.cmpi .ne v1468 c0_i32_1659
  v1469

def k0_off99 (d0 : Dev nD) : Fin 2 → Nat :=
  let c4_i32_1650 : BitVec 32 := 4#32
  let c3_i32_1649 : BitVec 32 := 3#32
  let c0_i32_1648 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1647 : BitVec 32 := 0#32
  let v1462 : BitVec 32 := Scalar.addi v8 c0_i32_1647
  let v1463 : BitVec 32 := Scalar.maxsi c0_i32_1648 v1462
  let v1464 : BitVec 32 := Scalar.minsi c3_i32_1649 v1463
  let v1465 : BitVec 32 := Scalar.addi c4_i32_1650 v1464
  let c256_i32_1651 : BitVec 32 := 256#32
  let v1466 : BitVec 32 := Scalar.muli v1465 c256_i32_1651
  let c2048_i32 : BitVec 32 := 2048#32
  ![v1466.toNat, 2048]
def k0_dev79 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1652 : BitVec 32 := 4294967295#32
  let v1467 : BitVec 32 := Scalar.addi v8 c_m1_i32_1652
  let c1_i32_5493 : BitVec 32 := 1#32
  let v3948 : BitVec 32 := Scalar.muli v1467 c1_i32_5493
  let v3949 : BitVec 32 := Scalar.addi v3947 v3948
  v3949.toNat
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1666 : BitVec 32 := 0#32
  let v1477 : BitVec 1 := Scalar.cmpi .sge v8 c0_i32_1666
  let c3_i32_1667 : BitVec 32 := 3#32
  let v1478 : BitVec 1 := Scalar.cmpi .slt v8 c3_i32_1667
  let v1479 : BitVec 1 := Scalar.andi v1477 v1478
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1660 : BitVec 32 := 1#32
  let v1470 : BitVec 32 := Scalar.subi v5 c1_i32_1660
  let c1_i32_1661 : BitVec 32 := 1#32
  let v1471 : BitVec 32 := Scalar.subi v1470 c1_i32_1661
  let c2_i32_1662 : BitVec 32 := 2#32
  let v1472 : BitVec 1 := Scalar.cmpi .eq v1471 c2_i32_1662
  let c1_i32_1663 : BitVec 32 := 1#32
  let v1473 : BitVec 32 := Scalar.addi v5 c1_i32_1663
  let c1_i32_1664 : BitVec 32 := 1#32
  let v1474 : BitVec 32 := Scalar.addi v1473 c1_i32_1664
  let c2_i32_1665 : BitVec 32 := 2#32
  let v1475 : BitVec 1 := Scalar.cmpi .eq v1474 c2_i32_1665
  let v1476 : BitVec 1 := Scalar.ori v1472 v1475
  let v1480 : BitVec 1 := Scalar.andi v1479 v1476
  let v1487 : BitVec 32 := Scalar.extui v1480
  let c0_i32_1680 : BitVec 32 := 0#32
  let v1488 : BitVec 1 := Scalar.cmpi .ne v1487 c0_i32_1680
  v1488

def k0_off100 (d0 : Dev nD) : Fin 2 → Nat :=
  let c8_i32_1671 : BitVec 32 := 8#32
  let c3_i32_1670 : BitVec 32 := 3#32
  let c0_i32_1669 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1668 : BitVec 32 := 0#32
  let v1481 : BitVec 32 := Scalar.subi v8 c0_i32_1668
  let v1482 : BitVec 32 := Scalar.maxsi c0_i32_1669 v1481
  let v1483 : BitVec 32 := Scalar.minsi c3_i32_1670 v1482
  let v1484 : BitVec 32 := Scalar.addi c8_i32_1671 v1483
  let c256_i32_1672 : BitVec 32 := 256#32
  let v1485 : BitVec 32 := Scalar.muli v1484 c256_i32_1672
  let c2048_i32 : BitVec 32 := 2048#32
  ![v1485.toNat, 2048]
def k0_dev80 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1673 : BitVec 32 := 1#32
  let v1486 : BitVec 32 := Scalar.addi v8 c1_i32_1673
  let c1_i32_5493 : BitVec 32 := 1#32
  let v3948 : BitVec 32 := Scalar.muli v1486 c1_i32_5493
  let v3949 : BitVec 32 := Scalar.addi v3947 v3948
  v3949.toNat
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1681 : BitVec 32 := 3#32
  let v1489 : BitVec 1 := Scalar.cmpi .sle v8 c3_i32_1681
  let c0_i32_1682 : BitVec 32 := 0#32
  let v1490 : BitVec 1 := Scalar.cmpi .sgt v8 c0_i32_1682
  let v1491 : BitVec 1 := Scalar.andi v1489 v1490
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1660 : BitVec 32 := 1#32
  let v1470 : BitVec 32 := Scalar.subi v5 c1_i32_1660
  let c1_i32_1661 : BitVec 32 := 1#32
  let v1471 : BitVec 32 := Scalar.subi v1470 c1_i32_1661
  let c2_i32_1662 : BitVec 32 := 2#32
  let v1472 : BitVec 1 := Scalar.cmpi .eq v1471 c2_i32_1662
  let c1_i32_1663 : BitVec 32 := 1#32
  let v1473 : BitVec 32 := Scalar.addi v5 c1_i32_1663
  let c1_i32_1664 : BitVec 32 := 1#32
  let v1474 : BitVec 32 := Scalar.addi v1473 c1_i32_1664
  let c2_i32_1665 : BitVec 32 := 2#32
  let v1475 : BitVec 1 := Scalar.cmpi .eq v1474 c2_i32_1665
  let v1476 : BitVec 1 := Scalar.ori v1472 v1475
  let v1492 : BitVec 1 := Scalar.andi v1491 v1476
  let v1499 : BitVec 32 := Scalar.extui v1492
  let c0_i32_1695 : BitVec 32 := 0#32
  let v1500 : BitVec 1 := Scalar.cmpi .ne v1499 c0_i32_1695
  v1500

def k0_off101 (d0 : Dev nD) : Fin 2 → Nat :=
  let c8_i32_1686 : BitVec 32 := 8#32
  let c3_i32_1685 : BitVec 32 := 3#32
  let c0_i32_1684 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1683 : BitVec 32 := 0#32
  let v1493 : BitVec 32 := Scalar.addi v8 c0_i32_1683
  let v1494 : BitVec 32 := Scalar.maxsi c0_i32_1684 v1493
  let v1495 : BitVec 32 := Scalar.minsi c3_i32_1685 v1494
  let v1496 : BitVec 32 := Scalar.addi c8_i32_1686 v1495
  let c256_i32_1687 : BitVec 32 := 256#32
  let v1497 : BitVec 32 := Scalar.muli v1496 c256_i32_1687
  let c2048_i32 : BitVec 32 := 2048#32
  ![v1497.toNat, 2048]
def k0_dev81 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1688 : BitVec 32 := 4294967295#32
  let v1498 : BitVec 32 := Scalar.addi v8 c_m1_i32_1688
  let c1_i32_5493 : BitVec 32 := 1#32
  let v3948 : BitVec 32 := Scalar.muli v1498 c1_i32_5493
  let v3949 : BitVec 32 := Scalar.addi v3947 v3948
  v3949.toNat
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1702 : BitVec 32 := 0#32
  let v1508 : BitVec 1 := Scalar.cmpi .sge v8 c0_i32_1702
  let c3_i32_1703 : BitVec 32 := 3#32
  let v1509 : BitVec 1 := Scalar.cmpi .slt v8 c3_i32_1703
  let v1510 : BitVec 1 := Scalar.andi v1508 v1509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v1501 : BitVec 32 := Scalar.subi v5 c1_i32_1696
  let c1_i32_1697 : BitVec 32 := 1#32
  let v1502 : BitVec 32 := Scalar.subi v1501 c1_i32_1697
  let c3_i32_1698 : BitVec 32 := 3#32
  let v1503 : BitVec 1 := Scalar.cmpi .eq v1502 c3_i32_1698
  let c1_i32_1699 : BitVec 32 := 1#32
  let v1504 : BitVec 32 := Scalar.addi v5 c1_i32_1699
  let c1_i32_1700 : BitVec 32 := 1#32
  let v1505 : BitVec 32 := Scalar.addi v1504 c1_i32_1700
  let c3_i32_1701 : BitVec 32 := 3#32
  let v1506 : BitVec 1 := Scalar.cmpi .eq v1505 c3_i32_1701
  let v1507 : BitVec 1 := Scalar.ori v1503 v1506
  let v1511 : BitVec 1 := Scalar.andi v1510 v1507
  let v1518 : BitVec 32 := Scalar.extui v1511
  let c0_i32_1716 : BitVec 32 := 0#32
  let v1519 : BitVec 1 := Scalar.cmpi .ne v1518 c0_i32_1716
  v1519

def k0_off102 (d0 : Dev nD) : Fin 2 → Nat :=
  let c12_i32_1707 : BitVec 32 := 12#32
  let c3_i32_1706 : BitVec 32 := 3#32
  let c0_i32_1705 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1704 : BitVec 32 := 0#32
  let v1512 : BitVec 32 := Scalar.subi v8 c0_i32_1704
  let v1513 : BitVec 32 := Scalar.maxsi c0_i32_1705 v1512
  let v1514 : BitVec 32 := Scalar.minsi c3_i32_1706 v1513
  let v1515 : BitVec 32 := Scalar.addi c12_i32_1707 v1514
  let c256_i32_1708 : BitVec 32 := 256#32
  let v1516 : BitVec 32 := Scalar.muli v1515 c256_i32_1708
  let c2048_i32 : BitVec 32 := 2048#32
  ![v1516.toNat, 2048]
def k0_dev82 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1709 : BitVec 32 := 1#32
  let v1517 : BitVec 32 := Scalar.addi v8 c1_i32_1709
  let c1_i32_5493 : BitVec 32 := 1#32
  let v3948 : BitVec 32 := Scalar.muli v1517 c1_i32_5493
  let v3949 : BitVec 32 := Scalar.addi v3947 v3948
  v3949.toNat
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1717 : BitVec 32 := 3#32
  let v1520 : BitVec 1 := Scalar.cmpi .sle v8 c3_i32_1717
  let c0_i32_1718 : BitVec 32 := 0#32
  let v1521 : BitVec 1 := Scalar.cmpi .sgt v8 c0_i32_1718
  let v1522 : BitVec 1 := Scalar.andi v1520 v1521
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v1501 : BitVec 32 := Scalar.subi v5 c1_i32_1696
  let c1_i32_1697 : BitVec 32 := 1#32
  let v1502 : BitVec 32 := Scalar.subi v1501 c1_i32_1697
  let c3_i32_1698 : BitVec 32 := 3#32
  let v1503 : BitVec 1 := Scalar.cmpi .eq v1502 c3_i32_1698
  let c1_i32_1699 : BitVec 32 := 1#32
  let v1504 : BitVec 32 := Scalar.addi v5 c1_i32_1699
  let c1_i32_1700 : BitVec 32 := 1#32
  let v1505 : BitVec 32 := Scalar.addi v1504 c1_i32_1700
  let c3_i32_1701 : BitVec 32 := 3#32
  let v1506 : BitVec 1 := Scalar.cmpi .eq v1505 c3_i32_1701
  let v1507 : BitVec 1 := Scalar.ori v1503 v1506
  let v1523 : BitVec 1 := Scalar.andi v1522 v1507
  let v1530 : BitVec 32 := Scalar.extui v1523
  let c0_i32_1731 : BitVec 32 := 0#32
  let v1531 : BitVec 1 := Scalar.cmpi .ne v1530 c0_i32_1731
  v1531

def k0_off103 (d0 : Dev nD) : Fin 2 → Nat :=
  let c12_i32_1722 : BitVec 32 := 12#32
  let c3_i32_1721 : BitVec 32 := 3#32
  let c0_i32_1720 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1719 : BitVec 32 := 0#32
  let v1524 : BitVec 32 := Scalar.addi v8 c0_i32_1719
  let v1525 : BitVec 32 := Scalar.maxsi c0_i32_1720 v1524
  let v1526 : BitVec 32 := Scalar.minsi c3_i32_1721 v1525
  let v1527 : BitVec 32 := Scalar.addi c12_i32_1722 v1526
  let c256_i32_1723 : BitVec 32 := 256#32
  let v1528 : BitVec 32 := Scalar.muli v1527 c256_i32_1723
  let c2048_i32 : BitVec 32 := 2048#32
  ![v1528.toNat, 2048]
def k0_dev83 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1724 : BitVec 32 := 4294967295#32
  let v1529 : BitVec 32 := Scalar.addi v8 c_m1_i32_1724
  let c1_i32_5493 : BitVec 32 := 1#32
  let v3948 : BitVec 32 := Scalar.muli v1529 c1_i32_5493
  let v3949 : BitVec 32 := Scalar.addi v3947 v3948
  v3949.toNat
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1736 : BitVec 32 := 1#32
  let v1537 : BitVec 1 := Scalar.cmpi .sge v5 c1_i32_1736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1532 : BitVec 32 := Scalar.subi v8 c1_i32_1732
  let c0_i32_1733 : BitVec 32 := 0#32
  let v1533 : BitVec 1 := Scalar.cmpi .eq v1532 c0_i32_1733
  let c1_i32_1734 : BitVec 32 := 1#32
  let v1534 : BitVec 32 := Scalar.addi v8 c1_i32_1734
  let c0_i32_1735 : BitVec 32 := 0#32
  let v1535 : BitVec 1 := Scalar.cmpi .eq v1534 c0_i32_1735
  let v1536 : BitVec 1 := Scalar.ori v1533 v1535
  let v1538 : BitVec 1 := Scalar.andi v1537 v1536
  let v1547 : BitVec 32 := Scalar.extui v1538
  let c0_i32_1751 : BitVec 32 := 0#32
  let v1548 : BitVec 1 := Scalar.cmpi .ne v1547 c0_i32_1751
  v1548

def k0_off104 (d0 : Dev nD) : Fin 2 → Nat :=
  let c4_i32_1741 : BitVec 32 := 4#32
  let c3_i32_1740 : BitVec 32 := 3#32
  let c0_i32_1739 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1737 : BitVec 32 := 1#32
  let v1539 : BitVec 32 := Scalar.subi v5 c1_i32_1737
  let c0_i32_1738 : BitVec 32 := 0#32
  let v1540 : BitVec 32 := Scalar.subi v1539 c0_i32_1738
  let v1541 : BitVec 32 := Scalar.maxsi c0_i32_1739 v1540
  let v1542 : BitVec 32 := Scalar.minsi c3_i32_1740 v1541
  let v1543 : BitVec 32 := Scalar.muli c4_i32_1741 v1542
  let c0_i32_1742 : BitVec 32 := 0#32
  let v1544 : BitVec 32 := Scalar.addi v1543 c0_i32_1742
  let c256_i32_1743 : BitVec 32 := 256#32
  let v1545 : BitVec 32 := Scalar.muli v1544 c256_i32_1743
  let c0_i32_5494 : BitVec 32 := 0#32
  ![v1545.toNat, 0]
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1752 : BitVec 32 := 2#32
  let v1549 : BitVec 1 := Scalar.cmpi .sle v5 c2_i32_1752
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1532 : BitVec 32 := Scalar.subi v8 c1_i32_1732
  let c0_i32_1733 : BitVec 32 := 0#32
  let v1533 : BitVec 1 := Scalar.cmpi .eq v1532 c0_i32_1733
  let c1_i32_1734 : BitVec 32 := 1#32
  let v1534 : BitVec 32 := Scalar.addi v8 c1_i32_1734
  let c0_i32_1735 : BitVec 32 := 0#32
  let v1535 : BitVec 1 := Scalar.cmpi .eq v1534 c0_i32_1735
  let v1536 : BitVec 1 := Scalar.ori v1533 v1535
  let v1550 : BitVec 1 := Scalar.andi v1549 v1536
  let v1559 : BitVec 32 := Scalar.extui v1550
  let c0_i32_1767 : BitVec 32 := 0#32
  let v1560 : BitVec 1 := Scalar.cmpi .ne v1559 c0_i32_1767
  v1560

def k0_off105 (d0 : Dev nD) : Fin 2 → Nat :=
  let c4_i32_1757 : BitVec 32 := 4#32
  let c3_i32_1756 : BitVec 32 := 3#32
  let c0_i32_1755 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1753 : BitVec 32 := 1#32
  let v1551 : BitVec 32 := Scalar.addi v5 c1_i32_1753
  let c0_i32_1754 : BitVec 32 := 0#32
  let v1552 : BitVec 32 := Scalar.addi v1551 c0_i32_1754
  let v1553 : BitVec 32 := Scalar.maxsi c0_i32_1755 v1552
  let v1554 : BitVec 32 := Scalar.minsi c3_i32_1756 v1553
  let v1555 : BitVec 32 := Scalar.muli c4_i32_1757 v1554
  let c0_i32_1758 : BitVec 32 := 0#32
  let v1556 : BitVec 32 := Scalar.addi v1555 c0_i32_1758
  let c256_i32_1759 : BitVec 32 := 256#32
  let v1557 : BitVec 32 := Scalar.muli v1556 c256_i32_1759
  let c0_i32_5494 : BitVec 32 := 0#32
  ![v1557.toNat, 0]
def k0_cond111 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1768 : BitVec 32 := 1#32
  let v1561 : BitVec 1 := Scalar.cmpi .sge v5 c1_i32_1768
  let c3_i32_1769 : BitVec 32 := 3#32
  let v1562 : BitVec 1 := Scalar.cmpi .slt v5 c3_i32_1769
  let v1563 : BitVec 1 := Scalar.andi v1561 v1562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1532 : BitVec 32 := Scalar.subi v8 c1_i32_1732
  let c0_i32_1733 : BitVec 32 := 0#32
  let v1533 : BitVec 1 := Scalar.cmpi .eq v1532 c0_i32_1733
  let c1_i32_1734 : BitVec 32 := 1#32
  let v1534 : BitVec 32 := Scalar.addi v8 c1_i32_1734
  let c0_i32_1735 : BitVec 32 := 0#32
  let v1535 : BitVec 1 := Scalar.cmpi .eq v1534 c0_i32_1735
  let v1536 : BitVec 1 := Scalar.ori v1533 v1535
  let v1564 : BitVec 1 := Scalar.andi v1563 v1536
  let v1572 : BitVec 32 := Scalar.extui v1564
  let c0_i32_1783 : BitVec 32 := 0#32
  let v1573 : BitVec 1 := Scalar.cmpi .ne v1572 c0_i32_1783
  v1573

def k0_off106 (d0 : Dev nD) : Fin 2 → Nat :=
  let c4_i32_1773 : BitVec 32 := 4#32
  let c3_i32_1772 : BitVec 32 := 3#32
  let c0_i32_1771 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1770 : BitVec 32 := 1#32
  let v1565 : BitVec 32 := Scalar.subi v5 c1_i32_1770
  let v1566 : BitVec 32 := Scalar.maxsi c0_i32_1771 v1565
  let v1567 : BitVec 32 := Scalar.minsi c3_i32_1772 v1566
  let v1568 : BitVec 32 := Scalar.muli c4_i32_1773 v1567
  let c0_i32_1774 : BitVec 32 := 0#32
  let v1569 : BitVec 32 := Scalar.addi v1568 c0_i32_1774
  let c256_i32_1775 : BitVec 32 := 256#32
  let v1570 : BitVec 32 := Scalar.muli v1569 c256_i32_1775
  let c0_i32_5494 : BitVec 32 := 0#32
  ![v1570.toNat, 0]
def k0_dev84 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v1571 : BitVec 32 := Scalar.addi v5 c1_i32_1776
  let c4_i32_5492 : BitVec 32 := 4#32
  let v3946 : BitVec 32 := Scalar.muli v1571 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond112 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1784 : BitVec 32 := 2#32
  let v1574 : BitVec 1 := Scalar.cmpi .sle v5 c2_i32_1784
  let c0_i32_1785 : BitVec 32 := 0#32
  let v1575 : BitVec 1 := Scalar.cmpi .sgt v5 c0_i32_1785
  let v1576 : BitVec 1 := Scalar.andi v1574 v1575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1532 : BitVec 32 := Scalar.subi v8 c1_i32_1732
  let c0_i32_1733 : BitVec 32 := 0#32
  let v1533 : BitVec 1 := Scalar.cmpi .eq v1532 c0_i32_1733
  let c1_i32_1734 : BitVec 32 := 1#32
  let v1534 : BitVec 32 := Scalar.addi v8 c1_i32_1734
  let c0_i32_1735 : BitVec 32 := 0#32
  let v1535 : BitVec 1 := Scalar.cmpi .eq v1534 c0_i32_1735
  let v1536 : BitVec 1 := Scalar.ori v1533 v1535
  let v1577 : BitVec 1 := Scalar.andi v1576 v1536
  let v1585 : BitVec 32 := Scalar.extui v1577
  let c0_i32_1799 : BitVec 32 := 0#32
  let v1586 : BitVec 1 := Scalar.cmpi .ne v1585 c0_i32_1799
  v1586

def k0_off107 (d0 : Dev nD) : Fin 2 → Nat :=
  let c4_i32_1789 : BitVec 32 := 4#32
  let c3_i32_1788 : BitVec 32 := 3#32
  let c0_i32_1787 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1786 : BitVec 32 := 1#32
  let v1578 : BitVec 32 := Scalar.addi v5 c1_i32_1786
  let v1579 : BitVec 32 := Scalar.maxsi c0_i32_1787 v1578
  let v1580 : BitVec 32 := Scalar.minsi c3_i32_1788 v1579
  let v1581 : BitVec 32 := Scalar.muli c4_i32_1789 v1580
  let c0_i32_1790 : BitVec 32 := 0#32
  let v1582 : BitVec 32 := Scalar.addi v1581 c0_i32_1790
  let c256_i32_1791 : BitVec 32 := 256#32
  let v1583 : BitVec 32 := Scalar.muli v1582 c256_i32_1791
  let c0_i32_5494 : BitVec 32 := 0#32
  ![v1583.toNat, 0]
def k0_dev85 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1792 : BitVec 32 := 4294967295#32
  let v1584 : BitVec 32 := Scalar.addi v5 c_m1_i32_1792
  let c4_i32_5492 : BitVec 32 := 4#32
  let v3946 : BitVec 32 := Scalar.muli v1584 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1804 : BitVec 32 := 1#32
  let v1592 : BitVec 1 := Scalar.cmpi .sge v8 c1_i32_1804
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1800 : BitVec 32 := 1#32
  let v1587 : BitVec 32 := Scalar.subi v5 c1_i32_1800
  let c0_i32_1801 : BitVec 32 := 0#32
  let v1588 : BitVec 1 := Scalar.cmpi .eq v1587 c0_i32_1801
  let c1_i32_1802 : BitVec 32 := 1#32
  let v1589 : BitVec 32 := Scalar.addi v5 c1_i32_1802
  let c0_i32_1803 : BitVec 32 := 0#32
  let v1590 : BitVec 1 := Scalar.cmpi .eq v1589 c0_i32_1803
  let v1591 : BitVec 1 := Scalar.ori v1588 v1590
  let v1593 : BitVec 1 := Scalar.andi v1592 v1591
  let v1601 : BitVec 32 := Scalar.extui v1593
  let c0_i32_1818 : BitVec 32 := 0#32
  let v1602 : BitVec 1 := Scalar.cmpi .ne v1601 c0_i32_1818
  v1602

def k0_off108 (d0 : Dev nD) : Fin 2 → Nat :=
  let c0_i32_1809 : BitVec 32 := 0#32
  let c3_i32_1808 : BitVec 32 := 3#32
  let c0_i32_1807 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1805 : BitVec 32 := 1#32
  let v1594 : BitVec 32 := Scalar.subi v8 c1_i32_1805
  let c0_i32_1806 : BitVec 32 := 0#32
  let v1595 : BitVec 32 := Scalar.subi v1594 c0_i32_1806
  let v1596 : BitVec 32 := Scalar.maxsi c0_i32_1807 v1595
  let v1597 : BitVec 32 := Scalar.minsi c3_i32_1808 v1596
  let v1598 : BitVec 32 := Scalar.addi c0_i32_1809 v1597
  let c256_i32_1810 : BitVec 32 := 256#32
  let v1599 : BitVec 32 := Scalar.muli v1598 c256_i32_1810
  let c2048_i32 : BitVec 32 := 2048#32
  ![v1599.toNat, 2048]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1819 : BitVec 32 := 2#32
  let v1603 : BitVec 1 := Scalar.cmpi .sle v8 c2_i32_1819
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1800 : BitVec 32 := 1#32
  let v1587 : BitVec 32 := Scalar.subi v5 c1_i32_1800
  let c0_i32_1801 : BitVec 32 := 0#32
  let v1588 : BitVec 1 := Scalar.cmpi .eq v1587 c0_i32_1801
  let c1_i32_1802 : BitVec 32 := 1#32
  let v1589 : BitVec 32 := Scalar.addi v5 c1_i32_1802
  let c0_i32_1803 : BitVec 32 := 0#32
  let v1590 : BitVec 1 := Scalar.cmpi .eq v1589 c0_i32_1803
  let v1591 : BitVec 1 := Scalar.ori v1588 v1590
  let v1604 : BitVec 1 := Scalar.andi v1603 v1591
  let v1612 : BitVec 32 := Scalar.extui v1604
  let c0_i32_1833 : BitVec 32 := 0#32
  let v1613 : BitVec 1 := Scalar.cmpi .ne v1612 c0_i32_1833
  v1613

def k0_off109 (d0 : Dev nD) : Fin 2 → Nat :=
  let c0_i32_1824 : BitVec 32 := 0#32
  let c3_i32_1823 : BitVec 32 := 3#32
  let c0_i32_1822 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1820 : BitVec 32 := 1#32
  let v1605 : BitVec 32 := Scalar.addi v8 c1_i32_1820
  let c0_i32_1821 : BitVec 32 := 0#32
  let v1606 : BitVec 32 := Scalar.addi v1605 c0_i32_1821
  let v1607 : BitVec 32 := Scalar.maxsi c0_i32_1822 v1606
  let v1608 : BitVec 32 := Scalar.minsi c3_i32_1823 v1607
  let v1609 : BitVec 32 := Scalar.addi c0_i32_1824 v1608
  let c256_i32_1825 : BitVec 32 := 256#32
  let v1610 : BitVec 32 := Scalar.muli v1609 c256_i32_1825
  let c2048_i32 : BitVec 32 := 2048#32
  ![v1610.toNat, 2048]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1834 : BitVec 32 := 1#32
  let v1614 : BitVec 1 := Scalar.cmpi .sge v8 c1_i32_1834
  let c3_i32_1835 : BitVec 32 := 3#32
  let v1615 : BitVec 1 := Scalar.cmpi .slt v8 c3_i32_1835
  let v1616 : BitVec 1 := Scalar.andi v1614 v1615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1800 : BitVec 32 := 1#32
  let v1587 : BitVec 32 := Scalar.subi v5 c1_i32_1800
  let c0_i32_1801 : BitVec 32 := 0#32
  let v1588 : BitVec 1 := Scalar.cmpi .eq v1587 c0_i32_1801
  let c1_i32_1802 : BitVec 32 := 1#32
  let v1589 : BitVec 32 := Scalar.addi v5 c1_i32_1802
  let c0_i32_1803 : BitVec 32 := 0#32
  let v1590 : BitVec 1 := Scalar.cmpi .eq v1589 c0_i32_1803
  let v1591 : BitVec 1 := Scalar.ori v1588 v1590
  let v1617 : BitVec 1 := Scalar.andi v1616 v1591
  let v1624 : BitVec 32 := Scalar.extui v1617
  let c0_i32_1848 : BitVec 32 := 0#32
  let v1625 : BitVec 1 := Scalar.cmpi .ne v1624 c0_i32_1848
  v1625

def k0_off110 (d0 : Dev nD) : Fin 2 → Nat :=
  let c0_i32_1839 : BitVec 32 := 0#32
  let c3_i32_1838 : BitVec 32 := 3#32
  let c0_i32_1837 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1836 : BitVec 32 := 1#32
  let v1618 : BitVec 32 := Scalar.subi v8 c1_i32_1836
  let v1619 : BitVec 32 := Scalar.maxsi c0_i32_1837 v1618
  let v1620 : BitVec 32 := Scalar.minsi c3_i32_1838 v1619
  let v1621 : BitVec 32 := Scalar.addi c0_i32_1839 v1620
  let c256_i32_1840 : BitVec 32 := 256#32
  let v1622 : BitVec 32 := Scalar.muli v1621 c256_i32_1840
  let c2048_i32 : BitVec 32 := 2048#32
  ![v1622.toNat, 2048]
def k0_dev86 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1841 : BitVec 32 := 1#32
  let v1623 : BitVec 32 := Scalar.addi v8 c1_i32_1841
  let c1_i32_5493 : BitVec 32 := 1#32
  let v3948 : BitVec 32 := Scalar.muli v1623 c1_i32_5493
  let v3949 : BitVec 32 := Scalar.addi v3947 v3948
  v3949.toNat
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1849 : BitVec 32 := 2#32
  let v1626 : BitVec 1 := Scalar.cmpi .sle v8 c2_i32_1849
  let c0_i32_1850 : BitVec 32 := 0#32
  let v1627 : BitVec 1 := Scalar.cmpi .sgt v8 c0_i32_1850
  let v1628 : BitVec 1 := Scalar.andi v1626 v1627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1800 : BitVec 32 := 1#32
  let v1587 : BitVec 32 := Scalar.subi v5 c1_i32_1800
  let c0_i32_1801 : BitVec 32 := 0#32
  let v1588 : BitVec 1 := Scalar.cmpi .eq v1587 c0_i32_1801
  let c1_i32_1802 : BitVec 32 := 1#32
  let v1589 : BitVec 32 := Scalar.addi v5 c1_i32_1802
  let c0_i32_1803 : BitVec 32 := 0#32
  let v1590 : BitVec 1 := Scalar.cmpi .eq v1589 c0_i32_1803
  let v1591 : BitVec 1 := Scalar.ori v1588 v1590
  let v1629 : BitVec 1 := Scalar.andi v1628 v1591
  let v1636 : BitVec 32 := Scalar.extui v1629
  let c0_i32_1863 : BitVec 32 := 0#32
  let v1637 : BitVec 1 := Scalar.cmpi .ne v1636 c0_i32_1863
  v1637

def k0_off111 (d0 : Dev nD) : Fin 2 → Nat :=
  let c0_i32_1854 : BitVec 32 := 0#32
  let c3_i32_1853 : BitVec 32 := 3#32
  let c0_i32_1852 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1851 : BitVec 32 := 1#32
  let v1630 : BitVec 32 := Scalar.addi v8 c1_i32_1851
  let v1631 : BitVec 32 := Scalar.maxsi c0_i32_1852 v1630
  let v1632 : BitVec 32 := Scalar.minsi c3_i32_1853 v1631
  let v1633 : BitVec 32 := Scalar.addi c0_i32_1854 v1632
  let c256_i32_1855 : BitVec 32 := 256#32
  let v1634 : BitVec 32 := Scalar.muli v1633 c256_i32_1855
  let c2048_i32 : BitVec 32 := 2048#32
  ![v1634.toNat, 2048]
def k0_dev87 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1856 : BitVec 32 := 4294967295#32
  let v1635 : BitVec 32 := Scalar.addi v8 c_m1_i32_1856
  let c1_i32_5493 : BitVec 32 := 1#32
  let v3948 : BitVec 32 := Scalar.muli v1635 c1_i32_5493
  let v3949 : BitVec 32 := Scalar.addi v3947 v3948
  v3949.toNat
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1868 : BitVec 32 := 1#32
  let v1643 : BitVec 1 := Scalar.cmpi .sge v5 c1_i32_1868
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v1638 : BitVec 32 := Scalar.subi v8 c1_i32_1864
  let c1_i32_1865 : BitVec 32 := 1#32
  let v1639 : BitVec 1 := Scalar.cmpi .eq v1638 c1_i32_1865
  let c1_i32_1866 : BitVec 32 := 1#32
  let v1640 : BitVec 32 := Scalar.addi v8 c1_i32_1866
  let c1_i32_1867 : BitVec 32 := 1#32
  let v1641 : BitVec 1 := Scalar.cmpi .eq v1640 c1_i32_1867
  let v1642 : BitVec 1 := Scalar.ori v1639 v1641
  let v1644 : BitVec 1 := Scalar.andi v1643 v1642
  let v1653 : BitVec 32 := Scalar.extui v1644
  let c0_i32_1883 : BitVec 32 := 0#32
  let v1654 : BitVec 1 := Scalar.cmpi .ne v1653 c0_i32_1883
  v1654

def k0_off112 (d0 : Dev nD) : Fin 2 → Nat :=
  let c4_i32_1873 : BitVec 32 := 4#32
  let c3_i32_1872 : BitVec 32 := 3#32
  let c0_i32_1871 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1869 : BitVec 32 := 1#32
  let v1645 : BitVec 32 := Scalar.subi v5 c1_i32_1869
  let c0_i32_1870 : BitVec 32 := 0#32
  let v1646 : BitVec 32 := Scalar.subi v1645 c0_i32_1870
  let v1647 : BitVec 32 := Scalar.maxsi c0_i32_1871 v1646
  let v1648 : BitVec 32 := Scalar.minsi c3_i32_1872 v1647
  let v1649 : BitVec 32 := Scalar.muli c4_i32_1873 v1648
  let c1_i32_1874 : BitVec 32 := 1#32
  let v1650 : BitVec 32 := Scalar.addi v1649 c1_i32_1874
  let c256_i32_1875 : BitVec 32 := 256#32
  let v1651 : BitVec 32 := Scalar.muli v1650 c256_i32_1875
  let c0_i32_5494 : BitVec 32 := 0#32
  ![v1651.toNat, 0]
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1884 : BitVec 32 := 2#32
  let v1655 : BitVec 1 := Scalar.cmpi .sle v5 c2_i32_1884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v1638 : BitVec 32 := Scalar.subi v8 c1_i32_1864
  let c1_i32_1865 : BitVec 32 := 1#32
  let v1639 : BitVec 1 := Scalar.cmpi .eq v1638 c1_i32_1865
  let c1_i32_1866 : BitVec 32 := 1#32
  let v1640 : BitVec 32 := Scalar.addi v8 c1_i32_1866
  let c1_i32_1867 : BitVec 32 := 1#32
  let v1641 : BitVec 1 := Scalar.cmpi .eq v1640 c1_i32_1867
  let v1642 : BitVec 1 := Scalar.ori v1639 v1641
  let v1656 : BitVec 1 := Scalar.andi v1655 v1642
  let v1665 : BitVec 32 := Scalar.extui v1656
  let c0_i32_1899 : BitVec 32 := 0#32
  let v1666 : BitVec 1 := Scalar.cmpi .ne v1665 c0_i32_1899
  v1666

def k0_off113 (d0 : Dev nD) : Fin 2 → Nat :=
  let c4_i32_1889 : BitVec 32 := 4#32
  let c3_i32_1888 : BitVec 32 := 3#32
  let c0_i32_1887 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1885 : BitVec 32 := 1#32
  let v1657 : BitVec 32 := Scalar.addi v5 c1_i32_1885
  let c0_i32_1886 : BitVec 32 := 0#32
  let v1658 : BitVec 32 := Scalar.addi v1657 c0_i32_1886
  let v1659 : BitVec 32 := Scalar.maxsi c0_i32_1887 v1658
  let v1660 : BitVec 32 := Scalar.minsi c3_i32_1888 v1659
  let v1661 : BitVec 32 := Scalar.muli c4_i32_1889 v1660
  let c1_i32_1890 : BitVec 32 := 1#32
  let v1662 : BitVec 32 := Scalar.addi v1661 c1_i32_1890
  let c256_i32_1891 : BitVec 32 := 256#32
  let v1663 : BitVec 32 := Scalar.muli v1662 c256_i32_1891
  let c0_i32_5494 : BitVec 32 := 0#32
  ![v1663.toNat, 0]
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1900 : BitVec 32 := 1#32
  let v1667 : BitVec 1 := Scalar.cmpi .sge v5 c1_i32_1900
  let c3_i32_1901 : BitVec 32 := 3#32
  let v1668 : BitVec 1 := Scalar.cmpi .slt v5 c3_i32_1901
  let v1669 : BitVec 1 := Scalar.andi v1667 v1668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v1638 : BitVec 32 := Scalar.subi v8 c1_i32_1864
  let c1_i32_1865 : BitVec 32 := 1#32
  let v1639 : BitVec 1 := Scalar.cmpi .eq v1638 c1_i32_1865
  let c1_i32_1866 : BitVec 32 := 1#32
  let v1640 : BitVec 32 := Scalar.addi v8 c1_i32_1866
  let c1_i32_1867 : BitVec 32 := 1#32
  let v1641 : BitVec 1 := Scalar.cmpi .eq v1640 c1_i32_1867
  let v1642 : BitVec 1 := Scalar.ori v1639 v1641
  let v1670 : BitVec 1 := Scalar.andi v1669 v1642
  let v1678 : BitVec 32 := Scalar.extui v1670
  let c0_i32_1915 : BitVec 32 := 0#32
  let v1679 : BitVec 1 := Scalar.cmpi .ne v1678 c0_i32_1915
  v1679

def k0_off114 (d0 : Dev nD) : Fin 2 → Nat :=
  let c4_i32_1905 : BitVec 32 := 4#32
  let c3_i32_1904 : BitVec 32 := 3#32
  let c0_i32_1903 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1902 : BitVec 32 := 1#32
  let v1671 : BitVec 32 := Scalar.subi v5 c1_i32_1902
  let v1672 : BitVec 32 := Scalar.maxsi c0_i32_1903 v1671
  let v1673 : BitVec 32 := Scalar.minsi c3_i32_1904 v1672
  let v1674 : BitVec 32 := Scalar.muli c4_i32_1905 v1673
  let c1_i32_1906 : BitVec 32 := 1#32
  let v1675 : BitVec 32 := Scalar.addi v1674 c1_i32_1906
  let c256_i32_1907 : BitVec 32 := 256#32
  let v1676 : BitVec 32 := Scalar.muli v1675 c256_i32_1907
  let c0_i32_5494 : BitVec 32 := 0#32
  ![v1676.toNat, 0]
def k0_dev88 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1908 : BitVec 32 := 1#32
  let v1677 : BitVec 32 := Scalar.addi v5 c1_i32_1908
  let c4_i32_5492 : BitVec 32 := 4#32
  let v3946 : BitVec 32 := Scalar.muli v1677 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1916 : BitVec 32 := 2#32
  let v1680 : BitVec 1 := Scalar.cmpi .sle v5 c2_i32_1916
  let c0_i32_1917 : BitVec 32 := 0#32
  let v1681 : BitVec 1 := Scalar.cmpi .sgt v5 c0_i32_1917
  let v1682 : BitVec 1 := Scalar.andi v1680 v1681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v1638 : BitVec 32 := Scalar.subi v8 c1_i32_1864
  let c1_i32_1865 : BitVec 32 := 1#32
  let v1639 : BitVec 1 := Scalar.cmpi .eq v1638 c1_i32_1865
  let c1_i32_1866 : BitVec 32 := 1#32
  let v1640 : BitVec 32 := Scalar.addi v8 c1_i32_1866
  let c1_i32_1867 : BitVec 32 := 1#32
  let v1641 : BitVec 1 := Scalar.cmpi .eq v1640 c1_i32_1867
  let v1642 : BitVec 1 := Scalar.ori v1639 v1641
  let v1683 : BitVec 1 := Scalar.andi v1682 v1642
  let v1691 : BitVec 32 := Scalar.extui v1683
  let c0_i32_1931 : BitVec 32 := 0#32
  let v1692 : BitVec 1 := Scalar.cmpi .ne v1691 c0_i32_1931
  v1692

def k0_off115 (d0 : Dev nD) : Fin 2 → Nat :=
  let c4_i32_1921 : BitVec 32 := 4#32
  let c3_i32_1920 : BitVec 32 := 3#32
  let c0_i32_1919 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1918 : BitVec 32 := 1#32
  let v1684 : BitVec 32 := Scalar.addi v5 c1_i32_1918
  let v1685 : BitVec 32 := Scalar.maxsi c0_i32_1919 v1684
  let v1686 : BitVec 32 := Scalar.minsi c3_i32_1920 v1685
  let v1687 : BitVec 32 := Scalar.muli c4_i32_1921 v1686
  let c1_i32_1922 : BitVec 32 := 1#32
  let v1688 : BitVec 32 := Scalar.addi v1687 c1_i32_1922
  let c256_i32_1923 : BitVec 32 := 256#32
  let v1689 : BitVec 32 := Scalar.muli v1688 c256_i32_1923
  let c0_i32_5494 : BitVec 32 := 0#32
  ![v1689.toNat, 0]
def k0_dev89 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1924 : BitVec 32 := 4294967295#32
  let v1690 : BitVec 32 := Scalar.addi v5 c_m1_i32_1924
  let c4_i32_5492 : BitVec 32 := 4#32
  let v3946 : BitVec 32 := Scalar.muli v1690 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1936 : BitVec 32 := 1#32
  let v1698 : BitVec 1 := Scalar.cmpi .sge v8 c1_i32_1936
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1932 : BitVec 32 := 1#32
  let v1693 : BitVec 32 := Scalar.subi v5 c1_i32_1932
  let c1_i32_1933 : BitVec 32 := 1#32
  let v1694 : BitVec 1 := Scalar.cmpi .eq v1693 c1_i32_1933
  let c1_i32_1934 : BitVec 32 := 1#32
  let v1695 : BitVec 32 := Scalar.addi v5 c1_i32_1934
  let c1_i32_1935 : BitVec 32 := 1#32
  let v1696 : BitVec 1 := Scalar.cmpi .eq v1695 c1_i32_1935
  let v1697 : BitVec 1 := Scalar.ori v1694 v1696
  let v1699 : BitVec 1 := Scalar.andi v1698 v1697
  let v1707 : BitVec 32 := Scalar.extui v1699
  let c0_i32_1950 : BitVec 32 := 0#32
  let v1708 : BitVec 1 := Scalar.cmpi .ne v1707 c0_i32_1950
  v1708

def k0_off116 (d0 : Dev nD) : Fin 2 → Nat :=
  let c4_i32_1941 : BitVec 32 := 4#32
  let c3_i32_1940 : BitVec 32 := 3#32
  let c0_i32_1939 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1937 : BitVec 32 := 1#32
  let v1700 : BitVec 32 := Scalar.subi v8 c1_i32_1937
  let c0_i32_1938 : BitVec 32 := 0#32
  let v1701 : BitVec 32 := Scalar.subi v1700 c0_i32_1938
  let v1702 : BitVec 32 := Scalar.maxsi c0_i32_1939 v1701
  let v1703 : BitVec 32 := Scalar.minsi c3_i32_1940 v1702
  let v1704 : BitVec 32 := Scalar.addi c4_i32_1941 v1703
  let c256_i32_1942 : BitVec 32 := 256#32
  let v1705 : BitVec 32 := Scalar.muli v1704 c256_i32_1942
  let c2048_i32 : BitVec 32 := 2048#32
  ![v1705.toNat, 2048]
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1951 : BitVec 32 := 2#32
  let v1709 : BitVec 1 := Scalar.cmpi .sle v8 c2_i32_1951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1932 : BitVec 32 := 1#32
  let v1693 : BitVec 32 := Scalar.subi v5 c1_i32_1932
  let c1_i32_1933 : BitVec 32 := 1#32
  let v1694 : BitVec 1 := Scalar.cmpi .eq v1693 c1_i32_1933
  let c1_i32_1934 : BitVec 32 := 1#32
  let v1695 : BitVec 32 := Scalar.addi v5 c1_i32_1934
  let c1_i32_1935 : BitVec 32 := 1#32
  let v1696 : BitVec 1 := Scalar.cmpi .eq v1695 c1_i32_1935
  let v1697 : BitVec 1 := Scalar.ori v1694 v1696
  let v1710 : BitVec 1 := Scalar.andi v1709 v1697
  let v1718 : BitVec 32 := Scalar.extui v1710
  let c0_i32_1965 : BitVec 32 := 0#32
  let v1719 : BitVec 1 := Scalar.cmpi .ne v1718 c0_i32_1965
  v1719

def k0_off117 (d0 : Dev nD) : Fin 2 → Nat :=
  let c4_i32_1956 : BitVec 32 := 4#32
  let c3_i32_1955 : BitVec 32 := 3#32
  let c0_i32_1954 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1952 : BitVec 32 := 1#32
  let v1711 : BitVec 32 := Scalar.addi v8 c1_i32_1952
  let c0_i32_1953 : BitVec 32 := 0#32
  let v1712 : BitVec 32 := Scalar.addi v1711 c0_i32_1953
  let v1713 : BitVec 32 := Scalar.maxsi c0_i32_1954 v1712
  let v1714 : BitVec 32 := Scalar.minsi c3_i32_1955 v1713
  let v1715 : BitVec 32 := Scalar.addi c4_i32_1956 v1714
  let c256_i32_1957 : BitVec 32 := 256#32
  let v1716 : BitVec 32 := Scalar.muli v1715 c256_i32_1957
  let c2048_i32 : BitVec 32 := 2048#32
  ![v1716.toNat, 2048]
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1966 : BitVec 32 := 1#32
  let v1720 : BitVec 1 := Scalar.cmpi .sge v8 c1_i32_1966
  let c3_i32_1967 : BitVec 32 := 3#32
  let v1721 : BitVec 1 := Scalar.cmpi .slt v8 c3_i32_1967
  let v1722 : BitVec 1 := Scalar.andi v1720 v1721
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1932 : BitVec 32 := 1#32
  let v1693 : BitVec 32 := Scalar.subi v5 c1_i32_1932
  let c1_i32_1933 : BitVec 32 := 1#32
  let v1694 : BitVec 1 := Scalar.cmpi .eq v1693 c1_i32_1933
  let c1_i32_1934 : BitVec 32 := 1#32
  let v1695 : BitVec 32 := Scalar.addi v5 c1_i32_1934
  let c1_i32_1935 : BitVec 32 := 1#32
  let v1696 : BitVec 1 := Scalar.cmpi .eq v1695 c1_i32_1935
  let v1697 : BitVec 1 := Scalar.ori v1694 v1696
  let v1723 : BitVec 1 := Scalar.andi v1722 v1697
  let v1730 : BitVec 32 := Scalar.extui v1723
  let c0_i32_1980 : BitVec 32 := 0#32
  let v1731 : BitVec 1 := Scalar.cmpi .ne v1730 c0_i32_1980
  v1731

def k0_off118 (d0 : Dev nD) : Fin 2 → Nat :=
  let c4_i32_1971 : BitVec 32 := 4#32
  let c3_i32_1970 : BitVec 32 := 3#32
  let c0_i32_1969 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1968 : BitVec 32 := 1#32
  let v1724 : BitVec 32 := Scalar.subi v8 c1_i32_1968
  let v1725 : BitVec 32 := Scalar.maxsi c0_i32_1969 v1724
  let v1726 : BitVec 32 := Scalar.minsi c3_i32_1970 v1725
  let v1727 : BitVec 32 := Scalar.addi c4_i32_1971 v1726
  let c256_i32_1972 : BitVec 32 := 256#32
  let v1728 : BitVec 32 := Scalar.muli v1727 c256_i32_1972
  let c2048_i32 : BitVec 32 := 2048#32
  ![v1728.toNat, 2048]
def k0_dev90 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1973 : BitVec 32 := 1#32
  let v1729 : BitVec 32 := Scalar.addi v8 c1_i32_1973
  let c1_i32_5493 : BitVec 32 := 1#32
  let v3948 : BitVec 32 := Scalar.muli v1729 c1_i32_5493
  let v3949 : BitVec 32 := Scalar.addi v3947 v3948
  v3949.toNat
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1981 : BitVec 32 := 2#32
  let v1732 : BitVec 1 := Scalar.cmpi .sle v8 c2_i32_1981
  let c0_i32_1982 : BitVec 32 := 0#32
  let v1733 : BitVec 1 := Scalar.cmpi .sgt v8 c0_i32_1982
  let v1734 : BitVec 1 := Scalar.andi v1732 v1733
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1932 : BitVec 32 := 1#32
  let v1693 : BitVec 32 := Scalar.subi v5 c1_i32_1932
  let c1_i32_1933 : BitVec 32 := 1#32
  let v1694 : BitVec 1 := Scalar.cmpi .eq v1693 c1_i32_1933
  let c1_i32_1934 : BitVec 32 := 1#32
  let v1695 : BitVec 32 := Scalar.addi v5 c1_i32_1934
  let c1_i32_1935 : BitVec 32 := 1#32
  let v1696 : BitVec 1 := Scalar.cmpi .eq v1695 c1_i32_1935
  let v1697 : BitVec 1 := Scalar.ori v1694 v1696
  let v1735 : BitVec 1 := Scalar.andi v1734 v1697
  let v1742 : BitVec 32 := Scalar.extui v1735
  let c0_i32_1995 : BitVec 32 := 0#32
  let v1743 : BitVec 1 := Scalar.cmpi .ne v1742 c0_i32_1995
  v1743

def k0_off119 (d0 : Dev nD) : Fin 2 → Nat :=
  let c4_i32_1986 : BitVec 32 := 4#32
  let c3_i32_1985 : BitVec 32 := 3#32
  let c0_i32_1984 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1983 : BitVec 32 := 1#32
  let v1736 : BitVec 32 := Scalar.addi v8 c1_i32_1983
  let v1737 : BitVec 32 := Scalar.maxsi c0_i32_1984 v1736
  let v1738 : BitVec 32 := Scalar.minsi c3_i32_1985 v1737
  let v1739 : BitVec 32 := Scalar.addi c4_i32_1986 v1738
  let c256_i32_1987 : BitVec 32 := 256#32
  let v1740 : BitVec 32 := Scalar.muli v1739 c256_i32_1987
  let c2048_i32 : BitVec 32 := 2048#32
  ![v1740.toNat, 2048]
def k0_dev91 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1988 : BitVec 32 := 4294967295#32
  let v1741 : BitVec 32 := Scalar.addi v8 c_m1_i32_1988
  let c1_i32_5493 : BitVec 32 := 1#32
  let v3948 : BitVec 32 := Scalar.muli v1741 c1_i32_5493
  let v3949 : BitVec 32 := Scalar.addi v3947 v3948
  v3949.toNat
def k0_cond125 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2000 : BitVec 32 := 1#32
  let v1749 : BitVec 1 := Scalar.cmpi .sge v5 c1_i32_2000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1996 : BitVec 32 := 1#32
  let v1744 : BitVec 32 := Scalar.subi v8 c1_i32_1996
  let c2_i32_1997 : BitVec 32 := 2#32
  let v1745 : BitVec 1 := Scalar.cmpi .eq v1744 c2_i32_1997
  let c1_i32_1998 : BitVec 32 := 1#32
  let v1746 : BitVec 32 := Scalar.addi v8 c1_i32_1998
  let c2_i32_1999 : BitVec 32 := 2#32
  let v1747 : BitVec 1 := Scalar.cmpi .eq v1746 c2_i32_1999
  let v1748 : BitVec 1 := Scalar.ori v1745 v1747
  let v1750 : BitVec 1 := Scalar.andi v1749 v1748
  let v1759 : BitVec 32 := Scalar.extui v1750
  let c0_i32_2015 : BitVec 32 := 0#32
  let v1760 : BitVec 1 := Scalar.cmpi .ne v1759 c0_i32_2015
  v1760

def k0_off120 (d0 : Dev nD) : Fin 2 → Nat :=
  let c4_i32_2005 : BitVec 32 := 4#32
  let c3_i32_2004 : BitVec 32 := 3#32
  let c0_i32_2003 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2001 : BitVec 32 := 1#32
  let v1751 : BitVec 32 := Scalar.subi v5 c1_i32_2001
  let c0_i32_2002 : BitVec 32 := 0#32
  let v1752 : BitVec 32 := Scalar.subi v1751 c0_i32_2002
  let v1753 : BitVec 32 := Scalar.maxsi c0_i32_2003 v1752
  let v1754 : BitVec 32 := Scalar.minsi c3_i32_2004 v1753
  let v1755 : BitVec 32 := Scalar.muli c4_i32_2005 v1754
  let c2_i32_2006 : BitVec 32 := 2#32
  let v1756 : BitVec 32 := Scalar.addi v1755 c2_i32_2006
  let c256_i32_2007 : BitVec 32 := 256#32
  let v1757 : BitVec 32 := Scalar.muli v1756 c256_i32_2007
  let c0_i32_5494 : BitVec 32 := 0#32
  ![v1757.toNat, 0]
def k0_cond126 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2016 : BitVec 32 := 2#32
  let v1761 : BitVec 1 := Scalar.cmpi .sle v5 c2_i32_2016
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1996 : BitVec 32 := 1#32
  let v1744 : BitVec 32 := Scalar.subi v8 c1_i32_1996
  let c2_i32_1997 : BitVec 32 := 2#32
  let v1745 : BitVec 1 := Scalar.cmpi .eq v1744 c2_i32_1997
  let c1_i32_1998 : BitVec 32 := 1#32
  let v1746 : BitVec 32 := Scalar.addi v8 c1_i32_1998
  let c2_i32_1999 : BitVec 32 := 2#32
  let v1747 : BitVec 1 := Scalar.cmpi .eq v1746 c2_i32_1999
  let v1748 : BitVec 1 := Scalar.ori v1745 v1747
  let v1762 : BitVec 1 := Scalar.andi v1761 v1748
  let v1771 : BitVec 32 := Scalar.extui v1762
  let c0_i32_2031 : BitVec 32 := 0#32
  let v1772 : BitVec 1 := Scalar.cmpi .ne v1771 c0_i32_2031
  v1772

def k0_off121 (d0 : Dev nD) : Fin 2 → Nat :=
  let c4_i32_2021 : BitVec 32 := 4#32
  let c3_i32_2020 : BitVec 32 := 3#32
  let c0_i32_2019 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2017 : BitVec 32 := 1#32
  let v1763 : BitVec 32 := Scalar.addi v5 c1_i32_2017
  let c0_i32_2018 : BitVec 32 := 0#32
  let v1764 : BitVec 32 := Scalar.addi v1763 c0_i32_2018
  let v1765 : BitVec 32 := Scalar.maxsi c0_i32_2019 v1764
  let v1766 : BitVec 32 := Scalar.minsi c3_i32_2020 v1765
  let v1767 : BitVec 32 := Scalar.muli c4_i32_2021 v1766
  let c2_i32_2022 : BitVec 32 := 2#32
  let v1768 : BitVec 32 := Scalar.addi v1767 c2_i32_2022
  let c256_i32_2023 : BitVec 32 := 256#32
  let v1769 : BitVec 32 := Scalar.muli v1768 c256_i32_2023
  let c0_i32_5494 : BitVec 32 := 0#32
  ![v1769.toNat, 0]
def k0_cond127 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2032 : BitVec 32 := 1#32
  let v1773 : BitVec 1 := Scalar.cmpi .sge v5 c1_i32_2032
  let c3_i32_2033 : BitVec 32 := 3#32
  let v1774 : BitVec 1 := Scalar.cmpi .slt v5 c3_i32_2033
  let v1775 : BitVec 1 := Scalar.andi v1773 v1774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1996 : BitVec 32 := 1#32
  let v1744 : BitVec 32 := Scalar.subi v8 c1_i32_1996
  let c2_i32_1997 : BitVec 32 := 2#32
  let v1745 : BitVec 1 := Scalar.cmpi .eq v1744 c2_i32_1997
  let c1_i32_1998 : BitVec 32 := 1#32
  let v1746 : BitVec 32 := Scalar.addi v8 c1_i32_1998
  let c2_i32_1999 : BitVec 32 := 2#32
  let v1747 : BitVec 1 := Scalar.cmpi .eq v1746 c2_i32_1999
  let v1748 : BitVec 1 := Scalar.ori v1745 v1747
  let v1776 : BitVec 1 := Scalar.andi v1775 v1748
  let v1784 : BitVec 32 := Scalar.extui v1776
  let c0_i32_2047 : BitVec 32 := 0#32
  let v1785 : BitVec 1 := Scalar.cmpi .ne v1784 c0_i32_2047
  v1785

def k0_off122 (d0 : Dev nD) : Fin 2 → Nat :=
  let c4_i32_2037 : BitVec 32 := 4#32
  let c3_i32_2036 : BitVec 32 := 3#32
  let c0_i32_2035 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2034 : BitVec 32 := 1#32
  let v1777 : BitVec 32 := Scalar.subi v5 c1_i32_2034
  let v1778 : BitVec 32 := Scalar.maxsi c0_i32_2035 v1777
  let v1779 : BitVec 32 := Scalar.minsi c3_i32_2036 v1778
  let v1780 : BitVec 32 := Scalar.muli c4_i32_2037 v1779
  let c2_i32_2038 : BitVec 32 := 2#32
  let v1781 : BitVec 32 := Scalar.addi v1780 c2_i32_2038
  let c256_i32_2039 : BitVec 32 := 256#32
  let v1782 : BitVec 32 := Scalar.muli v1781 c256_i32_2039
  let c0_i32_5494 : BitVec 32 := 0#32
  ![v1782.toNat, 0]
def k0_dev92 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2040 : BitVec 32 := 1#32
  let v1783 : BitVec 32 := Scalar.addi v5 c1_i32_2040
  let c4_i32_5492 : BitVec 32 := 4#32
  let v3946 : BitVec 32 := Scalar.muli v1783 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond128 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2048 : BitVec 32 := 2#32
  let v1786 : BitVec 1 := Scalar.cmpi .sle v5 c2_i32_2048
  let c0_i32_2049 : BitVec 32 := 0#32
  let v1787 : BitVec 1 := Scalar.cmpi .sgt v5 c0_i32_2049
  let v1788 : BitVec 1 := Scalar.andi v1786 v1787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1996 : BitVec 32 := 1#32
  let v1744 : BitVec 32 := Scalar.subi v8 c1_i32_1996
  let c2_i32_1997 : BitVec 32 := 2#32
  let v1745 : BitVec 1 := Scalar.cmpi .eq v1744 c2_i32_1997
  let c1_i32_1998 : BitVec 32 := 1#32
  let v1746 : BitVec 32 := Scalar.addi v8 c1_i32_1998
  let c2_i32_1999 : BitVec 32 := 2#32
  let v1747 : BitVec 1 := Scalar.cmpi .eq v1746 c2_i32_1999
  let v1748 : BitVec 1 := Scalar.ori v1745 v1747
  let v1789 : BitVec 1 := Scalar.andi v1788 v1748
  let v1797 : BitVec 32 := Scalar.extui v1789
  let c0_i32_2063 : BitVec 32 := 0#32
  let v1798 : BitVec 1 := Scalar.cmpi .ne v1797 c0_i32_2063
  v1798

def k0_off123 (d0 : Dev nD) : Fin 2 → Nat :=
  let c4_i32_2053 : BitVec 32 := 4#32
  let c3_i32_2052 : BitVec 32 := 3#32
  let c0_i32_2051 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2050 : BitVec 32 := 1#32
  let v1790 : BitVec 32 := Scalar.addi v5 c1_i32_2050
  let v1791 : BitVec 32 := Scalar.maxsi c0_i32_2051 v1790
  let v1792 : BitVec 32 := Scalar.minsi c3_i32_2052 v1791
  let v1793 : BitVec 32 := Scalar.muli c4_i32_2053 v1792
  let c2_i32_2054 : BitVec 32 := 2#32
  let v1794 : BitVec 32 := Scalar.addi v1793 c2_i32_2054
  let c256_i32_2055 : BitVec 32 := 256#32
  let v1795 : BitVec 32 := Scalar.muli v1794 c256_i32_2055
  let c0_i32_5494 : BitVec 32 := 0#32
  ![v1795.toNat, 0]
def k0_dev93 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2056 : BitVec 32 := 4294967295#32
  let v1796 : BitVec 32 := Scalar.addi v5 c_m1_i32_2056
  let c4_i32_5492 : BitVec 32 := 4#32
  let v3946 : BitVec 32 := Scalar.muli v1796 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2068 : BitVec 32 := 1#32
  let v1804 : BitVec 1 := Scalar.cmpi .sge v8 c1_i32_2068
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2064 : BitVec 32 := 1#32
  let v1799 : BitVec 32 := Scalar.subi v5 c1_i32_2064
  let c2_i32_2065 : BitVec 32 := 2#32
  let v1800 : BitVec 1 := Scalar.cmpi .eq v1799 c2_i32_2065
  let c1_i32_2066 : BitVec 32 := 1#32
  let v1801 : BitVec 32 := Scalar.addi v5 c1_i32_2066
  let c2_i32_2067 : BitVec 32 := 2#32
  let v1802 : BitVec 1 := Scalar.cmpi .eq v1801 c2_i32_2067
  let v1803 : BitVec 1 := Scalar.ori v1800 v1802
  let v1805 : BitVec 1 := Scalar.andi v1804 v1803
  let v1813 : BitVec 32 := Scalar.extui v1805
  let c0_i32_2082 : BitVec 32 := 0#32
  let v1814 : BitVec 1 := Scalar.cmpi .ne v1813 c0_i32_2082
  v1814

def k0_off124 (d0 : Dev nD) : Fin 2 → Nat :=
  let c8_i32_2073 : BitVec 32 := 8#32
  let c3_i32_2072 : BitVec 32 := 3#32
  let c0_i32_2071 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2069 : BitVec 32 := 1#32
  let v1806 : BitVec 32 := Scalar.subi v8 c1_i32_2069
  let c0_i32_2070 : BitVec 32 := 0#32
  let v1807 : BitVec 32 := Scalar.subi v1806 c0_i32_2070
  let v1808 : BitVec 32 := Scalar.maxsi c0_i32_2071 v1807
  let v1809 : BitVec 32 := Scalar.minsi c3_i32_2072 v1808
  let v1810 : BitVec 32 := Scalar.addi c8_i32_2073 v1809
  let c256_i32_2074 : BitVec 32 := 256#32
  let v1811 : BitVec 32 := Scalar.muli v1810 c256_i32_2074
  let c2048_i32 : BitVec 32 := 2048#32
  ![v1811.toNat, 2048]
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2083 : BitVec 32 := 2#32
  let v1815 : BitVec 1 := Scalar.cmpi .sle v8 c2_i32_2083
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2064 : BitVec 32 := 1#32
  let v1799 : BitVec 32 := Scalar.subi v5 c1_i32_2064
  let c2_i32_2065 : BitVec 32 := 2#32
  let v1800 : BitVec 1 := Scalar.cmpi .eq v1799 c2_i32_2065
  let c1_i32_2066 : BitVec 32 := 1#32
  let v1801 : BitVec 32 := Scalar.addi v5 c1_i32_2066
  let c2_i32_2067 : BitVec 32 := 2#32
  let v1802 : BitVec 1 := Scalar.cmpi .eq v1801 c2_i32_2067
  let v1803 : BitVec 1 := Scalar.ori v1800 v1802
  let v1816 : BitVec 1 := Scalar.andi v1815 v1803
  let v1824 : BitVec 32 := Scalar.extui v1816
  let c0_i32_2097 : BitVec 32 := 0#32
  let v1825 : BitVec 1 := Scalar.cmpi .ne v1824 c0_i32_2097
  v1825

def k0_off125 (d0 : Dev nD) : Fin 2 → Nat :=
  let c8_i32_2088 : BitVec 32 := 8#32
  let c3_i32_2087 : BitVec 32 := 3#32
  let c0_i32_2086 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2084 : BitVec 32 := 1#32
  let v1817 : BitVec 32 := Scalar.addi v8 c1_i32_2084
  let c0_i32_2085 : BitVec 32 := 0#32
  let v1818 : BitVec 32 := Scalar.addi v1817 c0_i32_2085
  let v1819 : BitVec 32 := Scalar.maxsi c0_i32_2086 v1818
  let v1820 : BitVec 32 := Scalar.minsi c3_i32_2087 v1819
  let v1821 : BitVec 32 := Scalar.addi c8_i32_2088 v1820
  let c256_i32_2089 : BitVec 32 := 256#32
  let v1822 : BitVec 32 := Scalar.muli v1821 c256_i32_2089
  let c2048_i32 : BitVec 32 := 2048#32
  ![v1822.toNat, 2048]
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2098 : BitVec 32 := 1#32
  let v1826 : BitVec 1 := Scalar.cmpi .sge v8 c1_i32_2098
  let c3_i32_2099 : BitVec 32 := 3#32
  let v1827 : BitVec 1 := Scalar.cmpi .slt v8 c3_i32_2099
  let v1828 : BitVec 1 := Scalar.andi v1826 v1827
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2064 : BitVec 32 := 1#32
  let v1799 : BitVec 32 := Scalar.subi v5 c1_i32_2064
  let c2_i32_2065 : BitVec 32 := 2#32
  let v1800 : BitVec 1 := Scalar.cmpi .eq v1799 c2_i32_2065
  let c1_i32_2066 : BitVec 32 := 1#32
  let v1801 : BitVec 32 := Scalar.addi v5 c1_i32_2066
  let c2_i32_2067 : BitVec 32 := 2#32
  let v1802 : BitVec 1 := Scalar.cmpi .eq v1801 c2_i32_2067
  let v1803 : BitVec 1 := Scalar.ori v1800 v1802
  let v1829 : BitVec 1 := Scalar.andi v1828 v1803
  let v1836 : BitVec 32 := Scalar.extui v1829
  let c0_i32_2112 : BitVec 32 := 0#32
  let v1837 : BitVec 1 := Scalar.cmpi .ne v1836 c0_i32_2112
  v1837

def k0_off126 (d0 : Dev nD) : Fin 2 → Nat :=
  let c8_i32_2103 : BitVec 32 := 8#32
  let c3_i32_2102 : BitVec 32 := 3#32
  let c0_i32_2101 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2100 : BitVec 32 := 1#32
  let v1830 : BitVec 32 := Scalar.subi v8 c1_i32_2100
  let v1831 : BitVec 32 := Scalar.maxsi c0_i32_2101 v1830
  let v1832 : BitVec 32 := Scalar.minsi c3_i32_2102 v1831
  let v1833 : BitVec 32 := Scalar.addi c8_i32_2103 v1832
  let c256_i32_2104 : BitVec 32 := 256#32
  let v1834 : BitVec 32 := Scalar.muli v1833 c256_i32_2104
  let c2048_i32 : BitVec 32 := 2048#32
  ![v1834.toNat, 2048]
def k0_dev94 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2105 : BitVec 32 := 1#32
  let v1835 : BitVec 32 := Scalar.addi v8 c1_i32_2105
  let c1_i32_5493 : BitVec 32 := 1#32
  let v3948 : BitVec 32 := Scalar.muli v1835 c1_i32_5493
  let v3949 : BitVec 32 := Scalar.addi v3947 v3948
  v3949.toNat
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2113 : BitVec 32 := 2#32
  let v1838 : BitVec 1 := Scalar.cmpi .sle v8 c2_i32_2113
  let c0_i32_2114 : BitVec 32 := 0#32
  let v1839 : BitVec 1 := Scalar.cmpi .sgt v8 c0_i32_2114
  let v1840 : BitVec 1 := Scalar.andi v1838 v1839
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2064 : BitVec 32 := 1#32
  let v1799 : BitVec 32 := Scalar.subi v5 c1_i32_2064
  let c2_i32_2065 : BitVec 32 := 2#32
  let v1800 : BitVec 1 := Scalar.cmpi .eq v1799 c2_i32_2065
  let c1_i32_2066 : BitVec 32 := 1#32
  let v1801 : BitVec 32 := Scalar.addi v5 c1_i32_2066
  let c2_i32_2067 : BitVec 32 := 2#32
  let v1802 : BitVec 1 := Scalar.cmpi .eq v1801 c2_i32_2067
  let v1803 : BitVec 1 := Scalar.ori v1800 v1802
  let v1841 : BitVec 1 := Scalar.andi v1840 v1803
  let v1848 : BitVec 32 := Scalar.extui v1841
  let c0_i32_2127 : BitVec 32 := 0#32
  let v1849 : BitVec 1 := Scalar.cmpi .ne v1848 c0_i32_2127
  v1849

def k0_off127 (d0 : Dev nD) : Fin 2 → Nat :=
  let c8_i32_2118 : BitVec 32 := 8#32
  let c3_i32_2117 : BitVec 32 := 3#32
  let c0_i32_2116 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2115 : BitVec 32 := 1#32
  let v1842 : BitVec 32 := Scalar.addi v8 c1_i32_2115
  let v1843 : BitVec 32 := Scalar.maxsi c0_i32_2116 v1842
  let v1844 : BitVec 32 := Scalar.minsi c3_i32_2117 v1843
  let v1845 : BitVec 32 := Scalar.addi c8_i32_2118 v1844
  let c256_i32_2119 : BitVec 32 := 256#32
  let v1846 : BitVec 32 := Scalar.muli v1845 c256_i32_2119
  let c2048_i32 : BitVec 32 := 2048#32
  ![v1846.toNat, 2048]
def k0_dev95 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2120 : BitVec 32 := 4294967295#32
  let v1847 : BitVec 32 := Scalar.addi v8 c_m1_i32_2120
  let c1_i32_5493 : BitVec 32 := 1#32
  let v3948 : BitVec 32 := Scalar.muli v1847 c1_i32_5493
  let v3949 : BitVec 32 := Scalar.addi v3947 v3948
  v3949.toNat
def k0_cond133 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2132 : BitVec 32 := 1#32
  let v1855 : BitVec 1 := Scalar.cmpi .sge v5 c1_i32_2132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2128 : BitVec 32 := 1#32
  let v1850 : BitVec 32 := Scalar.subi v8 c1_i32_2128
  let c3_i32_2129 : BitVec 32 := 3#32
  let v1851 : BitVec 1 := Scalar.cmpi .eq v1850 c3_i32_2129
  let c1_i32_2130 : BitVec 32 := 1#32
  let v1852 : BitVec 32 := Scalar.addi v8 c1_i32_2130
  let c3_i32_2131 : BitVec 32 := 3#32
  let v1853 : BitVec 1 := Scalar.cmpi .eq v1852 c3_i32_2131
  let v1854 : BitVec 1 := Scalar.ori v1851 v1853
  let v1856 : BitVec 1 := Scalar.andi v1855 v1854
  let v1865 : BitVec 32 := Scalar.extui v1856
  let c0_i32_2147 : BitVec 32 := 0#32
  let v1866 : BitVec 1 := Scalar.cmpi .ne v1865 c0_i32_2147
  v1866

def k0_off128 (d0 : Dev nD) : Fin 2 → Nat :=
  let c4_i32_2137 : BitVec 32 := 4#32
  let c3_i32_2136 : BitVec 32 := 3#32
  let c0_i32_2135 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2133 : BitVec 32 := 1#32
  let v1857 : BitVec 32 := Scalar.subi v5 c1_i32_2133
  let c0_i32_2134 : BitVec 32 := 0#32
  let v1858 : BitVec 32 := Scalar.subi v1857 c0_i32_2134
  let v1859 : BitVec 32 := Scalar.maxsi c0_i32_2135 v1858
  let v1860 : BitVec 32 := Scalar.minsi c3_i32_2136 v1859
  let v1861 : BitVec 32 := Scalar.muli c4_i32_2137 v1860
  let c3_i32_2138 : BitVec 32 := 3#32
  let v1862 : BitVec 32 := Scalar.addi v1861 c3_i32_2138
  let c256_i32_2139 : BitVec 32 := 256#32
  let v1863 : BitVec 32 := Scalar.muli v1862 c256_i32_2139
  let c0_i32_5494 : BitVec 32 := 0#32
  ![v1863.toNat, 0]
def k0_cond134 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2148 : BitVec 32 := 2#32
  let v1867 : BitVec 1 := Scalar.cmpi .sle v5 c2_i32_2148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2128 : BitVec 32 := 1#32
  let v1850 : BitVec 32 := Scalar.subi v8 c1_i32_2128
  let c3_i32_2129 : BitVec 32 := 3#32
  let v1851 : BitVec 1 := Scalar.cmpi .eq v1850 c3_i32_2129
  let c1_i32_2130 : BitVec 32 := 1#32
  let v1852 : BitVec 32 := Scalar.addi v8 c1_i32_2130
  let c3_i32_2131 : BitVec 32 := 3#32
  let v1853 : BitVec 1 := Scalar.cmpi .eq v1852 c3_i32_2131
  let v1854 : BitVec 1 := Scalar.ori v1851 v1853
  let v1868 : BitVec 1 := Scalar.andi v1867 v1854
  let v1877 : BitVec 32 := Scalar.extui v1868
  let c0_i32_2163 : BitVec 32 := 0#32
  let v1878 : BitVec 1 := Scalar.cmpi .ne v1877 c0_i32_2163
  v1878

def k0_off129 (d0 : Dev nD) : Fin 2 → Nat :=
  let c4_i32_2153 : BitVec 32 := 4#32
  let c3_i32_2152 : BitVec 32 := 3#32
  let c0_i32_2151 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2149 : BitVec 32 := 1#32
  let v1869 : BitVec 32 := Scalar.addi v5 c1_i32_2149
  let c0_i32_2150 : BitVec 32 := 0#32
  let v1870 : BitVec 32 := Scalar.addi v1869 c0_i32_2150
  let v1871 : BitVec 32 := Scalar.maxsi c0_i32_2151 v1870
  let v1872 : BitVec 32 := Scalar.minsi c3_i32_2152 v1871
  let v1873 : BitVec 32 := Scalar.muli c4_i32_2153 v1872
  let c3_i32_2154 : BitVec 32 := 3#32
  let v1874 : BitVec 32 := Scalar.addi v1873 c3_i32_2154
  let c256_i32_2155 : BitVec 32 := 256#32
  let v1875 : BitVec 32 := Scalar.muli v1874 c256_i32_2155
  let c0_i32_5494 : BitVec 32 := 0#32
  ![v1875.toNat, 0]
def k0_cond135 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2164 : BitVec 32 := 1#32
  let v1879 : BitVec 1 := Scalar.cmpi .sge v5 c1_i32_2164
  let c3_i32_2165 : BitVec 32 := 3#32
  let v1880 : BitVec 1 := Scalar.cmpi .slt v5 c3_i32_2165
  let v1881 : BitVec 1 := Scalar.andi v1879 v1880
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2128 : BitVec 32 := 1#32
  let v1850 : BitVec 32 := Scalar.subi v8 c1_i32_2128
  let c3_i32_2129 : BitVec 32 := 3#32
  let v1851 : BitVec 1 := Scalar.cmpi .eq v1850 c3_i32_2129
  let c1_i32_2130 : BitVec 32 := 1#32
  let v1852 : BitVec 32 := Scalar.addi v8 c1_i32_2130
  let c3_i32_2131 : BitVec 32 := 3#32
  let v1853 : BitVec 1 := Scalar.cmpi .eq v1852 c3_i32_2131
  let v1854 : BitVec 1 := Scalar.ori v1851 v1853
  let v1882 : BitVec 1 := Scalar.andi v1881 v1854
  let v1890 : BitVec 32 := Scalar.extui v1882
  let c0_i32_2179 : BitVec 32 := 0#32
  let v1891 : BitVec 1 := Scalar.cmpi .ne v1890 c0_i32_2179
  v1891

def k0_off130 (d0 : Dev nD) : Fin 2 → Nat :=
  let c4_i32_2169 : BitVec 32 := 4#32
  let c3_i32_2168 : BitVec 32 := 3#32
  let c0_i32_2167 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2166 : BitVec 32 := 1#32
  let v1883 : BitVec 32 := Scalar.subi v5 c1_i32_2166
  let v1884 : BitVec 32 := Scalar.maxsi c0_i32_2167 v1883
  let v1885 : BitVec 32 := Scalar.minsi c3_i32_2168 v1884
  let v1886 : BitVec 32 := Scalar.muli c4_i32_2169 v1885
  let c3_i32_2170 : BitVec 32 := 3#32
  let v1887 : BitVec 32 := Scalar.addi v1886 c3_i32_2170
  let c256_i32_2171 : BitVec 32 := 256#32
  let v1888 : BitVec 32 := Scalar.muli v1887 c256_i32_2171
  let c0_i32_5494 : BitVec 32 := 0#32
  ![v1888.toNat, 0]
def k0_dev96 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2172 : BitVec 32 := 1#32
  let v1889 : BitVec 32 := Scalar.addi v5 c1_i32_2172
  let c4_i32_5492 : BitVec 32 := 4#32
  let v3946 : BitVec 32 := Scalar.muli v1889 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond136 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2180 : BitVec 32 := 2#32
  let v1892 : BitVec 1 := Scalar.cmpi .sle v5 c2_i32_2180
  let c0_i32_2181 : BitVec 32 := 0#32
  let v1893 : BitVec 1 := Scalar.cmpi .sgt v5 c0_i32_2181
  let v1894 : BitVec 1 := Scalar.andi v1892 v1893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2128 : BitVec 32 := 1#32
  let v1850 : BitVec 32 := Scalar.subi v8 c1_i32_2128
  let c3_i32_2129 : BitVec 32 := 3#32
  let v1851 : BitVec 1 := Scalar.cmpi .eq v1850 c3_i32_2129
  let c1_i32_2130 : BitVec 32 := 1#32
  let v1852 : BitVec 32 := Scalar.addi v8 c1_i32_2130
  let c3_i32_2131 : BitVec 32 := 3#32
  let v1853 : BitVec 1 := Scalar.cmpi .eq v1852 c3_i32_2131
  let v1854 : BitVec 1 := Scalar.ori v1851 v1853
  let v1895 : BitVec 1 := Scalar.andi v1894 v1854
  let v1903 : BitVec 32 := Scalar.extui v1895
  let c0_i32_2195 : BitVec 32 := 0#32
  let v1904 : BitVec 1 := Scalar.cmpi .ne v1903 c0_i32_2195
  v1904

def k0_off131 (d0 : Dev nD) : Fin 2 → Nat :=
  let c4_i32_2185 : BitVec 32 := 4#32
  let c3_i32_2184 : BitVec 32 := 3#32
  let c0_i32_2183 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2182 : BitVec 32 := 1#32
  let v1896 : BitVec 32 := Scalar.addi v5 c1_i32_2182
  let v1897 : BitVec 32 := Scalar.maxsi c0_i32_2183 v1896
  let v1898 : BitVec 32 := Scalar.minsi c3_i32_2184 v1897
  let v1899 : BitVec 32 := Scalar.muli c4_i32_2185 v1898
  let c3_i32_2186 : BitVec 32 := 3#32
  let v1900 : BitVec 32 := Scalar.addi v1899 c3_i32_2186
  let c256_i32_2187 : BitVec 32 := 256#32
  let v1901 : BitVec 32 := Scalar.muli v1900 c256_i32_2187
  let c0_i32_5494 : BitVec 32 := 0#32
  ![v1901.toNat, 0]
def k0_dev97 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2188 : BitVec 32 := 4294967295#32
  let v1902 : BitVec 32 := Scalar.addi v5 c_m1_i32_2188
  let c4_i32_5492 : BitVec 32 := 4#32
  let v3946 : BitVec 32 := Scalar.muli v1902 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2200 : BitVec 32 := 1#32
  let v1910 : BitVec 1 := Scalar.cmpi .sge v8 c1_i32_2200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2196 : BitVec 32 := 1#32
  let v1905 : BitVec 32 := Scalar.subi v5 c1_i32_2196
  let c3_i32_2197 : BitVec 32 := 3#32
  let v1906 : BitVec 1 := Scalar.cmpi .eq v1905 c3_i32_2197
  let c1_i32_2198 : BitVec 32 := 1#32
  let v1907 : BitVec 32 := Scalar.addi v5 c1_i32_2198
  let c3_i32_2199 : BitVec 32 := 3#32
  let v1908 : BitVec 1 := Scalar.cmpi .eq v1907 c3_i32_2199
  let v1909 : BitVec 1 := Scalar.ori v1906 v1908
  let v1911 : BitVec 1 := Scalar.andi v1910 v1909
  let v1919 : BitVec 32 := Scalar.extui v1911
  let c0_i32_2214 : BitVec 32 := 0#32
  let v1920 : BitVec 1 := Scalar.cmpi .ne v1919 c0_i32_2214
  v1920

def k0_off132 (d0 : Dev nD) : Fin 2 → Nat :=
  let c12_i32_2205 : BitVec 32 := 12#32
  let c3_i32_2204 : BitVec 32 := 3#32
  let c0_i32_2203 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2201 : BitVec 32 := 1#32
  let v1912 : BitVec 32 := Scalar.subi v8 c1_i32_2201
  let c0_i32_2202 : BitVec 32 := 0#32
  let v1913 : BitVec 32 := Scalar.subi v1912 c0_i32_2202
  let v1914 : BitVec 32 := Scalar.maxsi c0_i32_2203 v1913
  let v1915 : BitVec 32 := Scalar.minsi c3_i32_2204 v1914
  let v1916 : BitVec 32 := Scalar.addi c12_i32_2205 v1915
  let c256_i32_2206 : BitVec 32 := 256#32
  let v1917 : BitVec 32 := Scalar.muli v1916 c256_i32_2206
  let c2048_i32 : BitVec 32 := 2048#32
  ![v1917.toNat, 2048]
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2215 : BitVec 32 := 2#32
  let v1921 : BitVec 1 := Scalar.cmpi .sle v8 c2_i32_2215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2196 : BitVec 32 := 1#32
  let v1905 : BitVec 32 := Scalar.subi v5 c1_i32_2196
  let c3_i32_2197 : BitVec 32 := 3#32
  let v1906 : BitVec 1 := Scalar.cmpi .eq v1905 c3_i32_2197
  let c1_i32_2198 : BitVec 32 := 1#32
  let v1907 : BitVec 32 := Scalar.addi v5 c1_i32_2198
  let c3_i32_2199 : BitVec 32 := 3#32
  let v1908 : BitVec 1 := Scalar.cmpi .eq v1907 c3_i32_2199
  let v1909 : BitVec 1 := Scalar.ori v1906 v1908
  let v1922 : BitVec 1 := Scalar.andi v1921 v1909
  let v1930 : BitVec 32 := Scalar.extui v1922
  let c0_i32_2229 : BitVec 32 := 0#32
  let v1931 : BitVec 1 := Scalar.cmpi .ne v1930 c0_i32_2229
  v1931

def k0_off133 (d0 : Dev nD) : Fin 2 → Nat :=
  let c12_i32_2220 : BitVec 32 := 12#32
  let c3_i32_2219 : BitVec 32 := 3#32
  let c0_i32_2218 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2216 : BitVec 32 := 1#32
  let v1923 : BitVec 32 := Scalar.addi v8 c1_i32_2216
  let c0_i32_2217 : BitVec 32 := 0#32
  let v1924 : BitVec 32 := Scalar.addi v1923 c0_i32_2217
  let v1925 : BitVec 32 := Scalar.maxsi c0_i32_2218 v1924
  let v1926 : BitVec 32 := Scalar.minsi c3_i32_2219 v1925
  let v1927 : BitVec 32 := Scalar.addi c12_i32_2220 v1926
  let c256_i32_2221 : BitVec 32 := 256#32
  let v1928 : BitVec 32 := Scalar.muli v1927 c256_i32_2221
  let c2048_i32 : BitVec 32 := 2048#32
  ![v1928.toNat, 2048]
def k0_cond139 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2230 : BitVec 32 := 1#32
  let v1932 : BitVec 1 := Scalar.cmpi .sge v8 c1_i32_2230
  let c3_i32_2231 : BitVec 32 := 3#32
  let v1933 : BitVec 1 := Scalar.cmpi .slt v8 c3_i32_2231
  let v1934 : BitVec 1 := Scalar.andi v1932 v1933
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2196 : BitVec 32 := 1#32
  let v1905 : BitVec 32 := Scalar.subi v5 c1_i32_2196
  let c3_i32_2197 : BitVec 32 := 3#32
  let v1906 : BitVec 1 := Scalar.cmpi .eq v1905 c3_i32_2197
  let c1_i32_2198 : BitVec 32 := 1#32
  let v1907 : BitVec 32 := Scalar.addi v5 c1_i32_2198
  let c3_i32_2199 : BitVec 32 := 3#32
  let v1908 : BitVec 1 := Scalar.cmpi .eq v1907 c3_i32_2199
  let v1909 : BitVec 1 := Scalar.ori v1906 v1908
  let v1935 : BitVec 1 := Scalar.andi v1934 v1909
  let v1942 : BitVec 32 := Scalar.extui v1935
  let c0_i32_2244 : BitVec 32 := 0#32
  let v1943 : BitVec 1 := Scalar.cmpi .ne v1942 c0_i32_2244
  v1943

def k0_off134 (d0 : Dev nD) : Fin 2 → Nat :=
  let c12_i32_2235 : BitVec 32 := 12#32
  let c3_i32_2234 : BitVec 32 := 3#32
  let c0_i32_2233 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2232 : BitVec 32 := 1#32
  let v1936 : BitVec 32 := Scalar.subi v8 c1_i32_2232
  let v1937 : BitVec 32 := Scalar.maxsi c0_i32_2233 v1936
  let v1938 : BitVec 32 := Scalar.minsi c3_i32_2234 v1937
  let v1939 : BitVec 32 := Scalar.addi c12_i32_2235 v1938
  let c256_i32_2236 : BitVec 32 := 256#32
  let v1940 : BitVec 32 := Scalar.muli v1939 c256_i32_2236
  let c2048_i32 : BitVec 32 := 2048#32
  ![v1940.toNat, 2048]
def k0_dev98 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2237 : BitVec 32 := 1#32
  let v1941 : BitVec 32 := Scalar.addi v8 c1_i32_2237
  let c1_i32_5493 : BitVec 32 := 1#32
  let v3948 : BitVec 32 := Scalar.muli v1941 c1_i32_5493
  let v3949 : BitVec 32 := Scalar.addi v3947 v3948
  v3949.toNat
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2245 : BitVec 32 := 2#32
  let v1944 : BitVec 1 := Scalar.cmpi .sle v8 c2_i32_2245
  let c0_i32_2246 : BitVec 32 := 0#32
  let v1945 : BitVec 1 := Scalar.cmpi .sgt v8 c0_i32_2246
  let v1946 : BitVec 1 := Scalar.andi v1944 v1945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2196 : BitVec 32 := 1#32
  let v1905 : BitVec 32 := Scalar.subi v5 c1_i32_2196
  let c3_i32_2197 : BitVec 32 := 3#32
  let v1906 : BitVec 1 := Scalar.cmpi .eq v1905 c3_i32_2197
  let c1_i32_2198 : BitVec 32 := 1#32
  let v1907 : BitVec 32 := Scalar.addi v5 c1_i32_2198
  let c3_i32_2199 : BitVec 32 := 3#32
  let v1908 : BitVec 1 := Scalar.cmpi .eq v1907 c3_i32_2199
  let v1909 : BitVec 1 := Scalar.ori v1906 v1908
  let v1947 : BitVec 1 := Scalar.andi v1946 v1909
  let v1954 : BitVec 32 := Scalar.extui v1947
  let c0_i32_2259 : BitVec 32 := 0#32
  let v1955 : BitVec 1 := Scalar.cmpi .ne v1954 c0_i32_2259
  v1955

def k0_off135 (d0 : Dev nD) : Fin 2 → Nat :=
  let c12_i32_2250 : BitVec 32 := 12#32
  let c3_i32_2249 : BitVec 32 := 3#32
  let c0_i32_2248 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2247 : BitVec 32 := 1#32
  let v1948 : BitVec 32 := Scalar.addi v8 c1_i32_2247
  let v1949 : BitVec 32 := Scalar.maxsi c0_i32_2248 v1948
  let v1950 : BitVec 32 := Scalar.minsi c3_i32_2249 v1949
  let v1951 : BitVec 32 := Scalar.addi c12_i32_2250 v1950
  let c256_i32_2251 : BitVec 32 := 256#32
  let v1952 : BitVec 32 := Scalar.muli v1951 c256_i32_2251
  let c2048_i32 : BitVec 32 := 2048#32
  ![v1952.toNat, 2048]
def k0_dev99 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2252 : BitVec 32 := 4294967295#32
  let v1953 : BitVec 32 := Scalar.addi v8 c_m1_i32_2252
  let c1_i32_5493 : BitVec 32 := 1#32
  let v3948 : BitVec 32 := Scalar.muli v1953 c1_i32_5493
  let v3949 : BitVec 32 := Scalar.addi v3947 v3948
  v3949.toNat
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2260 : BitVec 32 := 3#32
  let v1956 : BitVec 1 := Scalar.cmpi .sge v8 c3_i32_2260
  let v1965 : BitVec 32 := Scalar.extui v1956
  let c0_i32_2272 : BitVec 32 := 0#32
  let v1966 : BitVec 1 := Scalar.cmpi .ne v1965 c0_i32_2272
  v1966

def k0_off136 (d0 : Dev nD) : Fin 2 → Nat :=
  let c4_i32_2265 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1961 : BitVec 32 := Scalar.muli c4_i32_2265 v5
  let c3_i32_2264 : BitVec 32 := 3#32
  let c0_i32_2263 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2261 : BitVec 32 := 1#32
  let v1957 : BitVec 32 := Scalar.subi v8 c1_i32_2261
  let c2_i32_2262 : BitVec 32 := 2#32
  let v1958 : BitVec 32 := Scalar.subi v1957 c2_i32_2262
  let v1959 : BitVec 32 := Scalar.maxsi c0_i32_2263 v1958
  let v1960 : BitVec 32 := Scalar.minsi c3_i32_2264 v1959
  let v1962 : BitVec 32 := Scalar.addi v1961 v1960
  let c256_i32_2266 : BitVec 32 := 256#32
  let v1963 : BitVec 32 := Scalar.muli v1962 c256_i32_2266
  let c0_i32_5494 : BitVec 32 := 0#32
  ![v1963.toNat, 0]
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2273 : BitVec 32 := 0#32
  let v1967 : BitVec 1 := Scalar.cmpi .sle v8 c0_i32_2273
  let v1976 : BitVec 32 := Scalar.extui v1967
  let c0_i32_2285 : BitVec 32 := 0#32
  let v1977 : BitVec 1 := Scalar.cmpi .ne v1976 c0_i32_2285
  v1977

def k0_off137 (d0 : Dev nD) : Fin 2 → Nat :=
  let c4_i32_2278 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1972 : BitVec 32 := Scalar.muli c4_i32_2278 v5
  let c3_i32_2277 : BitVec 32 := 3#32
  let c0_i32_2276 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2274 : BitVec 32 := 1#32
  let v1968 : BitVec 32 := Scalar.addi v8 c1_i32_2274
  let c2_i32_2275 : BitVec 32 := 2#32
  let v1969 : BitVec 32 := Scalar.addi v1968 c2_i32_2275
  let v1970 : BitVec 32 := Scalar.maxsi c0_i32_2276 v1969
  let v1971 : BitVec 32 := Scalar.minsi c3_i32_2277 v1970
  let v1973 : BitVec 32 := Scalar.addi v1972 v1971
  let c256_i32_2279 : BitVec 32 := 256#32
  let v1974 : BitVec 32 := Scalar.muli v1973 c256_i32_2279
  let c0_i32_5494 : BitVec 32 := 0#32
  ![v1974.toNat, 0]
def k0_cond143 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2286 : BitVec 32 := 3#32
  let v1978 : BitVec 1 := Scalar.cmpi .sge v5 c3_i32_2286
  let v1987 : BitVec 32 := Scalar.extui v1978
  let c0_i32_2298 : BitVec 32 := 0#32
  let v1988 : BitVec 1 := Scalar.cmpi .ne v1987 c0_i32_2298
  v1988

def k0_off138 (d0 : Dev nD) : Fin 2 → Nat :=
  let c4_i32_2291 : BitVec 32 := 4#32
  let c3_i32_2290 : BitVec 32 := 3#32
  let c0_i32_2289 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2287 : BitVec 32 := 1#32
  let v1979 : BitVec 32 := Scalar.subi v5 c1_i32_2287
  let c2_i32_2288 : BitVec 32 := 2#32
  let v1980 : BitVec 32 := Scalar.subi v1979 c2_i32_2288
  let v1981 : BitVec 32 := Scalar.maxsi c0_i32_2289 v1980
  let v1982 : BitVec 32 := Scalar.minsi c3_i32_2290 v1981
  let v1983 : BitVec 32 := Scalar.muli c4_i32_2291 v1982
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1984 : BitVec 32 := Scalar.addi v1983 v8
  let c256_i32_2292 : BitVec 32 := 256#32
  let v1985 : BitVec 32 := Scalar.muli v1984 c256_i32_2292
  let c2048_i32 : BitVec 32 := 2048#32
  ![v1985.toNat, 2048]
def k0_cond144 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2299 : BitVec 32 := 0#32
  let v1989 : BitVec 1 := Scalar.cmpi .sle v5 c0_i32_2299
  let v1998 : BitVec 32 := Scalar.extui v1989
  let c0_i32_2311 : BitVec 32 := 0#32
  let v1999 : BitVec 1 := Scalar.cmpi .ne v1998 c0_i32_2311
  v1999

def k0_off139 (d0 : Dev nD) : Fin 2 → Nat :=
  let c4_i32_2304 : BitVec 32 := 4#32
  let c3_i32_2303 : BitVec 32 := 3#32
  let c0_i32_2302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2300 : BitVec 32 := 1#32
  let v1990 : BitVec 32 := Scalar.addi v5 c1_i32_2300
  let c2_i32_2301 : BitVec 32 := 2#32
  let v1991 : BitVec 32 := Scalar.addi v1990 c2_i32_2301
  let v1992 : BitVec 32 := Scalar.maxsi c0_i32_2302 v1991
  let v1993 : BitVec 32 := Scalar.minsi c3_i32_2303 v1992
  let v1994 : BitVec 32 := Scalar.muli c4_i32_2304 v1993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1995 : BitVec 32 := Scalar.addi v1994 v8
  let c256_i32_2305 : BitVec 32 := 256#32
  let v1996 : BitVec 32 := Scalar.muli v1995 c256_i32_2305
  let c2048_i32 : BitVec 32 := 2048#32
  ![v1996.toNat, 2048]
def k0_cond145 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2318 : BitVec 32 := 0#32
  let v2007 : BitVec 1 := Scalar.cmpi .sge v5 c0_i32_2318
  let c3_i32_2319 : BitVec 32 := 3#32
  let v2008 : BitVec 1 := Scalar.cmpi .slt v5 c3_i32_2319
  let v2009 : BitVec 1 := Scalar.andi v2007 v2008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2312 : BitVec 32 := 1#32
  let v2000 : BitVec 32 := Scalar.subi v8 c1_i32_2312
  let c2_i32_2313 : BitVec 32 := 2#32
  let v2001 : BitVec 32 := Scalar.subi v2000 c2_i32_2313
  let c0_i32_2314 : BitVec 32 := 0#32
  let v2002 : BitVec 1 := Scalar.cmpi .eq v2001 c0_i32_2314
  let c1_i32_2315 : BitVec 32 := 1#32
  let v2003 : BitVec 32 := Scalar.addi v8 c1_i32_2315
  let c2_i32_2316 : BitVec 32 := 2#32
  let v2004 : BitVec 32 := Scalar.addi v2003 c2_i32_2316
  let c0_i32_2317 : BitVec 32 := 0#32
  let v2005 : BitVec 1 := Scalar.cmpi .eq v2004 c0_i32_2317
  let v2006 : BitVec 1 := Scalar.ori v2002 v2005
  let v2010 : BitVec 1 := Scalar.andi v2009 v2006
  let v2018 : BitVec 32 := Scalar.extui v2010
  let c0_i32_2333 : BitVec 32 := 0#32
  let v2019 : BitVec 1 := Scalar.cmpi .ne v2018 c0_i32_2333
  v2019

def k0_off140 (d0 : Dev nD) : Fin 2 → Nat :=
  let c4_i32_2323 : BitVec 32 := 4#32
  let c3_i32_2322 : BitVec 32 := 3#32
  let c0_i32_2321 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2320 : BitVec 32 := 0#32
  let v2011 : BitVec 32 := Scalar.subi v5 c0_i32_2320
  let v2012 : BitVec 32 := Scalar.maxsi c0_i32_2321 v2011
  let v2013 : BitVec 32 := Scalar.minsi c3_i32_2322 v2012
  let v2014 : BitVec 32 := Scalar.muli c4_i32_2323 v2013
  let c0_i32_2324 : BitVec 32 := 0#32
  let v2015 : BitVec 32 := Scalar.addi v2014 c0_i32_2324
  let c256_i32_2325 : BitVec 32 := 256#32
  let v2016 : BitVec 32 := Scalar.muli v2015 c256_i32_2325
  let c0_i32_5494 : BitVec 32 := 0#32
  ![v2016.toNat, 0]
def k0_dev100 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2326 : BitVec 32 := 1#32
  let v2017 : BitVec 32 := Scalar.addi v5 c1_i32_2326
  let c4_i32_5492 : BitVec 32 := 4#32
  let v3946 : BitVec 32 := Scalar.muli v2017 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond146 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2334 : BitVec 32 := 3#32
  let v2020 : BitVec 1 := Scalar.cmpi .sle v5 c3_i32_2334
  let c0_i32_2335 : BitVec 32 := 0#32
  let v2021 : BitVec 1 := Scalar.cmpi .sgt v5 c0_i32_2335
  let v2022 : BitVec 1 := Scalar.andi v2020 v2021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2312 : BitVec 32 := 1#32
  let v2000 : BitVec 32 := Scalar.subi v8 c1_i32_2312
  let c2_i32_2313 : BitVec 32 := 2#32
  let v2001 : BitVec 32 := Scalar.subi v2000 c2_i32_2313
  let c0_i32_2314 : BitVec 32 := 0#32
  let v2002 : BitVec 1 := Scalar.cmpi .eq v2001 c0_i32_2314
  let c1_i32_2315 : BitVec 32 := 1#32
  let v2003 : BitVec 32 := Scalar.addi v8 c1_i32_2315
  let c2_i32_2316 : BitVec 32 := 2#32
  let v2004 : BitVec 32 := Scalar.addi v2003 c2_i32_2316
  let c0_i32_2317 : BitVec 32 := 0#32
  let v2005 : BitVec 1 := Scalar.cmpi .eq v2004 c0_i32_2317
  let v2006 : BitVec 1 := Scalar.ori v2002 v2005
  let v2023 : BitVec 1 := Scalar.andi v2022 v2006
  let v2031 : BitVec 32 := Scalar.extui v2023
  let c0_i32_2349 : BitVec 32 := 0#32
  let v2032 : BitVec 1 := Scalar.cmpi .ne v2031 c0_i32_2349
  v2032

def k0_off141 (d0 : Dev nD) : Fin 2 → Nat :=
  let c4_i32_2339 : BitVec 32 := 4#32
  let c3_i32_2338 : BitVec 32 := 3#32
  let c0_i32_2337 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2336 : BitVec 32 := 0#32
  let v2024 : BitVec 32 := Scalar.addi v5 c0_i32_2336
  let v2025 : BitVec 32 := Scalar.maxsi c0_i32_2337 v2024
  let v2026 : BitVec 32 := Scalar.minsi c3_i32_2338 v2025
  let v2027 : BitVec 32 := Scalar.muli c4_i32_2339 v2026
  let c0_i32_2340 : BitVec 32 := 0#32
  let v2028 : BitVec 32 := Scalar.addi v2027 c0_i32_2340
  let c256_i32_2341 : BitVec 32 := 256#32
  let v2029 : BitVec 32 := Scalar.muli v2028 c256_i32_2341
  let c0_i32_5494 : BitVec 32 := 0#32
  ![v2029.toNat, 0]
def k0_dev101 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2342 : BitVec 32 := 4294967295#32
  let v2030 : BitVec 32 := Scalar.addi v5 c_m1_i32_2342
  let c4_i32_5492 : BitVec 32 := 4#32
  let v3946 : BitVec 32 := Scalar.muli v2030 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond147 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2356 : BitVec 32 := 0#32
  let v2040 : BitVec 1 := Scalar.cmpi .sge v5 c0_i32_2356
  let c3_i32_2357 : BitVec 32 := 3#32
  let v2041 : BitVec 1 := Scalar.cmpi .slt v5 c3_i32_2357
  let v2042 : BitVec 1 := Scalar.andi v2040 v2041
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2350 : BitVec 32 := 1#32
  let v2033 : BitVec 32 := Scalar.subi v8 c1_i32_2350
  let c2_i32_2351 : BitVec 32 := 2#32
  let v2034 : BitVec 32 := Scalar.subi v2033 c2_i32_2351
  let c1_i32_2352 : BitVec 32 := 1#32
  let v2035 : BitVec 1 := Scalar.cmpi .eq v2034 c1_i32_2352
  let c1_i32_2353 : BitVec 32 := 1#32
  let v2036 : BitVec 32 := Scalar.addi v8 c1_i32_2353
  let c2_i32_2354 : BitVec 32 := 2#32
  let v2037 : BitVec 32 := Scalar.addi v2036 c2_i32_2354
  let c1_i32_2355 : BitVec 32 := 1#32
  let v2038 : BitVec 1 := Scalar.cmpi .eq v2037 c1_i32_2355
  let v2039 : BitVec 1 := Scalar.ori v2035 v2038
  let v2043 : BitVec 1 := Scalar.andi v2042 v2039
  let v2051 : BitVec 32 := Scalar.extui v2043
  let c0_i32_2371 : BitVec 32 := 0#32
  let v2052 : BitVec 1 := Scalar.cmpi .ne v2051 c0_i32_2371
  v2052

def k0_off142 (d0 : Dev nD) : Fin 2 → Nat :=
  let c4_i32_2361 : BitVec 32 := 4#32
  let c3_i32_2360 : BitVec 32 := 3#32
  let c0_i32_2359 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2358 : BitVec 32 := 0#32
  let v2044 : BitVec 32 := Scalar.subi v5 c0_i32_2358
  let v2045 : BitVec 32 := Scalar.maxsi c0_i32_2359 v2044
  let v2046 : BitVec 32 := Scalar.minsi c3_i32_2360 v2045
  let v2047 : BitVec 32 := Scalar.muli c4_i32_2361 v2046
  let c1_i32_2362 : BitVec 32 := 1#32
  let v2048 : BitVec 32 := Scalar.addi v2047 c1_i32_2362
  let c256_i32_2363 : BitVec 32 := 256#32
  let v2049 : BitVec 32 := Scalar.muli v2048 c256_i32_2363
  let c0_i32_5494 : BitVec 32 := 0#32
  ![v2049.toNat, 0]
def k0_dev102 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2364 : BitVec 32 := 1#32
  let v2050 : BitVec 32 := Scalar.addi v5 c1_i32_2364
  let c4_i32_5492 : BitVec 32 := 4#32
  let v3946 : BitVec 32 := Scalar.muli v2050 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond148 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2372 : BitVec 32 := 3#32
  let v2053 : BitVec 1 := Scalar.cmpi .sle v5 c3_i32_2372
  let c0_i32_2373 : BitVec 32 := 0#32
  let v2054 : BitVec 1 := Scalar.cmpi .sgt v5 c0_i32_2373
  let v2055 : BitVec 1 := Scalar.andi v2053 v2054
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2350 : BitVec 32 := 1#32
  let v2033 : BitVec 32 := Scalar.subi v8 c1_i32_2350
  let c2_i32_2351 : BitVec 32 := 2#32
  let v2034 : BitVec 32 := Scalar.subi v2033 c2_i32_2351
  let c1_i32_2352 : BitVec 32 := 1#32
  let v2035 : BitVec 1 := Scalar.cmpi .eq v2034 c1_i32_2352
  let c1_i32_2353 : BitVec 32 := 1#32
  let v2036 : BitVec 32 := Scalar.addi v8 c1_i32_2353
  let c2_i32_2354 : BitVec 32 := 2#32
  let v2037 : BitVec 32 := Scalar.addi v2036 c2_i32_2354
  let c1_i32_2355 : BitVec 32 := 1#32
  let v2038 : BitVec 1 := Scalar.cmpi .eq v2037 c1_i32_2355
  let v2039 : BitVec 1 := Scalar.ori v2035 v2038
  let v2056 : BitVec 1 := Scalar.andi v2055 v2039
  let v2064 : BitVec 32 := Scalar.extui v2056
  let c0_i32_2387 : BitVec 32 := 0#32
  let v2065 : BitVec 1 := Scalar.cmpi .ne v2064 c0_i32_2387
  v2065

def k0_off143 (d0 : Dev nD) : Fin 2 → Nat :=
  let c4_i32_2377 : BitVec 32 := 4#32
  let c3_i32_2376 : BitVec 32 := 3#32
  let c0_i32_2375 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2374 : BitVec 32 := 0#32
  let v2057 : BitVec 32 := Scalar.addi v5 c0_i32_2374
  let v2058 : BitVec 32 := Scalar.maxsi c0_i32_2375 v2057
  let v2059 : BitVec 32 := Scalar.minsi c3_i32_2376 v2058
  let v2060 : BitVec 32 := Scalar.muli c4_i32_2377 v2059
  let c1_i32_2378 : BitVec 32 := 1#32
  let v2061 : BitVec 32 := Scalar.addi v2060 c1_i32_2378
  let c256_i32_2379 : BitVec 32 := 256#32
  let v2062 : BitVec 32 := Scalar.muli v2061 c256_i32_2379
  let c0_i32_5494 : BitVec 32 := 0#32
  ![v2062.toNat, 0]
def k0_dev103 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2380 : BitVec 32 := 4294967295#32
  let v2063 : BitVec 32 := Scalar.addi v5 c_m1_i32_2380
  let c4_i32_5492 : BitVec 32 := 4#32
  let v3946 : BitVec 32 := Scalar.muli v2063 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond149 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2394 : BitVec 32 := 0#32
  let v2073 : BitVec 1 := Scalar.cmpi .sge v5 c0_i32_2394
  let c3_i32_2395 : BitVec 32 := 3#32
  let v2074 : BitVec 1 := Scalar.cmpi .slt v5 c3_i32_2395
  let v2075 : BitVec 1 := Scalar.andi v2073 v2074
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2388 : BitVec 32 := 1#32
  let v2066 : BitVec 32 := Scalar.subi v8 c1_i32_2388
  let c2_i32_2389 : BitVec 32 := 2#32
  let v2067 : BitVec 32 := Scalar.subi v2066 c2_i32_2389
  let c2_i32_2390 : BitVec 32 := 2#32
  let v2068 : BitVec 1 := Scalar.cmpi .eq v2067 c2_i32_2390
  let c1_i32_2391 : BitVec 32 := 1#32
  let v2069 : BitVec 32 := Scalar.addi v8 c1_i32_2391
  let c2_i32_2392 : BitVec 32 := 2#32
  let v2070 : BitVec 32 := Scalar.addi v2069 c2_i32_2392
  let c2_i32_2393 : BitVec 32 := 2#32
  let v2071 : BitVec 1 := Scalar.cmpi .eq v2070 c2_i32_2393
  let v2072 : BitVec 1 := Scalar.ori v2068 v2071
  let v2076 : BitVec 1 := Scalar.andi v2075 v2072
  let v2084 : BitVec 32 := Scalar.extui v2076
  let c0_i32_2409 : BitVec 32 := 0#32
  let v2085 : BitVec 1 := Scalar.cmpi .ne v2084 c0_i32_2409
  v2085

def k0_off144 (d0 : Dev nD) : Fin 2 → Nat :=
  let c4_i32_2399 : BitVec 32 := 4#32
  let c3_i32_2398 : BitVec 32 := 3#32
  let c0_i32_2397 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2396 : BitVec 32 := 0#32
  let v2077 : BitVec 32 := Scalar.subi v5 c0_i32_2396
  let v2078 : BitVec 32 := Scalar.maxsi c0_i32_2397 v2077
  let v2079 : BitVec 32 := Scalar.minsi c3_i32_2398 v2078
  let v2080 : BitVec 32 := Scalar.muli c4_i32_2399 v2079
  let c2_i32_2400 : BitVec 32 := 2#32
  let v2081 : BitVec 32 := Scalar.addi v2080 c2_i32_2400
  let c256_i32_2401 : BitVec 32 := 256#32
  let v2082 : BitVec 32 := Scalar.muli v2081 c256_i32_2401
  let c0_i32_5494 : BitVec 32 := 0#32
  ![v2082.toNat, 0]
def k0_dev104 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2402 : BitVec 32 := 1#32
  let v2083 : BitVec 32 := Scalar.addi v5 c1_i32_2402
  let c4_i32_5492 : BitVec 32 := 4#32
  let v3946 : BitVec 32 := Scalar.muli v2083 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond150 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2410 : BitVec 32 := 3#32
  let v2086 : BitVec 1 := Scalar.cmpi .sle v5 c3_i32_2410
  let c0_i32_2411 : BitVec 32 := 0#32
  let v2087 : BitVec 1 := Scalar.cmpi .sgt v5 c0_i32_2411
  let v2088 : BitVec 1 := Scalar.andi v2086 v2087
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2388 : BitVec 32 := 1#32
  let v2066 : BitVec 32 := Scalar.subi v8 c1_i32_2388
  let c2_i32_2389 : BitVec 32 := 2#32
  let v2067 : BitVec 32 := Scalar.subi v2066 c2_i32_2389
  let c2_i32_2390 : BitVec 32 := 2#32
  let v2068 : BitVec 1 := Scalar.cmpi .eq v2067 c2_i32_2390
  let c1_i32_2391 : BitVec 32 := 1#32
  let v2069 : BitVec 32 := Scalar.addi v8 c1_i32_2391
  let c2_i32_2392 : BitVec 32 := 2#32
  let v2070 : BitVec 32 := Scalar.addi v2069 c2_i32_2392
  let c2_i32_2393 : BitVec 32 := 2#32
  let v2071 : BitVec 1 := Scalar.cmpi .eq v2070 c2_i32_2393
  let v2072 : BitVec 1 := Scalar.ori v2068 v2071
  let v2089 : BitVec 1 := Scalar.andi v2088 v2072
  let v2097 : BitVec 32 := Scalar.extui v2089
  let c0_i32_2425 : BitVec 32 := 0#32
  let v2098 : BitVec 1 := Scalar.cmpi .ne v2097 c0_i32_2425
  v2098

def k0_off145 (d0 : Dev nD) : Fin 2 → Nat :=
  let c4_i32_2415 : BitVec 32 := 4#32
  let c3_i32_2414 : BitVec 32 := 3#32
  let c0_i32_2413 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2412 : BitVec 32 := 0#32
  let v2090 : BitVec 32 := Scalar.addi v5 c0_i32_2412
  let v2091 : BitVec 32 := Scalar.maxsi c0_i32_2413 v2090
  let v2092 : BitVec 32 := Scalar.minsi c3_i32_2414 v2091
  let v2093 : BitVec 32 := Scalar.muli c4_i32_2415 v2092
  let c2_i32_2416 : BitVec 32 := 2#32
  let v2094 : BitVec 32 := Scalar.addi v2093 c2_i32_2416
  let c256_i32_2417 : BitVec 32 := 256#32
  let v2095 : BitVec 32 := Scalar.muli v2094 c256_i32_2417
  let c0_i32_5494 : BitVec 32 := 0#32
  ![v2095.toNat, 0]
def k0_dev105 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2418 : BitVec 32 := 4294967295#32
  let v2096 : BitVec 32 := Scalar.addi v5 c_m1_i32_2418
  let c4_i32_5492 : BitVec 32 := 4#32
  let v3946 : BitVec 32 := Scalar.muli v2096 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond151 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2432 : BitVec 32 := 0#32
  let v2106 : BitVec 1 := Scalar.cmpi .sge v5 c0_i32_2432
  let c3_i32_2433 : BitVec 32 := 3#32
  let v2107 : BitVec 1 := Scalar.cmpi .slt v5 c3_i32_2433
  let v2108 : BitVec 1 := Scalar.andi v2106 v2107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2426 : BitVec 32 := 1#32
  let v2099 : BitVec 32 := Scalar.subi v8 c1_i32_2426
  let c2_i32_2427 : BitVec 32 := 2#32
  let v2100 : BitVec 32 := Scalar.subi v2099 c2_i32_2427
  let c3_i32_2428 : BitVec 32 := 3#32
  let v2101 : BitVec 1 := Scalar.cmpi .eq v2100 c3_i32_2428
  let c1_i32_2429 : BitVec 32 := 1#32
  let v2102 : BitVec 32 := Scalar.addi v8 c1_i32_2429
  let c2_i32_2430 : BitVec 32 := 2#32
  let v2103 : BitVec 32 := Scalar.addi v2102 c2_i32_2430
  let c3_i32_2431 : BitVec 32 := 3#32
  let v2104 : BitVec 1 := Scalar.cmpi .eq v2103 c3_i32_2431
  let v2105 : BitVec 1 := Scalar.ori v2101 v2104
  let v2109 : BitVec 1 := Scalar.andi v2108 v2105
  let v2117 : BitVec 32 := Scalar.extui v2109
  let c0_i32_2447 : BitVec 32 := 0#32
  let v2118 : BitVec 1 := Scalar.cmpi .ne v2117 c0_i32_2447
  v2118

def k0_off146 (d0 : Dev nD) : Fin 2 → Nat :=
  let c4_i32_2437 : BitVec 32 := 4#32
  let c3_i32_2436 : BitVec 32 := 3#32
  let c0_i32_2435 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2434 : BitVec 32 := 0#32
  let v2110 : BitVec 32 := Scalar.subi v5 c0_i32_2434
  let v2111 : BitVec 32 := Scalar.maxsi c0_i32_2435 v2110
  let v2112 : BitVec 32 := Scalar.minsi c3_i32_2436 v2111
  let v2113 : BitVec 32 := Scalar.muli c4_i32_2437 v2112
  let c3_i32_2438 : BitVec 32 := 3#32
  let v2114 : BitVec 32 := Scalar.addi v2113 c3_i32_2438
  let c256_i32_2439 : BitVec 32 := 256#32
  let v2115 : BitVec 32 := Scalar.muli v2114 c256_i32_2439
  let c0_i32_5494 : BitVec 32 := 0#32
  ![v2115.toNat, 0]
def k0_dev106 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2440 : BitVec 32 := 1#32
  let v2116 : BitVec 32 := Scalar.addi v5 c1_i32_2440
  let c4_i32_5492 : BitVec 32 := 4#32
  let v3946 : BitVec 32 := Scalar.muli v2116 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond152 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2448 : BitVec 32 := 3#32
  let v2119 : BitVec 1 := Scalar.cmpi .sle v5 c3_i32_2448
  let c0_i32_2449 : BitVec 32 := 0#32
  let v2120 : BitVec 1 := Scalar.cmpi .sgt v5 c0_i32_2449
  let v2121 : BitVec 1 := Scalar.andi v2119 v2120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2426 : BitVec 32 := 1#32
  let v2099 : BitVec 32 := Scalar.subi v8 c1_i32_2426
  let c2_i32_2427 : BitVec 32 := 2#32
  let v2100 : BitVec 32 := Scalar.subi v2099 c2_i32_2427
  let c3_i32_2428 : BitVec 32 := 3#32
  let v2101 : BitVec 1 := Scalar.cmpi .eq v2100 c3_i32_2428
  let c1_i32_2429 : BitVec 32 := 1#32
  let v2102 : BitVec 32 := Scalar.addi v8 c1_i32_2429
  let c2_i32_2430 : BitVec 32 := 2#32
  let v2103 : BitVec 32 := Scalar.addi v2102 c2_i32_2430
  let c3_i32_2431 : BitVec 32 := 3#32
  let v2104 : BitVec 1 := Scalar.cmpi .eq v2103 c3_i32_2431
  let v2105 : BitVec 1 := Scalar.ori v2101 v2104
  let v2122 : BitVec 1 := Scalar.andi v2121 v2105
  let v2130 : BitVec 32 := Scalar.extui v2122
  let c0_i32_2463 : BitVec 32 := 0#32
  let v2131 : BitVec 1 := Scalar.cmpi .ne v2130 c0_i32_2463
  v2131

def k0_off147 (d0 : Dev nD) : Fin 2 → Nat :=
  let c4_i32_2453 : BitVec 32 := 4#32
  let c3_i32_2452 : BitVec 32 := 3#32
  let c0_i32_2451 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2450 : BitVec 32 := 0#32
  let v2123 : BitVec 32 := Scalar.addi v5 c0_i32_2450
  let v2124 : BitVec 32 := Scalar.maxsi c0_i32_2451 v2123
  let v2125 : BitVec 32 := Scalar.minsi c3_i32_2452 v2124
  let v2126 : BitVec 32 := Scalar.muli c4_i32_2453 v2125
  let c3_i32_2454 : BitVec 32 := 3#32
  let v2127 : BitVec 32 := Scalar.addi v2126 c3_i32_2454
  let c256_i32_2455 : BitVec 32 := 256#32
  let v2128 : BitVec 32 := Scalar.muli v2127 c256_i32_2455
  let c0_i32_5494 : BitVec 32 := 0#32
  ![v2128.toNat, 0]
def k0_dev107 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2456 : BitVec 32 := 4294967295#32
  let v2129 : BitVec 32 := Scalar.addi v5 c_m1_i32_2456
  let c4_i32_5492 : BitVec 32 := 4#32
  let v3946 : BitVec 32 := Scalar.muli v2129 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond153 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2470 : BitVec 32 := 0#32
  let v2139 : BitVec 1 := Scalar.cmpi .sge v8 c0_i32_2470
  let c3_i32_2471 : BitVec 32 := 3#32
  let v2140 : BitVec 1 := Scalar.cmpi .slt v8 c3_i32_2471
  let v2141 : BitVec 1 := Scalar.andi v2139 v2140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2464 : BitVec 32 := 1#32
  let v2132 : BitVec 32 := Scalar.subi v5 c1_i32_2464
  let c2_i32_2465 : BitVec 32 := 2#32
  let v2133 : BitVec 32 := Scalar.subi v2132 c2_i32_2465
  let c0_i32_2466 : BitVec 32 := 0#32
  let v2134 : BitVec 1 := Scalar.cmpi .eq v2133 c0_i32_2466
  let c1_i32_2467 : BitVec 32 := 1#32
  let v2135 : BitVec 32 := Scalar.addi v5 c1_i32_2467
  let c2_i32_2468 : BitVec 32 := 2#32
  let v2136 : BitVec 32 := Scalar.addi v2135 c2_i32_2468
  let c0_i32_2469 : BitVec 32 := 0#32
  let v2137 : BitVec 1 := Scalar.cmpi .eq v2136 c0_i32_2469
  let v2138 : BitVec 1 := Scalar.ori v2134 v2137
  let v2142 : BitVec 1 := Scalar.andi v2141 v2138
  let v2149 : BitVec 32 := Scalar.extui v2142
  let c0_i32_2484 : BitVec 32 := 0#32
  let v2150 : BitVec 1 := Scalar.cmpi .ne v2149 c0_i32_2484
  v2150

def k0_off148 (d0 : Dev nD) : Fin 2 → Nat :=
  let c0_i32_2475 : BitVec 32 := 0#32
  let c3_i32_2474 : BitVec 32 := 3#32
  let c0_i32_2473 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2472 : BitVec 32 := 0#32
  let v2143 : BitVec 32 := Scalar.subi v8 c0_i32_2472
  let v2144 : BitVec 32 := Scalar.maxsi c0_i32_2473 v2143
  let v2145 : BitVec 32 := Scalar.minsi c3_i32_2474 v2144
  let v2146 : BitVec 32 := Scalar.addi c0_i32_2475 v2145
  let c256_i32_2476 : BitVec 32 := 256#32
  let v2147 : BitVec 32 := Scalar.muli v2146 c256_i32_2476
  let c2048_i32 : BitVec 32 := 2048#32
  ![v2147.toNat, 2048]
def k0_dev108 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2477 : BitVec 32 := 1#32
  let v2148 : BitVec 32 := Scalar.addi v8 c1_i32_2477
  let c1_i32_5493 : BitVec 32 := 1#32
  let v3948 : BitVec 32 := Scalar.muli v2148 c1_i32_5493
  let v3949 : BitVec 32 := Scalar.addi v3947 v3948
  v3949.toNat
def k0_cond154 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2485 : BitVec 32 := 3#32
  let v2151 : BitVec 1 := Scalar.cmpi .sle v8 c3_i32_2485
  let c0_i32_2486 : BitVec 32 := 0#32
  let v2152 : BitVec 1 := Scalar.cmpi .sgt v8 c0_i32_2486
  let v2153 : BitVec 1 := Scalar.andi v2151 v2152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2464 : BitVec 32 := 1#32
  let v2132 : BitVec 32 := Scalar.subi v5 c1_i32_2464
  let c2_i32_2465 : BitVec 32 := 2#32
  let v2133 : BitVec 32 := Scalar.subi v2132 c2_i32_2465
  let c0_i32_2466 : BitVec 32 := 0#32
  let v2134 : BitVec 1 := Scalar.cmpi .eq v2133 c0_i32_2466
  let c1_i32_2467 : BitVec 32 := 1#32
  let v2135 : BitVec 32 := Scalar.addi v5 c1_i32_2467
  let c2_i32_2468 : BitVec 32 := 2#32
  let v2136 : BitVec 32 := Scalar.addi v2135 c2_i32_2468
  let c0_i32_2469 : BitVec 32 := 0#32
  let v2137 : BitVec 1 := Scalar.cmpi .eq v2136 c0_i32_2469
  let v2138 : BitVec 1 := Scalar.ori v2134 v2137
  let v2154 : BitVec 1 := Scalar.andi v2153 v2138
  let v2161 : BitVec 32 := Scalar.extui v2154
  let c0_i32_2499 : BitVec 32 := 0#32
  let v2162 : BitVec 1 := Scalar.cmpi .ne v2161 c0_i32_2499
  v2162

def k0_off149 (d0 : Dev nD) : Fin 2 → Nat :=
  let c0_i32_2490 : BitVec 32 := 0#32
  let c3_i32_2489 : BitVec 32 := 3#32
  let c0_i32_2488 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2487 : BitVec 32 := 0#32
  let v2155 : BitVec 32 := Scalar.addi v8 c0_i32_2487
  let v2156 : BitVec 32 := Scalar.maxsi c0_i32_2488 v2155
  let v2157 : BitVec 32 := Scalar.minsi c3_i32_2489 v2156
  let v2158 : BitVec 32 := Scalar.addi c0_i32_2490 v2157
  let c256_i32_2491 : BitVec 32 := 256#32
  let v2159 : BitVec 32 := Scalar.muli v2158 c256_i32_2491
  let c2048_i32 : BitVec 32 := 2048#32
  ![v2159.toNat, 2048]
def k0_dev109 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2492 : BitVec 32 := 4294967295#32
  let v2160 : BitVec 32 := Scalar.addi v8 c_m1_i32_2492
  let c1_i32_5493 : BitVec 32 := 1#32
  let v3948 : BitVec 32 := Scalar.muli v2160 c1_i32_5493
  let v3949 : BitVec 32 := Scalar.addi v3947 v3948
  v3949.toNat
def k0_cond155 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2506 : BitVec 32 := 0#32
  let v2170 : BitVec 1 := Scalar.cmpi .sge v8 c0_i32_2506
  let c3_i32_2507 : BitVec 32 := 3#32
  let v2171 : BitVec 1 := Scalar.cmpi .slt v8 c3_i32_2507
  let v2172 : BitVec 1 := Scalar.andi v2170 v2171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2500 : BitVec 32 := 1#32
  let v2163 : BitVec 32 := Scalar.subi v5 c1_i32_2500
  let c2_i32_2501 : BitVec 32 := 2#32
  let v2164 : BitVec 32 := Scalar.subi v2163 c2_i32_2501
  let c1_i32_2502 : BitVec 32 := 1#32
  let v2165 : BitVec 1 := Scalar.cmpi .eq v2164 c1_i32_2502
  let c1_i32_2503 : BitVec 32 := 1#32
  let v2166 : BitVec 32 := Scalar.addi v5 c1_i32_2503
  let c2_i32_2504 : BitVec 32 := 2#32
  let v2167 : BitVec 32 := Scalar.addi v2166 c2_i32_2504
  let c1_i32_2505 : BitVec 32 := 1#32
  let v2168 : BitVec 1 := Scalar.cmpi .eq v2167 c1_i32_2505
  let v2169 : BitVec 1 := Scalar.ori v2165 v2168
  let v2173 : BitVec 1 := Scalar.andi v2172 v2169
  let v2180 : BitVec 32 := Scalar.extui v2173
  let c0_i32_2520 : BitVec 32 := 0#32
  let v2181 : BitVec 1 := Scalar.cmpi .ne v2180 c0_i32_2520
  v2181

def k0_off150 (d0 : Dev nD) : Fin 2 → Nat :=
  let c4_i32_2511 : BitVec 32 := 4#32
  let c3_i32_2510 : BitVec 32 := 3#32
  let c0_i32_2509 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2508 : BitVec 32 := 0#32
  let v2174 : BitVec 32 := Scalar.subi v8 c0_i32_2508
  let v2175 : BitVec 32 := Scalar.maxsi c0_i32_2509 v2174
  let v2176 : BitVec 32 := Scalar.minsi c3_i32_2510 v2175
  let v2177 : BitVec 32 := Scalar.addi c4_i32_2511 v2176
  let c256_i32_2512 : BitVec 32 := 256#32
  let v2178 : BitVec 32 := Scalar.muli v2177 c256_i32_2512
  let c2048_i32 : BitVec 32 := 2048#32
  ![v2178.toNat, 2048]
def k0_dev110 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2513 : BitVec 32 := 1#32
  let v2179 : BitVec 32 := Scalar.addi v8 c1_i32_2513
  let c1_i32_5493 : BitVec 32 := 1#32
  let v3948 : BitVec 32 := Scalar.muli v2179 c1_i32_5493
  let v3949 : BitVec 32 := Scalar.addi v3947 v3948
  v3949.toNat
def k0_cond156 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2521 : BitVec 32 := 3#32
  let v2182 : BitVec 1 := Scalar.cmpi .sle v8 c3_i32_2521
  let c0_i32_2522 : BitVec 32 := 0#32
  let v2183 : BitVec 1 := Scalar.cmpi .sgt v8 c0_i32_2522
  let v2184 : BitVec 1 := Scalar.andi v2182 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2500 : BitVec 32 := 1#32
  let v2163 : BitVec 32 := Scalar.subi v5 c1_i32_2500
  let c2_i32_2501 : BitVec 32 := 2#32
  let v2164 : BitVec 32 := Scalar.subi v2163 c2_i32_2501
  let c1_i32_2502 : BitVec 32 := 1#32
  let v2165 : BitVec 1 := Scalar.cmpi .eq v2164 c1_i32_2502
  let c1_i32_2503 : BitVec 32 := 1#32
  let v2166 : BitVec 32 := Scalar.addi v5 c1_i32_2503
  let c2_i32_2504 : BitVec 32 := 2#32
  let v2167 : BitVec 32 := Scalar.addi v2166 c2_i32_2504
  let c1_i32_2505 : BitVec 32 := 1#32
  let v2168 : BitVec 1 := Scalar.cmpi .eq v2167 c1_i32_2505
  let v2169 : BitVec 1 := Scalar.ori v2165 v2168
  let v2185 : BitVec 1 := Scalar.andi v2184 v2169
  let v2192 : BitVec 32 := Scalar.extui v2185
  let c0_i32_2535 : BitVec 32 := 0#32
  let v2193 : BitVec 1 := Scalar.cmpi .ne v2192 c0_i32_2535
  v2193

def k0_off151 (d0 : Dev nD) : Fin 2 → Nat :=
  let c4_i32_2526 : BitVec 32 := 4#32
  let c3_i32_2525 : BitVec 32 := 3#32
  let c0_i32_2524 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2523 : BitVec 32 := 0#32
  let v2186 : BitVec 32 := Scalar.addi v8 c0_i32_2523
  let v2187 : BitVec 32 := Scalar.maxsi c0_i32_2524 v2186
  let v2188 : BitVec 32 := Scalar.minsi c3_i32_2525 v2187
  let v2189 : BitVec 32 := Scalar.addi c4_i32_2526 v2188
  let c256_i32_2527 : BitVec 32 := 256#32
  let v2190 : BitVec 32 := Scalar.muli v2189 c256_i32_2527
  let c2048_i32 : BitVec 32 := 2048#32
  ![v2190.toNat, 2048]
def k0_dev111 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2528 : BitVec 32 := 4294967295#32
  let v2191 : BitVec 32 := Scalar.addi v8 c_m1_i32_2528
  let c1_i32_5493 : BitVec 32 := 1#32
  let v3948 : BitVec 32 := Scalar.muli v2191 c1_i32_5493
  let v3949 : BitVec 32 := Scalar.addi v3947 v3948
  v3949.toNat
def k0_cond157 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2542 : BitVec 32 := 0#32
  let v2201 : BitVec 1 := Scalar.cmpi .sge v8 c0_i32_2542
  let c3_i32_2543 : BitVec 32 := 3#32
  let v2202 : BitVec 1 := Scalar.cmpi .slt v8 c3_i32_2543
  let v2203 : BitVec 1 := Scalar.andi v2201 v2202
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2536 : BitVec 32 := 1#32
  let v2194 : BitVec 32 := Scalar.subi v5 c1_i32_2536
  let c2_i32_2537 : BitVec 32 := 2#32
  let v2195 : BitVec 32 := Scalar.subi v2194 c2_i32_2537
  let c2_i32_2538 : BitVec 32 := 2#32
  let v2196 : BitVec 1 := Scalar.cmpi .eq v2195 c2_i32_2538
  let c1_i32_2539 : BitVec 32 := 1#32
  let v2197 : BitVec 32 := Scalar.addi v5 c1_i32_2539
  let c2_i32_2540 : BitVec 32 := 2#32
  let v2198 : BitVec 32 := Scalar.addi v2197 c2_i32_2540
  let c2_i32_2541 : BitVec 32 := 2#32
  let v2199 : BitVec 1 := Scalar.cmpi .eq v2198 c2_i32_2541
  let v2200 : BitVec 1 := Scalar.ori v2196 v2199
  let v2204 : BitVec 1 := Scalar.andi v2203 v2200
  let v2211 : BitVec 32 := Scalar.extui v2204
  let c0_i32_2556 : BitVec 32 := 0#32
  let v2212 : BitVec 1 := Scalar.cmpi .ne v2211 c0_i32_2556
  v2212

def k0_off152 (d0 : Dev nD) : Fin 2 → Nat :=
  let c8_i32_2547 : BitVec 32 := 8#32
  let c3_i32_2546 : BitVec 32 := 3#32
  let c0_i32_2545 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2544 : BitVec 32 := 0#32
  let v2205 : BitVec 32 := Scalar.subi v8 c0_i32_2544
  let v2206 : BitVec 32 := Scalar.maxsi c0_i32_2545 v2205
  let v2207 : BitVec 32 := Scalar.minsi c3_i32_2546 v2206
  let v2208 : BitVec 32 := Scalar.addi c8_i32_2547 v2207
  let c256_i32_2548 : BitVec 32 := 256#32
  let v2209 : BitVec 32 := Scalar.muli v2208 c256_i32_2548
  let c2048_i32 : BitVec 32 := 2048#32
  ![v2209.toNat, 2048]
def k0_dev112 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2549 : BitVec 32 := 1#32
  let v2210 : BitVec 32 := Scalar.addi v8 c1_i32_2549
  let c1_i32_5493 : BitVec 32 := 1#32
  let v3948 : BitVec 32 := Scalar.muli v2210 c1_i32_5493
  let v3949 : BitVec 32 := Scalar.addi v3947 v3948
  v3949.toNat
def k0_cond158 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2557 : BitVec 32 := 3#32
  let v2213 : BitVec 1 := Scalar.cmpi .sle v8 c3_i32_2557
  let c0_i32_2558 : BitVec 32 := 0#32
  let v2214 : BitVec 1 := Scalar.cmpi .sgt v8 c0_i32_2558
  let v2215 : BitVec 1 := Scalar.andi v2213 v2214
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2536 : BitVec 32 := 1#32
  let v2194 : BitVec 32 := Scalar.subi v5 c1_i32_2536
  let c2_i32_2537 : BitVec 32 := 2#32
  let v2195 : BitVec 32 := Scalar.subi v2194 c2_i32_2537
  let c2_i32_2538 : BitVec 32 := 2#32
  let v2196 : BitVec 1 := Scalar.cmpi .eq v2195 c2_i32_2538
  let c1_i32_2539 : BitVec 32 := 1#32
  let v2197 : BitVec 32 := Scalar.addi v5 c1_i32_2539
  let c2_i32_2540 : BitVec 32 := 2#32
  let v2198 : BitVec 32 := Scalar.addi v2197 c2_i32_2540
  let c2_i32_2541 : BitVec 32 := 2#32
  let v2199 : BitVec 1 := Scalar.cmpi .eq v2198 c2_i32_2541
  let v2200 : BitVec 1 := Scalar.ori v2196 v2199
  let v2216 : BitVec 1 := Scalar.andi v2215 v2200
  let v2223 : BitVec 32 := Scalar.extui v2216
  let c0_i32_2571 : BitVec 32 := 0#32
  let v2224 : BitVec 1 := Scalar.cmpi .ne v2223 c0_i32_2571
  v2224

def k0_off153 (d0 : Dev nD) : Fin 2 → Nat :=
  let c8_i32_2562 : BitVec 32 := 8#32
  let c3_i32_2561 : BitVec 32 := 3#32
  let c0_i32_2560 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2559 : BitVec 32 := 0#32
  let v2217 : BitVec 32 := Scalar.addi v8 c0_i32_2559
  let v2218 : BitVec 32 := Scalar.maxsi c0_i32_2560 v2217
  let v2219 : BitVec 32 := Scalar.minsi c3_i32_2561 v2218
  let v2220 : BitVec 32 := Scalar.addi c8_i32_2562 v2219
  let c256_i32_2563 : BitVec 32 := 256#32
  let v2221 : BitVec 32 := Scalar.muli v2220 c256_i32_2563
  let c2048_i32 : BitVec 32 := 2048#32
  ![v2221.toNat, 2048]
def k0_dev113 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2564 : BitVec 32 := 4294967295#32
  let v2222 : BitVec 32 := Scalar.addi v8 c_m1_i32_2564
  let c1_i32_5493 : BitVec 32 := 1#32
  let v3948 : BitVec 32 := Scalar.muli v2222 c1_i32_5493
  let v3949 : BitVec 32 := Scalar.addi v3947 v3948
  v3949.toNat
def k0_cond159 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2578 : BitVec 32 := 0#32
  let v2232 : BitVec 1 := Scalar.cmpi .sge v8 c0_i32_2578
  let c3_i32_2579 : BitVec 32 := 3#32
  let v2233 : BitVec 1 := Scalar.cmpi .slt v8 c3_i32_2579
  let v2234 : BitVec 1 := Scalar.andi v2232 v2233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2572 : BitVec 32 := 1#32
  let v2225 : BitVec 32 := Scalar.subi v5 c1_i32_2572
  let c2_i32_2573 : BitVec 32 := 2#32
  let v2226 : BitVec 32 := Scalar.subi v2225 c2_i32_2573
  let c3_i32_2574 : BitVec 32 := 3#32
  let v2227 : BitVec 1 := Scalar.cmpi .eq v2226 c3_i32_2574
  let c1_i32_2575 : BitVec 32 := 1#32
  let v2228 : BitVec 32 := Scalar.addi v5 c1_i32_2575
  let c2_i32_2576 : BitVec 32 := 2#32
  let v2229 : BitVec 32 := Scalar.addi v2228 c2_i32_2576
  let c3_i32_2577 : BitVec 32 := 3#32
  let v2230 : BitVec 1 := Scalar.cmpi .eq v2229 c3_i32_2577
  let v2231 : BitVec 1 := Scalar.ori v2227 v2230
  let v2235 : BitVec 1 := Scalar.andi v2234 v2231
  let v2242 : BitVec 32 := Scalar.extui v2235
  let c0_i32_2592 : BitVec 32 := 0#32
  let v2243 : BitVec 1 := Scalar.cmpi .ne v2242 c0_i32_2592
  v2243

def k0_off154 (d0 : Dev nD) : Fin 2 → Nat :=
  let c12_i32_2583 : BitVec 32 := 12#32
  let c3_i32_2582 : BitVec 32 := 3#32
  let c0_i32_2581 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2580 : BitVec 32 := 0#32
  let v2236 : BitVec 32 := Scalar.subi v8 c0_i32_2580
  let v2237 : BitVec 32 := Scalar.maxsi c0_i32_2581 v2236
  let v2238 : BitVec 32 := Scalar.minsi c3_i32_2582 v2237
  let v2239 : BitVec 32 := Scalar.addi c12_i32_2583 v2238
  let c256_i32_2584 : BitVec 32 := 256#32
  let v2240 : BitVec 32 := Scalar.muli v2239 c256_i32_2584
  let c2048_i32 : BitVec 32 := 2048#32
  ![v2240.toNat, 2048]
def k0_dev114 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2585 : BitVec 32 := 1#32
  let v2241 : BitVec 32 := Scalar.addi v8 c1_i32_2585
  let c1_i32_5493 : BitVec 32 := 1#32
  let v3948 : BitVec 32 := Scalar.muli v2241 c1_i32_5493
  let v3949 : BitVec 32 := Scalar.addi v3947 v3948
  v3949.toNat
def k0_cond160 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2593 : BitVec 32 := 3#32
  let v2244 : BitVec 1 := Scalar.cmpi .sle v8 c3_i32_2593
  let c0_i32_2594 : BitVec 32 := 0#32
  let v2245 : BitVec 1 := Scalar.cmpi .sgt v8 c0_i32_2594
  let v2246 : BitVec 1 := Scalar.andi v2244 v2245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2572 : BitVec 32 := 1#32
  let v2225 : BitVec 32 := Scalar.subi v5 c1_i32_2572
  let c2_i32_2573 : BitVec 32 := 2#32
  let v2226 : BitVec 32 := Scalar.subi v2225 c2_i32_2573
  let c3_i32_2574 : BitVec 32 := 3#32
  let v2227 : BitVec 1 := Scalar.cmpi .eq v2226 c3_i32_2574
  let c1_i32_2575 : BitVec 32 := 1#32
  let v2228 : BitVec 32 := Scalar.addi v5 c1_i32_2575
  let c2_i32_2576 : BitVec 32 := 2#32
  let v2229 : BitVec 32 := Scalar.addi v2228 c2_i32_2576
  let c3_i32_2577 : BitVec 32 := 3#32
  let v2230 : BitVec 1 := Scalar.cmpi .eq v2229 c3_i32_2577
  let v2231 : BitVec 1 := Scalar.ori v2227 v2230
  let v2247 : BitVec 1 := Scalar.andi v2246 v2231
  let v2254 : BitVec 32 := Scalar.extui v2247
  let c0_i32_2607 : BitVec 32 := 0#32
  let v2255 : BitVec 1 := Scalar.cmpi .ne v2254 c0_i32_2607
  v2255

def k0_off155 (d0 : Dev nD) : Fin 2 → Nat :=
  let c12_i32_2598 : BitVec 32 := 12#32
  let c3_i32_2597 : BitVec 32 := 3#32
  let c0_i32_2596 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2595 : BitVec 32 := 0#32
  let v2248 : BitVec 32 := Scalar.addi v8 c0_i32_2595
  let v2249 : BitVec 32 := Scalar.maxsi c0_i32_2596 v2248
  let v2250 : BitVec 32 := Scalar.minsi c3_i32_2597 v2249
  let v2251 : BitVec 32 := Scalar.addi c12_i32_2598 v2250
  let c256_i32_2599 : BitVec 32 := 256#32
  let v2252 : BitVec 32 := Scalar.muli v2251 c256_i32_2599
  let c2048_i32 : BitVec 32 := 2048#32
  ![v2252.toNat, 2048]
def k0_dev115 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2600 : BitVec 32 := 4294967295#32
  let v2253 : BitVec 32 := Scalar.addi v8 c_m1_i32_2600
  let c1_i32_5493 : BitVec 32 := 1#32
  let v3948 : BitVec 32 := Scalar.muli v2253 c1_i32_5493
  let v3949 : BitVec 32 := Scalar.addi v3947 v3948
  v3949.toNat
def k0_cond161 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2612 : BitVec 32 := 1#32
  let v2261 : BitVec 1 := Scalar.cmpi .sge v5 c1_i32_2612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2608 : BitVec 32 := 2#32
  let v2256 : BitVec 32 := Scalar.subi v8 c2_i32_2608
  let c0_i32_2609 : BitVec 32 := 0#32
  let v2257 : BitVec 1 := Scalar.cmpi .eq v2256 c0_i32_2609
  let c2_i32_2610 : BitVec 32 := 2#32
  let v2258 : BitVec 32 := Scalar.addi v8 c2_i32_2610
  let c0_i32_2611 : BitVec 32 := 0#32
  let v2259 : BitVec 1 := Scalar.cmpi .eq v2258 c0_i32_2611
  let v2260 : BitVec 1 := Scalar.ori v2257 v2259
  let v2262 : BitVec 1 := Scalar.andi v2261 v2260
  let v2271 : BitVec 32 := Scalar.extui v2262
  let c0_i32_2627 : BitVec 32 := 0#32
  let v2272 : BitVec 1 := Scalar.cmpi .ne v2271 c0_i32_2627
  v2272

def k0_off156 (d0 : Dev nD) : Fin 2 → Nat :=
  let c4_i32_2617 : BitVec 32 := 4#32
  let c3_i32_2616 : BitVec 32 := 3#32
  let c0_i32_2615 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2613 : BitVec 32 := 1#32
  let v2263 : BitVec 32 := Scalar.subi v5 c1_i32_2613
  let c0_i32_2614 : BitVec 32 := 0#32
  let v2264 : BitVec 32 := Scalar.subi v2263 c0_i32_2614
  let v2265 : BitVec 32 := Scalar.maxsi c0_i32_2615 v2264
  let v2266 : BitVec 32 := Scalar.minsi c3_i32_2616 v2265
  let v2267 : BitVec 32 := Scalar.muli c4_i32_2617 v2266
  let c0_i32_2618 : BitVec 32 := 0#32
  let v2268 : BitVec 32 := Scalar.addi v2267 c0_i32_2618
  let c256_i32_2619 : BitVec 32 := 256#32
  let v2269 : BitVec 32 := Scalar.muli v2268 c256_i32_2619
  let c0_i32_5494 : BitVec 32 := 0#32
  ![v2269.toNat, 0]
def k0_cond162 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2628 : BitVec 32 := 2#32
  let v2273 : BitVec 1 := Scalar.cmpi .sle v5 c2_i32_2628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2608 : BitVec 32 := 2#32
  let v2256 : BitVec 32 := Scalar.subi v8 c2_i32_2608
  let c0_i32_2609 : BitVec 32 := 0#32
  let v2257 : BitVec 1 := Scalar.cmpi .eq v2256 c0_i32_2609
  let c2_i32_2610 : BitVec 32 := 2#32
  let v2258 : BitVec 32 := Scalar.addi v8 c2_i32_2610
  let c0_i32_2611 : BitVec 32 := 0#32
  let v2259 : BitVec 1 := Scalar.cmpi .eq v2258 c0_i32_2611
  let v2260 : BitVec 1 := Scalar.ori v2257 v2259
  let v2274 : BitVec 1 := Scalar.andi v2273 v2260
  let v2283 : BitVec 32 := Scalar.extui v2274
  let c0_i32_2643 : BitVec 32 := 0#32
  let v2284 : BitVec 1 := Scalar.cmpi .ne v2283 c0_i32_2643
  v2284

def k0_off157 (d0 : Dev nD) : Fin 2 → Nat :=
  let c4_i32_2633 : BitVec 32 := 4#32
  let c3_i32_2632 : BitVec 32 := 3#32
  let c0_i32_2631 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2629 : BitVec 32 := 1#32
  let v2275 : BitVec 32 := Scalar.addi v5 c1_i32_2629
  let c0_i32_2630 : BitVec 32 := 0#32
  let v2276 : BitVec 32 := Scalar.addi v2275 c0_i32_2630
  let v2277 : BitVec 32 := Scalar.maxsi c0_i32_2631 v2276
  let v2278 : BitVec 32 := Scalar.minsi c3_i32_2632 v2277
  let v2279 : BitVec 32 := Scalar.muli c4_i32_2633 v2278
  let c0_i32_2634 : BitVec 32 := 0#32
  let v2280 : BitVec 32 := Scalar.addi v2279 c0_i32_2634
  let c256_i32_2635 : BitVec 32 := 256#32
  let v2281 : BitVec 32 := Scalar.muli v2280 c256_i32_2635
  let c0_i32_5494 : BitVec 32 := 0#32
  ![v2281.toNat, 0]
def k0_cond163 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2644 : BitVec 32 := 1#32
  let v2285 : BitVec 1 := Scalar.cmpi .sge v5 c1_i32_2644
  let c3_i32_2645 : BitVec 32 := 3#32
  let v2286 : BitVec 1 := Scalar.cmpi .slt v5 c3_i32_2645
  let v2287 : BitVec 1 := Scalar.andi v2285 v2286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2608 : BitVec 32 := 2#32
  let v2256 : BitVec 32 := Scalar.subi v8 c2_i32_2608
  let c0_i32_2609 : BitVec 32 := 0#32
  let v2257 : BitVec 1 := Scalar.cmpi .eq v2256 c0_i32_2609
  let c2_i32_2610 : BitVec 32 := 2#32
  let v2258 : BitVec 32 := Scalar.addi v8 c2_i32_2610
  let c0_i32_2611 : BitVec 32 := 0#32
  let v2259 : BitVec 1 := Scalar.cmpi .eq v2258 c0_i32_2611
  let v2260 : BitVec 1 := Scalar.ori v2257 v2259
  let v2288 : BitVec 1 := Scalar.andi v2287 v2260
  let v2296 : BitVec 32 := Scalar.extui v2288
  let c0_i32_2659 : BitVec 32 := 0#32
  let v2297 : BitVec 1 := Scalar.cmpi .ne v2296 c0_i32_2659
  v2297

def k0_off158 (d0 : Dev nD) : Fin 2 → Nat :=
  let c4_i32_2649 : BitVec 32 := 4#32
  let c3_i32_2648 : BitVec 32 := 3#32
  let c0_i32_2647 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2646 : BitVec 32 := 1#32
  let v2289 : BitVec 32 := Scalar.subi v5 c1_i32_2646
  let v2290 : BitVec 32 := Scalar.maxsi c0_i32_2647 v2289
  let v2291 : BitVec 32 := Scalar.minsi c3_i32_2648 v2290
  let v2292 : BitVec 32 := Scalar.muli c4_i32_2649 v2291
  let c0_i32_2650 : BitVec 32 := 0#32
  let v2293 : BitVec 32 := Scalar.addi v2292 c0_i32_2650
  let c256_i32_2651 : BitVec 32 := 256#32
  let v2294 : BitVec 32 := Scalar.muli v2293 c256_i32_2651
  let c0_i32_5494 : BitVec 32 := 0#32
  ![v2294.toNat, 0]
def k0_dev116 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2652 : BitVec 32 := 1#32
  let v2295 : BitVec 32 := Scalar.addi v5 c1_i32_2652
  let c4_i32_5492 : BitVec 32 := 4#32
  let v3946 : BitVec 32 := Scalar.muli v2295 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond164 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2660 : BitVec 32 := 2#32
  let v2298 : BitVec 1 := Scalar.cmpi .sle v5 c2_i32_2660
  let c0_i32_2661 : BitVec 32 := 0#32
  let v2299 : BitVec 1 := Scalar.cmpi .sgt v5 c0_i32_2661
  let v2300 : BitVec 1 := Scalar.andi v2298 v2299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2608 : BitVec 32 := 2#32
  let v2256 : BitVec 32 := Scalar.subi v8 c2_i32_2608
  let c0_i32_2609 : BitVec 32 := 0#32
  let v2257 : BitVec 1 := Scalar.cmpi .eq v2256 c0_i32_2609
  let c2_i32_2610 : BitVec 32 := 2#32
  let v2258 : BitVec 32 := Scalar.addi v8 c2_i32_2610
  let c0_i32_2611 : BitVec 32 := 0#32
  let v2259 : BitVec 1 := Scalar.cmpi .eq v2258 c0_i32_2611
  let v2260 : BitVec 1 := Scalar.ori v2257 v2259
  let v2301 : BitVec 1 := Scalar.andi v2300 v2260
  let v2309 : BitVec 32 := Scalar.extui v2301
  let c0_i32_2675 : BitVec 32 := 0#32
  let v2310 : BitVec 1 := Scalar.cmpi .ne v2309 c0_i32_2675
  v2310

def k0_off159 (d0 : Dev nD) : Fin 2 → Nat :=
  let c4_i32_2665 : BitVec 32 := 4#32
  let c3_i32_2664 : BitVec 32 := 3#32
  let c0_i32_2663 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2662 : BitVec 32 := 1#32
  let v2302 : BitVec 32 := Scalar.addi v5 c1_i32_2662
  let v2303 : BitVec 32 := Scalar.maxsi c0_i32_2663 v2302
  let v2304 : BitVec 32 := Scalar.minsi c3_i32_2664 v2303
  let v2305 : BitVec 32 := Scalar.muli c4_i32_2665 v2304
  let c0_i32_2666 : BitVec 32 := 0#32
  let v2306 : BitVec 32 := Scalar.addi v2305 c0_i32_2666
  let c256_i32_2667 : BitVec 32 := 256#32
  let v2307 : BitVec 32 := Scalar.muli v2306 c256_i32_2667
  let c0_i32_5494 : BitVec 32 := 0#32
  ![v2307.toNat, 0]
def k0_dev117 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2668 : BitVec 32 := 4294967295#32
  let v2308 : BitVec 32 := Scalar.addi v5 c_m1_i32_2668
  let c4_i32_5492 : BitVec 32 := 4#32
  let v3946 : BitVec 32 := Scalar.muli v2308 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond165 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2680 : BitVec 32 := 1#32
  let v2316 : BitVec 1 := Scalar.cmpi .sge v8 c1_i32_2680
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2676 : BitVec 32 := 2#32
  let v2311 : BitVec 32 := Scalar.subi v5 c2_i32_2676
  let c0_i32_2677 : BitVec 32 := 0#32
  let v2312 : BitVec 1 := Scalar.cmpi .eq v2311 c0_i32_2677
  let c2_i32_2678 : BitVec 32 := 2#32
  let v2313 : BitVec 32 := Scalar.addi v5 c2_i32_2678
  let c0_i32_2679 : BitVec 32 := 0#32
  let v2314 : BitVec 1 := Scalar.cmpi .eq v2313 c0_i32_2679
  let v2315 : BitVec 1 := Scalar.ori v2312 v2314
  let v2317 : BitVec 1 := Scalar.andi v2316 v2315
  let v2325 : BitVec 32 := Scalar.extui v2317
  let c0_i32_2694 : BitVec 32 := 0#32
  let v2326 : BitVec 1 := Scalar.cmpi .ne v2325 c0_i32_2694
  v2326

def k0_off160 (d0 : Dev nD) : Fin 2 → Nat :=
  let c0_i32_2685 : BitVec 32 := 0#32
  let c3_i32_2684 : BitVec 32 := 3#32
  let c0_i32_2683 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2681 : BitVec 32 := 1#32
  let v2318 : BitVec 32 := Scalar.subi v8 c1_i32_2681
  let c0_i32_2682 : BitVec 32 := 0#32
  let v2319 : BitVec 32 := Scalar.subi v2318 c0_i32_2682
  let v2320 : BitVec 32 := Scalar.maxsi c0_i32_2683 v2319
  let v2321 : BitVec 32 := Scalar.minsi c3_i32_2684 v2320
  let v2322 : BitVec 32 := Scalar.addi c0_i32_2685 v2321
  let c256_i32_2686 : BitVec 32 := 256#32
  let v2323 : BitVec 32 := Scalar.muli v2322 c256_i32_2686
  let c2048_i32 : BitVec 32 := 2048#32
  ![v2323.toNat, 2048]
def k0_cond166 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2695 : BitVec 32 := 2#32
  let v2327 : BitVec 1 := Scalar.cmpi .sle v8 c2_i32_2695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2676 : BitVec 32 := 2#32
  let v2311 : BitVec 32 := Scalar.subi v5 c2_i32_2676
  let c0_i32_2677 : BitVec 32 := 0#32
  let v2312 : BitVec 1 := Scalar.cmpi .eq v2311 c0_i32_2677
  let c2_i32_2678 : BitVec 32 := 2#32
  let v2313 : BitVec 32 := Scalar.addi v5 c2_i32_2678
  let c0_i32_2679 : BitVec 32 := 0#32
  let v2314 : BitVec 1 := Scalar.cmpi .eq v2313 c0_i32_2679
  let v2315 : BitVec 1 := Scalar.ori v2312 v2314
  let v2328 : BitVec 1 := Scalar.andi v2327 v2315
  let v2336 : BitVec 32 := Scalar.extui v2328
  let c0_i32_2709 : BitVec 32 := 0#32
  let v2337 : BitVec 1 := Scalar.cmpi .ne v2336 c0_i32_2709
  v2337

def k0_off161 (d0 : Dev nD) : Fin 2 → Nat :=
  let c0_i32_2700 : BitVec 32 := 0#32
  let c3_i32_2699 : BitVec 32 := 3#32
  let c0_i32_2698 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2696 : BitVec 32 := 1#32
  let v2329 : BitVec 32 := Scalar.addi v8 c1_i32_2696
  let c0_i32_2697 : BitVec 32 := 0#32
  let v2330 : BitVec 32 := Scalar.addi v2329 c0_i32_2697
  let v2331 : BitVec 32 := Scalar.maxsi c0_i32_2698 v2330
  let v2332 : BitVec 32 := Scalar.minsi c3_i32_2699 v2331
  let v2333 : BitVec 32 := Scalar.addi c0_i32_2700 v2332
  let c256_i32_2701 : BitVec 32 := 256#32
  let v2334 : BitVec 32 := Scalar.muli v2333 c256_i32_2701
  let c2048_i32 : BitVec 32 := 2048#32
  ![v2334.toNat, 2048]
def k0_cond167 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2710 : BitVec 32 := 1#32
  let v2338 : BitVec 1 := Scalar.cmpi .sge v8 c1_i32_2710
  let c3_i32_2711 : BitVec 32 := 3#32
  let v2339 : BitVec 1 := Scalar.cmpi .slt v8 c3_i32_2711
  let v2340 : BitVec 1 := Scalar.andi v2338 v2339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2676 : BitVec 32 := 2#32
  let v2311 : BitVec 32 := Scalar.subi v5 c2_i32_2676
  let c0_i32_2677 : BitVec 32 := 0#32
  let v2312 : BitVec 1 := Scalar.cmpi .eq v2311 c0_i32_2677
  let c2_i32_2678 : BitVec 32 := 2#32
  let v2313 : BitVec 32 := Scalar.addi v5 c2_i32_2678
  let c0_i32_2679 : BitVec 32 := 0#32
  let v2314 : BitVec 1 := Scalar.cmpi .eq v2313 c0_i32_2679
  let v2315 : BitVec 1 := Scalar.ori v2312 v2314
  let v2341 : BitVec 1 := Scalar.andi v2340 v2315
  let v2348 : BitVec 32 := Scalar.extui v2341
  let c0_i32_2724 : BitVec 32 := 0#32
  let v2349 : BitVec 1 := Scalar.cmpi .ne v2348 c0_i32_2724
  v2349

def k0_off162 (d0 : Dev nD) : Fin 2 → Nat :=
  let c0_i32_2715 : BitVec 32 := 0#32
  let c3_i32_2714 : BitVec 32 := 3#32
  let c0_i32_2713 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2712 : BitVec 32 := 1#32
  let v2342 : BitVec 32 := Scalar.subi v8 c1_i32_2712
  let v2343 : BitVec 32 := Scalar.maxsi c0_i32_2713 v2342
  let v2344 : BitVec 32 := Scalar.minsi c3_i32_2714 v2343
  let v2345 : BitVec 32 := Scalar.addi c0_i32_2715 v2344
  let c256_i32_2716 : BitVec 32 := 256#32
  let v2346 : BitVec 32 := Scalar.muli v2345 c256_i32_2716
  let c2048_i32 : BitVec 32 := 2048#32
  ![v2346.toNat, 2048]
def k0_dev118 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2717 : BitVec 32 := 1#32
  let v2347 : BitVec 32 := Scalar.addi v8 c1_i32_2717
  let c1_i32_5493 : BitVec 32 := 1#32
  let v3948 : BitVec 32 := Scalar.muli v2347 c1_i32_5493
  let v3949 : BitVec 32 := Scalar.addi v3947 v3948
  v3949.toNat
def k0_cond168 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2725 : BitVec 32 := 2#32
  let v2350 : BitVec 1 := Scalar.cmpi .sle v8 c2_i32_2725
  let c0_i32_2726 : BitVec 32 := 0#32
  let v2351 : BitVec 1 := Scalar.cmpi .sgt v8 c0_i32_2726
  let v2352 : BitVec 1 := Scalar.andi v2350 v2351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2676 : BitVec 32 := 2#32
  let v2311 : BitVec 32 := Scalar.subi v5 c2_i32_2676
  let c0_i32_2677 : BitVec 32 := 0#32
  let v2312 : BitVec 1 := Scalar.cmpi .eq v2311 c0_i32_2677
  let c2_i32_2678 : BitVec 32 := 2#32
  let v2313 : BitVec 32 := Scalar.addi v5 c2_i32_2678
  let c0_i32_2679 : BitVec 32 := 0#32
  let v2314 : BitVec 1 := Scalar.cmpi .eq v2313 c0_i32_2679
  let v2315 : BitVec 1 := Scalar.ori v2312 v2314
  let v2353 : BitVec 1 := Scalar.andi v2352 v2315
  let v2360 : BitVec 32 := Scalar.extui v2353
  let c0_i32_2739 : BitVec 32 := 0#32
  let v2361 : BitVec 1 := Scalar.cmpi .ne v2360 c0_i32_2739
  v2361

def k0_off163 (d0 : Dev nD) : Fin 2 → Nat :=
  let c0_i32_2730 : BitVec 32 := 0#32
  let c3_i32_2729 : BitVec 32 := 3#32
  let c0_i32_2728 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2727 : BitVec 32 := 1#32
  let v2354 : BitVec 32 := Scalar.addi v8 c1_i32_2727
  let v2355 : BitVec 32 := Scalar.maxsi c0_i32_2728 v2354
  let v2356 : BitVec 32 := Scalar.minsi c3_i32_2729 v2355
  let v2357 : BitVec 32 := Scalar.addi c0_i32_2730 v2356
  let c256_i32_2731 : BitVec 32 := 256#32
  let v2358 : BitVec 32 := Scalar.muli v2357 c256_i32_2731
  let c2048_i32 : BitVec 32 := 2048#32
  ![v2358.toNat, 2048]
def k0_dev119 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2732 : BitVec 32 := 4294967295#32
  let v2359 : BitVec 32 := Scalar.addi v8 c_m1_i32_2732
  let c1_i32_5493 : BitVec 32 := 1#32
  let v3948 : BitVec 32 := Scalar.muli v2359 c1_i32_5493
  let v3949 : BitVec 32 := Scalar.addi v3947 v3948
  v3949.toNat
def k0_cond169 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2744 : BitVec 32 := 1#32
  let v2367 : BitVec 1 := Scalar.cmpi .sge v5 c1_i32_2744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2740 : BitVec 32 := 2#32
  let v2362 : BitVec 32 := Scalar.subi v8 c2_i32_2740
  let c1_i32_2741 : BitVec 32 := 1#32
  let v2363 : BitVec 1 := Scalar.cmpi .eq v2362 c1_i32_2741
  let c2_i32_2742 : BitVec 32 := 2#32
  let v2364 : BitVec 32 := Scalar.addi v8 c2_i32_2742
  let c1_i32_2743 : BitVec 32 := 1#32
  let v2365 : BitVec 1 := Scalar.cmpi .eq v2364 c1_i32_2743
  let v2366 : BitVec 1 := Scalar.ori v2363 v2365
  let v2368 : BitVec 1 := Scalar.andi v2367 v2366
  let v2377 : BitVec 32 := Scalar.extui v2368
  let c0_i32_2759 : BitVec 32 := 0#32
  let v2378 : BitVec 1 := Scalar.cmpi .ne v2377 c0_i32_2759
  v2378

def k0_off164 (d0 : Dev nD) : Fin 2 → Nat :=
  let c4_i32_2749 : BitVec 32 := 4#32
  let c3_i32_2748 : BitVec 32 := 3#32
  let c0_i32_2747 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2745 : BitVec 32 := 1#32
  let v2369 : BitVec 32 := Scalar.subi v5 c1_i32_2745
  let c0_i32_2746 : BitVec 32 := 0#32
  let v2370 : BitVec 32 := Scalar.subi v2369 c0_i32_2746
  let v2371 : BitVec 32 := Scalar.maxsi c0_i32_2747 v2370
  let v2372 : BitVec 32 := Scalar.minsi c3_i32_2748 v2371
  let v2373 : BitVec 32 := Scalar.muli c4_i32_2749 v2372
  let c1_i32_2750 : BitVec 32 := 1#32
  let v2374 : BitVec 32 := Scalar.addi v2373 c1_i32_2750
  let c256_i32_2751 : BitVec 32 := 256#32
  let v2375 : BitVec 32 := Scalar.muli v2374 c256_i32_2751
  let c0_i32_5494 : BitVec 32 := 0#32
  ![v2375.toNat, 0]
def k0_cond170 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2760 : BitVec 32 := 2#32
  let v2379 : BitVec 1 := Scalar.cmpi .sle v5 c2_i32_2760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2740 : BitVec 32 := 2#32
  let v2362 : BitVec 32 := Scalar.subi v8 c2_i32_2740
  let c1_i32_2741 : BitVec 32 := 1#32
  let v2363 : BitVec 1 := Scalar.cmpi .eq v2362 c1_i32_2741
  let c2_i32_2742 : BitVec 32 := 2#32
  let v2364 : BitVec 32 := Scalar.addi v8 c2_i32_2742
  let c1_i32_2743 : BitVec 32 := 1#32
  let v2365 : BitVec 1 := Scalar.cmpi .eq v2364 c1_i32_2743
  let v2366 : BitVec 1 := Scalar.ori v2363 v2365
  let v2380 : BitVec 1 := Scalar.andi v2379 v2366
  let v2389 : BitVec 32 := Scalar.extui v2380
  let c0_i32_2775 : BitVec 32 := 0#32
  let v2390 : BitVec 1 := Scalar.cmpi .ne v2389 c0_i32_2775
  v2390

def k0_off165 (d0 : Dev nD) : Fin 2 → Nat :=
  let c4_i32_2765 : BitVec 32 := 4#32
  let c3_i32_2764 : BitVec 32 := 3#32
  let c0_i32_2763 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2761 : BitVec 32 := 1#32
  let v2381 : BitVec 32 := Scalar.addi v5 c1_i32_2761
  let c0_i32_2762 : BitVec 32 := 0#32
  let v2382 : BitVec 32 := Scalar.addi v2381 c0_i32_2762
  let v2383 : BitVec 32 := Scalar.maxsi c0_i32_2763 v2382
  let v2384 : BitVec 32 := Scalar.minsi c3_i32_2764 v2383
  let v2385 : BitVec 32 := Scalar.muli c4_i32_2765 v2384
  let c1_i32_2766 : BitVec 32 := 1#32
  let v2386 : BitVec 32 := Scalar.addi v2385 c1_i32_2766
  let c256_i32_2767 : BitVec 32 := 256#32
  let v2387 : BitVec 32 := Scalar.muli v2386 c256_i32_2767
  let c0_i32_5494 : BitVec 32 := 0#32
  ![v2387.toNat, 0]
def k0_cond171 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2776 : BitVec 32 := 1#32
  let v2391 : BitVec 1 := Scalar.cmpi .sge v5 c1_i32_2776
  let c3_i32_2777 : BitVec 32 := 3#32
  let v2392 : BitVec 1 := Scalar.cmpi .slt v5 c3_i32_2777
  let v2393 : BitVec 1 := Scalar.andi v2391 v2392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2740 : BitVec 32 := 2#32
  let v2362 : BitVec 32 := Scalar.subi v8 c2_i32_2740
  let c1_i32_2741 : BitVec 32 := 1#32
  let v2363 : BitVec 1 := Scalar.cmpi .eq v2362 c1_i32_2741
  let c2_i32_2742 : BitVec 32 := 2#32
  let v2364 : BitVec 32 := Scalar.addi v8 c2_i32_2742
  let c1_i32_2743 : BitVec 32 := 1#32
  let v2365 : BitVec 1 := Scalar.cmpi .eq v2364 c1_i32_2743
  let v2366 : BitVec 1 := Scalar.ori v2363 v2365
  let v2394 : BitVec 1 := Scalar.andi v2393 v2366
  let v2402 : BitVec 32 := Scalar.extui v2394
  let c0_i32_2791 : BitVec 32 := 0#32
  let v2403 : BitVec 1 := Scalar.cmpi .ne v2402 c0_i32_2791
  v2403

def k0_off166 (d0 : Dev nD) : Fin 2 → Nat :=
  let c4_i32_2781 : BitVec 32 := 4#32
  let c3_i32_2780 : BitVec 32 := 3#32
  let c0_i32_2779 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2778 : BitVec 32 := 1#32
  let v2395 : BitVec 32 := Scalar.subi v5 c1_i32_2778
  let v2396 : BitVec 32 := Scalar.maxsi c0_i32_2779 v2395
  let v2397 : BitVec 32 := Scalar.minsi c3_i32_2780 v2396
  let v2398 : BitVec 32 := Scalar.muli c4_i32_2781 v2397
  let c1_i32_2782 : BitVec 32 := 1#32
  let v2399 : BitVec 32 := Scalar.addi v2398 c1_i32_2782
  let c256_i32_2783 : BitVec 32 := 256#32
  let v2400 : BitVec 32 := Scalar.muli v2399 c256_i32_2783
  let c0_i32_5494 : BitVec 32 := 0#32
  ![v2400.toNat, 0]
def k0_dev120 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2784 : BitVec 32 := 1#32
  let v2401 : BitVec 32 := Scalar.addi v5 c1_i32_2784
  let c4_i32_5492 : BitVec 32 := 4#32
  let v3946 : BitVec 32 := Scalar.muli v2401 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond172 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2792 : BitVec 32 := 2#32
  let v2404 : BitVec 1 := Scalar.cmpi .sle v5 c2_i32_2792
  let c0_i32_2793 : BitVec 32 := 0#32
  let v2405 : BitVec 1 := Scalar.cmpi .sgt v5 c0_i32_2793
  let v2406 : BitVec 1 := Scalar.andi v2404 v2405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2740 : BitVec 32 := 2#32
  let v2362 : BitVec 32 := Scalar.subi v8 c2_i32_2740
  let c1_i32_2741 : BitVec 32 := 1#32
  let v2363 : BitVec 1 := Scalar.cmpi .eq v2362 c1_i32_2741
  let c2_i32_2742 : BitVec 32 := 2#32
  let v2364 : BitVec 32 := Scalar.addi v8 c2_i32_2742
  let c1_i32_2743 : BitVec 32 := 1#32
  let v2365 : BitVec 1 := Scalar.cmpi .eq v2364 c1_i32_2743
  let v2366 : BitVec 1 := Scalar.ori v2363 v2365
  let v2407 : BitVec 1 := Scalar.andi v2406 v2366
  let v2415 : BitVec 32 := Scalar.extui v2407
  let c0_i32_2807 : BitVec 32 := 0#32
  let v2416 : BitVec 1 := Scalar.cmpi .ne v2415 c0_i32_2807
  v2416

def k0_off167 (d0 : Dev nD) : Fin 2 → Nat :=
  let c4_i32_2797 : BitVec 32 := 4#32
  let c3_i32_2796 : BitVec 32 := 3#32
  let c0_i32_2795 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2794 : BitVec 32 := 1#32
  let v2408 : BitVec 32 := Scalar.addi v5 c1_i32_2794
  let v2409 : BitVec 32 := Scalar.maxsi c0_i32_2795 v2408
  let v2410 : BitVec 32 := Scalar.minsi c3_i32_2796 v2409
  let v2411 : BitVec 32 := Scalar.muli c4_i32_2797 v2410
  let c1_i32_2798 : BitVec 32 := 1#32
  let v2412 : BitVec 32 := Scalar.addi v2411 c1_i32_2798
  let c256_i32_2799 : BitVec 32 := 256#32
  let v2413 : BitVec 32 := Scalar.muli v2412 c256_i32_2799
  let c0_i32_5494 : BitVec 32 := 0#32
  ![v2413.toNat, 0]
def k0_dev121 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2800 : BitVec 32 := 4294967295#32
  let v2414 : BitVec 32 := Scalar.addi v5 c_m1_i32_2800
  let c4_i32_5492 : BitVec 32 := 4#32
  let v3946 : BitVec 32 := Scalar.muli v2414 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond173 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2812 : BitVec 32 := 1#32
  let v2422 : BitVec 1 := Scalar.cmpi .sge v8 c1_i32_2812
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2808 : BitVec 32 := 2#32
  let v2417 : BitVec 32 := Scalar.subi v5 c2_i32_2808
  let c1_i32_2809 : BitVec 32 := 1#32
  let v2418 : BitVec 1 := Scalar.cmpi .eq v2417 c1_i32_2809
  let c2_i32_2810 : BitVec 32 := 2#32
  let v2419 : BitVec 32 := Scalar.addi v5 c2_i32_2810
  let c1_i32_2811 : BitVec 32 := 1#32
  let v2420 : BitVec 1 := Scalar.cmpi .eq v2419 c1_i32_2811
  let v2421 : BitVec 1 := Scalar.ori v2418 v2420
  let v2423 : BitVec 1 := Scalar.andi v2422 v2421
  let v2431 : BitVec 32 := Scalar.extui v2423
  let c0_i32_2826 : BitVec 32 := 0#32
  let v2432 : BitVec 1 := Scalar.cmpi .ne v2431 c0_i32_2826
  v2432

def k0_off168 (d0 : Dev nD) : Fin 2 → Nat :=
  let c4_i32_2817 : BitVec 32 := 4#32
  let c3_i32_2816 : BitVec 32 := 3#32
  let c0_i32_2815 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2813 : BitVec 32 := 1#32
  let v2424 : BitVec 32 := Scalar.subi v8 c1_i32_2813
  let c0_i32_2814 : BitVec 32 := 0#32
  let v2425 : BitVec 32 := Scalar.subi v2424 c0_i32_2814
  let v2426 : BitVec 32 := Scalar.maxsi c0_i32_2815 v2425
  let v2427 : BitVec 32 := Scalar.minsi c3_i32_2816 v2426
  let v2428 : BitVec 32 := Scalar.addi c4_i32_2817 v2427
  let c256_i32_2818 : BitVec 32 := 256#32
  let v2429 : BitVec 32 := Scalar.muli v2428 c256_i32_2818
  let c2048_i32 : BitVec 32 := 2048#32
  ![v2429.toNat, 2048]
def k0_cond174 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2827 : BitVec 32 := 2#32
  let v2433 : BitVec 1 := Scalar.cmpi .sle v8 c2_i32_2827
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2808 : BitVec 32 := 2#32
  let v2417 : BitVec 32 := Scalar.subi v5 c2_i32_2808
  let c1_i32_2809 : BitVec 32 := 1#32
  let v2418 : BitVec 1 := Scalar.cmpi .eq v2417 c1_i32_2809
  let c2_i32_2810 : BitVec 32 := 2#32
  let v2419 : BitVec 32 := Scalar.addi v5 c2_i32_2810
  let c1_i32_2811 : BitVec 32 := 1#32
  let v2420 : BitVec 1 := Scalar.cmpi .eq v2419 c1_i32_2811
  let v2421 : BitVec 1 := Scalar.ori v2418 v2420
  let v2434 : BitVec 1 := Scalar.andi v2433 v2421
  let v2442 : BitVec 32 := Scalar.extui v2434
  let c0_i32_2841 : BitVec 32 := 0#32
  let v2443 : BitVec 1 := Scalar.cmpi .ne v2442 c0_i32_2841
  v2443

def k0_off169 (d0 : Dev nD) : Fin 2 → Nat :=
  let c4_i32_2832 : BitVec 32 := 4#32
  let c3_i32_2831 : BitVec 32 := 3#32
  let c0_i32_2830 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2828 : BitVec 32 := 1#32
  let v2435 : BitVec 32 := Scalar.addi v8 c1_i32_2828
  let c0_i32_2829 : BitVec 32 := 0#32
  let v2436 : BitVec 32 := Scalar.addi v2435 c0_i32_2829
  let v2437 : BitVec 32 := Scalar.maxsi c0_i32_2830 v2436
  let v2438 : BitVec 32 := Scalar.minsi c3_i32_2831 v2437
  let v2439 : BitVec 32 := Scalar.addi c4_i32_2832 v2438
  let c256_i32_2833 : BitVec 32 := 256#32
  let v2440 : BitVec 32 := Scalar.muli v2439 c256_i32_2833
  let c2048_i32 : BitVec 32 := 2048#32
  ![v2440.toNat, 2048]
def k0_cond175 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2842 : BitVec 32 := 1#32
  let v2444 : BitVec 1 := Scalar.cmpi .sge v8 c1_i32_2842
  let c3_i32_2843 : BitVec 32 := 3#32
  let v2445 : BitVec 1 := Scalar.cmpi .slt v8 c3_i32_2843
  let v2446 : BitVec 1 := Scalar.andi v2444 v2445
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2808 : BitVec 32 := 2#32
  let v2417 : BitVec 32 := Scalar.subi v5 c2_i32_2808
  let c1_i32_2809 : BitVec 32 := 1#32
  let v2418 : BitVec 1 := Scalar.cmpi .eq v2417 c1_i32_2809
  let c2_i32_2810 : BitVec 32 := 2#32
  let v2419 : BitVec 32 := Scalar.addi v5 c2_i32_2810
  let c1_i32_2811 : BitVec 32 := 1#32
  let v2420 : BitVec 1 := Scalar.cmpi .eq v2419 c1_i32_2811
  let v2421 : BitVec 1 := Scalar.ori v2418 v2420
  let v2447 : BitVec 1 := Scalar.andi v2446 v2421
  let v2454 : BitVec 32 := Scalar.extui v2447
  let c0_i32_2856 : BitVec 32 := 0#32
  let v2455 : BitVec 1 := Scalar.cmpi .ne v2454 c0_i32_2856
  v2455

def k0_off170 (d0 : Dev nD) : Fin 2 → Nat :=
  let c4_i32_2847 : BitVec 32 := 4#32
  let c3_i32_2846 : BitVec 32 := 3#32
  let c0_i32_2845 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2844 : BitVec 32 := 1#32
  let v2448 : BitVec 32 := Scalar.subi v8 c1_i32_2844
  let v2449 : BitVec 32 := Scalar.maxsi c0_i32_2845 v2448
  let v2450 : BitVec 32 := Scalar.minsi c3_i32_2846 v2449
  let v2451 : BitVec 32 := Scalar.addi c4_i32_2847 v2450
  let c256_i32_2848 : BitVec 32 := 256#32
  let v2452 : BitVec 32 := Scalar.muli v2451 c256_i32_2848
  let c2048_i32 : BitVec 32 := 2048#32
  ![v2452.toNat, 2048]
def k0_dev122 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2849 : BitVec 32 := 1#32
  let v2453 : BitVec 32 := Scalar.addi v8 c1_i32_2849
  let c1_i32_5493 : BitVec 32 := 1#32
  let v3948 : BitVec 32 := Scalar.muli v2453 c1_i32_5493
  let v3949 : BitVec 32 := Scalar.addi v3947 v3948
  v3949.toNat
def k0_cond176 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2857 : BitVec 32 := 2#32
  let v2456 : BitVec 1 := Scalar.cmpi .sle v8 c2_i32_2857
  let c0_i32_2858 : BitVec 32 := 0#32
  let v2457 : BitVec 1 := Scalar.cmpi .sgt v8 c0_i32_2858
  let v2458 : BitVec 1 := Scalar.andi v2456 v2457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2808 : BitVec 32 := 2#32
  let v2417 : BitVec 32 := Scalar.subi v5 c2_i32_2808
  let c1_i32_2809 : BitVec 32 := 1#32
  let v2418 : BitVec 1 := Scalar.cmpi .eq v2417 c1_i32_2809
  let c2_i32_2810 : BitVec 32 := 2#32
  let v2419 : BitVec 32 := Scalar.addi v5 c2_i32_2810
  let c1_i32_2811 : BitVec 32 := 1#32
  let v2420 : BitVec 1 := Scalar.cmpi .eq v2419 c1_i32_2811
  let v2421 : BitVec 1 := Scalar.ori v2418 v2420
  let v2459 : BitVec 1 := Scalar.andi v2458 v2421
  let v2466 : BitVec 32 := Scalar.extui v2459
  let c0_i32_2871 : BitVec 32 := 0#32
  let v2467 : BitVec 1 := Scalar.cmpi .ne v2466 c0_i32_2871
  v2467

def k0_off171 (d0 : Dev nD) : Fin 2 → Nat :=
  let c4_i32_2862 : BitVec 32 := 4#32
  let c3_i32_2861 : BitVec 32 := 3#32
  let c0_i32_2860 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2859 : BitVec 32 := 1#32
  let v2460 : BitVec 32 := Scalar.addi v8 c1_i32_2859
  let v2461 : BitVec 32 := Scalar.maxsi c0_i32_2860 v2460
  let v2462 : BitVec 32 := Scalar.minsi c3_i32_2861 v2461
  let v2463 : BitVec 32 := Scalar.addi c4_i32_2862 v2462
  let c256_i32_2863 : BitVec 32 := 256#32
  let v2464 : BitVec 32 := Scalar.muli v2463 c256_i32_2863
  let c2048_i32 : BitVec 32 := 2048#32
  ![v2464.toNat, 2048]
def k0_dev123 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2864 : BitVec 32 := 4294967295#32
  let v2465 : BitVec 32 := Scalar.addi v8 c_m1_i32_2864
  let c1_i32_5493 : BitVec 32 := 1#32
  let v3948 : BitVec 32 := Scalar.muli v2465 c1_i32_5493
  let v3949 : BitVec 32 := Scalar.addi v3947 v3948
  v3949.toNat
def k0_cond177 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2876 : BitVec 32 := 1#32
  let v2473 : BitVec 1 := Scalar.cmpi .sge v5 c1_i32_2876
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2872 : BitVec 32 := 2#32
  let v2468 : BitVec 32 := Scalar.subi v8 c2_i32_2872
  let c2_i32_2873 : BitVec 32 := 2#32
  let v2469 : BitVec 1 := Scalar.cmpi .eq v2468 c2_i32_2873
  let c2_i32_2874 : BitVec 32 := 2#32
  let v2470 : BitVec 32 := Scalar.addi v8 c2_i32_2874
  let c2_i32_2875 : BitVec 32 := 2#32
  let v2471 : BitVec 1 := Scalar.cmpi .eq v2470 c2_i32_2875
  let v2472 : BitVec 1 := Scalar.ori v2469 v2471
  let v2474 : BitVec 1 := Scalar.andi v2473 v2472
  let v2483 : BitVec 32 := Scalar.extui v2474
  let c0_i32_2891 : BitVec 32 := 0#32
  let v2484 : BitVec 1 := Scalar.cmpi .ne v2483 c0_i32_2891
  v2484

def k0_off172 (d0 : Dev nD) : Fin 2 → Nat :=
  let c4_i32_2881 : BitVec 32 := 4#32
  let c3_i32_2880 : BitVec 32 := 3#32
  let c0_i32_2879 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2877 : BitVec 32 := 1#32
  let v2475 : BitVec 32 := Scalar.subi v5 c1_i32_2877
  let c0_i32_2878 : BitVec 32 := 0#32
  let v2476 : BitVec 32 := Scalar.subi v2475 c0_i32_2878
  let v2477 : BitVec 32 := Scalar.maxsi c0_i32_2879 v2476
  let v2478 : BitVec 32 := Scalar.minsi c3_i32_2880 v2477
  let v2479 : BitVec 32 := Scalar.muli c4_i32_2881 v2478
  let c2_i32_2882 : BitVec 32 := 2#32
  let v2480 : BitVec 32 := Scalar.addi v2479 c2_i32_2882
  let c256_i32_2883 : BitVec 32 := 256#32
  let v2481 : BitVec 32 := Scalar.muli v2480 c256_i32_2883
  let c0_i32_5494 : BitVec 32 := 0#32
  ![v2481.toNat, 0]
def k0_cond178 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2892 : BitVec 32 := 2#32
  let v2485 : BitVec 1 := Scalar.cmpi .sle v5 c2_i32_2892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2872 : BitVec 32 := 2#32
  let v2468 : BitVec 32 := Scalar.subi v8 c2_i32_2872
  let c2_i32_2873 : BitVec 32 := 2#32
  let v2469 : BitVec 1 := Scalar.cmpi .eq v2468 c2_i32_2873
  let c2_i32_2874 : BitVec 32 := 2#32
  let v2470 : BitVec 32 := Scalar.addi v8 c2_i32_2874
  let c2_i32_2875 : BitVec 32 := 2#32
  let v2471 : BitVec 1 := Scalar.cmpi .eq v2470 c2_i32_2875
  let v2472 : BitVec 1 := Scalar.ori v2469 v2471
  let v2486 : BitVec 1 := Scalar.andi v2485 v2472
  let v2495 : BitVec 32 := Scalar.extui v2486
  let c0_i32_2907 : BitVec 32 := 0#32
  let v2496 : BitVec 1 := Scalar.cmpi .ne v2495 c0_i32_2907
  v2496

def k0_off173 (d0 : Dev nD) : Fin 2 → Nat :=
  let c4_i32_2897 : BitVec 32 := 4#32
  let c3_i32_2896 : BitVec 32 := 3#32
  let c0_i32_2895 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2893 : BitVec 32 := 1#32
  let v2487 : BitVec 32 := Scalar.addi v5 c1_i32_2893
  let c0_i32_2894 : BitVec 32 := 0#32
  let v2488 : BitVec 32 := Scalar.addi v2487 c0_i32_2894
  let v2489 : BitVec 32 := Scalar.maxsi c0_i32_2895 v2488
  let v2490 : BitVec 32 := Scalar.minsi c3_i32_2896 v2489
  let v2491 : BitVec 32 := Scalar.muli c4_i32_2897 v2490
  let c2_i32_2898 : BitVec 32 := 2#32
  let v2492 : BitVec 32 := Scalar.addi v2491 c2_i32_2898
  let c256_i32_2899 : BitVec 32 := 256#32
  let v2493 : BitVec 32 := Scalar.muli v2492 c256_i32_2899
  let c0_i32_5494 : BitVec 32 := 0#32
  ![v2493.toNat, 0]
def k0_cond179 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2908 : BitVec 32 := 1#32
  let v2497 : BitVec 1 := Scalar.cmpi .sge v5 c1_i32_2908
  let c3_i32_2909 : BitVec 32 := 3#32
  let v2498 : BitVec 1 := Scalar.cmpi .slt v5 c3_i32_2909
  let v2499 : BitVec 1 := Scalar.andi v2497 v2498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2872 : BitVec 32 := 2#32
  let v2468 : BitVec 32 := Scalar.subi v8 c2_i32_2872
  let c2_i32_2873 : BitVec 32 := 2#32
  let v2469 : BitVec 1 := Scalar.cmpi .eq v2468 c2_i32_2873
  let c2_i32_2874 : BitVec 32 := 2#32
  let v2470 : BitVec 32 := Scalar.addi v8 c2_i32_2874
  let c2_i32_2875 : BitVec 32 := 2#32
  let v2471 : BitVec 1 := Scalar.cmpi .eq v2470 c2_i32_2875
  let v2472 : BitVec 1 := Scalar.ori v2469 v2471
  let v2500 : BitVec 1 := Scalar.andi v2499 v2472
  let v2508 : BitVec 32 := Scalar.extui v2500
  let c0_i32_2923 : BitVec 32 := 0#32
  let v2509 : BitVec 1 := Scalar.cmpi .ne v2508 c0_i32_2923
  v2509

def k0_off174 (d0 : Dev nD) : Fin 2 → Nat :=
  let c4_i32_2913 : BitVec 32 := 4#32
  let c3_i32_2912 : BitVec 32 := 3#32
  let c0_i32_2911 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2910 : BitVec 32 := 1#32
  let v2501 : BitVec 32 := Scalar.subi v5 c1_i32_2910
  let v2502 : BitVec 32 := Scalar.maxsi c0_i32_2911 v2501
  let v2503 : BitVec 32 := Scalar.minsi c3_i32_2912 v2502
  let v2504 : BitVec 32 := Scalar.muli c4_i32_2913 v2503
  let c2_i32_2914 : BitVec 32 := 2#32
  let v2505 : BitVec 32 := Scalar.addi v2504 c2_i32_2914
  let c256_i32_2915 : BitVec 32 := 256#32
  let v2506 : BitVec 32 := Scalar.muli v2505 c256_i32_2915
  let c0_i32_5494 : BitVec 32 := 0#32
  ![v2506.toNat, 0]
def k0_dev124 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2916 : BitVec 32 := 1#32
  let v2507 : BitVec 32 := Scalar.addi v5 c1_i32_2916
  let c4_i32_5492 : BitVec 32 := 4#32
  let v3946 : BitVec 32 := Scalar.muli v2507 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond180 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2924 : BitVec 32 := 2#32
  let v2510 : BitVec 1 := Scalar.cmpi .sle v5 c2_i32_2924
  let c0_i32_2925 : BitVec 32 := 0#32
  let v2511 : BitVec 1 := Scalar.cmpi .sgt v5 c0_i32_2925
  let v2512 : BitVec 1 := Scalar.andi v2510 v2511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2872 : BitVec 32 := 2#32
  let v2468 : BitVec 32 := Scalar.subi v8 c2_i32_2872
  let c2_i32_2873 : BitVec 32 := 2#32
  let v2469 : BitVec 1 := Scalar.cmpi .eq v2468 c2_i32_2873
  let c2_i32_2874 : BitVec 32 := 2#32
  let v2470 : BitVec 32 := Scalar.addi v8 c2_i32_2874
  let c2_i32_2875 : BitVec 32 := 2#32
  let v2471 : BitVec 1 := Scalar.cmpi .eq v2470 c2_i32_2875
  let v2472 : BitVec 1 := Scalar.ori v2469 v2471
  let v2513 : BitVec 1 := Scalar.andi v2512 v2472
  let v2521 : BitVec 32 := Scalar.extui v2513
  let c0_i32_2939 : BitVec 32 := 0#32
  let v2522 : BitVec 1 := Scalar.cmpi .ne v2521 c0_i32_2939
  v2522

def k0_off175 (d0 : Dev nD) : Fin 2 → Nat :=
  let c4_i32_2929 : BitVec 32 := 4#32
  let c3_i32_2928 : BitVec 32 := 3#32
  let c0_i32_2927 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2926 : BitVec 32 := 1#32
  let v2514 : BitVec 32 := Scalar.addi v5 c1_i32_2926
  let v2515 : BitVec 32 := Scalar.maxsi c0_i32_2927 v2514
  let v2516 : BitVec 32 := Scalar.minsi c3_i32_2928 v2515
  let v2517 : BitVec 32 := Scalar.muli c4_i32_2929 v2516
  let c2_i32_2930 : BitVec 32 := 2#32
  let v2518 : BitVec 32 := Scalar.addi v2517 c2_i32_2930
  let c256_i32_2931 : BitVec 32 := 256#32
  let v2519 : BitVec 32 := Scalar.muli v2518 c256_i32_2931
  let c0_i32_5494 : BitVec 32 := 0#32
  ![v2519.toNat, 0]
def k0_dev125 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_2932 : BitVec 32 := 4294967295#32
  let v2520 : BitVec 32 := Scalar.addi v5 c_m1_i32_2932
  let c4_i32_5492 : BitVec 32 := 4#32
  let v3946 : BitVec 32 := Scalar.muli v2520 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond181 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2944 : BitVec 32 := 1#32
  let v2528 : BitVec 1 := Scalar.cmpi .sge v8 c1_i32_2944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2940 : BitVec 32 := 2#32
  let v2523 : BitVec 32 := Scalar.subi v5 c2_i32_2940
  let c2_i32_2941 : BitVec 32 := 2#32
  let v2524 : BitVec 1 := Scalar.cmpi .eq v2523 c2_i32_2941
  let c2_i32_2942 : BitVec 32 := 2#32
  let v2525 : BitVec 32 := Scalar.addi v5 c2_i32_2942
  let c2_i32_2943 : BitVec 32 := 2#32
  let v2526 : BitVec 1 := Scalar.cmpi .eq v2525 c2_i32_2943
  let v2527 : BitVec 1 := Scalar.ori v2524 v2526
  let v2529 : BitVec 1 := Scalar.andi v2528 v2527
  let v2537 : BitVec 32 := Scalar.extui v2529
  let c0_i32_2958 : BitVec 32 := 0#32
  let v2538 : BitVec 1 := Scalar.cmpi .ne v2537 c0_i32_2958
  v2538

def k0_off176 (d0 : Dev nD) : Fin 2 → Nat :=
  let c8_i32_2949 : BitVec 32 := 8#32
  let c3_i32_2948 : BitVec 32 := 3#32
  let c0_i32_2947 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2945 : BitVec 32 := 1#32
  let v2530 : BitVec 32 := Scalar.subi v8 c1_i32_2945
  let c0_i32_2946 : BitVec 32 := 0#32
  let v2531 : BitVec 32 := Scalar.subi v2530 c0_i32_2946
  let v2532 : BitVec 32 := Scalar.maxsi c0_i32_2947 v2531
  let v2533 : BitVec 32 := Scalar.minsi c3_i32_2948 v2532
  let v2534 : BitVec 32 := Scalar.addi c8_i32_2949 v2533
  let c256_i32_2950 : BitVec 32 := 256#32
  let v2535 : BitVec 32 := Scalar.muli v2534 c256_i32_2950
  let c2048_i32 : BitVec 32 := 2048#32
  ![v2535.toNat, 2048]
def k0_cond182 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2959 : BitVec 32 := 2#32
  let v2539 : BitVec 1 := Scalar.cmpi .sle v8 c2_i32_2959
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2940 : BitVec 32 := 2#32
  let v2523 : BitVec 32 := Scalar.subi v5 c2_i32_2940
  let c2_i32_2941 : BitVec 32 := 2#32
  let v2524 : BitVec 1 := Scalar.cmpi .eq v2523 c2_i32_2941
  let c2_i32_2942 : BitVec 32 := 2#32
  let v2525 : BitVec 32 := Scalar.addi v5 c2_i32_2942
  let c2_i32_2943 : BitVec 32 := 2#32
  let v2526 : BitVec 1 := Scalar.cmpi .eq v2525 c2_i32_2943
  let v2527 : BitVec 1 := Scalar.ori v2524 v2526
  let v2540 : BitVec 1 := Scalar.andi v2539 v2527
  let v2548 : BitVec 32 := Scalar.extui v2540
  let c0_i32_2973 : BitVec 32 := 0#32
  let v2549 : BitVec 1 := Scalar.cmpi .ne v2548 c0_i32_2973
  v2549

def k0_off177 (d0 : Dev nD) : Fin 2 → Nat :=
  let c8_i32_2964 : BitVec 32 := 8#32
  let c3_i32_2963 : BitVec 32 := 3#32
  let c0_i32_2962 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2960 : BitVec 32 := 1#32
  let v2541 : BitVec 32 := Scalar.addi v8 c1_i32_2960
  let c0_i32_2961 : BitVec 32 := 0#32
  let v2542 : BitVec 32 := Scalar.addi v2541 c0_i32_2961
  let v2543 : BitVec 32 := Scalar.maxsi c0_i32_2962 v2542
  let v2544 : BitVec 32 := Scalar.minsi c3_i32_2963 v2543
  let v2545 : BitVec 32 := Scalar.addi c8_i32_2964 v2544
  let c256_i32_2965 : BitVec 32 := 256#32
  let v2546 : BitVec 32 := Scalar.muli v2545 c256_i32_2965
  let c2048_i32 : BitVec 32 := 2048#32
  ![v2546.toNat, 2048]
def k0_cond183 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2974 : BitVec 32 := 1#32
  let v2550 : BitVec 1 := Scalar.cmpi .sge v8 c1_i32_2974
  let c3_i32_2975 : BitVec 32 := 3#32
  let v2551 : BitVec 1 := Scalar.cmpi .slt v8 c3_i32_2975
  let v2552 : BitVec 1 := Scalar.andi v2550 v2551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2940 : BitVec 32 := 2#32
  let v2523 : BitVec 32 := Scalar.subi v5 c2_i32_2940
  let c2_i32_2941 : BitVec 32 := 2#32
  let v2524 : BitVec 1 := Scalar.cmpi .eq v2523 c2_i32_2941
  let c2_i32_2942 : BitVec 32 := 2#32
  let v2525 : BitVec 32 := Scalar.addi v5 c2_i32_2942
  let c2_i32_2943 : BitVec 32 := 2#32
  let v2526 : BitVec 1 := Scalar.cmpi .eq v2525 c2_i32_2943
  let v2527 : BitVec 1 := Scalar.ori v2524 v2526
  let v2553 : BitVec 1 := Scalar.andi v2552 v2527
  let v2560 : BitVec 32 := Scalar.extui v2553
  let c0_i32_2988 : BitVec 32 := 0#32
  let v2561 : BitVec 1 := Scalar.cmpi .ne v2560 c0_i32_2988
  v2561

def k0_off178 (d0 : Dev nD) : Fin 2 → Nat :=
  let c8_i32_2979 : BitVec 32 := 8#32
  let c3_i32_2978 : BitVec 32 := 3#32
  let c0_i32_2977 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2976 : BitVec 32 := 1#32
  let v2554 : BitVec 32 := Scalar.subi v8 c1_i32_2976
  let v2555 : BitVec 32 := Scalar.maxsi c0_i32_2977 v2554
  let v2556 : BitVec 32 := Scalar.minsi c3_i32_2978 v2555
  let v2557 : BitVec 32 := Scalar.addi c8_i32_2979 v2556
  let c256_i32_2980 : BitVec 32 := 256#32
  let v2558 : BitVec 32 := Scalar.muli v2557 c256_i32_2980
  let c2048_i32 : BitVec 32 := 2048#32
  ![v2558.toNat, 2048]
def k0_dev126 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2981 : BitVec 32 := 1#32
  let v2559 : BitVec 32 := Scalar.addi v8 c1_i32_2981
  let c1_i32_5493 : BitVec 32 := 1#32
  let v3948 : BitVec 32 := Scalar.muli v2559 c1_i32_5493
  let v3949 : BitVec 32 := Scalar.addi v3947 v3948
  v3949.toNat
def k0_cond184 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2989 : BitVec 32 := 2#32
  let v2562 : BitVec 1 := Scalar.cmpi .sle v8 c2_i32_2989
  let c0_i32_2990 : BitVec 32 := 0#32
  let v2563 : BitVec 1 := Scalar.cmpi .sgt v8 c0_i32_2990
  let v2564 : BitVec 1 := Scalar.andi v2562 v2563
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2940 : BitVec 32 := 2#32
  let v2523 : BitVec 32 := Scalar.subi v5 c2_i32_2940
  let c2_i32_2941 : BitVec 32 := 2#32
  let v2524 : BitVec 1 := Scalar.cmpi .eq v2523 c2_i32_2941
  let c2_i32_2942 : BitVec 32 := 2#32
  let v2525 : BitVec 32 := Scalar.addi v5 c2_i32_2942
  let c2_i32_2943 : BitVec 32 := 2#32
  let v2526 : BitVec 1 := Scalar.cmpi .eq v2525 c2_i32_2943
  let v2527 : BitVec 1 := Scalar.ori v2524 v2526
  let v2565 : BitVec 1 := Scalar.andi v2564 v2527
  let v2572 : BitVec 32 := Scalar.extui v2565
  let c0_i32_3003 : BitVec 32 := 0#32
  let v2573 : BitVec 1 := Scalar.cmpi .ne v2572 c0_i32_3003
  v2573

def k0_off179 (d0 : Dev nD) : Fin 2 → Nat :=
  let c8_i32_2994 : BitVec 32 := 8#32
  let c3_i32_2993 : BitVec 32 := 3#32
  let c0_i32_2992 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2991 : BitVec 32 := 1#32
  let v2566 : BitVec 32 := Scalar.addi v8 c1_i32_2991
  let v2567 : BitVec 32 := Scalar.maxsi c0_i32_2992 v2566
  let v2568 : BitVec 32 := Scalar.minsi c3_i32_2993 v2567
  let v2569 : BitVec 32 := Scalar.addi c8_i32_2994 v2568
  let c256_i32_2995 : BitVec 32 := 256#32
  let v2570 : BitVec 32 := Scalar.muli v2569 c256_i32_2995
  let c2048_i32 : BitVec 32 := 2048#32
  ![v2570.toNat, 2048]
def k0_dev127 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_2996 : BitVec 32 := 4294967295#32
  let v2571 : BitVec 32 := Scalar.addi v8 c_m1_i32_2996
  let c1_i32_5493 : BitVec 32 := 1#32
  let v3948 : BitVec 32 := Scalar.muli v2571 c1_i32_5493
  let v3949 : BitVec 32 := Scalar.addi v3947 v3948
  v3949.toNat
def k0_cond185 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3008 : BitVec 32 := 1#32
  let v2579 : BitVec 1 := Scalar.cmpi .sge v5 c1_i32_3008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3004 : BitVec 32 := 2#32
  let v2574 : BitVec 32 := Scalar.subi v8 c2_i32_3004
  let c3_i32_3005 : BitVec 32 := 3#32
  let v2575 : BitVec 1 := Scalar.cmpi .eq v2574 c3_i32_3005
  let c2_i32_3006 : BitVec 32 := 2#32
  let v2576 : BitVec 32 := Scalar.addi v8 c2_i32_3006
  let c3_i32_3007 : BitVec 32 := 3#32
  let v2577 : BitVec 1 := Scalar.cmpi .eq v2576 c3_i32_3007
  let v2578 : BitVec 1 := Scalar.ori v2575 v2577
  let v2580 : BitVec 1 := Scalar.andi v2579 v2578
  let v2589 : BitVec 32 := Scalar.extui v2580
  let c0_i32_3023 : BitVec 32 := 0#32
  let v2590 : BitVec 1 := Scalar.cmpi .ne v2589 c0_i32_3023
  v2590

def k0_off180 (d0 : Dev nD) : Fin 2 → Nat :=
  let c4_i32_3013 : BitVec 32 := 4#32
  let c3_i32_3012 : BitVec 32 := 3#32
  let c0_i32_3011 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3009 : BitVec 32 := 1#32
  let v2581 : BitVec 32 := Scalar.subi v5 c1_i32_3009
  let c0_i32_3010 : BitVec 32 := 0#32
  let v2582 : BitVec 32 := Scalar.subi v2581 c0_i32_3010
  let v2583 : BitVec 32 := Scalar.maxsi c0_i32_3011 v2582
  let v2584 : BitVec 32 := Scalar.minsi c3_i32_3012 v2583
  let v2585 : BitVec 32 := Scalar.muli c4_i32_3013 v2584
  let c3_i32_3014 : BitVec 32 := 3#32
  let v2586 : BitVec 32 := Scalar.addi v2585 c3_i32_3014
  let c256_i32_3015 : BitVec 32 := 256#32
  let v2587 : BitVec 32 := Scalar.muli v2586 c256_i32_3015
  let c0_i32_5494 : BitVec 32 := 0#32
  ![v2587.toNat, 0]
def k0_cond186 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3024 : BitVec 32 := 2#32
  let v2591 : BitVec 1 := Scalar.cmpi .sle v5 c2_i32_3024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3004 : BitVec 32 := 2#32
  let v2574 : BitVec 32 := Scalar.subi v8 c2_i32_3004
  let c3_i32_3005 : BitVec 32 := 3#32
  let v2575 : BitVec 1 := Scalar.cmpi .eq v2574 c3_i32_3005
  let c2_i32_3006 : BitVec 32 := 2#32
  let v2576 : BitVec 32 := Scalar.addi v8 c2_i32_3006
  let c3_i32_3007 : BitVec 32 := 3#32
  let v2577 : BitVec 1 := Scalar.cmpi .eq v2576 c3_i32_3007
  let v2578 : BitVec 1 := Scalar.ori v2575 v2577
  let v2592 : BitVec 1 := Scalar.andi v2591 v2578
  let v2601 : BitVec 32 := Scalar.extui v2592
  let c0_i32_3039 : BitVec 32 := 0#32
  let v2602 : BitVec 1 := Scalar.cmpi .ne v2601 c0_i32_3039
  v2602

def k0_off181 (d0 : Dev nD) : Fin 2 → Nat :=
  let c4_i32_3029 : BitVec 32 := 4#32
  let c3_i32_3028 : BitVec 32 := 3#32
  let c0_i32_3027 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3025 : BitVec 32 := 1#32
  let v2593 : BitVec 32 := Scalar.addi v5 c1_i32_3025
  let c0_i32_3026 : BitVec 32 := 0#32
  let v2594 : BitVec 32 := Scalar.addi v2593 c0_i32_3026
  let v2595 : BitVec 32 := Scalar.maxsi c0_i32_3027 v2594
  let v2596 : BitVec 32 := Scalar.minsi c3_i32_3028 v2595
  let v2597 : BitVec 32 := Scalar.muli c4_i32_3029 v2596
  let c3_i32_3030 : BitVec 32 := 3#32
  let v2598 : BitVec 32 := Scalar.addi v2597 c3_i32_3030
  let c256_i32_3031 : BitVec 32 := 256#32
  let v2599 : BitVec 32 := Scalar.muli v2598 c256_i32_3031
  let c0_i32_5494 : BitVec 32 := 0#32
  ![v2599.toNat, 0]
def k0_cond187 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3040 : BitVec 32 := 1#32
  let v2603 : BitVec 1 := Scalar.cmpi .sge v5 c1_i32_3040
  let c3_i32_3041 : BitVec 32 := 3#32
  let v2604 : BitVec 1 := Scalar.cmpi .slt v5 c3_i32_3041
  let v2605 : BitVec 1 := Scalar.andi v2603 v2604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3004 : BitVec 32 := 2#32
  let v2574 : BitVec 32 := Scalar.subi v8 c2_i32_3004
  let c3_i32_3005 : BitVec 32 := 3#32
  let v2575 : BitVec 1 := Scalar.cmpi .eq v2574 c3_i32_3005
  let c2_i32_3006 : BitVec 32 := 2#32
  let v2576 : BitVec 32 := Scalar.addi v8 c2_i32_3006
  let c3_i32_3007 : BitVec 32 := 3#32
  let v2577 : BitVec 1 := Scalar.cmpi .eq v2576 c3_i32_3007
  let v2578 : BitVec 1 := Scalar.ori v2575 v2577
  let v2606 : BitVec 1 := Scalar.andi v2605 v2578
  let v2614 : BitVec 32 := Scalar.extui v2606
  let c0_i32_3055 : BitVec 32 := 0#32
  let v2615 : BitVec 1 := Scalar.cmpi .ne v2614 c0_i32_3055
  v2615

def k0_off182 (d0 : Dev nD) : Fin 2 → Nat :=
  let c4_i32_3045 : BitVec 32 := 4#32
  let c3_i32_3044 : BitVec 32 := 3#32
  let c0_i32_3043 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3042 : BitVec 32 := 1#32
  let v2607 : BitVec 32 := Scalar.subi v5 c1_i32_3042
  let v2608 : BitVec 32 := Scalar.maxsi c0_i32_3043 v2607
  let v2609 : BitVec 32 := Scalar.minsi c3_i32_3044 v2608
  let v2610 : BitVec 32 := Scalar.muli c4_i32_3045 v2609
  let c3_i32_3046 : BitVec 32 := 3#32
  let v2611 : BitVec 32 := Scalar.addi v2610 c3_i32_3046
  let c256_i32_3047 : BitVec 32 := 256#32
  let v2612 : BitVec 32 := Scalar.muli v2611 c256_i32_3047
  let c0_i32_5494 : BitVec 32 := 0#32
  ![v2612.toNat, 0]
def k0_dev128 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3048 : BitVec 32 := 1#32
  let v2613 : BitVec 32 := Scalar.addi v5 c1_i32_3048
  let c4_i32_5492 : BitVec 32 := 4#32
  let v3946 : BitVec 32 := Scalar.muli v2613 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond188 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3056 : BitVec 32 := 2#32
  let v2616 : BitVec 1 := Scalar.cmpi .sle v5 c2_i32_3056
  let c0_i32_3057 : BitVec 32 := 0#32
  let v2617 : BitVec 1 := Scalar.cmpi .sgt v5 c0_i32_3057
  let v2618 : BitVec 1 := Scalar.andi v2616 v2617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3004 : BitVec 32 := 2#32
  let v2574 : BitVec 32 := Scalar.subi v8 c2_i32_3004
  let c3_i32_3005 : BitVec 32 := 3#32
  let v2575 : BitVec 1 := Scalar.cmpi .eq v2574 c3_i32_3005
  let c2_i32_3006 : BitVec 32 := 2#32
  let v2576 : BitVec 32 := Scalar.addi v8 c2_i32_3006
  let c3_i32_3007 : BitVec 32 := 3#32
  let v2577 : BitVec 1 := Scalar.cmpi .eq v2576 c3_i32_3007
  let v2578 : BitVec 1 := Scalar.ori v2575 v2577
  let v2619 : BitVec 1 := Scalar.andi v2618 v2578
  let v2627 : BitVec 32 := Scalar.extui v2619
  let c0_i32_3071 : BitVec 32 := 0#32
  let v2628 : BitVec 1 := Scalar.cmpi .ne v2627 c0_i32_3071
  v2628

def k0_off183 (d0 : Dev nD) : Fin 2 → Nat :=
  let c4_i32_3061 : BitVec 32 := 4#32
  let c3_i32_3060 : BitVec 32 := 3#32
  let c0_i32_3059 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3058 : BitVec 32 := 1#32
  let v2620 : BitVec 32 := Scalar.addi v5 c1_i32_3058
  let v2621 : BitVec 32 := Scalar.maxsi c0_i32_3059 v2620
  let v2622 : BitVec 32 := Scalar.minsi c3_i32_3060 v2621
  let v2623 : BitVec 32 := Scalar.muli c4_i32_3061 v2622
  let c3_i32_3062 : BitVec 32 := 3#32
  let v2624 : BitVec 32 := Scalar.addi v2623 c3_i32_3062
  let c256_i32_3063 : BitVec 32 := 256#32
  let v2625 : BitVec 32 := Scalar.muli v2624 c256_i32_3063
  let c0_i32_5494 : BitVec 32 := 0#32
  ![v2625.toNat, 0]
def k0_dev129 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3064 : BitVec 32 := 4294967295#32
  let v2626 : BitVec 32 := Scalar.addi v5 c_m1_i32_3064
  let c4_i32_5492 : BitVec 32 := 4#32
  let v3946 : BitVec 32 := Scalar.muli v2626 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond189 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3076 : BitVec 32 := 1#32
  let v2634 : BitVec 1 := Scalar.cmpi .sge v8 c1_i32_3076
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3072 : BitVec 32 := 2#32
  let v2629 : BitVec 32 := Scalar.subi v5 c2_i32_3072
  let c3_i32_3073 : BitVec 32 := 3#32
  let v2630 : BitVec 1 := Scalar.cmpi .eq v2629 c3_i32_3073
  let c2_i32_3074 : BitVec 32 := 2#32
  let v2631 : BitVec 32 := Scalar.addi v5 c2_i32_3074
  let c3_i32_3075 : BitVec 32 := 3#32
  let v2632 : BitVec 1 := Scalar.cmpi .eq v2631 c3_i32_3075
  let v2633 : BitVec 1 := Scalar.ori v2630 v2632
  let v2635 : BitVec 1 := Scalar.andi v2634 v2633
  let v2643 : BitVec 32 := Scalar.extui v2635
  let c0_i32_3090 : BitVec 32 := 0#32
  let v2644 : BitVec 1 := Scalar.cmpi .ne v2643 c0_i32_3090
  v2644

def k0_off184 (d0 : Dev nD) : Fin 2 → Nat :=
  let c12_i32_3081 : BitVec 32 := 12#32
  let c3_i32_3080 : BitVec 32 := 3#32
  let c0_i32_3079 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3077 : BitVec 32 := 1#32
  let v2636 : BitVec 32 := Scalar.subi v8 c1_i32_3077
  let c0_i32_3078 : BitVec 32 := 0#32
  let v2637 : BitVec 32 := Scalar.subi v2636 c0_i32_3078
  let v2638 : BitVec 32 := Scalar.maxsi c0_i32_3079 v2637
  let v2639 : BitVec 32 := Scalar.minsi c3_i32_3080 v2638
  let v2640 : BitVec 32 := Scalar.addi c12_i32_3081 v2639
  let c256_i32_3082 : BitVec 32 := 256#32
  let v2641 : BitVec 32 := Scalar.muli v2640 c256_i32_3082
  let c2048_i32 : BitVec 32 := 2048#32
  ![v2641.toNat, 2048]
def k0_cond190 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3091 : BitVec 32 := 2#32
  let v2645 : BitVec 1 := Scalar.cmpi .sle v8 c2_i32_3091
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3072 : BitVec 32 := 2#32
  let v2629 : BitVec 32 := Scalar.subi v5 c2_i32_3072
  let c3_i32_3073 : BitVec 32 := 3#32
  let v2630 : BitVec 1 := Scalar.cmpi .eq v2629 c3_i32_3073
  let c2_i32_3074 : BitVec 32 := 2#32
  let v2631 : BitVec 32 := Scalar.addi v5 c2_i32_3074
  let c3_i32_3075 : BitVec 32 := 3#32
  let v2632 : BitVec 1 := Scalar.cmpi .eq v2631 c3_i32_3075
  let v2633 : BitVec 1 := Scalar.ori v2630 v2632
  let v2646 : BitVec 1 := Scalar.andi v2645 v2633
  let v2654 : BitVec 32 := Scalar.extui v2646
  let c0_i32_3105 : BitVec 32 := 0#32
  let v2655 : BitVec 1 := Scalar.cmpi .ne v2654 c0_i32_3105
  v2655

def k0_off185 (d0 : Dev nD) : Fin 2 → Nat :=
  let c12_i32_3096 : BitVec 32 := 12#32
  let c3_i32_3095 : BitVec 32 := 3#32
  let c0_i32_3094 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3092 : BitVec 32 := 1#32
  let v2647 : BitVec 32 := Scalar.addi v8 c1_i32_3092
  let c0_i32_3093 : BitVec 32 := 0#32
  let v2648 : BitVec 32 := Scalar.addi v2647 c0_i32_3093
  let v2649 : BitVec 32 := Scalar.maxsi c0_i32_3094 v2648
  let v2650 : BitVec 32 := Scalar.minsi c3_i32_3095 v2649
  let v2651 : BitVec 32 := Scalar.addi c12_i32_3096 v2650
  let c256_i32_3097 : BitVec 32 := 256#32
  let v2652 : BitVec 32 := Scalar.muli v2651 c256_i32_3097
  let c2048_i32 : BitVec 32 := 2048#32
  ![v2652.toNat, 2048]
def k0_cond191 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3106 : BitVec 32 := 1#32
  let v2656 : BitVec 1 := Scalar.cmpi .sge v8 c1_i32_3106
  let c3_i32_3107 : BitVec 32 := 3#32
  let v2657 : BitVec 1 := Scalar.cmpi .slt v8 c3_i32_3107
  let v2658 : BitVec 1 := Scalar.andi v2656 v2657
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3072 : BitVec 32 := 2#32
  let v2629 : BitVec 32 := Scalar.subi v5 c2_i32_3072
  let c3_i32_3073 : BitVec 32 := 3#32
  let v2630 : BitVec 1 := Scalar.cmpi .eq v2629 c3_i32_3073
  let c2_i32_3074 : BitVec 32 := 2#32
  let v2631 : BitVec 32 := Scalar.addi v5 c2_i32_3074
  let c3_i32_3075 : BitVec 32 := 3#32
  let v2632 : BitVec 1 := Scalar.cmpi .eq v2631 c3_i32_3075
  let v2633 : BitVec 1 := Scalar.ori v2630 v2632
  let v2659 : BitVec 1 := Scalar.andi v2658 v2633
  let v2666 : BitVec 32 := Scalar.extui v2659
  let c0_i32_3120 : BitVec 32 := 0#32
  let v2667 : BitVec 1 := Scalar.cmpi .ne v2666 c0_i32_3120
  v2667

def k0_off186 (d0 : Dev nD) : Fin 2 → Nat :=
  let c12_i32_3111 : BitVec 32 := 12#32
  let c3_i32_3110 : BitVec 32 := 3#32
  let c0_i32_3109 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3108 : BitVec 32 := 1#32
  let v2660 : BitVec 32 := Scalar.subi v8 c1_i32_3108
  let v2661 : BitVec 32 := Scalar.maxsi c0_i32_3109 v2660
  let v2662 : BitVec 32 := Scalar.minsi c3_i32_3110 v2661
  let v2663 : BitVec 32 := Scalar.addi c12_i32_3111 v2662
  let c256_i32_3112 : BitVec 32 := 256#32
  let v2664 : BitVec 32 := Scalar.muli v2663 c256_i32_3112
  let c2048_i32 : BitVec 32 := 2048#32
  ![v2664.toNat, 2048]
def k0_dev130 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3113 : BitVec 32 := 1#32
  let v2665 : BitVec 32 := Scalar.addi v8 c1_i32_3113
  let c1_i32_5493 : BitVec 32 := 1#32
  let v3948 : BitVec 32 := Scalar.muli v2665 c1_i32_5493
  let v3949 : BitVec 32 := Scalar.addi v3947 v3948
  v3949.toNat
def k0_cond192 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3121 : BitVec 32 := 2#32
  let v2668 : BitVec 1 := Scalar.cmpi .sle v8 c2_i32_3121
  let c0_i32_3122 : BitVec 32 := 0#32
  let v2669 : BitVec 1 := Scalar.cmpi .sgt v8 c0_i32_3122
  let v2670 : BitVec 1 := Scalar.andi v2668 v2669
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3072 : BitVec 32 := 2#32
  let v2629 : BitVec 32 := Scalar.subi v5 c2_i32_3072
  let c3_i32_3073 : BitVec 32 := 3#32
  let v2630 : BitVec 1 := Scalar.cmpi .eq v2629 c3_i32_3073
  let c2_i32_3074 : BitVec 32 := 2#32
  let v2631 : BitVec 32 := Scalar.addi v5 c2_i32_3074
  let c3_i32_3075 : BitVec 32 := 3#32
  let v2632 : BitVec 1 := Scalar.cmpi .eq v2631 c3_i32_3075
  let v2633 : BitVec 1 := Scalar.ori v2630 v2632
  let v2671 : BitVec 1 := Scalar.andi v2670 v2633
  let v2678 : BitVec 32 := Scalar.extui v2671
  let c0_i32_3135 : BitVec 32 := 0#32
  let v2679 : BitVec 1 := Scalar.cmpi .ne v2678 c0_i32_3135
  v2679

def k0_off187 (d0 : Dev nD) : Fin 2 → Nat :=
  let c12_i32_3126 : BitVec 32 := 12#32
  let c3_i32_3125 : BitVec 32 := 3#32
  let c0_i32_3124 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3123 : BitVec 32 := 1#32
  let v2672 : BitVec 32 := Scalar.addi v8 c1_i32_3123
  let v2673 : BitVec 32 := Scalar.maxsi c0_i32_3124 v2672
  let v2674 : BitVec 32 := Scalar.minsi c3_i32_3125 v2673
  let v2675 : BitVec 32 := Scalar.addi c12_i32_3126 v2674
  let c256_i32_3127 : BitVec 32 := 256#32
  let v2676 : BitVec 32 := Scalar.muli v2675 c256_i32_3127
  let c2048_i32 : BitVec 32 := 2048#32
  ![v2676.toNat, 2048]
def k0_dev131 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_3128 : BitVec 32 := 4294967295#32
  let v2677 : BitVec 32 := Scalar.addi v8 c_m1_i32_3128
  let c1_i32_5493 : BitVec 32 := 1#32
  let v3948 : BitVec 32 := Scalar.muli v2677 c1_i32_5493
  let v3949 : BitVec 32 := Scalar.addi v3947 v3948
  v3949.toNat
def k0_cond193 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3140 : BitVec 32 := 1#32
  let v2685 : BitVec 1 := Scalar.cmpi .sge v5 c1_i32_3140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3136 : BitVec 32 := 3#32
  let v2680 : BitVec 32 := Scalar.subi v8 c3_i32_3136
  let c0_i32_3137 : BitVec 32 := 0#32
  let v2681 : BitVec 1 := Scalar.cmpi .eq v2680 c0_i32_3137
  let c3_i32_3138 : BitVec 32 := 3#32
  let v2682 : BitVec 32 := Scalar.addi v8 c3_i32_3138
  let c0_i32_3139 : BitVec 32 := 0#32
  let v2683 : BitVec 1 := Scalar.cmpi .eq v2682 c0_i32_3139
  let v2684 : BitVec 1 := Scalar.ori v2681 v2683
  let v2686 : BitVec 1 := Scalar.andi v2685 v2684
  let v2695 : BitVec 32 := Scalar.extui v2686
  let c0_i32_3155 : BitVec 32 := 0#32
  let v2696 : BitVec 1 := Scalar.cmpi .ne v2695 c0_i32_3155
  v2696

def k0_off188 (d0 : Dev nD) : Fin 2 → Nat :=
  let c4_i32_3145 : BitVec 32 := 4#32
  let c3_i32_3144 : BitVec 32 := 3#32
  let c0_i32_3143 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3141 : BitVec 32 := 1#32
  let v2687 : BitVec 32 := Scalar.subi v5 c1_i32_3141
  let c0_i32_3142 : BitVec 32 := 0#32
  let v2688 : BitVec 32 := Scalar.subi v2687 c0_i32_3142
  let v2689 : BitVec 32 := Scalar.maxsi c0_i32_3143 v2688
  let v2690 : BitVec 32 := Scalar.minsi c3_i32_3144 v2689
  let v2691 : BitVec 32 := Scalar.muli c4_i32_3145 v2690
  let c0_i32_3146 : BitVec 32 := 0#32
  let v2692 : BitVec 32 := Scalar.addi v2691 c0_i32_3146
  let c256_i32_3147 : BitVec 32 := 256#32
  let v2693 : BitVec 32 := Scalar.muli v2692 c256_i32_3147
  let c0_i32_5494 : BitVec 32 := 0#32
  ![v2693.toNat, 0]
def k0_cond194 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3156 : BitVec 32 := 2#32
  let v2697 : BitVec 1 := Scalar.cmpi .sle v5 c2_i32_3156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3136 : BitVec 32 := 3#32
  let v2680 : BitVec 32 := Scalar.subi v8 c3_i32_3136
  let c0_i32_3137 : BitVec 32 := 0#32
  let v2681 : BitVec 1 := Scalar.cmpi .eq v2680 c0_i32_3137
  let c3_i32_3138 : BitVec 32 := 3#32
  let v2682 : BitVec 32 := Scalar.addi v8 c3_i32_3138
  let c0_i32_3139 : BitVec 32 := 0#32
  let v2683 : BitVec 1 := Scalar.cmpi .eq v2682 c0_i32_3139
  let v2684 : BitVec 1 := Scalar.ori v2681 v2683
  let v2698 : BitVec 1 := Scalar.andi v2697 v2684
  let v2707 : BitVec 32 := Scalar.extui v2698
  let c0_i32_3171 : BitVec 32 := 0#32
  let v2708 : BitVec 1 := Scalar.cmpi .ne v2707 c0_i32_3171
  v2708

def k0_off189 (d0 : Dev nD) : Fin 2 → Nat :=
  let c4_i32_3161 : BitVec 32 := 4#32
  let c3_i32_3160 : BitVec 32 := 3#32
  let c0_i32_3159 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3157 : BitVec 32 := 1#32
  let v2699 : BitVec 32 := Scalar.addi v5 c1_i32_3157
  let c0_i32_3158 : BitVec 32 := 0#32
  let v2700 : BitVec 32 := Scalar.addi v2699 c0_i32_3158
  let v2701 : BitVec 32 := Scalar.maxsi c0_i32_3159 v2700
  let v2702 : BitVec 32 := Scalar.minsi c3_i32_3160 v2701
  let v2703 : BitVec 32 := Scalar.muli c4_i32_3161 v2702
  let c0_i32_3162 : BitVec 32 := 0#32
  let v2704 : BitVec 32 := Scalar.addi v2703 c0_i32_3162
  let c256_i32_3163 : BitVec 32 := 256#32
  let v2705 : BitVec 32 := Scalar.muli v2704 c256_i32_3163
  let c0_i32_5494 : BitVec 32 := 0#32
  ![v2705.toNat, 0]
def k0_cond195 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3172 : BitVec 32 := 1#32
  let v2709 : BitVec 1 := Scalar.cmpi .sge v5 c1_i32_3172
  let c3_i32_3173 : BitVec 32 := 3#32
  let v2710 : BitVec 1 := Scalar.cmpi .slt v5 c3_i32_3173
  let v2711 : BitVec 1 := Scalar.andi v2709 v2710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3136 : BitVec 32 := 3#32
  let v2680 : BitVec 32 := Scalar.subi v8 c3_i32_3136
  let c0_i32_3137 : BitVec 32 := 0#32
  let v2681 : BitVec 1 := Scalar.cmpi .eq v2680 c0_i32_3137
  let c3_i32_3138 : BitVec 32 := 3#32
  let v2682 : BitVec 32 := Scalar.addi v8 c3_i32_3138
  let c0_i32_3139 : BitVec 32 := 0#32
  let v2683 : BitVec 1 := Scalar.cmpi .eq v2682 c0_i32_3139
  let v2684 : BitVec 1 := Scalar.ori v2681 v2683
  let v2712 : BitVec 1 := Scalar.andi v2711 v2684
  let v2720 : BitVec 32 := Scalar.extui v2712
  let c0_i32_3187 : BitVec 32 := 0#32
  let v2721 : BitVec 1 := Scalar.cmpi .ne v2720 c0_i32_3187
  v2721

def k0_off190 (d0 : Dev nD) : Fin 2 → Nat :=
  let c4_i32_3177 : BitVec 32 := 4#32
  let c3_i32_3176 : BitVec 32 := 3#32
  let c0_i32_3175 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3174 : BitVec 32 := 1#32
  let v2713 : BitVec 32 := Scalar.subi v5 c1_i32_3174
  let v2714 : BitVec 32 := Scalar.maxsi c0_i32_3175 v2713
  let v2715 : BitVec 32 := Scalar.minsi c3_i32_3176 v2714
  let v2716 : BitVec 32 := Scalar.muli c4_i32_3177 v2715
  let c0_i32_3178 : BitVec 32 := 0#32
  let v2717 : BitVec 32 := Scalar.addi v2716 c0_i32_3178
  let c256_i32_3179 : BitVec 32 := 256#32
  let v2718 : BitVec 32 := Scalar.muli v2717 c256_i32_3179
  let c0_i32_5494 : BitVec 32 := 0#32
  ![v2718.toNat, 0]
def k0_dev132 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3180 : BitVec 32 := 1#32
  let v2719 : BitVec 32 := Scalar.addi v5 c1_i32_3180
  let c4_i32_5492 : BitVec 32 := 4#32
  let v3946 : BitVec 32 := Scalar.muli v2719 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond196 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3188 : BitVec 32 := 2#32
  let v2722 : BitVec 1 := Scalar.cmpi .sle v5 c2_i32_3188
  let c0_i32_3189 : BitVec 32 := 0#32
  let v2723 : BitVec 1 := Scalar.cmpi .sgt v5 c0_i32_3189
  let v2724 : BitVec 1 := Scalar.andi v2722 v2723
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3136 : BitVec 32 := 3#32
  let v2680 : BitVec 32 := Scalar.subi v8 c3_i32_3136
  let c0_i32_3137 : BitVec 32 := 0#32
  let v2681 : BitVec 1 := Scalar.cmpi .eq v2680 c0_i32_3137
  let c3_i32_3138 : BitVec 32 := 3#32
  let v2682 : BitVec 32 := Scalar.addi v8 c3_i32_3138
  let c0_i32_3139 : BitVec 32 := 0#32
  let v2683 : BitVec 1 := Scalar.cmpi .eq v2682 c0_i32_3139
  let v2684 : BitVec 1 := Scalar.ori v2681 v2683
  let v2725 : BitVec 1 := Scalar.andi v2724 v2684
  let v2733 : BitVec 32 := Scalar.extui v2725
  let c0_i32_3203 : BitVec 32 := 0#32
  let v2734 : BitVec 1 := Scalar.cmpi .ne v2733 c0_i32_3203
  v2734

def k0_off191 (d0 : Dev nD) : Fin 2 → Nat :=
  let c4_i32_3193 : BitVec 32 := 4#32
  let c3_i32_3192 : BitVec 32 := 3#32
  let c0_i32_3191 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3190 : BitVec 32 := 1#32
  let v2726 : BitVec 32 := Scalar.addi v5 c1_i32_3190
  let v2727 : BitVec 32 := Scalar.maxsi c0_i32_3191 v2726
  let v2728 : BitVec 32 := Scalar.minsi c3_i32_3192 v2727
  let v2729 : BitVec 32 := Scalar.muli c4_i32_3193 v2728
  let c0_i32_3194 : BitVec 32 := 0#32
  let v2730 : BitVec 32 := Scalar.addi v2729 c0_i32_3194
  let c256_i32_3195 : BitVec 32 := 256#32
  let v2731 : BitVec 32 := Scalar.muli v2730 c256_i32_3195
  let c0_i32_5494 : BitVec 32 := 0#32
  ![v2731.toNat, 0]
def k0_dev133 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3196 : BitVec 32 := 4294967295#32
  let v2732 : BitVec 32 := Scalar.addi v5 c_m1_i32_3196
  let c4_i32_5492 : BitVec 32 := 4#32
  let v3946 : BitVec 32 := Scalar.muli v2732 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond197 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3208 : BitVec 32 := 1#32
  let v2740 : BitVec 1 := Scalar.cmpi .sge v8 c1_i32_3208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3204 : BitVec 32 := 3#32
  let v2735 : BitVec 32 := Scalar.subi v5 c3_i32_3204
  let c0_i32_3205 : BitVec 32 := 0#32
  let v2736 : BitVec 1 := Scalar.cmpi .eq v2735 c0_i32_3205
  let c3_i32_3206 : BitVec 32 := 3#32
  let v2737 : BitVec 32 := Scalar.addi v5 c3_i32_3206
  let c0_i32_3207 : BitVec 32 := 0#32
  let v2738 : BitVec 1 := Scalar.cmpi .eq v2737 c0_i32_3207
  let v2739 : BitVec 1 := Scalar.ori v2736 v2738
  let v2741 : BitVec 1 := Scalar.andi v2740 v2739
  let v2749 : BitVec 32 := Scalar.extui v2741
  let c0_i32_3222 : BitVec 32 := 0#32
  let v2750 : BitVec 1 := Scalar.cmpi .ne v2749 c0_i32_3222
  v2750

def k0_off192 (d0 : Dev nD) : Fin 2 → Nat :=
  let c0_i32_3213 : BitVec 32 := 0#32
  let c3_i32_3212 : BitVec 32 := 3#32
  let c0_i32_3211 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3209 : BitVec 32 := 1#32
  let v2742 : BitVec 32 := Scalar.subi v8 c1_i32_3209
  let c0_i32_3210 : BitVec 32 := 0#32
  let v2743 : BitVec 32 := Scalar.subi v2742 c0_i32_3210
  let v2744 : BitVec 32 := Scalar.maxsi c0_i32_3211 v2743
  let v2745 : BitVec 32 := Scalar.minsi c3_i32_3212 v2744
  let v2746 : BitVec 32 := Scalar.addi c0_i32_3213 v2745
  let c256_i32_3214 : BitVec 32 := 256#32
  let v2747 : BitVec 32 := Scalar.muli v2746 c256_i32_3214
  let c2048_i32 : BitVec 32 := 2048#32
  ![v2747.toNat, 2048]
def k0_cond198 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3223 : BitVec 32 := 2#32
  let v2751 : BitVec 1 := Scalar.cmpi .sle v8 c2_i32_3223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3204 : BitVec 32 := 3#32
  let v2735 : BitVec 32 := Scalar.subi v5 c3_i32_3204
  let c0_i32_3205 : BitVec 32 := 0#32
  let v2736 : BitVec 1 := Scalar.cmpi .eq v2735 c0_i32_3205
  let c3_i32_3206 : BitVec 32 := 3#32
  let v2737 : BitVec 32 := Scalar.addi v5 c3_i32_3206
  let c0_i32_3207 : BitVec 32 := 0#32
  let v2738 : BitVec 1 := Scalar.cmpi .eq v2737 c0_i32_3207
  let v2739 : BitVec 1 := Scalar.ori v2736 v2738
  let v2752 : BitVec 1 := Scalar.andi v2751 v2739
  let v2760 : BitVec 32 := Scalar.extui v2752
  let c0_i32_3237 : BitVec 32 := 0#32
  let v2761 : BitVec 1 := Scalar.cmpi .ne v2760 c0_i32_3237
  v2761

def k0_off193 (d0 : Dev nD) : Fin 2 → Nat :=
  let c0_i32_3228 : BitVec 32 := 0#32
  let c3_i32_3227 : BitVec 32 := 3#32
  let c0_i32_3226 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3224 : BitVec 32 := 1#32
  let v2753 : BitVec 32 := Scalar.addi v8 c1_i32_3224
  let c0_i32_3225 : BitVec 32 := 0#32
  let v2754 : BitVec 32 := Scalar.addi v2753 c0_i32_3225
  let v2755 : BitVec 32 := Scalar.maxsi c0_i32_3226 v2754
  let v2756 : BitVec 32 := Scalar.minsi c3_i32_3227 v2755
  let v2757 : BitVec 32 := Scalar.addi c0_i32_3228 v2756
  let c256_i32_3229 : BitVec 32 := 256#32
  let v2758 : BitVec 32 := Scalar.muli v2757 c256_i32_3229
  let c2048_i32 : BitVec 32 := 2048#32
  ![v2758.toNat, 2048]
def k0_cond199 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3238 : BitVec 32 := 1#32
  let v2762 : BitVec 1 := Scalar.cmpi .sge v8 c1_i32_3238
  let c3_i32_3239 : BitVec 32 := 3#32
  let v2763 : BitVec 1 := Scalar.cmpi .slt v8 c3_i32_3239
  let v2764 : BitVec 1 := Scalar.andi v2762 v2763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3204 : BitVec 32 := 3#32
  let v2735 : BitVec 32 := Scalar.subi v5 c3_i32_3204
  let c0_i32_3205 : BitVec 32 := 0#32
  let v2736 : BitVec 1 := Scalar.cmpi .eq v2735 c0_i32_3205
  let c3_i32_3206 : BitVec 32 := 3#32
  let v2737 : BitVec 32 := Scalar.addi v5 c3_i32_3206
  let c0_i32_3207 : BitVec 32 := 0#32
  let v2738 : BitVec 1 := Scalar.cmpi .eq v2737 c0_i32_3207
  let v2739 : BitVec 1 := Scalar.ori v2736 v2738
  let v2765 : BitVec 1 := Scalar.andi v2764 v2739
  let v2772 : BitVec 32 := Scalar.extui v2765
  let c0_i32_3252 : BitVec 32 := 0#32
  let v2773 : BitVec 1 := Scalar.cmpi .ne v2772 c0_i32_3252
  v2773

def k0_off194 (d0 : Dev nD) : Fin 2 → Nat :=
  let c0_i32_3243 : BitVec 32 := 0#32
  let c3_i32_3242 : BitVec 32 := 3#32
  let c0_i32_3241 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3240 : BitVec 32 := 1#32
  let v2766 : BitVec 32 := Scalar.subi v8 c1_i32_3240
  let v2767 : BitVec 32 := Scalar.maxsi c0_i32_3241 v2766
  let v2768 : BitVec 32 := Scalar.minsi c3_i32_3242 v2767
  let v2769 : BitVec 32 := Scalar.addi c0_i32_3243 v2768
  let c256_i32_3244 : BitVec 32 := 256#32
  let v2770 : BitVec 32 := Scalar.muli v2769 c256_i32_3244
  let c2048_i32 : BitVec 32 := 2048#32
  ![v2770.toNat, 2048]
def k0_dev134 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3245 : BitVec 32 := 1#32
  let v2771 : BitVec 32 := Scalar.addi v8 c1_i32_3245
  let c1_i32_5493 : BitVec 32 := 1#32
  let v3948 : BitVec 32 := Scalar.muli v2771 c1_i32_5493
  let v3949 : BitVec 32 := Scalar.addi v3947 v3948
  v3949.toNat
def k0_cond200 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3253 : BitVec 32 := 2#32
  let v2774 : BitVec 1 := Scalar.cmpi .sle v8 c2_i32_3253
  let c0_i32_3254 : BitVec 32 := 0#32
  let v2775 : BitVec 1 := Scalar.cmpi .sgt v8 c0_i32_3254
  let v2776 : BitVec 1 := Scalar.andi v2774 v2775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3204 : BitVec 32 := 3#32
  let v2735 : BitVec 32 := Scalar.subi v5 c3_i32_3204
  let c0_i32_3205 : BitVec 32 := 0#32
  let v2736 : BitVec 1 := Scalar.cmpi .eq v2735 c0_i32_3205
  let c3_i32_3206 : BitVec 32 := 3#32
  let v2737 : BitVec 32 := Scalar.addi v5 c3_i32_3206
  let c0_i32_3207 : BitVec 32 := 0#32
  let v2738 : BitVec 1 := Scalar.cmpi .eq v2737 c0_i32_3207
  let v2739 : BitVec 1 := Scalar.ori v2736 v2738
  let v2777 : BitVec 1 := Scalar.andi v2776 v2739
  let v2784 : BitVec 32 := Scalar.extui v2777
  let c0_i32_3267 : BitVec 32 := 0#32
  let v2785 : BitVec 1 := Scalar.cmpi .ne v2784 c0_i32_3267
  v2785

def k0_off195 (d0 : Dev nD) : Fin 2 → Nat :=
  let c0_i32_3258 : BitVec 32 := 0#32
  let c3_i32_3257 : BitVec 32 := 3#32
  let c0_i32_3256 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3255 : BitVec 32 := 1#32
  let v2778 : BitVec 32 := Scalar.addi v8 c1_i32_3255
  let v2779 : BitVec 32 := Scalar.maxsi c0_i32_3256 v2778
  let v2780 : BitVec 32 := Scalar.minsi c3_i32_3257 v2779
  let v2781 : BitVec 32 := Scalar.addi c0_i32_3258 v2780
  let c256_i32_3259 : BitVec 32 := 256#32
  let v2782 : BitVec 32 := Scalar.muli v2781 c256_i32_3259
  let c2048_i32 : BitVec 32 := 2048#32
  ![v2782.toNat, 2048]
def k0_dev135 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_3260 : BitVec 32 := 4294967295#32
  let v2783 : BitVec 32 := Scalar.addi v8 c_m1_i32_3260
  let c1_i32_5493 : BitVec 32 := 1#32
  let v3948 : BitVec 32 := Scalar.muli v2783 c1_i32_5493
  let v3949 : BitVec 32 := Scalar.addi v3947 v3948
  v3949.toNat
def k0_cond201 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3272 : BitVec 32 := 1#32
  let v2791 : BitVec 1 := Scalar.cmpi .sge v5 c1_i32_3272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3268 : BitVec 32 := 3#32
  let v2786 : BitVec 32 := Scalar.subi v8 c3_i32_3268
  let c1_i32_3269 : BitVec 32 := 1#32
  let v2787 : BitVec 1 := Scalar.cmpi .eq v2786 c1_i32_3269
  let c3_i32_3270 : BitVec 32 := 3#32
  let v2788 : BitVec 32 := Scalar.addi v8 c3_i32_3270
  let c1_i32_3271 : BitVec 32 := 1#32
  let v2789 : BitVec 1 := Scalar.cmpi .eq v2788 c1_i32_3271
  let v2790 : BitVec 1 := Scalar.ori v2787 v2789
  let v2792 : BitVec 1 := Scalar.andi v2791 v2790
  let v2801 : BitVec 32 := Scalar.extui v2792
  let c0_i32_3287 : BitVec 32 := 0#32
  let v2802 : BitVec 1 := Scalar.cmpi .ne v2801 c0_i32_3287
  v2802

def k0_off196 (d0 : Dev nD) : Fin 2 → Nat :=
  let c4_i32_3277 : BitVec 32 := 4#32
  let c3_i32_3276 : BitVec 32 := 3#32
  let c0_i32_3275 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3273 : BitVec 32 := 1#32
  let v2793 : BitVec 32 := Scalar.subi v5 c1_i32_3273
  let c0_i32_3274 : BitVec 32 := 0#32
  let v2794 : BitVec 32 := Scalar.subi v2793 c0_i32_3274
  let v2795 : BitVec 32 := Scalar.maxsi c0_i32_3275 v2794
  let v2796 : BitVec 32 := Scalar.minsi c3_i32_3276 v2795
  let v2797 : BitVec 32 := Scalar.muli c4_i32_3277 v2796
  let c1_i32_3278 : BitVec 32 := 1#32
  let v2798 : BitVec 32 := Scalar.addi v2797 c1_i32_3278
  let c256_i32_3279 : BitVec 32 := 256#32
  let v2799 : BitVec 32 := Scalar.muli v2798 c256_i32_3279
  let c0_i32_5494 : BitVec 32 := 0#32
  ![v2799.toNat, 0]
def k0_cond202 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3288 : BitVec 32 := 2#32
  let v2803 : BitVec 1 := Scalar.cmpi .sle v5 c2_i32_3288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3268 : BitVec 32 := 3#32
  let v2786 : BitVec 32 := Scalar.subi v8 c3_i32_3268
  let c1_i32_3269 : BitVec 32 := 1#32
  let v2787 : BitVec 1 := Scalar.cmpi .eq v2786 c1_i32_3269
  let c3_i32_3270 : BitVec 32 := 3#32
  let v2788 : BitVec 32 := Scalar.addi v8 c3_i32_3270
  let c1_i32_3271 : BitVec 32 := 1#32
  let v2789 : BitVec 1 := Scalar.cmpi .eq v2788 c1_i32_3271
  let v2790 : BitVec 1 := Scalar.ori v2787 v2789
  let v2804 : BitVec 1 := Scalar.andi v2803 v2790
  let v2813 : BitVec 32 := Scalar.extui v2804
  let c0_i32_3303 : BitVec 32 := 0#32
  let v2814 : BitVec 1 := Scalar.cmpi .ne v2813 c0_i32_3303
  v2814

def k0_off197 (d0 : Dev nD) : Fin 2 → Nat :=
  let c4_i32_3293 : BitVec 32 := 4#32
  let c3_i32_3292 : BitVec 32 := 3#32
  let c0_i32_3291 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3289 : BitVec 32 := 1#32
  let v2805 : BitVec 32 := Scalar.addi v5 c1_i32_3289
  let c0_i32_3290 : BitVec 32 := 0#32
  let v2806 : BitVec 32 := Scalar.addi v2805 c0_i32_3290
  let v2807 : BitVec 32 := Scalar.maxsi c0_i32_3291 v2806
  let v2808 : BitVec 32 := Scalar.minsi c3_i32_3292 v2807
  let v2809 : BitVec 32 := Scalar.muli c4_i32_3293 v2808
  let c1_i32_3294 : BitVec 32 := 1#32
  let v2810 : BitVec 32 := Scalar.addi v2809 c1_i32_3294
  let c256_i32_3295 : BitVec 32 := 256#32
  let v2811 : BitVec 32 := Scalar.muli v2810 c256_i32_3295
  let c0_i32_5494 : BitVec 32 := 0#32
  ![v2811.toNat, 0]
def k0_cond203 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3304 : BitVec 32 := 1#32
  let v2815 : BitVec 1 := Scalar.cmpi .sge v5 c1_i32_3304
  let c3_i32_3305 : BitVec 32 := 3#32
  let v2816 : BitVec 1 := Scalar.cmpi .slt v5 c3_i32_3305
  let v2817 : BitVec 1 := Scalar.andi v2815 v2816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3268 : BitVec 32 := 3#32
  let v2786 : BitVec 32 := Scalar.subi v8 c3_i32_3268
  let c1_i32_3269 : BitVec 32 := 1#32
  let v2787 : BitVec 1 := Scalar.cmpi .eq v2786 c1_i32_3269
  let c3_i32_3270 : BitVec 32 := 3#32
  let v2788 : BitVec 32 := Scalar.addi v8 c3_i32_3270
  let c1_i32_3271 : BitVec 32 := 1#32
  let v2789 : BitVec 1 := Scalar.cmpi .eq v2788 c1_i32_3271
  let v2790 : BitVec 1 := Scalar.ori v2787 v2789
  let v2818 : BitVec 1 := Scalar.andi v2817 v2790
  let v2826 : BitVec 32 := Scalar.extui v2818
  let c0_i32_3319 : BitVec 32 := 0#32
  let v2827 : BitVec 1 := Scalar.cmpi .ne v2826 c0_i32_3319
  v2827

def k0_off198 (d0 : Dev nD) : Fin 2 → Nat :=
  let c4_i32_3309 : BitVec 32 := 4#32
  let c3_i32_3308 : BitVec 32 := 3#32
  let c0_i32_3307 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3306 : BitVec 32 := 1#32
  let v2819 : BitVec 32 := Scalar.subi v5 c1_i32_3306
  let v2820 : BitVec 32 := Scalar.maxsi c0_i32_3307 v2819
  let v2821 : BitVec 32 := Scalar.minsi c3_i32_3308 v2820
  let v2822 : BitVec 32 := Scalar.muli c4_i32_3309 v2821
  let c1_i32_3310 : BitVec 32 := 1#32
  let v2823 : BitVec 32 := Scalar.addi v2822 c1_i32_3310
  let c256_i32_3311 : BitVec 32 := 256#32
  let v2824 : BitVec 32 := Scalar.muli v2823 c256_i32_3311
  let c0_i32_5494 : BitVec 32 := 0#32
  ![v2824.toNat, 0]
def k0_dev136 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3312 : BitVec 32 := 1#32
  let v2825 : BitVec 32 := Scalar.addi v5 c1_i32_3312
  let c4_i32_5492 : BitVec 32 := 4#32
  let v3946 : BitVec 32 := Scalar.muli v2825 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond204 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3320 : BitVec 32 := 2#32
  let v2828 : BitVec 1 := Scalar.cmpi .sle v5 c2_i32_3320
  let c0_i32_3321 : BitVec 32 := 0#32
  let v2829 : BitVec 1 := Scalar.cmpi .sgt v5 c0_i32_3321
  let v2830 : BitVec 1 := Scalar.andi v2828 v2829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3268 : BitVec 32 := 3#32
  let v2786 : BitVec 32 := Scalar.subi v8 c3_i32_3268
  let c1_i32_3269 : BitVec 32 := 1#32
  let v2787 : BitVec 1 := Scalar.cmpi .eq v2786 c1_i32_3269
  let c3_i32_3270 : BitVec 32 := 3#32
  let v2788 : BitVec 32 := Scalar.addi v8 c3_i32_3270
  let c1_i32_3271 : BitVec 32 := 1#32
  let v2789 : BitVec 1 := Scalar.cmpi .eq v2788 c1_i32_3271
  let v2790 : BitVec 1 := Scalar.ori v2787 v2789
  let v2831 : BitVec 1 := Scalar.andi v2830 v2790
  let v2839 : BitVec 32 := Scalar.extui v2831
  let c0_i32_3335 : BitVec 32 := 0#32
  let v2840 : BitVec 1 := Scalar.cmpi .ne v2839 c0_i32_3335
  v2840

def k0_off199 (d0 : Dev nD) : Fin 2 → Nat :=
  let c4_i32_3325 : BitVec 32 := 4#32
  let c3_i32_3324 : BitVec 32 := 3#32
  let c0_i32_3323 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3322 : BitVec 32 := 1#32
  let v2832 : BitVec 32 := Scalar.addi v5 c1_i32_3322
  let v2833 : BitVec 32 := Scalar.maxsi c0_i32_3323 v2832
  let v2834 : BitVec 32 := Scalar.minsi c3_i32_3324 v2833
  let v2835 : BitVec 32 := Scalar.muli c4_i32_3325 v2834
  let c1_i32_3326 : BitVec 32 := 1#32
  let v2836 : BitVec 32 := Scalar.addi v2835 c1_i32_3326
  let c256_i32_3327 : BitVec 32 := 256#32
  let v2837 : BitVec 32 := Scalar.muli v2836 c256_i32_3327
  let c0_i32_5494 : BitVec 32 := 0#32
  ![v2837.toNat, 0]
def k0_dev137 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3328 : BitVec 32 := 4294967295#32
  let v2838 : BitVec 32 := Scalar.addi v5 c_m1_i32_3328
  let c4_i32_5492 : BitVec 32 := 4#32
  let v3946 : BitVec 32 := Scalar.muli v2838 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond205 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3340 : BitVec 32 := 1#32
  let v2846 : BitVec 1 := Scalar.cmpi .sge v8 c1_i32_3340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3336 : BitVec 32 := 3#32
  let v2841 : BitVec 32 := Scalar.subi v5 c3_i32_3336
  let c1_i32_3337 : BitVec 32 := 1#32
  let v2842 : BitVec 1 := Scalar.cmpi .eq v2841 c1_i32_3337
  let c3_i32_3338 : BitVec 32 := 3#32
  let v2843 : BitVec 32 := Scalar.addi v5 c3_i32_3338
  let c1_i32_3339 : BitVec 32 := 1#32
  let v2844 : BitVec 1 := Scalar.cmpi .eq v2843 c1_i32_3339
  let v2845 : BitVec 1 := Scalar.ori v2842 v2844
  let v2847 : BitVec 1 := Scalar.andi v2846 v2845
  let v2855 : BitVec 32 := Scalar.extui v2847
  let c0_i32_3354 : BitVec 32 := 0#32
  let v2856 : BitVec 1 := Scalar.cmpi .ne v2855 c0_i32_3354
  v2856

def k0_off200 (d0 : Dev nD) : Fin 2 → Nat :=
  let c4_i32_3345 : BitVec 32 := 4#32
  let c3_i32_3344 : BitVec 32 := 3#32
  let c0_i32_3343 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3341 : BitVec 32 := 1#32
  let v2848 : BitVec 32 := Scalar.subi v8 c1_i32_3341
  let c0_i32_3342 : BitVec 32 := 0#32
  let v2849 : BitVec 32 := Scalar.subi v2848 c0_i32_3342
  let v2850 : BitVec 32 := Scalar.maxsi c0_i32_3343 v2849
  let v2851 : BitVec 32 := Scalar.minsi c3_i32_3344 v2850
  let v2852 : BitVec 32 := Scalar.addi c4_i32_3345 v2851
  let c256_i32_3346 : BitVec 32 := 256#32
  let v2853 : BitVec 32 := Scalar.muli v2852 c256_i32_3346
  let c2048_i32 : BitVec 32 := 2048#32
  ![v2853.toNat, 2048]
def k0_cond206 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3355 : BitVec 32 := 2#32
  let v2857 : BitVec 1 := Scalar.cmpi .sle v8 c2_i32_3355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3336 : BitVec 32 := 3#32
  let v2841 : BitVec 32 := Scalar.subi v5 c3_i32_3336
  let c1_i32_3337 : BitVec 32 := 1#32
  let v2842 : BitVec 1 := Scalar.cmpi .eq v2841 c1_i32_3337
  let c3_i32_3338 : BitVec 32 := 3#32
  let v2843 : BitVec 32 := Scalar.addi v5 c3_i32_3338
  let c1_i32_3339 : BitVec 32 := 1#32
  let v2844 : BitVec 1 := Scalar.cmpi .eq v2843 c1_i32_3339
  let v2845 : BitVec 1 := Scalar.ori v2842 v2844
  let v2858 : BitVec 1 := Scalar.andi v2857 v2845
  let v2866 : BitVec 32 := Scalar.extui v2858
  let c0_i32_3369 : BitVec 32 := 0#32
  let v2867 : BitVec 1 := Scalar.cmpi .ne v2866 c0_i32_3369
  v2867

def k0_off201 (d0 : Dev nD) : Fin 2 → Nat :=
  let c4_i32_3360 : BitVec 32 := 4#32
  let c3_i32_3359 : BitVec 32 := 3#32
  let c0_i32_3358 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3356 : BitVec 32 := 1#32
  let v2859 : BitVec 32 := Scalar.addi v8 c1_i32_3356
  let c0_i32_3357 : BitVec 32 := 0#32
  let v2860 : BitVec 32 := Scalar.addi v2859 c0_i32_3357
  let v2861 : BitVec 32 := Scalar.maxsi c0_i32_3358 v2860
  let v2862 : BitVec 32 := Scalar.minsi c3_i32_3359 v2861
  let v2863 : BitVec 32 := Scalar.addi c4_i32_3360 v2862
  let c256_i32_3361 : BitVec 32 := 256#32
  let v2864 : BitVec 32 := Scalar.muli v2863 c256_i32_3361
  let c2048_i32 : BitVec 32 := 2048#32
  ![v2864.toNat, 2048]
def k0_cond207 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3370 : BitVec 32 := 1#32
  let v2868 : BitVec 1 := Scalar.cmpi .sge v8 c1_i32_3370
  let c3_i32_3371 : BitVec 32 := 3#32
  let v2869 : BitVec 1 := Scalar.cmpi .slt v8 c3_i32_3371
  let v2870 : BitVec 1 := Scalar.andi v2868 v2869
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3336 : BitVec 32 := 3#32
  let v2841 : BitVec 32 := Scalar.subi v5 c3_i32_3336
  let c1_i32_3337 : BitVec 32 := 1#32
  let v2842 : BitVec 1 := Scalar.cmpi .eq v2841 c1_i32_3337
  let c3_i32_3338 : BitVec 32 := 3#32
  let v2843 : BitVec 32 := Scalar.addi v5 c3_i32_3338
  let c1_i32_3339 : BitVec 32 := 1#32
  let v2844 : BitVec 1 := Scalar.cmpi .eq v2843 c1_i32_3339
  let v2845 : BitVec 1 := Scalar.ori v2842 v2844
  let v2871 : BitVec 1 := Scalar.andi v2870 v2845
  let v2878 : BitVec 32 := Scalar.extui v2871
  let c0_i32_3384 : BitVec 32 := 0#32
  let v2879 : BitVec 1 := Scalar.cmpi .ne v2878 c0_i32_3384
  v2879

def k0_off202 (d0 : Dev nD) : Fin 2 → Nat :=
  let c4_i32_3375 : BitVec 32 := 4#32
  let c3_i32_3374 : BitVec 32 := 3#32
  let c0_i32_3373 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3372 : BitVec 32 := 1#32
  let v2872 : BitVec 32 := Scalar.subi v8 c1_i32_3372
  let v2873 : BitVec 32 := Scalar.maxsi c0_i32_3373 v2872
  let v2874 : BitVec 32 := Scalar.minsi c3_i32_3374 v2873
  let v2875 : BitVec 32 := Scalar.addi c4_i32_3375 v2874
  let c256_i32_3376 : BitVec 32 := 256#32
  let v2876 : BitVec 32 := Scalar.muli v2875 c256_i32_3376
  let c2048_i32 : BitVec 32 := 2048#32
  ![v2876.toNat, 2048]
def k0_dev138 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3377 : BitVec 32 := 1#32
  let v2877 : BitVec 32 := Scalar.addi v8 c1_i32_3377
  let c1_i32_5493 : BitVec 32 := 1#32
  let v3948 : BitVec 32 := Scalar.muli v2877 c1_i32_5493
  let v3949 : BitVec 32 := Scalar.addi v3947 v3948
  v3949.toNat
def k0_cond208 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3385 : BitVec 32 := 2#32
  let v2880 : BitVec 1 := Scalar.cmpi .sle v8 c2_i32_3385
  let c0_i32_3386 : BitVec 32 := 0#32
  let v2881 : BitVec 1 := Scalar.cmpi .sgt v8 c0_i32_3386
  let v2882 : BitVec 1 := Scalar.andi v2880 v2881
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3336 : BitVec 32 := 3#32
  let v2841 : BitVec 32 := Scalar.subi v5 c3_i32_3336
  let c1_i32_3337 : BitVec 32 := 1#32
  let v2842 : BitVec 1 := Scalar.cmpi .eq v2841 c1_i32_3337
  let c3_i32_3338 : BitVec 32 := 3#32
  let v2843 : BitVec 32 := Scalar.addi v5 c3_i32_3338
  let c1_i32_3339 : BitVec 32 := 1#32
  let v2844 : BitVec 1 := Scalar.cmpi .eq v2843 c1_i32_3339
  let v2845 : BitVec 1 := Scalar.ori v2842 v2844
  let v2883 : BitVec 1 := Scalar.andi v2882 v2845
  let v2890 : BitVec 32 := Scalar.extui v2883
  let c0_i32_3399 : BitVec 32 := 0#32
  let v2891 : BitVec 1 := Scalar.cmpi .ne v2890 c0_i32_3399
  v2891

def k0_off203 (d0 : Dev nD) : Fin 2 → Nat :=
  let c4_i32_3390 : BitVec 32 := 4#32
  let c3_i32_3389 : BitVec 32 := 3#32
  let c0_i32_3388 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3387 : BitVec 32 := 1#32
  let v2884 : BitVec 32 := Scalar.addi v8 c1_i32_3387
  let v2885 : BitVec 32 := Scalar.maxsi c0_i32_3388 v2884
  let v2886 : BitVec 32 := Scalar.minsi c3_i32_3389 v2885
  let v2887 : BitVec 32 := Scalar.addi c4_i32_3390 v2886
  let c256_i32_3391 : BitVec 32 := 256#32
  let v2888 : BitVec 32 := Scalar.muli v2887 c256_i32_3391
  let c2048_i32 : BitVec 32 := 2048#32
  ![v2888.toNat, 2048]
def k0_dev139 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_3392 : BitVec 32 := 4294967295#32
  let v2889 : BitVec 32 := Scalar.addi v8 c_m1_i32_3392
  let c1_i32_5493 : BitVec 32 := 1#32
  let v3948 : BitVec 32 := Scalar.muli v2889 c1_i32_5493
  let v3949 : BitVec 32 := Scalar.addi v3947 v3948
  v3949.toNat
def k0_cond209 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3404 : BitVec 32 := 1#32
  let v2897 : BitVec 1 := Scalar.cmpi .sge v5 c1_i32_3404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3400 : BitVec 32 := 3#32
  let v2892 : BitVec 32 := Scalar.subi v8 c3_i32_3400
  let c2_i32_3401 : BitVec 32 := 2#32
  let v2893 : BitVec 1 := Scalar.cmpi .eq v2892 c2_i32_3401
  let c3_i32_3402 : BitVec 32 := 3#32
  let v2894 : BitVec 32 := Scalar.addi v8 c3_i32_3402
  let c2_i32_3403 : BitVec 32 := 2#32
  let v2895 : BitVec 1 := Scalar.cmpi .eq v2894 c2_i32_3403
  let v2896 : BitVec 1 := Scalar.ori v2893 v2895
  let v2898 : BitVec 1 := Scalar.andi v2897 v2896
  let v2907 : BitVec 32 := Scalar.extui v2898
  let c0_i32_3419 : BitVec 32 := 0#32
  let v2908 : BitVec 1 := Scalar.cmpi .ne v2907 c0_i32_3419
  v2908

def k0_off204 (d0 : Dev nD) : Fin 2 → Nat :=
  let c4_i32_3409 : BitVec 32 := 4#32
  let c3_i32_3408 : BitVec 32 := 3#32
  let c0_i32_3407 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3405 : BitVec 32 := 1#32
  let v2899 : BitVec 32 := Scalar.subi v5 c1_i32_3405
  let c0_i32_3406 : BitVec 32 := 0#32
  let v2900 : BitVec 32 := Scalar.subi v2899 c0_i32_3406
  let v2901 : BitVec 32 := Scalar.maxsi c0_i32_3407 v2900
  let v2902 : BitVec 32 := Scalar.minsi c3_i32_3408 v2901
  let v2903 : BitVec 32 := Scalar.muli c4_i32_3409 v2902
  let c2_i32_3410 : BitVec 32 := 2#32
  let v2904 : BitVec 32 := Scalar.addi v2903 c2_i32_3410
  let c256_i32_3411 : BitVec 32 := 256#32
  let v2905 : BitVec 32 := Scalar.muli v2904 c256_i32_3411
  let c0_i32_5494 : BitVec 32 := 0#32
  ![v2905.toNat, 0]
def k0_cond210 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3420 : BitVec 32 := 2#32
  let v2909 : BitVec 1 := Scalar.cmpi .sle v5 c2_i32_3420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3400 : BitVec 32 := 3#32
  let v2892 : BitVec 32 := Scalar.subi v8 c3_i32_3400
  let c2_i32_3401 : BitVec 32 := 2#32
  let v2893 : BitVec 1 := Scalar.cmpi .eq v2892 c2_i32_3401
  let c3_i32_3402 : BitVec 32 := 3#32
  let v2894 : BitVec 32 := Scalar.addi v8 c3_i32_3402
  let c2_i32_3403 : BitVec 32 := 2#32
  let v2895 : BitVec 1 := Scalar.cmpi .eq v2894 c2_i32_3403
  let v2896 : BitVec 1 := Scalar.ori v2893 v2895
  let v2910 : BitVec 1 := Scalar.andi v2909 v2896
  let v2919 : BitVec 32 := Scalar.extui v2910
  let c0_i32_3435 : BitVec 32 := 0#32
  let v2920 : BitVec 1 := Scalar.cmpi .ne v2919 c0_i32_3435
  v2920

def k0_off205 (d0 : Dev nD) : Fin 2 → Nat :=
  let c4_i32_3425 : BitVec 32 := 4#32
  let c3_i32_3424 : BitVec 32 := 3#32
  let c0_i32_3423 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3421 : BitVec 32 := 1#32
  let v2911 : BitVec 32 := Scalar.addi v5 c1_i32_3421
  let c0_i32_3422 : BitVec 32 := 0#32
  let v2912 : BitVec 32 := Scalar.addi v2911 c0_i32_3422
  let v2913 : BitVec 32 := Scalar.maxsi c0_i32_3423 v2912
  let v2914 : BitVec 32 := Scalar.minsi c3_i32_3424 v2913
  let v2915 : BitVec 32 := Scalar.muli c4_i32_3425 v2914
  let c2_i32_3426 : BitVec 32 := 2#32
  let v2916 : BitVec 32 := Scalar.addi v2915 c2_i32_3426
  let c256_i32_3427 : BitVec 32 := 256#32
  let v2917 : BitVec 32 := Scalar.muli v2916 c256_i32_3427
  let c0_i32_5494 : BitVec 32 := 0#32
  ![v2917.toNat, 0]
def k0_cond211 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3436 : BitVec 32 := 1#32
  let v2921 : BitVec 1 := Scalar.cmpi .sge v5 c1_i32_3436
  let c3_i32_3437 : BitVec 32 := 3#32
  let v2922 : BitVec 1 := Scalar.cmpi .slt v5 c3_i32_3437
  let v2923 : BitVec 1 := Scalar.andi v2921 v2922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3400 : BitVec 32 := 3#32
  let v2892 : BitVec 32 := Scalar.subi v8 c3_i32_3400
  let c2_i32_3401 : BitVec 32 := 2#32
  let v2893 : BitVec 1 := Scalar.cmpi .eq v2892 c2_i32_3401
  let c3_i32_3402 : BitVec 32 := 3#32
  let v2894 : BitVec 32 := Scalar.addi v8 c3_i32_3402
  let c2_i32_3403 : BitVec 32 := 2#32
  let v2895 : BitVec 1 := Scalar.cmpi .eq v2894 c2_i32_3403
  let v2896 : BitVec 1 := Scalar.ori v2893 v2895
  let v2924 : BitVec 1 := Scalar.andi v2923 v2896
  let v2932 : BitVec 32 := Scalar.extui v2924
  let c0_i32_3451 : BitVec 32 := 0#32
  let v2933 : BitVec 1 := Scalar.cmpi .ne v2932 c0_i32_3451
  v2933

def k0_off206 (d0 : Dev nD) : Fin 2 → Nat :=
  let c4_i32_3441 : BitVec 32 := 4#32
  let c3_i32_3440 : BitVec 32 := 3#32
  let c0_i32_3439 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3438 : BitVec 32 := 1#32
  let v2925 : BitVec 32 := Scalar.subi v5 c1_i32_3438
  let v2926 : BitVec 32 := Scalar.maxsi c0_i32_3439 v2925
  let v2927 : BitVec 32 := Scalar.minsi c3_i32_3440 v2926
  let v2928 : BitVec 32 := Scalar.muli c4_i32_3441 v2927
  let c2_i32_3442 : BitVec 32 := 2#32
  let v2929 : BitVec 32 := Scalar.addi v2928 c2_i32_3442
  let c256_i32_3443 : BitVec 32 := 256#32
  let v2930 : BitVec 32 := Scalar.muli v2929 c256_i32_3443
  let c0_i32_5494 : BitVec 32 := 0#32
  ![v2930.toNat, 0]
def k0_dev140 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3444 : BitVec 32 := 1#32
  let v2931 : BitVec 32 := Scalar.addi v5 c1_i32_3444
  let c4_i32_5492 : BitVec 32 := 4#32
  let v3946 : BitVec 32 := Scalar.muli v2931 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond212 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3452 : BitVec 32 := 2#32
  let v2934 : BitVec 1 := Scalar.cmpi .sle v5 c2_i32_3452
  let c0_i32_3453 : BitVec 32 := 0#32
  let v2935 : BitVec 1 := Scalar.cmpi .sgt v5 c0_i32_3453
  let v2936 : BitVec 1 := Scalar.andi v2934 v2935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3400 : BitVec 32 := 3#32
  let v2892 : BitVec 32 := Scalar.subi v8 c3_i32_3400
  let c2_i32_3401 : BitVec 32 := 2#32
  let v2893 : BitVec 1 := Scalar.cmpi .eq v2892 c2_i32_3401
  let c3_i32_3402 : BitVec 32 := 3#32
  let v2894 : BitVec 32 := Scalar.addi v8 c3_i32_3402
  let c2_i32_3403 : BitVec 32 := 2#32
  let v2895 : BitVec 1 := Scalar.cmpi .eq v2894 c2_i32_3403
  let v2896 : BitVec 1 := Scalar.ori v2893 v2895
  let v2937 : BitVec 1 := Scalar.andi v2936 v2896
  let v2945 : BitVec 32 := Scalar.extui v2937
  let c0_i32_3467 : BitVec 32 := 0#32
  let v2946 : BitVec 1 := Scalar.cmpi .ne v2945 c0_i32_3467
  v2946

def k0_off207 (d0 : Dev nD) : Fin 2 → Nat :=
  let c4_i32_3457 : BitVec 32 := 4#32
  let c3_i32_3456 : BitVec 32 := 3#32
  let c0_i32_3455 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3454 : BitVec 32 := 1#32
  let v2938 : BitVec 32 := Scalar.addi v5 c1_i32_3454
  let v2939 : BitVec 32 := Scalar.maxsi c0_i32_3455 v2938
  let v2940 : BitVec 32 := Scalar.minsi c3_i32_3456 v2939
  let v2941 : BitVec 32 := Scalar.muli c4_i32_3457 v2940
  let c2_i32_3458 : BitVec 32 := 2#32
  let v2942 : BitVec 32 := Scalar.addi v2941 c2_i32_3458
  let c256_i32_3459 : BitVec 32 := 256#32
  let v2943 : BitVec 32 := Scalar.muli v2942 c256_i32_3459
  let c0_i32_5494 : BitVec 32 := 0#32
  ![v2943.toNat, 0]
def k0_dev141 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3460 : BitVec 32 := 4294967295#32
  let v2944 : BitVec 32 := Scalar.addi v5 c_m1_i32_3460
  let c4_i32_5492 : BitVec 32 := 4#32
  let v3946 : BitVec 32 := Scalar.muli v2944 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond213 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3472 : BitVec 32 := 1#32
  let v2952 : BitVec 1 := Scalar.cmpi .sge v8 c1_i32_3472
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3468 : BitVec 32 := 3#32
  let v2947 : BitVec 32 := Scalar.subi v5 c3_i32_3468
  let c2_i32_3469 : BitVec 32 := 2#32
  let v2948 : BitVec 1 := Scalar.cmpi .eq v2947 c2_i32_3469
  let c3_i32_3470 : BitVec 32 := 3#32
  let v2949 : BitVec 32 := Scalar.addi v5 c3_i32_3470
  let c2_i32_3471 : BitVec 32 := 2#32
  let v2950 : BitVec 1 := Scalar.cmpi .eq v2949 c2_i32_3471
  let v2951 : BitVec 1 := Scalar.ori v2948 v2950
  let v2953 : BitVec 1 := Scalar.andi v2952 v2951
  let v2961 : BitVec 32 := Scalar.extui v2953
  let c0_i32_3486 : BitVec 32 := 0#32
  let v2962 : BitVec 1 := Scalar.cmpi .ne v2961 c0_i32_3486
  v2962

def k0_off208 (d0 : Dev nD) : Fin 2 → Nat :=
  let c8_i32_3477 : BitVec 32 := 8#32
  let c3_i32_3476 : BitVec 32 := 3#32
  let c0_i32_3475 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3473 : BitVec 32 := 1#32
  let v2954 : BitVec 32 := Scalar.subi v8 c1_i32_3473
  let c0_i32_3474 : BitVec 32 := 0#32
  let v2955 : BitVec 32 := Scalar.subi v2954 c0_i32_3474
  let v2956 : BitVec 32 := Scalar.maxsi c0_i32_3475 v2955
  let v2957 : BitVec 32 := Scalar.minsi c3_i32_3476 v2956
  let v2958 : BitVec 32 := Scalar.addi c8_i32_3477 v2957
  let c256_i32_3478 : BitVec 32 := 256#32
  let v2959 : BitVec 32 := Scalar.muli v2958 c256_i32_3478
  let c2048_i32 : BitVec 32 := 2048#32
  ![v2959.toNat, 2048]
def k0_cond214 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3487 : BitVec 32 := 2#32
  let v2963 : BitVec 1 := Scalar.cmpi .sle v8 c2_i32_3487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3468 : BitVec 32 := 3#32
  let v2947 : BitVec 32 := Scalar.subi v5 c3_i32_3468
  let c2_i32_3469 : BitVec 32 := 2#32
  let v2948 : BitVec 1 := Scalar.cmpi .eq v2947 c2_i32_3469
  let c3_i32_3470 : BitVec 32 := 3#32
  let v2949 : BitVec 32 := Scalar.addi v5 c3_i32_3470
  let c2_i32_3471 : BitVec 32 := 2#32
  let v2950 : BitVec 1 := Scalar.cmpi .eq v2949 c2_i32_3471
  let v2951 : BitVec 1 := Scalar.ori v2948 v2950
  let v2964 : BitVec 1 := Scalar.andi v2963 v2951
  let v2972 : BitVec 32 := Scalar.extui v2964
  let c0_i32_3501 : BitVec 32 := 0#32
  let v2973 : BitVec 1 := Scalar.cmpi .ne v2972 c0_i32_3501
  v2973

def k0_off209 (d0 : Dev nD) : Fin 2 → Nat :=
  let c8_i32_3492 : BitVec 32 := 8#32
  let c3_i32_3491 : BitVec 32 := 3#32
  let c0_i32_3490 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3488 : BitVec 32 := 1#32
  let v2965 : BitVec 32 := Scalar.addi v8 c1_i32_3488
  let c0_i32_3489 : BitVec 32 := 0#32
  let v2966 : BitVec 32 := Scalar.addi v2965 c0_i32_3489
  let v2967 : BitVec 32 := Scalar.maxsi c0_i32_3490 v2966
  let v2968 : BitVec 32 := Scalar.minsi c3_i32_3491 v2967
  let v2969 : BitVec 32 := Scalar.addi c8_i32_3492 v2968
  let c256_i32_3493 : BitVec 32 := 256#32
  let v2970 : BitVec 32 := Scalar.muli v2969 c256_i32_3493
  let c2048_i32 : BitVec 32 := 2048#32
  ![v2970.toNat, 2048]
def k0_cond215 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3502 : BitVec 32 := 1#32
  let v2974 : BitVec 1 := Scalar.cmpi .sge v8 c1_i32_3502
  let c3_i32_3503 : BitVec 32 := 3#32
  let v2975 : BitVec 1 := Scalar.cmpi .slt v8 c3_i32_3503
  let v2976 : BitVec 1 := Scalar.andi v2974 v2975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3468 : BitVec 32 := 3#32
  let v2947 : BitVec 32 := Scalar.subi v5 c3_i32_3468
  let c2_i32_3469 : BitVec 32 := 2#32
  let v2948 : BitVec 1 := Scalar.cmpi .eq v2947 c2_i32_3469
  let c3_i32_3470 : BitVec 32 := 3#32
  let v2949 : BitVec 32 := Scalar.addi v5 c3_i32_3470
  let c2_i32_3471 : BitVec 32 := 2#32
  let v2950 : BitVec 1 := Scalar.cmpi .eq v2949 c2_i32_3471
  let v2951 : BitVec 1 := Scalar.ori v2948 v2950
  let v2977 : BitVec 1 := Scalar.andi v2976 v2951
  let v2984 : BitVec 32 := Scalar.extui v2977
  let c0_i32_3516 : BitVec 32 := 0#32
  let v2985 : BitVec 1 := Scalar.cmpi .ne v2984 c0_i32_3516
  v2985

def k0_off210 (d0 : Dev nD) : Fin 2 → Nat :=
  let c8_i32_3507 : BitVec 32 := 8#32
  let c3_i32_3506 : BitVec 32 := 3#32
  let c0_i32_3505 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3504 : BitVec 32 := 1#32
  let v2978 : BitVec 32 := Scalar.subi v8 c1_i32_3504
  let v2979 : BitVec 32 := Scalar.maxsi c0_i32_3505 v2978
  let v2980 : BitVec 32 := Scalar.minsi c3_i32_3506 v2979
  let v2981 : BitVec 32 := Scalar.addi c8_i32_3507 v2980
  let c256_i32_3508 : BitVec 32 := 256#32
  let v2982 : BitVec 32 := Scalar.muli v2981 c256_i32_3508
  let c2048_i32 : BitVec 32 := 2048#32
  ![v2982.toNat, 2048]
def k0_dev142 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3509 : BitVec 32 := 1#32
  let v2983 : BitVec 32 := Scalar.addi v8 c1_i32_3509
  let c1_i32_5493 : BitVec 32 := 1#32
  let v3948 : BitVec 32 := Scalar.muli v2983 c1_i32_5493
  let v3949 : BitVec 32 := Scalar.addi v3947 v3948
  v3949.toNat
def k0_cond216 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3517 : BitVec 32 := 2#32
  let v2986 : BitVec 1 := Scalar.cmpi .sle v8 c2_i32_3517
  let c0_i32_3518 : BitVec 32 := 0#32
  let v2987 : BitVec 1 := Scalar.cmpi .sgt v8 c0_i32_3518
  let v2988 : BitVec 1 := Scalar.andi v2986 v2987
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3468 : BitVec 32 := 3#32
  let v2947 : BitVec 32 := Scalar.subi v5 c3_i32_3468
  let c2_i32_3469 : BitVec 32 := 2#32
  let v2948 : BitVec 1 := Scalar.cmpi .eq v2947 c2_i32_3469
  let c3_i32_3470 : BitVec 32 := 3#32
  let v2949 : BitVec 32 := Scalar.addi v5 c3_i32_3470
  let c2_i32_3471 : BitVec 32 := 2#32
  let v2950 : BitVec 1 := Scalar.cmpi .eq v2949 c2_i32_3471
  let v2951 : BitVec 1 := Scalar.ori v2948 v2950
  let v2989 : BitVec 1 := Scalar.andi v2988 v2951
  let v2996 : BitVec 32 := Scalar.extui v2989
  let c0_i32_3531 : BitVec 32 := 0#32
  let v2997 : BitVec 1 := Scalar.cmpi .ne v2996 c0_i32_3531
  v2997

def k0_off211 (d0 : Dev nD) : Fin 2 → Nat :=
  let c8_i32_3522 : BitVec 32 := 8#32
  let c3_i32_3521 : BitVec 32 := 3#32
  let c0_i32_3520 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3519 : BitVec 32 := 1#32
  let v2990 : BitVec 32 := Scalar.addi v8 c1_i32_3519
  let v2991 : BitVec 32 := Scalar.maxsi c0_i32_3520 v2990
  let v2992 : BitVec 32 := Scalar.minsi c3_i32_3521 v2991
  let v2993 : BitVec 32 := Scalar.addi c8_i32_3522 v2992
  let c256_i32_3523 : BitVec 32 := 256#32
  let v2994 : BitVec 32 := Scalar.muli v2993 c256_i32_3523
  let c2048_i32 : BitVec 32 := 2048#32
  ![v2994.toNat, 2048]
def k0_dev143 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_3524 : BitVec 32 := 4294967295#32
  let v2995 : BitVec 32 := Scalar.addi v8 c_m1_i32_3524
  let c1_i32_5493 : BitVec 32 := 1#32
  let v3948 : BitVec 32 := Scalar.muli v2995 c1_i32_5493
  let v3949 : BitVec 32 := Scalar.addi v3947 v3948
  v3949.toNat
def k0_cond217 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3536 : BitVec 32 := 1#32
  let v3003 : BitVec 1 := Scalar.cmpi .sge v5 c1_i32_3536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3532 : BitVec 32 := 3#32
  let v2998 : BitVec 32 := Scalar.subi v8 c3_i32_3532
  let c3_i32_3533 : BitVec 32 := 3#32
  let v2999 : BitVec 1 := Scalar.cmpi .eq v2998 c3_i32_3533
  let c3_i32_3534 : BitVec 32 := 3#32
  let v3000 : BitVec 32 := Scalar.addi v8 c3_i32_3534
  let c3_i32_3535 : BitVec 32 := 3#32
  let v3001 : BitVec 1 := Scalar.cmpi .eq v3000 c3_i32_3535
  let v3002 : BitVec 1 := Scalar.ori v2999 v3001
  let v3004 : BitVec 1 := Scalar.andi v3003 v3002
  let v3013 : BitVec 32 := Scalar.extui v3004
  let c0_i32_3551 : BitVec 32 := 0#32
  let v3014 : BitVec 1 := Scalar.cmpi .ne v3013 c0_i32_3551
  v3014

def k0_off212 (d0 : Dev nD) : Fin 2 → Nat :=
  let c4_i32_3541 : BitVec 32 := 4#32
  let c3_i32_3540 : BitVec 32 := 3#32
  let c0_i32_3539 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3537 : BitVec 32 := 1#32
  let v3005 : BitVec 32 := Scalar.subi v5 c1_i32_3537
  let c0_i32_3538 : BitVec 32 := 0#32
  let v3006 : BitVec 32 := Scalar.subi v3005 c0_i32_3538
  let v3007 : BitVec 32 := Scalar.maxsi c0_i32_3539 v3006
  let v3008 : BitVec 32 := Scalar.minsi c3_i32_3540 v3007
  let v3009 : BitVec 32 := Scalar.muli c4_i32_3541 v3008
  let c3_i32_3542 : BitVec 32 := 3#32
  let v3010 : BitVec 32 := Scalar.addi v3009 c3_i32_3542
  let c256_i32_3543 : BitVec 32 := 256#32
  let v3011 : BitVec 32 := Scalar.muli v3010 c256_i32_3543
  let c0_i32_5494 : BitVec 32 := 0#32
  ![v3011.toNat, 0]
def k0_cond218 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3552 : BitVec 32 := 2#32
  let v3015 : BitVec 1 := Scalar.cmpi .sle v5 c2_i32_3552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3532 : BitVec 32 := 3#32
  let v2998 : BitVec 32 := Scalar.subi v8 c3_i32_3532
  let c3_i32_3533 : BitVec 32 := 3#32
  let v2999 : BitVec 1 := Scalar.cmpi .eq v2998 c3_i32_3533
  let c3_i32_3534 : BitVec 32 := 3#32
  let v3000 : BitVec 32 := Scalar.addi v8 c3_i32_3534
  let c3_i32_3535 : BitVec 32 := 3#32
  let v3001 : BitVec 1 := Scalar.cmpi .eq v3000 c3_i32_3535
  let v3002 : BitVec 1 := Scalar.ori v2999 v3001
  let v3016 : BitVec 1 := Scalar.andi v3015 v3002
  let v3025 : BitVec 32 := Scalar.extui v3016
  let c0_i32_3567 : BitVec 32 := 0#32
  let v3026 : BitVec 1 := Scalar.cmpi .ne v3025 c0_i32_3567
  v3026

def k0_off213 (d0 : Dev nD) : Fin 2 → Nat :=
  let c4_i32_3557 : BitVec 32 := 4#32
  let c3_i32_3556 : BitVec 32 := 3#32
  let c0_i32_3555 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3553 : BitVec 32 := 1#32
  let v3017 : BitVec 32 := Scalar.addi v5 c1_i32_3553
  let c0_i32_3554 : BitVec 32 := 0#32
  let v3018 : BitVec 32 := Scalar.addi v3017 c0_i32_3554
  let v3019 : BitVec 32 := Scalar.maxsi c0_i32_3555 v3018
  let v3020 : BitVec 32 := Scalar.minsi c3_i32_3556 v3019
  let v3021 : BitVec 32 := Scalar.muli c4_i32_3557 v3020
  let c3_i32_3558 : BitVec 32 := 3#32
  let v3022 : BitVec 32 := Scalar.addi v3021 c3_i32_3558
  let c256_i32_3559 : BitVec 32 := 256#32
  let v3023 : BitVec 32 := Scalar.muli v3022 c256_i32_3559
  let c0_i32_5494 : BitVec 32 := 0#32
  ![v3023.toNat, 0]
def k0_cond219 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3568 : BitVec 32 := 1#32
  let v3027 : BitVec 1 := Scalar.cmpi .sge v5 c1_i32_3568
  let c3_i32_3569 : BitVec 32 := 3#32
  let v3028 : BitVec 1 := Scalar.cmpi .slt v5 c3_i32_3569
  let v3029 : BitVec 1 := Scalar.andi v3027 v3028
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3532 : BitVec 32 := 3#32
  let v2998 : BitVec 32 := Scalar.subi v8 c3_i32_3532
  let c3_i32_3533 : BitVec 32 := 3#32
  let v2999 : BitVec 1 := Scalar.cmpi .eq v2998 c3_i32_3533
  let c3_i32_3534 : BitVec 32 := 3#32
  let v3000 : BitVec 32 := Scalar.addi v8 c3_i32_3534
  let c3_i32_3535 : BitVec 32 := 3#32
  let v3001 : BitVec 1 := Scalar.cmpi .eq v3000 c3_i32_3535
  let v3002 : BitVec 1 := Scalar.ori v2999 v3001
  let v3030 : BitVec 1 := Scalar.andi v3029 v3002
  let v3038 : BitVec 32 := Scalar.extui v3030
  let c0_i32_3583 : BitVec 32 := 0#32
  let v3039 : BitVec 1 := Scalar.cmpi .ne v3038 c0_i32_3583
  v3039

def k0_off214 (d0 : Dev nD) : Fin 2 → Nat :=
  let c4_i32_3573 : BitVec 32 := 4#32
  let c3_i32_3572 : BitVec 32 := 3#32
  let c0_i32_3571 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3570 : BitVec 32 := 1#32
  let v3031 : BitVec 32 := Scalar.subi v5 c1_i32_3570
  let v3032 : BitVec 32 := Scalar.maxsi c0_i32_3571 v3031
  let v3033 : BitVec 32 := Scalar.minsi c3_i32_3572 v3032
  let v3034 : BitVec 32 := Scalar.muli c4_i32_3573 v3033
  let c3_i32_3574 : BitVec 32 := 3#32
  let v3035 : BitVec 32 := Scalar.addi v3034 c3_i32_3574
  let c256_i32_3575 : BitVec 32 := 256#32
  let v3036 : BitVec 32 := Scalar.muli v3035 c256_i32_3575
  let c0_i32_5494 : BitVec 32 := 0#32
  ![v3036.toNat, 0]
def k0_dev144 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3576 : BitVec 32 := 1#32
  let v3037 : BitVec 32 := Scalar.addi v5 c1_i32_3576
  let c4_i32_5492 : BitVec 32 := 4#32
  let v3946 : BitVec 32 := Scalar.muli v3037 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond220 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3584 : BitVec 32 := 2#32
  let v3040 : BitVec 1 := Scalar.cmpi .sle v5 c2_i32_3584
  let c0_i32_3585 : BitVec 32 := 0#32
  let v3041 : BitVec 1 := Scalar.cmpi .sgt v5 c0_i32_3585
  let v3042 : BitVec 1 := Scalar.andi v3040 v3041
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3532 : BitVec 32 := 3#32
  let v2998 : BitVec 32 := Scalar.subi v8 c3_i32_3532
  let c3_i32_3533 : BitVec 32 := 3#32
  let v2999 : BitVec 1 := Scalar.cmpi .eq v2998 c3_i32_3533
  let c3_i32_3534 : BitVec 32 := 3#32
  let v3000 : BitVec 32 := Scalar.addi v8 c3_i32_3534
  let c3_i32_3535 : BitVec 32 := 3#32
  let v3001 : BitVec 1 := Scalar.cmpi .eq v3000 c3_i32_3535
  let v3002 : BitVec 1 := Scalar.ori v2999 v3001
  let v3043 : BitVec 1 := Scalar.andi v3042 v3002
  let v3051 : BitVec 32 := Scalar.extui v3043
  let c0_i32_3599 : BitVec 32 := 0#32
  let v3052 : BitVec 1 := Scalar.cmpi .ne v3051 c0_i32_3599
  v3052

def k0_off215 (d0 : Dev nD) : Fin 2 → Nat :=
  let c4_i32_3589 : BitVec 32 := 4#32
  let c3_i32_3588 : BitVec 32 := 3#32
  let c0_i32_3587 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3586 : BitVec 32 := 1#32
  let v3044 : BitVec 32 := Scalar.addi v5 c1_i32_3586
  let v3045 : BitVec 32 := Scalar.maxsi c0_i32_3587 v3044
  let v3046 : BitVec 32 := Scalar.minsi c3_i32_3588 v3045
  let v3047 : BitVec 32 := Scalar.muli c4_i32_3589 v3046
  let c3_i32_3590 : BitVec 32 := 3#32
  let v3048 : BitVec 32 := Scalar.addi v3047 c3_i32_3590
  let c256_i32_3591 : BitVec 32 := 256#32
  let v3049 : BitVec 32 := Scalar.muli v3048 c256_i32_3591
  let c0_i32_5494 : BitVec 32 := 0#32
  ![v3049.toNat, 0]
def k0_dev145 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3592 : BitVec 32 := 4294967295#32
  let v3050 : BitVec 32 := Scalar.addi v5 c_m1_i32_3592
  let c4_i32_5492 : BitVec 32 := 4#32
  let v3946 : BitVec 32 := Scalar.muli v3050 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond221 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3604 : BitVec 32 := 1#32
  let v3058 : BitVec 1 := Scalar.cmpi .sge v8 c1_i32_3604
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3600 : BitVec 32 := 3#32
  let v3053 : BitVec 32 := Scalar.subi v5 c3_i32_3600
  let c3_i32_3601 : BitVec 32 := 3#32
  let v3054 : BitVec 1 := Scalar.cmpi .eq v3053 c3_i32_3601
  let c3_i32_3602 : BitVec 32 := 3#32
  let v3055 : BitVec 32 := Scalar.addi v5 c3_i32_3602
  let c3_i32_3603 : BitVec 32 := 3#32
  let v3056 : BitVec 1 := Scalar.cmpi .eq v3055 c3_i32_3603
  let v3057 : BitVec 1 := Scalar.ori v3054 v3056
  let v3059 : BitVec 1 := Scalar.andi v3058 v3057
  let v3067 : BitVec 32 := Scalar.extui v3059
  let c0_i32_3618 : BitVec 32 := 0#32
  let v3068 : BitVec 1 := Scalar.cmpi .ne v3067 c0_i32_3618
  v3068

def k0_off216 (d0 : Dev nD) : Fin 2 → Nat :=
  let c12_i32_3609 : BitVec 32 := 12#32
  let c3_i32_3608 : BitVec 32 := 3#32
  let c0_i32_3607 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3605 : BitVec 32 := 1#32
  let v3060 : BitVec 32 := Scalar.subi v8 c1_i32_3605
  let c0_i32_3606 : BitVec 32 := 0#32
  let v3061 : BitVec 32 := Scalar.subi v3060 c0_i32_3606
  let v3062 : BitVec 32 := Scalar.maxsi c0_i32_3607 v3061
  let v3063 : BitVec 32 := Scalar.minsi c3_i32_3608 v3062
  let v3064 : BitVec 32 := Scalar.addi c12_i32_3609 v3063
  let c256_i32_3610 : BitVec 32 := 256#32
  let v3065 : BitVec 32 := Scalar.muli v3064 c256_i32_3610
  let c2048_i32 : BitVec 32 := 2048#32
  ![v3065.toNat, 2048]
def k0_cond222 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3619 : BitVec 32 := 2#32
  let v3069 : BitVec 1 := Scalar.cmpi .sle v8 c2_i32_3619
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3600 : BitVec 32 := 3#32
  let v3053 : BitVec 32 := Scalar.subi v5 c3_i32_3600
  let c3_i32_3601 : BitVec 32 := 3#32
  let v3054 : BitVec 1 := Scalar.cmpi .eq v3053 c3_i32_3601
  let c3_i32_3602 : BitVec 32 := 3#32
  let v3055 : BitVec 32 := Scalar.addi v5 c3_i32_3602
  let c3_i32_3603 : BitVec 32 := 3#32
  let v3056 : BitVec 1 := Scalar.cmpi .eq v3055 c3_i32_3603
  let v3057 : BitVec 1 := Scalar.ori v3054 v3056
  let v3070 : BitVec 1 := Scalar.andi v3069 v3057
  let v3078 : BitVec 32 := Scalar.extui v3070
  let c0_i32_3633 : BitVec 32 := 0#32
  let v3079 : BitVec 1 := Scalar.cmpi .ne v3078 c0_i32_3633
  v3079

def k0_off217 (d0 : Dev nD) : Fin 2 → Nat :=
  let c12_i32_3624 : BitVec 32 := 12#32
  let c3_i32_3623 : BitVec 32 := 3#32
  let c0_i32_3622 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3620 : BitVec 32 := 1#32
  let v3071 : BitVec 32 := Scalar.addi v8 c1_i32_3620
  let c0_i32_3621 : BitVec 32 := 0#32
  let v3072 : BitVec 32 := Scalar.addi v3071 c0_i32_3621
  let v3073 : BitVec 32 := Scalar.maxsi c0_i32_3622 v3072
  let v3074 : BitVec 32 := Scalar.minsi c3_i32_3623 v3073
  let v3075 : BitVec 32 := Scalar.addi c12_i32_3624 v3074
  let c256_i32_3625 : BitVec 32 := 256#32
  let v3076 : BitVec 32 := Scalar.muli v3075 c256_i32_3625
  let c2048_i32 : BitVec 32 := 2048#32
  ![v3076.toNat, 2048]
def k0_cond223 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3634 : BitVec 32 := 1#32
  let v3080 : BitVec 1 := Scalar.cmpi .sge v8 c1_i32_3634
  let c3_i32_3635 : BitVec 32 := 3#32
  let v3081 : BitVec 1 := Scalar.cmpi .slt v8 c3_i32_3635
  let v3082 : BitVec 1 := Scalar.andi v3080 v3081
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3600 : BitVec 32 := 3#32
  let v3053 : BitVec 32 := Scalar.subi v5 c3_i32_3600
  let c3_i32_3601 : BitVec 32 := 3#32
  let v3054 : BitVec 1 := Scalar.cmpi .eq v3053 c3_i32_3601
  let c3_i32_3602 : BitVec 32 := 3#32
  let v3055 : BitVec 32 := Scalar.addi v5 c3_i32_3602
  let c3_i32_3603 : BitVec 32 := 3#32
  let v3056 : BitVec 1 := Scalar.cmpi .eq v3055 c3_i32_3603
  let v3057 : BitVec 1 := Scalar.ori v3054 v3056
  let v3083 : BitVec 1 := Scalar.andi v3082 v3057
  let v3090 : BitVec 32 := Scalar.extui v3083
  let c0_i32_3648 : BitVec 32 := 0#32
  let v3091 : BitVec 1 := Scalar.cmpi .ne v3090 c0_i32_3648
  v3091

def k0_off218 (d0 : Dev nD) : Fin 2 → Nat :=
  let c12_i32_3639 : BitVec 32 := 12#32
  let c3_i32_3638 : BitVec 32 := 3#32
  let c0_i32_3637 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3636 : BitVec 32 := 1#32
  let v3084 : BitVec 32 := Scalar.subi v8 c1_i32_3636
  let v3085 : BitVec 32 := Scalar.maxsi c0_i32_3637 v3084
  let v3086 : BitVec 32 := Scalar.minsi c3_i32_3638 v3085
  let v3087 : BitVec 32 := Scalar.addi c12_i32_3639 v3086
  let c256_i32_3640 : BitVec 32 := 256#32
  let v3088 : BitVec 32 := Scalar.muli v3087 c256_i32_3640
  let c2048_i32 : BitVec 32 := 2048#32
  ![v3088.toNat, 2048]
def k0_dev146 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3641 : BitVec 32 := 1#32
  let v3089 : BitVec 32 := Scalar.addi v8 c1_i32_3641
  let c1_i32_5493 : BitVec 32 := 1#32
  let v3948 : BitVec 32 := Scalar.muli v3089 c1_i32_5493
  let v3949 : BitVec 32 := Scalar.addi v3947 v3948
  v3949.toNat
def k0_cond224 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3649 : BitVec 32 := 2#32
  let v3092 : BitVec 1 := Scalar.cmpi .sle v8 c2_i32_3649
  let c0_i32_3650 : BitVec 32 := 0#32
  let v3093 : BitVec 1 := Scalar.cmpi .sgt v8 c0_i32_3650
  let v3094 : BitVec 1 := Scalar.andi v3092 v3093
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3600 : BitVec 32 := 3#32
  let v3053 : BitVec 32 := Scalar.subi v5 c3_i32_3600
  let c3_i32_3601 : BitVec 32 := 3#32
  let v3054 : BitVec 1 := Scalar.cmpi .eq v3053 c3_i32_3601
  let c3_i32_3602 : BitVec 32 := 3#32
  let v3055 : BitVec 32 := Scalar.addi v5 c3_i32_3602
  let c3_i32_3603 : BitVec 32 := 3#32
  let v3056 : BitVec 1 := Scalar.cmpi .eq v3055 c3_i32_3603
  let v3057 : BitVec 1 := Scalar.ori v3054 v3056
  let v3095 : BitVec 1 := Scalar.andi v3094 v3057
  let v3102 : BitVec 32 := Scalar.extui v3095
  let c0_i32_3663 : BitVec 32 := 0#32
  let v3103 : BitVec 1 := Scalar.cmpi .ne v3102 c0_i32_3663
  v3103

def k0_off219 (d0 : Dev nD) : Fin 2 → Nat :=
  let c12_i32_3654 : BitVec 32 := 12#32
  let c3_i32_3653 : BitVec 32 := 3#32
  let c0_i32_3652 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3651 : BitVec 32 := 1#32
  let v3096 : BitVec 32 := Scalar.addi v8 c1_i32_3651
  let v3097 : BitVec 32 := Scalar.maxsi c0_i32_3652 v3096
  let v3098 : BitVec 32 := Scalar.minsi c3_i32_3653 v3097
  let v3099 : BitVec 32 := Scalar.addi c12_i32_3654 v3098
  let c256_i32_3655 : BitVec 32 := 256#32
  let v3100 : BitVec 32 := Scalar.muli v3099 c256_i32_3655
  let c2048_i32 : BitVec 32 := 2048#32
  ![v3100.toNat, 2048]
def k0_dev147 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_3656 : BitVec 32 := 4294967295#32
  let v3101 : BitVec 32 := Scalar.addi v8 c_m1_i32_3656
  let c1_i32_5493 : BitVec 32 := 1#32
  let v3948 : BitVec 32 := Scalar.muli v3101 c1_i32_5493
  let v3949 : BitVec 32 := Scalar.addi v3947 v3948
  v3949.toNat
def k0_cond225 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3664 : BitVec 32 := 2#32
  let v3104 : BitVec 1 := Scalar.cmpi .sge v5 c2_i32_3664
  let v3113 : BitVec 32 := Scalar.extui v3104
  let c0_i32_3679 : BitVec 32 := 0#32
  let v3114 : BitVec 1 := Scalar.cmpi .ne v3113 c0_i32_3679
  v3114

def k0_off220 (d0 : Dev nD) : Fin 2 → Nat :=
  let c4_i32_3669 : BitVec 32 := 4#32
  let c3_i32_3668 : BitVec 32 := 3#32
  let c0_i32_3667 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3665 : BitVec 32 := 1#32
  let v3105 : BitVec 32 := Scalar.subi v5 c1_i32_3665
  let c1_i32_3666 : BitVec 32 := 1#32
  let v3106 : BitVec 32 := Scalar.subi v3105 c1_i32_3666
  let v3107 : BitVec 32 := Scalar.maxsi c0_i32_3667 v3106
  let v3108 : BitVec 32 := Scalar.minsi c3_i32_3668 v3107
  let v3109 : BitVec 32 := Scalar.muli c4_i32_3669 v3108
  let c0_i32_3670 : BitVec 32 := 0#32
  let v3110 : BitVec 32 := Scalar.addi v3109 c0_i32_3670
  let c256_i32_3671 : BitVec 32 := 256#32
  let v3111 : BitVec 32 := Scalar.muli v3110 c256_i32_3671
  let c0_i32_5494 : BitVec 32 := 0#32
  ![v3111.toNat, 0]
def k0_cond226 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3680 : BitVec 32 := 1#32
  let v3115 : BitVec 1 := Scalar.cmpi .sle v5 c1_i32_3680
  let v3124 : BitVec 32 := Scalar.extui v3115
  let c0_i32_3695 : BitVec 32 := 0#32
  let v3125 : BitVec 1 := Scalar.cmpi .ne v3124 c0_i32_3695
  v3125

def k0_off221 (d0 : Dev nD) : Fin 2 → Nat :=
  let c4_i32_3685 : BitVec 32 := 4#32
  let c3_i32_3684 : BitVec 32 := 3#32
  let c0_i32_3683 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3681 : BitVec 32 := 1#32
  let v3116 : BitVec 32 := Scalar.addi v5 c1_i32_3681
  let c1_i32_3682 : BitVec 32 := 1#32
  let v3117 : BitVec 32 := Scalar.addi v3116 c1_i32_3682
  let v3118 : BitVec 32 := Scalar.maxsi c0_i32_3683 v3117
  let v3119 : BitVec 32 := Scalar.minsi c3_i32_3684 v3118
  let v3120 : BitVec 32 := Scalar.muli c4_i32_3685 v3119
  let c0_i32_3686 : BitVec 32 := 0#32
  let v3121 : BitVec 32 := Scalar.addi v3120 c0_i32_3686
  let c256_i32_3687 : BitVec 32 := 256#32
  let v3122 : BitVec 32 := Scalar.muli v3121 c256_i32_3687
  let c0_i32_5494 : BitVec 32 := 0#32
  ![v3122.toNat, 0]
def k0_cond227 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3696 : BitVec 32 := 2#32
  let v3126 : BitVec 1 := Scalar.cmpi .sge v5 c2_i32_3696
  let c3_i32_3697 : BitVec 32 := 3#32
  let v3127 : BitVec 1 := Scalar.cmpi .slt v5 c3_i32_3697
  let v3128 : BitVec 1 := Scalar.andi v3126 v3127
  let v3136 : BitVec 32 := Scalar.extui v3128
  let c0_i32_3711 : BitVec 32 := 0#32
  let v3137 : BitVec 1 := Scalar.cmpi .ne v3136 c0_i32_3711
  v3137

def k0_off222 (d0 : Dev nD) : Fin 2 → Nat :=
  let c4_i32_3701 : BitVec 32 := 4#32
  let c3_i32_3700 : BitVec 32 := 3#32
  let c0_i32_3699 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3698 : BitVec 32 := 2#32
  let v3129 : BitVec 32 := Scalar.subi v5 c2_i32_3698
  let v3130 : BitVec 32 := Scalar.maxsi c0_i32_3699 v3129
  let v3131 : BitVec 32 := Scalar.minsi c3_i32_3700 v3130
  let v3132 : BitVec 32 := Scalar.muli c4_i32_3701 v3131
  let c0_i32_3702 : BitVec 32 := 0#32
  let v3133 : BitVec 32 := Scalar.addi v3132 c0_i32_3702
  let c256_i32_3703 : BitVec 32 := 256#32
  let v3134 : BitVec 32 := Scalar.muli v3133 c256_i32_3703
  let c0_i32_5494 : BitVec 32 := 0#32
  ![v3134.toNat, 0]
def k0_dev148 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3704 : BitVec 32 := 1#32
  let v3135 : BitVec 32 := Scalar.addi v5 c1_i32_3704
  let c4_i32_5492 : BitVec 32 := 4#32
  let v3946 : BitVec 32 := Scalar.muli v3135 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond228 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3712 : BitVec 32 := 1#32
  let v3138 : BitVec 1 := Scalar.cmpi .sle v5 c1_i32_3712
  let c0_i32_3713 : BitVec 32 := 0#32
  let v3139 : BitVec 1 := Scalar.cmpi .sgt v5 c0_i32_3713
  let v3140 : BitVec 1 := Scalar.andi v3138 v3139
  let v3148 : BitVec 32 := Scalar.extui v3140
  let c0_i32_3727 : BitVec 32 := 0#32
  let v3149 : BitVec 1 := Scalar.cmpi .ne v3148 c0_i32_3727
  v3149

def k0_off223 (d0 : Dev nD) : Fin 2 → Nat :=
  let c4_i32_3717 : BitVec 32 := 4#32
  let c3_i32_3716 : BitVec 32 := 3#32
  let c0_i32_3715 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3714 : BitVec 32 := 2#32
  let v3141 : BitVec 32 := Scalar.addi v5 c2_i32_3714
  let v3142 : BitVec 32 := Scalar.maxsi c0_i32_3715 v3141
  let v3143 : BitVec 32 := Scalar.minsi c3_i32_3716 v3142
  let v3144 : BitVec 32 := Scalar.muli c4_i32_3717 v3143
  let c0_i32_3718 : BitVec 32 := 0#32
  let v3145 : BitVec 32 := Scalar.addi v3144 c0_i32_3718
  let c256_i32_3719 : BitVec 32 := 256#32
  let v3146 : BitVec 32 := Scalar.muli v3145 c256_i32_3719
  let c0_i32_5494 : BitVec 32 := 0#32
  ![v3146.toNat, 0]
def k0_dev149 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3720 : BitVec 32 := 4294967295#32
  let v3147 : BitVec 32 := Scalar.addi v5 c_m1_i32_3720
  let c4_i32_5492 : BitVec 32 := 4#32
  let v3946 : BitVec 32 := Scalar.muli v3147 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond229 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3728 : BitVec 32 := 2#32
  let v3150 : BitVec 1 := Scalar.cmpi .sge v8 c2_i32_3728
  let v3158 : BitVec 32 := Scalar.extui v3150
  let c0_i32_3742 : BitVec 32 := 0#32
  let v3159 : BitVec 1 := Scalar.cmpi .ne v3158 c0_i32_3742
  v3159

def k0_off224 (d0 : Dev nD) : Fin 2 → Nat :=
  let c0_i32_3733 : BitVec 32 := 0#32
  let c3_i32_3732 : BitVec 32 := 3#32
  let c0_i32_3731 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3729 : BitVec 32 := 1#32
  let v3151 : BitVec 32 := Scalar.subi v8 c1_i32_3729
  let c1_i32_3730 : BitVec 32 := 1#32
  let v3152 : BitVec 32 := Scalar.subi v3151 c1_i32_3730
  let v3153 : BitVec 32 := Scalar.maxsi c0_i32_3731 v3152
  let v3154 : BitVec 32 := Scalar.minsi c3_i32_3732 v3153
  let v3155 : BitVec 32 := Scalar.addi c0_i32_3733 v3154
  let c256_i32_3734 : BitVec 32 := 256#32
  let v3156 : BitVec 32 := Scalar.muli v3155 c256_i32_3734
  let c2048_i32 : BitVec 32 := 2048#32
  ![v3156.toNat, 2048]
def k0_cond230 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3743 : BitVec 32 := 1#32
  let v3160 : BitVec 1 := Scalar.cmpi .sle v8 c1_i32_3743
  let v3168 : BitVec 32 := Scalar.extui v3160
  let c0_i32_3757 : BitVec 32 := 0#32
  let v3169 : BitVec 1 := Scalar.cmpi .ne v3168 c0_i32_3757
  v3169

def k0_off225 (d0 : Dev nD) : Fin 2 → Nat :=
  let c0_i32_3748 : BitVec 32 := 0#32
  let c3_i32_3747 : BitVec 32 := 3#32
  let c0_i32_3746 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3744 : BitVec 32 := 1#32
  let v3161 : BitVec 32 := Scalar.addi v8 c1_i32_3744
  let c1_i32_3745 : BitVec 32 := 1#32
  let v3162 : BitVec 32 := Scalar.addi v3161 c1_i32_3745
  let v3163 : BitVec 32 := Scalar.maxsi c0_i32_3746 v3162
  let v3164 : BitVec 32 := Scalar.minsi c3_i32_3747 v3163
  let v3165 : BitVec 32 := Scalar.addi c0_i32_3748 v3164
  let c256_i32_3749 : BitVec 32 := 256#32
  let v3166 : BitVec 32 := Scalar.muli v3165 c256_i32_3749
  let c2048_i32 : BitVec 32 := 2048#32
  ![v3166.toNat, 2048]
def k0_cond231 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3758 : BitVec 32 := 2#32
  let v3170 : BitVec 1 := Scalar.cmpi .sge v8 c2_i32_3758
  let c3_i32_3759 : BitVec 32 := 3#32
  let v3171 : BitVec 1 := Scalar.cmpi .slt v8 c3_i32_3759
  let v3172 : BitVec 1 := Scalar.andi v3170 v3171
  let v3179 : BitVec 32 := Scalar.extui v3172
  let c0_i32_3772 : BitVec 32 := 0#32
  let v3180 : BitVec 1 := Scalar.cmpi .ne v3179 c0_i32_3772
  v3180

def k0_off226 (d0 : Dev nD) : Fin 2 → Nat :=
  let c0_i32_3763 : BitVec 32 := 0#32
  let c3_i32_3762 : BitVec 32 := 3#32
  let c0_i32_3761 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3760 : BitVec 32 := 2#32
  let v3173 : BitVec 32 := Scalar.subi v8 c2_i32_3760
  let v3174 : BitVec 32 := Scalar.maxsi c0_i32_3761 v3173
  let v3175 : BitVec 32 := Scalar.minsi c3_i32_3762 v3174
  let v3176 : BitVec 32 := Scalar.addi c0_i32_3763 v3175
  let c256_i32_3764 : BitVec 32 := 256#32
  let v3177 : BitVec 32 := Scalar.muli v3176 c256_i32_3764
  let c2048_i32 : BitVec 32 := 2048#32
  ![v3177.toNat, 2048]
def k0_dev150 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3765 : BitVec 32 := 1#32
  let v3178 : BitVec 32 := Scalar.addi v8 c1_i32_3765
  let c1_i32_5493 : BitVec 32 := 1#32
  let v3948 : BitVec 32 := Scalar.muli v3178 c1_i32_5493
  let v3949 : BitVec 32 := Scalar.addi v3947 v3948
  v3949.toNat
def k0_cond232 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3773 : BitVec 32 := 1#32
  let v3181 : BitVec 1 := Scalar.cmpi .sle v8 c1_i32_3773
  let c0_i32_3774 : BitVec 32 := 0#32
  let v3182 : BitVec 1 := Scalar.cmpi .sgt v8 c0_i32_3774
  let v3183 : BitVec 1 := Scalar.andi v3181 v3182
  let v3190 : BitVec 32 := Scalar.extui v3183
  let c0_i32_3787 : BitVec 32 := 0#32
  let v3191 : BitVec 1 := Scalar.cmpi .ne v3190 c0_i32_3787
  v3191

def k0_off227 (d0 : Dev nD) : Fin 2 → Nat :=
  let c0_i32_3778 : BitVec 32 := 0#32
  let c3_i32_3777 : BitVec 32 := 3#32
  let c0_i32_3776 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3775 : BitVec 32 := 2#32
  let v3184 : BitVec 32 := Scalar.addi v8 c2_i32_3775
  let v3185 : BitVec 32 := Scalar.maxsi c0_i32_3776 v3184
  let v3186 : BitVec 32 := Scalar.minsi c3_i32_3777 v3185
  let v3187 : BitVec 32 := Scalar.addi c0_i32_3778 v3186
  let c256_i32_3779 : BitVec 32 := 256#32
  let v3188 : BitVec 32 := Scalar.muli v3187 c256_i32_3779
  let c2048_i32 : BitVec 32 := 2048#32
  ![v3188.toNat, 2048]
def k0_dev151 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_3780 : BitVec 32 := 4294967295#32
  let v3189 : BitVec 32 := Scalar.addi v8 c_m1_i32_3780
  let c1_i32_5493 : BitVec 32 := 1#32
  let v3948 : BitVec 32 := Scalar.muli v3189 c1_i32_5493
  let v3949 : BitVec 32 := Scalar.addi v3947 v3948
  v3949.toNat
def k0_cond233 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3788 : BitVec 32 := 2#32
  let v3192 : BitVec 1 := Scalar.cmpi .sge v5 c2_i32_3788
  let v3201 : BitVec 32 := Scalar.extui v3192
  let c0_i32_3803 : BitVec 32 := 0#32
  let v3202 : BitVec 1 := Scalar.cmpi .ne v3201 c0_i32_3803
  v3202

def k0_off228 (d0 : Dev nD) : Fin 2 → Nat :=
  let c4_i32_3793 : BitVec 32 := 4#32
  let c3_i32_3792 : BitVec 32 := 3#32
  let c0_i32_3791 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3789 : BitVec 32 := 1#32
  let v3193 : BitVec 32 := Scalar.subi v5 c1_i32_3789
  let c1_i32_3790 : BitVec 32 := 1#32
  let v3194 : BitVec 32 := Scalar.subi v3193 c1_i32_3790
  let v3195 : BitVec 32 := Scalar.maxsi c0_i32_3791 v3194
  let v3196 : BitVec 32 := Scalar.minsi c3_i32_3792 v3195
  let v3197 : BitVec 32 := Scalar.muli c4_i32_3793 v3196
  let c1_i32_3794 : BitVec 32 := 1#32
  let v3198 : BitVec 32 := Scalar.addi v3197 c1_i32_3794
  let c256_i32_3795 : BitVec 32 := 256#32
  let v3199 : BitVec 32 := Scalar.muli v3198 c256_i32_3795
  let c0_i32_5494 : BitVec 32 := 0#32
  ![v3199.toNat, 0]
def k0_cond234 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3804 : BitVec 32 := 1#32
  let v3203 : BitVec 1 := Scalar.cmpi .sle v5 c1_i32_3804
  let v3212 : BitVec 32 := Scalar.extui v3203
  let c0_i32_3819 : BitVec 32 := 0#32
  let v3213 : BitVec 1 := Scalar.cmpi .ne v3212 c0_i32_3819
  v3213

def k0_off229 (d0 : Dev nD) : Fin 2 → Nat :=
  let c4_i32_3809 : BitVec 32 := 4#32
  let c3_i32_3808 : BitVec 32 := 3#32
  let c0_i32_3807 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3805 : BitVec 32 := 1#32
  let v3204 : BitVec 32 := Scalar.addi v5 c1_i32_3805
  let c1_i32_3806 : BitVec 32 := 1#32
  let v3205 : BitVec 32 := Scalar.addi v3204 c1_i32_3806
  let v3206 : BitVec 32 := Scalar.maxsi c0_i32_3807 v3205
  let v3207 : BitVec 32 := Scalar.minsi c3_i32_3808 v3206
  let v3208 : BitVec 32 := Scalar.muli c4_i32_3809 v3207
  let c1_i32_3810 : BitVec 32 := 1#32
  let v3209 : BitVec 32 := Scalar.addi v3208 c1_i32_3810
  let c256_i32_3811 : BitVec 32 := 256#32
  let v3210 : BitVec 32 := Scalar.muli v3209 c256_i32_3811
  let c0_i32_5494 : BitVec 32 := 0#32
  ![v3210.toNat, 0]
def k0_cond235 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3820 : BitVec 32 := 2#32
  let v3214 : BitVec 1 := Scalar.cmpi .sge v5 c2_i32_3820
  let c3_i32_3821 : BitVec 32 := 3#32
  let v3215 : BitVec 1 := Scalar.cmpi .slt v5 c3_i32_3821
  let v3216 : BitVec 1 := Scalar.andi v3214 v3215
  let v3224 : BitVec 32 := Scalar.extui v3216
  let c0_i32_3835 : BitVec 32 := 0#32
  let v3225 : BitVec 1 := Scalar.cmpi .ne v3224 c0_i32_3835
  v3225

def k0_off230 (d0 : Dev nD) : Fin 2 → Nat :=
  let c4_i32_3825 : BitVec 32 := 4#32
  let c3_i32_3824 : BitVec 32 := 3#32
  let c0_i32_3823 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3822 : BitVec 32 := 2#32
  let v3217 : BitVec 32 := Scalar.subi v5 c2_i32_3822
  let v3218 : BitVec 32 := Scalar.maxsi c0_i32_3823 v3217
  let v3219 : BitVec 32 := Scalar.minsi c3_i32_3824 v3218
  let v3220 : BitVec 32 := Scalar.muli c4_i32_3825 v3219
  let c1_i32_3826 : BitVec 32 := 1#32
  let v3221 : BitVec 32 := Scalar.addi v3220 c1_i32_3826
  let c256_i32_3827 : BitVec 32 := 256#32
  let v3222 : BitVec 32 := Scalar.muli v3221 c256_i32_3827
  let c0_i32_5494 : BitVec 32 := 0#32
  ![v3222.toNat, 0]
def k0_dev152 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3828 : BitVec 32 := 1#32
  let v3223 : BitVec 32 := Scalar.addi v5 c1_i32_3828
  let c4_i32_5492 : BitVec 32 := 4#32
  let v3946 : BitVec 32 := Scalar.muli v3223 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond236 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3836 : BitVec 32 := 1#32
  let v3226 : BitVec 1 := Scalar.cmpi .sle v5 c1_i32_3836
  let c0_i32_3837 : BitVec 32 := 0#32
  let v3227 : BitVec 1 := Scalar.cmpi .sgt v5 c0_i32_3837
  let v3228 : BitVec 1 := Scalar.andi v3226 v3227
  let v3236 : BitVec 32 := Scalar.extui v3228
  let c0_i32_3851 : BitVec 32 := 0#32
  let v3237 : BitVec 1 := Scalar.cmpi .ne v3236 c0_i32_3851
  v3237

def k0_off231 (d0 : Dev nD) : Fin 2 → Nat :=
  let c4_i32_3841 : BitVec 32 := 4#32
  let c3_i32_3840 : BitVec 32 := 3#32
  let c0_i32_3839 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3838 : BitVec 32 := 2#32
  let v3229 : BitVec 32 := Scalar.addi v5 c2_i32_3838
  let v3230 : BitVec 32 := Scalar.maxsi c0_i32_3839 v3229
  let v3231 : BitVec 32 := Scalar.minsi c3_i32_3840 v3230
  let v3232 : BitVec 32 := Scalar.muli c4_i32_3841 v3231
  let c1_i32_3842 : BitVec 32 := 1#32
  let v3233 : BitVec 32 := Scalar.addi v3232 c1_i32_3842
  let c256_i32_3843 : BitVec 32 := 256#32
  let v3234 : BitVec 32 := Scalar.muli v3233 c256_i32_3843
  let c0_i32_5494 : BitVec 32 := 0#32
  ![v3234.toNat, 0]
def k0_dev153 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3844 : BitVec 32 := 4294967295#32
  let v3235 : BitVec 32 := Scalar.addi v5 c_m1_i32_3844
  let c4_i32_5492 : BitVec 32 := 4#32
  let v3946 : BitVec 32 := Scalar.muli v3235 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond237 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3852 : BitVec 32 := 2#32
  let v3238 : BitVec 1 := Scalar.cmpi .sge v8 c2_i32_3852
  let v3246 : BitVec 32 := Scalar.extui v3238
  let c0_i32_3866 : BitVec 32 := 0#32
  let v3247 : BitVec 1 := Scalar.cmpi .ne v3246 c0_i32_3866
  v3247

def k0_off232 (d0 : Dev nD) : Fin 2 → Nat :=
  let c4_i32_3857 : BitVec 32 := 4#32
  let c3_i32_3856 : BitVec 32 := 3#32
  let c0_i32_3855 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3853 : BitVec 32 := 1#32
  let v3239 : BitVec 32 := Scalar.subi v8 c1_i32_3853
  let c1_i32_3854 : BitVec 32 := 1#32
  let v3240 : BitVec 32 := Scalar.subi v3239 c1_i32_3854
  let v3241 : BitVec 32 := Scalar.maxsi c0_i32_3855 v3240
  let v3242 : BitVec 32 := Scalar.minsi c3_i32_3856 v3241
  let v3243 : BitVec 32 := Scalar.addi c4_i32_3857 v3242
  let c256_i32_3858 : BitVec 32 := 256#32
  let v3244 : BitVec 32 := Scalar.muli v3243 c256_i32_3858
  let c2048_i32 : BitVec 32 := 2048#32
  ![v3244.toNat, 2048]
def k0_cond238 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3867 : BitVec 32 := 1#32
  let v3248 : BitVec 1 := Scalar.cmpi .sle v8 c1_i32_3867
  let v3256 : BitVec 32 := Scalar.extui v3248
  let c0_i32_3881 : BitVec 32 := 0#32
  let v3257 : BitVec 1 := Scalar.cmpi .ne v3256 c0_i32_3881
  v3257

def k0_off233 (d0 : Dev nD) : Fin 2 → Nat :=
  let c4_i32_3872 : BitVec 32 := 4#32
  let c3_i32_3871 : BitVec 32 := 3#32
  let c0_i32_3870 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3868 : BitVec 32 := 1#32
  let v3249 : BitVec 32 := Scalar.addi v8 c1_i32_3868
  let c1_i32_3869 : BitVec 32 := 1#32
  let v3250 : BitVec 32 := Scalar.addi v3249 c1_i32_3869
  let v3251 : BitVec 32 := Scalar.maxsi c0_i32_3870 v3250
  let v3252 : BitVec 32 := Scalar.minsi c3_i32_3871 v3251
  let v3253 : BitVec 32 := Scalar.addi c4_i32_3872 v3252
  let c256_i32_3873 : BitVec 32 := 256#32
  let v3254 : BitVec 32 := Scalar.muli v3253 c256_i32_3873
  let c2048_i32 : BitVec 32 := 2048#32
  ![v3254.toNat, 2048]
def k0_cond239 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3882 : BitVec 32 := 2#32
  let v3258 : BitVec 1 := Scalar.cmpi .sge v8 c2_i32_3882
  let c3_i32_3883 : BitVec 32 := 3#32
  let v3259 : BitVec 1 := Scalar.cmpi .slt v8 c3_i32_3883
  let v3260 : BitVec 1 := Scalar.andi v3258 v3259
  let v3267 : BitVec 32 := Scalar.extui v3260
  let c0_i32_3896 : BitVec 32 := 0#32
  let v3268 : BitVec 1 := Scalar.cmpi .ne v3267 c0_i32_3896
  v3268

def k0_off234 (d0 : Dev nD) : Fin 2 → Nat :=
  let c4_i32_3887 : BitVec 32 := 4#32
  let c3_i32_3886 : BitVec 32 := 3#32
  let c0_i32_3885 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3884 : BitVec 32 := 2#32
  let v3261 : BitVec 32 := Scalar.subi v8 c2_i32_3884
  let v3262 : BitVec 32 := Scalar.maxsi c0_i32_3885 v3261
  let v3263 : BitVec 32 := Scalar.minsi c3_i32_3886 v3262
  let v3264 : BitVec 32 := Scalar.addi c4_i32_3887 v3263
  let c256_i32_3888 : BitVec 32 := 256#32
  let v3265 : BitVec 32 := Scalar.muli v3264 c256_i32_3888
  let c2048_i32 : BitVec 32 := 2048#32
  ![v3265.toNat, 2048]
def k0_dev154 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3889 : BitVec 32 := 1#32
  let v3266 : BitVec 32 := Scalar.addi v8 c1_i32_3889
  let c1_i32_5493 : BitVec 32 := 1#32
  let v3948 : BitVec 32 := Scalar.muli v3266 c1_i32_5493
  let v3949 : BitVec 32 := Scalar.addi v3947 v3948
  v3949.toNat
def k0_cond240 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3897 : BitVec 32 := 1#32
  let v3269 : BitVec 1 := Scalar.cmpi .sle v8 c1_i32_3897
  let c0_i32_3898 : BitVec 32 := 0#32
  let v3270 : BitVec 1 := Scalar.cmpi .sgt v8 c0_i32_3898
  let v3271 : BitVec 1 := Scalar.andi v3269 v3270
  let v3278 : BitVec 32 := Scalar.extui v3271
  let c0_i32_3911 : BitVec 32 := 0#32
  let v3279 : BitVec 1 := Scalar.cmpi .ne v3278 c0_i32_3911
  v3279

def k0_off235 (d0 : Dev nD) : Fin 2 → Nat :=
  let c4_i32_3902 : BitVec 32 := 4#32
  let c3_i32_3901 : BitVec 32 := 3#32
  let c0_i32_3900 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3899 : BitVec 32 := 2#32
  let v3272 : BitVec 32 := Scalar.addi v8 c2_i32_3899
  let v3273 : BitVec 32 := Scalar.maxsi c0_i32_3900 v3272
  let v3274 : BitVec 32 := Scalar.minsi c3_i32_3901 v3273
  let v3275 : BitVec 32 := Scalar.addi c4_i32_3902 v3274
  let c256_i32_3903 : BitVec 32 := 256#32
  let v3276 : BitVec 32 := Scalar.muli v3275 c256_i32_3903
  let c2048_i32 : BitVec 32 := 2048#32
  ![v3276.toNat, 2048]
def k0_dev155 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_3904 : BitVec 32 := 4294967295#32
  let v3277 : BitVec 32 := Scalar.addi v8 c_m1_i32_3904
  let c1_i32_5493 : BitVec 32 := 1#32
  let v3948 : BitVec 32 := Scalar.muli v3277 c1_i32_5493
  let v3949 : BitVec 32 := Scalar.addi v3947 v3948
  v3949.toNat
def k0_cond241 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3912 : BitVec 32 := 2#32
  let v3280 : BitVec 1 := Scalar.cmpi .sge v5 c2_i32_3912
  let v3289 : BitVec 32 := Scalar.extui v3280
  let c0_i32_3927 : BitVec 32 := 0#32
  let v3290 : BitVec 1 := Scalar.cmpi .ne v3289 c0_i32_3927
  v3290

def k0_off236 (d0 : Dev nD) : Fin 2 → Nat :=
  let c4_i32_3917 : BitVec 32 := 4#32
  let c3_i32_3916 : BitVec 32 := 3#32
  let c0_i32_3915 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3913 : BitVec 32 := 1#32
  let v3281 : BitVec 32 := Scalar.subi v5 c1_i32_3913
  let c1_i32_3914 : BitVec 32 := 1#32
  let v3282 : BitVec 32 := Scalar.subi v3281 c1_i32_3914
  let v3283 : BitVec 32 := Scalar.maxsi c0_i32_3915 v3282
  let v3284 : BitVec 32 := Scalar.minsi c3_i32_3916 v3283
  let v3285 : BitVec 32 := Scalar.muli c4_i32_3917 v3284
  let c2_i32_3918 : BitVec 32 := 2#32
  let v3286 : BitVec 32 := Scalar.addi v3285 c2_i32_3918
  let c256_i32_3919 : BitVec 32 := 256#32
  let v3287 : BitVec 32 := Scalar.muli v3286 c256_i32_3919
  let c0_i32_5494 : BitVec 32 := 0#32
  ![v3287.toNat, 0]
def k0_cond242 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3928 : BitVec 32 := 1#32
  let v3291 : BitVec 1 := Scalar.cmpi .sle v5 c1_i32_3928
  let v3300 : BitVec 32 := Scalar.extui v3291
  let c0_i32_3943 : BitVec 32 := 0#32
  let v3301 : BitVec 1 := Scalar.cmpi .ne v3300 c0_i32_3943
  v3301

def k0_off237 (d0 : Dev nD) : Fin 2 → Nat :=
  let c4_i32_3933 : BitVec 32 := 4#32
  let c3_i32_3932 : BitVec 32 := 3#32
  let c0_i32_3931 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3929 : BitVec 32 := 1#32
  let v3292 : BitVec 32 := Scalar.addi v5 c1_i32_3929
  let c1_i32_3930 : BitVec 32 := 1#32
  let v3293 : BitVec 32 := Scalar.addi v3292 c1_i32_3930
  let v3294 : BitVec 32 := Scalar.maxsi c0_i32_3931 v3293
  let v3295 : BitVec 32 := Scalar.minsi c3_i32_3932 v3294
  let v3296 : BitVec 32 := Scalar.muli c4_i32_3933 v3295
  let c2_i32_3934 : BitVec 32 := 2#32
  let v3297 : BitVec 32 := Scalar.addi v3296 c2_i32_3934
  let c256_i32_3935 : BitVec 32 := 256#32
  let v3298 : BitVec 32 := Scalar.muli v3297 c256_i32_3935
  let c0_i32_5494 : BitVec 32 := 0#32
  ![v3298.toNat, 0]
def k0_cond243 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3944 : BitVec 32 := 2#32
  let v3302 : BitVec 1 := Scalar.cmpi .sge v5 c2_i32_3944
  let c3_i32_3945 : BitVec 32 := 3#32
  let v3303 : BitVec 1 := Scalar.cmpi .slt v5 c3_i32_3945
  let v3304 : BitVec 1 := Scalar.andi v3302 v3303
  let v3312 : BitVec 32 := Scalar.extui v3304
  let c0_i32_3959 : BitVec 32 := 0#32
  let v3313 : BitVec 1 := Scalar.cmpi .ne v3312 c0_i32_3959
  v3313

def k0_off238 (d0 : Dev nD) : Fin 2 → Nat :=
  let c4_i32_3949 : BitVec 32 := 4#32
  let c3_i32_3948 : BitVec 32 := 3#32
  let c0_i32_3947 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3946 : BitVec 32 := 2#32
  let v3305 : BitVec 32 := Scalar.subi v5 c2_i32_3946
  let v3306 : BitVec 32 := Scalar.maxsi c0_i32_3947 v3305
  let v3307 : BitVec 32 := Scalar.minsi c3_i32_3948 v3306
  let v3308 : BitVec 32 := Scalar.muli c4_i32_3949 v3307
  let c2_i32_3950 : BitVec 32 := 2#32
  let v3309 : BitVec 32 := Scalar.addi v3308 c2_i32_3950
  let c256_i32_3951 : BitVec 32 := 256#32
  let v3310 : BitVec 32 := Scalar.muli v3309 c256_i32_3951
  let c0_i32_5494 : BitVec 32 := 0#32
  ![v3310.toNat, 0]
def k0_dev156 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3952 : BitVec 32 := 1#32
  let v3311 : BitVec 32 := Scalar.addi v5 c1_i32_3952
  let c4_i32_5492 : BitVec 32 := 4#32
  let v3946 : BitVec 32 := Scalar.muli v3311 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond244 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3960 : BitVec 32 := 1#32
  let v3314 : BitVec 1 := Scalar.cmpi .sle v5 c1_i32_3960
  let c0_i32_3961 : BitVec 32 := 0#32
  let v3315 : BitVec 1 := Scalar.cmpi .sgt v5 c0_i32_3961
  let v3316 : BitVec 1 := Scalar.andi v3314 v3315
  let v3324 : BitVec 32 := Scalar.extui v3316
  let c0_i32_3975 : BitVec 32 := 0#32
  let v3325 : BitVec 1 := Scalar.cmpi .ne v3324 c0_i32_3975
  v3325

def k0_off239 (d0 : Dev nD) : Fin 2 → Nat :=
  let c4_i32_3965 : BitVec 32 := 4#32
  let c3_i32_3964 : BitVec 32 := 3#32
  let c0_i32_3963 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3962 : BitVec 32 := 2#32
  let v3317 : BitVec 32 := Scalar.addi v5 c2_i32_3962
  let v3318 : BitVec 32 := Scalar.maxsi c0_i32_3963 v3317
  let v3319 : BitVec 32 := Scalar.minsi c3_i32_3964 v3318
  let v3320 : BitVec 32 := Scalar.muli c4_i32_3965 v3319
  let c2_i32_3966 : BitVec 32 := 2#32
  let v3321 : BitVec 32 := Scalar.addi v3320 c2_i32_3966
  let c256_i32_3967 : BitVec 32 := 256#32
  let v3322 : BitVec 32 := Scalar.muli v3321 c256_i32_3967
  let c0_i32_5494 : BitVec 32 := 0#32
  ![v3322.toNat, 0]
def k0_dev157 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_3968 : BitVec 32 := 4294967295#32
  let v3323 : BitVec 32 := Scalar.addi v5 c_m1_i32_3968
  let c4_i32_5492 : BitVec 32 := 4#32
  let v3946 : BitVec 32 := Scalar.muli v3323 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond245 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3976 : BitVec 32 := 2#32
  let v3326 : BitVec 1 := Scalar.cmpi .sge v8 c2_i32_3976
  let v3334 : BitVec 32 := Scalar.extui v3326
  let c0_i32_3990 : BitVec 32 := 0#32
  let v3335 : BitVec 1 := Scalar.cmpi .ne v3334 c0_i32_3990
  v3335

def k0_off240 (d0 : Dev nD) : Fin 2 → Nat :=
  let c8_i32_3981 : BitVec 32 := 8#32
  let c3_i32_3980 : BitVec 32 := 3#32
  let c0_i32_3979 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3977 : BitVec 32 := 1#32
  let v3327 : BitVec 32 := Scalar.subi v8 c1_i32_3977
  let c1_i32_3978 : BitVec 32 := 1#32
  let v3328 : BitVec 32 := Scalar.subi v3327 c1_i32_3978
  let v3329 : BitVec 32 := Scalar.maxsi c0_i32_3979 v3328
  let v3330 : BitVec 32 := Scalar.minsi c3_i32_3980 v3329
  let v3331 : BitVec 32 := Scalar.addi c8_i32_3981 v3330
  let c256_i32_3982 : BitVec 32 := 256#32
  let v3332 : BitVec 32 := Scalar.muli v3331 c256_i32_3982
  let c2048_i32 : BitVec 32 := 2048#32
  ![v3332.toNat, 2048]
def k0_cond246 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3991 : BitVec 32 := 1#32
  let v3336 : BitVec 1 := Scalar.cmpi .sle v8 c1_i32_3991
  let v3344 : BitVec 32 := Scalar.extui v3336
  let c0_i32_4005 : BitVec 32 := 0#32
  let v3345 : BitVec 1 := Scalar.cmpi .ne v3344 c0_i32_4005
  v3345

def k0_off241 (d0 : Dev nD) : Fin 2 → Nat :=
  let c8_i32_3996 : BitVec 32 := 8#32
  let c3_i32_3995 : BitVec 32 := 3#32
  let c0_i32_3994 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3992 : BitVec 32 := 1#32
  let v3337 : BitVec 32 := Scalar.addi v8 c1_i32_3992
  let c1_i32_3993 : BitVec 32 := 1#32
  let v3338 : BitVec 32 := Scalar.addi v3337 c1_i32_3993
  let v3339 : BitVec 32 := Scalar.maxsi c0_i32_3994 v3338
  let v3340 : BitVec 32 := Scalar.minsi c3_i32_3995 v3339
  let v3341 : BitVec 32 := Scalar.addi c8_i32_3996 v3340
  let c256_i32_3997 : BitVec 32 := 256#32
  let v3342 : BitVec 32 := Scalar.muli v3341 c256_i32_3997
  let c2048_i32 : BitVec 32 := 2048#32
  ![v3342.toNat, 2048]
def k0_cond247 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4006 : BitVec 32 := 2#32
  let v3346 : BitVec 1 := Scalar.cmpi .sge v8 c2_i32_4006
  let c3_i32_4007 : BitVec 32 := 3#32
  let v3347 : BitVec 1 := Scalar.cmpi .slt v8 c3_i32_4007
  let v3348 : BitVec 1 := Scalar.andi v3346 v3347
  let v3355 : BitVec 32 := Scalar.extui v3348
  let c0_i32_4020 : BitVec 32 := 0#32
  let v3356 : BitVec 1 := Scalar.cmpi .ne v3355 c0_i32_4020
  v3356

def k0_off242 (d0 : Dev nD) : Fin 2 → Nat :=
  let c8_i32_4011 : BitVec 32 := 8#32
  let c3_i32_4010 : BitVec 32 := 3#32
  let c0_i32_4009 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4008 : BitVec 32 := 2#32
  let v3349 : BitVec 32 := Scalar.subi v8 c2_i32_4008
  let v3350 : BitVec 32 := Scalar.maxsi c0_i32_4009 v3349
  let v3351 : BitVec 32 := Scalar.minsi c3_i32_4010 v3350
  let v3352 : BitVec 32 := Scalar.addi c8_i32_4011 v3351
  let c256_i32_4012 : BitVec 32 := 256#32
  let v3353 : BitVec 32 := Scalar.muli v3352 c256_i32_4012
  let c2048_i32 : BitVec 32 := 2048#32
  ![v3353.toNat, 2048]
def k0_dev158 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4013 : BitVec 32 := 1#32
  let v3354 : BitVec 32 := Scalar.addi v8 c1_i32_4013
  let c1_i32_5493 : BitVec 32 := 1#32
  let v3948 : BitVec 32 := Scalar.muli v3354 c1_i32_5493
  let v3949 : BitVec 32 := Scalar.addi v3947 v3948
  v3949.toNat
def k0_cond248 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4021 : BitVec 32 := 1#32
  let v3357 : BitVec 1 := Scalar.cmpi .sle v8 c1_i32_4021
  let c0_i32_4022 : BitVec 32 := 0#32
  let v3358 : BitVec 1 := Scalar.cmpi .sgt v8 c0_i32_4022
  let v3359 : BitVec 1 := Scalar.andi v3357 v3358
  let v3366 : BitVec 32 := Scalar.extui v3359
  let c0_i32_4035 : BitVec 32 := 0#32
  let v3367 : BitVec 1 := Scalar.cmpi .ne v3366 c0_i32_4035
  v3367

def k0_off243 (d0 : Dev nD) : Fin 2 → Nat :=
  let c8_i32_4026 : BitVec 32 := 8#32
  let c3_i32_4025 : BitVec 32 := 3#32
  let c0_i32_4024 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4023 : BitVec 32 := 2#32
  let v3360 : BitVec 32 := Scalar.addi v8 c2_i32_4023
  let v3361 : BitVec 32 := Scalar.maxsi c0_i32_4024 v3360
  let v3362 : BitVec 32 := Scalar.minsi c3_i32_4025 v3361
  let v3363 : BitVec 32 := Scalar.addi c8_i32_4026 v3362
  let c256_i32_4027 : BitVec 32 := 256#32
  let v3364 : BitVec 32 := Scalar.muli v3363 c256_i32_4027
  let c2048_i32 : BitVec 32 := 2048#32
  ![v3364.toNat, 2048]
def k0_dev159 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_4028 : BitVec 32 := 4294967295#32
  let v3365 : BitVec 32 := Scalar.addi v8 c_m1_i32_4028
  let c1_i32_5493 : BitVec 32 := 1#32
  let v3948 : BitVec 32 := Scalar.muli v3365 c1_i32_5493
  let v3949 : BitVec 32 := Scalar.addi v3947 v3948
  v3949.toNat
def k0_cond249 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4036 : BitVec 32 := 2#32
  let v3368 : BitVec 1 := Scalar.cmpi .sge v5 c2_i32_4036
  let v3377 : BitVec 32 := Scalar.extui v3368
  let c0_i32_4051 : BitVec 32 := 0#32
  let v3378 : BitVec 1 := Scalar.cmpi .ne v3377 c0_i32_4051
  v3378

def k0_off244 (d0 : Dev nD) : Fin 2 → Nat :=
  let c4_i32_4041 : BitVec 32 := 4#32
  let c3_i32_4040 : BitVec 32 := 3#32
  let c0_i32_4039 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4037 : BitVec 32 := 1#32
  let v3369 : BitVec 32 := Scalar.subi v5 c1_i32_4037
  let c1_i32_4038 : BitVec 32 := 1#32
  let v3370 : BitVec 32 := Scalar.subi v3369 c1_i32_4038
  let v3371 : BitVec 32 := Scalar.maxsi c0_i32_4039 v3370
  let v3372 : BitVec 32 := Scalar.minsi c3_i32_4040 v3371
  let v3373 : BitVec 32 := Scalar.muli c4_i32_4041 v3372
  let c3_i32_4042 : BitVec 32 := 3#32
  let v3374 : BitVec 32 := Scalar.addi v3373 c3_i32_4042
  let c256_i32_4043 : BitVec 32 := 256#32
  let v3375 : BitVec 32 := Scalar.muli v3374 c256_i32_4043
  let c0_i32_5494 : BitVec 32 := 0#32
  ![v3375.toNat, 0]
def k0_cond250 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4052 : BitVec 32 := 1#32
  let v3379 : BitVec 1 := Scalar.cmpi .sle v5 c1_i32_4052
  let v3388 : BitVec 32 := Scalar.extui v3379
  let c0_i32_4067 : BitVec 32 := 0#32
  let v3389 : BitVec 1 := Scalar.cmpi .ne v3388 c0_i32_4067
  v3389

def k0_off245 (d0 : Dev nD) : Fin 2 → Nat :=
  let c4_i32_4057 : BitVec 32 := 4#32
  let c3_i32_4056 : BitVec 32 := 3#32
  let c0_i32_4055 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4053 : BitVec 32 := 1#32
  let v3380 : BitVec 32 := Scalar.addi v5 c1_i32_4053
  let c1_i32_4054 : BitVec 32 := 1#32
  let v3381 : BitVec 32 := Scalar.addi v3380 c1_i32_4054
  let v3382 : BitVec 32 := Scalar.maxsi c0_i32_4055 v3381
  let v3383 : BitVec 32 := Scalar.minsi c3_i32_4056 v3382
  let v3384 : BitVec 32 := Scalar.muli c4_i32_4057 v3383
  let c3_i32_4058 : BitVec 32 := 3#32
  let v3385 : BitVec 32 := Scalar.addi v3384 c3_i32_4058
  let c256_i32_4059 : BitVec 32 := 256#32
  let v3386 : BitVec 32 := Scalar.muli v3385 c256_i32_4059
  let c0_i32_5494 : BitVec 32 := 0#32
  ![v3386.toNat, 0]
def k0_cond251 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4068 : BitVec 32 := 2#32
  let v3390 : BitVec 1 := Scalar.cmpi .sge v5 c2_i32_4068
  let c3_i32_4069 : BitVec 32 := 3#32
  let v3391 : BitVec 1 := Scalar.cmpi .slt v5 c3_i32_4069
  let v3392 : BitVec 1 := Scalar.andi v3390 v3391
  let v3400 : BitVec 32 := Scalar.extui v3392
  let c0_i32_4083 : BitVec 32 := 0#32
  let v3401 : BitVec 1 := Scalar.cmpi .ne v3400 c0_i32_4083
  v3401

def k0_off246 (d0 : Dev nD) : Fin 2 → Nat :=
  let c4_i32_4073 : BitVec 32 := 4#32
  let c3_i32_4072 : BitVec 32 := 3#32
  let c0_i32_4071 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4070 : BitVec 32 := 2#32
  let v3393 : BitVec 32 := Scalar.subi v5 c2_i32_4070
  let v3394 : BitVec 32 := Scalar.maxsi c0_i32_4071 v3393
  let v3395 : BitVec 32 := Scalar.minsi c3_i32_4072 v3394
  let v3396 : BitVec 32 := Scalar.muli c4_i32_4073 v3395
  let c3_i32_4074 : BitVec 32 := 3#32
  let v3397 : BitVec 32 := Scalar.addi v3396 c3_i32_4074
  let c256_i32_4075 : BitVec 32 := 256#32
  let v3398 : BitVec 32 := Scalar.muli v3397 c256_i32_4075
  let c0_i32_5494 : BitVec 32 := 0#32
  ![v3398.toNat, 0]
def k0_dev160 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4076 : BitVec 32 := 1#32
  let v3399 : BitVec 32 := Scalar.addi v5 c1_i32_4076
  let c4_i32_5492 : BitVec 32 := 4#32
  let v3946 : BitVec 32 := Scalar.muli v3399 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond252 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4084 : BitVec 32 := 1#32
  let v3402 : BitVec 1 := Scalar.cmpi .sle v5 c1_i32_4084
  let c0_i32_4085 : BitVec 32 := 0#32
  let v3403 : BitVec 1 := Scalar.cmpi .sgt v5 c0_i32_4085
  let v3404 : BitVec 1 := Scalar.andi v3402 v3403
  let v3412 : BitVec 32 := Scalar.extui v3404
  let c0_i32_4099 : BitVec 32 := 0#32
  let v3413 : BitVec 1 := Scalar.cmpi .ne v3412 c0_i32_4099
  v3413

def k0_off247 (d0 : Dev nD) : Fin 2 → Nat :=
  let c4_i32_4089 : BitVec 32 := 4#32
  let c3_i32_4088 : BitVec 32 := 3#32
  let c0_i32_4087 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4086 : BitVec 32 := 2#32
  let v3405 : BitVec 32 := Scalar.addi v5 c2_i32_4086
  let v3406 : BitVec 32 := Scalar.maxsi c0_i32_4087 v3405
  let v3407 : BitVec 32 := Scalar.minsi c3_i32_4088 v3406
  let v3408 : BitVec 32 := Scalar.muli c4_i32_4089 v3407
  let c3_i32_4090 : BitVec 32 := 3#32
  let v3409 : BitVec 32 := Scalar.addi v3408 c3_i32_4090
  let c256_i32_4091 : BitVec 32 := 256#32
  let v3410 : BitVec 32 := Scalar.muli v3409 c256_i32_4091
  let c0_i32_5494 : BitVec 32 := 0#32
  ![v3410.toNat, 0]
def k0_dev161 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_4092 : BitVec 32 := 4294967295#32
  let v3411 : BitVec 32 := Scalar.addi v5 c_m1_i32_4092
  let c4_i32_5492 : BitVec 32 := 4#32
  let v3946 : BitVec 32 := Scalar.muli v3411 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v3948 : BitVec 32 := Scalar.muli v8 c1_i32_5493
  let v3949 : BitVec 32 := Scalar.addi v3947 v3948
  v3949.toNat
def k0_cond253 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4100 : BitVec 32 := 2#32
  let v3414 : BitVec 1 := Scalar.cmpi .sge v8 c2_i32_4100
  let v3422 : BitVec 32 := Scalar.extui v3414
  let c0_i32_4114 : BitVec 32 := 0#32
  let v3423 : BitVec 1 := Scalar.cmpi .ne v3422 c0_i32_4114
  v3423

def k0_off248 (d0 : Dev nD) : Fin 2 → Nat :=
  let c12_i32_4105 : BitVec 32 := 12#32
  let c3_i32_4104 : BitVec 32 := 3#32
  let c0_i32_4103 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4101 : BitVec 32 := 1#32
  let v3415 : BitVec 32 := Scalar.subi v8 c1_i32_4101
  let c1_i32_4102 : BitVec 32 := 1#32
  let v3416 : BitVec 32 := Scalar.subi v3415 c1_i32_4102
  let v3417 : BitVec 32 := Scalar.maxsi c0_i32_4103 v3416
  let v3418 : BitVec 32 := Scalar.minsi c3_i32_4104 v3417
  let v3419 : BitVec 32 := Scalar.addi c12_i32_4105 v3418
  let c256_i32_4106 : BitVec 32 := 256#32
  let v3420 : BitVec 32 := Scalar.muli v3419 c256_i32_4106
  let c2048_i32 : BitVec 32 := 2048#32
  ![v3420.toNat, 2048]
def k0_cond254 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4115 : BitVec 32 := 1#32
  let v3424 : BitVec 1 := Scalar.cmpi .sle v8 c1_i32_4115
  let v3432 : BitVec 32 := Scalar.extui v3424
  let c0_i32_4129 : BitVec 32 := 0#32
  let v3433 : BitVec 1 := Scalar.cmpi .ne v3432 c0_i32_4129
  v3433

def k0_off249 (d0 : Dev nD) : Fin 2 → Nat :=
  let c12_i32_4120 : BitVec 32 := 12#32
  let c3_i32_4119 : BitVec 32 := 3#32
  let c0_i32_4118 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4116 : BitVec 32 := 1#32
  let v3425 : BitVec 32 := Scalar.addi v8 c1_i32_4116
  let c1_i32_4117 : BitVec 32 := 1#32
  let v3426 : BitVec 32 := Scalar.addi v3425 c1_i32_4117
  let v3427 : BitVec 32 := Scalar.maxsi c0_i32_4118 v3426
  let v3428 : BitVec 32 := Scalar.minsi c3_i32_4119 v3427
  let v3429 : BitVec 32 := Scalar.addi c12_i32_4120 v3428
  let c256_i32_4121 : BitVec 32 := 256#32
  let v3430 : BitVec 32 := Scalar.muli v3429 c256_i32_4121
  let c2048_i32 : BitVec 32 := 2048#32
  ![v3430.toNat, 2048]
def k0_cond255 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4130 : BitVec 32 := 2#32
  let v3434 : BitVec 1 := Scalar.cmpi .sge v8 c2_i32_4130
  let c3_i32_4131 : BitVec 32 := 3#32
  let v3435 : BitVec 1 := Scalar.cmpi .slt v8 c3_i32_4131
  let v3436 : BitVec 1 := Scalar.andi v3434 v3435
  let v3443 : BitVec 32 := Scalar.extui v3436
  let c0_i32_4144 : BitVec 32 := 0#32
  let v3444 : BitVec 1 := Scalar.cmpi .ne v3443 c0_i32_4144
  v3444

def k0_off250 (d0 : Dev nD) : Fin 2 → Nat :=
  let c12_i32_4135 : BitVec 32 := 12#32
  let c3_i32_4134 : BitVec 32 := 3#32
  let c0_i32_4133 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4132 : BitVec 32 := 2#32
  let v3437 : BitVec 32 := Scalar.subi v8 c2_i32_4132
  let v3438 : BitVec 32 := Scalar.maxsi c0_i32_4133 v3437
  let v3439 : BitVec 32 := Scalar.minsi c3_i32_4134 v3438
  let v3440 : BitVec 32 := Scalar.addi c12_i32_4135 v3439
  let c256_i32_4136 : BitVec 32 := 256#32
  let v3441 : BitVec 32 := Scalar.muli v3440 c256_i32_4136
  let c2048_i32 : BitVec 32 := 2048#32
  ![v3441.toNat, 2048]
def k0_dev162 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4137 : BitVec 32 := 1#32
  let v3442 : BitVec 32 := Scalar.addi v8 c1_i32_4137
  let c1_i32_5493 : BitVec 32 := 1#32
  let v3948 : BitVec 32 := Scalar.muli v3442 c1_i32_5493
  let v3949 : BitVec 32 := Scalar.addi v3947 v3948
  v3949.toNat
def k0_cond256 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4145 : BitVec 32 := 1#32
  let v3445 : BitVec 1 := Scalar.cmpi .sle v8 c1_i32_4145
  let c0_i32_4146 : BitVec 32 := 0#32
  let v3446 : BitVec 1 := Scalar.cmpi .sgt v8 c0_i32_4146
  let v3447 : BitVec 1 := Scalar.andi v3445 v3446
  let v3454 : BitVec 32 := Scalar.extui v3447
  let c0_i32_4159 : BitVec 32 := 0#32
  let v3455 : BitVec 1 := Scalar.cmpi .ne v3454 c0_i32_4159
  v3455

def k0_off251 (d0 : Dev nD) : Fin 2 → Nat :=
  let c12_i32_4150 : BitVec 32 := 12#32
  let c3_i32_4149 : BitVec 32 := 3#32
  let c0_i32_4148 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4147 : BitVec 32 := 2#32
  let v3448 : BitVec 32 := Scalar.addi v8 c2_i32_4147
  let v3449 : BitVec 32 := Scalar.maxsi c0_i32_4148 v3448
  let v3450 : BitVec 32 := Scalar.minsi c3_i32_4149 v3449
  let v3451 : BitVec 32 := Scalar.addi c12_i32_4150 v3450
  let c256_i32_4151 : BitVec 32 := 256#32
  let v3452 : BitVec 32 := Scalar.muli v3451 c256_i32_4151
  let c2048_i32 : BitVec 32 := 2048#32
  ![v3452.toNat, 2048]
def k0_dev163 (d0 : Dev nD) : Nat :=
  let c0_i32_5491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5490 : BitVec 32 := 16#32
  let v3944 : BitVec 32 := Scalar.muli v2 c16_i32_5490
  let v3945 : BitVec 32 := Scalar.addi c0_i32_5491 v3944
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5492 : BitVec 32 := 4#32
  let v3946 : BitVec 32 := Scalar.muli v5 c4_i32_5492
  let v3947 : BitVec 32 := Scalar.addi v3945 v3946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_4152 : BitVec 32 := 4294967295#32
  let v3453 : BitVec 32 := Scalar.addi v8 c_m1_i32_4152
  let c1_i32_5493 : BitVec 32 := 1#32
  let v3948 : BitVec 32 := Scalar.muli v3453 c1_i32_5493
  let v3949 : BitVec 32 := Scalar.addi v3947 v3948
  v3949.toNat
def k0_cond257 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_4160 : BitVec 32 := 3#32
  let v3456 : BitVec 1 := Scalar.cmpi .sge v5 c3_i32_4160
  let v3465 : BitVec 32 := Scalar.extui v3456
  let c0_i32_4175 : BitVec 32 := 0#32
  let v3466 : BitVec 1 := Scalar.cmpi .ne v3465 c0_i32_4175
  v3466

def k0_off252 (d0 : Dev nD) : Fin 2 → Nat :=
  let c4_i32_4165 : BitVec 32 := 4#32
  let c3_i32_4164 : BitVec 32 := 3#32
  let c0_i32_4163 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4161 : BitVec 32 := 1#32
  let v3457 : BitVec 32 := Scalar.subi v5 c1_i32_4161
  let c2_i32_4162 : BitVec 32 := 2#32
  let v3458 : BitVec 32 := Scalar.subi v3457 c2_i32_4162
  let v3459 : BitVec 32 := Scalar.maxsi c0_i32_4163 v3458
  let v3460 : BitVec 32 := Scalar.minsi c3_i32_4164 v3459
  let v3461 : BitVec 32 := Scalar.muli c4_i32_4165 v3460
  let c0_i32_4166 : BitVec 32 := 0#32
  let v3462 : BitVec 32 := Scalar.addi v3461 c0_i32_4166
  let c256_i32_4167 : BitVec 32 := 256#32
  let v3463 : BitVec 32 := Scalar.muli v3462 c256_i32_4167
  let c0_i32_5494 : BitVec 32 := 0#32
  ![v3463.toNat, 0]
def k0_cond258 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4176 : BitVec 32 := 0#32
  let v3467 : BitVec 1 := Scalar.cmpi .sle v5 c0_i32_4176
  let v3476 : BitVec 32 := Scalar.extui v3467
  let c0_i32_4191 : BitVec 32 := 0#32
  let v3477 : BitVec 1 := Scalar.cmpi .ne v3476 c0_i32_4191
  v3477

def k0_off253 (d0 : Dev nD) : Fin 2 → Nat :=
  let c4_i32_4181 : BitVec 32 := 4#32
  let c3_i32_4180 : BitVec 32 := 3#32
  let c0_i32_4179 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4177 : BitVec 32 := 1#32
  let v3468 : BitVec 32 := Scalar.addi v5 c1_i32_4177
  let c2_i32_4178 : BitVec 32 := 2#32
  let v3469 : BitVec 32 := Scalar.addi v3468 c2_i32_4178
  let v3470 : BitVec 32 := Scalar.maxsi c0_i32_4179 v3469
  let v3471 : BitVec 32 := Scalar.minsi c3_i32_4180 v3470
  let v3472 : BitVec 32 := Scalar.muli c4_i32_4181 v3471
  let c0_i32_4182 : BitVec 32 := 0#32
  let v3473 : BitVec 32 := Scalar.addi v3472 c0_i32_4182
  let c256_i32_4183 : BitVec 32 := 256#32
  let v3474 : BitVec 32 := Scalar.muli v3473 c256_i32_4183
  let c0_i32_5494 : BitVec 32 := 0#32
  ![v3474.toNat, 0]
def k0_cond259 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_4192 : BitVec 32 := 3#32
  let v3478 : BitVec 1 := Scalar.cmpi .sge v8 c3_i32_4192
  let v3486 : BitVec 32 := Scalar.extui v3478
  let c0_i32_4206 : BitVec 32 := 0#32
  let v3487 : BitVec 1 := Scalar.cmpi .ne v3486 c0_i32_4206
  v3487

def k0_off254 (d0 : Dev nD) : Fin 2 → Nat :=
  let c0_i32_4197 : BitVec 32 := 0#32
  let c3_i32_4196 : BitVec 32 := 3#32
  let c0_i32_4195 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4193 : BitVec 32 := 1#32
  let v3479 : BitVec 32 := Scalar.subi v8 c1_i32_4193
  let c2_i32_4194 : BitVec 32 := 2#32
  let v3480 : BitVec 32 := Scalar.subi v3479 c2_i32_4194
  let v3481 : BitVec 32 := Scalar.maxsi c0_i32_4195 v3480
  let v3482 : BitVec 32 := Scalar.minsi c3_i32_4196 v3481
  let v3483 : BitVec 32 := Scalar.addi c0_i32_4197 v3482
  let c256_i32_4198 : BitVec 32 := 256#32
  let v3484 : BitVec 32 := Scalar.muli v3483 c256_i32_4198
  let c2048_i32 : BitVec 32 := 2048#32
  ![v3484.toNat, 2048]
def k0_cond260 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4207 : BitVec 32 := 0#32
  let v3488 : BitVec 1 := Scalar.cmpi .sle v8 c0_i32_4207
  let v3496 : BitVec 32 := Scalar.extui v3488
  let c0_i32_4221 : BitVec 32 := 0#32
  let v3497 : BitVec 1 := Scalar.cmpi .ne v3496 c0_i32_4221
  v3497

def k0_off255 (d0 : Dev nD) : Fin 2 → Nat :=
  let c0_i32_4212 : BitVec 32 := 0#32
  let c3_i32_4211 : BitVec 32 := 3#32
  let c0_i32_4210 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4208 : BitVec 32 := 1#32
  let v3489 : BitVec 32 := Scalar.addi v8 c1_i32_4208
  let c2_i32_4209 : BitVec 32 := 2#32
  let v3490 : BitVec 32 := Scalar.addi v3489 c2_i32_4209
  let v3491 : BitVec 32 := Scalar.maxsi c0_i32_4210 v3490
  let v3492 : BitVec 32 := Scalar.minsi c3_i32_4211 v3491
  let v3493 : BitVec 32 := Scalar.addi c0_i32_4212 v3492
  let c256_i32_4213 : BitVec 32 := 256#32
  let v3494 : BitVec 32 := Scalar.muli v3493 c256_i32_4213
  let c2048_i32 : BitVec 32 := 2048#32
  ![v3494.toNat, 2048]
def k0_cond261 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_4222 : BitVec 32 := 3#32
  let v3498 : BitVec 1 := Scalar.cmpi .sge v5 c3_i32_4222
  let v3507 : BitVec 32 := Scalar.extui v3498
  let c0_i32_4237 : BitVec 32 := 0#32
  let v3508 : BitVec 1 := Scalar.cmpi .ne v3507 c0_i32_4237
  v3508

def k0_off256 (d0 : Dev nD) : Fin 2 → Nat :=
  let c4_i32_4227 : BitVec 32 := 4#32
  let c3_i32_4226 : BitVec 32 := 3#32
  let c0_i32_4225 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4223 : BitVec 32 := 1#32
  let v3499 : BitVec 32 := Scalar.subi v5 c1_i32_4223
  let c2_i32_4224 : BitVec 32 := 2#32
  let v3500 : BitVec 32 := Scalar.subi v3499 c2_i32_4224
  let v3501 : BitVec 32 := Scalar.maxsi c0_i32_4225 v3500
  let v3502 : BitVec 32 := Scalar.minsi c3_i32_4226 v3501
  let v3503 : BitVec 32 := Scalar.muli c4_i32_4227 v3502
  let c1_i32_4228 : BitVec 32 := 1#32
  let v3504 : BitVec 32 := Scalar.addi v3503 c1_i32_4228
  let c256_i32_4229 : BitVec 32 := 256#32
  let v3505 : BitVec 32 := Scalar.muli v3504 c256_i32_4229
  let c0_i32_5494 : BitVec 32 := 0#32
  ![v3505.toNat, 0]
def k0_cond262 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4238 : BitVec 32 := 0#32
  let v3509 : BitVec 1 := Scalar.cmpi .sle v5 c0_i32_4238
  let v3518 : BitVec 32 := Scalar.extui v3509
  let c0_i32_4253 : BitVec 32 := 0#32
  let v3519 : BitVec 1 := Scalar.cmpi .ne v3518 c0_i32_4253
  v3519

def k0_off257 (d0 : Dev nD) : Fin 2 → Nat :=
  let c4_i32_4243 : BitVec 32 := 4#32
  let c3_i32_4242 : BitVec 32 := 3#32
  let c0_i32_4241 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4239 : BitVec 32 := 1#32
  let v3510 : BitVec 32 := Scalar.addi v5 c1_i32_4239
  let c2_i32_4240 : BitVec 32 := 2#32
  let v3511 : BitVec 32 := Scalar.addi v3510 c2_i32_4240
  let v3512 : BitVec 32 := Scalar.maxsi c0_i32_4241 v3511
  let v3513 : BitVec 32 := Scalar.minsi c3_i32_4242 v3512
  let v3514 : BitVec 32 := Scalar.muli c4_i32_4243 v3513
  let c1_i32_4244 : BitVec 32 := 1#32
  let v3515 : BitVec 32 := Scalar.addi v3514 c1_i32_4244
  let c256_i32_4245 : BitVec 32 := 256#32
  let v3516 : BitVec 32 := Scalar.muli v3515 c256_i32_4245
  let c0_i32_5494 : BitVec 32 := 0#32
  ![v3516.toNat, 0]
def k0_cond263 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_4254 : BitVec 32 := 3#32
  let v3520 : BitVec 1 := Scalar.cmpi .sge v8 c3_i32_4254
  let v3528 : BitVec 32 := Scalar.extui v3520
  let c0_i32_4268 : BitVec 32 := 0#32
  let v3529 : BitVec 1 := Scalar.cmpi .ne v3528 c0_i32_4268
  v3529

def k0_off258 (d0 : Dev nD) : Fin 2 → Nat :=
  let c4_i32_4259 : BitVec 32 := 4#32
  let c3_i32_4258 : BitVec 32 := 3#32
  let c0_i32_4257 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4255 : BitVec 32 := 1#32
  let v3521 : BitVec 32 := Scalar.subi v8 c1_i32_4255
  let c2_i32_4256 : BitVec 32 := 2#32
  let v3522 : BitVec 32 := Scalar.subi v3521 c2_i32_4256
  let v3523 : BitVec 32 := Scalar.maxsi c0_i32_4257 v3522
  let v3524 : BitVec 32 := Scalar.minsi c3_i32_4258 v3523
  let v3525 : BitVec 32 := Scalar.addi c4_i32_4259 v3524
  let c256_i32_4260 : BitVec 32 := 256#32
  let v3526 : BitVec 32 := Scalar.muli v3525 c256_i32_4260
  let c2048_i32 : BitVec 32 := 2048#32
  ![v3526.toNat, 2048]
def k0_cond264 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4269 : BitVec 32 := 0#32
  let v3530 : BitVec 1 := Scalar.cmpi .sle v8 c0_i32_4269
  let v3538 : BitVec 32 := Scalar.extui v3530
  let c0_i32_4283 : BitVec 32 := 0#32
  let v3539 : BitVec 1 := Scalar.cmpi .ne v3538 c0_i32_4283
  v3539

def k0_off259 (d0 : Dev nD) : Fin 2 → Nat :=
  let c4_i32_4274 : BitVec 32 := 4#32
  let c3_i32_4273 : BitVec 32 := 3#32
  let c0_i32_4272 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4270 : BitVec 32 := 1#32
  let v3531 : BitVec 32 := Scalar.addi v8 c1_i32_4270
  let c2_i32_4271 : BitVec 32 := 2#32
  let v3532 : BitVec 32 := Scalar.addi v3531 c2_i32_4271
  let v3533 : BitVec 32 := Scalar.maxsi c0_i32_4272 v3532
  let v3534 : BitVec 32 := Scalar.minsi c3_i32_4273 v3533
  let v3535 : BitVec 32 := Scalar.addi c4_i32_4274 v3534
  let c256_i32_4275 : BitVec 32 := 256#32
  let v3536 : BitVec 32 := Scalar.muli v3535 c256_i32_4275
  let c2048_i32 : BitVec 32 := 2048#32
  ![v3536.toNat, 2048]
def k0_cond265 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_4284 : BitVec 32 := 3#32
  let v3540 : BitVec 1 := Scalar.cmpi .sge v5 c3_i32_4284
  let v3549 : BitVec 32 := Scalar.extui v3540
  let c0_i32_4299 : BitVec 32 := 0#32
  let v3550 : BitVec 1 := Scalar.cmpi .ne v3549 c0_i32_4299
  v3550

def k0_off260 (d0 : Dev nD) : Fin 2 → Nat :=
  let c4_i32_4289 : BitVec 32 := 4#32
  let c3_i32_4288 : BitVec 32 := 3#32
  let c0_i32_4287 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4285 : BitVec 32 := 1#32
  let v3541 : BitVec 32 := Scalar.subi v5 c1_i32_4285
  let c2_i32_4286 : BitVec 32 := 2#32
  let v3542 : BitVec 32 := Scalar.subi v3541 c2_i32_4286
  let v3543 : BitVec 32 := Scalar.maxsi c0_i32_4287 v3542
  let v3544 : BitVec 32 := Scalar.minsi c3_i32_4288 v3543
  let v3545 : BitVec 32 := Scalar.muli c4_i32_4289 v3544
  let c2_i32_4290 : BitVec 32 := 2#32
  let v3546 : BitVec 32 := Scalar.addi v3545 c2_i32_4290
  let c256_i32_4291 : BitVec 32 := 256#32
  let v3547 : BitVec 32 := Scalar.muli v3546 c256_i32_4291
  let c0_i32_5494 : BitVec 32 := 0#32
  ![v3547.toNat, 0]
def k0_cond266 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4300 : BitVec 32 := 0#32
  let v3551 : BitVec 1 := Scalar.cmpi .sle v5 c0_i32_4300
  let v3560 : BitVec 32 := Scalar.extui v3551
  let c0_i32_4315 : BitVec 32 := 0#32
  let v3561 : BitVec 1 := Scalar.cmpi .ne v3560 c0_i32_4315
  v3561

def k0_off261 (d0 : Dev nD) : Fin 2 → Nat :=
  let c4_i32_4305 : BitVec 32 := 4#32
  let c3_i32_4304 : BitVec 32 := 3#32
  let c0_i32_4303 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4301 : BitVec 32 := 1#32
  let v3552 : BitVec 32 := Scalar.addi v5 c1_i32_4301
  let c2_i32_4302 : BitVec 32 := 2#32
  let v3553 : BitVec 32 := Scalar.addi v3552 c2_i32_4302
  let v3554 : BitVec 32 := Scalar.maxsi c0_i32_4303 v3553
  let v3555 : BitVec 32 := Scalar.minsi c3_i32_4304 v3554
  let v3556 : BitVec 32 := Scalar.muli c4_i32_4305 v3555
  let c2_i32_4306 : BitVec 32 := 2#32
  let v3557 : BitVec 32 := Scalar.addi v3556 c2_i32_4306
  let c256_i32_4307 : BitVec 32 := 256#32
  let v3558 : BitVec 32 := Scalar.muli v3557 c256_i32_4307
  let c0_i32_5494 : BitVec 32 := 0#32
  ![v3558.toNat, 0]
def k0_cond267 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_4316 : BitVec 32 := 3#32
  let v3562 : BitVec 1 := Scalar.cmpi .sge v8 c3_i32_4316
  let v3570 : BitVec 32 := Scalar.extui v3562
  let c0_i32_4330 : BitVec 32 := 0#32
  let v3571 : BitVec 1 := Scalar.cmpi .ne v3570 c0_i32_4330
  v3571

def k0_off262 (d0 : Dev nD) : Fin 2 → Nat :=
  let c8_i32_4321 : BitVec 32 := 8#32
  let c3_i32_4320 : BitVec 32 := 3#32
  let c0_i32_4319 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4317 : BitVec 32 := 1#32
  let v3563 : BitVec 32 := Scalar.subi v8 c1_i32_4317
  let c2_i32_4318 : BitVec 32 := 2#32
  let v3564 : BitVec 32 := Scalar.subi v3563 c2_i32_4318
  let v3565 : BitVec 32 := Scalar.maxsi c0_i32_4319 v3564
  let v3566 : BitVec 32 := Scalar.minsi c3_i32_4320 v3565
  let v3567 : BitVec 32 := Scalar.addi c8_i32_4321 v3566
  let c256_i32_4322 : BitVec 32 := 256#32
  let v3568 : BitVec 32 := Scalar.muli v3567 c256_i32_4322
  let c2048_i32 : BitVec 32 := 2048#32
  ![v3568.toNat, 2048]
def k0_cond268 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4331 : BitVec 32 := 0#32
  let v3572 : BitVec 1 := Scalar.cmpi .sle v8 c0_i32_4331
  let v3580 : BitVec 32 := Scalar.extui v3572
  let c0_i32_4345 : BitVec 32 := 0#32
  let v3581 : BitVec 1 := Scalar.cmpi .ne v3580 c0_i32_4345
  v3581

def k0_off263 (d0 : Dev nD) : Fin 2 → Nat :=
  let c8_i32_4336 : BitVec 32 := 8#32
  let c3_i32_4335 : BitVec 32 := 3#32
  let c0_i32_4334 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4332 : BitVec 32 := 1#32
  let v3573 : BitVec 32 := Scalar.addi v8 c1_i32_4332
  let c2_i32_4333 : BitVec 32 := 2#32
  let v3574 : BitVec 32 := Scalar.addi v3573 c2_i32_4333
  let v3575 : BitVec 32 := Scalar.maxsi c0_i32_4334 v3574
  let v3576 : BitVec 32 := Scalar.minsi c3_i32_4335 v3575
  let v3577 : BitVec 32 := Scalar.addi c8_i32_4336 v3576
  let c256_i32_4337 : BitVec 32 := 256#32
  let v3578 : BitVec 32 := Scalar.muli v3577 c256_i32_4337
  let c2048_i32 : BitVec 32 := 2048#32
  ![v3578.toNat, 2048]
def k0_cond269 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_4346 : BitVec 32 := 3#32
  let v3582 : BitVec 1 := Scalar.cmpi .sge v5 c3_i32_4346
  let v3591 : BitVec 32 := Scalar.extui v3582
  let c0_i32_4361 : BitVec 32 := 0#32
  let v3592 : BitVec 1 := Scalar.cmpi .ne v3591 c0_i32_4361
  v3592

def k0_off264 (d0 : Dev nD) : Fin 2 → Nat :=
  let c4_i32_4351 : BitVec 32 := 4#32
  let c3_i32_4350 : BitVec 32 := 3#32
  let c0_i32_4349 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4347 : BitVec 32 := 1#32
  let v3583 : BitVec 32 := Scalar.subi v5 c1_i32_4347
  let c2_i32_4348 : BitVec 32 := 2#32
  let v3584 : BitVec 32 := Scalar.subi v3583 c2_i32_4348
  let v3585 : BitVec 32 := Scalar.maxsi c0_i32_4349 v3584
  let v3586 : BitVec 32 := Scalar.minsi c3_i32_4350 v3585
  let v3587 : BitVec 32 := Scalar.muli c4_i32_4351 v3586
  let c3_i32_4352 : BitVec 32 := 3#32
  let v3588 : BitVec 32 := Scalar.addi v3587 c3_i32_4352
  let c256_i32_4353 : BitVec 32 := 256#32
  let v3589 : BitVec 32 := Scalar.muli v3588 c256_i32_4353
  let c0_i32_5494 : BitVec 32 := 0#32
  ![v3589.toNat, 0]
def k0_cond270 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4362 : BitVec 32 := 0#32
  let v3593 : BitVec 1 := Scalar.cmpi .sle v5 c0_i32_4362
  let v3602 : BitVec 32 := Scalar.extui v3593
  let c0_i32_4377 : BitVec 32 := 0#32
  let v3603 : BitVec 1 := Scalar.cmpi .ne v3602 c0_i32_4377
  v3603

def k0_off265 (d0 : Dev nD) : Fin 2 → Nat :=
  let c4_i32_4367 : BitVec 32 := 4#32
  let c3_i32_4366 : BitVec 32 := 3#32
  let c0_i32_4365 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4363 : BitVec 32 := 1#32
  let v3594 : BitVec 32 := Scalar.addi v5 c1_i32_4363
  let c2_i32_4364 : BitVec 32 := 2#32
  let v3595 : BitVec 32 := Scalar.addi v3594 c2_i32_4364
  let v3596 : BitVec 32 := Scalar.maxsi c0_i32_4365 v3595
  let v3597 : BitVec 32 := Scalar.minsi c3_i32_4366 v3596
  let v3598 : BitVec 32 := Scalar.muli c4_i32_4367 v3597
  let c3_i32_4368 : BitVec 32 := 3#32
  let v3599 : BitVec 32 := Scalar.addi v3598 c3_i32_4368
  let c256_i32_4369 : BitVec 32 := 256#32
  let v3600 : BitVec 32 := Scalar.muli v3599 c256_i32_4369
  let c0_i32_5494 : BitVec 32 := 0#32
  ![v3600.toNat, 0]
def k0_cond271 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_4378 : BitVec 32 := 3#32
  let v3604 : BitVec 1 := Scalar.cmpi .sge v8 c3_i32_4378
  let v3612 : BitVec 32 := Scalar.extui v3604
  let c0_i32_4392 : BitVec 32 := 0#32
  let v3613 : BitVec 1 := Scalar.cmpi .ne v3612 c0_i32_4392
  v3613

def k0_off266 (d0 : Dev nD) : Fin 2 → Nat :=
  let c12_i32_4383 : BitVec 32 := 12#32
  let c3_i32_4382 : BitVec 32 := 3#32
  let c0_i32_4381 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4379 : BitVec 32 := 1#32
  let v3605 : BitVec 32 := Scalar.subi v8 c1_i32_4379
  let c2_i32_4380 : BitVec 32 := 2#32
  let v3606 : BitVec 32 := Scalar.subi v3605 c2_i32_4380
  let v3607 : BitVec 32 := Scalar.maxsi c0_i32_4381 v3606
  let v3608 : BitVec 32 := Scalar.minsi c3_i32_4382 v3607
  let v3609 : BitVec 32 := Scalar.addi c12_i32_4383 v3608
  let c256_i32_4384 : BitVec 32 := 256#32
  let v3610 : BitVec 32 := Scalar.muli v3609 c256_i32_4384
  let c2048_i32 : BitVec 32 := 2048#32
  ![v3610.toNat, 2048]
def k0_cond272 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4393 : BitVec 32 := 0#32
  let v3614 : BitVec 1 := Scalar.cmpi .sle v8 c0_i32_4393
  let v3622 : BitVec 32 := Scalar.extui v3614
  let c0_i32_4407 : BitVec 32 := 0#32
  let v3623 : BitVec 1 := Scalar.cmpi .ne v3622 c0_i32_4407
  v3623

def k0_off267 (d0 : Dev nD) : Fin 2 → Nat :=
  let c12_i32_4398 : BitVec 32 := 12#32
  let c3_i32_4397 : BitVec 32 := 3#32
  let c0_i32_4396 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4394 : BitVec 32 := 1#32
  let v3615 : BitVec 32 := Scalar.addi v8 c1_i32_4394
  let c2_i32_4395 : BitVec 32 := 2#32
  let v3616 : BitVec 32 := Scalar.addi v3615 c2_i32_4395
  let v3617 : BitVec 32 := Scalar.maxsi c0_i32_4396 v3616
  let v3618 : BitVec 32 := Scalar.minsi c3_i32_4397 v3617
  let v3619 : BitVec 32 := Scalar.addi c12_i32_4398 v3618
  let c256_i32_4399 : BitVec 32 := 256#32
  let v3620 : BitVec 32 := Scalar.muli v3619 c256_i32_4399
  let c2048_i32 : BitVec 32 := 2048#32
  ![v3620.toNat, 2048]
def k0_cond273 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_99 : BitVec 32 := 0#32
  let v156 : BitVec 1 := Scalar.cmpi .sge v8 c0_i32_99
  let c3_i32_100 : BitVec 32 := 3#32
  let v157 : BitVec 1 := Scalar.cmpi .slt v8 c3_i32_100
  let v158 : BitVec 1 := Scalar.andi v156 v157
  let v3632 : BitVec 32 := Scalar.extui v158
  let c0_i32_4426 : BitVec 32 := 0#32
  let v3633 : BitVec 1 := Scalar.cmpi .ne v3632 c0_i32_4426
  v3633

def k0_off268 (d0 : Dev nD) : Fin 2 → Nat :=
  let c4_i32_104 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v162 : BitVec 32 := Scalar.muli c4_i32_104 v5
  let c3_i32_103 : BitVec 32 := 3#32
  let c0_i32_102 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_101 : BitVec 32 := 0#32
  let v159 : BitVec 32 := Scalar.subi v8 c0_i32_101
  let v160 : BitVec 32 := Scalar.maxsi c0_i32_102 v159
  let v161 : BitVec 32 := Scalar.minsi c3_i32_103 v160
  let v163 : BitVec 32 := Scalar.addi v162 v161
  let c256_i32_105 : BitVec 32 := 256#32
  let v164 : BitVec 32 := Scalar.muli v163 c256_i32_105
  let c0_i32_5491 : BitVec 32 := 0#32
  ![v164.toNat, 0]
def k0_cond274 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_112 : BitVec 32 := 3#32
  let v168 : BitVec 1 := Scalar.cmpi .sle v8 c3_i32_112
  let c0_i32_113 : BitVec 32 := 0#32
  let v169 : BitVec 1 := Scalar.cmpi .sgt v8 c0_i32_113
  let v170 : BitVec 1 := Scalar.andi v168 v169
  let v3634 : BitVec 32 := Scalar.extui v170
  let c0_i32_4431 : BitVec 32 := 0#32
  let v3635 : BitVec 1 := Scalar.cmpi .ne v3634 c0_i32_4431
  v3635

def k0_off269 (d0 : Dev nD) : Fin 2 → Nat :=
  let c4_i32_117 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v174 : BitVec 32 := Scalar.muli c4_i32_117 v5
  let c3_i32_116 : BitVec 32 := 3#32
  let c0_i32_115 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_114 : BitVec 32 := 0#32
  let v171 : BitVec 32 := Scalar.addi v8 c0_i32_114
  let v172 : BitVec 32 := Scalar.maxsi c0_i32_115 v171
  let v173 : BitVec 32 := Scalar.minsi c3_i32_116 v172
  let v175 : BitVec 32 := Scalar.addi v174 v173
  let c256_i32_118 : BitVec 32 := 256#32
  let v176 : BitVec 32 := Scalar.muli v175 c256_i32_118
  let c0_i32_5491 : BitVec 32 := 0#32
  ![v176.toNat, 0]
def k0_cond275 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_124 : BitVec 32 := 0#32
  let v180 : BitVec 1 := Scalar.cmpi .sge v5 c0_i32_124
  let c3_i32_125 : BitVec 32 := 3#32
  let v181 : BitVec 1 := Scalar.cmpi .slt v5 c3_i32_125
  let v182 : BitVec 1 := Scalar.andi v180 v181
  let v3636 : BitVec 32 := Scalar.extui v182
  let c0_i32_4436 : BitVec 32 := 0#32
  let v3637 : BitVec 1 := Scalar.cmpi .ne v3636 c0_i32_4436
  v3637

def k0_off270 (d0 : Dev nD) : Fin 2 → Nat :=
  let c4_i32_129 : BitVec 32 := 4#32
  let c3_i32_128 : BitVec 32 := 3#32
  let c0_i32_127 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_126 : BitVec 32 := 0#32
  let v183 : BitVec 32 := Scalar.subi v5 c0_i32_126
  let v184 : BitVec 32 := Scalar.maxsi c0_i32_127 v183
  let v185 : BitVec 32 := Scalar.minsi c3_i32_128 v184
  let v186 : BitVec 32 := Scalar.muli c4_i32_129 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v187 : BitVec 32 := Scalar.addi v186 v8
  let c256_i32_130 : BitVec 32 := 256#32
  let v188 : BitVec 32 := Scalar.muli v187 c256_i32_130
  let c2048_i32 : BitVec 32 := 2048#32
  ![v188.toNat, 2048]
def k0_cond276 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_137 : BitVec 32 := 3#32
  let v192 : BitVec 1 := Scalar.cmpi .sle v5 c3_i32_137
  let c0_i32_138 : BitVec 32 := 0#32
  let v193 : BitVec 1 := Scalar.cmpi .sgt v5 c0_i32_138
  let v194 : BitVec 1 := Scalar.andi v192 v193
  let v3638 : BitVec 32 := Scalar.extui v194
  let c0_i32_4441 : BitVec 32 := 0#32
  let v3639 : BitVec 1 := Scalar.cmpi .ne v3638 c0_i32_4441
  v3639

def k0_off271 (d0 : Dev nD) : Fin 2 → Nat :=
  let c4_i32_142 : BitVec 32 := 4#32
  let c3_i32_141 : BitVec 32 := 3#32
  let c0_i32_140 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_139 : BitVec 32 := 0#32
  let v195 : BitVec 32 := Scalar.addi v5 c0_i32_139
  let v196 : BitVec 32 := Scalar.maxsi c0_i32_140 v195
  let v197 : BitVec 32 := Scalar.minsi c3_i32_141 v196
  let v198 : BitVec 32 := Scalar.muli c4_i32_142 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v199 : BitVec 32 := Scalar.addi v198 v8
  let c256_i32_143 : BitVec 32 := 256#32
  let v200 : BitVec 32 := Scalar.muli v199 c256_i32_143
  let c2048_i32 : BitVec 32 := 2048#32
  ![v200.toNat, 2048]
def k0_cond277 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_151 : BitVec 32 := 0#32
  let v205 : BitVec 1 := Scalar.cmpi .sge v5 c0_i32_151
  let c3_i32_152 : BitVec 32 := 3#32
  let v206 : BitVec 1 := Scalar.cmpi .slt v5 c3_i32_152
  let v207 : BitVec 1 := Scalar.andi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_150 : BitVec 32 := 0#32
  let v204 : BitVec 1 := Scalar.cmpi .eq v8 c0_i32_150
  let v208 : BitVec 1 := Scalar.andi v207 v204
  let v3640 : BitVec 32 := Scalar.extui v208
  let c0_i32_4448 : BitVec 32 := 0#32
  let v3641 : BitVec 1 := Scalar.cmpi .ne v3640 c0_i32_4448
  v3641

def k0_off272 (d0 : Dev nD) : Fin 2 → Nat :=
  let c4_i32_156 : BitVec 32 := 4#32
  let c3_i32_155 : BitVec 32 := 3#32
  let c0_i32_154 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_153 : BitVec 32 := 0#32
  let v209 : BitVec 32 := Scalar.subi v5 c0_i32_153
  let v210 : BitVec 32 := Scalar.maxsi c0_i32_154 v209
  let v211 : BitVec 32 := Scalar.minsi c3_i32_155 v210
  let v212 : BitVec 32 := Scalar.muli c4_i32_156 v211
  let c0_i32_157 : BitVec 32 := 0#32
  let v213 : BitVec 32 := Scalar.addi v212 c0_i32_157
  let c256_i32_158 : BitVec 32 := 256#32
  let v214 : BitVec 32 := Scalar.muli v213 c256_i32_158
  let c0_i32_5491 : BitVec 32 := 0#32
  ![v214.toNat, 0]
def k0_cond278 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_167 : BitVec 32 := 3#32
  let v218 : BitVec 1 := Scalar.cmpi .sle v5 c3_i32_167
  let c0_i32_168 : BitVec 32 := 0#32
  let v219 : BitVec 1 := Scalar.cmpi .sgt v5 c0_i32_168
  let v220 : BitVec 1 := Scalar.andi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_150 : BitVec 32 := 0#32
  let v204 : BitVec 1 := Scalar.cmpi .eq v8 c0_i32_150
  let v221 : BitVec 1 := Scalar.andi v220 v204
  let v3642 : BitVec 32 := Scalar.extui v221
  let c0_i32_4455 : BitVec 32 := 0#32
  let v3643 : BitVec 1 := Scalar.cmpi .ne v3642 c0_i32_4455
  v3643

def k0_off273 (d0 : Dev nD) : Fin 2 → Nat :=
  let c4_i32_172 : BitVec 32 := 4#32
  let c3_i32_171 : BitVec 32 := 3#32
  let c0_i32_170 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_169 : BitVec 32 := 0#32
  let v222 : BitVec 32 := Scalar.addi v5 c0_i32_169
  let v223 : BitVec 32 := Scalar.maxsi c0_i32_170 v222
  let v224 : BitVec 32 := Scalar.minsi c3_i32_171 v223
  let v225 : BitVec 32 := Scalar.muli c4_i32_172 v224
  let c0_i32_173 : BitVec 32 := 0#32
  let v226 : BitVec 32 := Scalar.addi v225 c0_i32_173
  let c256_i32_174 : BitVec 32 := 256#32
  let v227 : BitVec 32 := Scalar.muli v226 c256_i32_174
  let c0_i32_5491 : BitVec 32 := 0#32
  ![v227.toNat, 0]
def k0_cond279 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_184 : BitVec 32 := 0#32
  let v232 : BitVec 1 := Scalar.cmpi .sge v8 c0_i32_184
  let c3_i32_185 : BitVec 32 := 3#32
  let v233 : BitVec 1 := Scalar.cmpi .slt v8 c3_i32_185
  let v234 : BitVec 1 := Scalar.andi v232 v233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_183 : BitVec 32 := 0#32
  let v231 : BitVec 1 := Scalar.cmpi .eq v5 c0_i32_183
  let v235 : BitVec 1 := Scalar.andi v234 v231
  let v3644 : BitVec 32 := Scalar.extui v235
  let c0_i32_4462 : BitVec 32 := 0#32
  let v3645 : BitVec 1 := Scalar.cmpi .ne v3644 c0_i32_4462
  v3645

def k0_off274 (d0 : Dev nD) : Fin 2 → Nat :=
  let c0_i32_189 : BitVec 32 := 0#32
  let c3_i32_188 : BitVec 32 := 3#32
  let c0_i32_187 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_186 : BitVec 32 := 0#32
  let v236 : BitVec 32 := Scalar.subi v8 c0_i32_186
  let v237 : BitVec 32 := Scalar.maxsi c0_i32_187 v236
  let v238 : BitVec 32 := Scalar.minsi c3_i32_188 v237
  let v239 : BitVec 32 := Scalar.addi c0_i32_189 v238
  let c256_i32_190 : BitVec 32 := 256#32
  let v240 : BitVec 32 := Scalar.muli v239 c256_i32_190
  let c2048_i32 : BitVec 32 := 2048#32
  ![v240.toNat, 2048]
def k0_cond280 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_199 : BitVec 32 := 3#32
  let v244 : BitVec 1 := Scalar.cmpi .sle v8 c3_i32_199
  let c0_i32_200 : BitVec 32 := 0#32
  let v245 : BitVec 1 := Scalar.cmpi .sgt v8 c0_i32_200
  let v246 : BitVec 1 := Scalar.andi v244 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_183 : BitVec 32 := 0#32
  let v231 : BitVec 1 := Scalar.cmpi .eq v5 c0_i32_183
  let v247 : BitVec 1 := Scalar.andi v246 v231
  let v3646 : BitVec 32 := Scalar.extui v247
  let c0_i32_4469 : BitVec 32 := 0#32
  let v3647 : BitVec 1 := Scalar.cmpi .ne v3646 c0_i32_4469
  v3647

def k0_off275 (d0 : Dev nD) : Fin 2 → Nat :=
  let c0_i32_204 : BitVec 32 := 0#32
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_201 : BitVec 32 := 0#32
  let v248 : BitVec 32 := Scalar.addi v8 c0_i32_201
  let v249 : BitVec 32 := Scalar.maxsi c0_i32_202 v248
  let v250 : BitVec 32 := Scalar.minsi c3_i32_203 v249
  let v251 : BitVec 32 := Scalar.addi c0_i32_204 v250
  let c256_i32_205 : BitVec 32 := 256#32
  let v252 : BitVec 32 := Scalar.muli v251 c256_i32_205
  let c2048_i32 : BitVec 32 := 2048#32
  ![v252.toNat, 2048]
def k0_cond281 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_215 : BitVec 32 := 0#32
  let v257 : BitVec 1 := Scalar.cmpi .sge v5 c0_i32_215
  let c3_i32_216 : BitVec 32 := 3#32
  let v258 : BitVec 1 := Scalar.cmpi .slt v5 c3_i32_216
  let v259 : BitVec 1 := Scalar.andi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v256 : BitVec 1 := Scalar.cmpi .eq v8 c1_i32_214
  let v260 : BitVec 1 := Scalar.andi v259 v256
  let v3648 : BitVec 32 := Scalar.extui v260
  let c0_i32_4476 : BitVec 32 := 0#32
  let v3649 : BitVec 1 := Scalar.cmpi .ne v3648 c0_i32_4476
  v3649

def k0_off276 (d0 : Dev nD) : Fin 2 → Nat :=
  let c4_i32_220 : BitVec 32 := 4#32
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_217 : BitVec 32 := 0#32
  let v261 : BitVec 32 := Scalar.subi v5 c0_i32_217
  let v262 : BitVec 32 := Scalar.maxsi c0_i32_218 v261
  let v263 : BitVec 32 := Scalar.minsi c3_i32_219 v262
  let v264 : BitVec 32 := Scalar.muli c4_i32_220 v263
  let c1_i32_221 : BitVec 32 := 1#32
  let v265 : BitVec 32 := Scalar.addi v264 c1_i32_221
  let c256_i32_222 : BitVec 32 := 256#32
  let v266 : BitVec 32 := Scalar.muli v265 c256_i32_222
  let c0_i32_5491 : BitVec 32 := 0#32
  ![v266.toNat, 0]
def k0_cond282 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v270 : BitVec 1 := Scalar.cmpi .sle v5 c3_i32_231
  let c0_i32_232 : BitVec 32 := 0#32
  let v271 : BitVec 1 := Scalar.cmpi .sgt v5 c0_i32_232
  let v272 : BitVec 1 := Scalar.andi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v256 : BitVec 1 := Scalar.cmpi .eq v8 c1_i32_214
  let v273 : BitVec 1 := Scalar.andi v272 v256
  let v3650 : BitVec 32 := Scalar.extui v273
  let c0_i32_4483 : BitVec 32 := 0#32
  let v3651 : BitVec 1 := Scalar.cmpi .ne v3650 c0_i32_4483
  v3651

def k0_off277 (d0 : Dev nD) : Fin 2 → Nat :=
  let c4_i32_236 : BitVec 32 := 4#32
  let c3_i32_235 : BitVec 32 := 3#32
  let c0_i32_234 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_233 : BitVec 32 := 0#32
  let v274 : BitVec 32 := Scalar.addi v5 c0_i32_233
  let v275 : BitVec 32 := Scalar.maxsi c0_i32_234 v274
  let v276 : BitVec 32 := Scalar.minsi c3_i32_235 v275
  let v277 : BitVec 32 := Scalar.muli c4_i32_236 v276
  let c1_i32_237 : BitVec 32 := 1#32
  let v278 : BitVec 32 := Scalar.addi v277 c1_i32_237
  let c256_i32_238 : BitVec 32 := 256#32
  let v279 : BitVec 32 := Scalar.muli v278 c256_i32_238
  let c0_i32_5491 : BitVec 32 := 0#32
  ![v279.toNat, 0]
def k0_cond283 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_248 : BitVec 32 := 0#32
  let v284 : BitVec 1 := Scalar.cmpi .sge v8 c0_i32_248
  let c3_i32_249 : BitVec 32 := 3#32
  let v285 : BitVec 1 := Scalar.cmpi .slt v8 c3_i32_249
  let v286 : BitVec 1 := Scalar.andi v284 v285
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_247 : BitVec 32 := 1#32
  let v283 : BitVec 1 := Scalar.cmpi .eq v5 c1_i32_247
  let v287 : BitVec 1 := Scalar.andi v286 v283
  let v3652 : BitVec 32 := Scalar.extui v287
  let c0_i32_4490 : BitVec 32 := 0#32
  let v3653 : BitVec 1 := Scalar.cmpi .ne v3652 c0_i32_4490
  v3653

def k0_off278 (d0 : Dev nD) : Fin 2 → Nat :=
  let c4_i32_253 : BitVec 32 := 4#32
  let c3_i32_252 : BitVec 32 := 3#32
  let c0_i32_251 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_250 : BitVec 32 := 0#32
  let v288 : BitVec 32 := Scalar.subi v8 c0_i32_250
  let v289 : BitVec 32 := Scalar.maxsi c0_i32_251 v288
  let v290 : BitVec 32 := Scalar.minsi c3_i32_252 v289
  let v291 : BitVec 32 := Scalar.addi c4_i32_253 v290
  let c256_i32_254 : BitVec 32 := 256#32
  let v292 : BitVec 32 := Scalar.muli v291 c256_i32_254
  let c2048_i32 : BitVec 32 := 2048#32
  ![v292.toNat, 2048]
def k0_cond284 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_263 : BitVec 32 := 3#32
  let v296 : BitVec 1 := Scalar.cmpi .sle v8 c3_i32_263
  let c0_i32_264 : BitVec 32 := 0#32
  let v297 : BitVec 1 := Scalar.cmpi .sgt v8 c0_i32_264
  let v298 : BitVec 1 := Scalar.andi v296 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_247 : BitVec 32 := 1#32
  let v283 : BitVec 1 := Scalar.cmpi .eq v5 c1_i32_247
  let v299 : BitVec 1 := Scalar.andi v298 v283
  let v3654 : BitVec 32 := Scalar.extui v299
  let c0_i32_4497 : BitVec 32 := 0#32
  let v3655 : BitVec 1 := Scalar.cmpi .ne v3654 c0_i32_4497
  v3655

def k0_off279 (d0 : Dev nD) : Fin 2 → Nat :=
  let c4_i32_268 : BitVec 32 := 4#32
  let c3_i32_267 : BitVec 32 := 3#32
  let c0_i32_266 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_265 : BitVec 32 := 0#32
  let v300 : BitVec 32 := Scalar.addi v8 c0_i32_265
  let v301 : BitVec 32 := Scalar.maxsi c0_i32_266 v300
  let v302 : BitVec 32 := Scalar.minsi c3_i32_267 v301
  let v303 : BitVec 32 := Scalar.addi c4_i32_268 v302
  let c256_i32_269 : BitVec 32 := 256#32
  let v304 : BitVec 32 := Scalar.muli v303 c256_i32_269
  let c2048_i32 : BitVec 32 := 2048#32
  ![v304.toNat, 2048]
def k0_cond285 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_279 : BitVec 32 := 0#32
  let v309 : BitVec 1 := Scalar.cmpi .sge v5 c0_i32_279
  let c3_i32_280 : BitVec 32 := 3#32
  let v310 : BitVec 1 := Scalar.cmpi .slt v5 c3_i32_280
  let v311 : BitVec 1 := Scalar.andi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_278 : BitVec 32 := 2#32
  let v308 : BitVec 1 := Scalar.cmpi .eq v8 c2_i32_278
  let v312 : BitVec 1 := Scalar.andi v311 v308
  let v3656 : BitVec 32 := Scalar.extui v312
  let c0_i32_4504 : BitVec 32 := 0#32
  let v3657 : BitVec 1 := Scalar.cmpi .ne v3656 c0_i32_4504
  v3657

def k0_off280 (d0 : Dev nD) : Fin 2 → Nat :=
  let c4_i32_284 : BitVec 32 := 4#32
  let c3_i32_283 : BitVec 32 := 3#32
  let c0_i32_282 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_281 : BitVec 32 := 0#32
  let v313 : BitVec 32 := Scalar.subi v5 c0_i32_281
  let v314 : BitVec 32 := Scalar.maxsi c0_i32_282 v313
  let v315 : BitVec 32 := Scalar.minsi c3_i32_283 v314
  let v316 : BitVec 32 := Scalar.muli c4_i32_284 v315
  let c2_i32_285 : BitVec 32 := 2#32
  let v317 : BitVec 32 := Scalar.addi v316 c2_i32_285
  let c256_i32_286 : BitVec 32 := 256#32
  let v318 : BitVec 32 := Scalar.muli v317 c256_i32_286
  let c0_i32_5491 : BitVec 32 := 0#32
  ![v318.toNat, 0]
def k0_cond286 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_295 : BitVec 32 := 3#32
  let v322 : BitVec 1 := Scalar.cmpi .sle v5 c3_i32_295
  let c0_i32_296 : BitVec 32 := 0#32
  let v323 : BitVec 1 := Scalar.cmpi .sgt v5 c0_i32_296
  let v324 : BitVec 1 := Scalar.andi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_278 : BitVec 32 := 2#32
  let v308 : BitVec 1 := Scalar.cmpi .eq v8 c2_i32_278
  let v325 : BitVec 1 := Scalar.andi v324 v308
  let v3658 : BitVec 32 := Scalar.extui v325
  let c0_i32_4511 : BitVec 32 := 0#32
  let v3659 : BitVec 1 := Scalar.cmpi .ne v3658 c0_i32_4511
  v3659

def k0_off281 (d0 : Dev nD) : Fin 2 → Nat :=
  let c4_i32_300 : BitVec 32 := 4#32
  let c3_i32_299 : BitVec 32 := 3#32
  let c0_i32_298 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_297 : BitVec 32 := 0#32
  let v326 : BitVec 32 := Scalar.addi v5 c0_i32_297
  let v327 : BitVec 32 := Scalar.maxsi c0_i32_298 v326
  let v328 : BitVec 32 := Scalar.minsi c3_i32_299 v327
  let v329 : BitVec 32 := Scalar.muli c4_i32_300 v328
  let c2_i32_301 : BitVec 32 := 2#32
  let v330 : BitVec 32 := Scalar.addi v329 c2_i32_301
  let c256_i32_302 : BitVec 32 := 256#32
  let v331 : BitVec 32 := Scalar.muli v330 c256_i32_302
  let c0_i32_5491 : BitVec 32 := 0#32
  ![v331.toNat, 0]
def k0_cond287 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_312 : BitVec 32 := 0#32
  let v336 : BitVec 1 := Scalar.cmpi .sge v8 c0_i32_312
  let c3_i32_313 : BitVec 32 := 3#32
  let v337 : BitVec 1 := Scalar.cmpi .slt v8 c3_i32_313
  let v338 : BitVec 1 := Scalar.andi v336 v337
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_311 : BitVec 32 := 2#32
  let v335 : BitVec 1 := Scalar.cmpi .eq v5 c2_i32_311
  let v339 : BitVec 1 := Scalar.andi v338 v335
  let v3660 : BitVec 32 := Scalar.extui v339
  let c0_i32_4518 : BitVec 32 := 0#32
  let v3661 : BitVec 1 := Scalar.cmpi .ne v3660 c0_i32_4518
  v3661

def k0_off282 (d0 : Dev nD) : Fin 2 → Nat :=
  let c8_i32 : BitVec 32 := 8#32
  let c3_i32_316 : BitVec 32 := 3#32
  let c0_i32_315 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_314 : BitVec 32 := 0#32
  let v340 : BitVec 32 := Scalar.subi v8 c0_i32_314
  let v341 : BitVec 32 := Scalar.maxsi c0_i32_315 v340
  let v342 : BitVec 32 := Scalar.minsi c3_i32_316 v341
  let v343 : BitVec 32 := Scalar.addi c8_i32 v342
  let c256_i32_317 : BitVec 32 := 256#32
  let v344 : BitVec 32 := Scalar.muli v343 c256_i32_317
  let c2048_i32 : BitVec 32 := 2048#32
  ![v344.toNat, 2048]
def k0_cond288 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_326 : BitVec 32 := 3#32
  let v348 : BitVec 1 := Scalar.cmpi .sle v8 c3_i32_326
  let c0_i32_327 : BitVec 32 := 0#32
  let v349 : BitVec 1 := Scalar.cmpi .sgt v8 c0_i32_327
  let v350 : BitVec 1 := Scalar.andi v348 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_311 : BitVec 32 := 2#32
  let v335 : BitVec 1 := Scalar.cmpi .eq v5 c2_i32_311
  let v351 : BitVec 1 := Scalar.andi v350 v335
  let v3662 : BitVec 32 := Scalar.extui v351
  let c0_i32_4525 : BitVec 32 := 0#32
  let v3663 : BitVec 1 := Scalar.cmpi .ne v3662 c0_i32_4525
  v3663

def k0_off283 (d0 : Dev nD) : Fin 2 → Nat :=
  let c8_i32_331 : BitVec 32 := 8#32
  let c3_i32_330 : BitVec 32 := 3#32
  let c0_i32_329 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_328 : BitVec 32 := 0#32
  let v352 : BitVec 32 := Scalar.addi v8 c0_i32_328
  let v353 : BitVec 32 := Scalar.maxsi c0_i32_329 v352
  let v354 : BitVec 32 := Scalar.minsi c3_i32_330 v353
  let v355 : BitVec 32 := Scalar.addi c8_i32_331 v354
  let c256_i32_332 : BitVec 32 := 256#32
  let v356 : BitVec 32 := Scalar.muli v355 c256_i32_332
  let c2048_i32 : BitVec 32 := 2048#32
  ![v356.toNat, 2048]
def k0_cond289 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_342 : BitVec 32 := 0#32
  let v361 : BitVec 1 := Scalar.cmpi .sge v5 c0_i32_342
  let c3_i32_343 : BitVec 32 := 3#32
  let v362 : BitVec 1 := Scalar.cmpi .slt v5 c3_i32_343
  let v363 : BitVec 1 := Scalar.andi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_341 : BitVec 32 := 3#32
  let v360 : BitVec 1 := Scalar.cmpi .eq v8 c3_i32_341
  let v364 : BitVec 1 := Scalar.andi v363 v360
  let v3664 : BitVec 32 := Scalar.extui v364
  let c0_i32_4532 : BitVec 32 := 0#32
  let v3665 : BitVec 1 := Scalar.cmpi .ne v3664 c0_i32_4532
  v3665

def k0_off284 (d0 : Dev nD) : Fin 2 → Nat :=
  let c4_i32_347 : BitVec 32 := 4#32
  let c3_i32_346 : BitVec 32 := 3#32
  let c0_i32_345 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_344 : BitVec 32 := 0#32
  let v365 : BitVec 32 := Scalar.subi v5 c0_i32_344
  let v366 : BitVec 32 := Scalar.maxsi c0_i32_345 v365
  let v367 : BitVec 32 := Scalar.minsi c3_i32_346 v366
  let v368 : BitVec 32 := Scalar.muli c4_i32_347 v367
  let c3_i32_348 : BitVec 32 := 3#32
  let v369 : BitVec 32 := Scalar.addi v368 c3_i32_348
  let c256_i32_349 : BitVec 32 := 256#32
  let v370 : BitVec 32 := Scalar.muli v369 c256_i32_349
  let c0_i32_5491 : BitVec 32 := 0#32
  ![v370.toNat, 0]
def k0_cond290 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_358 : BitVec 32 := 3#32
  let v374 : BitVec 1 := Scalar.cmpi .sle v5 c3_i32_358
  let c0_i32_359 : BitVec 32 := 0#32
  let v375 : BitVec 1 := Scalar.cmpi .sgt v5 c0_i32_359
  let v376 : BitVec 1 := Scalar.andi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_341 : BitVec 32 := 3#32
  let v360 : BitVec 1 := Scalar.cmpi .eq v8 c3_i32_341
  let v377 : BitVec 1 := Scalar.andi v376 v360
  let v3666 : BitVec 32 := Scalar.extui v377
  let c0_i32_4539 : BitVec 32 := 0#32
  let v3667 : BitVec 1 := Scalar.cmpi .ne v3666 c0_i32_4539
  v3667

def k0_off285 (d0 : Dev nD) : Fin 2 → Nat :=
  let c4_i32_363 : BitVec 32 := 4#32
  let c3_i32_362 : BitVec 32 := 3#32
  let c0_i32_361 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_360 : BitVec 32 := 0#32
  let v378 : BitVec 32 := Scalar.addi v5 c0_i32_360
  let v379 : BitVec 32 := Scalar.maxsi c0_i32_361 v378
  let v380 : BitVec 32 := Scalar.minsi c3_i32_362 v379
  let v381 : BitVec 32 := Scalar.muli c4_i32_363 v380
  let c3_i32_364 : BitVec 32 := 3#32
  let v382 : BitVec 32 := Scalar.addi v381 c3_i32_364
  let c256_i32_365 : BitVec 32 := 256#32
  let v383 : BitVec 32 := Scalar.muli v382 c256_i32_365
  let c0_i32_5491 : BitVec 32 := 0#32
  ![v383.toNat, 0]
def k0_cond291 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_375 : BitVec 32 := 0#32
  let v388 : BitVec 1 := Scalar.cmpi .sge v8 c0_i32_375
  let c3_i32_376 : BitVec 32 := 3#32
  let v389 : BitVec 1 := Scalar.cmpi .slt v8 c3_i32_376
  let v390 : BitVec 1 := Scalar.andi v388 v389
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_374 : BitVec 32 := 3#32
  let v387 : BitVec 1 := Scalar.cmpi .eq v5 c3_i32_374
  let v391 : BitVec 1 := Scalar.andi v390 v387
  let v3668 : BitVec 32 := Scalar.extui v391
  let c0_i32_4546 : BitVec 32 := 0#32
  let v3669 : BitVec 1 := Scalar.cmpi .ne v3668 c0_i32_4546
  v3669

def k0_off286 (d0 : Dev nD) : Fin 2 → Nat :=
  let c12_i32 : BitVec 32 := 12#32
  let c3_i32_379 : BitVec 32 := 3#32
  let c0_i32_378 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_377 : BitVec 32 := 0#32
  let v392 : BitVec 32 := Scalar.subi v8 c0_i32_377
  let v393 : BitVec 32 := Scalar.maxsi c0_i32_378 v392
  let v394 : BitVec 32 := Scalar.minsi c3_i32_379 v393
  let v395 : BitVec 32 := Scalar.addi c12_i32 v394
  let c256_i32_380 : BitVec 32 := 256#32
  let v396 : BitVec 32 := Scalar.muli v395 c256_i32_380
  let c2048_i32 : BitVec 32 := 2048#32
  ![v396.toNat, 2048]
def k0_cond292 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_389 : BitVec 32 := 3#32
  let v400 : BitVec 1 := Scalar.cmpi .sle v8 c3_i32_389
  let c0_i32_390 : BitVec 32 := 0#32
  let v401 : BitVec 1 := Scalar.cmpi .sgt v8 c0_i32_390
  let v402 : BitVec 1 := Scalar.andi v400 v401
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_374 : BitVec 32 := 3#32
  let v387 : BitVec 1 := Scalar.cmpi .eq v5 c3_i32_374
  let v403 : BitVec 1 := Scalar.andi v402 v387
  let v3670 : BitVec 32 := Scalar.extui v403
  let c0_i32_4553 : BitVec 32 := 0#32
  let v3671 : BitVec 1 := Scalar.cmpi .ne v3670 c0_i32_4553
  v3671

def k0_off287 (d0 : Dev nD) : Fin 2 → Nat :=
  let c12_i32_394 : BitVec 32 := 12#32
  let c3_i32_393 : BitVec 32 := 3#32
  let c0_i32_392 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_391 : BitVec 32 := 0#32
  let v404 : BitVec 32 := Scalar.addi v8 c0_i32_391
  let v405 : BitVec 32 := Scalar.maxsi c0_i32_392 v404
  let v406 : BitVec 32 := Scalar.minsi c3_i32_393 v405
  let v407 : BitVec 32 := Scalar.addi c12_i32_394 v406
  let c256_i32_395 : BitVec 32 := 256#32
  let v408 : BitVec 32 := Scalar.muli v407 c256_i32_395
  let c2048_i32 : BitVec 32 := 2048#32
  ![v408.toNat, 2048]
def k0_cond293 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_456 : BitVec 32 := 1#32
  let v456 : BitVec 1 := Scalar.cmpi .sge v8 c1_i32_456
  let c3_i32_457 : BitVec 32 := 3#32
  let v457 : BitVec 1 := Scalar.cmpi .slt v8 c3_i32_457
  let v458 : BitVec 1 := Scalar.andi v456 v457
  let v3672 : BitVec 32 := Scalar.extui v458
  let c0_i32_4558 : BitVec 32 := 0#32
  let v3673 : BitVec 1 := Scalar.cmpi .ne v3672 c0_i32_4558
  v3673

def k0_off288 (d0 : Dev nD) : Fin 2 → Nat :=
  let c4_i32_461 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v462 : BitVec 32 := Scalar.muli c4_i32_461 v5
  let c3_i32_460 : BitVec 32 := 3#32
  let c0_i32_459 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v459 : BitVec 32 := Scalar.subi v8 c1_i32_458
  let v460 : BitVec 32 := Scalar.maxsi c0_i32_459 v459
  let v461 : BitVec 32 := Scalar.minsi c3_i32_460 v460
  let v463 : BitVec 32 := Scalar.addi v462 v461
  let c256_i32_462 : BitVec 32 := 256#32
  let v464 : BitVec 32 := Scalar.muli v463 c256_i32_462
  let c0_i32_5491 : BitVec 32 := 0#32
  ![v464.toNat, 0]
def k0_cond294 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_469 : BitVec 32 := 2#32
  let v468 : BitVec 1 := Scalar.cmpi .sle v8 c2_i32_469
  let c0_i32_470 : BitVec 32 := 0#32
  let v469 : BitVec 1 := Scalar.cmpi .sgt v8 c0_i32_470
  let v470 : BitVec 1 := Scalar.andi v468 v469
  let v3674 : BitVec 32 := Scalar.extui v470
  let c0_i32_4563 : BitVec 32 := 0#32
  let v3675 : BitVec 1 := Scalar.cmpi .ne v3674 c0_i32_4563
  v3675

def k0_off289 (d0 : Dev nD) : Fin 2 → Nat :=
  let c4_i32_474 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v474 : BitVec 32 := Scalar.muli c4_i32_474 v5
  let c3_i32_473 : BitVec 32 := 3#32
  let c0_i32_472 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v471 : BitVec 32 := Scalar.addi v8 c1_i32_471
  let v472 : BitVec 32 := Scalar.maxsi c0_i32_472 v471
  let v473 : BitVec 32 := Scalar.minsi c3_i32_473 v472
  let v475 : BitVec 32 := Scalar.addi v474 v473
  let c256_i32_475 : BitVec 32 := 256#32
  let v476 : BitVec 32 := Scalar.muli v475 c256_i32_475
  let c0_i32_5491 : BitVec 32 := 0#32
  ![v476.toNat, 0]
def k0_cond295 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_482 : BitVec 32 := 1#32
  let v480 : BitVec 1 := Scalar.cmpi .sge v5 c1_i32_482
  let c3_i32_483 : BitVec 32 := 3#32
  let v481 : BitVec 1 := Scalar.cmpi .slt v5 c3_i32_483
  let v482 : BitVec 1 := Scalar.andi v480 v481
  let v3676 : BitVec 32 := Scalar.extui v482
  let c0_i32_4568 : BitVec 32 := 0#32
  let v3677 : BitVec 1 := Scalar.cmpi .ne v3676 c0_i32_4568
  v3677

def k0_off290 (d0 : Dev nD) : Fin 2 → Nat :=
  let c4_i32_487 : BitVec 32 := 4#32
  let c3_i32_486 : BitVec 32 := 3#32
  let c0_i32_485 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_484 : BitVec 32 := 1#32
  let v483 : BitVec 32 := Scalar.subi v5 c1_i32_484
  let v484 : BitVec 32 := Scalar.maxsi c0_i32_485 v483
  let v485 : BitVec 32 := Scalar.minsi c3_i32_486 v484
  let v486 : BitVec 32 := Scalar.muli c4_i32_487 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v487 : BitVec 32 := Scalar.addi v486 v8
  let c256_i32_488 : BitVec 32 := 256#32
  let v488 : BitVec 32 := Scalar.muli v487 c256_i32_488
  let c2048_i32 : BitVec 32 := 2048#32
  ![v488.toNat, 2048]
def k0_cond296 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_495 : BitVec 32 := 2#32
  let v492 : BitVec 1 := Scalar.cmpi .sle v5 c2_i32_495
  let c0_i32_496 : BitVec 32 := 0#32
  let v493 : BitVec 1 := Scalar.cmpi .sgt v5 c0_i32_496
  let v494 : BitVec 1 := Scalar.andi v492 v493
  let v3678 : BitVec 32 := Scalar.extui v494
  let c0_i32_4573 : BitVec 32 := 0#32
  let v3679 : BitVec 1 := Scalar.cmpi .ne v3678 c0_i32_4573
  v3679

def k0_off291 (d0 : Dev nD) : Fin 2 → Nat :=
  let c4_i32_500 : BitVec 32 := 4#32
  let c3_i32_499 : BitVec 32 := 3#32
  let c0_i32_498 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_497 : BitVec 32 := 1#32
  let v495 : BitVec 32 := Scalar.addi v5 c1_i32_497
  let v496 : BitVec 32 := Scalar.maxsi c0_i32_498 v495
  let v497 : BitVec 32 := Scalar.minsi c3_i32_499 v496
  let v498 : BitVec 32 := Scalar.muli c4_i32_500 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v499 : BitVec 32 := Scalar.addi v498 v8
  let c256_i32_501 : BitVec 32 := 256#32
  let v500 : BitVec 32 := Scalar.muli v499 c256_i32_501
  let c2048_i32 : BitVec 32 := 2048#32
  ![v500.toNat, 2048]
def k0_cond297 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_514 : BitVec 32 := 0#32
  let v511 : BitVec 1 := Scalar.cmpi .sge v5 c0_i32_514
  let c3_i32_515 : BitVec 32 := 3#32
  let v512 : BitVec 1 := Scalar.cmpi .slt v5 c3_i32_515
  let v513 : BitVec 1 := Scalar.andi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v504 : BitVec 32 := Scalar.subi v8 c1_i32_508
  let c0_i32_509 : BitVec 32 := 0#32
  let v505 : BitVec 32 := Scalar.subi v504 c0_i32_509
  let c0_i32_510 : BitVec 32 := 0#32
  let v506 : BitVec 1 := Scalar.cmpi .eq v505 c0_i32_510
  let c1_i32_511 : BitVec 32 := 1#32
  let v507 : BitVec 32 := Scalar.addi v8 c1_i32_511
  let c0_i32_512 : BitVec 32 := 0#32
  let v508 : BitVec 32 := Scalar.addi v507 c0_i32_512
  let c0_i32_513 : BitVec 32 := 0#32
  let v509 : BitVec 1 := Scalar.cmpi .eq v508 c0_i32_513
  let v510 : BitVec 1 := Scalar.ori v506 v509
  let v514 : BitVec 1 := Scalar.andi v513 v510
  let v3680 : BitVec 32 := Scalar.extui v514
  let c0_i32_4580 : BitVec 32 := 0#32
  let v3681 : BitVec 1 := Scalar.cmpi .ne v3680 c0_i32_4580
  v3681

def k0_off292 (d0 : Dev nD) : Fin 2 → Nat :=
  let c4_i32_519 : BitVec 32 := 4#32
  let c3_i32_518 : BitVec 32 := 3#32
  let c0_i32_517 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_516 : BitVec 32 := 0#32
  let v515 : BitVec 32 := Scalar.subi v5 c0_i32_516
  let v516 : BitVec 32 := Scalar.maxsi c0_i32_517 v515
  let v517 : BitVec 32 := Scalar.minsi c3_i32_518 v516
  let v518 : BitVec 32 := Scalar.muli c4_i32_519 v517
  let c0_i32_520 : BitVec 32 := 0#32
  let v519 : BitVec 32 := Scalar.addi v518 c0_i32_520
  let c256_i32_521 : BitVec 32 := 256#32
  let v520 : BitVec 32 := Scalar.muli v519 c256_i32_521
  let c0_i32_5491 : BitVec 32 := 0#32
  ![v520.toNat, 0]
def k0_cond298 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_530 : BitVec 32 := 3#32
  let v524 : BitVec 1 := Scalar.cmpi .sle v5 c3_i32_530
  let c0_i32_531 : BitVec 32 := 0#32
  let v525 : BitVec 1 := Scalar.cmpi .sgt v5 c0_i32_531
  let v526 : BitVec 1 := Scalar.andi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v504 : BitVec 32 := Scalar.subi v8 c1_i32_508
  let c0_i32_509 : BitVec 32 := 0#32
  let v505 : BitVec 32 := Scalar.subi v504 c0_i32_509
  let c0_i32_510 : BitVec 32 := 0#32
  let v506 : BitVec 1 := Scalar.cmpi .eq v505 c0_i32_510
  let c1_i32_511 : BitVec 32 := 1#32
  let v507 : BitVec 32 := Scalar.addi v8 c1_i32_511
  let c0_i32_512 : BitVec 32 := 0#32
  let v508 : BitVec 32 := Scalar.addi v507 c0_i32_512
  let c0_i32_513 : BitVec 32 := 0#32
  let v509 : BitVec 1 := Scalar.cmpi .eq v508 c0_i32_513
  let v510 : BitVec 1 := Scalar.ori v506 v509
  let v527 : BitVec 1 := Scalar.andi v526 v510
  let v3682 : BitVec 32 := Scalar.extui v527
  let c0_i32_4587 : BitVec 32 := 0#32
  let v3683 : BitVec 1 := Scalar.cmpi .ne v3682 c0_i32_4587
  v3683

def k0_off293 (d0 : Dev nD) : Fin 2 → Nat :=
  let c4_i32_535 : BitVec 32 := 4#32
  let c3_i32_534 : BitVec 32 := 3#32
  let c0_i32_533 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_532 : BitVec 32 := 0#32
  let v528 : BitVec 32 := Scalar.addi v5 c0_i32_532
  let v529 : BitVec 32 := Scalar.maxsi c0_i32_533 v528
  let v530 : BitVec 32 := Scalar.minsi c3_i32_534 v529
  let v531 : BitVec 32 := Scalar.muli c4_i32_535 v530
  let c0_i32_536 : BitVec 32 := 0#32
  let v532 : BitVec 32 := Scalar.addi v531 c0_i32_536
  let c256_i32_537 : BitVec 32 := 256#32
  let v533 : BitVec 32 := Scalar.muli v532 c256_i32_537
  let c0_i32_5491 : BitVec 32 := 0#32
  ![v533.toNat, 0]
def k0_cond299 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_552 : BitVec 32 := 0#32
  let v544 : BitVec 1 := Scalar.cmpi .sge v5 c0_i32_552
  let c3_i32_553 : BitVec 32 := 3#32
  let v545 : BitVec 1 := Scalar.cmpi .slt v5 c3_i32_553
  let v546 : BitVec 1 := Scalar.andi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v537 : BitVec 32 := Scalar.subi v8 c1_i32_546
  let c0_i32_547 : BitVec 32 := 0#32
  let v538 : BitVec 32 := Scalar.subi v537 c0_i32_547
  let c1_i32_548 : BitVec 32 := 1#32
  let v539 : BitVec 1 := Scalar.cmpi .eq v538 c1_i32_548
  let c1_i32_549 : BitVec 32 := 1#32
  let v540 : BitVec 32 := Scalar.addi v8 c1_i32_549
  let c0_i32_550 : BitVec 32 := 0#32
  let v541 : BitVec 32 := Scalar.addi v540 c0_i32_550
  let c1_i32_551 : BitVec 32 := 1#32
  let v542 : BitVec 1 := Scalar.cmpi .eq v541 c1_i32_551
  let v543 : BitVec 1 := Scalar.ori v539 v542
  let v547 : BitVec 1 := Scalar.andi v546 v543
  let v3684 : BitVec 32 := Scalar.extui v547
  let c0_i32_4594 : BitVec 32 := 0#32
  let v3685 : BitVec 1 := Scalar.cmpi .ne v3684 c0_i32_4594
  v3685

def k0_off294 (d0 : Dev nD) : Fin 2 → Nat :=
  let c4_i32_557 : BitVec 32 := 4#32
  let c3_i32_556 : BitVec 32 := 3#32
  let c0_i32_555 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_554 : BitVec 32 := 0#32
  let v548 : BitVec 32 := Scalar.subi v5 c0_i32_554
  let v549 : BitVec 32 := Scalar.maxsi c0_i32_555 v548
  let v550 : BitVec 32 := Scalar.minsi c3_i32_556 v549
  let v551 : BitVec 32 := Scalar.muli c4_i32_557 v550
  let c1_i32_558 : BitVec 32 := 1#32
  let v552 : BitVec 32 := Scalar.addi v551 c1_i32_558
  let c256_i32_559 : BitVec 32 := 256#32
  let v553 : BitVec 32 := Scalar.muli v552 c256_i32_559
  let c0_i32_5491 : BitVec 32 := 0#32
  ![v553.toNat, 0]
def k0_cond300 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_568 : BitVec 32 := 3#32
  let v557 : BitVec 1 := Scalar.cmpi .sle v5 c3_i32_568
  let c0_i32_569 : BitVec 32 := 0#32
  let v558 : BitVec 1 := Scalar.cmpi .sgt v5 c0_i32_569
  let v559 : BitVec 1 := Scalar.andi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v537 : BitVec 32 := Scalar.subi v8 c1_i32_546
  let c0_i32_547 : BitVec 32 := 0#32
  let v538 : BitVec 32 := Scalar.subi v537 c0_i32_547
  let c1_i32_548 : BitVec 32 := 1#32
  let v539 : BitVec 1 := Scalar.cmpi .eq v538 c1_i32_548
  let c1_i32_549 : BitVec 32 := 1#32
  let v540 : BitVec 32 := Scalar.addi v8 c1_i32_549
  let c0_i32_550 : BitVec 32 := 0#32
  let v541 : BitVec 32 := Scalar.addi v540 c0_i32_550
  let c1_i32_551 : BitVec 32 := 1#32
  let v542 : BitVec 1 := Scalar.cmpi .eq v541 c1_i32_551
  let v543 : BitVec 1 := Scalar.ori v539 v542
  let v560 : BitVec 1 := Scalar.andi v559 v543
  let v3686 : BitVec 32 := Scalar.extui v560
  let c0_i32_4601 : BitVec 32 := 0#32
  let v3687 : BitVec 1 := Scalar.cmpi .ne v3686 c0_i32_4601
  v3687

def k0_off295 (d0 : Dev nD) : Fin 2 → Nat :=
  let c4_i32_573 : BitVec 32 := 4#32
  let c3_i32_572 : BitVec 32 := 3#32
  let c0_i32_571 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_570 : BitVec 32 := 0#32
  let v561 : BitVec 32 := Scalar.addi v5 c0_i32_570
  let v562 : BitVec 32 := Scalar.maxsi c0_i32_571 v561
  let v563 : BitVec 32 := Scalar.minsi c3_i32_572 v562
  let v564 : BitVec 32 := Scalar.muli c4_i32_573 v563
  let c1_i32_574 : BitVec 32 := 1#32
  let v565 : BitVec 32 := Scalar.addi v564 c1_i32_574
  let c256_i32_575 : BitVec 32 := 256#32
  let v566 : BitVec 32 := Scalar.muli v565 c256_i32_575
  let c0_i32_5491 : BitVec 32 := 0#32
  ![v566.toNat, 0]
def k0_cond301 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_590 : BitVec 32 := 0#32
  let v577 : BitVec 1 := Scalar.cmpi .sge v5 c0_i32_590
  let c3_i32_591 : BitVec 32 := 3#32
  let v578 : BitVec 1 := Scalar.cmpi .slt v5 c3_i32_591
  let v579 : BitVec 1 := Scalar.andi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v570 : BitVec 32 := Scalar.subi v8 c1_i32_584
  let c0_i32_585 : BitVec 32 := 0#32
  let v571 : BitVec 32 := Scalar.subi v570 c0_i32_585
  let c2_i32_586 : BitVec 32 := 2#32
  let v572 : BitVec 1 := Scalar.cmpi .eq v571 c2_i32_586
  let c1_i32_587 : BitVec 32 := 1#32
  let v573 : BitVec 32 := Scalar.addi v8 c1_i32_587
  let c0_i32_588 : BitVec 32 := 0#32
  let v574 : BitVec 32 := Scalar.addi v573 c0_i32_588
  let c2_i32_589 : BitVec 32 := 2#32
  let v575 : BitVec 1 := Scalar.cmpi .eq v574 c2_i32_589
  let v576 : BitVec 1 := Scalar.ori v572 v575
  let v580 : BitVec 1 := Scalar.andi v579 v576
  let v3688 : BitVec 32 := Scalar.extui v580
  let c0_i32_4608 : BitVec 32 := 0#32
  let v3689 : BitVec 1 := Scalar.cmpi .ne v3688 c0_i32_4608
  v3689

def k0_off296 (d0 : Dev nD) : Fin 2 → Nat :=
  let c4_i32_595 : BitVec 32 := 4#32
  let c3_i32_594 : BitVec 32 := 3#32
  let c0_i32_593 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_592 : BitVec 32 := 0#32
  let v581 : BitVec 32 := Scalar.subi v5 c0_i32_592
  let v582 : BitVec 32 := Scalar.maxsi c0_i32_593 v581
  let v583 : BitVec 32 := Scalar.minsi c3_i32_594 v582
  let v584 : BitVec 32 := Scalar.muli c4_i32_595 v583
  let c2_i32_596 : BitVec 32 := 2#32
  let v585 : BitVec 32 := Scalar.addi v584 c2_i32_596
  let c256_i32_597 : BitVec 32 := 256#32
  let v586 : BitVec 32 := Scalar.muli v585 c256_i32_597
  let c0_i32_5491 : BitVec 32 := 0#32
  ![v586.toNat, 0]
def k0_cond302 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_606 : BitVec 32 := 3#32
  let v590 : BitVec 1 := Scalar.cmpi .sle v5 c3_i32_606
  let c0_i32_607 : BitVec 32 := 0#32
  let v591 : BitVec 1 := Scalar.cmpi .sgt v5 c0_i32_607
  let v592 : BitVec 1 := Scalar.andi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v570 : BitVec 32 := Scalar.subi v8 c1_i32_584
  let c0_i32_585 : BitVec 32 := 0#32
  let v571 : BitVec 32 := Scalar.subi v570 c0_i32_585
  let c2_i32_586 : BitVec 32 := 2#32
  let v572 : BitVec 1 := Scalar.cmpi .eq v571 c2_i32_586
  let c1_i32_587 : BitVec 32 := 1#32
  let v573 : BitVec 32 := Scalar.addi v8 c1_i32_587
  let c0_i32_588 : BitVec 32 := 0#32
  let v574 : BitVec 32 := Scalar.addi v573 c0_i32_588
  let c2_i32_589 : BitVec 32 := 2#32
  let v575 : BitVec 1 := Scalar.cmpi .eq v574 c2_i32_589
  let v576 : BitVec 1 := Scalar.ori v572 v575
  let v593 : BitVec 1 := Scalar.andi v592 v576
  let v3690 : BitVec 32 := Scalar.extui v593
  let c0_i32_4615 : BitVec 32 := 0#32
  let v3691 : BitVec 1 := Scalar.cmpi .ne v3690 c0_i32_4615
  v3691

def k0_off297 (d0 : Dev nD) : Fin 2 → Nat :=
  let c4_i32_611 : BitVec 32 := 4#32
  let c3_i32_610 : BitVec 32 := 3#32
  let c0_i32_609 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_608 : BitVec 32 := 0#32
  let v594 : BitVec 32 := Scalar.addi v5 c0_i32_608
  let v595 : BitVec 32 := Scalar.maxsi c0_i32_609 v594
  let v596 : BitVec 32 := Scalar.minsi c3_i32_610 v595
  let v597 : BitVec 32 := Scalar.muli c4_i32_611 v596
  let c2_i32_612 : BitVec 32 := 2#32
  let v598 : BitVec 32 := Scalar.addi v597 c2_i32_612
  let c256_i32_613 : BitVec 32 := 256#32
  let v599 : BitVec 32 := Scalar.muli v598 c256_i32_613
  let c0_i32_5491 : BitVec 32 := 0#32
  ![v599.toNat, 0]
def k0_cond303 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_628 : BitVec 32 := 0#32
  let v610 : BitVec 1 := Scalar.cmpi .sge v5 c0_i32_628
  let c3_i32_629 : BitVec 32 := 3#32
  let v611 : BitVec 1 := Scalar.cmpi .slt v5 c3_i32_629
  let v612 : BitVec 1 := Scalar.andi v610 v611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v603 : BitVec 32 := Scalar.subi v8 c1_i32_622
  let c0_i32_623 : BitVec 32 := 0#32
  let v604 : BitVec 32 := Scalar.subi v603 c0_i32_623
  let c3_i32_624 : BitVec 32 := 3#32
  let v605 : BitVec 1 := Scalar.cmpi .eq v604 c3_i32_624
  let c1_i32_625 : BitVec 32 := 1#32
  let v606 : BitVec 32 := Scalar.addi v8 c1_i32_625
  let c0_i32_626 : BitVec 32 := 0#32
  let v607 : BitVec 32 := Scalar.addi v606 c0_i32_626
  let c3_i32_627 : BitVec 32 := 3#32
  let v608 : BitVec 1 := Scalar.cmpi .eq v607 c3_i32_627
  let v609 : BitVec 1 := Scalar.ori v605 v608
  let v613 : BitVec 1 := Scalar.andi v612 v609
  let v3692 : BitVec 32 := Scalar.extui v613
  let c0_i32_4622 : BitVec 32 := 0#32
  let v3693 : BitVec 1 := Scalar.cmpi .ne v3692 c0_i32_4622
  v3693

def k0_off298 (d0 : Dev nD) : Fin 2 → Nat :=
  let c4_i32_633 : BitVec 32 := 4#32
  let c3_i32_632 : BitVec 32 := 3#32
  let c0_i32_631 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_630 : BitVec 32 := 0#32
  let v614 : BitVec 32 := Scalar.subi v5 c0_i32_630
  let v615 : BitVec 32 := Scalar.maxsi c0_i32_631 v614
  let v616 : BitVec 32 := Scalar.minsi c3_i32_632 v615
  let v617 : BitVec 32 := Scalar.muli c4_i32_633 v616
  let c3_i32_634 : BitVec 32 := 3#32
  let v618 : BitVec 32 := Scalar.addi v617 c3_i32_634
  let c256_i32_635 : BitVec 32 := 256#32
  let v619 : BitVec 32 := Scalar.muli v618 c256_i32_635
  let c0_i32_5491 : BitVec 32 := 0#32
  ![v619.toNat, 0]
def k0_cond304 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_644 : BitVec 32 := 3#32
  let v623 : BitVec 1 := Scalar.cmpi .sle v5 c3_i32_644
  let c0_i32_645 : BitVec 32 := 0#32
  let v624 : BitVec 1 := Scalar.cmpi .sgt v5 c0_i32_645
  let v625 : BitVec 1 := Scalar.andi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v603 : BitVec 32 := Scalar.subi v8 c1_i32_622
  let c0_i32_623 : BitVec 32 := 0#32
  let v604 : BitVec 32 := Scalar.subi v603 c0_i32_623
  let c3_i32_624 : BitVec 32 := 3#32
  let v605 : BitVec 1 := Scalar.cmpi .eq v604 c3_i32_624
  let c1_i32_625 : BitVec 32 := 1#32
  let v606 : BitVec 32 := Scalar.addi v8 c1_i32_625
  let c0_i32_626 : BitVec 32 := 0#32
  let v607 : BitVec 32 := Scalar.addi v606 c0_i32_626
  let c3_i32_627 : BitVec 32 := 3#32
  let v608 : BitVec 1 := Scalar.cmpi .eq v607 c3_i32_627
  let v609 : BitVec 1 := Scalar.ori v605 v608
  let v626 : BitVec 1 := Scalar.andi v625 v609
  let v3694 : BitVec 32 := Scalar.extui v626
  let c0_i32_4629 : BitVec 32 := 0#32
  let v3695 : BitVec 1 := Scalar.cmpi .ne v3694 c0_i32_4629
  v3695

def k0_off299 (d0 : Dev nD) : Fin 2 → Nat :=
  let c4_i32_649 : BitVec 32 := 4#32
  let c3_i32_648 : BitVec 32 := 3#32
  let c0_i32_647 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_646 : BitVec 32 := 0#32
  let v627 : BitVec 32 := Scalar.addi v5 c0_i32_646
  let v628 : BitVec 32 := Scalar.maxsi c0_i32_647 v627
  let v629 : BitVec 32 := Scalar.minsi c3_i32_648 v628
  let v630 : BitVec 32 := Scalar.muli c4_i32_649 v629
  let c3_i32_650 : BitVec 32 := 3#32
  let v631 : BitVec 32 := Scalar.addi v630 c3_i32_650
  let c256_i32_651 : BitVec 32 := 256#32
  let v632 : BitVec 32 := Scalar.muli v631 c256_i32_651
  let c0_i32_5491 : BitVec 32 := 0#32
  ![v632.toNat, 0]
def k0_cond305 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_666 : BitVec 32 := 0#32
  let v643 : BitVec 1 := Scalar.cmpi .sge v8 c0_i32_666
  let c3_i32_667 : BitVec 32 := 3#32
  let v644 : BitVec 1 := Scalar.cmpi .slt v8 c3_i32_667
  let v645 : BitVec 1 := Scalar.andi v643 v644
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_660 : BitVec 32 := 1#32
  let v636 : BitVec 32 := Scalar.subi v5 c1_i32_660
  let c0_i32_661 : BitVec 32 := 0#32
  let v637 : BitVec 32 := Scalar.subi v636 c0_i32_661
  let c0_i32_662 : BitVec 32 := 0#32
  let v638 : BitVec 1 := Scalar.cmpi .eq v637 c0_i32_662
  let c1_i32_663 : BitVec 32 := 1#32
  let v639 : BitVec 32 := Scalar.addi v5 c1_i32_663
  let c0_i32_664 : BitVec 32 := 0#32
  let v640 : BitVec 32 := Scalar.addi v639 c0_i32_664
  let c0_i32_665 : BitVec 32 := 0#32
  let v641 : BitVec 1 := Scalar.cmpi .eq v640 c0_i32_665
  let v642 : BitVec 1 := Scalar.ori v638 v641
  let v646 : BitVec 1 := Scalar.andi v645 v642
  let v3696 : BitVec 32 := Scalar.extui v646
  let c0_i32_4636 : BitVec 32 := 0#32
  let v3697 : BitVec 1 := Scalar.cmpi .ne v3696 c0_i32_4636
  v3697

def k0_off300 (d0 : Dev nD) : Fin 2 → Nat :=
  let c0_i32_671 : BitVec 32 := 0#32
  let c3_i32_670 : BitVec 32 := 3#32
  let c0_i32_669 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_668 : BitVec 32 := 0#32
  let v647 : BitVec 32 := Scalar.subi v8 c0_i32_668
  let v648 : BitVec 32 := Scalar.maxsi c0_i32_669 v647
  let v649 : BitVec 32 := Scalar.minsi c3_i32_670 v648
  let v650 : BitVec 32 := Scalar.addi c0_i32_671 v649
  let c256_i32_672 : BitVec 32 := 256#32
  let v651 : BitVec 32 := Scalar.muli v650 c256_i32_672
  let c2048_i32 : BitVec 32 := 2048#32
  ![v651.toNat, 2048]
def k0_cond306 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v655 : BitVec 1 := Scalar.cmpi .sle v8 c3_i32_681
  let c0_i32_682 : BitVec 32 := 0#32
  let v656 : BitVec 1 := Scalar.cmpi .sgt v8 c0_i32_682
  let v657 : BitVec 1 := Scalar.andi v655 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_660 : BitVec 32 := 1#32
  let v636 : BitVec 32 := Scalar.subi v5 c1_i32_660
  let c0_i32_661 : BitVec 32 := 0#32
  let v637 : BitVec 32 := Scalar.subi v636 c0_i32_661
  let c0_i32_662 : BitVec 32 := 0#32
  let v638 : BitVec 1 := Scalar.cmpi .eq v637 c0_i32_662
  let c1_i32_663 : BitVec 32 := 1#32
  let v639 : BitVec 32 := Scalar.addi v5 c1_i32_663
  let c0_i32_664 : BitVec 32 := 0#32
  let v640 : BitVec 32 := Scalar.addi v639 c0_i32_664
  let c0_i32_665 : BitVec 32 := 0#32
  let v641 : BitVec 1 := Scalar.cmpi .eq v640 c0_i32_665
  let v642 : BitVec 1 := Scalar.ori v638 v641
  let v658 : BitVec 1 := Scalar.andi v657 v642
  let v3698 : BitVec 32 := Scalar.extui v658
  let c0_i32_4643 : BitVec 32 := 0#32
  let v3699 : BitVec 1 := Scalar.cmpi .ne v3698 c0_i32_4643
  v3699

def k0_off301 (d0 : Dev nD) : Fin 2 → Nat :=
  let c0_i32_686 : BitVec 32 := 0#32
  let c3_i32_685 : BitVec 32 := 3#32
  let c0_i32_684 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_683 : BitVec 32 := 0#32
  let v659 : BitVec 32 := Scalar.addi v8 c0_i32_683
  let v660 : BitVec 32 := Scalar.maxsi c0_i32_684 v659
  let v661 : BitVec 32 := Scalar.minsi c3_i32_685 v660
  let v662 : BitVec 32 := Scalar.addi c0_i32_686 v661
  let c256_i32_687 : BitVec 32 := 256#32
  let v663 : BitVec 32 := Scalar.muli v662 c256_i32_687
  let c2048_i32 : BitVec 32 := 2048#32
  ![v663.toNat, 2048]
def k0_cond307 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_702 : BitVec 32 := 0#32
  let v674 : BitVec 1 := Scalar.cmpi .sge v8 c0_i32_702
  let c3_i32_703 : BitVec 32 := 3#32
  let v675 : BitVec 1 := Scalar.cmpi .slt v8 c3_i32_703
  let v676 : BitVec 1 := Scalar.andi v674 v675
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_696 : BitVec 32 := 1#32
  let v667 : BitVec 32 := Scalar.subi v5 c1_i32_696
  let c0_i32_697 : BitVec 32 := 0#32
  let v668 : BitVec 32 := Scalar.subi v667 c0_i32_697
  let c1_i32_698 : BitVec 32 := 1#32
  let v669 : BitVec 1 := Scalar.cmpi .eq v668 c1_i32_698
  let c1_i32_699 : BitVec 32 := 1#32
  let v670 : BitVec 32 := Scalar.addi v5 c1_i32_699
  let c0_i32_700 : BitVec 32 := 0#32
  let v671 : BitVec 32 := Scalar.addi v670 c0_i32_700
  let c1_i32_701 : BitVec 32 := 1#32
  let v672 : BitVec 1 := Scalar.cmpi .eq v671 c1_i32_701
  let v673 : BitVec 1 := Scalar.ori v669 v672
  let v677 : BitVec 1 := Scalar.andi v676 v673
  let v3700 : BitVec 32 := Scalar.extui v677
  let c0_i32_4650 : BitVec 32 := 0#32
  let v3701 : BitVec 1 := Scalar.cmpi .ne v3700 c0_i32_4650
  v3701

def k0_off302 (d0 : Dev nD) : Fin 2 → Nat :=
  let c4_i32_707 : BitVec 32 := 4#32
  let c3_i32_706 : BitVec 32 := 3#32
  let c0_i32_705 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_704 : BitVec 32 := 0#32
  let v678 : BitVec 32 := Scalar.subi v8 c0_i32_704
  let v679 : BitVec 32 := Scalar.maxsi c0_i32_705 v678
  let v680 : BitVec 32 := Scalar.minsi c3_i32_706 v679
  let v681 : BitVec 32 := Scalar.addi c4_i32_707 v680
  let c256_i32_708 : BitVec 32 := 256#32
  let v682 : BitVec 32 := Scalar.muli v681 c256_i32_708
  let c2048_i32 : BitVec 32 := 2048#32
  ![v682.toNat, 2048]
def k0_cond308 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_717 : BitVec 32 := 3#32
  let v686 : BitVec 1 := Scalar.cmpi .sle v8 c3_i32_717
  let c0_i32_718 : BitVec 32 := 0#32
  let v687 : BitVec 1 := Scalar.cmpi .sgt v8 c0_i32_718
  let v688 : BitVec 1 := Scalar.andi v686 v687
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_696 : BitVec 32 := 1#32
  let v667 : BitVec 32 := Scalar.subi v5 c1_i32_696
  let c0_i32_697 : BitVec 32 := 0#32
  let v668 : BitVec 32 := Scalar.subi v667 c0_i32_697
  let c1_i32_698 : BitVec 32 := 1#32
  let v669 : BitVec 1 := Scalar.cmpi .eq v668 c1_i32_698
  let c1_i32_699 : BitVec 32 := 1#32
  let v670 : BitVec 32 := Scalar.addi v5 c1_i32_699
  let c0_i32_700 : BitVec 32 := 0#32
  let v671 : BitVec 32 := Scalar.addi v670 c0_i32_700
  let c1_i32_701 : BitVec 32 := 1#32
  let v672 : BitVec 1 := Scalar.cmpi .eq v671 c1_i32_701
  let v673 : BitVec 1 := Scalar.ori v669 v672
  let v689 : BitVec 1 := Scalar.andi v688 v673
  let v3702 : BitVec 32 := Scalar.extui v689
  let c0_i32_4657 : BitVec 32 := 0#32
  let v3703 : BitVec 1 := Scalar.cmpi .ne v3702 c0_i32_4657
  v3703

def k0_off303 (d0 : Dev nD) : Fin 2 → Nat :=
  let c4_i32_722 : BitVec 32 := 4#32
  let c3_i32_721 : BitVec 32 := 3#32
  let c0_i32_720 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_719 : BitVec 32 := 0#32
  let v690 : BitVec 32 := Scalar.addi v8 c0_i32_719
  let v691 : BitVec 32 := Scalar.maxsi c0_i32_720 v690
  let v692 : BitVec 32 := Scalar.minsi c3_i32_721 v691
  let v693 : BitVec 32 := Scalar.addi c4_i32_722 v692
  let c256_i32_723 : BitVec 32 := 256#32
  let v694 : BitVec 32 := Scalar.muli v693 c256_i32_723
  let c2048_i32 : BitVec 32 := 2048#32
  ![v694.toNat, 2048]
def k0_cond309 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_738 : BitVec 32 := 0#32
  let v705 : BitVec 1 := Scalar.cmpi .sge v8 c0_i32_738
  let c3_i32_739 : BitVec 32 := 3#32
  let v706 : BitVec 1 := Scalar.cmpi .slt v8 c3_i32_739
  let v707 : BitVec 1 := Scalar.andi v705 v706
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_732 : BitVec 32 := 1#32
  let v698 : BitVec 32 := Scalar.subi v5 c1_i32_732
  let c0_i32_733 : BitVec 32 := 0#32
  let v699 : BitVec 32 := Scalar.subi v698 c0_i32_733
  let c2_i32_734 : BitVec 32 := 2#32
  let v700 : BitVec 1 := Scalar.cmpi .eq v699 c2_i32_734
  let c1_i32_735 : BitVec 32 := 1#32
  let v701 : BitVec 32 := Scalar.addi v5 c1_i32_735
  let c0_i32_736 : BitVec 32 := 0#32
  let v702 : BitVec 32 := Scalar.addi v701 c0_i32_736
  let c2_i32_737 : BitVec 32 := 2#32
  let v703 : BitVec 1 := Scalar.cmpi .eq v702 c2_i32_737
  let v704 : BitVec 1 := Scalar.ori v700 v703
  let v708 : BitVec 1 := Scalar.andi v707 v704
  let v3704 : BitVec 32 := Scalar.extui v708
  let c0_i32_4664 : BitVec 32 := 0#32
  let v3705 : BitVec 1 := Scalar.cmpi .ne v3704 c0_i32_4664
  v3705

def k0_off304 (d0 : Dev nD) : Fin 2 → Nat :=
  let c8_i32_743 : BitVec 32 := 8#32
  let c3_i32_742 : BitVec 32 := 3#32
  let c0_i32_741 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_740 : BitVec 32 := 0#32
  let v709 : BitVec 32 := Scalar.subi v8 c0_i32_740
  let v710 : BitVec 32 := Scalar.maxsi c0_i32_741 v709
  let v711 : BitVec 32 := Scalar.minsi c3_i32_742 v710
  let v712 : BitVec 32 := Scalar.addi c8_i32_743 v711
  let c256_i32_744 : BitVec 32 := 256#32
  let v713 : BitVec 32 := Scalar.muli v712 c256_i32_744
  let c2048_i32 : BitVec 32 := 2048#32
  ![v713.toNat, 2048]
def k0_cond310 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_753 : BitVec 32 := 3#32
  let v717 : BitVec 1 := Scalar.cmpi .sle v8 c3_i32_753
  let c0_i32_754 : BitVec 32 := 0#32
  let v718 : BitVec 1 := Scalar.cmpi .sgt v8 c0_i32_754
  let v719 : BitVec 1 := Scalar.andi v717 v718
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_732 : BitVec 32 := 1#32
  let v698 : BitVec 32 := Scalar.subi v5 c1_i32_732
  let c0_i32_733 : BitVec 32 := 0#32
  let v699 : BitVec 32 := Scalar.subi v698 c0_i32_733
  let c2_i32_734 : BitVec 32 := 2#32
  let v700 : BitVec 1 := Scalar.cmpi .eq v699 c2_i32_734
  let c1_i32_735 : BitVec 32 := 1#32
  let v701 : BitVec 32 := Scalar.addi v5 c1_i32_735
  let c0_i32_736 : BitVec 32 := 0#32
  let v702 : BitVec 32 := Scalar.addi v701 c0_i32_736
  let c2_i32_737 : BitVec 32 := 2#32
  let v703 : BitVec 1 := Scalar.cmpi .eq v702 c2_i32_737
  let v704 : BitVec 1 := Scalar.ori v700 v703
  let v720 : BitVec 1 := Scalar.andi v719 v704
  let v3706 : BitVec 32 := Scalar.extui v720
  let c0_i32_4671 : BitVec 32 := 0#32
  let v3707 : BitVec 1 := Scalar.cmpi .ne v3706 c0_i32_4671
  v3707

def k0_off305 (d0 : Dev nD) : Fin 2 → Nat :=
  let c8_i32_758 : BitVec 32 := 8#32
  let c3_i32_757 : BitVec 32 := 3#32
  let c0_i32_756 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_755 : BitVec 32 := 0#32
  let v721 : BitVec 32 := Scalar.addi v8 c0_i32_755
  let v722 : BitVec 32 := Scalar.maxsi c0_i32_756 v721
  let v723 : BitVec 32 := Scalar.minsi c3_i32_757 v722
  let v724 : BitVec 32 := Scalar.addi c8_i32_758 v723
  let c256_i32_759 : BitVec 32 := 256#32
  let v725 : BitVec 32 := Scalar.muli v724 c256_i32_759
  let c2048_i32 : BitVec 32 := 2048#32
  ![v725.toNat, 2048]
def k0_cond311 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_774 : BitVec 32 := 0#32
  let v736 : BitVec 1 := Scalar.cmpi .sge v8 c0_i32_774
  let c3_i32_775 : BitVec 32 := 3#32
  let v737 : BitVec 1 := Scalar.cmpi .slt v8 c3_i32_775
  let v738 : BitVec 1 := Scalar.andi v736 v737
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_768 : BitVec 32 := 1#32
  let v729 : BitVec 32 := Scalar.subi v5 c1_i32_768
  let c0_i32_769 : BitVec 32 := 0#32
  let v730 : BitVec 32 := Scalar.subi v729 c0_i32_769
  let c3_i32_770 : BitVec 32 := 3#32
  let v731 : BitVec 1 := Scalar.cmpi .eq v730 c3_i32_770
  let c1_i32_771 : BitVec 32 := 1#32
  let v732 : BitVec 32 := Scalar.addi v5 c1_i32_771
  let c0_i32_772 : BitVec 32 := 0#32
  let v733 : BitVec 32 := Scalar.addi v732 c0_i32_772
  let c3_i32_773 : BitVec 32 := 3#32
  let v734 : BitVec 1 := Scalar.cmpi .eq v733 c3_i32_773
  let v735 : BitVec 1 := Scalar.ori v731 v734
  let v739 : BitVec 1 := Scalar.andi v738 v735
  let v3708 : BitVec 32 := Scalar.extui v739
  let c0_i32_4678 : BitVec 32 := 0#32
  let v3709 : BitVec 1 := Scalar.cmpi .ne v3708 c0_i32_4678
  v3709

def k0_off306 (d0 : Dev nD) : Fin 2 → Nat :=
  let c12_i32_779 : BitVec 32 := 12#32
  let c3_i32_778 : BitVec 32 := 3#32
  let c0_i32_777 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_776 : BitVec 32 := 0#32
  let v740 : BitVec 32 := Scalar.subi v8 c0_i32_776
  let v741 : BitVec 32 := Scalar.maxsi c0_i32_777 v740
  let v742 : BitVec 32 := Scalar.minsi c3_i32_778 v741
  let v743 : BitVec 32 := Scalar.addi c12_i32_779 v742
  let c256_i32_780 : BitVec 32 := 256#32
  let v744 : BitVec 32 := Scalar.muli v743 c256_i32_780
  let c2048_i32 : BitVec 32 := 2048#32
  ![v744.toNat, 2048]
def k0_cond312 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_789 : BitVec 32 := 3#32
  let v748 : BitVec 1 := Scalar.cmpi .sle v8 c3_i32_789
  let c0_i32_790 : BitVec 32 := 0#32
  let v749 : BitVec 1 := Scalar.cmpi .sgt v8 c0_i32_790
  let v750 : BitVec 1 := Scalar.andi v748 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_768 : BitVec 32 := 1#32
  let v729 : BitVec 32 := Scalar.subi v5 c1_i32_768
  let c0_i32_769 : BitVec 32 := 0#32
  let v730 : BitVec 32 := Scalar.subi v729 c0_i32_769
  let c3_i32_770 : BitVec 32 := 3#32
  let v731 : BitVec 1 := Scalar.cmpi .eq v730 c3_i32_770
  let c1_i32_771 : BitVec 32 := 1#32
  let v732 : BitVec 32 := Scalar.addi v5 c1_i32_771
  let c0_i32_772 : BitVec 32 := 0#32
  let v733 : BitVec 32 := Scalar.addi v732 c0_i32_772
  let c3_i32_773 : BitVec 32 := 3#32
  let v734 : BitVec 1 := Scalar.cmpi .eq v733 c3_i32_773
  let v735 : BitVec 1 := Scalar.ori v731 v734
  let v751 : BitVec 1 := Scalar.andi v750 v735
  let v3710 : BitVec 32 := Scalar.extui v751
  let c0_i32_4685 : BitVec 32 := 0#32
  let v3711 : BitVec 1 := Scalar.cmpi .ne v3710 c0_i32_4685
  v3711

def k0_off307 (d0 : Dev nD) : Fin 2 → Nat :=
  let c12_i32_794 : BitVec 32 := 12#32
  let c3_i32_793 : BitVec 32 := 3#32
  let c0_i32_792 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_791 : BitVec 32 := 0#32
  let v752 : BitVec 32 := Scalar.addi v8 c0_i32_791
  let v753 : BitVec 32 := Scalar.maxsi c0_i32_792 v752
  let v754 : BitVec 32 := Scalar.minsi c3_i32_793 v753
  let v755 : BitVec 32 := Scalar.addi c12_i32_794 v754
  let c256_i32_795 : BitVec 32 := 256#32
  let v756 : BitVec 32 := Scalar.muli v755 c256_i32_795
  let c2048_i32 : BitVec 32 := 2048#32
  ![v756.toNat, 2048]
def k0_cond313 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_840 : BitVec 32 := 1#32
  let v789 : BitVec 1 := Scalar.cmpi .sge v5 c1_i32_840
  let c3_i32_841 : BitVec 32 := 3#32
  let v790 : BitVec 1 := Scalar.cmpi .slt v5 c3_i32_841
  let v791 : BitVec 1 := Scalar.andi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_804 : BitVec 32 := 0#32
  let v760 : BitVec 32 := Scalar.subi v8 c0_i32_804
  let c0_i32_805 : BitVec 32 := 0#32
  let v761 : BitVec 1 := Scalar.cmpi .eq v760 c0_i32_805
  let c0_i32_806 : BitVec 32 := 0#32
  let v762 : BitVec 32 := Scalar.addi v8 c0_i32_806
  let c0_i32_807 : BitVec 32 := 0#32
  let v763 : BitVec 1 := Scalar.cmpi .eq v762 c0_i32_807
  let v764 : BitVec 1 := Scalar.ori v761 v763
  let v792 : BitVec 1 := Scalar.andi v791 v764
  let v3712 : BitVec 32 := Scalar.extui v792
  let c0_i32_4692 : BitVec 32 := 0#32
  let v3713 : BitVec 1 := Scalar.cmpi .ne v3712 c0_i32_4692
  v3713

def k0_off308 (d0 : Dev nD) : Fin 2 → Nat :=
  let c4_i32_845 : BitVec 32 := 4#32
  let c3_i32_844 : BitVec 32 := 3#32
  let c0_i32_843 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_842 : BitVec 32 := 1#32
  let v793 : BitVec 32 := Scalar.subi v5 c1_i32_842
  let v794 : BitVec 32 := Scalar.maxsi c0_i32_843 v793
  let v795 : BitVec 32 := Scalar.minsi c3_i32_844 v794
  let v796 : BitVec 32 := Scalar.muli c4_i32_845 v795
  let c0_i32_846 : BitVec 32 := 0#32
  let v797 : BitVec 32 := Scalar.addi v796 c0_i32_846
  let c256_i32_847 : BitVec 32 := 256#32
  let v798 : BitVec 32 := Scalar.muli v797 c256_i32_847
  let c0_i32_5491 : BitVec 32 := 0#32
  ![v798.toNat, 0]
def k0_cond314 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_856 : BitVec 32 := 2#32
  let v802 : BitVec 1 := Scalar.cmpi .sle v5 c2_i32_856
  let c0_i32_857 : BitVec 32 := 0#32
  let v803 : BitVec 1 := Scalar.cmpi .sgt v5 c0_i32_857
  let v804 : BitVec 1 := Scalar.andi v802 v803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_804 : BitVec 32 := 0#32
  let v760 : BitVec 32 := Scalar.subi v8 c0_i32_804
  let c0_i32_805 : BitVec 32 := 0#32
  let v761 : BitVec 1 := Scalar.cmpi .eq v760 c0_i32_805
  let c0_i32_806 : BitVec 32 := 0#32
  let v762 : BitVec 32 := Scalar.addi v8 c0_i32_806
  let c0_i32_807 : BitVec 32 := 0#32
  let v763 : BitVec 1 := Scalar.cmpi .eq v762 c0_i32_807
  let v764 : BitVec 1 := Scalar.ori v761 v763
  let v805 : BitVec 1 := Scalar.andi v804 v764
  let v3714 : BitVec 32 := Scalar.extui v805
  let c0_i32_4699 : BitVec 32 := 0#32
  let v3715 : BitVec 1 := Scalar.cmpi .ne v3714 c0_i32_4699
  v3715

def k0_off309 (d0 : Dev nD) : Fin 2 → Nat :=
  let c4_i32_861 : BitVec 32 := 4#32
  let c3_i32_860 : BitVec 32 := 3#32
  let c0_i32_859 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_858 : BitVec 32 := 1#32
  let v806 : BitVec 32 := Scalar.addi v5 c1_i32_858
  let v807 : BitVec 32 := Scalar.maxsi c0_i32_859 v806
  let v808 : BitVec 32 := Scalar.minsi c3_i32_860 v807
  let v809 : BitVec 32 := Scalar.muli c4_i32_861 v808
  let c0_i32_862 : BitVec 32 := 0#32
  let v810 : BitVec 32 := Scalar.addi v809 c0_i32_862
  let c256_i32_863 : BitVec 32 := 256#32
  let v811 : BitVec 32 := Scalar.muli v810 c256_i32_863
  let c0_i32_5491 : BitVec 32 := 0#32
  ![v811.toNat, 0]
def k0_cond315 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v842 : BitVec 1 := Scalar.cmpi .sge v8 c1_i32_906
  let c3_i32_907 : BitVec 32 := 3#32
  let v843 : BitVec 1 := Scalar.cmpi .slt v8 c3_i32_907
  let v844 : BitVec 1 := Scalar.andi v842 v843
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_872 : BitVec 32 := 0#32
  let v815 : BitVec 32 := Scalar.subi v5 c0_i32_872
  let c0_i32_873 : BitVec 32 := 0#32
  let v816 : BitVec 1 := Scalar.cmpi .eq v815 c0_i32_873
  let c0_i32_874 : BitVec 32 := 0#32
  let v817 : BitVec 32 := Scalar.addi v5 c0_i32_874
  let c0_i32_875 : BitVec 32 := 0#32
  let v818 : BitVec 1 := Scalar.cmpi .eq v817 c0_i32_875
  let v819 : BitVec 1 := Scalar.ori v816 v818
  let v845 : BitVec 1 := Scalar.andi v844 v819
  let v3716 : BitVec 32 := Scalar.extui v845
  let c0_i32_4706 : BitVec 32 := 0#32
  let v3717 : BitVec 1 := Scalar.cmpi .ne v3716 c0_i32_4706
  v3717

def k0_off310 (d0 : Dev nD) : Fin 2 → Nat :=
  let c0_i32_911 : BitVec 32 := 0#32
  let c3_i32_910 : BitVec 32 := 3#32
  let c0_i32_909 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_908 : BitVec 32 := 1#32
  let v846 : BitVec 32 := Scalar.subi v8 c1_i32_908
  let v847 : BitVec 32 := Scalar.maxsi c0_i32_909 v846
  let v848 : BitVec 32 := Scalar.minsi c3_i32_910 v847
  let v849 : BitVec 32 := Scalar.addi c0_i32_911 v848
  let c256_i32_912 : BitVec 32 := 256#32
  let v850 : BitVec 32 := Scalar.muli v849 c256_i32_912
  let c2048_i32 : BitVec 32 := 2048#32
  ![v850.toNat, 2048]
def k0_cond316 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_921 : BitVec 32 := 2#32
  let v854 : BitVec 1 := Scalar.cmpi .sle v8 c2_i32_921
  let c0_i32_922 : BitVec 32 := 0#32
  let v855 : BitVec 1 := Scalar.cmpi .sgt v8 c0_i32_922
  let v856 : BitVec 1 := Scalar.andi v854 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_872 : BitVec 32 := 0#32
  let v815 : BitVec 32 := Scalar.subi v5 c0_i32_872
  let c0_i32_873 : BitVec 32 := 0#32
  let v816 : BitVec 1 := Scalar.cmpi .eq v815 c0_i32_873
  let c0_i32_874 : BitVec 32 := 0#32
  let v817 : BitVec 32 := Scalar.addi v5 c0_i32_874
  let c0_i32_875 : BitVec 32 := 0#32
  let v818 : BitVec 1 := Scalar.cmpi .eq v817 c0_i32_875
  let v819 : BitVec 1 := Scalar.ori v816 v818
  let v857 : BitVec 1 := Scalar.andi v856 v819
  let v3718 : BitVec 32 := Scalar.extui v857
  let c0_i32_4713 : BitVec 32 := 0#32
  let v3719 : BitVec 1 := Scalar.cmpi .ne v3718 c0_i32_4713
  v3719

def k0_off311 (d0 : Dev nD) : Fin 2 → Nat :=
  let c0_i32_926 : BitVec 32 := 0#32
  let c3_i32_925 : BitVec 32 := 3#32
  let c0_i32_924 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v858 : BitVec 32 := Scalar.addi v8 c1_i32_923
  let v859 : BitVec 32 := Scalar.maxsi c0_i32_924 v858
  let v860 : BitVec 32 := Scalar.minsi c3_i32_925 v859
  let v861 : BitVec 32 := Scalar.addi c0_i32_926 v860
  let c256_i32_927 : BitVec 32 := 256#32
  let v862 : BitVec 32 := Scalar.muli v861 c256_i32_927
  let c2048_i32 : BitVec 32 := 2048#32
  ![v862.toNat, 2048]
def k0_cond317 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_972 : BitVec 32 := 1#32
  let v895 : BitVec 1 := Scalar.cmpi .sge v5 c1_i32_972
  let c3_i32_973 : BitVec 32 := 3#32
  let v896 : BitVec 1 := Scalar.cmpi .slt v5 c3_i32_973
  let v897 : BitVec 1 := Scalar.andi v895 v896
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_936 : BitVec 32 := 0#32
  let v866 : BitVec 32 := Scalar.subi v8 c0_i32_936
  let c1_i32_937 : BitVec 32 := 1#32
  let v867 : BitVec 1 := Scalar.cmpi .eq v866 c1_i32_937
  let c0_i32_938 : BitVec 32 := 0#32
  let v868 : BitVec 32 := Scalar.addi v8 c0_i32_938
  let c1_i32_939 : BitVec 32 := 1#32
  let v869 : BitVec 1 := Scalar.cmpi .eq v868 c1_i32_939
  let v870 : BitVec 1 := Scalar.ori v867 v869
  let v898 : BitVec 1 := Scalar.andi v897 v870
  let v3720 : BitVec 32 := Scalar.extui v898
  let c0_i32_4720 : BitVec 32 := 0#32
  let v3721 : BitVec 1 := Scalar.cmpi .ne v3720 c0_i32_4720
  v3721

def k0_off312 (d0 : Dev nD) : Fin 2 → Nat :=
  let c4_i32_977 : BitVec 32 := 4#32
  let c3_i32_976 : BitVec 32 := 3#32
  let c0_i32_975 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_974 : BitVec 32 := 1#32
  let v899 : BitVec 32 := Scalar.subi v5 c1_i32_974
  let v900 : BitVec 32 := Scalar.maxsi c0_i32_975 v899
  let v901 : BitVec 32 := Scalar.minsi c3_i32_976 v900
  let v902 : BitVec 32 := Scalar.muli c4_i32_977 v901
  let c1_i32_978 : BitVec 32 := 1#32
  let v903 : BitVec 32 := Scalar.addi v902 c1_i32_978
  let c256_i32_979 : BitVec 32 := 256#32
  let v904 : BitVec 32 := Scalar.muli v903 c256_i32_979
  let c0_i32_5491 : BitVec 32 := 0#32
  ![v904.toNat, 0]
def k0_cond318 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_988 : BitVec 32 := 2#32
  let v908 : BitVec 1 := Scalar.cmpi .sle v5 c2_i32_988
  let c0_i32_989 : BitVec 32 := 0#32
  let v909 : BitVec 1 := Scalar.cmpi .sgt v5 c0_i32_989
  let v910 : BitVec 1 := Scalar.andi v908 v909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_936 : BitVec 32 := 0#32
  let v866 : BitVec 32 := Scalar.subi v8 c0_i32_936
  let c1_i32_937 : BitVec 32 := 1#32
  let v867 : BitVec 1 := Scalar.cmpi .eq v866 c1_i32_937
  let c0_i32_938 : BitVec 32 := 0#32
  let v868 : BitVec 32 := Scalar.addi v8 c0_i32_938
  let c1_i32_939 : BitVec 32 := 1#32
  let v869 : BitVec 1 := Scalar.cmpi .eq v868 c1_i32_939
  let v870 : BitVec 1 := Scalar.ori v867 v869
  let v911 : BitVec 1 := Scalar.andi v910 v870
  let v3722 : BitVec 32 := Scalar.extui v911
  let c0_i32_4727 : BitVec 32 := 0#32
  let v3723 : BitVec 1 := Scalar.cmpi .ne v3722 c0_i32_4727
  v3723

def k0_off313 (d0 : Dev nD) : Fin 2 → Nat :=
  let c4_i32_993 : BitVec 32 := 4#32
  let c3_i32_992 : BitVec 32 := 3#32
  let c0_i32_991 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_990 : BitVec 32 := 1#32
  let v912 : BitVec 32 := Scalar.addi v5 c1_i32_990
  let v913 : BitVec 32 := Scalar.maxsi c0_i32_991 v912
  let v914 : BitVec 32 := Scalar.minsi c3_i32_992 v913
  let v915 : BitVec 32 := Scalar.muli c4_i32_993 v914
  let c1_i32_994 : BitVec 32 := 1#32
  let v916 : BitVec 32 := Scalar.addi v915 c1_i32_994
  let c256_i32_995 : BitVec 32 := 256#32
  let v917 : BitVec 32 := Scalar.muli v916 c256_i32_995
  let c0_i32_5491 : BitVec 32 := 0#32
  ![v917.toNat, 0]
def k0_cond319 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1038 : BitVec 32 := 1#32
  let v948 : BitVec 1 := Scalar.cmpi .sge v8 c1_i32_1038
  let c3_i32_1039 : BitVec 32 := 3#32
  let v949 : BitVec 1 := Scalar.cmpi .slt v8 c3_i32_1039
  let v950 : BitVec 1 := Scalar.andi v948 v949
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1004 : BitVec 32 := 0#32
  let v921 : BitVec 32 := Scalar.subi v5 c0_i32_1004
  let c1_i32_1005 : BitVec 32 := 1#32
  let v922 : BitVec 1 := Scalar.cmpi .eq v921 c1_i32_1005
  let c0_i32_1006 : BitVec 32 := 0#32
  let v923 : BitVec 32 := Scalar.addi v5 c0_i32_1006
  let c1_i32_1007 : BitVec 32 := 1#32
  let v924 : BitVec 1 := Scalar.cmpi .eq v923 c1_i32_1007
  let v925 : BitVec 1 := Scalar.ori v922 v924
  let v951 : BitVec 1 := Scalar.andi v950 v925
  let v3724 : BitVec 32 := Scalar.extui v951
  let c0_i32_4734 : BitVec 32 := 0#32
  let v3725 : BitVec 1 := Scalar.cmpi .ne v3724 c0_i32_4734
  v3725

def k0_off314 (d0 : Dev nD) : Fin 2 → Nat :=
  let c4_i32_1043 : BitVec 32 := 4#32
  let c3_i32_1042 : BitVec 32 := 3#32
  let c0_i32_1041 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v952 : BitVec 32 := Scalar.subi v8 c1_i32_1040
  let v953 : BitVec 32 := Scalar.maxsi c0_i32_1041 v952
  let v954 : BitVec 32 := Scalar.minsi c3_i32_1042 v953
  let v955 : BitVec 32 := Scalar.addi c4_i32_1043 v954
  let c256_i32_1044 : BitVec 32 := 256#32
  let v956 : BitVec 32 := Scalar.muli v955 c256_i32_1044
  let c2048_i32 : BitVec 32 := 2048#32
  ![v956.toNat, 2048]
def k0_cond320 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1053 : BitVec 32 := 2#32
  let v960 : BitVec 1 := Scalar.cmpi .sle v8 c2_i32_1053
  let c0_i32_1054 : BitVec 32 := 0#32
  let v961 : BitVec 1 := Scalar.cmpi .sgt v8 c0_i32_1054
  let v962 : BitVec 1 := Scalar.andi v960 v961
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1004 : BitVec 32 := 0#32
  let v921 : BitVec 32 := Scalar.subi v5 c0_i32_1004
  let c1_i32_1005 : BitVec 32 := 1#32
  let v922 : BitVec 1 := Scalar.cmpi .eq v921 c1_i32_1005
  let c0_i32_1006 : BitVec 32 := 0#32
  let v923 : BitVec 32 := Scalar.addi v5 c0_i32_1006
  let c1_i32_1007 : BitVec 32 := 1#32
  let v924 : BitVec 1 := Scalar.cmpi .eq v923 c1_i32_1007
  let v925 : BitVec 1 := Scalar.ori v922 v924
  let v963 : BitVec 1 := Scalar.andi v962 v925
  let v3726 : BitVec 32 := Scalar.extui v963
  let c0_i32_4741 : BitVec 32 := 0#32
  let v3727 : BitVec 1 := Scalar.cmpi .ne v3726 c0_i32_4741
  v3727

def k0_off315 (d0 : Dev nD) : Fin 2 → Nat :=
  let c4_i32_1058 : BitVec 32 := 4#32
  let c3_i32_1057 : BitVec 32 := 3#32
  let c0_i32_1056 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1055 : BitVec 32 := 1#32
  let v964 : BitVec 32 := Scalar.addi v8 c1_i32_1055
  let v965 : BitVec 32 := Scalar.maxsi c0_i32_1056 v964
  let v966 : BitVec 32 := Scalar.minsi c3_i32_1057 v965
  let v967 : BitVec 32 := Scalar.addi c4_i32_1058 v966
  let c256_i32_1059 : BitVec 32 := 256#32
  let v968 : BitVec 32 := Scalar.muli v967 c256_i32_1059
  let c2048_i32 : BitVec 32 := 2048#32
  ![v968.toNat, 2048]
def k0_cond321 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1104 : BitVec 32 := 1#32
  let v1001 : BitVec 1 := Scalar.cmpi .sge v5 c1_i32_1104
  let c3_i32_1105 : BitVec 32 := 3#32
  let v1002 : BitVec 1 := Scalar.cmpi .slt v5 c3_i32_1105
  let v1003 : BitVec 1 := Scalar.andi v1001 v1002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1068 : BitVec 32 := 0#32
  let v972 : BitVec 32 := Scalar.subi v8 c0_i32_1068
  let c2_i32_1069 : BitVec 32 := 2#32
  let v973 : BitVec 1 := Scalar.cmpi .eq v972 c2_i32_1069
  let c0_i32_1070 : BitVec 32 := 0#32
  let v974 : BitVec 32 := Scalar.addi v8 c0_i32_1070
  let c2_i32_1071 : BitVec 32 := 2#32
  let v975 : BitVec 1 := Scalar.cmpi .eq v974 c2_i32_1071
  let v976 : BitVec 1 := Scalar.ori v973 v975
  let v1004 : BitVec 1 := Scalar.andi v1003 v976
  let v3728 : BitVec 32 := Scalar.extui v1004
  let c0_i32_4748 : BitVec 32 := 0#32
  let v3729 : BitVec 1 := Scalar.cmpi .ne v3728 c0_i32_4748
  v3729

def k0_off316 (d0 : Dev nD) : Fin 2 → Nat :=
  let c4_i32_1109 : BitVec 32 := 4#32
  let c3_i32_1108 : BitVec 32 := 3#32
  let c0_i32_1107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1106 : BitVec 32 := 1#32
  let v1005 : BitVec 32 := Scalar.subi v5 c1_i32_1106
  let v1006 : BitVec 32 := Scalar.maxsi c0_i32_1107 v1005
  let v1007 : BitVec 32 := Scalar.minsi c3_i32_1108 v1006
  let v1008 : BitVec 32 := Scalar.muli c4_i32_1109 v1007
  let c2_i32_1110 : BitVec 32 := 2#32
  let v1009 : BitVec 32 := Scalar.addi v1008 c2_i32_1110
  let c256_i32_1111 : BitVec 32 := 256#32
  let v1010 : BitVec 32 := Scalar.muli v1009 c256_i32_1111
  let c0_i32_5491 : BitVec 32 := 0#32
  ![v1010.toNat, 0]
def k0_cond322 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1120 : BitVec 32 := 2#32
  let v1014 : BitVec 1 := Scalar.cmpi .sle v5 c2_i32_1120
  let c0_i32_1121 : BitVec 32 := 0#32
  let v1015 : BitVec 1 := Scalar.cmpi .sgt v5 c0_i32_1121
  let v1016 : BitVec 1 := Scalar.andi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1068 : BitVec 32 := 0#32
  let v972 : BitVec 32 := Scalar.subi v8 c0_i32_1068
  let c2_i32_1069 : BitVec 32 := 2#32
  let v973 : BitVec 1 := Scalar.cmpi .eq v972 c2_i32_1069
  let c0_i32_1070 : BitVec 32 := 0#32
  let v974 : BitVec 32 := Scalar.addi v8 c0_i32_1070
  let c2_i32_1071 : BitVec 32 := 2#32
  let v975 : BitVec 1 := Scalar.cmpi .eq v974 c2_i32_1071
  let v976 : BitVec 1 := Scalar.ori v973 v975
  let v1017 : BitVec 1 := Scalar.andi v1016 v976
  let v3730 : BitVec 32 := Scalar.extui v1017
  let c0_i32_4755 : BitVec 32 := 0#32
  let v3731 : BitVec 1 := Scalar.cmpi .ne v3730 c0_i32_4755
  v3731

def k0_off317 (d0 : Dev nD) : Fin 2 → Nat :=
  let c4_i32_1125 : BitVec 32 := 4#32
  let c3_i32_1124 : BitVec 32 := 3#32
  let c0_i32_1123 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1122 : BitVec 32 := 1#32
  let v1018 : BitVec 32 := Scalar.addi v5 c1_i32_1122
  let v1019 : BitVec 32 := Scalar.maxsi c0_i32_1123 v1018
  let v1020 : BitVec 32 := Scalar.minsi c3_i32_1124 v1019
  let v1021 : BitVec 32 := Scalar.muli c4_i32_1125 v1020
  let c2_i32_1126 : BitVec 32 := 2#32
  let v1022 : BitVec 32 := Scalar.addi v1021 c2_i32_1126
  let c256_i32_1127 : BitVec 32 := 256#32
  let v1023 : BitVec 32 := Scalar.muli v1022 c256_i32_1127
  let c0_i32_5491 : BitVec 32 := 0#32
  ![v1023.toNat, 0]
def k0_cond323 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1170 : BitVec 32 := 1#32
  let v1054 : BitVec 1 := Scalar.cmpi .sge v8 c1_i32_1170
  let c3_i32_1171 : BitVec 32 := 3#32
  let v1055 : BitVec 1 := Scalar.cmpi .slt v8 c3_i32_1171
  let v1056 : BitVec 1 := Scalar.andi v1054 v1055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1136 : BitVec 32 := 0#32
  let v1027 : BitVec 32 := Scalar.subi v5 c0_i32_1136
  let c2_i32_1137 : BitVec 32 := 2#32
  let v1028 : BitVec 1 := Scalar.cmpi .eq v1027 c2_i32_1137
  let c0_i32_1138 : BitVec 32 := 0#32
  let v1029 : BitVec 32 := Scalar.addi v5 c0_i32_1138
  let c2_i32_1139 : BitVec 32 := 2#32
  let v1030 : BitVec 1 := Scalar.cmpi .eq v1029 c2_i32_1139
  let v1031 : BitVec 1 := Scalar.ori v1028 v1030
  let v1057 : BitVec 1 := Scalar.andi v1056 v1031
  let v3732 : BitVec 32 := Scalar.extui v1057
  let c0_i32_4762 : BitVec 32 := 0#32
  let v3733 : BitVec 1 := Scalar.cmpi .ne v3732 c0_i32_4762
  v3733

def k0_off318 (d0 : Dev nD) : Fin 2 → Nat :=
  let c8_i32_1175 : BitVec 32 := 8#32
  let c3_i32_1174 : BitVec 32 := 3#32
  let c0_i32_1173 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1172 : BitVec 32 := 1#32
  let v1058 : BitVec 32 := Scalar.subi v8 c1_i32_1172
  let v1059 : BitVec 32 := Scalar.maxsi c0_i32_1173 v1058
  let v1060 : BitVec 32 := Scalar.minsi c3_i32_1174 v1059
  let v1061 : BitVec 32 := Scalar.addi c8_i32_1175 v1060
  let c256_i32_1176 : BitVec 32 := 256#32
  let v1062 : BitVec 32 := Scalar.muli v1061 c256_i32_1176
  let c2048_i32 : BitVec 32 := 2048#32
  ![v1062.toNat, 2048]
def k0_cond324 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1185 : BitVec 32 := 2#32
  let v1066 : BitVec 1 := Scalar.cmpi .sle v8 c2_i32_1185
  let c0_i32_1186 : BitVec 32 := 0#32
  let v1067 : BitVec 1 := Scalar.cmpi .sgt v8 c0_i32_1186
  let v1068 : BitVec 1 := Scalar.andi v1066 v1067
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1136 : BitVec 32 := 0#32
  let v1027 : BitVec 32 := Scalar.subi v5 c0_i32_1136
  let c2_i32_1137 : BitVec 32 := 2#32
  let v1028 : BitVec 1 := Scalar.cmpi .eq v1027 c2_i32_1137
  let c0_i32_1138 : BitVec 32 := 0#32
  let v1029 : BitVec 32 := Scalar.addi v5 c0_i32_1138
  let c2_i32_1139 : BitVec 32 := 2#32
  let v1030 : BitVec 1 := Scalar.cmpi .eq v1029 c2_i32_1139
  let v1031 : BitVec 1 := Scalar.ori v1028 v1030
  let v1069 : BitVec 1 := Scalar.andi v1068 v1031
  let v3734 : BitVec 32 := Scalar.extui v1069
  let c0_i32_4769 : BitVec 32 := 0#32
  let v3735 : BitVec 1 := Scalar.cmpi .ne v3734 c0_i32_4769
  v3735

def k0_off319 (d0 : Dev nD) : Fin 2 → Nat :=
  let c8_i32_1190 : BitVec 32 := 8#32
  let c3_i32_1189 : BitVec 32 := 3#32
  let c0_i32_1188 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1187 : BitVec 32 := 1#32
  let v1070 : BitVec 32 := Scalar.addi v8 c1_i32_1187
  let v1071 : BitVec 32 := Scalar.maxsi c0_i32_1188 v1070
  let v1072 : BitVec 32 := Scalar.minsi c3_i32_1189 v1071
  let v1073 : BitVec 32 := Scalar.addi c8_i32_1190 v1072
  let c256_i32_1191 : BitVec 32 := 256#32
  let v1074 : BitVec 32 := Scalar.muli v1073 c256_i32_1191
  let c2048_i32 : BitVec 32 := 2048#32
  ![v1074.toNat, 2048]
def k0_cond325 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1236 : BitVec 32 := 1#32
  let v1107 : BitVec 1 := Scalar.cmpi .sge v5 c1_i32_1236
  let c3_i32_1237 : BitVec 32 := 3#32
  let v1108 : BitVec 1 := Scalar.cmpi .slt v5 c3_i32_1237
  let v1109 : BitVec 1 := Scalar.andi v1107 v1108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1200 : BitVec 32 := 0#32
  let v1078 : BitVec 32 := Scalar.subi v8 c0_i32_1200
  let c3_i32_1201 : BitVec 32 := 3#32
  let v1079 : BitVec 1 := Scalar.cmpi .eq v1078 c3_i32_1201
  let c0_i32_1202 : BitVec 32 := 0#32
  let v1080 : BitVec 32 := Scalar.addi v8 c0_i32_1202
  let c3_i32_1203 : BitVec 32 := 3#32
  let v1081 : BitVec 1 := Scalar.cmpi .eq v1080 c3_i32_1203
  let v1082 : BitVec 1 := Scalar.ori v1079 v1081
  let v1110 : BitVec 1 := Scalar.andi v1109 v1082
  let v3736 : BitVec 32 := Scalar.extui v1110
  let c0_i32_4776 : BitVec 32 := 0#32
  let v3737 : BitVec 1 := Scalar.cmpi .ne v3736 c0_i32_4776
  v3737

def k0_off320 (d0 : Dev nD) : Fin 2 → Nat :=
  let c4_i32_1241 : BitVec 32 := 4#32
  let c3_i32_1240 : BitVec 32 := 3#32
  let c0_i32_1239 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1238 : BitVec 32 := 1#32
  let v1111 : BitVec 32 := Scalar.subi v5 c1_i32_1238
  let v1112 : BitVec 32 := Scalar.maxsi c0_i32_1239 v1111
  let v1113 : BitVec 32 := Scalar.minsi c3_i32_1240 v1112
  let v1114 : BitVec 32 := Scalar.muli c4_i32_1241 v1113
  let c3_i32_1242 : BitVec 32 := 3#32
  let v1115 : BitVec 32 := Scalar.addi v1114 c3_i32_1242
  let c256_i32_1243 : BitVec 32 := 256#32
  let v1116 : BitVec 32 := Scalar.muli v1115 c256_i32_1243
  let c0_i32_5491 : BitVec 32 := 0#32
  ![v1116.toNat, 0]
def k0_cond326 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1252 : BitVec 32 := 2#32
  let v1120 : BitVec 1 := Scalar.cmpi .sle v5 c2_i32_1252
  let c0_i32_1253 : BitVec 32 := 0#32
  let v1121 : BitVec 1 := Scalar.cmpi .sgt v5 c0_i32_1253
  let v1122 : BitVec 1 := Scalar.andi v1120 v1121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1200 : BitVec 32 := 0#32
  let v1078 : BitVec 32 := Scalar.subi v8 c0_i32_1200
  let c3_i32_1201 : BitVec 32 := 3#32
  let v1079 : BitVec 1 := Scalar.cmpi .eq v1078 c3_i32_1201
  let c0_i32_1202 : BitVec 32 := 0#32
  let v1080 : BitVec 32 := Scalar.addi v8 c0_i32_1202
  let c3_i32_1203 : BitVec 32 := 3#32
  let v1081 : BitVec 1 := Scalar.cmpi .eq v1080 c3_i32_1203
  let v1082 : BitVec 1 := Scalar.ori v1079 v1081
  let v1123 : BitVec 1 := Scalar.andi v1122 v1082
  let v3738 : BitVec 32 := Scalar.extui v1123
  let c0_i32_4783 : BitVec 32 := 0#32
  let v3739 : BitVec 1 := Scalar.cmpi .ne v3738 c0_i32_4783
  v3739

def k0_off321 (d0 : Dev nD) : Fin 2 → Nat :=
  let c4_i32_1257 : BitVec 32 := 4#32
  let c3_i32_1256 : BitVec 32 := 3#32
  let c0_i32_1255 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1254 : BitVec 32 := 1#32
  let v1124 : BitVec 32 := Scalar.addi v5 c1_i32_1254
  let v1125 : BitVec 32 := Scalar.maxsi c0_i32_1255 v1124
  let v1126 : BitVec 32 := Scalar.minsi c3_i32_1256 v1125
  let v1127 : BitVec 32 := Scalar.muli c4_i32_1257 v1126
  let c3_i32_1258 : BitVec 32 := 3#32
  let v1128 : BitVec 32 := Scalar.addi v1127 c3_i32_1258
  let c256_i32_1259 : BitVec 32 := 256#32
  let v1129 : BitVec 32 := Scalar.muli v1128 c256_i32_1259
  let c0_i32_5491 : BitVec 32 := 0#32
  ![v1129.toNat, 0]
def k0_cond327 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1302 : BitVec 32 := 1#32
  let v1160 : BitVec 1 := Scalar.cmpi .sge v8 c1_i32_1302
  let c3_i32_1303 : BitVec 32 := 3#32
  let v1161 : BitVec 1 := Scalar.cmpi .slt v8 c3_i32_1303
  let v1162 : BitVec 1 := Scalar.andi v1160 v1161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1268 : BitVec 32 := 0#32
  let v1133 : BitVec 32 := Scalar.subi v5 c0_i32_1268
  let c3_i32_1269 : BitVec 32 := 3#32
  let v1134 : BitVec 1 := Scalar.cmpi .eq v1133 c3_i32_1269
  let c0_i32_1270 : BitVec 32 := 0#32
  let v1135 : BitVec 32 := Scalar.addi v5 c0_i32_1270
  let c3_i32_1271 : BitVec 32 := 3#32
  let v1136 : BitVec 1 := Scalar.cmpi .eq v1135 c3_i32_1271
  let v1137 : BitVec 1 := Scalar.ori v1134 v1136
  let v1163 : BitVec 1 := Scalar.andi v1162 v1137
  let v3740 : BitVec 32 := Scalar.extui v1163
  let c0_i32_4790 : BitVec 32 := 0#32
  let v3741 : BitVec 1 := Scalar.cmpi .ne v3740 c0_i32_4790
  v3741

def k0_off322 (d0 : Dev nD) : Fin 2 → Nat :=
  let c12_i32_1307 : BitVec 32 := 12#32
  let c3_i32_1306 : BitVec 32 := 3#32
  let c0_i32_1305 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1304 : BitVec 32 := 1#32
  let v1164 : BitVec 32 := Scalar.subi v8 c1_i32_1304
  let v1165 : BitVec 32 := Scalar.maxsi c0_i32_1305 v1164
  let v1166 : BitVec 32 := Scalar.minsi c3_i32_1306 v1165
  let v1167 : BitVec 32 := Scalar.addi c12_i32_1307 v1166
  let c256_i32_1308 : BitVec 32 := 256#32
  let v1168 : BitVec 32 := Scalar.muli v1167 c256_i32_1308
  let c2048_i32 : BitVec 32 := 2048#32
  ![v1168.toNat, 2048]
def k0_cond328 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1317 : BitVec 32 := 2#32
  let v1172 : BitVec 1 := Scalar.cmpi .sle v8 c2_i32_1317
  let c0_i32_1318 : BitVec 32 := 0#32
  let v1173 : BitVec 1 := Scalar.cmpi .sgt v8 c0_i32_1318
  let v1174 : BitVec 1 := Scalar.andi v1172 v1173
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1268 : BitVec 32 := 0#32
  let v1133 : BitVec 32 := Scalar.subi v5 c0_i32_1268
  let c3_i32_1269 : BitVec 32 := 3#32
  let v1134 : BitVec 1 := Scalar.cmpi .eq v1133 c3_i32_1269
  let c0_i32_1270 : BitVec 32 := 0#32
  let v1135 : BitVec 32 := Scalar.addi v5 c0_i32_1270
  let c3_i32_1271 : BitVec 32 := 3#32
  let v1136 : BitVec 1 := Scalar.cmpi .eq v1135 c3_i32_1271
  let v1137 : BitVec 1 := Scalar.ori v1134 v1136
  let v1175 : BitVec 1 := Scalar.andi v1174 v1137
  let v3742 : BitVec 32 := Scalar.extui v1175
  let c0_i32_4797 : BitVec 32 := 0#32
  let v3743 : BitVec 1 := Scalar.cmpi .ne v3742 c0_i32_4797
  v3743

def k0_off323 (d0 : Dev nD) : Fin 2 → Nat :=
  let c12_i32_1322 : BitVec 32 := 12#32
  let c3_i32_1321 : BitVec 32 := 3#32
  let c0_i32_1320 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1319 : BitVec 32 := 1#32
  let v1176 : BitVec 32 := Scalar.addi v8 c1_i32_1319
  let v1177 : BitVec 32 := Scalar.maxsi c0_i32_1320 v1176
  let v1178 : BitVec 32 := Scalar.minsi c3_i32_1321 v1177
  let v1179 : BitVec 32 := Scalar.addi c12_i32_1322 v1178
  let c256_i32_1323 : BitVec 32 := 256#32
  let v1180 : BitVec 32 := Scalar.muli v1179 c256_i32_1323
  let c2048_i32 : BitVec 32 := 2048#32
  ![v1180.toNat, 2048]
def k0_cond329 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1384 : BitVec 32 := 2#32
  let v1228 : BitVec 1 := Scalar.cmpi .sge v8 c2_i32_1384
  let c3_i32_1385 : BitVec 32 := 3#32
  let v1229 : BitVec 1 := Scalar.cmpi .slt v8 c3_i32_1385
  let v1230 : BitVec 1 := Scalar.andi v1228 v1229
  let v3744 : BitVec 32 := Scalar.extui v1230
  let c0_i32_4802 : BitVec 32 := 0#32
  let v3745 : BitVec 1 := Scalar.cmpi .ne v3744 c0_i32_4802
  v3745

def k0_off324 (d0 : Dev nD) : Fin 2 → Nat :=
  let c4_i32_1389 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1234 : BitVec 32 := Scalar.muli c4_i32_1389 v5
  let c3_i32_1388 : BitVec 32 := 3#32
  let c0_i32_1387 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1386 : BitVec 32 := 2#32
  let v1231 : BitVec 32 := Scalar.subi v8 c2_i32_1386
  let v1232 : BitVec 32 := Scalar.maxsi c0_i32_1387 v1231
  let v1233 : BitVec 32 := Scalar.minsi c3_i32_1388 v1232
  let v1235 : BitVec 32 := Scalar.addi v1234 v1233
  let c256_i32_1390 : BitVec 32 := 256#32
  let v1236 : BitVec 32 := Scalar.muli v1235 c256_i32_1390
  let c0_i32_5491 : BitVec 32 := 0#32
  ![v1236.toNat, 0]
def k0_cond330 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1397 : BitVec 32 := 1#32
  let v1240 : BitVec 1 := Scalar.cmpi .sle v8 c1_i32_1397
  let c0_i32_1398 : BitVec 32 := 0#32
  let v1241 : BitVec 1 := Scalar.cmpi .sgt v8 c0_i32_1398
  let v1242 : BitVec 1 := Scalar.andi v1240 v1241
  let v3746 : BitVec 32 := Scalar.extui v1242
  let c0_i32_4807 : BitVec 32 := 0#32
  let v3747 : BitVec 1 := Scalar.cmpi .ne v3746 c0_i32_4807
  v3747

def k0_off325 (d0 : Dev nD) : Fin 2 → Nat :=
  let c4_i32_1402 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1246 : BitVec 32 := Scalar.muli c4_i32_1402 v5
  let c3_i32_1401 : BitVec 32 := 3#32
  let c0_i32_1400 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1399 : BitVec 32 := 2#32
  let v1243 : BitVec 32 := Scalar.addi v8 c2_i32_1399
  let v1244 : BitVec 32 := Scalar.maxsi c0_i32_1400 v1243
  let v1245 : BitVec 32 := Scalar.minsi c3_i32_1401 v1244
  let v1247 : BitVec 32 := Scalar.addi v1246 v1245
  let c256_i32_1403 : BitVec 32 := 256#32
  let v1248 : BitVec 32 := Scalar.muli v1247 c256_i32_1403
  let c0_i32_5491 : BitVec 32 := 0#32
  ![v1248.toNat, 0]
def k0_cond331 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1410 : BitVec 32 := 2#32
  let v1252 : BitVec 1 := Scalar.cmpi .sge v5 c2_i32_1410
  let c3_i32_1411 : BitVec 32 := 3#32
  let v1253 : BitVec 1 := Scalar.cmpi .slt v5 c3_i32_1411
  let v1254 : BitVec 1 := Scalar.andi v1252 v1253
  let v3748 : BitVec 32 := Scalar.extui v1254
  let c0_i32_4812 : BitVec 32 := 0#32
  let v3749 : BitVec 1 := Scalar.cmpi .ne v3748 c0_i32_4812
  v3749

def k0_off326 (d0 : Dev nD) : Fin 2 → Nat :=
  let c4_i32_1415 : BitVec 32 := 4#32
  let c3_i32_1414 : BitVec 32 := 3#32
  let c0_i32_1413 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1412 : BitVec 32 := 2#32
  let v1255 : BitVec 32 := Scalar.subi v5 c2_i32_1412
  let v1256 : BitVec 32 := Scalar.maxsi c0_i32_1413 v1255
  let v1257 : BitVec 32 := Scalar.minsi c3_i32_1414 v1256
  let v1258 : BitVec 32 := Scalar.muli c4_i32_1415 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1259 : BitVec 32 := Scalar.addi v1258 v8
  let c256_i32_1416 : BitVec 32 := 256#32
  let v1260 : BitVec 32 := Scalar.muli v1259 c256_i32_1416
  let c2048_i32 : BitVec 32 := 2048#32
  ![v1260.toNat, 2048]
def k0_cond332 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1423 : BitVec 32 := 1#32
  let v1264 : BitVec 1 := Scalar.cmpi .sle v5 c1_i32_1423
  let c0_i32_1424 : BitVec 32 := 0#32
  let v1265 : BitVec 1 := Scalar.cmpi .sgt v5 c0_i32_1424
  let v1266 : BitVec 1 := Scalar.andi v1264 v1265
  let v3750 : BitVec 32 := Scalar.extui v1266
  let c0_i32_4817 : BitVec 32 := 0#32
  let v3751 : BitVec 1 := Scalar.cmpi .ne v3750 c0_i32_4817
  v3751

def k0_off327 (d0 : Dev nD) : Fin 2 → Nat :=
  let c4_i32_1428 : BitVec 32 := 4#32
  let c3_i32_1427 : BitVec 32 := 3#32
  let c0_i32_1426 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1425 : BitVec 32 := 2#32
  let v1267 : BitVec 32 := Scalar.addi v5 c2_i32_1425
  let v1268 : BitVec 32 := Scalar.maxsi c0_i32_1426 v1267
  let v1269 : BitVec 32 := Scalar.minsi c3_i32_1427 v1268
  let v1270 : BitVec 32 := Scalar.muli c4_i32_1428 v1269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c256_i32_1429 : BitVec 32 := 256#32
  let v1272 : BitVec 32 := Scalar.muli v1271 c256_i32_1429
  let c2048_i32 : BitVec 32 := 2048#32
  ![v1272.toNat, 2048]
def k0_cond333 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1442 : BitVec 32 := 0#32
  let v1283 : BitVec 1 := Scalar.cmpi .sge v5 c0_i32_1442
  let c3_i32_1443 : BitVec 32 := 3#32
  let v1284 : BitVec 1 := Scalar.cmpi .slt v5 c3_i32_1443
  let v1285 : BitVec 1 := Scalar.andi v1283 v1284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1436 : BitVec 32 := 1#32
  let v1276 : BitVec 32 := Scalar.subi v8 c1_i32_1436
  let c1_i32_1437 : BitVec 32 := 1#32
  let v1277 : BitVec 32 := Scalar.subi v1276 c1_i32_1437
  let c0_i32_1438 : BitVec 32 := 0#32
  let v1278 : BitVec 1 := Scalar.cmpi .eq v1277 c0_i32_1438
  let c1_i32_1439 : BitVec 32 := 1#32
  let v1279 : BitVec 32 := Scalar.addi v8 c1_i32_1439
  let c1_i32_1440 : BitVec 32 := 1#32
  let v1280 : BitVec 32 := Scalar.addi v1279 c1_i32_1440
  let c0_i32_1441 : BitVec 32 := 0#32
  let v1281 : BitVec 1 := Scalar.cmpi .eq v1280 c0_i32_1441
  let v1282 : BitVec 1 := Scalar.ori v1278 v1281
  let v1286 : BitVec 1 := Scalar.andi v1285 v1282
  let v3752 : BitVec 32 := Scalar.extui v1286
  let c0_i32_4824 : BitVec 32 := 0#32
  let v3753 : BitVec 1 := Scalar.cmpi .ne v3752 c0_i32_4824
  v3753

def k0_off328 (d0 : Dev nD) : Fin 2 → Nat :=
  let c4_i32_1447 : BitVec 32 := 4#32
  let c3_i32_1446 : BitVec 32 := 3#32
  let c0_i32_1445 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1444 : BitVec 32 := 0#32
  let v1287 : BitVec 32 := Scalar.subi v5 c0_i32_1444
  let v1288 : BitVec 32 := Scalar.maxsi c0_i32_1445 v1287
  let v1289 : BitVec 32 := Scalar.minsi c3_i32_1446 v1288
  let v1290 : BitVec 32 := Scalar.muli c4_i32_1447 v1289
  let c0_i32_1448 : BitVec 32 := 0#32
  let v1291 : BitVec 32 := Scalar.addi v1290 c0_i32_1448
  let c256_i32_1449 : BitVec 32 := 256#32
  let v1292 : BitVec 32 := Scalar.muli v1291 c256_i32_1449
  let c0_i32_5491 : BitVec 32 := 0#32
  ![v1292.toNat, 0]
def k0_cond334 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1458 : BitVec 32 := 3#32
  let v1296 : BitVec 1 := Scalar.cmpi .sle v5 c3_i32_1458
  let c0_i32_1459 : BitVec 32 := 0#32
  let v1297 : BitVec 1 := Scalar.cmpi .sgt v5 c0_i32_1459
  let v1298 : BitVec 1 := Scalar.andi v1296 v1297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1436 : BitVec 32 := 1#32
  let v1276 : BitVec 32 := Scalar.subi v8 c1_i32_1436
  let c1_i32_1437 : BitVec 32 := 1#32
  let v1277 : BitVec 32 := Scalar.subi v1276 c1_i32_1437
  let c0_i32_1438 : BitVec 32 := 0#32
  let v1278 : BitVec 1 := Scalar.cmpi .eq v1277 c0_i32_1438
  let c1_i32_1439 : BitVec 32 := 1#32
  let v1279 : BitVec 32 := Scalar.addi v8 c1_i32_1439
  let c1_i32_1440 : BitVec 32 := 1#32
  let v1280 : BitVec 32 := Scalar.addi v1279 c1_i32_1440
  let c0_i32_1441 : BitVec 32 := 0#32
  let v1281 : BitVec 1 := Scalar.cmpi .eq v1280 c0_i32_1441
  let v1282 : BitVec 1 := Scalar.ori v1278 v1281
  let v1299 : BitVec 1 := Scalar.andi v1298 v1282
  let v3754 : BitVec 32 := Scalar.extui v1299
  let c0_i32_4831 : BitVec 32 := 0#32
  let v3755 : BitVec 1 := Scalar.cmpi .ne v3754 c0_i32_4831
  v3755

def k0_off329 (d0 : Dev nD) : Fin 2 → Nat :=
  let c4_i32_1463 : BitVec 32 := 4#32
  let c3_i32_1462 : BitVec 32 := 3#32
  let c0_i32_1461 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1460 : BitVec 32 := 0#32
  let v1300 : BitVec 32 := Scalar.addi v5 c0_i32_1460
  let v1301 : BitVec 32 := Scalar.maxsi c0_i32_1461 v1300
  let v1302 : BitVec 32 := Scalar.minsi c3_i32_1462 v1301
  let v1303 : BitVec 32 := Scalar.muli c4_i32_1463 v1302
  let c0_i32_1464 : BitVec 32 := 0#32
  let v1304 : BitVec 32 := Scalar.addi v1303 c0_i32_1464
  let c256_i32_1465 : BitVec 32 := 256#32
  let v1305 : BitVec 32 := Scalar.muli v1304 c256_i32_1465
  let c0_i32_5491 : BitVec 32 := 0#32
  ![v1305.toNat, 0]
def k0_cond335 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1480 : BitVec 32 := 0#32
  let v1316 : BitVec 1 := Scalar.cmpi .sge v5 c0_i32_1480
  let c3_i32_1481 : BitVec 32 := 3#32
  let v1317 : BitVec 1 := Scalar.cmpi .slt v5 c3_i32_1481
  let v1318 : BitVec 1 := Scalar.andi v1316 v1317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1474 : BitVec 32 := 1#32
  let v1309 : BitVec 32 := Scalar.subi v8 c1_i32_1474
  let c1_i32_1475 : BitVec 32 := 1#32
  let v1310 : BitVec 32 := Scalar.subi v1309 c1_i32_1475
  let c1_i32_1476 : BitVec 32 := 1#32
  let v1311 : BitVec 1 := Scalar.cmpi .eq v1310 c1_i32_1476
  let c1_i32_1477 : BitVec 32 := 1#32
  let v1312 : BitVec 32 := Scalar.addi v8 c1_i32_1477
  let c1_i32_1478 : BitVec 32 := 1#32
  let v1313 : BitVec 32 := Scalar.addi v1312 c1_i32_1478
  let c1_i32_1479 : BitVec 32 := 1#32
  let v1314 : BitVec 1 := Scalar.cmpi .eq v1313 c1_i32_1479
  let v1315 : BitVec 1 := Scalar.ori v1311 v1314
  let v1319 : BitVec 1 := Scalar.andi v1318 v1315
  let v3756 : BitVec 32 := Scalar.extui v1319
  let c0_i32_4838 : BitVec 32 := 0#32
  let v3757 : BitVec 1 := Scalar.cmpi .ne v3756 c0_i32_4838
  v3757

def k0_off330 (d0 : Dev nD) : Fin 2 → Nat :=
  let c4_i32_1485 : BitVec 32 := 4#32
  let c3_i32_1484 : BitVec 32 := 3#32
  let c0_i32_1483 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1482 : BitVec 32 := 0#32
  let v1320 : BitVec 32 := Scalar.subi v5 c0_i32_1482
  let v1321 : BitVec 32 := Scalar.maxsi c0_i32_1483 v1320
  let v1322 : BitVec 32 := Scalar.minsi c3_i32_1484 v1321
  let v1323 : BitVec 32 := Scalar.muli c4_i32_1485 v1322
  let c1_i32_1486 : BitVec 32 := 1#32
  let v1324 : BitVec 32 := Scalar.addi v1323 c1_i32_1486
  let c256_i32_1487 : BitVec 32 := 256#32
  let v1325 : BitVec 32 := Scalar.muli v1324 c256_i32_1487
  let c0_i32_5491 : BitVec 32 := 0#32
  ![v1325.toNat, 0]
def k0_cond336 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1496 : BitVec 32 := 3#32
  let v1329 : BitVec 1 := Scalar.cmpi .sle v5 c3_i32_1496
  let c0_i32_1497 : BitVec 32 := 0#32
  let v1330 : BitVec 1 := Scalar.cmpi .sgt v5 c0_i32_1497
  let v1331 : BitVec 1 := Scalar.andi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1474 : BitVec 32 := 1#32
  let v1309 : BitVec 32 := Scalar.subi v8 c1_i32_1474
  let c1_i32_1475 : BitVec 32 := 1#32
  let v1310 : BitVec 32 := Scalar.subi v1309 c1_i32_1475
  let c1_i32_1476 : BitVec 32 := 1#32
  let v1311 : BitVec 1 := Scalar.cmpi .eq v1310 c1_i32_1476
  let c1_i32_1477 : BitVec 32 := 1#32
  let v1312 : BitVec 32 := Scalar.addi v8 c1_i32_1477
  let c1_i32_1478 : BitVec 32 := 1#32
  let v1313 : BitVec 32 := Scalar.addi v1312 c1_i32_1478
  let c1_i32_1479 : BitVec 32 := 1#32
  let v1314 : BitVec 1 := Scalar.cmpi .eq v1313 c1_i32_1479
  let v1315 : BitVec 1 := Scalar.ori v1311 v1314
  let v1332 : BitVec 1 := Scalar.andi v1331 v1315
  let v3758 : BitVec 32 := Scalar.extui v1332
  let c0_i32_4845 : BitVec 32 := 0#32
  let v3759 : BitVec 1 := Scalar.cmpi .ne v3758 c0_i32_4845
  v3759

def k0_off331 (d0 : Dev nD) : Fin 2 → Nat :=
  let c4_i32_1501 : BitVec 32 := 4#32
  let c3_i32_1500 : BitVec 32 := 3#32
  let c0_i32_1499 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1498 : BitVec 32 := 0#32
  let v1333 : BitVec 32 := Scalar.addi v5 c0_i32_1498
  let v1334 : BitVec 32 := Scalar.maxsi c0_i32_1499 v1333
  let v1335 : BitVec 32 := Scalar.minsi c3_i32_1500 v1334
  let v1336 : BitVec 32 := Scalar.muli c4_i32_1501 v1335
  let c1_i32_1502 : BitVec 32 := 1#32
  let v1337 : BitVec 32 := Scalar.addi v1336 c1_i32_1502
  let c256_i32_1503 : BitVec 32 := 256#32
  let v1338 : BitVec 32 := Scalar.muli v1337 c256_i32_1503
  let c0_i32_5491 : BitVec 32 := 0#32
  ![v1338.toNat, 0]
def k0_cond337 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1518 : BitVec 32 := 0#32
  let v1349 : BitVec 1 := Scalar.cmpi .sge v5 c0_i32_1518
  let c3_i32_1519 : BitVec 32 := 3#32
  let v1350 : BitVec 1 := Scalar.cmpi .slt v5 c3_i32_1519
  let v1351 : BitVec 1 := Scalar.andi v1349 v1350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1512 : BitVec 32 := 1#32
  let v1342 : BitVec 32 := Scalar.subi v8 c1_i32_1512
  let c1_i32_1513 : BitVec 32 := 1#32
  let v1343 : BitVec 32 := Scalar.subi v1342 c1_i32_1513
  let c2_i32_1514 : BitVec 32 := 2#32
  let v1344 : BitVec 1 := Scalar.cmpi .eq v1343 c2_i32_1514
  let c1_i32_1515 : BitVec 32 := 1#32
  let v1345 : BitVec 32 := Scalar.addi v8 c1_i32_1515
  let c1_i32_1516 : BitVec 32 := 1#32
  let v1346 : BitVec 32 := Scalar.addi v1345 c1_i32_1516
  let c2_i32_1517 : BitVec 32 := 2#32
  let v1347 : BitVec 1 := Scalar.cmpi .eq v1346 c2_i32_1517
  let v1348 : BitVec 1 := Scalar.ori v1344 v1347
  let v1352 : BitVec 1 := Scalar.andi v1351 v1348
  let v3760 : BitVec 32 := Scalar.extui v1352
  let c0_i32_4852 : BitVec 32 := 0#32
  let v3761 : BitVec 1 := Scalar.cmpi .ne v3760 c0_i32_4852
  v3761

def k0_off332 (d0 : Dev nD) : Fin 2 → Nat :=
  let c4_i32_1523 : BitVec 32 := 4#32
  let c3_i32_1522 : BitVec 32 := 3#32
  let c0_i32_1521 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1520 : BitVec 32 := 0#32
  let v1353 : BitVec 32 := Scalar.subi v5 c0_i32_1520
  let v1354 : BitVec 32 := Scalar.maxsi c0_i32_1521 v1353
  let v1355 : BitVec 32 := Scalar.minsi c3_i32_1522 v1354
  let v1356 : BitVec 32 := Scalar.muli c4_i32_1523 v1355
  let c2_i32_1524 : BitVec 32 := 2#32
  let v1357 : BitVec 32 := Scalar.addi v1356 c2_i32_1524
  let c256_i32_1525 : BitVec 32 := 256#32
  let v1358 : BitVec 32 := Scalar.muli v1357 c256_i32_1525
  let c0_i32_5491 : BitVec 32 := 0#32
  ![v1358.toNat, 0]
def k0_cond338 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1534 : BitVec 32 := 3#32
  let v1362 : BitVec 1 := Scalar.cmpi .sle v5 c3_i32_1534
  let c0_i32_1535 : BitVec 32 := 0#32
  let v1363 : BitVec 1 := Scalar.cmpi .sgt v5 c0_i32_1535
  let v1364 : BitVec 1 := Scalar.andi v1362 v1363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1512 : BitVec 32 := 1#32
  let v1342 : BitVec 32 := Scalar.subi v8 c1_i32_1512
  let c1_i32_1513 : BitVec 32 := 1#32
  let v1343 : BitVec 32 := Scalar.subi v1342 c1_i32_1513
  let c2_i32_1514 : BitVec 32 := 2#32
  let v1344 : BitVec 1 := Scalar.cmpi .eq v1343 c2_i32_1514
  let c1_i32_1515 : BitVec 32 := 1#32
  let v1345 : BitVec 32 := Scalar.addi v8 c1_i32_1515
  let c1_i32_1516 : BitVec 32 := 1#32
  let v1346 : BitVec 32 := Scalar.addi v1345 c1_i32_1516
  let c2_i32_1517 : BitVec 32 := 2#32
  let v1347 : BitVec 1 := Scalar.cmpi .eq v1346 c2_i32_1517
  let v1348 : BitVec 1 := Scalar.ori v1344 v1347
  let v1365 : BitVec 1 := Scalar.andi v1364 v1348
  let v3762 : BitVec 32 := Scalar.extui v1365
  let c0_i32_4859 : BitVec 32 := 0#32
  let v3763 : BitVec 1 := Scalar.cmpi .ne v3762 c0_i32_4859
  v3763

def k0_off333 (d0 : Dev nD) : Fin 2 → Nat :=
  let c4_i32_1539 : BitVec 32 := 4#32
  let c3_i32_1538 : BitVec 32 := 3#32
  let c0_i32_1537 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1536 : BitVec 32 := 0#32
  let v1366 : BitVec 32 := Scalar.addi v5 c0_i32_1536
  let v1367 : BitVec 32 := Scalar.maxsi c0_i32_1537 v1366
  let v1368 : BitVec 32 := Scalar.minsi c3_i32_1538 v1367
  let v1369 : BitVec 32 := Scalar.muli c4_i32_1539 v1368
  let c2_i32_1540 : BitVec 32 := 2#32
  let v1370 : BitVec 32 := Scalar.addi v1369 c2_i32_1540
  let c256_i32_1541 : BitVec 32 := 256#32
  let v1371 : BitVec 32 := Scalar.muli v1370 c256_i32_1541
  let c0_i32_5491 : BitVec 32 := 0#32
  ![v1371.toNat, 0]
def k0_cond339 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1556 : BitVec 32 := 0#32
  let v1382 : BitVec 1 := Scalar.cmpi .sge v5 c0_i32_1556
  let c3_i32_1557 : BitVec 32 := 3#32
  let v1383 : BitVec 1 := Scalar.cmpi .slt v5 c3_i32_1557
  let v1384 : BitVec 1 := Scalar.andi v1382 v1383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1550 : BitVec 32 := 1#32
  let v1375 : BitVec 32 := Scalar.subi v8 c1_i32_1550
  let c1_i32_1551 : BitVec 32 := 1#32
  let v1376 : BitVec 32 := Scalar.subi v1375 c1_i32_1551
  let c3_i32_1552 : BitVec 32 := 3#32
  let v1377 : BitVec 1 := Scalar.cmpi .eq v1376 c3_i32_1552
  let c1_i32_1553 : BitVec 32 := 1#32
  let v1378 : BitVec 32 := Scalar.addi v8 c1_i32_1553
  let c1_i32_1554 : BitVec 32 := 1#32
  let v1379 : BitVec 32 := Scalar.addi v1378 c1_i32_1554
  let c3_i32_1555 : BitVec 32 := 3#32
  let v1380 : BitVec 1 := Scalar.cmpi .eq v1379 c3_i32_1555
  let v1381 : BitVec 1 := Scalar.ori v1377 v1380
  let v1385 : BitVec 1 := Scalar.andi v1384 v1381
  let v3764 : BitVec 32 := Scalar.extui v1385
  let c0_i32_4866 : BitVec 32 := 0#32
  let v3765 : BitVec 1 := Scalar.cmpi .ne v3764 c0_i32_4866
  v3765

def k0_off334 (d0 : Dev nD) : Fin 2 → Nat :=
  let c4_i32_1561 : BitVec 32 := 4#32
  let c3_i32_1560 : BitVec 32 := 3#32
  let c0_i32_1559 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1558 : BitVec 32 := 0#32
  let v1386 : BitVec 32 := Scalar.subi v5 c0_i32_1558
  let v1387 : BitVec 32 := Scalar.maxsi c0_i32_1559 v1386
  let v1388 : BitVec 32 := Scalar.minsi c3_i32_1560 v1387
  let v1389 : BitVec 32 := Scalar.muli c4_i32_1561 v1388
  let c3_i32_1562 : BitVec 32 := 3#32
  let v1390 : BitVec 32 := Scalar.addi v1389 c3_i32_1562
  let c256_i32_1563 : BitVec 32 := 256#32
  let v1391 : BitVec 32 := Scalar.muli v1390 c256_i32_1563
  let c0_i32_5491 : BitVec 32 := 0#32
  ![v1391.toNat, 0]
def k0_cond340 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1572 : BitVec 32 := 3#32
  let v1395 : BitVec 1 := Scalar.cmpi .sle v5 c3_i32_1572
  let c0_i32_1573 : BitVec 32 := 0#32
  let v1396 : BitVec 1 := Scalar.cmpi .sgt v5 c0_i32_1573
  let v1397 : BitVec 1 := Scalar.andi v1395 v1396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1550 : BitVec 32 := 1#32
  let v1375 : BitVec 32 := Scalar.subi v8 c1_i32_1550
  let c1_i32_1551 : BitVec 32 := 1#32
  let v1376 : BitVec 32 := Scalar.subi v1375 c1_i32_1551
  let c3_i32_1552 : BitVec 32 := 3#32
  let v1377 : BitVec 1 := Scalar.cmpi .eq v1376 c3_i32_1552
  let c1_i32_1553 : BitVec 32 := 1#32
  let v1378 : BitVec 32 := Scalar.addi v8 c1_i32_1553
  let c1_i32_1554 : BitVec 32 := 1#32
  let v1379 : BitVec 32 := Scalar.addi v1378 c1_i32_1554
  let c3_i32_1555 : BitVec 32 := 3#32
  let v1380 : BitVec 1 := Scalar.cmpi .eq v1379 c3_i32_1555
  let v1381 : BitVec 1 := Scalar.ori v1377 v1380
  let v1398 : BitVec 1 := Scalar.andi v1397 v1381
  let v3766 : BitVec 32 := Scalar.extui v1398
  let c0_i32_4873 : BitVec 32 := 0#32
  let v3767 : BitVec 1 := Scalar.cmpi .ne v3766 c0_i32_4873
  v3767

def k0_off335 (d0 : Dev nD) : Fin 2 → Nat :=
  let c4_i32_1577 : BitVec 32 := 4#32
  let c3_i32_1576 : BitVec 32 := 3#32
  let c0_i32_1575 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1574 : BitVec 32 := 0#32
  let v1399 : BitVec 32 := Scalar.addi v5 c0_i32_1574
  let v1400 : BitVec 32 := Scalar.maxsi c0_i32_1575 v1399
  let v1401 : BitVec 32 := Scalar.minsi c3_i32_1576 v1400
  let v1402 : BitVec 32 := Scalar.muli c4_i32_1577 v1401
  let c3_i32_1578 : BitVec 32 := 3#32
  let v1403 : BitVec 32 := Scalar.addi v1402 c3_i32_1578
  let c256_i32_1579 : BitVec 32 := 256#32
  let v1404 : BitVec 32 := Scalar.muli v1403 c256_i32_1579
  let c0_i32_5491 : BitVec 32 := 0#32
  ![v1404.toNat, 0]
def k0_cond341 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1594 : BitVec 32 := 0#32
  let v1415 : BitVec 1 := Scalar.cmpi .sge v8 c0_i32_1594
  let c3_i32_1595 : BitVec 32 := 3#32
  let v1416 : BitVec 1 := Scalar.cmpi .slt v8 c3_i32_1595
  let v1417 : BitVec 1 := Scalar.andi v1415 v1416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1588 : BitVec 32 := 1#32
  let v1408 : BitVec 32 := Scalar.subi v5 c1_i32_1588
  let c1_i32_1589 : BitVec 32 := 1#32
  let v1409 : BitVec 32 := Scalar.subi v1408 c1_i32_1589
  let c0_i32_1590 : BitVec 32 := 0#32
  let v1410 : BitVec 1 := Scalar.cmpi .eq v1409 c0_i32_1590
  let c1_i32_1591 : BitVec 32 := 1#32
  let v1411 : BitVec 32 := Scalar.addi v5 c1_i32_1591
  let c1_i32_1592 : BitVec 32 := 1#32
  let v1412 : BitVec 32 := Scalar.addi v1411 c1_i32_1592
  let c0_i32_1593 : BitVec 32 := 0#32
  let v1413 : BitVec 1 := Scalar.cmpi .eq v1412 c0_i32_1593
  let v1414 : BitVec 1 := Scalar.ori v1410 v1413
  let v1418 : BitVec 1 := Scalar.andi v1417 v1414
  let v3768 : BitVec 32 := Scalar.extui v1418
  let c0_i32_4880 : BitVec 32 := 0#32
  let v3769 : BitVec 1 := Scalar.cmpi .ne v3768 c0_i32_4880
  v3769

def k0_off336 (d0 : Dev nD) : Fin 2 → Nat :=
  let c0_i32_1599 : BitVec 32 := 0#32
  let c3_i32_1598 : BitVec 32 := 3#32
  let c0_i32_1597 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1596 : BitVec 32 := 0#32
  let v1419 : BitVec 32 := Scalar.subi v8 c0_i32_1596
  let v1420 : BitVec 32 := Scalar.maxsi c0_i32_1597 v1419
  let v1421 : BitVec 32 := Scalar.minsi c3_i32_1598 v1420
  let v1422 : BitVec 32 := Scalar.addi c0_i32_1599 v1421
  let c256_i32_1600 : BitVec 32 := 256#32
  let v1423 : BitVec 32 := Scalar.muli v1422 c256_i32_1600
  let c2048_i32 : BitVec 32 := 2048#32
  ![v1423.toNat, 2048]
def k0_cond342 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1609 : BitVec 32 := 3#32
  let v1427 : BitVec 1 := Scalar.cmpi .sle v8 c3_i32_1609
  let c0_i32_1610 : BitVec 32 := 0#32
  let v1428 : BitVec 1 := Scalar.cmpi .sgt v8 c0_i32_1610
  let v1429 : BitVec 1 := Scalar.andi v1427 v1428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1588 : BitVec 32 := 1#32
  let v1408 : BitVec 32 := Scalar.subi v5 c1_i32_1588
  let c1_i32_1589 : BitVec 32 := 1#32
  let v1409 : BitVec 32 := Scalar.subi v1408 c1_i32_1589
  let c0_i32_1590 : BitVec 32 := 0#32
  let v1410 : BitVec 1 := Scalar.cmpi .eq v1409 c0_i32_1590
  let c1_i32_1591 : BitVec 32 := 1#32
  let v1411 : BitVec 32 := Scalar.addi v5 c1_i32_1591
  let c1_i32_1592 : BitVec 32 := 1#32
  let v1412 : BitVec 32 := Scalar.addi v1411 c1_i32_1592
  let c0_i32_1593 : BitVec 32 := 0#32
  let v1413 : BitVec 1 := Scalar.cmpi .eq v1412 c0_i32_1593
  let v1414 : BitVec 1 := Scalar.ori v1410 v1413
  let v1430 : BitVec 1 := Scalar.andi v1429 v1414
  let v3770 : BitVec 32 := Scalar.extui v1430
  let c0_i32_4887 : BitVec 32 := 0#32
  let v3771 : BitVec 1 := Scalar.cmpi .ne v3770 c0_i32_4887
  v3771

def k0_off337 (d0 : Dev nD) : Fin 2 → Nat :=
  let c0_i32_1614 : BitVec 32 := 0#32
  let c3_i32_1613 : BitVec 32 := 3#32
  let c0_i32_1612 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1611 : BitVec 32 := 0#32
  let v1431 : BitVec 32 := Scalar.addi v8 c0_i32_1611
  let v1432 : BitVec 32 := Scalar.maxsi c0_i32_1612 v1431
  let v1433 : BitVec 32 := Scalar.minsi c3_i32_1613 v1432
  let v1434 : BitVec 32 := Scalar.addi c0_i32_1614 v1433
  let c256_i32_1615 : BitVec 32 := 256#32
  let v1435 : BitVec 32 := Scalar.muli v1434 c256_i32_1615
  let c2048_i32 : BitVec 32 := 2048#32
  ![v1435.toNat, 2048]
def k0_cond343 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1630 : BitVec 32 := 0#32
  let v1446 : BitVec 1 := Scalar.cmpi .sge v8 c0_i32_1630
  let c3_i32_1631 : BitVec 32 := 3#32
  let v1447 : BitVec 1 := Scalar.cmpi .slt v8 c3_i32_1631
  let v1448 : BitVec 1 := Scalar.andi v1446 v1447
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1624 : BitVec 32 := 1#32
  let v1439 : BitVec 32 := Scalar.subi v5 c1_i32_1624
  let c1_i32_1625 : BitVec 32 := 1#32
  let v1440 : BitVec 32 := Scalar.subi v1439 c1_i32_1625
  let c1_i32_1626 : BitVec 32 := 1#32
  let v1441 : BitVec 1 := Scalar.cmpi .eq v1440 c1_i32_1626
  let c1_i32_1627 : BitVec 32 := 1#32
  let v1442 : BitVec 32 := Scalar.addi v5 c1_i32_1627
  let c1_i32_1628 : BitVec 32 := 1#32
  let v1443 : BitVec 32 := Scalar.addi v1442 c1_i32_1628
  let c1_i32_1629 : BitVec 32 := 1#32
  let v1444 : BitVec 1 := Scalar.cmpi .eq v1443 c1_i32_1629
  let v1445 : BitVec 1 := Scalar.ori v1441 v1444
  let v1449 : BitVec 1 := Scalar.andi v1448 v1445
  let v3772 : BitVec 32 := Scalar.extui v1449
  let c0_i32_4894 : BitVec 32 := 0#32
  let v3773 : BitVec 1 := Scalar.cmpi .ne v3772 c0_i32_4894
  v3773

def k0_off338 (d0 : Dev nD) : Fin 2 → Nat :=
  let c4_i32_1635 : BitVec 32 := 4#32
  let c3_i32_1634 : BitVec 32 := 3#32
  let c0_i32_1633 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1632 : BitVec 32 := 0#32
  let v1450 : BitVec 32 := Scalar.subi v8 c0_i32_1632
  let v1451 : BitVec 32 := Scalar.maxsi c0_i32_1633 v1450
  let v1452 : BitVec 32 := Scalar.minsi c3_i32_1634 v1451
  let v1453 : BitVec 32 := Scalar.addi c4_i32_1635 v1452
  let c256_i32_1636 : BitVec 32 := 256#32
  let v1454 : BitVec 32 := Scalar.muli v1453 c256_i32_1636
  let c2048_i32 : BitVec 32 := 2048#32
  ![v1454.toNat, 2048]
def k0_cond344 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1645 : BitVec 32 := 3#32
  let v1458 : BitVec 1 := Scalar.cmpi .sle v8 c3_i32_1645
  let c0_i32_1646 : BitVec 32 := 0#32
  let v1459 : BitVec 1 := Scalar.cmpi .sgt v8 c0_i32_1646
  let v1460 : BitVec 1 := Scalar.andi v1458 v1459
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1624 : BitVec 32 := 1#32
  let v1439 : BitVec 32 := Scalar.subi v5 c1_i32_1624
  let c1_i32_1625 : BitVec 32 := 1#32
  let v1440 : BitVec 32 := Scalar.subi v1439 c1_i32_1625
  let c1_i32_1626 : BitVec 32 := 1#32
  let v1441 : BitVec 1 := Scalar.cmpi .eq v1440 c1_i32_1626
  let c1_i32_1627 : BitVec 32 := 1#32
  let v1442 : BitVec 32 := Scalar.addi v5 c1_i32_1627
  let c1_i32_1628 : BitVec 32 := 1#32
  let v1443 : BitVec 32 := Scalar.addi v1442 c1_i32_1628
  let c1_i32_1629 : BitVec 32 := 1#32
  let v1444 : BitVec 1 := Scalar.cmpi .eq v1443 c1_i32_1629
  let v1445 : BitVec 1 := Scalar.ori v1441 v1444
  let v1461 : BitVec 1 := Scalar.andi v1460 v1445
  let v3774 : BitVec 32 := Scalar.extui v1461
  let c0_i32_4901 : BitVec 32 := 0#32
  let v3775 : BitVec 1 := Scalar.cmpi .ne v3774 c0_i32_4901
  v3775

def k0_off339 (d0 : Dev nD) : Fin 2 → Nat :=
  let c4_i32_1650 : BitVec 32 := 4#32
  let c3_i32_1649 : BitVec 32 := 3#32
  let c0_i32_1648 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1647 : BitVec 32 := 0#32
  let v1462 : BitVec 32 := Scalar.addi v8 c0_i32_1647
  let v1463 : BitVec 32 := Scalar.maxsi c0_i32_1648 v1462
  let v1464 : BitVec 32 := Scalar.minsi c3_i32_1649 v1463
  let v1465 : BitVec 32 := Scalar.addi c4_i32_1650 v1464
  let c256_i32_1651 : BitVec 32 := 256#32
  let v1466 : BitVec 32 := Scalar.muli v1465 c256_i32_1651
  let c2048_i32 : BitVec 32 := 2048#32
  ![v1466.toNat, 2048]
def k0_cond345 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1666 : BitVec 32 := 0#32
  let v1477 : BitVec 1 := Scalar.cmpi .sge v8 c0_i32_1666
  let c3_i32_1667 : BitVec 32 := 3#32
  let v1478 : BitVec 1 := Scalar.cmpi .slt v8 c3_i32_1667
  let v1479 : BitVec 1 := Scalar.andi v1477 v1478
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1660 : BitVec 32 := 1#32
  let v1470 : BitVec 32 := Scalar.subi v5 c1_i32_1660
  let c1_i32_1661 : BitVec 32 := 1#32
  let v1471 : BitVec 32 := Scalar.subi v1470 c1_i32_1661
  let c2_i32_1662 : BitVec 32 := 2#32
  let v1472 : BitVec 1 := Scalar.cmpi .eq v1471 c2_i32_1662
  let c1_i32_1663 : BitVec 32 := 1#32
  let v1473 : BitVec 32 := Scalar.addi v5 c1_i32_1663
  let c1_i32_1664 : BitVec 32 := 1#32
  let v1474 : BitVec 32 := Scalar.addi v1473 c1_i32_1664
  let c2_i32_1665 : BitVec 32 := 2#32
  let v1475 : BitVec 1 := Scalar.cmpi .eq v1474 c2_i32_1665
  let v1476 : BitVec 1 := Scalar.ori v1472 v1475
  let v1480 : BitVec 1 := Scalar.andi v1479 v1476
  let v3776 : BitVec 32 := Scalar.extui v1480
  let c0_i32_4908 : BitVec 32 := 0#32
  let v3777 : BitVec 1 := Scalar.cmpi .ne v3776 c0_i32_4908
  v3777

def k0_off340 (d0 : Dev nD) : Fin 2 → Nat :=
  let c8_i32_1671 : BitVec 32 := 8#32
  let c3_i32_1670 : BitVec 32 := 3#32
  let c0_i32_1669 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1668 : BitVec 32 := 0#32
  let v1481 : BitVec 32 := Scalar.subi v8 c0_i32_1668
  let v1482 : BitVec 32 := Scalar.maxsi c0_i32_1669 v1481
  let v1483 : BitVec 32 := Scalar.minsi c3_i32_1670 v1482
  let v1484 : BitVec 32 := Scalar.addi c8_i32_1671 v1483
  let c256_i32_1672 : BitVec 32 := 256#32
  let v1485 : BitVec 32 := Scalar.muli v1484 c256_i32_1672
  let c2048_i32 : BitVec 32 := 2048#32
  ![v1485.toNat, 2048]
def k0_cond346 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1681 : BitVec 32 := 3#32
  let v1489 : BitVec 1 := Scalar.cmpi .sle v8 c3_i32_1681
  let c0_i32_1682 : BitVec 32 := 0#32
  let v1490 : BitVec 1 := Scalar.cmpi .sgt v8 c0_i32_1682
  let v1491 : BitVec 1 := Scalar.andi v1489 v1490
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1660 : BitVec 32 := 1#32
  let v1470 : BitVec 32 := Scalar.subi v5 c1_i32_1660
  let c1_i32_1661 : BitVec 32 := 1#32
  let v1471 : BitVec 32 := Scalar.subi v1470 c1_i32_1661
  let c2_i32_1662 : BitVec 32 := 2#32
  let v1472 : BitVec 1 := Scalar.cmpi .eq v1471 c2_i32_1662
  let c1_i32_1663 : BitVec 32 := 1#32
  let v1473 : BitVec 32 := Scalar.addi v5 c1_i32_1663
  let c1_i32_1664 : BitVec 32 := 1#32
  let v1474 : BitVec 32 := Scalar.addi v1473 c1_i32_1664
  let c2_i32_1665 : BitVec 32 := 2#32
  let v1475 : BitVec 1 := Scalar.cmpi .eq v1474 c2_i32_1665
  let v1476 : BitVec 1 := Scalar.ori v1472 v1475
  let v1492 : BitVec 1 := Scalar.andi v1491 v1476
  let v3778 : BitVec 32 := Scalar.extui v1492
  let c0_i32_4915 : BitVec 32 := 0#32
  let v3779 : BitVec 1 := Scalar.cmpi .ne v3778 c0_i32_4915
  v3779

def k0_off341 (d0 : Dev nD) : Fin 2 → Nat :=
  let c8_i32_1686 : BitVec 32 := 8#32
  let c3_i32_1685 : BitVec 32 := 3#32
  let c0_i32_1684 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1683 : BitVec 32 := 0#32
  let v1493 : BitVec 32 := Scalar.addi v8 c0_i32_1683
  let v1494 : BitVec 32 := Scalar.maxsi c0_i32_1684 v1493
  let v1495 : BitVec 32 := Scalar.minsi c3_i32_1685 v1494
  let v1496 : BitVec 32 := Scalar.addi c8_i32_1686 v1495
  let c256_i32_1687 : BitVec 32 := 256#32
  let v1497 : BitVec 32 := Scalar.muli v1496 c256_i32_1687
  let c2048_i32 : BitVec 32 := 2048#32
  ![v1497.toNat, 2048]
def k0_cond347 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1702 : BitVec 32 := 0#32
  let v1508 : BitVec 1 := Scalar.cmpi .sge v8 c0_i32_1702
  let c3_i32_1703 : BitVec 32 := 3#32
  let v1509 : BitVec 1 := Scalar.cmpi .slt v8 c3_i32_1703
  let v1510 : BitVec 1 := Scalar.andi v1508 v1509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v1501 : BitVec 32 := Scalar.subi v5 c1_i32_1696
  let c1_i32_1697 : BitVec 32 := 1#32
  let v1502 : BitVec 32 := Scalar.subi v1501 c1_i32_1697
  let c3_i32_1698 : BitVec 32 := 3#32
  let v1503 : BitVec 1 := Scalar.cmpi .eq v1502 c3_i32_1698
  let c1_i32_1699 : BitVec 32 := 1#32
  let v1504 : BitVec 32 := Scalar.addi v5 c1_i32_1699
  let c1_i32_1700 : BitVec 32 := 1#32
  let v1505 : BitVec 32 := Scalar.addi v1504 c1_i32_1700
  let c3_i32_1701 : BitVec 32 := 3#32
  let v1506 : BitVec 1 := Scalar.cmpi .eq v1505 c3_i32_1701
  let v1507 : BitVec 1 := Scalar.ori v1503 v1506
  let v1511 : BitVec 1 := Scalar.andi v1510 v1507
  let v3780 : BitVec 32 := Scalar.extui v1511
  let c0_i32_4922 : BitVec 32 := 0#32
  let v3781 : BitVec 1 := Scalar.cmpi .ne v3780 c0_i32_4922
  v3781

def k0_off342 (d0 : Dev nD) : Fin 2 → Nat :=
  let c12_i32_1707 : BitVec 32 := 12#32
  let c3_i32_1706 : BitVec 32 := 3#32
  let c0_i32_1705 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1704 : BitVec 32 := 0#32
  let v1512 : BitVec 32 := Scalar.subi v8 c0_i32_1704
  let v1513 : BitVec 32 := Scalar.maxsi c0_i32_1705 v1512
  let v1514 : BitVec 32 := Scalar.minsi c3_i32_1706 v1513
  let v1515 : BitVec 32 := Scalar.addi c12_i32_1707 v1514
  let c256_i32_1708 : BitVec 32 := 256#32
  let v1516 : BitVec 32 := Scalar.muli v1515 c256_i32_1708
  let c2048_i32 : BitVec 32 := 2048#32
  ![v1516.toNat, 2048]
def k0_cond348 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1717 : BitVec 32 := 3#32
  let v1520 : BitVec 1 := Scalar.cmpi .sle v8 c3_i32_1717
  let c0_i32_1718 : BitVec 32 := 0#32
  let v1521 : BitVec 1 := Scalar.cmpi .sgt v8 c0_i32_1718
  let v1522 : BitVec 1 := Scalar.andi v1520 v1521
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v1501 : BitVec 32 := Scalar.subi v5 c1_i32_1696
  let c1_i32_1697 : BitVec 32 := 1#32
  let v1502 : BitVec 32 := Scalar.subi v1501 c1_i32_1697
  let c3_i32_1698 : BitVec 32 := 3#32
  let v1503 : BitVec 1 := Scalar.cmpi .eq v1502 c3_i32_1698
  let c1_i32_1699 : BitVec 32 := 1#32
  let v1504 : BitVec 32 := Scalar.addi v5 c1_i32_1699
  let c1_i32_1700 : BitVec 32 := 1#32
  let v1505 : BitVec 32 := Scalar.addi v1504 c1_i32_1700
  let c3_i32_1701 : BitVec 32 := 3#32
  let v1506 : BitVec 1 := Scalar.cmpi .eq v1505 c3_i32_1701
  let v1507 : BitVec 1 := Scalar.ori v1503 v1506
  let v1523 : BitVec 1 := Scalar.andi v1522 v1507
  let v3782 : BitVec 32 := Scalar.extui v1523
  let c0_i32_4929 : BitVec 32 := 0#32
  let v3783 : BitVec 1 := Scalar.cmpi .ne v3782 c0_i32_4929
  v3783

def k0_off343 (d0 : Dev nD) : Fin 2 → Nat :=
  let c12_i32_1722 : BitVec 32 := 12#32
  let c3_i32_1721 : BitVec 32 := 3#32
  let c0_i32_1720 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1719 : BitVec 32 := 0#32
  let v1524 : BitVec 32 := Scalar.addi v8 c0_i32_1719
  let v1525 : BitVec 32 := Scalar.maxsi c0_i32_1720 v1524
  let v1526 : BitVec 32 := Scalar.minsi c3_i32_1721 v1525
  let v1527 : BitVec 32 := Scalar.addi c12_i32_1722 v1526
  let c256_i32_1723 : BitVec 32 := 256#32
  let v1528 : BitVec 32 := Scalar.muli v1527 c256_i32_1723
  let c2048_i32 : BitVec 32 := 2048#32
  ![v1528.toNat, 2048]
def k0_cond349 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1768 : BitVec 32 := 1#32
  let v1561 : BitVec 1 := Scalar.cmpi .sge v5 c1_i32_1768
  let c3_i32_1769 : BitVec 32 := 3#32
  let v1562 : BitVec 1 := Scalar.cmpi .slt v5 c3_i32_1769
  let v1563 : BitVec 1 := Scalar.andi v1561 v1562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1532 : BitVec 32 := Scalar.subi v8 c1_i32_1732
  let c0_i32_1733 : BitVec 32 := 0#32
  let v1533 : BitVec 1 := Scalar.cmpi .eq v1532 c0_i32_1733
  let c1_i32_1734 : BitVec 32 := 1#32
  let v1534 : BitVec 32 := Scalar.addi v8 c1_i32_1734
  let c0_i32_1735 : BitVec 32 := 0#32
  let v1535 : BitVec 1 := Scalar.cmpi .eq v1534 c0_i32_1735
  let v1536 : BitVec 1 := Scalar.ori v1533 v1535
  let v1564 : BitVec 1 := Scalar.andi v1563 v1536
  let v3784 : BitVec 32 := Scalar.extui v1564
  let c0_i32_4936 : BitVec 32 := 0#32
  let v3785 : BitVec 1 := Scalar.cmpi .ne v3784 c0_i32_4936
  v3785

def k0_off344 (d0 : Dev nD) : Fin 2 → Nat :=
  let c4_i32_1773 : BitVec 32 := 4#32
  let c3_i32_1772 : BitVec 32 := 3#32
  let c0_i32_1771 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1770 : BitVec 32 := 1#32
  let v1565 : BitVec 32 := Scalar.subi v5 c1_i32_1770
  let v1566 : BitVec 32 := Scalar.maxsi c0_i32_1771 v1565
  let v1567 : BitVec 32 := Scalar.minsi c3_i32_1772 v1566
  let v1568 : BitVec 32 := Scalar.muli c4_i32_1773 v1567
  let c0_i32_1774 : BitVec 32 := 0#32
  let v1569 : BitVec 32 := Scalar.addi v1568 c0_i32_1774
  let c256_i32_1775 : BitVec 32 := 256#32
  let v1570 : BitVec 32 := Scalar.muli v1569 c256_i32_1775
  let c0_i32_5491 : BitVec 32 := 0#32
  ![v1570.toNat, 0]
def k0_cond350 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1784 : BitVec 32 := 2#32
  let v1574 : BitVec 1 := Scalar.cmpi .sle v5 c2_i32_1784
  let c0_i32_1785 : BitVec 32 := 0#32
  let v1575 : BitVec 1 := Scalar.cmpi .sgt v5 c0_i32_1785
  let v1576 : BitVec 1 := Scalar.andi v1574 v1575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1532 : BitVec 32 := Scalar.subi v8 c1_i32_1732
  let c0_i32_1733 : BitVec 32 := 0#32
  let v1533 : BitVec 1 := Scalar.cmpi .eq v1532 c0_i32_1733
  let c1_i32_1734 : BitVec 32 := 1#32
  let v1534 : BitVec 32 := Scalar.addi v8 c1_i32_1734
  let c0_i32_1735 : BitVec 32 := 0#32
  let v1535 : BitVec 1 := Scalar.cmpi .eq v1534 c0_i32_1735
  let v1536 : BitVec 1 := Scalar.ori v1533 v1535
  let v1577 : BitVec 1 := Scalar.andi v1576 v1536
  let v3786 : BitVec 32 := Scalar.extui v1577
  let c0_i32_4943 : BitVec 32 := 0#32
  let v3787 : BitVec 1 := Scalar.cmpi .ne v3786 c0_i32_4943
  v3787

def k0_off345 (d0 : Dev nD) : Fin 2 → Nat :=
  let c4_i32_1789 : BitVec 32 := 4#32
  let c3_i32_1788 : BitVec 32 := 3#32
  let c0_i32_1787 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1786 : BitVec 32 := 1#32
  let v1578 : BitVec 32 := Scalar.addi v5 c1_i32_1786
  let v1579 : BitVec 32 := Scalar.maxsi c0_i32_1787 v1578
  let v1580 : BitVec 32 := Scalar.minsi c3_i32_1788 v1579
  let v1581 : BitVec 32 := Scalar.muli c4_i32_1789 v1580
  let c0_i32_1790 : BitVec 32 := 0#32
  let v1582 : BitVec 32 := Scalar.addi v1581 c0_i32_1790
  let c256_i32_1791 : BitVec 32 := 256#32
  let v1583 : BitVec 32 := Scalar.muli v1582 c256_i32_1791
  let c0_i32_5491 : BitVec 32 := 0#32
  ![v1583.toNat, 0]
def k0_cond351 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1834 : BitVec 32 := 1#32
  let v1614 : BitVec 1 := Scalar.cmpi .sge v8 c1_i32_1834
  let c3_i32_1835 : BitVec 32 := 3#32
  let v1615 : BitVec 1 := Scalar.cmpi .slt v8 c3_i32_1835
  let v1616 : BitVec 1 := Scalar.andi v1614 v1615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1800 : BitVec 32 := 1#32
  let v1587 : BitVec 32 := Scalar.subi v5 c1_i32_1800
  let c0_i32_1801 : BitVec 32 := 0#32
  let v1588 : BitVec 1 := Scalar.cmpi .eq v1587 c0_i32_1801
  let c1_i32_1802 : BitVec 32 := 1#32
  let v1589 : BitVec 32 := Scalar.addi v5 c1_i32_1802
  let c0_i32_1803 : BitVec 32 := 0#32
  let v1590 : BitVec 1 := Scalar.cmpi .eq v1589 c0_i32_1803
  let v1591 : BitVec 1 := Scalar.ori v1588 v1590
  let v1617 : BitVec 1 := Scalar.andi v1616 v1591
  let v3788 : BitVec 32 := Scalar.extui v1617
  let c0_i32_4950 : BitVec 32 := 0#32
  let v3789 : BitVec 1 := Scalar.cmpi .ne v3788 c0_i32_4950
  v3789

def k0_off346 (d0 : Dev nD) : Fin 2 → Nat :=
  let c0_i32_1839 : BitVec 32 := 0#32
  let c3_i32_1838 : BitVec 32 := 3#32
  let c0_i32_1837 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1836 : BitVec 32 := 1#32
  let v1618 : BitVec 32 := Scalar.subi v8 c1_i32_1836
  let v1619 : BitVec 32 := Scalar.maxsi c0_i32_1837 v1618
  let v1620 : BitVec 32 := Scalar.minsi c3_i32_1838 v1619
  let v1621 : BitVec 32 := Scalar.addi c0_i32_1839 v1620
  let c256_i32_1840 : BitVec 32 := 256#32
  let v1622 : BitVec 32 := Scalar.muli v1621 c256_i32_1840
  let c2048_i32 : BitVec 32 := 2048#32
  ![v1622.toNat, 2048]
def k0_cond352 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1849 : BitVec 32 := 2#32
  let v1626 : BitVec 1 := Scalar.cmpi .sle v8 c2_i32_1849
  let c0_i32_1850 : BitVec 32 := 0#32
  let v1627 : BitVec 1 := Scalar.cmpi .sgt v8 c0_i32_1850
  let v1628 : BitVec 1 := Scalar.andi v1626 v1627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1800 : BitVec 32 := 1#32
  let v1587 : BitVec 32 := Scalar.subi v5 c1_i32_1800
  let c0_i32_1801 : BitVec 32 := 0#32
  let v1588 : BitVec 1 := Scalar.cmpi .eq v1587 c0_i32_1801
  let c1_i32_1802 : BitVec 32 := 1#32
  let v1589 : BitVec 32 := Scalar.addi v5 c1_i32_1802
  let c0_i32_1803 : BitVec 32 := 0#32
  let v1590 : BitVec 1 := Scalar.cmpi .eq v1589 c0_i32_1803
  let v1591 : BitVec 1 := Scalar.ori v1588 v1590
  let v1629 : BitVec 1 := Scalar.andi v1628 v1591
  let v3790 : BitVec 32 := Scalar.extui v1629
  let c0_i32_4957 : BitVec 32 := 0#32
  let v3791 : BitVec 1 := Scalar.cmpi .ne v3790 c0_i32_4957
  v3791

def k0_off347 (d0 : Dev nD) : Fin 2 → Nat :=
  let c0_i32_1854 : BitVec 32 := 0#32
  let c3_i32_1853 : BitVec 32 := 3#32
  let c0_i32_1852 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1851 : BitVec 32 := 1#32
  let v1630 : BitVec 32 := Scalar.addi v8 c1_i32_1851
  let v1631 : BitVec 32 := Scalar.maxsi c0_i32_1852 v1630
  let v1632 : BitVec 32 := Scalar.minsi c3_i32_1853 v1631
  let v1633 : BitVec 32 := Scalar.addi c0_i32_1854 v1632
  let c256_i32_1855 : BitVec 32 := 256#32
  let v1634 : BitVec 32 := Scalar.muli v1633 c256_i32_1855
  let c2048_i32 : BitVec 32 := 2048#32
  ![v1634.toNat, 2048]
def k0_cond353 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1900 : BitVec 32 := 1#32
  let v1667 : BitVec 1 := Scalar.cmpi .sge v5 c1_i32_1900
  let c3_i32_1901 : BitVec 32 := 3#32
  let v1668 : BitVec 1 := Scalar.cmpi .slt v5 c3_i32_1901
  let v1669 : BitVec 1 := Scalar.andi v1667 v1668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v1638 : BitVec 32 := Scalar.subi v8 c1_i32_1864
  let c1_i32_1865 : BitVec 32 := 1#32
  let v1639 : BitVec 1 := Scalar.cmpi .eq v1638 c1_i32_1865
  let c1_i32_1866 : BitVec 32 := 1#32
  let v1640 : BitVec 32 := Scalar.addi v8 c1_i32_1866
  let c1_i32_1867 : BitVec 32 := 1#32
  let v1641 : BitVec 1 := Scalar.cmpi .eq v1640 c1_i32_1867
  let v1642 : BitVec 1 := Scalar.ori v1639 v1641
  let v1670 : BitVec 1 := Scalar.andi v1669 v1642
  let v3792 : BitVec 32 := Scalar.extui v1670
  let c0_i32_4964 : BitVec 32 := 0#32
  let v3793 : BitVec 1 := Scalar.cmpi .ne v3792 c0_i32_4964
  v3793

def k0_off348 (d0 : Dev nD) : Fin 2 → Nat :=
  let c4_i32_1905 : BitVec 32 := 4#32
  let c3_i32_1904 : BitVec 32 := 3#32
  let c0_i32_1903 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1902 : BitVec 32 := 1#32
  let v1671 : BitVec 32 := Scalar.subi v5 c1_i32_1902
  let v1672 : BitVec 32 := Scalar.maxsi c0_i32_1903 v1671
  let v1673 : BitVec 32 := Scalar.minsi c3_i32_1904 v1672
  let v1674 : BitVec 32 := Scalar.muli c4_i32_1905 v1673
  let c1_i32_1906 : BitVec 32 := 1#32
  let v1675 : BitVec 32 := Scalar.addi v1674 c1_i32_1906
  let c256_i32_1907 : BitVec 32 := 256#32
  let v1676 : BitVec 32 := Scalar.muli v1675 c256_i32_1907
  let c0_i32_5491 : BitVec 32 := 0#32
  ![v1676.toNat, 0]
def k0_cond354 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1916 : BitVec 32 := 2#32
  let v1680 : BitVec 1 := Scalar.cmpi .sle v5 c2_i32_1916
  let c0_i32_1917 : BitVec 32 := 0#32
  let v1681 : BitVec 1 := Scalar.cmpi .sgt v5 c0_i32_1917
  let v1682 : BitVec 1 := Scalar.andi v1680 v1681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v1638 : BitVec 32 := Scalar.subi v8 c1_i32_1864
  let c1_i32_1865 : BitVec 32 := 1#32
  let v1639 : BitVec 1 := Scalar.cmpi .eq v1638 c1_i32_1865
  let c1_i32_1866 : BitVec 32 := 1#32
  let v1640 : BitVec 32 := Scalar.addi v8 c1_i32_1866
  let c1_i32_1867 : BitVec 32 := 1#32
  let v1641 : BitVec 1 := Scalar.cmpi .eq v1640 c1_i32_1867
  let v1642 : BitVec 1 := Scalar.ori v1639 v1641
  let v1683 : BitVec 1 := Scalar.andi v1682 v1642
  let v3794 : BitVec 32 := Scalar.extui v1683
  let c0_i32_4971 : BitVec 32 := 0#32
  let v3795 : BitVec 1 := Scalar.cmpi .ne v3794 c0_i32_4971
  v3795

def k0_off349 (d0 : Dev nD) : Fin 2 → Nat :=
  let c4_i32_1921 : BitVec 32 := 4#32
  let c3_i32_1920 : BitVec 32 := 3#32
  let c0_i32_1919 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1918 : BitVec 32 := 1#32
  let v1684 : BitVec 32 := Scalar.addi v5 c1_i32_1918
  let v1685 : BitVec 32 := Scalar.maxsi c0_i32_1919 v1684
  let v1686 : BitVec 32 := Scalar.minsi c3_i32_1920 v1685
  let v1687 : BitVec 32 := Scalar.muli c4_i32_1921 v1686
  let c1_i32_1922 : BitVec 32 := 1#32
  let v1688 : BitVec 32 := Scalar.addi v1687 c1_i32_1922
  let c256_i32_1923 : BitVec 32 := 256#32
  let v1689 : BitVec 32 := Scalar.muli v1688 c256_i32_1923
  let c0_i32_5491 : BitVec 32 := 0#32
  ![v1689.toNat, 0]
def k0_cond355 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1966 : BitVec 32 := 1#32
  let v1720 : BitVec 1 := Scalar.cmpi .sge v8 c1_i32_1966
  let c3_i32_1967 : BitVec 32 := 3#32
  let v1721 : BitVec 1 := Scalar.cmpi .slt v8 c3_i32_1967
  let v1722 : BitVec 1 := Scalar.andi v1720 v1721
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1932 : BitVec 32 := 1#32
  let v1693 : BitVec 32 := Scalar.subi v5 c1_i32_1932
  let c1_i32_1933 : BitVec 32 := 1#32
  let v1694 : BitVec 1 := Scalar.cmpi .eq v1693 c1_i32_1933
  let c1_i32_1934 : BitVec 32 := 1#32
  let v1695 : BitVec 32 := Scalar.addi v5 c1_i32_1934
  let c1_i32_1935 : BitVec 32 := 1#32
  let v1696 : BitVec 1 := Scalar.cmpi .eq v1695 c1_i32_1935
  let v1697 : BitVec 1 := Scalar.ori v1694 v1696
  let v1723 : BitVec 1 := Scalar.andi v1722 v1697
  let v3796 : BitVec 32 := Scalar.extui v1723
  let c0_i32_4978 : BitVec 32 := 0#32
  let v3797 : BitVec 1 := Scalar.cmpi .ne v3796 c0_i32_4978
  v3797

def k0_off350 (d0 : Dev nD) : Fin 2 → Nat :=
  let c4_i32_1971 : BitVec 32 := 4#32
  let c3_i32_1970 : BitVec 32 := 3#32
  let c0_i32_1969 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1968 : BitVec 32 := 1#32
  let v1724 : BitVec 32 := Scalar.subi v8 c1_i32_1968
  let v1725 : BitVec 32 := Scalar.maxsi c0_i32_1969 v1724
  let v1726 : BitVec 32 := Scalar.minsi c3_i32_1970 v1725
  let v1727 : BitVec 32 := Scalar.addi c4_i32_1971 v1726
  let c256_i32_1972 : BitVec 32 := 256#32
  let v1728 : BitVec 32 := Scalar.muli v1727 c256_i32_1972
  let c2048_i32 : BitVec 32 := 2048#32
  ![v1728.toNat, 2048]
def k0_cond356 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1981 : BitVec 32 := 2#32
  let v1732 : BitVec 1 := Scalar.cmpi .sle v8 c2_i32_1981
  let c0_i32_1982 : BitVec 32 := 0#32
  let v1733 : BitVec 1 := Scalar.cmpi .sgt v8 c0_i32_1982
  let v1734 : BitVec 1 := Scalar.andi v1732 v1733
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1932 : BitVec 32 := 1#32
  let v1693 : BitVec 32 := Scalar.subi v5 c1_i32_1932
  let c1_i32_1933 : BitVec 32 := 1#32
  let v1694 : BitVec 1 := Scalar.cmpi .eq v1693 c1_i32_1933
  let c1_i32_1934 : BitVec 32 := 1#32
  let v1695 : BitVec 32 := Scalar.addi v5 c1_i32_1934
  let c1_i32_1935 : BitVec 32 := 1#32
  let v1696 : BitVec 1 := Scalar.cmpi .eq v1695 c1_i32_1935
  let v1697 : BitVec 1 := Scalar.ori v1694 v1696
  let v1735 : BitVec 1 := Scalar.andi v1734 v1697
  let v3798 : BitVec 32 := Scalar.extui v1735
  let c0_i32_4985 : BitVec 32 := 0#32
  let v3799 : BitVec 1 := Scalar.cmpi .ne v3798 c0_i32_4985
  v3799

def k0_off351 (d0 : Dev nD) : Fin 2 → Nat :=
  let c4_i32_1986 : BitVec 32 := 4#32
  let c3_i32_1985 : BitVec 32 := 3#32
  let c0_i32_1984 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1983 : BitVec 32 := 1#32
  let v1736 : BitVec 32 := Scalar.addi v8 c1_i32_1983
  let v1737 : BitVec 32 := Scalar.maxsi c0_i32_1984 v1736
  let v1738 : BitVec 32 := Scalar.minsi c3_i32_1985 v1737
  let v1739 : BitVec 32 := Scalar.addi c4_i32_1986 v1738
  let c256_i32_1987 : BitVec 32 := 256#32
  let v1740 : BitVec 32 := Scalar.muli v1739 c256_i32_1987
  let c2048_i32 : BitVec 32 := 2048#32
  ![v1740.toNat, 2048]
def k0_cond357 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2032 : BitVec 32 := 1#32
  let v1773 : BitVec 1 := Scalar.cmpi .sge v5 c1_i32_2032
  let c3_i32_2033 : BitVec 32 := 3#32
  let v1774 : BitVec 1 := Scalar.cmpi .slt v5 c3_i32_2033
  let v1775 : BitVec 1 := Scalar.andi v1773 v1774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1996 : BitVec 32 := 1#32
  let v1744 : BitVec 32 := Scalar.subi v8 c1_i32_1996
  let c2_i32_1997 : BitVec 32 := 2#32
  let v1745 : BitVec 1 := Scalar.cmpi .eq v1744 c2_i32_1997
  let c1_i32_1998 : BitVec 32 := 1#32
  let v1746 : BitVec 32 := Scalar.addi v8 c1_i32_1998
  let c2_i32_1999 : BitVec 32 := 2#32
  let v1747 : BitVec 1 := Scalar.cmpi .eq v1746 c2_i32_1999
  let v1748 : BitVec 1 := Scalar.ori v1745 v1747
  let v1776 : BitVec 1 := Scalar.andi v1775 v1748
  let v3800 : BitVec 32 := Scalar.extui v1776
  let c0_i32_4992 : BitVec 32 := 0#32
  let v3801 : BitVec 1 := Scalar.cmpi .ne v3800 c0_i32_4992
  v3801

def k0_off352 (d0 : Dev nD) : Fin 2 → Nat :=
  let c4_i32_2037 : BitVec 32 := 4#32
  let c3_i32_2036 : BitVec 32 := 3#32
  let c0_i32_2035 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2034 : BitVec 32 := 1#32
  let v1777 : BitVec 32 := Scalar.subi v5 c1_i32_2034
  let v1778 : BitVec 32 := Scalar.maxsi c0_i32_2035 v1777
  let v1779 : BitVec 32 := Scalar.minsi c3_i32_2036 v1778
  let v1780 : BitVec 32 := Scalar.muli c4_i32_2037 v1779
  let c2_i32_2038 : BitVec 32 := 2#32
  let v1781 : BitVec 32 := Scalar.addi v1780 c2_i32_2038
  let c256_i32_2039 : BitVec 32 := 256#32
  let v1782 : BitVec 32 := Scalar.muli v1781 c256_i32_2039
  let c0_i32_5491 : BitVec 32 := 0#32
  ![v1782.toNat, 0]
def k0_cond358 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2048 : BitVec 32 := 2#32
  let v1786 : BitVec 1 := Scalar.cmpi .sle v5 c2_i32_2048
  let c0_i32_2049 : BitVec 32 := 0#32
  let v1787 : BitVec 1 := Scalar.cmpi .sgt v5 c0_i32_2049
  let v1788 : BitVec 1 := Scalar.andi v1786 v1787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1996 : BitVec 32 := 1#32
  let v1744 : BitVec 32 := Scalar.subi v8 c1_i32_1996
  let c2_i32_1997 : BitVec 32 := 2#32
  let v1745 : BitVec 1 := Scalar.cmpi .eq v1744 c2_i32_1997
  let c1_i32_1998 : BitVec 32 := 1#32
  let v1746 : BitVec 32 := Scalar.addi v8 c1_i32_1998
  let c2_i32_1999 : BitVec 32 := 2#32
  let v1747 : BitVec 1 := Scalar.cmpi .eq v1746 c2_i32_1999
  let v1748 : BitVec 1 := Scalar.ori v1745 v1747
  let v1789 : BitVec 1 := Scalar.andi v1788 v1748
  let v3802 : BitVec 32 := Scalar.extui v1789
  let c0_i32_4999 : BitVec 32 := 0#32
  let v3803 : BitVec 1 := Scalar.cmpi .ne v3802 c0_i32_4999
  v3803

def k0_off353 (d0 : Dev nD) : Fin 2 → Nat :=
  let c4_i32_2053 : BitVec 32 := 4#32
  let c3_i32_2052 : BitVec 32 := 3#32
  let c0_i32_2051 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2050 : BitVec 32 := 1#32
  let v1790 : BitVec 32 := Scalar.addi v5 c1_i32_2050
  let v1791 : BitVec 32 := Scalar.maxsi c0_i32_2051 v1790
  let v1792 : BitVec 32 := Scalar.minsi c3_i32_2052 v1791
  let v1793 : BitVec 32 := Scalar.muli c4_i32_2053 v1792
  let c2_i32_2054 : BitVec 32 := 2#32
  let v1794 : BitVec 32 := Scalar.addi v1793 c2_i32_2054
  let c256_i32_2055 : BitVec 32 := 256#32
  let v1795 : BitVec 32 := Scalar.muli v1794 c256_i32_2055
  let c0_i32_5491 : BitVec 32 := 0#32
  ![v1795.toNat, 0]
def k0_cond359 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2098 : BitVec 32 := 1#32
  let v1826 : BitVec 1 := Scalar.cmpi .sge v8 c1_i32_2098
  let c3_i32_2099 : BitVec 32 := 3#32
  let v1827 : BitVec 1 := Scalar.cmpi .slt v8 c3_i32_2099
  let v1828 : BitVec 1 := Scalar.andi v1826 v1827
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2064 : BitVec 32 := 1#32
  let v1799 : BitVec 32 := Scalar.subi v5 c1_i32_2064
  let c2_i32_2065 : BitVec 32 := 2#32
  let v1800 : BitVec 1 := Scalar.cmpi .eq v1799 c2_i32_2065
  let c1_i32_2066 : BitVec 32 := 1#32
  let v1801 : BitVec 32 := Scalar.addi v5 c1_i32_2066
  let c2_i32_2067 : BitVec 32 := 2#32
  let v1802 : BitVec 1 := Scalar.cmpi .eq v1801 c2_i32_2067
  let v1803 : BitVec 1 := Scalar.ori v1800 v1802
  let v1829 : BitVec 1 := Scalar.andi v1828 v1803
  let v3804 : BitVec 32 := Scalar.extui v1829
  let c0_i32_5006 : BitVec 32 := 0#32
  let v3805 : BitVec 1 := Scalar.cmpi .ne v3804 c0_i32_5006
  v3805

def k0_off354 (d0 : Dev nD) : Fin 2 → Nat :=
  let c8_i32_2103 : BitVec 32 := 8#32
  let c3_i32_2102 : BitVec 32 := 3#32
  let c0_i32_2101 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2100 : BitVec 32 := 1#32
  let v1830 : BitVec 32 := Scalar.subi v8 c1_i32_2100
  let v1831 : BitVec 32 := Scalar.maxsi c0_i32_2101 v1830
  let v1832 : BitVec 32 := Scalar.minsi c3_i32_2102 v1831
  let v1833 : BitVec 32 := Scalar.addi c8_i32_2103 v1832
  let c256_i32_2104 : BitVec 32 := 256#32
  let v1834 : BitVec 32 := Scalar.muli v1833 c256_i32_2104
  let c2048_i32 : BitVec 32 := 2048#32
  ![v1834.toNat, 2048]
def k0_cond360 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2113 : BitVec 32 := 2#32
  let v1838 : BitVec 1 := Scalar.cmpi .sle v8 c2_i32_2113
  let c0_i32_2114 : BitVec 32 := 0#32
  let v1839 : BitVec 1 := Scalar.cmpi .sgt v8 c0_i32_2114
  let v1840 : BitVec 1 := Scalar.andi v1838 v1839
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2064 : BitVec 32 := 1#32
  let v1799 : BitVec 32 := Scalar.subi v5 c1_i32_2064
  let c2_i32_2065 : BitVec 32 := 2#32
  let v1800 : BitVec 1 := Scalar.cmpi .eq v1799 c2_i32_2065
  let c1_i32_2066 : BitVec 32 := 1#32
  let v1801 : BitVec 32 := Scalar.addi v5 c1_i32_2066
  let c2_i32_2067 : BitVec 32 := 2#32
  let v1802 : BitVec 1 := Scalar.cmpi .eq v1801 c2_i32_2067
  let v1803 : BitVec 1 := Scalar.ori v1800 v1802
  let v1841 : BitVec 1 := Scalar.andi v1840 v1803
  let v3806 : BitVec 32 := Scalar.extui v1841
  let c0_i32_5013 : BitVec 32 := 0#32
  let v3807 : BitVec 1 := Scalar.cmpi .ne v3806 c0_i32_5013
  v3807

def k0_off355 (d0 : Dev nD) : Fin 2 → Nat :=
  let c8_i32_2118 : BitVec 32 := 8#32
  let c3_i32_2117 : BitVec 32 := 3#32
  let c0_i32_2116 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2115 : BitVec 32 := 1#32
  let v1842 : BitVec 32 := Scalar.addi v8 c1_i32_2115
  let v1843 : BitVec 32 := Scalar.maxsi c0_i32_2116 v1842
  let v1844 : BitVec 32 := Scalar.minsi c3_i32_2117 v1843
  let v1845 : BitVec 32 := Scalar.addi c8_i32_2118 v1844
  let c256_i32_2119 : BitVec 32 := 256#32
  let v1846 : BitVec 32 := Scalar.muli v1845 c256_i32_2119
  let c2048_i32 : BitVec 32 := 2048#32
  ![v1846.toNat, 2048]
def k0_cond361 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2164 : BitVec 32 := 1#32
  let v1879 : BitVec 1 := Scalar.cmpi .sge v5 c1_i32_2164
  let c3_i32_2165 : BitVec 32 := 3#32
  let v1880 : BitVec 1 := Scalar.cmpi .slt v5 c3_i32_2165
  let v1881 : BitVec 1 := Scalar.andi v1879 v1880
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2128 : BitVec 32 := 1#32
  let v1850 : BitVec 32 := Scalar.subi v8 c1_i32_2128
  let c3_i32_2129 : BitVec 32 := 3#32
  let v1851 : BitVec 1 := Scalar.cmpi .eq v1850 c3_i32_2129
  let c1_i32_2130 : BitVec 32 := 1#32
  let v1852 : BitVec 32 := Scalar.addi v8 c1_i32_2130
  let c3_i32_2131 : BitVec 32 := 3#32
  let v1853 : BitVec 1 := Scalar.cmpi .eq v1852 c3_i32_2131
  let v1854 : BitVec 1 := Scalar.ori v1851 v1853
  let v1882 : BitVec 1 := Scalar.andi v1881 v1854
  let v3808 : BitVec 32 := Scalar.extui v1882
  let c0_i32_5020 : BitVec 32 := 0#32
  let v3809 : BitVec 1 := Scalar.cmpi .ne v3808 c0_i32_5020
  v3809

def k0_off356 (d0 : Dev nD) : Fin 2 → Nat :=
  let c4_i32_2169 : BitVec 32 := 4#32
  let c3_i32_2168 : BitVec 32 := 3#32
  let c0_i32_2167 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2166 : BitVec 32 := 1#32
  let v1883 : BitVec 32 := Scalar.subi v5 c1_i32_2166
  let v1884 : BitVec 32 := Scalar.maxsi c0_i32_2167 v1883
  let v1885 : BitVec 32 := Scalar.minsi c3_i32_2168 v1884
  let v1886 : BitVec 32 := Scalar.muli c4_i32_2169 v1885
  let c3_i32_2170 : BitVec 32 := 3#32
  let v1887 : BitVec 32 := Scalar.addi v1886 c3_i32_2170
  let c256_i32_2171 : BitVec 32 := 256#32
  let v1888 : BitVec 32 := Scalar.muli v1887 c256_i32_2171
  let c0_i32_5491 : BitVec 32 := 0#32
  ![v1888.toNat, 0]
def k0_cond362 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2180 : BitVec 32 := 2#32
  let v1892 : BitVec 1 := Scalar.cmpi .sle v5 c2_i32_2180
  let c0_i32_2181 : BitVec 32 := 0#32
  let v1893 : BitVec 1 := Scalar.cmpi .sgt v5 c0_i32_2181
  let v1894 : BitVec 1 := Scalar.andi v1892 v1893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2128 : BitVec 32 := 1#32
  let v1850 : BitVec 32 := Scalar.subi v8 c1_i32_2128
  let c3_i32_2129 : BitVec 32 := 3#32
  let v1851 : BitVec 1 := Scalar.cmpi .eq v1850 c3_i32_2129
  let c1_i32_2130 : BitVec 32 := 1#32
  let v1852 : BitVec 32 := Scalar.addi v8 c1_i32_2130
  let c3_i32_2131 : BitVec 32 := 3#32
  let v1853 : BitVec 1 := Scalar.cmpi .eq v1852 c3_i32_2131
  let v1854 : BitVec 1 := Scalar.ori v1851 v1853
  let v1895 : BitVec 1 := Scalar.andi v1894 v1854
  let v3810 : BitVec 32 := Scalar.extui v1895
  let c0_i32_5027 : BitVec 32 := 0#32
  let v3811 : BitVec 1 := Scalar.cmpi .ne v3810 c0_i32_5027
  v3811

def k0_off357 (d0 : Dev nD) : Fin 2 → Nat :=
  let c4_i32_2185 : BitVec 32 := 4#32
  let c3_i32_2184 : BitVec 32 := 3#32
  let c0_i32_2183 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2182 : BitVec 32 := 1#32
  let v1896 : BitVec 32 := Scalar.addi v5 c1_i32_2182
  let v1897 : BitVec 32 := Scalar.maxsi c0_i32_2183 v1896
  let v1898 : BitVec 32 := Scalar.minsi c3_i32_2184 v1897
  let v1899 : BitVec 32 := Scalar.muli c4_i32_2185 v1898
  let c3_i32_2186 : BitVec 32 := 3#32
  let v1900 : BitVec 32 := Scalar.addi v1899 c3_i32_2186
  let c256_i32_2187 : BitVec 32 := 256#32
  let v1901 : BitVec 32 := Scalar.muli v1900 c256_i32_2187
  let c0_i32_5491 : BitVec 32 := 0#32
  ![v1901.toNat, 0]
def k0_cond363 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2230 : BitVec 32 := 1#32
  let v1932 : BitVec 1 := Scalar.cmpi .sge v8 c1_i32_2230
  let c3_i32_2231 : BitVec 32 := 3#32
  let v1933 : BitVec 1 := Scalar.cmpi .slt v8 c3_i32_2231
  let v1934 : BitVec 1 := Scalar.andi v1932 v1933
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2196 : BitVec 32 := 1#32
  let v1905 : BitVec 32 := Scalar.subi v5 c1_i32_2196
  let c3_i32_2197 : BitVec 32 := 3#32
  let v1906 : BitVec 1 := Scalar.cmpi .eq v1905 c3_i32_2197
  let c1_i32_2198 : BitVec 32 := 1#32
  let v1907 : BitVec 32 := Scalar.addi v5 c1_i32_2198
  let c3_i32_2199 : BitVec 32 := 3#32
  let v1908 : BitVec 1 := Scalar.cmpi .eq v1907 c3_i32_2199
  let v1909 : BitVec 1 := Scalar.ori v1906 v1908
  let v1935 : BitVec 1 := Scalar.andi v1934 v1909
  let v3812 : BitVec 32 := Scalar.extui v1935
  let c0_i32_5034 : BitVec 32 := 0#32
  let v3813 : BitVec 1 := Scalar.cmpi .ne v3812 c0_i32_5034
  v3813

def k0_off358 (d0 : Dev nD) : Fin 2 → Nat :=
  let c12_i32_2235 : BitVec 32 := 12#32
  let c3_i32_2234 : BitVec 32 := 3#32
  let c0_i32_2233 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2232 : BitVec 32 := 1#32
  let v1936 : BitVec 32 := Scalar.subi v8 c1_i32_2232
  let v1937 : BitVec 32 := Scalar.maxsi c0_i32_2233 v1936
  let v1938 : BitVec 32 := Scalar.minsi c3_i32_2234 v1937
  let v1939 : BitVec 32 := Scalar.addi c12_i32_2235 v1938
  let c256_i32_2236 : BitVec 32 := 256#32
  let v1940 : BitVec 32 := Scalar.muli v1939 c256_i32_2236
  let c2048_i32 : BitVec 32 := 2048#32
  ![v1940.toNat, 2048]
def k0_cond364 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2245 : BitVec 32 := 2#32
  let v1944 : BitVec 1 := Scalar.cmpi .sle v8 c2_i32_2245
  let c0_i32_2246 : BitVec 32 := 0#32
  let v1945 : BitVec 1 := Scalar.cmpi .sgt v8 c0_i32_2246
  let v1946 : BitVec 1 := Scalar.andi v1944 v1945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2196 : BitVec 32 := 1#32
  let v1905 : BitVec 32 := Scalar.subi v5 c1_i32_2196
  let c3_i32_2197 : BitVec 32 := 3#32
  let v1906 : BitVec 1 := Scalar.cmpi .eq v1905 c3_i32_2197
  let c1_i32_2198 : BitVec 32 := 1#32
  let v1907 : BitVec 32 := Scalar.addi v5 c1_i32_2198
  let c3_i32_2199 : BitVec 32 := 3#32
  let v1908 : BitVec 1 := Scalar.cmpi .eq v1907 c3_i32_2199
  let v1909 : BitVec 1 := Scalar.ori v1906 v1908
  let v1947 : BitVec 1 := Scalar.andi v1946 v1909
  let v3814 : BitVec 32 := Scalar.extui v1947
  let c0_i32_5041 : BitVec 32 := 0#32
  let v3815 : BitVec 1 := Scalar.cmpi .ne v3814 c0_i32_5041
  v3815

def k0_off359 (d0 : Dev nD) : Fin 2 → Nat :=
  let c12_i32_2250 : BitVec 32 := 12#32
  let c3_i32_2249 : BitVec 32 := 3#32
  let c0_i32_2248 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2247 : BitVec 32 := 1#32
  let v1948 : BitVec 32 := Scalar.addi v8 c1_i32_2247
  let v1949 : BitVec 32 := Scalar.maxsi c0_i32_2248 v1948
  let v1950 : BitVec 32 := Scalar.minsi c3_i32_2249 v1949
  let v1951 : BitVec 32 := Scalar.addi c12_i32_2250 v1950
  let c256_i32_2251 : BitVec 32 := 256#32
  let v1952 : BitVec 32 := Scalar.muli v1951 c256_i32_2251
  let c2048_i32 : BitVec 32 := 2048#32
  ![v1952.toNat, 2048]
def k0_cond365 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2318 : BitVec 32 := 0#32
  let v2007 : BitVec 1 := Scalar.cmpi .sge v5 c0_i32_2318
  let c3_i32_2319 : BitVec 32 := 3#32
  let v2008 : BitVec 1 := Scalar.cmpi .slt v5 c3_i32_2319
  let v2009 : BitVec 1 := Scalar.andi v2007 v2008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2312 : BitVec 32 := 1#32
  let v2000 : BitVec 32 := Scalar.subi v8 c1_i32_2312
  let c2_i32_2313 : BitVec 32 := 2#32
  let v2001 : BitVec 32 := Scalar.subi v2000 c2_i32_2313
  let c0_i32_2314 : BitVec 32 := 0#32
  let v2002 : BitVec 1 := Scalar.cmpi .eq v2001 c0_i32_2314
  let c1_i32_2315 : BitVec 32 := 1#32
  let v2003 : BitVec 32 := Scalar.addi v8 c1_i32_2315
  let c2_i32_2316 : BitVec 32 := 2#32
  let v2004 : BitVec 32 := Scalar.addi v2003 c2_i32_2316
  let c0_i32_2317 : BitVec 32 := 0#32
  let v2005 : BitVec 1 := Scalar.cmpi .eq v2004 c0_i32_2317
  let v2006 : BitVec 1 := Scalar.ori v2002 v2005
  let v2010 : BitVec 1 := Scalar.andi v2009 v2006
  let v3816 : BitVec 32 := Scalar.extui v2010
  let c0_i32_5048 : BitVec 32 := 0#32
  let v3817 : BitVec 1 := Scalar.cmpi .ne v3816 c0_i32_5048
  v3817

def k0_off360 (d0 : Dev nD) : Fin 2 → Nat :=
  let c4_i32_2323 : BitVec 32 := 4#32
  let c3_i32_2322 : BitVec 32 := 3#32
  let c0_i32_2321 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2320 : BitVec 32 := 0#32
  let v2011 : BitVec 32 := Scalar.subi v5 c0_i32_2320
  let v2012 : BitVec 32 := Scalar.maxsi c0_i32_2321 v2011
  let v2013 : BitVec 32 := Scalar.minsi c3_i32_2322 v2012
  let v2014 : BitVec 32 := Scalar.muli c4_i32_2323 v2013
  let c0_i32_2324 : BitVec 32 := 0#32
  let v2015 : BitVec 32 := Scalar.addi v2014 c0_i32_2324
  let c256_i32_2325 : BitVec 32 := 256#32
  let v2016 : BitVec 32 := Scalar.muli v2015 c256_i32_2325
  let c0_i32_5491 : BitVec 32 := 0#32
  ![v2016.toNat, 0]
def k0_cond366 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2334 : BitVec 32 := 3#32
  let v2020 : BitVec 1 := Scalar.cmpi .sle v5 c3_i32_2334
  let c0_i32_2335 : BitVec 32 := 0#32
  let v2021 : BitVec 1 := Scalar.cmpi .sgt v5 c0_i32_2335
  let v2022 : BitVec 1 := Scalar.andi v2020 v2021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2312 : BitVec 32 := 1#32
  let v2000 : BitVec 32 := Scalar.subi v8 c1_i32_2312
  let c2_i32_2313 : BitVec 32 := 2#32
  let v2001 : BitVec 32 := Scalar.subi v2000 c2_i32_2313
  let c0_i32_2314 : BitVec 32 := 0#32
  let v2002 : BitVec 1 := Scalar.cmpi .eq v2001 c0_i32_2314
  let c1_i32_2315 : BitVec 32 := 1#32
  let v2003 : BitVec 32 := Scalar.addi v8 c1_i32_2315
  let c2_i32_2316 : BitVec 32 := 2#32
  let v2004 : BitVec 32 := Scalar.addi v2003 c2_i32_2316
  let c0_i32_2317 : BitVec 32 := 0#32
  let v2005 : BitVec 1 := Scalar.cmpi .eq v2004 c0_i32_2317
  let v2006 : BitVec 1 := Scalar.ori v2002 v2005
  let v2023 : BitVec 1 := Scalar.andi v2022 v2006
  let v3818 : BitVec 32 := Scalar.extui v2023
  let c0_i32_5055 : BitVec 32 := 0#32
  let v3819 : BitVec 1 := Scalar.cmpi .ne v3818 c0_i32_5055
  v3819

def k0_off361 (d0 : Dev nD) : Fin 2 → Nat :=
  let c4_i32_2339 : BitVec 32 := 4#32
  let c3_i32_2338 : BitVec 32 := 3#32
  let c0_i32_2337 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2336 : BitVec 32 := 0#32
  let v2024 : BitVec 32 := Scalar.addi v5 c0_i32_2336
  let v2025 : BitVec 32 := Scalar.maxsi c0_i32_2337 v2024
  let v2026 : BitVec 32 := Scalar.minsi c3_i32_2338 v2025
  let v2027 : BitVec 32 := Scalar.muli c4_i32_2339 v2026
  let c0_i32_2340 : BitVec 32 := 0#32
  let v2028 : BitVec 32 := Scalar.addi v2027 c0_i32_2340
  let c256_i32_2341 : BitVec 32 := 256#32
  let v2029 : BitVec 32 := Scalar.muli v2028 c256_i32_2341
  let c0_i32_5491 : BitVec 32 := 0#32
  ![v2029.toNat, 0]
def k0_cond367 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2356 : BitVec 32 := 0#32
  let v2040 : BitVec 1 := Scalar.cmpi .sge v5 c0_i32_2356
  let c3_i32_2357 : BitVec 32 := 3#32
  let v2041 : BitVec 1 := Scalar.cmpi .slt v5 c3_i32_2357
  let v2042 : BitVec 1 := Scalar.andi v2040 v2041
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2350 : BitVec 32 := 1#32
  let v2033 : BitVec 32 := Scalar.subi v8 c1_i32_2350
  let c2_i32_2351 : BitVec 32 := 2#32
  let v2034 : BitVec 32 := Scalar.subi v2033 c2_i32_2351
  let c1_i32_2352 : BitVec 32 := 1#32
  let v2035 : BitVec 1 := Scalar.cmpi .eq v2034 c1_i32_2352
  let c1_i32_2353 : BitVec 32 := 1#32
  let v2036 : BitVec 32 := Scalar.addi v8 c1_i32_2353
  let c2_i32_2354 : BitVec 32 := 2#32
  let v2037 : BitVec 32 := Scalar.addi v2036 c2_i32_2354
  let c1_i32_2355 : BitVec 32 := 1#32
  let v2038 : BitVec 1 := Scalar.cmpi .eq v2037 c1_i32_2355
  let v2039 : BitVec 1 := Scalar.ori v2035 v2038
  let v2043 : BitVec 1 := Scalar.andi v2042 v2039
  let v3820 : BitVec 32 := Scalar.extui v2043
  let c0_i32_5062 : BitVec 32 := 0#32
  let v3821 : BitVec 1 := Scalar.cmpi .ne v3820 c0_i32_5062
  v3821

def k0_off362 (d0 : Dev nD) : Fin 2 → Nat :=
  let c4_i32_2361 : BitVec 32 := 4#32
  let c3_i32_2360 : BitVec 32 := 3#32
  let c0_i32_2359 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2358 : BitVec 32 := 0#32
  let v2044 : BitVec 32 := Scalar.subi v5 c0_i32_2358
  let v2045 : BitVec 32 := Scalar.maxsi c0_i32_2359 v2044
  let v2046 : BitVec 32 := Scalar.minsi c3_i32_2360 v2045
  let v2047 : BitVec 32 := Scalar.muli c4_i32_2361 v2046
  let c1_i32_2362 : BitVec 32 := 1#32
  let v2048 : BitVec 32 := Scalar.addi v2047 c1_i32_2362
  let c256_i32_2363 : BitVec 32 := 256#32
  let v2049 : BitVec 32 := Scalar.muli v2048 c256_i32_2363
  let c0_i32_5491 : BitVec 32 := 0#32
  ![v2049.toNat, 0]
def k0_cond368 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2372 : BitVec 32 := 3#32
  let v2053 : BitVec 1 := Scalar.cmpi .sle v5 c3_i32_2372
  let c0_i32_2373 : BitVec 32 := 0#32
  let v2054 : BitVec 1 := Scalar.cmpi .sgt v5 c0_i32_2373
  let v2055 : BitVec 1 := Scalar.andi v2053 v2054
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2350 : BitVec 32 := 1#32
  let v2033 : BitVec 32 := Scalar.subi v8 c1_i32_2350
  let c2_i32_2351 : BitVec 32 := 2#32
  let v2034 : BitVec 32 := Scalar.subi v2033 c2_i32_2351
  let c1_i32_2352 : BitVec 32 := 1#32
  let v2035 : BitVec 1 := Scalar.cmpi .eq v2034 c1_i32_2352
  let c1_i32_2353 : BitVec 32 := 1#32
  let v2036 : BitVec 32 := Scalar.addi v8 c1_i32_2353
  let c2_i32_2354 : BitVec 32 := 2#32
  let v2037 : BitVec 32 := Scalar.addi v2036 c2_i32_2354
  let c1_i32_2355 : BitVec 32 := 1#32
  let v2038 : BitVec 1 := Scalar.cmpi .eq v2037 c1_i32_2355
  let v2039 : BitVec 1 := Scalar.ori v2035 v2038
  let v2056 : BitVec 1 := Scalar.andi v2055 v2039
  let v3822 : BitVec 32 := Scalar.extui v2056
  let c0_i32_5069 : BitVec 32 := 0#32
  let v3823 : BitVec 1 := Scalar.cmpi .ne v3822 c0_i32_5069
  v3823

def k0_off363 (d0 : Dev nD) : Fin 2 → Nat :=
  let c4_i32_2377 : BitVec 32 := 4#32
  let c3_i32_2376 : BitVec 32 := 3#32
  let c0_i32_2375 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2374 : BitVec 32 := 0#32
  let v2057 : BitVec 32 := Scalar.addi v5 c0_i32_2374
  let v2058 : BitVec 32 := Scalar.maxsi c0_i32_2375 v2057
  let v2059 : BitVec 32 := Scalar.minsi c3_i32_2376 v2058
  let v2060 : BitVec 32 := Scalar.muli c4_i32_2377 v2059
  let c1_i32_2378 : BitVec 32 := 1#32
  let v2061 : BitVec 32 := Scalar.addi v2060 c1_i32_2378
  let c256_i32_2379 : BitVec 32 := 256#32
  let v2062 : BitVec 32 := Scalar.muli v2061 c256_i32_2379
  let c0_i32_5491 : BitVec 32 := 0#32
  ![v2062.toNat, 0]
def k0_cond369 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2394 : BitVec 32 := 0#32
  let v2073 : BitVec 1 := Scalar.cmpi .sge v5 c0_i32_2394
  let c3_i32_2395 : BitVec 32 := 3#32
  let v2074 : BitVec 1 := Scalar.cmpi .slt v5 c3_i32_2395
  let v2075 : BitVec 1 := Scalar.andi v2073 v2074
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2388 : BitVec 32 := 1#32
  let v2066 : BitVec 32 := Scalar.subi v8 c1_i32_2388
  let c2_i32_2389 : BitVec 32 := 2#32
  let v2067 : BitVec 32 := Scalar.subi v2066 c2_i32_2389
  let c2_i32_2390 : BitVec 32 := 2#32
  let v2068 : BitVec 1 := Scalar.cmpi .eq v2067 c2_i32_2390
  let c1_i32_2391 : BitVec 32 := 1#32
  let v2069 : BitVec 32 := Scalar.addi v8 c1_i32_2391
  let c2_i32_2392 : BitVec 32 := 2#32
  let v2070 : BitVec 32 := Scalar.addi v2069 c2_i32_2392
  let c2_i32_2393 : BitVec 32 := 2#32
  let v2071 : BitVec 1 := Scalar.cmpi .eq v2070 c2_i32_2393
  let v2072 : BitVec 1 := Scalar.ori v2068 v2071
  let v2076 : BitVec 1 := Scalar.andi v2075 v2072
  let v3824 : BitVec 32 := Scalar.extui v2076
  let c0_i32_5076 : BitVec 32 := 0#32
  let v3825 : BitVec 1 := Scalar.cmpi .ne v3824 c0_i32_5076
  v3825

def k0_off364 (d0 : Dev nD) : Fin 2 → Nat :=
  let c4_i32_2399 : BitVec 32 := 4#32
  let c3_i32_2398 : BitVec 32 := 3#32
  let c0_i32_2397 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2396 : BitVec 32 := 0#32
  let v2077 : BitVec 32 := Scalar.subi v5 c0_i32_2396
  let v2078 : BitVec 32 := Scalar.maxsi c0_i32_2397 v2077
  let v2079 : BitVec 32 := Scalar.minsi c3_i32_2398 v2078
  let v2080 : BitVec 32 := Scalar.muli c4_i32_2399 v2079
  let c2_i32_2400 : BitVec 32 := 2#32
  let v2081 : BitVec 32 := Scalar.addi v2080 c2_i32_2400
  let c256_i32_2401 : BitVec 32 := 256#32
  let v2082 : BitVec 32 := Scalar.muli v2081 c256_i32_2401
  let c0_i32_5491 : BitVec 32 := 0#32
  ![v2082.toNat, 0]
def k0_cond370 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2410 : BitVec 32 := 3#32
  let v2086 : BitVec 1 := Scalar.cmpi .sle v5 c3_i32_2410
  let c0_i32_2411 : BitVec 32 := 0#32
  let v2087 : BitVec 1 := Scalar.cmpi .sgt v5 c0_i32_2411
  let v2088 : BitVec 1 := Scalar.andi v2086 v2087
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2388 : BitVec 32 := 1#32
  let v2066 : BitVec 32 := Scalar.subi v8 c1_i32_2388
  let c2_i32_2389 : BitVec 32 := 2#32
  let v2067 : BitVec 32 := Scalar.subi v2066 c2_i32_2389
  let c2_i32_2390 : BitVec 32 := 2#32
  let v2068 : BitVec 1 := Scalar.cmpi .eq v2067 c2_i32_2390
  let c1_i32_2391 : BitVec 32 := 1#32
  let v2069 : BitVec 32 := Scalar.addi v8 c1_i32_2391
  let c2_i32_2392 : BitVec 32 := 2#32
  let v2070 : BitVec 32 := Scalar.addi v2069 c2_i32_2392
  let c2_i32_2393 : BitVec 32 := 2#32
  let v2071 : BitVec 1 := Scalar.cmpi .eq v2070 c2_i32_2393
  let v2072 : BitVec 1 := Scalar.ori v2068 v2071
  let v2089 : BitVec 1 := Scalar.andi v2088 v2072
  let v3826 : BitVec 32 := Scalar.extui v2089
  let c0_i32_5083 : BitVec 32 := 0#32
  let v3827 : BitVec 1 := Scalar.cmpi .ne v3826 c0_i32_5083
  v3827

def k0_off365 (d0 : Dev nD) : Fin 2 → Nat :=
  let c4_i32_2415 : BitVec 32 := 4#32
  let c3_i32_2414 : BitVec 32 := 3#32
  let c0_i32_2413 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2412 : BitVec 32 := 0#32
  let v2090 : BitVec 32 := Scalar.addi v5 c0_i32_2412
  let v2091 : BitVec 32 := Scalar.maxsi c0_i32_2413 v2090
  let v2092 : BitVec 32 := Scalar.minsi c3_i32_2414 v2091
  let v2093 : BitVec 32 := Scalar.muli c4_i32_2415 v2092
  let c2_i32_2416 : BitVec 32 := 2#32
  let v2094 : BitVec 32 := Scalar.addi v2093 c2_i32_2416
  let c256_i32_2417 : BitVec 32 := 256#32
  let v2095 : BitVec 32 := Scalar.muli v2094 c256_i32_2417
  let c0_i32_5491 : BitVec 32 := 0#32
  ![v2095.toNat, 0]
def k0_cond371 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2432 : BitVec 32 := 0#32
  let v2106 : BitVec 1 := Scalar.cmpi .sge v5 c0_i32_2432
  let c3_i32_2433 : BitVec 32 := 3#32
  let v2107 : BitVec 1 := Scalar.cmpi .slt v5 c3_i32_2433
  let v2108 : BitVec 1 := Scalar.andi v2106 v2107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2426 : BitVec 32 := 1#32
  let v2099 : BitVec 32 := Scalar.subi v8 c1_i32_2426
  let c2_i32_2427 : BitVec 32 := 2#32
  let v2100 : BitVec 32 := Scalar.subi v2099 c2_i32_2427
  let c3_i32_2428 : BitVec 32 := 3#32
  let v2101 : BitVec 1 := Scalar.cmpi .eq v2100 c3_i32_2428
  let c1_i32_2429 : BitVec 32 := 1#32
  let v2102 : BitVec 32 := Scalar.addi v8 c1_i32_2429
  let c2_i32_2430 : BitVec 32 := 2#32
  let v2103 : BitVec 32 := Scalar.addi v2102 c2_i32_2430
  let c3_i32_2431 : BitVec 32 := 3#32
  let v2104 : BitVec 1 := Scalar.cmpi .eq v2103 c3_i32_2431
  let v2105 : BitVec 1 := Scalar.ori v2101 v2104
  let v2109 : BitVec 1 := Scalar.andi v2108 v2105
  let v3828 : BitVec 32 := Scalar.extui v2109
  let c0_i32_5090 : BitVec 32 := 0#32
  let v3829 : BitVec 1 := Scalar.cmpi .ne v3828 c0_i32_5090
  v3829

def k0_off366 (d0 : Dev nD) : Fin 2 → Nat :=
  let c4_i32_2437 : BitVec 32 := 4#32
  let c3_i32_2436 : BitVec 32 := 3#32
  let c0_i32_2435 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2434 : BitVec 32 := 0#32
  let v2110 : BitVec 32 := Scalar.subi v5 c0_i32_2434
  let v2111 : BitVec 32 := Scalar.maxsi c0_i32_2435 v2110
  let v2112 : BitVec 32 := Scalar.minsi c3_i32_2436 v2111
  let v2113 : BitVec 32 := Scalar.muli c4_i32_2437 v2112
  let c3_i32_2438 : BitVec 32 := 3#32
  let v2114 : BitVec 32 := Scalar.addi v2113 c3_i32_2438
  let c256_i32_2439 : BitVec 32 := 256#32
  let v2115 : BitVec 32 := Scalar.muli v2114 c256_i32_2439
  let c0_i32_5491 : BitVec 32 := 0#32
  ![v2115.toNat, 0]
def k0_cond372 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_2448 : BitVec 32 := 3#32
  let v2119 : BitVec 1 := Scalar.cmpi .sle v5 c3_i32_2448
  let c0_i32_2449 : BitVec 32 := 0#32
  let v2120 : BitVec 1 := Scalar.cmpi .sgt v5 c0_i32_2449
  let v2121 : BitVec 1 := Scalar.andi v2119 v2120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2426 : BitVec 32 := 1#32
  let v2099 : BitVec 32 := Scalar.subi v8 c1_i32_2426
  let c2_i32_2427 : BitVec 32 := 2#32
  let v2100 : BitVec 32 := Scalar.subi v2099 c2_i32_2427
  let c3_i32_2428 : BitVec 32 := 3#32
  let v2101 : BitVec 1 := Scalar.cmpi .eq v2100 c3_i32_2428
  let c1_i32_2429 : BitVec 32 := 1#32
  let v2102 : BitVec 32 := Scalar.addi v8 c1_i32_2429
  let c2_i32_2430 : BitVec 32 := 2#32
  let v2103 : BitVec 32 := Scalar.addi v2102 c2_i32_2430
  let c3_i32_2431 : BitVec 32 := 3#32
  let v2104 : BitVec 1 := Scalar.cmpi .eq v2103 c3_i32_2431
  let v2105 : BitVec 1 := Scalar.ori v2101 v2104
  let v2122 : BitVec 1 := Scalar.andi v2121 v2105
  let v3830 : BitVec 32 := Scalar.extui v2122
  let c0_i32_5097 : BitVec 32 := 0#32
  let v3831 : BitVec 1 := Scalar.cmpi .ne v3830 c0_i32_5097
  v3831

def k0_off367 (d0 : Dev nD) : Fin 2 → Nat :=
  let c4_i32_2453 : BitVec 32 := 4#32
  let c3_i32_2452 : BitVec 32 := 3#32
  let c0_i32_2451 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2450 : BitVec 32 := 0#32
  let v2123 : BitVec 32 := Scalar.addi v5 c0_i32_2450
  let v2124 : BitVec 32 := Scalar.maxsi c0_i32_2451 v2123
  let v2125 : BitVec 32 := Scalar.minsi c3_i32_2452 v2124
  let v2126 : BitVec 32 := Scalar.muli c4_i32_2453 v2125
  let c3_i32_2454 : BitVec 32 := 3#32
  let v2127 : BitVec 32 := Scalar.addi v2126 c3_i32_2454
  let c256_i32_2455 : BitVec 32 := 256#32
  let v2128 : BitVec 32 := Scalar.muli v2127 c256_i32_2455
  let c0_i32_5491 : BitVec 32 := 0#32
  ![v2128.toNat, 0]
def k0_cond373 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2470 : BitVec 32 := 0#32
  let v2139 : BitVec 1 := Scalar.cmpi .sge v8 c0_i32_2470
  let c3_i32_2471 : BitVec 32 := 3#32
  let v2140 : BitVec 1 := Scalar.cmpi .slt v8 c3_i32_2471
  let v2141 : BitVec 1 := Scalar.andi v2139 v2140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2464 : BitVec 32 := 1#32
  let v2132 : BitVec 32 := Scalar.subi v5 c1_i32_2464
  let c2_i32_2465 : BitVec 32 := 2#32
  let v2133 : BitVec 32 := Scalar.subi v2132 c2_i32_2465
  let c0_i32_2466 : BitVec 32 := 0#32
  let v2134 : BitVec 1 := Scalar.cmpi .eq v2133 c0_i32_2466
  let c1_i32_2467 : BitVec 32 := 1#32
  let v2135 : BitVec 32 := Scalar.addi v5 c1_i32_2467
  let c2_i32_2468 : BitVec 32 := 2#32
  let v2136 : BitVec 32 := Scalar.addi v2135 c2_i32_2468
  let c0_i32_2469 : BitVec 32 := 0#32
  let v2137 : BitVec 1 := Scalar.cmpi .eq v2136 c0_i32_2469
  let v2138 : BitVec 1 := Scalar.ori v2134 v2137
  let v2142 : BitVec 1 := Scalar.andi v2141 v2138
  let v3832 : BitVec 32 := Scalar.extui v2142
  let c0_i32_5104 : BitVec 32 := 0#32
  let v3833 : BitVec 1 := Scalar.cmpi .ne v3832 c0_i32_5104
  v3833

def k0_off368 (d0 : Dev nD) : Fin 2 → Nat :=
  let c0_i32_2475 : BitVec 32 := 0#32
  let c3_i32_2474 : BitVec 32 := 3#32
  let c0_i32_2473 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2472 : BitVec 32 := 0#32
  let v2143 : BitVec 32 := Scalar.subi v8 c0_i32_2472
  let v2144 : BitVec 32 := Scalar.maxsi c0_i32_2473 v2143
  let v2145 : BitVec 32 := Scalar.minsi c3_i32_2474 v2144
  let v2146 : BitVec 32 := Scalar.addi c0_i32_2475 v2145
  let c256_i32_2476 : BitVec 32 := 256#32
  let v2147 : BitVec 32 := Scalar.muli v2146 c256_i32_2476
  let c2048_i32 : BitVec 32 := 2048#32
  ![v2147.toNat, 2048]
def k0_cond374 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2485 : BitVec 32 := 3#32
  let v2151 : BitVec 1 := Scalar.cmpi .sle v8 c3_i32_2485
  let c0_i32_2486 : BitVec 32 := 0#32
  let v2152 : BitVec 1 := Scalar.cmpi .sgt v8 c0_i32_2486
  let v2153 : BitVec 1 := Scalar.andi v2151 v2152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2464 : BitVec 32 := 1#32
  let v2132 : BitVec 32 := Scalar.subi v5 c1_i32_2464
  let c2_i32_2465 : BitVec 32 := 2#32
  let v2133 : BitVec 32 := Scalar.subi v2132 c2_i32_2465
  let c0_i32_2466 : BitVec 32 := 0#32
  let v2134 : BitVec 1 := Scalar.cmpi .eq v2133 c0_i32_2466
  let c1_i32_2467 : BitVec 32 := 1#32
  let v2135 : BitVec 32 := Scalar.addi v5 c1_i32_2467
  let c2_i32_2468 : BitVec 32 := 2#32
  let v2136 : BitVec 32 := Scalar.addi v2135 c2_i32_2468
  let c0_i32_2469 : BitVec 32 := 0#32
  let v2137 : BitVec 1 := Scalar.cmpi .eq v2136 c0_i32_2469
  let v2138 : BitVec 1 := Scalar.ori v2134 v2137
  let v2154 : BitVec 1 := Scalar.andi v2153 v2138
  let v3834 : BitVec 32 := Scalar.extui v2154
  let c0_i32_5111 : BitVec 32 := 0#32
  let v3835 : BitVec 1 := Scalar.cmpi .ne v3834 c0_i32_5111
  v3835

def k0_off369 (d0 : Dev nD) : Fin 2 → Nat :=
  let c0_i32_2490 : BitVec 32 := 0#32
  let c3_i32_2489 : BitVec 32 := 3#32
  let c0_i32_2488 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2487 : BitVec 32 := 0#32
  let v2155 : BitVec 32 := Scalar.addi v8 c0_i32_2487
  let v2156 : BitVec 32 := Scalar.maxsi c0_i32_2488 v2155
  let v2157 : BitVec 32 := Scalar.minsi c3_i32_2489 v2156
  let v2158 : BitVec 32 := Scalar.addi c0_i32_2490 v2157
  let c256_i32_2491 : BitVec 32 := 256#32
  let v2159 : BitVec 32 := Scalar.muli v2158 c256_i32_2491
  let c2048_i32 : BitVec 32 := 2048#32
  ![v2159.toNat, 2048]
def k0_cond375 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2506 : BitVec 32 := 0#32
  let v2170 : BitVec 1 := Scalar.cmpi .sge v8 c0_i32_2506
  let c3_i32_2507 : BitVec 32 := 3#32
  let v2171 : BitVec 1 := Scalar.cmpi .slt v8 c3_i32_2507
  let v2172 : BitVec 1 := Scalar.andi v2170 v2171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2500 : BitVec 32 := 1#32
  let v2163 : BitVec 32 := Scalar.subi v5 c1_i32_2500
  let c2_i32_2501 : BitVec 32 := 2#32
  let v2164 : BitVec 32 := Scalar.subi v2163 c2_i32_2501
  let c1_i32_2502 : BitVec 32 := 1#32
  let v2165 : BitVec 1 := Scalar.cmpi .eq v2164 c1_i32_2502
  let c1_i32_2503 : BitVec 32 := 1#32
  let v2166 : BitVec 32 := Scalar.addi v5 c1_i32_2503
  let c2_i32_2504 : BitVec 32 := 2#32
  let v2167 : BitVec 32 := Scalar.addi v2166 c2_i32_2504
  let c1_i32_2505 : BitVec 32 := 1#32
  let v2168 : BitVec 1 := Scalar.cmpi .eq v2167 c1_i32_2505
  let v2169 : BitVec 1 := Scalar.ori v2165 v2168
  let v2173 : BitVec 1 := Scalar.andi v2172 v2169
  let v3836 : BitVec 32 := Scalar.extui v2173
  let c0_i32_5118 : BitVec 32 := 0#32
  let v3837 : BitVec 1 := Scalar.cmpi .ne v3836 c0_i32_5118
  v3837

def k0_off370 (d0 : Dev nD) : Fin 2 → Nat :=
  let c4_i32_2511 : BitVec 32 := 4#32
  let c3_i32_2510 : BitVec 32 := 3#32
  let c0_i32_2509 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2508 : BitVec 32 := 0#32
  let v2174 : BitVec 32 := Scalar.subi v8 c0_i32_2508
  let v2175 : BitVec 32 := Scalar.maxsi c0_i32_2509 v2174
  let v2176 : BitVec 32 := Scalar.minsi c3_i32_2510 v2175
  let v2177 : BitVec 32 := Scalar.addi c4_i32_2511 v2176
  let c256_i32_2512 : BitVec 32 := 256#32
  let v2178 : BitVec 32 := Scalar.muli v2177 c256_i32_2512
  let c2048_i32 : BitVec 32 := 2048#32
  ![v2178.toNat, 2048]
def k0_cond376 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2521 : BitVec 32 := 3#32
  let v2182 : BitVec 1 := Scalar.cmpi .sle v8 c3_i32_2521
  let c0_i32_2522 : BitVec 32 := 0#32
  let v2183 : BitVec 1 := Scalar.cmpi .sgt v8 c0_i32_2522
  let v2184 : BitVec 1 := Scalar.andi v2182 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2500 : BitVec 32 := 1#32
  let v2163 : BitVec 32 := Scalar.subi v5 c1_i32_2500
  let c2_i32_2501 : BitVec 32 := 2#32
  let v2164 : BitVec 32 := Scalar.subi v2163 c2_i32_2501
  let c1_i32_2502 : BitVec 32 := 1#32
  let v2165 : BitVec 1 := Scalar.cmpi .eq v2164 c1_i32_2502
  let c1_i32_2503 : BitVec 32 := 1#32
  let v2166 : BitVec 32 := Scalar.addi v5 c1_i32_2503
  let c2_i32_2504 : BitVec 32 := 2#32
  let v2167 : BitVec 32 := Scalar.addi v2166 c2_i32_2504
  let c1_i32_2505 : BitVec 32 := 1#32
  let v2168 : BitVec 1 := Scalar.cmpi .eq v2167 c1_i32_2505
  let v2169 : BitVec 1 := Scalar.ori v2165 v2168
  let v2185 : BitVec 1 := Scalar.andi v2184 v2169
  let v3838 : BitVec 32 := Scalar.extui v2185
  let c0_i32_5125 : BitVec 32 := 0#32
  let v3839 : BitVec 1 := Scalar.cmpi .ne v3838 c0_i32_5125
  v3839

def k0_off371 (d0 : Dev nD) : Fin 2 → Nat :=
  let c4_i32_2526 : BitVec 32 := 4#32
  let c3_i32_2525 : BitVec 32 := 3#32
  let c0_i32_2524 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2523 : BitVec 32 := 0#32
  let v2186 : BitVec 32 := Scalar.addi v8 c0_i32_2523
  let v2187 : BitVec 32 := Scalar.maxsi c0_i32_2524 v2186
  let v2188 : BitVec 32 := Scalar.minsi c3_i32_2525 v2187
  let v2189 : BitVec 32 := Scalar.addi c4_i32_2526 v2188
  let c256_i32_2527 : BitVec 32 := 256#32
  let v2190 : BitVec 32 := Scalar.muli v2189 c256_i32_2527
  let c2048_i32 : BitVec 32 := 2048#32
  ![v2190.toNat, 2048]
def k0_cond377 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2542 : BitVec 32 := 0#32
  let v2201 : BitVec 1 := Scalar.cmpi .sge v8 c0_i32_2542
  let c3_i32_2543 : BitVec 32 := 3#32
  let v2202 : BitVec 1 := Scalar.cmpi .slt v8 c3_i32_2543
  let v2203 : BitVec 1 := Scalar.andi v2201 v2202
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2536 : BitVec 32 := 1#32
  let v2194 : BitVec 32 := Scalar.subi v5 c1_i32_2536
  let c2_i32_2537 : BitVec 32 := 2#32
  let v2195 : BitVec 32 := Scalar.subi v2194 c2_i32_2537
  let c2_i32_2538 : BitVec 32 := 2#32
  let v2196 : BitVec 1 := Scalar.cmpi .eq v2195 c2_i32_2538
  let c1_i32_2539 : BitVec 32 := 1#32
  let v2197 : BitVec 32 := Scalar.addi v5 c1_i32_2539
  let c2_i32_2540 : BitVec 32 := 2#32
  let v2198 : BitVec 32 := Scalar.addi v2197 c2_i32_2540
  let c2_i32_2541 : BitVec 32 := 2#32
  let v2199 : BitVec 1 := Scalar.cmpi .eq v2198 c2_i32_2541
  let v2200 : BitVec 1 := Scalar.ori v2196 v2199
  let v2204 : BitVec 1 := Scalar.andi v2203 v2200
  let v3840 : BitVec 32 := Scalar.extui v2204
  let c0_i32_5132 : BitVec 32 := 0#32
  let v3841 : BitVec 1 := Scalar.cmpi .ne v3840 c0_i32_5132
  v3841

def k0_off372 (d0 : Dev nD) : Fin 2 → Nat :=
  let c8_i32_2547 : BitVec 32 := 8#32
  let c3_i32_2546 : BitVec 32 := 3#32
  let c0_i32_2545 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2544 : BitVec 32 := 0#32
  let v2205 : BitVec 32 := Scalar.subi v8 c0_i32_2544
  let v2206 : BitVec 32 := Scalar.maxsi c0_i32_2545 v2205
  let v2207 : BitVec 32 := Scalar.minsi c3_i32_2546 v2206
  let v2208 : BitVec 32 := Scalar.addi c8_i32_2547 v2207
  let c256_i32_2548 : BitVec 32 := 256#32
  let v2209 : BitVec 32 := Scalar.muli v2208 c256_i32_2548
  let c2048_i32 : BitVec 32 := 2048#32
  ![v2209.toNat, 2048]
def k0_cond378 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2557 : BitVec 32 := 3#32
  let v2213 : BitVec 1 := Scalar.cmpi .sle v8 c3_i32_2557
  let c0_i32_2558 : BitVec 32 := 0#32
  let v2214 : BitVec 1 := Scalar.cmpi .sgt v8 c0_i32_2558
  let v2215 : BitVec 1 := Scalar.andi v2213 v2214
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2536 : BitVec 32 := 1#32
  let v2194 : BitVec 32 := Scalar.subi v5 c1_i32_2536
  let c2_i32_2537 : BitVec 32 := 2#32
  let v2195 : BitVec 32 := Scalar.subi v2194 c2_i32_2537
  let c2_i32_2538 : BitVec 32 := 2#32
  let v2196 : BitVec 1 := Scalar.cmpi .eq v2195 c2_i32_2538
  let c1_i32_2539 : BitVec 32 := 1#32
  let v2197 : BitVec 32 := Scalar.addi v5 c1_i32_2539
  let c2_i32_2540 : BitVec 32 := 2#32
  let v2198 : BitVec 32 := Scalar.addi v2197 c2_i32_2540
  let c2_i32_2541 : BitVec 32 := 2#32
  let v2199 : BitVec 1 := Scalar.cmpi .eq v2198 c2_i32_2541
  let v2200 : BitVec 1 := Scalar.ori v2196 v2199
  let v2216 : BitVec 1 := Scalar.andi v2215 v2200
  let v3842 : BitVec 32 := Scalar.extui v2216
  let c0_i32_5139 : BitVec 32 := 0#32
  let v3843 : BitVec 1 := Scalar.cmpi .ne v3842 c0_i32_5139
  v3843

def k0_off373 (d0 : Dev nD) : Fin 2 → Nat :=
  let c8_i32_2562 : BitVec 32 := 8#32
  let c3_i32_2561 : BitVec 32 := 3#32
  let c0_i32_2560 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2559 : BitVec 32 := 0#32
  let v2217 : BitVec 32 := Scalar.addi v8 c0_i32_2559
  let v2218 : BitVec 32 := Scalar.maxsi c0_i32_2560 v2217
  let v2219 : BitVec 32 := Scalar.minsi c3_i32_2561 v2218
  let v2220 : BitVec 32 := Scalar.addi c8_i32_2562 v2219
  let c256_i32_2563 : BitVec 32 := 256#32
  let v2221 : BitVec 32 := Scalar.muli v2220 c256_i32_2563
  let c2048_i32 : BitVec 32 := 2048#32
  ![v2221.toNat, 2048]
def k0_cond379 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2578 : BitVec 32 := 0#32
  let v2232 : BitVec 1 := Scalar.cmpi .sge v8 c0_i32_2578
  let c3_i32_2579 : BitVec 32 := 3#32
  let v2233 : BitVec 1 := Scalar.cmpi .slt v8 c3_i32_2579
  let v2234 : BitVec 1 := Scalar.andi v2232 v2233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2572 : BitVec 32 := 1#32
  let v2225 : BitVec 32 := Scalar.subi v5 c1_i32_2572
  let c2_i32_2573 : BitVec 32 := 2#32
  let v2226 : BitVec 32 := Scalar.subi v2225 c2_i32_2573
  let c3_i32_2574 : BitVec 32 := 3#32
  let v2227 : BitVec 1 := Scalar.cmpi .eq v2226 c3_i32_2574
  let c1_i32_2575 : BitVec 32 := 1#32
  let v2228 : BitVec 32 := Scalar.addi v5 c1_i32_2575
  let c2_i32_2576 : BitVec 32 := 2#32
  let v2229 : BitVec 32 := Scalar.addi v2228 c2_i32_2576
  let c3_i32_2577 : BitVec 32 := 3#32
  let v2230 : BitVec 1 := Scalar.cmpi .eq v2229 c3_i32_2577
  let v2231 : BitVec 1 := Scalar.ori v2227 v2230
  let v2235 : BitVec 1 := Scalar.andi v2234 v2231
  let v3844 : BitVec 32 := Scalar.extui v2235
  let c0_i32_5146 : BitVec 32 := 0#32
  let v3845 : BitVec 1 := Scalar.cmpi .ne v3844 c0_i32_5146
  v3845

def k0_off374 (d0 : Dev nD) : Fin 2 → Nat :=
  let c12_i32_2583 : BitVec 32 := 12#32
  let c3_i32_2582 : BitVec 32 := 3#32
  let c0_i32_2581 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2580 : BitVec 32 := 0#32
  let v2236 : BitVec 32 := Scalar.subi v8 c0_i32_2580
  let v2237 : BitVec 32 := Scalar.maxsi c0_i32_2581 v2236
  let v2238 : BitVec 32 := Scalar.minsi c3_i32_2582 v2237
  let v2239 : BitVec 32 := Scalar.addi c12_i32_2583 v2238
  let c256_i32_2584 : BitVec 32 := 256#32
  let v2240 : BitVec 32 := Scalar.muli v2239 c256_i32_2584
  let c2048_i32 : BitVec 32 := 2048#32
  ![v2240.toNat, 2048]
def k0_cond380 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_2593 : BitVec 32 := 3#32
  let v2244 : BitVec 1 := Scalar.cmpi .sle v8 c3_i32_2593
  let c0_i32_2594 : BitVec 32 := 0#32
  let v2245 : BitVec 1 := Scalar.cmpi .sgt v8 c0_i32_2594
  let v2246 : BitVec 1 := Scalar.andi v2244 v2245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2572 : BitVec 32 := 1#32
  let v2225 : BitVec 32 := Scalar.subi v5 c1_i32_2572
  let c2_i32_2573 : BitVec 32 := 2#32
  let v2226 : BitVec 32 := Scalar.subi v2225 c2_i32_2573
  let c3_i32_2574 : BitVec 32 := 3#32
  let v2227 : BitVec 1 := Scalar.cmpi .eq v2226 c3_i32_2574
  let c1_i32_2575 : BitVec 32 := 1#32
  let v2228 : BitVec 32 := Scalar.addi v5 c1_i32_2575
  let c2_i32_2576 : BitVec 32 := 2#32
  let v2229 : BitVec 32 := Scalar.addi v2228 c2_i32_2576
  let c3_i32_2577 : BitVec 32 := 3#32
  let v2230 : BitVec 1 := Scalar.cmpi .eq v2229 c3_i32_2577
  let v2231 : BitVec 1 := Scalar.ori v2227 v2230
  let v2247 : BitVec 1 := Scalar.andi v2246 v2231
  let v3846 : BitVec 32 := Scalar.extui v2247
  let c0_i32_5153 : BitVec 32 := 0#32
  let v3847 : BitVec 1 := Scalar.cmpi .ne v3846 c0_i32_5153
  v3847

def k0_off375 (d0 : Dev nD) : Fin 2 → Nat :=
  let c12_i32_2598 : BitVec 32 := 12#32
  let c3_i32_2597 : BitVec 32 := 3#32
  let c0_i32_2596 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2595 : BitVec 32 := 0#32
  let v2248 : BitVec 32 := Scalar.addi v8 c0_i32_2595
  let v2249 : BitVec 32 := Scalar.maxsi c0_i32_2596 v2248
  let v2250 : BitVec 32 := Scalar.minsi c3_i32_2597 v2249
  let v2251 : BitVec 32 := Scalar.addi c12_i32_2598 v2250
  let c256_i32_2599 : BitVec 32 := 256#32
  let v2252 : BitVec 32 := Scalar.muli v2251 c256_i32_2599
  let c2048_i32 : BitVec 32 := 2048#32
  ![v2252.toNat, 2048]
def k0_cond381 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2644 : BitVec 32 := 1#32
  let v2285 : BitVec 1 := Scalar.cmpi .sge v5 c1_i32_2644
  let c3_i32_2645 : BitVec 32 := 3#32
  let v2286 : BitVec 1 := Scalar.cmpi .slt v5 c3_i32_2645
  let v2287 : BitVec 1 := Scalar.andi v2285 v2286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2608 : BitVec 32 := 2#32
  let v2256 : BitVec 32 := Scalar.subi v8 c2_i32_2608
  let c0_i32_2609 : BitVec 32 := 0#32
  let v2257 : BitVec 1 := Scalar.cmpi .eq v2256 c0_i32_2609
  let c2_i32_2610 : BitVec 32 := 2#32
  let v2258 : BitVec 32 := Scalar.addi v8 c2_i32_2610
  let c0_i32_2611 : BitVec 32 := 0#32
  let v2259 : BitVec 1 := Scalar.cmpi .eq v2258 c0_i32_2611
  let v2260 : BitVec 1 := Scalar.ori v2257 v2259
  let v2288 : BitVec 1 := Scalar.andi v2287 v2260
  let v3848 : BitVec 32 := Scalar.extui v2288
  let c0_i32_5160 : BitVec 32 := 0#32
  let v3849 : BitVec 1 := Scalar.cmpi .ne v3848 c0_i32_5160
  v3849

def k0_off376 (d0 : Dev nD) : Fin 2 → Nat :=
  let c4_i32_2649 : BitVec 32 := 4#32
  let c3_i32_2648 : BitVec 32 := 3#32
  let c0_i32_2647 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2646 : BitVec 32 := 1#32
  let v2289 : BitVec 32 := Scalar.subi v5 c1_i32_2646
  let v2290 : BitVec 32 := Scalar.maxsi c0_i32_2647 v2289
  let v2291 : BitVec 32 := Scalar.minsi c3_i32_2648 v2290
  let v2292 : BitVec 32 := Scalar.muli c4_i32_2649 v2291
  let c0_i32_2650 : BitVec 32 := 0#32
  let v2293 : BitVec 32 := Scalar.addi v2292 c0_i32_2650
  let c256_i32_2651 : BitVec 32 := 256#32
  let v2294 : BitVec 32 := Scalar.muli v2293 c256_i32_2651
  let c0_i32_5491 : BitVec 32 := 0#32
  ![v2294.toNat, 0]
def k0_cond382 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2660 : BitVec 32 := 2#32
  let v2298 : BitVec 1 := Scalar.cmpi .sle v5 c2_i32_2660
  let c0_i32_2661 : BitVec 32 := 0#32
  let v2299 : BitVec 1 := Scalar.cmpi .sgt v5 c0_i32_2661
  let v2300 : BitVec 1 := Scalar.andi v2298 v2299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2608 : BitVec 32 := 2#32
  let v2256 : BitVec 32 := Scalar.subi v8 c2_i32_2608
  let c0_i32_2609 : BitVec 32 := 0#32
  let v2257 : BitVec 1 := Scalar.cmpi .eq v2256 c0_i32_2609
  let c2_i32_2610 : BitVec 32 := 2#32
  let v2258 : BitVec 32 := Scalar.addi v8 c2_i32_2610
  let c0_i32_2611 : BitVec 32 := 0#32
  let v2259 : BitVec 1 := Scalar.cmpi .eq v2258 c0_i32_2611
  let v2260 : BitVec 1 := Scalar.ori v2257 v2259
  let v2301 : BitVec 1 := Scalar.andi v2300 v2260
  let v3850 : BitVec 32 := Scalar.extui v2301
  let c0_i32_5167 : BitVec 32 := 0#32
  let v3851 : BitVec 1 := Scalar.cmpi .ne v3850 c0_i32_5167
  v3851

def k0_off377 (d0 : Dev nD) : Fin 2 → Nat :=
  let c4_i32_2665 : BitVec 32 := 4#32
  let c3_i32_2664 : BitVec 32 := 3#32
  let c0_i32_2663 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2662 : BitVec 32 := 1#32
  let v2302 : BitVec 32 := Scalar.addi v5 c1_i32_2662
  let v2303 : BitVec 32 := Scalar.maxsi c0_i32_2663 v2302
  let v2304 : BitVec 32 := Scalar.minsi c3_i32_2664 v2303
  let v2305 : BitVec 32 := Scalar.muli c4_i32_2665 v2304
  let c0_i32_2666 : BitVec 32 := 0#32
  let v2306 : BitVec 32 := Scalar.addi v2305 c0_i32_2666
  let c256_i32_2667 : BitVec 32 := 256#32
  let v2307 : BitVec 32 := Scalar.muli v2306 c256_i32_2667
  let c0_i32_5491 : BitVec 32 := 0#32
  ![v2307.toNat, 0]
def k0_cond383 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2710 : BitVec 32 := 1#32
  let v2338 : BitVec 1 := Scalar.cmpi .sge v8 c1_i32_2710
  let c3_i32_2711 : BitVec 32 := 3#32
  let v2339 : BitVec 1 := Scalar.cmpi .slt v8 c3_i32_2711
  let v2340 : BitVec 1 := Scalar.andi v2338 v2339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2676 : BitVec 32 := 2#32
  let v2311 : BitVec 32 := Scalar.subi v5 c2_i32_2676
  let c0_i32_2677 : BitVec 32 := 0#32
  let v2312 : BitVec 1 := Scalar.cmpi .eq v2311 c0_i32_2677
  let c2_i32_2678 : BitVec 32 := 2#32
  let v2313 : BitVec 32 := Scalar.addi v5 c2_i32_2678
  let c0_i32_2679 : BitVec 32 := 0#32
  let v2314 : BitVec 1 := Scalar.cmpi .eq v2313 c0_i32_2679
  let v2315 : BitVec 1 := Scalar.ori v2312 v2314
  let v2341 : BitVec 1 := Scalar.andi v2340 v2315
  let v3852 : BitVec 32 := Scalar.extui v2341
  let c0_i32_5174 : BitVec 32 := 0#32
  let v3853 : BitVec 1 := Scalar.cmpi .ne v3852 c0_i32_5174
  v3853

def k0_off378 (d0 : Dev nD) : Fin 2 → Nat :=
  let c0_i32_2715 : BitVec 32 := 0#32
  let c3_i32_2714 : BitVec 32 := 3#32
  let c0_i32_2713 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2712 : BitVec 32 := 1#32
  let v2342 : BitVec 32 := Scalar.subi v8 c1_i32_2712
  let v2343 : BitVec 32 := Scalar.maxsi c0_i32_2713 v2342
  let v2344 : BitVec 32 := Scalar.minsi c3_i32_2714 v2343
  let v2345 : BitVec 32 := Scalar.addi c0_i32_2715 v2344
  let c256_i32_2716 : BitVec 32 := 256#32
  let v2346 : BitVec 32 := Scalar.muli v2345 c256_i32_2716
  let c2048_i32 : BitVec 32 := 2048#32
  ![v2346.toNat, 2048]
def k0_cond384 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2725 : BitVec 32 := 2#32
  let v2350 : BitVec 1 := Scalar.cmpi .sle v8 c2_i32_2725
  let c0_i32_2726 : BitVec 32 := 0#32
  let v2351 : BitVec 1 := Scalar.cmpi .sgt v8 c0_i32_2726
  let v2352 : BitVec 1 := Scalar.andi v2350 v2351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2676 : BitVec 32 := 2#32
  let v2311 : BitVec 32 := Scalar.subi v5 c2_i32_2676
  let c0_i32_2677 : BitVec 32 := 0#32
  let v2312 : BitVec 1 := Scalar.cmpi .eq v2311 c0_i32_2677
  let c2_i32_2678 : BitVec 32 := 2#32
  let v2313 : BitVec 32 := Scalar.addi v5 c2_i32_2678
  let c0_i32_2679 : BitVec 32 := 0#32
  let v2314 : BitVec 1 := Scalar.cmpi .eq v2313 c0_i32_2679
  let v2315 : BitVec 1 := Scalar.ori v2312 v2314
  let v2353 : BitVec 1 := Scalar.andi v2352 v2315
  let v3854 : BitVec 32 := Scalar.extui v2353
  let c0_i32_5181 : BitVec 32 := 0#32
  let v3855 : BitVec 1 := Scalar.cmpi .ne v3854 c0_i32_5181
  v3855

def k0_off379 (d0 : Dev nD) : Fin 2 → Nat :=
  let c0_i32_2730 : BitVec 32 := 0#32
  let c3_i32_2729 : BitVec 32 := 3#32
  let c0_i32_2728 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2727 : BitVec 32 := 1#32
  let v2354 : BitVec 32 := Scalar.addi v8 c1_i32_2727
  let v2355 : BitVec 32 := Scalar.maxsi c0_i32_2728 v2354
  let v2356 : BitVec 32 := Scalar.minsi c3_i32_2729 v2355
  let v2357 : BitVec 32 := Scalar.addi c0_i32_2730 v2356
  let c256_i32_2731 : BitVec 32 := 256#32
  let v2358 : BitVec 32 := Scalar.muli v2357 c256_i32_2731
  let c2048_i32 : BitVec 32 := 2048#32
  ![v2358.toNat, 2048]
def k0_cond385 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2776 : BitVec 32 := 1#32
  let v2391 : BitVec 1 := Scalar.cmpi .sge v5 c1_i32_2776
  let c3_i32_2777 : BitVec 32 := 3#32
  let v2392 : BitVec 1 := Scalar.cmpi .slt v5 c3_i32_2777
  let v2393 : BitVec 1 := Scalar.andi v2391 v2392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2740 : BitVec 32 := 2#32
  let v2362 : BitVec 32 := Scalar.subi v8 c2_i32_2740
  let c1_i32_2741 : BitVec 32 := 1#32
  let v2363 : BitVec 1 := Scalar.cmpi .eq v2362 c1_i32_2741
  let c2_i32_2742 : BitVec 32 := 2#32
  let v2364 : BitVec 32 := Scalar.addi v8 c2_i32_2742
  let c1_i32_2743 : BitVec 32 := 1#32
  let v2365 : BitVec 1 := Scalar.cmpi .eq v2364 c1_i32_2743
  let v2366 : BitVec 1 := Scalar.ori v2363 v2365
  let v2394 : BitVec 1 := Scalar.andi v2393 v2366
  let v3856 : BitVec 32 := Scalar.extui v2394
  let c0_i32_5188 : BitVec 32 := 0#32
  let v3857 : BitVec 1 := Scalar.cmpi .ne v3856 c0_i32_5188
  v3857

def k0_off380 (d0 : Dev nD) : Fin 2 → Nat :=
  let c4_i32_2781 : BitVec 32 := 4#32
  let c3_i32_2780 : BitVec 32 := 3#32
  let c0_i32_2779 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2778 : BitVec 32 := 1#32
  let v2395 : BitVec 32 := Scalar.subi v5 c1_i32_2778
  let v2396 : BitVec 32 := Scalar.maxsi c0_i32_2779 v2395
  let v2397 : BitVec 32 := Scalar.minsi c3_i32_2780 v2396
  let v2398 : BitVec 32 := Scalar.muli c4_i32_2781 v2397
  let c1_i32_2782 : BitVec 32 := 1#32
  let v2399 : BitVec 32 := Scalar.addi v2398 c1_i32_2782
  let c256_i32_2783 : BitVec 32 := 256#32
  let v2400 : BitVec 32 := Scalar.muli v2399 c256_i32_2783
  let c0_i32_5491 : BitVec 32 := 0#32
  ![v2400.toNat, 0]
def k0_cond386 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2792 : BitVec 32 := 2#32
  let v2404 : BitVec 1 := Scalar.cmpi .sle v5 c2_i32_2792
  let c0_i32_2793 : BitVec 32 := 0#32
  let v2405 : BitVec 1 := Scalar.cmpi .sgt v5 c0_i32_2793
  let v2406 : BitVec 1 := Scalar.andi v2404 v2405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2740 : BitVec 32 := 2#32
  let v2362 : BitVec 32 := Scalar.subi v8 c2_i32_2740
  let c1_i32_2741 : BitVec 32 := 1#32
  let v2363 : BitVec 1 := Scalar.cmpi .eq v2362 c1_i32_2741
  let c2_i32_2742 : BitVec 32 := 2#32
  let v2364 : BitVec 32 := Scalar.addi v8 c2_i32_2742
  let c1_i32_2743 : BitVec 32 := 1#32
  let v2365 : BitVec 1 := Scalar.cmpi .eq v2364 c1_i32_2743
  let v2366 : BitVec 1 := Scalar.ori v2363 v2365
  let v2407 : BitVec 1 := Scalar.andi v2406 v2366
  let v3858 : BitVec 32 := Scalar.extui v2407
  let c0_i32_5195 : BitVec 32 := 0#32
  let v3859 : BitVec 1 := Scalar.cmpi .ne v3858 c0_i32_5195
  v3859

def k0_off381 (d0 : Dev nD) : Fin 2 → Nat :=
  let c4_i32_2797 : BitVec 32 := 4#32
  let c3_i32_2796 : BitVec 32 := 3#32
  let c0_i32_2795 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2794 : BitVec 32 := 1#32
  let v2408 : BitVec 32 := Scalar.addi v5 c1_i32_2794
  let v2409 : BitVec 32 := Scalar.maxsi c0_i32_2795 v2408
  let v2410 : BitVec 32 := Scalar.minsi c3_i32_2796 v2409
  let v2411 : BitVec 32 := Scalar.muli c4_i32_2797 v2410
  let c1_i32_2798 : BitVec 32 := 1#32
  let v2412 : BitVec 32 := Scalar.addi v2411 c1_i32_2798
  let c256_i32_2799 : BitVec 32 := 256#32
  let v2413 : BitVec 32 := Scalar.muli v2412 c256_i32_2799
  let c0_i32_5491 : BitVec 32 := 0#32
  ![v2413.toNat, 0]
def k0_cond387 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2842 : BitVec 32 := 1#32
  let v2444 : BitVec 1 := Scalar.cmpi .sge v8 c1_i32_2842
  let c3_i32_2843 : BitVec 32 := 3#32
  let v2445 : BitVec 1 := Scalar.cmpi .slt v8 c3_i32_2843
  let v2446 : BitVec 1 := Scalar.andi v2444 v2445
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2808 : BitVec 32 := 2#32
  let v2417 : BitVec 32 := Scalar.subi v5 c2_i32_2808
  let c1_i32_2809 : BitVec 32 := 1#32
  let v2418 : BitVec 1 := Scalar.cmpi .eq v2417 c1_i32_2809
  let c2_i32_2810 : BitVec 32 := 2#32
  let v2419 : BitVec 32 := Scalar.addi v5 c2_i32_2810
  let c1_i32_2811 : BitVec 32 := 1#32
  let v2420 : BitVec 1 := Scalar.cmpi .eq v2419 c1_i32_2811
  let v2421 : BitVec 1 := Scalar.ori v2418 v2420
  let v2447 : BitVec 1 := Scalar.andi v2446 v2421
  let v3860 : BitVec 32 := Scalar.extui v2447
  let c0_i32_5202 : BitVec 32 := 0#32
  let v3861 : BitVec 1 := Scalar.cmpi .ne v3860 c0_i32_5202
  v3861

def k0_off382 (d0 : Dev nD) : Fin 2 → Nat :=
  let c4_i32_2847 : BitVec 32 := 4#32
  let c3_i32_2846 : BitVec 32 := 3#32
  let c0_i32_2845 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2844 : BitVec 32 := 1#32
  let v2448 : BitVec 32 := Scalar.subi v8 c1_i32_2844
  let v2449 : BitVec 32 := Scalar.maxsi c0_i32_2845 v2448
  let v2450 : BitVec 32 := Scalar.minsi c3_i32_2846 v2449
  let v2451 : BitVec 32 := Scalar.addi c4_i32_2847 v2450
  let c256_i32_2848 : BitVec 32 := 256#32
  let v2452 : BitVec 32 := Scalar.muli v2451 c256_i32_2848
  let c2048_i32 : BitVec 32 := 2048#32
  ![v2452.toNat, 2048]
def k0_cond388 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2857 : BitVec 32 := 2#32
  let v2456 : BitVec 1 := Scalar.cmpi .sle v8 c2_i32_2857
  let c0_i32_2858 : BitVec 32 := 0#32
  let v2457 : BitVec 1 := Scalar.cmpi .sgt v8 c0_i32_2858
  let v2458 : BitVec 1 := Scalar.andi v2456 v2457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2808 : BitVec 32 := 2#32
  let v2417 : BitVec 32 := Scalar.subi v5 c2_i32_2808
  let c1_i32_2809 : BitVec 32 := 1#32
  let v2418 : BitVec 1 := Scalar.cmpi .eq v2417 c1_i32_2809
  let c2_i32_2810 : BitVec 32 := 2#32
  let v2419 : BitVec 32 := Scalar.addi v5 c2_i32_2810
  let c1_i32_2811 : BitVec 32 := 1#32
  let v2420 : BitVec 1 := Scalar.cmpi .eq v2419 c1_i32_2811
  let v2421 : BitVec 1 := Scalar.ori v2418 v2420
  let v2459 : BitVec 1 := Scalar.andi v2458 v2421
  let v3862 : BitVec 32 := Scalar.extui v2459
  let c0_i32_5209 : BitVec 32 := 0#32
  let v3863 : BitVec 1 := Scalar.cmpi .ne v3862 c0_i32_5209
  v3863

def k0_off383 (d0 : Dev nD) : Fin 2 → Nat :=
  let c4_i32_2862 : BitVec 32 := 4#32
  let c3_i32_2861 : BitVec 32 := 3#32
  let c0_i32_2860 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2859 : BitVec 32 := 1#32
  let v2460 : BitVec 32 := Scalar.addi v8 c1_i32_2859
  let v2461 : BitVec 32 := Scalar.maxsi c0_i32_2860 v2460
  let v2462 : BitVec 32 := Scalar.minsi c3_i32_2861 v2461
  let v2463 : BitVec 32 := Scalar.addi c4_i32_2862 v2462
  let c256_i32_2863 : BitVec 32 := 256#32
  let v2464 : BitVec 32 := Scalar.muli v2463 c256_i32_2863
  let c2048_i32 : BitVec 32 := 2048#32
  ![v2464.toNat, 2048]
def k0_cond389 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2908 : BitVec 32 := 1#32
  let v2497 : BitVec 1 := Scalar.cmpi .sge v5 c1_i32_2908
  let c3_i32_2909 : BitVec 32 := 3#32
  let v2498 : BitVec 1 := Scalar.cmpi .slt v5 c3_i32_2909
  let v2499 : BitVec 1 := Scalar.andi v2497 v2498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2872 : BitVec 32 := 2#32
  let v2468 : BitVec 32 := Scalar.subi v8 c2_i32_2872
  let c2_i32_2873 : BitVec 32 := 2#32
  let v2469 : BitVec 1 := Scalar.cmpi .eq v2468 c2_i32_2873
  let c2_i32_2874 : BitVec 32 := 2#32
  let v2470 : BitVec 32 := Scalar.addi v8 c2_i32_2874
  let c2_i32_2875 : BitVec 32 := 2#32
  let v2471 : BitVec 1 := Scalar.cmpi .eq v2470 c2_i32_2875
  let v2472 : BitVec 1 := Scalar.ori v2469 v2471
  let v2500 : BitVec 1 := Scalar.andi v2499 v2472
  let v3864 : BitVec 32 := Scalar.extui v2500
  let c0_i32_5216 : BitVec 32 := 0#32
  let v3865 : BitVec 1 := Scalar.cmpi .ne v3864 c0_i32_5216
  v3865

def k0_off384 (d0 : Dev nD) : Fin 2 → Nat :=
  let c4_i32_2913 : BitVec 32 := 4#32
  let c3_i32_2912 : BitVec 32 := 3#32
  let c0_i32_2911 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2910 : BitVec 32 := 1#32
  let v2501 : BitVec 32 := Scalar.subi v5 c1_i32_2910
  let v2502 : BitVec 32 := Scalar.maxsi c0_i32_2911 v2501
  let v2503 : BitVec 32 := Scalar.minsi c3_i32_2912 v2502
  let v2504 : BitVec 32 := Scalar.muli c4_i32_2913 v2503
  let c2_i32_2914 : BitVec 32 := 2#32
  let v2505 : BitVec 32 := Scalar.addi v2504 c2_i32_2914
  let c256_i32_2915 : BitVec 32 := 256#32
  let v2506 : BitVec 32 := Scalar.muli v2505 c256_i32_2915
  let c0_i32_5491 : BitVec 32 := 0#32
  ![v2506.toNat, 0]
def k0_cond390 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2924 : BitVec 32 := 2#32
  let v2510 : BitVec 1 := Scalar.cmpi .sle v5 c2_i32_2924
  let c0_i32_2925 : BitVec 32 := 0#32
  let v2511 : BitVec 1 := Scalar.cmpi .sgt v5 c0_i32_2925
  let v2512 : BitVec 1 := Scalar.andi v2510 v2511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2872 : BitVec 32 := 2#32
  let v2468 : BitVec 32 := Scalar.subi v8 c2_i32_2872
  let c2_i32_2873 : BitVec 32 := 2#32
  let v2469 : BitVec 1 := Scalar.cmpi .eq v2468 c2_i32_2873
  let c2_i32_2874 : BitVec 32 := 2#32
  let v2470 : BitVec 32 := Scalar.addi v8 c2_i32_2874
  let c2_i32_2875 : BitVec 32 := 2#32
  let v2471 : BitVec 1 := Scalar.cmpi .eq v2470 c2_i32_2875
  let v2472 : BitVec 1 := Scalar.ori v2469 v2471
  let v2513 : BitVec 1 := Scalar.andi v2512 v2472
  let v3866 : BitVec 32 := Scalar.extui v2513
  let c0_i32_5223 : BitVec 32 := 0#32
  let v3867 : BitVec 1 := Scalar.cmpi .ne v3866 c0_i32_5223
  v3867

def k0_off385 (d0 : Dev nD) : Fin 2 → Nat :=
  let c4_i32_2929 : BitVec 32 := 4#32
  let c3_i32_2928 : BitVec 32 := 3#32
  let c0_i32_2927 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2926 : BitVec 32 := 1#32
  let v2514 : BitVec 32 := Scalar.addi v5 c1_i32_2926
  let v2515 : BitVec 32 := Scalar.maxsi c0_i32_2927 v2514
  let v2516 : BitVec 32 := Scalar.minsi c3_i32_2928 v2515
  let v2517 : BitVec 32 := Scalar.muli c4_i32_2929 v2516
  let c2_i32_2930 : BitVec 32 := 2#32
  let v2518 : BitVec 32 := Scalar.addi v2517 c2_i32_2930
  let c256_i32_2931 : BitVec 32 := 256#32
  let v2519 : BitVec 32 := Scalar.muli v2518 c256_i32_2931
  let c0_i32_5491 : BitVec 32 := 0#32
  ![v2519.toNat, 0]
def k0_cond391 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2974 : BitVec 32 := 1#32
  let v2550 : BitVec 1 := Scalar.cmpi .sge v8 c1_i32_2974
  let c3_i32_2975 : BitVec 32 := 3#32
  let v2551 : BitVec 1 := Scalar.cmpi .slt v8 c3_i32_2975
  let v2552 : BitVec 1 := Scalar.andi v2550 v2551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2940 : BitVec 32 := 2#32
  let v2523 : BitVec 32 := Scalar.subi v5 c2_i32_2940
  let c2_i32_2941 : BitVec 32 := 2#32
  let v2524 : BitVec 1 := Scalar.cmpi .eq v2523 c2_i32_2941
  let c2_i32_2942 : BitVec 32 := 2#32
  let v2525 : BitVec 32 := Scalar.addi v5 c2_i32_2942
  let c2_i32_2943 : BitVec 32 := 2#32
  let v2526 : BitVec 1 := Scalar.cmpi .eq v2525 c2_i32_2943
  let v2527 : BitVec 1 := Scalar.ori v2524 v2526
  let v2553 : BitVec 1 := Scalar.andi v2552 v2527
  let v3868 : BitVec 32 := Scalar.extui v2553
  let c0_i32_5230 : BitVec 32 := 0#32
  let v3869 : BitVec 1 := Scalar.cmpi .ne v3868 c0_i32_5230
  v3869

def k0_off386 (d0 : Dev nD) : Fin 2 → Nat :=
  let c8_i32_2979 : BitVec 32 := 8#32
  let c3_i32_2978 : BitVec 32 := 3#32
  let c0_i32_2977 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2976 : BitVec 32 := 1#32
  let v2554 : BitVec 32 := Scalar.subi v8 c1_i32_2976
  let v2555 : BitVec 32 := Scalar.maxsi c0_i32_2977 v2554
  let v2556 : BitVec 32 := Scalar.minsi c3_i32_2978 v2555
  let v2557 : BitVec 32 := Scalar.addi c8_i32_2979 v2556
  let c256_i32_2980 : BitVec 32 := 256#32
  let v2558 : BitVec 32 := Scalar.muli v2557 c256_i32_2980
  let c2048_i32 : BitVec 32 := 2048#32
  ![v2558.toNat, 2048]
def k0_cond392 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2989 : BitVec 32 := 2#32
  let v2562 : BitVec 1 := Scalar.cmpi .sle v8 c2_i32_2989
  let c0_i32_2990 : BitVec 32 := 0#32
  let v2563 : BitVec 1 := Scalar.cmpi .sgt v8 c0_i32_2990
  let v2564 : BitVec 1 := Scalar.andi v2562 v2563
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2940 : BitVec 32 := 2#32
  let v2523 : BitVec 32 := Scalar.subi v5 c2_i32_2940
  let c2_i32_2941 : BitVec 32 := 2#32
  let v2524 : BitVec 1 := Scalar.cmpi .eq v2523 c2_i32_2941
  let c2_i32_2942 : BitVec 32 := 2#32
  let v2525 : BitVec 32 := Scalar.addi v5 c2_i32_2942
  let c2_i32_2943 : BitVec 32 := 2#32
  let v2526 : BitVec 1 := Scalar.cmpi .eq v2525 c2_i32_2943
  let v2527 : BitVec 1 := Scalar.ori v2524 v2526
  let v2565 : BitVec 1 := Scalar.andi v2564 v2527
  let v3870 : BitVec 32 := Scalar.extui v2565
  let c0_i32_5237 : BitVec 32 := 0#32
  let v3871 : BitVec 1 := Scalar.cmpi .ne v3870 c0_i32_5237
  v3871

def k0_off387 (d0 : Dev nD) : Fin 2 → Nat :=
  let c8_i32_2994 : BitVec 32 := 8#32
  let c3_i32_2993 : BitVec 32 := 3#32
  let c0_i32_2992 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2991 : BitVec 32 := 1#32
  let v2566 : BitVec 32 := Scalar.addi v8 c1_i32_2991
  let v2567 : BitVec 32 := Scalar.maxsi c0_i32_2992 v2566
  let v2568 : BitVec 32 := Scalar.minsi c3_i32_2993 v2567
  let v2569 : BitVec 32 := Scalar.addi c8_i32_2994 v2568
  let c256_i32_2995 : BitVec 32 := 256#32
  let v2570 : BitVec 32 := Scalar.muli v2569 c256_i32_2995
  let c2048_i32 : BitVec 32 := 2048#32
  ![v2570.toNat, 2048]
def k0_cond393 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3040 : BitVec 32 := 1#32
  let v2603 : BitVec 1 := Scalar.cmpi .sge v5 c1_i32_3040
  let c3_i32_3041 : BitVec 32 := 3#32
  let v2604 : BitVec 1 := Scalar.cmpi .slt v5 c3_i32_3041
  let v2605 : BitVec 1 := Scalar.andi v2603 v2604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3004 : BitVec 32 := 2#32
  let v2574 : BitVec 32 := Scalar.subi v8 c2_i32_3004
  let c3_i32_3005 : BitVec 32 := 3#32
  let v2575 : BitVec 1 := Scalar.cmpi .eq v2574 c3_i32_3005
  let c2_i32_3006 : BitVec 32 := 2#32
  let v2576 : BitVec 32 := Scalar.addi v8 c2_i32_3006
  let c3_i32_3007 : BitVec 32 := 3#32
  let v2577 : BitVec 1 := Scalar.cmpi .eq v2576 c3_i32_3007
  let v2578 : BitVec 1 := Scalar.ori v2575 v2577
  let v2606 : BitVec 1 := Scalar.andi v2605 v2578
  let v3872 : BitVec 32 := Scalar.extui v2606
  let c0_i32_5244 : BitVec 32 := 0#32
  let v3873 : BitVec 1 := Scalar.cmpi .ne v3872 c0_i32_5244
  v3873

def k0_off388 (d0 : Dev nD) : Fin 2 → Nat :=
  let c4_i32_3045 : BitVec 32 := 4#32
  let c3_i32_3044 : BitVec 32 := 3#32
  let c0_i32_3043 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3042 : BitVec 32 := 1#32
  let v2607 : BitVec 32 := Scalar.subi v5 c1_i32_3042
  let v2608 : BitVec 32 := Scalar.maxsi c0_i32_3043 v2607
  let v2609 : BitVec 32 := Scalar.minsi c3_i32_3044 v2608
  let v2610 : BitVec 32 := Scalar.muli c4_i32_3045 v2609
  let c3_i32_3046 : BitVec 32 := 3#32
  let v2611 : BitVec 32 := Scalar.addi v2610 c3_i32_3046
  let c256_i32_3047 : BitVec 32 := 256#32
  let v2612 : BitVec 32 := Scalar.muli v2611 c256_i32_3047
  let c0_i32_5491 : BitVec 32 := 0#32
  ![v2612.toNat, 0]
def k0_cond394 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3056 : BitVec 32 := 2#32
  let v2616 : BitVec 1 := Scalar.cmpi .sle v5 c2_i32_3056
  let c0_i32_3057 : BitVec 32 := 0#32
  let v2617 : BitVec 1 := Scalar.cmpi .sgt v5 c0_i32_3057
  let v2618 : BitVec 1 := Scalar.andi v2616 v2617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3004 : BitVec 32 := 2#32
  let v2574 : BitVec 32 := Scalar.subi v8 c2_i32_3004
  let c3_i32_3005 : BitVec 32 := 3#32
  let v2575 : BitVec 1 := Scalar.cmpi .eq v2574 c3_i32_3005
  let c2_i32_3006 : BitVec 32 := 2#32
  let v2576 : BitVec 32 := Scalar.addi v8 c2_i32_3006
  let c3_i32_3007 : BitVec 32 := 3#32
  let v2577 : BitVec 1 := Scalar.cmpi .eq v2576 c3_i32_3007
  let v2578 : BitVec 1 := Scalar.ori v2575 v2577
  let v2619 : BitVec 1 := Scalar.andi v2618 v2578
  let v3874 : BitVec 32 := Scalar.extui v2619
  let c0_i32_5251 : BitVec 32 := 0#32
  let v3875 : BitVec 1 := Scalar.cmpi .ne v3874 c0_i32_5251
  v3875

def k0_off389 (d0 : Dev nD) : Fin 2 → Nat :=
  let c4_i32_3061 : BitVec 32 := 4#32
  let c3_i32_3060 : BitVec 32 := 3#32
  let c0_i32_3059 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3058 : BitVec 32 := 1#32
  let v2620 : BitVec 32 := Scalar.addi v5 c1_i32_3058
  let v2621 : BitVec 32 := Scalar.maxsi c0_i32_3059 v2620
  let v2622 : BitVec 32 := Scalar.minsi c3_i32_3060 v2621
  let v2623 : BitVec 32 := Scalar.muli c4_i32_3061 v2622
  let c3_i32_3062 : BitVec 32 := 3#32
  let v2624 : BitVec 32 := Scalar.addi v2623 c3_i32_3062
  let c256_i32_3063 : BitVec 32 := 256#32
  let v2625 : BitVec 32 := Scalar.muli v2624 c256_i32_3063
  let c0_i32_5491 : BitVec 32 := 0#32
  ![v2625.toNat, 0]
def k0_cond395 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3106 : BitVec 32 := 1#32
  let v2656 : BitVec 1 := Scalar.cmpi .sge v8 c1_i32_3106
  let c3_i32_3107 : BitVec 32 := 3#32
  let v2657 : BitVec 1 := Scalar.cmpi .slt v8 c3_i32_3107
  let v2658 : BitVec 1 := Scalar.andi v2656 v2657
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3072 : BitVec 32 := 2#32
  let v2629 : BitVec 32 := Scalar.subi v5 c2_i32_3072
  let c3_i32_3073 : BitVec 32 := 3#32
  let v2630 : BitVec 1 := Scalar.cmpi .eq v2629 c3_i32_3073
  let c2_i32_3074 : BitVec 32 := 2#32
  let v2631 : BitVec 32 := Scalar.addi v5 c2_i32_3074
  let c3_i32_3075 : BitVec 32 := 3#32
  let v2632 : BitVec 1 := Scalar.cmpi .eq v2631 c3_i32_3075
  let v2633 : BitVec 1 := Scalar.ori v2630 v2632
  let v2659 : BitVec 1 := Scalar.andi v2658 v2633
  let v3876 : BitVec 32 := Scalar.extui v2659
  let c0_i32_5258 : BitVec 32 := 0#32
  let v3877 : BitVec 1 := Scalar.cmpi .ne v3876 c0_i32_5258
  v3877

def k0_off390 (d0 : Dev nD) : Fin 2 → Nat :=
  let c12_i32_3111 : BitVec 32 := 12#32
  let c3_i32_3110 : BitVec 32 := 3#32
  let c0_i32_3109 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3108 : BitVec 32 := 1#32
  let v2660 : BitVec 32 := Scalar.subi v8 c1_i32_3108
  let v2661 : BitVec 32 := Scalar.maxsi c0_i32_3109 v2660
  let v2662 : BitVec 32 := Scalar.minsi c3_i32_3110 v2661
  let v2663 : BitVec 32 := Scalar.addi c12_i32_3111 v2662
  let c256_i32_3112 : BitVec 32 := 256#32
  let v2664 : BitVec 32 := Scalar.muli v2663 c256_i32_3112
  let c2048_i32 : BitVec 32 := 2048#32
  ![v2664.toNat, 2048]
def k0_cond396 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3121 : BitVec 32 := 2#32
  let v2668 : BitVec 1 := Scalar.cmpi .sle v8 c2_i32_3121
  let c0_i32_3122 : BitVec 32 := 0#32
  let v2669 : BitVec 1 := Scalar.cmpi .sgt v8 c0_i32_3122
  let v2670 : BitVec 1 := Scalar.andi v2668 v2669
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3072 : BitVec 32 := 2#32
  let v2629 : BitVec 32 := Scalar.subi v5 c2_i32_3072
  let c3_i32_3073 : BitVec 32 := 3#32
  let v2630 : BitVec 1 := Scalar.cmpi .eq v2629 c3_i32_3073
  let c2_i32_3074 : BitVec 32 := 2#32
  let v2631 : BitVec 32 := Scalar.addi v5 c2_i32_3074
  let c3_i32_3075 : BitVec 32 := 3#32
  let v2632 : BitVec 1 := Scalar.cmpi .eq v2631 c3_i32_3075
  let v2633 : BitVec 1 := Scalar.ori v2630 v2632
  let v2671 : BitVec 1 := Scalar.andi v2670 v2633
  let v3878 : BitVec 32 := Scalar.extui v2671
  let c0_i32_5265 : BitVec 32 := 0#32
  let v3879 : BitVec 1 := Scalar.cmpi .ne v3878 c0_i32_5265
  v3879

def k0_off391 (d0 : Dev nD) : Fin 2 → Nat :=
  let c12_i32_3126 : BitVec 32 := 12#32
  let c3_i32_3125 : BitVec 32 := 3#32
  let c0_i32_3124 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3123 : BitVec 32 := 1#32
  let v2672 : BitVec 32 := Scalar.addi v8 c1_i32_3123
  let v2673 : BitVec 32 := Scalar.maxsi c0_i32_3124 v2672
  let v2674 : BitVec 32 := Scalar.minsi c3_i32_3125 v2673
  let v2675 : BitVec 32 := Scalar.addi c12_i32_3126 v2674
  let c256_i32_3127 : BitVec 32 := 256#32
  let v2676 : BitVec 32 := Scalar.muli v2675 c256_i32_3127
  let c2048_i32 : BitVec 32 := 2048#32
  ![v2676.toNat, 2048]
def k0_cond397 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3172 : BitVec 32 := 1#32
  let v2709 : BitVec 1 := Scalar.cmpi .sge v5 c1_i32_3172
  let c3_i32_3173 : BitVec 32 := 3#32
  let v2710 : BitVec 1 := Scalar.cmpi .slt v5 c3_i32_3173
  let v2711 : BitVec 1 := Scalar.andi v2709 v2710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3136 : BitVec 32 := 3#32
  let v2680 : BitVec 32 := Scalar.subi v8 c3_i32_3136
  let c0_i32_3137 : BitVec 32 := 0#32
  let v2681 : BitVec 1 := Scalar.cmpi .eq v2680 c0_i32_3137
  let c3_i32_3138 : BitVec 32 := 3#32
  let v2682 : BitVec 32 := Scalar.addi v8 c3_i32_3138
  let c0_i32_3139 : BitVec 32 := 0#32
  let v2683 : BitVec 1 := Scalar.cmpi .eq v2682 c0_i32_3139
  let v2684 : BitVec 1 := Scalar.ori v2681 v2683
  let v2712 : BitVec 1 := Scalar.andi v2711 v2684
  let v3880 : BitVec 32 := Scalar.extui v2712
  let c0_i32_5272 : BitVec 32 := 0#32
  let v3881 : BitVec 1 := Scalar.cmpi .ne v3880 c0_i32_5272
  v3881

def k0_off392 (d0 : Dev nD) : Fin 2 → Nat :=
  let c4_i32_3177 : BitVec 32 := 4#32
  let c3_i32_3176 : BitVec 32 := 3#32
  let c0_i32_3175 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3174 : BitVec 32 := 1#32
  let v2713 : BitVec 32 := Scalar.subi v5 c1_i32_3174
  let v2714 : BitVec 32 := Scalar.maxsi c0_i32_3175 v2713
  let v2715 : BitVec 32 := Scalar.minsi c3_i32_3176 v2714
  let v2716 : BitVec 32 := Scalar.muli c4_i32_3177 v2715
  let c0_i32_3178 : BitVec 32 := 0#32
  let v2717 : BitVec 32 := Scalar.addi v2716 c0_i32_3178
  let c256_i32_3179 : BitVec 32 := 256#32
  let v2718 : BitVec 32 := Scalar.muli v2717 c256_i32_3179
  let c0_i32_5491 : BitVec 32 := 0#32
  ![v2718.toNat, 0]
def k0_cond398 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3188 : BitVec 32 := 2#32
  let v2722 : BitVec 1 := Scalar.cmpi .sle v5 c2_i32_3188
  let c0_i32_3189 : BitVec 32 := 0#32
  let v2723 : BitVec 1 := Scalar.cmpi .sgt v5 c0_i32_3189
  let v2724 : BitVec 1 := Scalar.andi v2722 v2723
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3136 : BitVec 32 := 3#32
  let v2680 : BitVec 32 := Scalar.subi v8 c3_i32_3136
  let c0_i32_3137 : BitVec 32 := 0#32
  let v2681 : BitVec 1 := Scalar.cmpi .eq v2680 c0_i32_3137
  let c3_i32_3138 : BitVec 32 := 3#32
  let v2682 : BitVec 32 := Scalar.addi v8 c3_i32_3138
  let c0_i32_3139 : BitVec 32 := 0#32
  let v2683 : BitVec 1 := Scalar.cmpi .eq v2682 c0_i32_3139
  let v2684 : BitVec 1 := Scalar.ori v2681 v2683
  let v2725 : BitVec 1 := Scalar.andi v2724 v2684
  let v3882 : BitVec 32 := Scalar.extui v2725
  let c0_i32_5279 : BitVec 32 := 0#32
  let v3883 : BitVec 1 := Scalar.cmpi .ne v3882 c0_i32_5279
  v3883

def k0_off393 (d0 : Dev nD) : Fin 2 → Nat :=
  let c4_i32_3193 : BitVec 32 := 4#32
  let c3_i32_3192 : BitVec 32 := 3#32
  let c0_i32_3191 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3190 : BitVec 32 := 1#32
  let v2726 : BitVec 32 := Scalar.addi v5 c1_i32_3190
  let v2727 : BitVec 32 := Scalar.maxsi c0_i32_3191 v2726
  let v2728 : BitVec 32 := Scalar.minsi c3_i32_3192 v2727
  let v2729 : BitVec 32 := Scalar.muli c4_i32_3193 v2728
  let c0_i32_3194 : BitVec 32 := 0#32
  let v2730 : BitVec 32 := Scalar.addi v2729 c0_i32_3194
  let c256_i32_3195 : BitVec 32 := 256#32
  let v2731 : BitVec 32 := Scalar.muli v2730 c256_i32_3195
  let c0_i32_5491 : BitVec 32 := 0#32
  ![v2731.toNat, 0]
def k0_cond399 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3238 : BitVec 32 := 1#32
  let v2762 : BitVec 1 := Scalar.cmpi .sge v8 c1_i32_3238
  let c3_i32_3239 : BitVec 32 := 3#32
  let v2763 : BitVec 1 := Scalar.cmpi .slt v8 c3_i32_3239
  let v2764 : BitVec 1 := Scalar.andi v2762 v2763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3204 : BitVec 32 := 3#32
  let v2735 : BitVec 32 := Scalar.subi v5 c3_i32_3204
  let c0_i32_3205 : BitVec 32 := 0#32
  let v2736 : BitVec 1 := Scalar.cmpi .eq v2735 c0_i32_3205
  let c3_i32_3206 : BitVec 32 := 3#32
  let v2737 : BitVec 32 := Scalar.addi v5 c3_i32_3206
  let c0_i32_3207 : BitVec 32 := 0#32
  let v2738 : BitVec 1 := Scalar.cmpi .eq v2737 c0_i32_3207
  let v2739 : BitVec 1 := Scalar.ori v2736 v2738
  let v2765 : BitVec 1 := Scalar.andi v2764 v2739
  let v3884 : BitVec 32 := Scalar.extui v2765
  let c0_i32_5286 : BitVec 32 := 0#32
  let v3885 : BitVec 1 := Scalar.cmpi .ne v3884 c0_i32_5286
  v3885

def k0_off394 (d0 : Dev nD) : Fin 2 → Nat :=
  let c0_i32_3243 : BitVec 32 := 0#32
  let c3_i32_3242 : BitVec 32 := 3#32
  let c0_i32_3241 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3240 : BitVec 32 := 1#32
  let v2766 : BitVec 32 := Scalar.subi v8 c1_i32_3240
  let v2767 : BitVec 32 := Scalar.maxsi c0_i32_3241 v2766
  let v2768 : BitVec 32 := Scalar.minsi c3_i32_3242 v2767
  let v2769 : BitVec 32 := Scalar.addi c0_i32_3243 v2768
  let c256_i32_3244 : BitVec 32 := 256#32
  let v2770 : BitVec 32 := Scalar.muli v2769 c256_i32_3244
  let c2048_i32 : BitVec 32 := 2048#32
  ![v2770.toNat, 2048]
def k0_cond400 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3253 : BitVec 32 := 2#32
  let v2774 : BitVec 1 := Scalar.cmpi .sle v8 c2_i32_3253
  let c0_i32_3254 : BitVec 32 := 0#32
  let v2775 : BitVec 1 := Scalar.cmpi .sgt v8 c0_i32_3254
  let v2776 : BitVec 1 := Scalar.andi v2774 v2775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3204 : BitVec 32 := 3#32
  let v2735 : BitVec 32 := Scalar.subi v5 c3_i32_3204
  let c0_i32_3205 : BitVec 32 := 0#32
  let v2736 : BitVec 1 := Scalar.cmpi .eq v2735 c0_i32_3205
  let c3_i32_3206 : BitVec 32 := 3#32
  let v2737 : BitVec 32 := Scalar.addi v5 c3_i32_3206
  let c0_i32_3207 : BitVec 32 := 0#32
  let v2738 : BitVec 1 := Scalar.cmpi .eq v2737 c0_i32_3207
  let v2739 : BitVec 1 := Scalar.ori v2736 v2738
  let v2777 : BitVec 1 := Scalar.andi v2776 v2739
  let v3886 : BitVec 32 := Scalar.extui v2777
  let c0_i32_5293 : BitVec 32 := 0#32
  let v3887 : BitVec 1 := Scalar.cmpi .ne v3886 c0_i32_5293
  v3887

def k0_off395 (d0 : Dev nD) : Fin 2 → Nat :=
  let c0_i32_3258 : BitVec 32 := 0#32
  let c3_i32_3257 : BitVec 32 := 3#32
  let c0_i32_3256 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3255 : BitVec 32 := 1#32
  let v2778 : BitVec 32 := Scalar.addi v8 c1_i32_3255
  let v2779 : BitVec 32 := Scalar.maxsi c0_i32_3256 v2778
  let v2780 : BitVec 32 := Scalar.minsi c3_i32_3257 v2779
  let v2781 : BitVec 32 := Scalar.addi c0_i32_3258 v2780
  let c256_i32_3259 : BitVec 32 := 256#32
  let v2782 : BitVec 32 := Scalar.muli v2781 c256_i32_3259
  let c2048_i32 : BitVec 32 := 2048#32
  ![v2782.toNat, 2048]
def k0_cond401 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3304 : BitVec 32 := 1#32
  let v2815 : BitVec 1 := Scalar.cmpi .sge v5 c1_i32_3304
  let c3_i32_3305 : BitVec 32 := 3#32
  let v2816 : BitVec 1 := Scalar.cmpi .slt v5 c3_i32_3305
  let v2817 : BitVec 1 := Scalar.andi v2815 v2816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3268 : BitVec 32 := 3#32
  let v2786 : BitVec 32 := Scalar.subi v8 c3_i32_3268
  let c1_i32_3269 : BitVec 32 := 1#32
  let v2787 : BitVec 1 := Scalar.cmpi .eq v2786 c1_i32_3269
  let c3_i32_3270 : BitVec 32 := 3#32
  let v2788 : BitVec 32 := Scalar.addi v8 c3_i32_3270
  let c1_i32_3271 : BitVec 32 := 1#32
  let v2789 : BitVec 1 := Scalar.cmpi .eq v2788 c1_i32_3271
  let v2790 : BitVec 1 := Scalar.ori v2787 v2789
  let v2818 : BitVec 1 := Scalar.andi v2817 v2790
  let v3888 : BitVec 32 := Scalar.extui v2818
  let c0_i32_5300 : BitVec 32 := 0#32
  let v3889 : BitVec 1 := Scalar.cmpi .ne v3888 c0_i32_5300
  v3889

def k0_off396 (d0 : Dev nD) : Fin 2 → Nat :=
  let c4_i32_3309 : BitVec 32 := 4#32
  let c3_i32_3308 : BitVec 32 := 3#32
  let c0_i32_3307 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3306 : BitVec 32 := 1#32
  let v2819 : BitVec 32 := Scalar.subi v5 c1_i32_3306
  let v2820 : BitVec 32 := Scalar.maxsi c0_i32_3307 v2819
  let v2821 : BitVec 32 := Scalar.minsi c3_i32_3308 v2820
  let v2822 : BitVec 32 := Scalar.muli c4_i32_3309 v2821
  let c1_i32_3310 : BitVec 32 := 1#32
  let v2823 : BitVec 32 := Scalar.addi v2822 c1_i32_3310
  let c256_i32_3311 : BitVec 32 := 256#32
  let v2824 : BitVec 32 := Scalar.muli v2823 c256_i32_3311
  let c0_i32_5491 : BitVec 32 := 0#32
  ![v2824.toNat, 0]
def k0_cond402 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3320 : BitVec 32 := 2#32
  let v2828 : BitVec 1 := Scalar.cmpi .sle v5 c2_i32_3320
  let c0_i32_3321 : BitVec 32 := 0#32
  let v2829 : BitVec 1 := Scalar.cmpi .sgt v5 c0_i32_3321
  let v2830 : BitVec 1 := Scalar.andi v2828 v2829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3268 : BitVec 32 := 3#32
  let v2786 : BitVec 32 := Scalar.subi v8 c3_i32_3268
  let c1_i32_3269 : BitVec 32 := 1#32
  let v2787 : BitVec 1 := Scalar.cmpi .eq v2786 c1_i32_3269
  let c3_i32_3270 : BitVec 32 := 3#32
  let v2788 : BitVec 32 := Scalar.addi v8 c3_i32_3270
  let c1_i32_3271 : BitVec 32 := 1#32
  let v2789 : BitVec 1 := Scalar.cmpi .eq v2788 c1_i32_3271
  let v2790 : BitVec 1 := Scalar.ori v2787 v2789
  let v2831 : BitVec 1 := Scalar.andi v2830 v2790
  let v3890 : BitVec 32 := Scalar.extui v2831
  let c0_i32_5307 : BitVec 32 := 0#32
  let v3891 : BitVec 1 := Scalar.cmpi .ne v3890 c0_i32_5307
  v3891

def k0_off397 (d0 : Dev nD) : Fin 2 → Nat :=
  let c4_i32_3325 : BitVec 32 := 4#32
  let c3_i32_3324 : BitVec 32 := 3#32
  let c0_i32_3323 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3322 : BitVec 32 := 1#32
  let v2832 : BitVec 32 := Scalar.addi v5 c1_i32_3322
  let v2833 : BitVec 32 := Scalar.maxsi c0_i32_3323 v2832
  let v2834 : BitVec 32 := Scalar.minsi c3_i32_3324 v2833
  let v2835 : BitVec 32 := Scalar.muli c4_i32_3325 v2834
  let c1_i32_3326 : BitVec 32 := 1#32
  let v2836 : BitVec 32 := Scalar.addi v2835 c1_i32_3326
  let c256_i32_3327 : BitVec 32 := 256#32
  let v2837 : BitVec 32 := Scalar.muli v2836 c256_i32_3327
  let c0_i32_5491 : BitVec 32 := 0#32
  ![v2837.toNat, 0]
def k0_cond403 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3370 : BitVec 32 := 1#32
  let v2868 : BitVec 1 := Scalar.cmpi .sge v8 c1_i32_3370
  let c3_i32_3371 : BitVec 32 := 3#32
  let v2869 : BitVec 1 := Scalar.cmpi .slt v8 c3_i32_3371
  let v2870 : BitVec 1 := Scalar.andi v2868 v2869
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3336 : BitVec 32 := 3#32
  let v2841 : BitVec 32 := Scalar.subi v5 c3_i32_3336
  let c1_i32_3337 : BitVec 32 := 1#32
  let v2842 : BitVec 1 := Scalar.cmpi .eq v2841 c1_i32_3337
  let c3_i32_3338 : BitVec 32 := 3#32
  let v2843 : BitVec 32 := Scalar.addi v5 c3_i32_3338
  let c1_i32_3339 : BitVec 32 := 1#32
  let v2844 : BitVec 1 := Scalar.cmpi .eq v2843 c1_i32_3339
  let v2845 : BitVec 1 := Scalar.ori v2842 v2844
  let v2871 : BitVec 1 := Scalar.andi v2870 v2845
  let v3892 : BitVec 32 := Scalar.extui v2871
  let c0_i32_5314 : BitVec 32 := 0#32
  let v3893 : BitVec 1 := Scalar.cmpi .ne v3892 c0_i32_5314
  v3893

def k0_off398 (d0 : Dev nD) : Fin 2 → Nat :=
  let c4_i32_3375 : BitVec 32 := 4#32
  let c3_i32_3374 : BitVec 32 := 3#32
  let c0_i32_3373 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3372 : BitVec 32 := 1#32
  let v2872 : BitVec 32 := Scalar.subi v8 c1_i32_3372
  let v2873 : BitVec 32 := Scalar.maxsi c0_i32_3373 v2872
  let v2874 : BitVec 32 := Scalar.minsi c3_i32_3374 v2873
  let v2875 : BitVec 32 := Scalar.addi c4_i32_3375 v2874
  let c256_i32_3376 : BitVec 32 := 256#32
  let v2876 : BitVec 32 := Scalar.muli v2875 c256_i32_3376
  let c2048_i32 : BitVec 32 := 2048#32
  ![v2876.toNat, 2048]
def k0_cond404 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3385 : BitVec 32 := 2#32
  let v2880 : BitVec 1 := Scalar.cmpi .sle v8 c2_i32_3385
  let c0_i32_3386 : BitVec 32 := 0#32
  let v2881 : BitVec 1 := Scalar.cmpi .sgt v8 c0_i32_3386
  let v2882 : BitVec 1 := Scalar.andi v2880 v2881
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3336 : BitVec 32 := 3#32
  let v2841 : BitVec 32 := Scalar.subi v5 c3_i32_3336
  let c1_i32_3337 : BitVec 32 := 1#32
  let v2842 : BitVec 1 := Scalar.cmpi .eq v2841 c1_i32_3337
  let c3_i32_3338 : BitVec 32 := 3#32
  let v2843 : BitVec 32 := Scalar.addi v5 c3_i32_3338
  let c1_i32_3339 : BitVec 32 := 1#32
  let v2844 : BitVec 1 := Scalar.cmpi .eq v2843 c1_i32_3339
  let v2845 : BitVec 1 := Scalar.ori v2842 v2844
  let v2883 : BitVec 1 := Scalar.andi v2882 v2845
  let v3894 : BitVec 32 := Scalar.extui v2883
  let c0_i32_5321 : BitVec 32 := 0#32
  let v3895 : BitVec 1 := Scalar.cmpi .ne v3894 c0_i32_5321
  v3895

def k0_off399 (d0 : Dev nD) : Fin 2 → Nat :=
  let c4_i32_3390 : BitVec 32 := 4#32
  let c3_i32_3389 : BitVec 32 := 3#32
  let c0_i32_3388 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3387 : BitVec 32 := 1#32
  let v2884 : BitVec 32 := Scalar.addi v8 c1_i32_3387
  let v2885 : BitVec 32 := Scalar.maxsi c0_i32_3388 v2884
  let v2886 : BitVec 32 := Scalar.minsi c3_i32_3389 v2885
  let v2887 : BitVec 32 := Scalar.addi c4_i32_3390 v2886
  let c256_i32_3391 : BitVec 32 := 256#32
  let v2888 : BitVec 32 := Scalar.muli v2887 c256_i32_3391
  let c2048_i32 : BitVec 32 := 2048#32
  ![v2888.toNat, 2048]
def k0_cond405 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3436 : BitVec 32 := 1#32
  let v2921 : BitVec 1 := Scalar.cmpi .sge v5 c1_i32_3436
  let c3_i32_3437 : BitVec 32 := 3#32
  let v2922 : BitVec 1 := Scalar.cmpi .slt v5 c3_i32_3437
  let v2923 : BitVec 1 := Scalar.andi v2921 v2922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3400 : BitVec 32 := 3#32
  let v2892 : BitVec 32 := Scalar.subi v8 c3_i32_3400
  let c2_i32_3401 : BitVec 32 := 2#32
  let v2893 : BitVec 1 := Scalar.cmpi .eq v2892 c2_i32_3401
  let c3_i32_3402 : BitVec 32 := 3#32
  let v2894 : BitVec 32 := Scalar.addi v8 c3_i32_3402
  let c2_i32_3403 : BitVec 32 := 2#32
  let v2895 : BitVec 1 := Scalar.cmpi .eq v2894 c2_i32_3403
  let v2896 : BitVec 1 := Scalar.ori v2893 v2895
  let v2924 : BitVec 1 := Scalar.andi v2923 v2896
  let v3896 : BitVec 32 := Scalar.extui v2924
  let c0_i32_5328 : BitVec 32 := 0#32
  let v3897 : BitVec 1 := Scalar.cmpi .ne v3896 c0_i32_5328
  v3897

def k0_off400 (d0 : Dev nD) : Fin 2 → Nat :=
  let c4_i32_3441 : BitVec 32 := 4#32
  let c3_i32_3440 : BitVec 32 := 3#32
  let c0_i32_3439 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3438 : BitVec 32 := 1#32
  let v2925 : BitVec 32 := Scalar.subi v5 c1_i32_3438
  let v2926 : BitVec 32 := Scalar.maxsi c0_i32_3439 v2925
  let v2927 : BitVec 32 := Scalar.minsi c3_i32_3440 v2926
  let v2928 : BitVec 32 := Scalar.muli c4_i32_3441 v2927
  let c2_i32_3442 : BitVec 32 := 2#32
  let v2929 : BitVec 32 := Scalar.addi v2928 c2_i32_3442
  let c256_i32_3443 : BitVec 32 := 256#32
  let v2930 : BitVec 32 := Scalar.muli v2929 c256_i32_3443
  let c0_i32_5491 : BitVec 32 := 0#32
  ![v2930.toNat, 0]
def k0_cond406 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3452 : BitVec 32 := 2#32
  let v2934 : BitVec 1 := Scalar.cmpi .sle v5 c2_i32_3452
  let c0_i32_3453 : BitVec 32 := 0#32
  let v2935 : BitVec 1 := Scalar.cmpi .sgt v5 c0_i32_3453
  let v2936 : BitVec 1 := Scalar.andi v2934 v2935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3400 : BitVec 32 := 3#32
  let v2892 : BitVec 32 := Scalar.subi v8 c3_i32_3400
  let c2_i32_3401 : BitVec 32 := 2#32
  let v2893 : BitVec 1 := Scalar.cmpi .eq v2892 c2_i32_3401
  let c3_i32_3402 : BitVec 32 := 3#32
  let v2894 : BitVec 32 := Scalar.addi v8 c3_i32_3402
  let c2_i32_3403 : BitVec 32 := 2#32
  let v2895 : BitVec 1 := Scalar.cmpi .eq v2894 c2_i32_3403
  let v2896 : BitVec 1 := Scalar.ori v2893 v2895
  let v2937 : BitVec 1 := Scalar.andi v2936 v2896
  let v3898 : BitVec 32 := Scalar.extui v2937
  let c0_i32_5335 : BitVec 32 := 0#32
  let v3899 : BitVec 1 := Scalar.cmpi .ne v3898 c0_i32_5335
  v3899

def k0_off401 (d0 : Dev nD) : Fin 2 → Nat :=
  let c4_i32_3457 : BitVec 32 := 4#32
  let c3_i32_3456 : BitVec 32 := 3#32
  let c0_i32_3455 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3454 : BitVec 32 := 1#32
  let v2938 : BitVec 32 := Scalar.addi v5 c1_i32_3454
  let v2939 : BitVec 32 := Scalar.maxsi c0_i32_3455 v2938
  let v2940 : BitVec 32 := Scalar.minsi c3_i32_3456 v2939
  let v2941 : BitVec 32 := Scalar.muli c4_i32_3457 v2940
  let c2_i32_3458 : BitVec 32 := 2#32
  let v2942 : BitVec 32 := Scalar.addi v2941 c2_i32_3458
  let c256_i32_3459 : BitVec 32 := 256#32
  let v2943 : BitVec 32 := Scalar.muli v2942 c256_i32_3459
  let c0_i32_5491 : BitVec 32 := 0#32
  ![v2943.toNat, 0]
def k0_cond407 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3502 : BitVec 32 := 1#32
  let v2974 : BitVec 1 := Scalar.cmpi .sge v8 c1_i32_3502
  let c3_i32_3503 : BitVec 32 := 3#32
  let v2975 : BitVec 1 := Scalar.cmpi .slt v8 c3_i32_3503
  let v2976 : BitVec 1 := Scalar.andi v2974 v2975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3468 : BitVec 32 := 3#32
  let v2947 : BitVec 32 := Scalar.subi v5 c3_i32_3468
  let c2_i32_3469 : BitVec 32 := 2#32
  let v2948 : BitVec 1 := Scalar.cmpi .eq v2947 c2_i32_3469
  let c3_i32_3470 : BitVec 32 := 3#32
  let v2949 : BitVec 32 := Scalar.addi v5 c3_i32_3470
  let c2_i32_3471 : BitVec 32 := 2#32
  let v2950 : BitVec 1 := Scalar.cmpi .eq v2949 c2_i32_3471
  let v2951 : BitVec 1 := Scalar.ori v2948 v2950
  let v2977 : BitVec 1 := Scalar.andi v2976 v2951
  let v3900 : BitVec 32 := Scalar.extui v2977
  let c0_i32_5342 : BitVec 32 := 0#32
  let v3901 : BitVec 1 := Scalar.cmpi .ne v3900 c0_i32_5342
  v3901

def k0_off402 (d0 : Dev nD) : Fin 2 → Nat :=
  let c8_i32_3507 : BitVec 32 := 8#32
  let c3_i32_3506 : BitVec 32 := 3#32
  let c0_i32_3505 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3504 : BitVec 32 := 1#32
  let v2978 : BitVec 32 := Scalar.subi v8 c1_i32_3504
  let v2979 : BitVec 32 := Scalar.maxsi c0_i32_3505 v2978
  let v2980 : BitVec 32 := Scalar.minsi c3_i32_3506 v2979
  let v2981 : BitVec 32 := Scalar.addi c8_i32_3507 v2980
  let c256_i32_3508 : BitVec 32 := 256#32
  let v2982 : BitVec 32 := Scalar.muli v2981 c256_i32_3508
  let c2048_i32 : BitVec 32 := 2048#32
  ![v2982.toNat, 2048]
def k0_cond408 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3517 : BitVec 32 := 2#32
  let v2986 : BitVec 1 := Scalar.cmpi .sle v8 c2_i32_3517
  let c0_i32_3518 : BitVec 32 := 0#32
  let v2987 : BitVec 1 := Scalar.cmpi .sgt v8 c0_i32_3518
  let v2988 : BitVec 1 := Scalar.andi v2986 v2987
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3468 : BitVec 32 := 3#32
  let v2947 : BitVec 32 := Scalar.subi v5 c3_i32_3468
  let c2_i32_3469 : BitVec 32 := 2#32
  let v2948 : BitVec 1 := Scalar.cmpi .eq v2947 c2_i32_3469
  let c3_i32_3470 : BitVec 32 := 3#32
  let v2949 : BitVec 32 := Scalar.addi v5 c3_i32_3470
  let c2_i32_3471 : BitVec 32 := 2#32
  let v2950 : BitVec 1 := Scalar.cmpi .eq v2949 c2_i32_3471
  let v2951 : BitVec 1 := Scalar.ori v2948 v2950
  let v2989 : BitVec 1 := Scalar.andi v2988 v2951
  let v3902 : BitVec 32 := Scalar.extui v2989
  let c0_i32_5349 : BitVec 32 := 0#32
  let v3903 : BitVec 1 := Scalar.cmpi .ne v3902 c0_i32_5349
  v3903

def k0_off403 (d0 : Dev nD) : Fin 2 → Nat :=
  let c8_i32_3522 : BitVec 32 := 8#32
  let c3_i32_3521 : BitVec 32 := 3#32
  let c0_i32_3520 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3519 : BitVec 32 := 1#32
  let v2990 : BitVec 32 := Scalar.addi v8 c1_i32_3519
  let v2991 : BitVec 32 := Scalar.maxsi c0_i32_3520 v2990
  let v2992 : BitVec 32 := Scalar.minsi c3_i32_3521 v2991
  let v2993 : BitVec 32 := Scalar.addi c8_i32_3522 v2992
  let c256_i32_3523 : BitVec 32 := 256#32
  let v2994 : BitVec 32 := Scalar.muli v2993 c256_i32_3523
  let c2048_i32 : BitVec 32 := 2048#32
  ![v2994.toNat, 2048]
def k0_cond409 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3568 : BitVec 32 := 1#32
  let v3027 : BitVec 1 := Scalar.cmpi .sge v5 c1_i32_3568
  let c3_i32_3569 : BitVec 32 := 3#32
  let v3028 : BitVec 1 := Scalar.cmpi .slt v5 c3_i32_3569
  let v3029 : BitVec 1 := Scalar.andi v3027 v3028
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3532 : BitVec 32 := 3#32
  let v2998 : BitVec 32 := Scalar.subi v8 c3_i32_3532
  let c3_i32_3533 : BitVec 32 := 3#32
  let v2999 : BitVec 1 := Scalar.cmpi .eq v2998 c3_i32_3533
  let c3_i32_3534 : BitVec 32 := 3#32
  let v3000 : BitVec 32 := Scalar.addi v8 c3_i32_3534
  let c3_i32_3535 : BitVec 32 := 3#32
  let v3001 : BitVec 1 := Scalar.cmpi .eq v3000 c3_i32_3535
  let v3002 : BitVec 1 := Scalar.ori v2999 v3001
  let v3030 : BitVec 1 := Scalar.andi v3029 v3002
  let v3904 : BitVec 32 := Scalar.extui v3030
  let c0_i32_5356 : BitVec 32 := 0#32
  let v3905 : BitVec 1 := Scalar.cmpi .ne v3904 c0_i32_5356
  v3905

def k0_off404 (d0 : Dev nD) : Fin 2 → Nat :=
  let c4_i32_3573 : BitVec 32 := 4#32
  let c3_i32_3572 : BitVec 32 := 3#32
  let c0_i32_3571 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3570 : BitVec 32 := 1#32
  let v3031 : BitVec 32 := Scalar.subi v5 c1_i32_3570
  let v3032 : BitVec 32 := Scalar.maxsi c0_i32_3571 v3031
  let v3033 : BitVec 32 := Scalar.minsi c3_i32_3572 v3032
  let v3034 : BitVec 32 := Scalar.muli c4_i32_3573 v3033
  let c3_i32_3574 : BitVec 32 := 3#32
  let v3035 : BitVec 32 := Scalar.addi v3034 c3_i32_3574
  let c256_i32_3575 : BitVec 32 := 256#32
  let v3036 : BitVec 32 := Scalar.muli v3035 c256_i32_3575
  let c0_i32_5491 : BitVec 32 := 0#32
  ![v3036.toNat, 0]
def k0_cond410 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3584 : BitVec 32 := 2#32
  let v3040 : BitVec 1 := Scalar.cmpi .sle v5 c2_i32_3584
  let c0_i32_3585 : BitVec 32 := 0#32
  let v3041 : BitVec 1 := Scalar.cmpi .sgt v5 c0_i32_3585
  let v3042 : BitVec 1 := Scalar.andi v3040 v3041
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3532 : BitVec 32 := 3#32
  let v2998 : BitVec 32 := Scalar.subi v8 c3_i32_3532
  let c3_i32_3533 : BitVec 32 := 3#32
  let v2999 : BitVec 1 := Scalar.cmpi .eq v2998 c3_i32_3533
  let c3_i32_3534 : BitVec 32 := 3#32
  let v3000 : BitVec 32 := Scalar.addi v8 c3_i32_3534
  let c3_i32_3535 : BitVec 32 := 3#32
  let v3001 : BitVec 1 := Scalar.cmpi .eq v3000 c3_i32_3535
  let v3002 : BitVec 1 := Scalar.ori v2999 v3001
  let v3043 : BitVec 1 := Scalar.andi v3042 v3002
  let v3906 : BitVec 32 := Scalar.extui v3043
  let c0_i32_5363 : BitVec 32 := 0#32
  let v3907 : BitVec 1 := Scalar.cmpi .ne v3906 c0_i32_5363
  v3907

def k0_off405 (d0 : Dev nD) : Fin 2 → Nat :=
  let c4_i32_3589 : BitVec 32 := 4#32
  let c3_i32_3588 : BitVec 32 := 3#32
  let c0_i32_3587 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3586 : BitVec 32 := 1#32
  let v3044 : BitVec 32 := Scalar.addi v5 c1_i32_3586
  let v3045 : BitVec 32 := Scalar.maxsi c0_i32_3587 v3044
  let v3046 : BitVec 32 := Scalar.minsi c3_i32_3588 v3045
  let v3047 : BitVec 32 := Scalar.muli c4_i32_3589 v3046
  let c3_i32_3590 : BitVec 32 := 3#32
  let v3048 : BitVec 32 := Scalar.addi v3047 c3_i32_3590
  let c256_i32_3591 : BitVec 32 := 256#32
  let v3049 : BitVec 32 := Scalar.muli v3048 c256_i32_3591
  let c0_i32_5491 : BitVec 32 := 0#32
  ![v3049.toNat, 0]
def k0_cond411 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3634 : BitVec 32 := 1#32
  let v3080 : BitVec 1 := Scalar.cmpi .sge v8 c1_i32_3634
  let c3_i32_3635 : BitVec 32 := 3#32
  let v3081 : BitVec 1 := Scalar.cmpi .slt v8 c3_i32_3635
  let v3082 : BitVec 1 := Scalar.andi v3080 v3081
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3600 : BitVec 32 := 3#32
  let v3053 : BitVec 32 := Scalar.subi v5 c3_i32_3600
  let c3_i32_3601 : BitVec 32 := 3#32
  let v3054 : BitVec 1 := Scalar.cmpi .eq v3053 c3_i32_3601
  let c3_i32_3602 : BitVec 32 := 3#32
  let v3055 : BitVec 32 := Scalar.addi v5 c3_i32_3602
  let c3_i32_3603 : BitVec 32 := 3#32
  let v3056 : BitVec 1 := Scalar.cmpi .eq v3055 c3_i32_3603
  let v3057 : BitVec 1 := Scalar.ori v3054 v3056
  let v3083 : BitVec 1 := Scalar.andi v3082 v3057
  let v3908 : BitVec 32 := Scalar.extui v3083
  let c0_i32_5370 : BitVec 32 := 0#32
  let v3909 : BitVec 1 := Scalar.cmpi .ne v3908 c0_i32_5370
  v3909

def k0_off406 (d0 : Dev nD) : Fin 2 → Nat :=
  let c12_i32_3639 : BitVec 32 := 12#32
  let c3_i32_3638 : BitVec 32 := 3#32
  let c0_i32_3637 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3636 : BitVec 32 := 1#32
  let v3084 : BitVec 32 := Scalar.subi v8 c1_i32_3636
  let v3085 : BitVec 32 := Scalar.maxsi c0_i32_3637 v3084
  let v3086 : BitVec 32 := Scalar.minsi c3_i32_3638 v3085
  let v3087 : BitVec 32 := Scalar.addi c12_i32_3639 v3086
  let c256_i32_3640 : BitVec 32 := 256#32
  let v3088 : BitVec 32 := Scalar.muli v3087 c256_i32_3640
  let c2048_i32 : BitVec 32 := 2048#32
  ![v3088.toNat, 2048]
def k0_cond412 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3649 : BitVec 32 := 2#32
  let v3092 : BitVec 1 := Scalar.cmpi .sle v8 c2_i32_3649
  let c0_i32_3650 : BitVec 32 := 0#32
  let v3093 : BitVec 1 := Scalar.cmpi .sgt v8 c0_i32_3650
  let v3094 : BitVec 1 := Scalar.andi v3092 v3093
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3600 : BitVec 32 := 3#32
  let v3053 : BitVec 32 := Scalar.subi v5 c3_i32_3600
  let c3_i32_3601 : BitVec 32 := 3#32
  let v3054 : BitVec 1 := Scalar.cmpi .eq v3053 c3_i32_3601
  let c3_i32_3602 : BitVec 32 := 3#32
  let v3055 : BitVec 32 := Scalar.addi v5 c3_i32_3602
  let c3_i32_3603 : BitVec 32 := 3#32
  let v3056 : BitVec 1 := Scalar.cmpi .eq v3055 c3_i32_3603
  let v3057 : BitVec 1 := Scalar.ori v3054 v3056
  let v3095 : BitVec 1 := Scalar.andi v3094 v3057
  let v3910 : BitVec 32 := Scalar.extui v3095
  let c0_i32_5377 : BitVec 32 := 0#32
  let v3911 : BitVec 1 := Scalar.cmpi .ne v3910 c0_i32_5377
  v3911

def k0_off407 (d0 : Dev nD) : Fin 2 → Nat :=
  let c12_i32_3654 : BitVec 32 := 12#32
  let c3_i32_3653 : BitVec 32 := 3#32
  let c0_i32_3652 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3651 : BitVec 32 := 1#32
  let v3096 : BitVec 32 := Scalar.addi v8 c1_i32_3651
  let v3097 : BitVec 32 := Scalar.maxsi c0_i32_3652 v3096
  let v3098 : BitVec 32 := Scalar.minsi c3_i32_3653 v3097
  let v3099 : BitVec 32 := Scalar.addi c12_i32_3654 v3098
  let c256_i32_3655 : BitVec 32 := 256#32
  let v3100 : BitVec 32 := Scalar.muli v3099 c256_i32_3655
  let c2048_i32 : BitVec 32 := 2048#32
  ![v3100.toNat, 2048]
def k0_cond413 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3696 : BitVec 32 := 2#32
  let v3126 : BitVec 1 := Scalar.cmpi .sge v5 c2_i32_3696
  let c3_i32_3697 : BitVec 32 := 3#32
  let v3127 : BitVec 1 := Scalar.cmpi .slt v5 c3_i32_3697
  let v3128 : BitVec 1 := Scalar.andi v3126 v3127
  let v3912 : BitVec 32 := Scalar.extui v3128
  let c0_i32_5384 : BitVec 32 := 0#32
  let v3913 : BitVec 1 := Scalar.cmpi .ne v3912 c0_i32_5384
  v3913

def k0_off408 (d0 : Dev nD) : Fin 2 → Nat :=
  let c4_i32_3701 : BitVec 32 := 4#32
  let c3_i32_3700 : BitVec 32 := 3#32
  let c0_i32_3699 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3698 : BitVec 32 := 2#32
  let v3129 : BitVec 32 := Scalar.subi v5 c2_i32_3698
  let v3130 : BitVec 32 := Scalar.maxsi c0_i32_3699 v3129
  let v3131 : BitVec 32 := Scalar.minsi c3_i32_3700 v3130
  let v3132 : BitVec 32 := Scalar.muli c4_i32_3701 v3131
  let c0_i32_3702 : BitVec 32 := 0#32
  let v3133 : BitVec 32 := Scalar.addi v3132 c0_i32_3702
  let c256_i32_3703 : BitVec 32 := 256#32
  let v3134 : BitVec 32 := Scalar.muli v3133 c256_i32_3703
  let c0_i32_5491 : BitVec 32 := 0#32
  ![v3134.toNat, 0]
def k0_cond414 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3712 : BitVec 32 := 1#32
  let v3138 : BitVec 1 := Scalar.cmpi .sle v5 c1_i32_3712
  let c0_i32_3713 : BitVec 32 := 0#32
  let v3139 : BitVec 1 := Scalar.cmpi .sgt v5 c0_i32_3713
  let v3140 : BitVec 1 := Scalar.andi v3138 v3139
  let v3914 : BitVec 32 := Scalar.extui v3140
  let c0_i32_5391 : BitVec 32 := 0#32
  let v3915 : BitVec 1 := Scalar.cmpi .ne v3914 c0_i32_5391
  v3915

def k0_off409 (d0 : Dev nD) : Fin 2 → Nat :=
  let c4_i32_3717 : BitVec 32 := 4#32
  let c3_i32_3716 : BitVec 32 := 3#32
  let c0_i32_3715 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3714 : BitVec 32 := 2#32
  let v3141 : BitVec 32 := Scalar.addi v5 c2_i32_3714
  let v3142 : BitVec 32 := Scalar.maxsi c0_i32_3715 v3141
  let v3143 : BitVec 32 := Scalar.minsi c3_i32_3716 v3142
  let v3144 : BitVec 32 := Scalar.muli c4_i32_3717 v3143
  let c0_i32_3718 : BitVec 32 := 0#32
  let v3145 : BitVec 32 := Scalar.addi v3144 c0_i32_3718
  let c256_i32_3719 : BitVec 32 := 256#32
  let v3146 : BitVec 32 := Scalar.muli v3145 c256_i32_3719
  let c0_i32_5491 : BitVec 32 := 0#32
  ![v3146.toNat, 0]
def k0_cond415 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3758 : BitVec 32 := 2#32
  let v3170 : BitVec 1 := Scalar.cmpi .sge v8 c2_i32_3758
  let c3_i32_3759 : BitVec 32 := 3#32
  let v3171 : BitVec 1 := Scalar.cmpi .slt v8 c3_i32_3759
  let v3172 : BitVec 1 := Scalar.andi v3170 v3171
  let v3916 : BitVec 32 := Scalar.extui v3172
  let c0_i32_5398 : BitVec 32 := 0#32
  let v3917 : BitVec 1 := Scalar.cmpi .ne v3916 c0_i32_5398
  v3917

def k0_off410 (d0 : Dev nD) : Fin 2 → Nat :=
  let c0_i32_3763 : BitVec 32 := 0#32
  let c3_i32_3762 : BitVec 32 := 3#32
  let c0_i32_3761 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3760 : BitVec 32 := 2#32
  let v3173 : BitVec 32 := Scalar.subi v8 c2_i32_3760
  let v3174 : BitVec 32 := Scalar.maxsi c0_i32_3761 v3173
  let v3175 : BitVec 32 := Scalar.minsi c3_i32_3762 v3174
  let v3176 : BitVec 32 := Scalar.addi c0_i32_3763 v3175
  let c256_i32_3764 : BitVec 32 := 256#32
  let v3177 : BitVec 32 := Scalar.muli v3176 c256_i32_3764
  let c2048_i32 : BitVec 32 := 2048#32
  ![v3177.toNat, 2048]
def k0_cond416 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3773 : BitVec 32 := 1#32
  let v3181 : BitVec 1 := Scalar.cmpi .sle v8 c1_i32_3773
  let c0_i32_3774 : BitVec 32 := 0#32
  let v3182 : BitVec 1 := Scalar.cmpi .sgt v8 c0_i32_3774
  let v3183 : BitVec 1 := Scalar.andi v3181 v3182
  let v3918 : BitVec 32 := Scalar.extui v3183
  let c0_i32_5405 : BitVec 32 := 0#32
  let v3919 : BitVec 1 := Scalar.cmpi .ne v3918 c0_i32_5405
  v3919

def k0_off411 (d0 : Dev nD) : Fin 2 → Nat :=
  let c0_i32_3778 : BitVec 32 := 0#32
  let c3_i32_3777 : BitVec 32 := 3#32
  let c0_i32_3776 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3775 : BitVec 32 := 2#32
  let v3184 : BitVec 32 := Scalar.addi v8 c2_i32_3775
  let v3185 : BitVec 32 := Scalar.maxsi c0_i32_3776 v3184
  let v3186 : BitVec 32 := Scalar.minsi c3_i32_3777 v3185
  let v3187 : BitVec 32 := Scalar.addi c0_i32_3778 v3186
  let c256_i32_3779 : BitVec 32 := 256#32
  let v3188 : BitVec 32 := Scalar.muli v3187 c256_i32_3779
  let c2048_i32 : BitVec 32 := 2048#32
  ![v3188.toNat, 2048]
def k0_cond417 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3820 : BitVec 32 := 2#32
  let v3214 : BitVec 1 := Scalar.cmpi .sge v5 c2_i32_3820
  let c3_i32_3821 : BitVec 32 := 3#32
  let v3215 : BitVec 1 := Scalar.cmpi .slt v5 c3_i32_3821
  let v3216 : BitVec 1 := Scalar.andi v3214 v3215
  let v3920 : BitVec 32 := Scalar.extui v3216
  let c0_i32_5412 : BitVec 32 := 0#32
  let v3921 : BitVec 1 := Scalar.cmpi .ne v3920 c0_i32_5412
  v3921

def k0_off412 (d0 : Dev nD) : Fin 2 → Nat :=
  let c4_i32_3825 : BitVec 32 := 4#32
  let c3_i32_3824 : BitVec 32 := 3#32
  let c0_i32_3823 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3822 : BitVec 32 := 2#32
  let v3217 : BitVec 32 := Scalar.subi v5 c2_i32_3822
  let v3218 : BitVec 32 := Scalar.maxsi c0_i32_3823 v3217
  let v3219 : BitVec 32 := Scalar.minsi c3_i32_3824 v3218
  let v3220 : BitVec 32 := Scalar.muli c4_i32_3825 v3219
  let c1_i32_3826 : BitVec 32 := 1#32
  let v3221 : BitVec 32 := Scalar.addi v3220 c1_i32_3826
  let c256_i32_3827 : BitVec 32 := 256#32
  let v3222 : BitVec 32 := Scalar.muli v3221 c256_i32_3827
  let c0_i32_5491 : BitVec 32 := 0#32
  ![v3222.toNat, 0]
def k0_cond418 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3836 : BitVec 32 := 1#32
  let v3226 : BitVec 1 := Scalar.cmpi .sle v5 c1_i32_3836
  let c0_i32_3837 : BitVec 32 := 0#32
  let v3227 : BitVec 1 := Scalar.cmpi .sgt v5 c0_i32_3837
  let v3228 : BitVec 1 := Scalar.andi v3226 v3227
  let v3922 : BitVec 32 := Scalar.extui v3228
  let c0_i32_5419 : BitVec 32 := 0#32
  let v3923 : BitVec 1 := Scalar.cmpi .ne v3922 c0_i32_5419
  v3923

def k0_off413 (d0 : Dev nD) : Fin 2 → Nat :=
  let c4_i32_3841 : BitVec 32 := 4#32
  let c3_i32_3840 : BitVec 32 := 3#32
  let c0_i32_3839 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3838 : BitVec 32 := 2#32
  let v3229 : BitVec 32 := Scalar.addi v5 c2_i32_3838
  let v3230 : BitVec 32 := Scalar.maxsi c0_i32_3839 v3229
  let v3231 : BitVec 32 := Scalar.minsi c3_i32_3840 v3230
  let v3232 : BitVec 32 := Scalar.muli c4_i32_3841 v3231
  let c1_i32_3842 : BitVec 32 := 1#32
  let v3233 : BitVec 32 := Scalar.addi v3232 c1_i32_3842
  let c256_i32_3843 : BitVec 32 := 256#32
  let v3234 : BitVec 32 := Scalar.muli v3233 c256_i32_3843
  let c0_i32_5491 : BitVec 32 := 0#32
  ![v3234.toNat, 0]
def k0_cond419 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3882 : BitVec 32 := 2#32
  let v3258 : BitVec 1 := Scalar.cmpi .sge v8 c2_i32_3882
  let c3_i32_3883 : BitVec 32 := 3#32
  let v3259 : BitVec 1 := Scalar.cmpi .slt v8 c3_i32_3883
  let v3260 : BitVec 1 := Scalar.andi v3258 v3259
  let v3924 : BitVec 32 := Scalar.extui v3260
  let c0_i32_5426 : BitVec 32 := 0#32
  let v3925 : BitVec 1 := Scalar.cmpi .ne v3924 c0_i32_5426
  v3925

def k0_off414 (d0 : Dev nD) : Fin 2 → Nat :=
  let c4_i32_3887 : BitVec 32 := 4#32
  let c3_i32_3886 : BitVec 32 := 3#32
  let c0_i32_3885 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3884 : BitVec 32 := 2#32
  let v3261 : BitVec 32 := Scalar.subi v8 c2_i32_3884
  let v3262 : BitVec 32 := Scalar.maxsi c0_i32_3885 v3261
  let v3263 : BitVec 32 := Scalar.minsi c3_i32_3886 v3262
  let v3264 : BitVec 32 := Scalar.addi c4_i32_3887 v3263
  let c256_i32_3888 : BitVec 32 := 256#32
  let v3265 : BitVec 32 := Scalar.muli v3264 c256_i32_3888
  let c2048_i32 : BitVec 32 := 2048#32
  ![v3265.toNat, 2048]
def k0_cond420 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3897 : BitVec 32 := 1#32
  let v3269 : BitVec 1 := Scalar.cmpi .sle v8 c1_i32_3897
  let c0_i32_3898 : BitVec 32 := 0#32
  let v3270 : BitVec 1 := Scalar.cmpi .sgt v8 c0_i32_3898
  let v3271 : BitVec 1 := Scalar.andi v3269 v3270
  let v3926 : BitVec 32 := Scalar.extui v3271
  let c0_i32_5433 : BitVec 32 := 0#32
  let v3927 : BitVec 1 := Scalar.cmpi .ne v3926 c0_i32_5433
  v3927

def k0_off415 (d0 : Dev nD) : Fin 2 → Nat :=
  let c4_i32_3902 : BitVec 32 := 4#32
  let c3_i32_3901 : BitVec 32 := 3#32
  let c0_i32_3900 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3899 : BitVec 32 := 2#32
  let v3272 : BitVec 32 := Scalar.addi v8 c2_i32_3899
  let v3273 : BitVec 32 := Scalar.maxsi c0_i32_3900 v3272
  let v3274 : BitVec 32 := Scalar.minsi c3_i32_3901 v3273
  let v3275 : BitVec 32 := Scalar.addi c4_i32_3902 v3274
  let c256_i32_3903 : BitVec 32 := 256#32
  let v3276 : BitVec 32 := Scalar.muli v3275 c256_i32_3903
  let c2048_i32 : BitVec 32 := 2048#32
  ![v3276.toNat, 2048]
def k0_cond421 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3944 : BitVec 32 := 2#32
  let v3302 : BitVec 1 := Scalar.cmpi .sge v5 c2_i32_3944
  let c3_i32_3945 : BitVec 32 := 3#32
  let v3303 : BitVec 1 := Scalar.cmpi .slt v5 c3_i32_3945
  let v3304 : BitVec 1 := Scalar.andi v3302 v3303
  let v3928 : BitVec 32 := Scalar.extui v3304
  let c0_i32_5440 : BitVec 32 := 0#32
  let v3929 : BitVec 1 := Scalar.cmpi .ne v3928 c0_i32_5440
  v3929

def k0_off416 (d0 : Dev nD) : Fin 2 → Nat :=
  let c4_i32_3949 : BitVec 32 := 4#32
  let c3_i32_3948 : BitVec 32 := 3#32
  let c0_i32_3947 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3946 : BitVec 32 := 2#32
  let v3305 : BitVec 32 := Scalar.subi v5 c2_i32_3946
  let v3306 : BitVec 32 := Scalar.maxsi c0_i32_3947 v3305
  let v3307 : BitVec 32 := Scalar.minsi c3_i32_3948 v3306
  let v3308 : BitVec 32 := Scalar.muli c4_i32_3949 v3307
  let c2_i32_3950 : BitVec 32 := 2#32
  let v3309 : BitVec 32 := Scalar.addi v3308 c2_i32_3950
  let c256_i32_3951 : BitVec 32 := 256#32
  let v3310 : BitVec 32 := Scalar.muli v3309 c256_i32_3951
  let c0_i32_5491 : BitVec 32 := 0#32
  ![v3310.toNat, 0]
def k0_cond422 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3960 : BitVec 32 := 1#32
  let v3314 : BitVec 1 := Scalar.cmpi .sle v5 c1_i32_3960
  let c0_i32_3961 : BitVec 32 := 0#32
  let v3315 : BitVec 1 := Scalar.cmpi .sgt v5 c0_i32_3961
  let v3316 : BitVec 1 := Scalar.andi v3314 v3315
  let v3930 : BitVec 32 := Scalar.extui v3316
  let c0_i32_5447 : BitVec 32 := 0#32
  let v3931 : BitVec 1 := Scalar.cmpi .ne v3930 c0_i32_5447
  v3931

def k0_off417 (d0 : Dev nD) : Fin 2 → Nat :=
  let c4_i32_3965 : BitVec 32 := 4#32
  let c3_i32_3964 : BitVec 32 := 3#32
  let c0_i32_3963 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3962 : BitVec 32 := 2#32
  let v3317 : BitVec 32 := Scalar.addi v5 c2_i32_3962
  let v3318 : BitVec 32 := Scalar.maxsi c0_i32_3963 v3317
  let v3319 : BitVec 32 := Scalar.minsi c3_i32_3964 v3318
  let v3320 : BitVec 32 := Scalar.muli c4_i32_3965 v3319
  let c2_i32_3966 : BitVec 32 := 2#32
  let v3321 : BitVec 32 := Scalar.addi v3320 c2_i32_3966
  let c256_i32_3967 : BitVec 32 := 256#32
  let v3322 : BitVec 32 := Scalar.muli v3321 c256_i32_3967
  let c0_i32_5491 : BitVec 32 := 0#32
  ![v3322.toNat, 0]
def k0_cond423 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4006 : BitVec 32 := 2#32
  let v3346 : BitVec 1 := Scalar.cmpi .sge v8 c2_i32_4006
  let c3_i32_4007 : BitVec 32 := 3#32
  let v3347 : BitVec 1 := Scalar.cmpi .slt v8 c3_i32_4007
  let v3348 : BitVec 1 := Scalar.andi v3346 v3347
  let v3932 : BitVec 32 := Scalar.extui v3348
  let c0_i32_5454 : BitVec 32 := 0#32
  let v3933 : BitVec 1 := Scalar.cmpi .ne v3932 c0_i32_5454
  v3933

def k0_off418 (d0 : Dev nD) : Fin 2 → Nat :=
  let c8_i32_4011 : BitVec 32 := 8#32
  let c3_i32_4010 : BitVec 32 := 3#32
  let c0_i32_4009 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4008 : BitVec 32 := 2#32
  let v3349 : BitVec 32 := Scalar.subi v8 c2_i32_4008
  let v3350 : BitVec 32 := Scalar.maxsi c0_i32_4009 v3349
  let v3351 : BitVec 32 := Scalar.minsi c3_i32_4010 v3350
  let v3352 : BitVec 32 := Scalar.addi c8_i32_4011 v3351
  let c256_i32_4012 : BitVec 32 := 256#32
  let v3353 : BitVec 32 := Scalar.muli v3352 c256_i32_4012
  let c2048_i32 : BitVec 32 := 2048#32
  ![v3353.toNat, 2048]
def k0_cond424 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4021 : BitVec 32 := 1#32
  let v3357 : BitVec 1 := Scalar.cmpi .sle v8 c1_i32_4021
  let c0_i32_4022 : BitVec 32 := 0#32
  let v3358 : BitVec 1 := Scalar.cmpi .sgt v8 c0_i32_4022
  let v3359 : BitVec 1 := Scalar.andi v3357 v3358
  let v3934 : BitVec 32 := Scalar.extui v3359
  let c0_i32_5461 : BitVec 32 := 0#32
  let v3935 : BitVec 1 := Scalar.cmpi .ne v3934 c0_i32_5461
  v3935

def k0_off419 (d0 : Dev nD) : Fin 2 → Nat :=
  let c8_i32_4026 : BitVec 32 := 8#32
  let c3_i32_4025 : BitVec 32 := 3#32
  let c0_i32_4024 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4023 : BitVec 32 := 2#32
  let v3360 : BitVec 32 := Scalar.addi v8 c2_i32_4023
  let v3361 : BitVec 32 := Scalar.maxsi c0_i32_4024 v3360
  let v3362 : BitVec 32 := Scalar.minsi c3_i32_4025 v3361
  let v3363 : BitVec 32 := Scalar.addi c8_i32_4026 v3362
  let c256_i32_4027 : BitVec 32 := 256#32
  let v3364 : BitVec 32 := Scalar.muli v3363 c256_i32_4027
  let c2048_i32 : BitVec 32 := 2048#32
  ![v3364.toNat, 2048]
def k0_cond425 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4068 : BitVec 32 := 2#32
  let v3390 : BitVec 1 := Scalar.cmpi .sge v5 c2_i32_4068
  let c3_i32_4069 : BitVec 32 := 3#32
  let v3391 : BitVec 1 := Scalar.cmpi .slt v5 c3_i32_4069
  let v3392 : BitVec 1 := Scalar.andi v3390 v3391
  let v3936 : BitVec 32 := Scalar.extui v3392
  let c0_i32_5468 : BitVec 32 := 0#32
  let v3937 : BitVec 1 := Scalar.cmpi .ne v3936 c0_i32_5468
  v3937

def k0_off420 (d0 : Dev nD) : Fin 2 → Nat :=
  let c4_i32_4073 : BitVec 32 := 4#32
  let c3_i32_4072 : BitVec 32 := 3#32
  let c0_i32_4071 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4070 : BitVec 32 := 2#32
  let v3393 : BitVec 32 := Scalar.subi v5 c2_i32_4070
  let v3394 : BitVec 32 := Scalar.maxsi c0_i32_4071 v3393
  let v3395 : BitVec 32 := Scalar.minsi c3_i32_4072 v3394
  let v3396 : BitVec 32 := Scalar.muli c4_i32_4073 v3395
  let c3_i32_4074 : BitVec 32 := 3#32
  let v3397 : BitVec 32 := Scalar.addi v3396 c3_i32_4074
  let c256_i32_4075 : BitVec 32 := 256#32
  let v3398 : BitVec 32 := Scalar.muli v3397 c256_i32_4075
  let c0_i32_5491 : BitVec 32 := 0#32
  ![v3398.toNat, 0]
def k0_cond426 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4084 : BitVec 32 := 1#32
  let v3402 : BitVec 1 := Scalar.cmpi .sle v5 c1_i32_4084
  let c0_i32_4085 : BitVec 32 := 0#32
  let v3403 : BitVec 1 := Scalar.cmpi .sgt v5 c0_i32_4085
  let v3404 : BitVec 1 := Scalar.andi v3402 v3403
  let v3938 : BitVec 32 := Scalar.extui v3404
  let c0_i32_5475 : BitVec 32 := 0#32
  let v3939 : BitVec 1 := Scalar.cmpi .ne v3938 c0_i32_5475
  v3939

def k0_off421 (d0 : Dev nD) : Fin 2 → Nat :=
  let c4_i32_4089 : BitVec 32 := 4#32
  let c3_i32_4088 : BitVec 32 := 3#32
  let c0_i32_4087 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4086 : BitVec 32 := 2#32
  let v3405 : BitVec 32 := Scalar.addi v5 c2_i32_4086
  let v3406 : BitVec 32 := Scalar.maxsi c0_i32_4087 v3405
  let v3407 : BitVec 32 := Scalar.minsi c3_i32_4088 v3406
  let v3408 : BitVec 32 := Scalar.muli c4_i32_4089 v3407
  let c3_i32_4090 : BitVec 32 := 3#32
  let v3409 : BitVec 32 := Scalar.addi v3408 c3_i32_4090
  let c256_i32_4091 : BitVec 32 := 256#32
  let v3410 : BitVec 32 := Scalar.muli v3409 c256_i32_4091
  let c0_i32_5491 : BitVec 32 := 0#32
  ![v3410.toNat, 0]
def k0_cond427 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4130 : BitVec 32 := 2#32
  let v3434 : BitVec 1 := Scalar.cmpi .sge v8 c2_i32_4130
  let c3_i32_4131 : BitVec 32 := 3#32
  let v3435 : BitVec 1 := Scalar.cmpi .slt v8 c3_i32_4131
  let v3436 : BitVec 1 := Scalar.andi v3434 v3435
  let v3940 : BitVec 32 := Scalar.extui v3436
  let c0_i32_5482 : BitVec 32 := 0#32
  let v3941 : BitVec 1 := Scalar.cmpi .ne v3940 c0_i32_5482
  v3941

def k0_off422 (d0 : Dev nD) : Fin 2 → Nat :=
  let c12_i32_4135 : BitVec 32 := 12#32
  let c3_i32_4134 : BitVec 32 := 3#32
  let c0_i32_4133 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4132 : BitVec 32 := 2#32
  let v3437 : BitVec 32 := Scalar.subi v8 c2_i32_4132
  let v3438 : BitVec 32 := Scalar.maxsi c0_i32_4133 v3437
  let v3439 : BitVec 32 := Scalar.minsi c3_i32_4134 v3438
  let v3440 : BitVec 32 := Scalar.addi c12_i32_4135 v3439
  let c256_i32_4136 : BitVec 32 := 256#32
  let v3441 : BitVec 32 := Scalar.muli v3440 c256_i32_4136
  let c2048_i32 : BitVec 32 := 2048#32
  ![v3441.toNat, 2048]
def k0_cond428 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4145 : BitVec 32 := 1#32
  let v3445 : BitVec 1 := Scalar.cmpi .sle v8 c1_i32_4145
  let c0_i32_4146 : BitVec 32 := 0#32
  let v3446 : BitVec 1 := Scalar.cmpi .sgt v8 c0_i32_4146
  let v3447 : BitVec 1 := Scalar.andi v3445 v3446
  let v3942 : BitVec 32 := Scalar.extui v3447
  let c0_i32_5489 : BitVec 32 := 0#32
  let v3943 : BitVec 1 := Scalar.cmpi .ne v3942 c0_i32_5489
  v3943

def k0_off423 (d0 : Dev nD) : Fin 2 → Nat :=
  let c12_i32_4150 : BitVec 32 := 12#32
  let c3_i32_4149 : BitVec 32 := 3#32
  let c0_i32_4148 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4147 : BitVec 32 := 2#32
  let v3448 : BitVec 32 := Scalar.addi v8 c2_i32_4147
  let v3449 : BitVec 32 := Scalar.maxsi c0_i32_4148 v3448
  let v3450 : BitVec 32 := Scalar.minsi c3_i32_4149 v3449
  let v3451 : BitVec 32 := Scalar.addi c12_i32_4150 v3450
  let c256_i32_4151 : BitVec 32 := 256#32
  let v3452 : BitVec 32 := Scalar.muli v3451 c256_i32_4151
  let c2048_i32 : BitVec 32 := 2048#32
  ![v3452.toNat, 2048]
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Net.lean ====
/-
# The network side of the all-reduce: who sends which block to whom, and in which order

The mesh is 2 × 4 × 4; device `c` sits at `(X, Y, Z)` with `c = 16 X + 4 Y + Z`. The result array has sixteen
row blocks of 256 rows, each cut into two column halves: 32 regions. Device `(X, Y, Z)` computes row block
`4 Y + Z` and every other region reaches it by neighbour-to-neighbour transfers along the two axes `Y` and `Z`.

Sixty transfers are numbered `q : Fin 60`. Each has one departure semaphore and one arrival semaphore on every
device, each used at most once. `sendOk c q` says that device `c` starts transfer `q`, `recvOk c q` that it
receives one. This file has only arithmetic: coordinates, numbering, the list of operations every device runs
through, and one check, over all 32 devices, that the list keeps to the books.
-/
module

public import proofs.«01_k».proof.Proof.Gen.KernelIdeal.Launch

@[expose] public section

noncomputable section

namespace Cert.DistArLn

open Cert.KernelIdeal Cert.KernelIdeal.Gen
open Idealize.ShloMosaic

/-! ## Coordinates -/

/-- The device's place along the first, second and third mesh axis. -/
def cx (c : Dev nD) : ℕ := c.val / 16
def cy (c : Dev nD) : ℕ := c.val / 4 % 4
def cz (c : Dev nD) : ℕ := c.val % 4

set_option backward.proofsInPublic true in
/-- The device at a place, coordinates taken modulo the axis lengths. -/
def devAt (x y z : ℕ) : Dev nD := ⟨16 * (x % 2) + 4 * (y % 4) + z % 4, by show _ < 32; omega⟩

/-- The neighbour in direction `d`: 0 the other half of the `x` axis, 1 and 2 down and up the `y` axis, 3 and 4 down
    and up the `z` axis (wrapping around, where the kernel never goes: `hasNb`). -/
def nb (d : Fin 5) (c : Dev nD) : Dev nD := match d with
  | 0 => devAt (cx c + 1) (cy c) (cz c)
  | 1 => devAt (cx c) (cy c + 3) (cz c)
  | 2 => devAt (cx c) (cy c + 1) (cz c)
  | 3 => devAt (cx c) (cy c) (cz c + 3)
  | 4 => devAt (cx c) (cy c) (cz c + 1)
/-- Whether device `c` has a neighbour in direction `d`. -/
def hasNb (d : Fin 5) (c : Dev nD) : Bool := match d with
  | 0 => true | 1 => 0 < cy c | 2 => cy c < 3 | 3 => 0 < cz c | 4 => cz c < 3
/-- The opposite direction. -/
def opp (d : Fin 5) : Fin 5 := match d with | 0 => 0 | 1 => 2 | 2 => 1 | 3 => 4 | 4 => 3

theorem opp_opp (d : Fin 5) : opp (opp d) = d := by revert d; decide
theorem nb_opp (d : Fin 5) (c : Dev nD) : nb (opp d) (nb d c) = c := by revert d c; decide +kernel
theorem nb_opp' (d : Fin 5) (c : Dev nD) : nb d (nb (opp d) c) = c := by revert d c; decide +kernel
theorem hasNb_opp (d : Fin 5) (c : Dev nD) : hasNb (opp d) (nb d c) = hasNb d c := by revert d c; decide +kernel

/-- How many neighbours a device has: what its barrier counts to. -/
def deg (c : Dev nD) : ℕ := (Finset.univ.filter fun d => hasNb d c = true).card

/-! ## The transfers -/

/-- Phase of a transfer: 0 and 1 carry a half row block along its own axis, 2 and 3 pass what phases 0 and 1 brought
    along the other axis. -/
def phase (q : Fin 60) : ℕ := if q.val < 6 then 0 else if q.val < 12 then 1 else if q.val < 36 then 2 else 3
/-- Index of the transfer inside its phase. -/
def inPhase (q : Fin 60) : ℕ :=
  if q.val < 6 then q.val else if q.val < 12 then q.val - 6 else if q.val < 36 then q.val - 12 else q.val - 36
/-- Direction bit: 0 up the axis, 1 down. -/
def down (q : Fin 60) : ℕ := if phase q < 2 then inPhase q / 3 else inPhase q / 12
/-- Hop number. -/
def hop (q : Fin 60) : ℕ := if phase q < 2 then inPhase q % 3 else inPhase q % 12 / 4
/-- The cross index of a transfer of phases 2 and 3: which block of the other axis is passed on. -/
def chan (q : Fin 60) : ℕ := if phase q < 2 then 0 else inPhase q % 4
/-- Whether the transfer runs along the `z` axis. -/
def alongZ (q : Fin 60) : Bool := phase q = 0 ∨ phase q = 3
/-- The device's place along the transfer's axis, and along the other. -/
def pos (c : Dev nD) (q : Fin 60) : ℕ := if alongZ q then cz c else cy c
def cross (c : Dev nD) (q : Fin 60) : ℕ := if alongZ q then cy c else cz c

set_option backward.proofsInPublic true in
/-- The region of row block and half met at place `b` of the transfer's axis. -/
def regAt (c : Dev nD) (q : Fin 60) (b : ℕ) : Fin 32 :=
  ⟨(match phase q with
    | 0 => 4 * cy c + b
    | 1 => 16 + (4 * b + cz c)
    | 2 => 4 * b + chan q
    | _ => 16 + (4 * chan q + b)) % 32, Nat.mod_lt _ (by decide)⟩

/-- Device `c` starts transfer `q`; the region it sends. -/
def sendOk (c : Dev nD) (q : Fin 60) : Bool :=
  if down q = 0 then hop q ≤ pos c q ∧ pos c q < 3 else pos c q + hop q ≤ 3 ∧ 0 < pos c q
def sreg (c : Dev nD) (q : Fin 60) : Fin 32 := regAt c q (if down q = 0 then pos c q - hop q else pos c q + hop q)
/-- Device `c` receives transfer `q`; the region it receives. -/
def recvOk (c : Dev nD) (q : Fin 60) : Bool :=
  if down q = 0 then hop q + 1 ≤ pos c q else pos c q + hop q ≤ 2
def rreg (c : Dev nD) (q : Fin 60) : Fin 32 := regAt c q (if down q = 0 then pos c q - 1 - hop q else pos c q + 1 + hop q)

/-- The direction of a transfer and the device it goes to. -/
def dirOf (q : Fin 60) : Fin 5 := if alongZ q then (if down q = 0 then 4 else 3) else (if down q = 0 then 2 else 1)
def nbr (c : Dev nD) (q : Fin 60) : Dev nD := nb (dirOf q) c

set_option backward.proofsInPublic true in
/-- Which quarter of the read right on a region the transfer carries: at most one transfer of each (axis, direction)
    sends a given region. -/
def quarter (q : Fin 60) : Fin 4 := ⟨(2 * (phase q / 2) + down q) % 4, Nat.mod_lt _ (by decide)⟩

/-- The row block device `c` computes. -/
def ownBlk (c : Dev nD) : ℕ := 4 * cy c + cz c

theorem recvOk_nbr (c : Dev nD) (q : Fin 60) : recvOk (nbr c q) q = sendOk c q := by revert c q; decide +kernel
theorem rreg_nbr (c : Dev nD) (q : Fin 60) : sendOk c q = true → rreg (nbr c q) q = sreg c q := by revert c q; decide +kernel
theorem hasNb_of_send (c : Dev nD) (q : Fin 60) : sendOk c q = true → hasNb (dirOf q) c = true := by revert c q; decide +kernel
theorem dirOf_ne (q : Fin 60) : dirOf q ≠ 0 := by revert q; decide +kernel
theorem cx_nbr (c : Dev nD) (q : Fin 60) : cx (nbr c q) = cx c := by revert c q; decide +kernel

/-- The transfer that brings region `r` to device `c`; none for the device's own regions. -/
def bringer (c : Dev nD) (r : Fin 32) : Option (Fin 60) :=
  ((List.finRange 60).find? fun q => recvOk c q && decide (rreg c q = r))
/-- Every region is either the device's own or brought by exactly one transfer. -/
theorem bringer_iff (c : Dev nD) (q : Fin 60) (r : Fin 32) :
    bringer c r = some q ↔ (recvOk c q = true ∧ rreg c q = r) := by revert r q c; decide +kernel
theorem bringer_none (c : Dev nD) (r : Fin 32) : bringer c r = none ↔ r.val % 16 = ownBlk c := by revert r c; decide +kernel

/-! ## The semaphores -/

set_option backward.proofsInPublic true in
/-- Departure semaphore of transfer `q`. -/
def sendSem (q : Fin 60) : DmaSem sig :=
  ⟨(if phase q = 0 then 8 else if phase q = 1 then 20 else if phase q = 2 then 32 else 80) + inPhase q,
    by revert q; decide +kernel⟩
set_option backward.proofsInPublic true in
/-- Arrival semaphore of transfer `q`. -/
def recvSem (q : Fin 60) : DmaSem sig :=
  ⟨(if phase q = 0 then 14 else if phase q = 1 then 26 else if phase q = 2 then 56 else 104) + inPhase q,
    by revert q; decide +kernel⟩

/-! ## The operations -/

/-- Start a transfer, wait for its arrival, wait for its departure. -/
inductive Kind | send | recv | gone
  deriving DecidableEq

/-- One guarded operation of the kernel: its kind, its transfer, and, where the kernel restricts it, the distance the
    cross index must have from the device's own place. -/
structure Op where
  kind : Kind
  q : Fin 60
  dist : Option ℕ

/-- The distance between the transfer's cross index and the device's place on that axis. -/
def away (c : Dev nD) (q : Fin 60) : ℕ := (chan q - cross c q) + (cross c q - chan q)

/-- Whether device `c` carries the operation out. -/
def active (c : Dev nD) (o : Op) : Bool :=
  (match o.kind with | .recv => recvOk c o.q | _ => sendOk c o.q)
    && (match o.dist with | none => true | some d => away c o.q == d)

/-- The departures of the rest. -/
def drain2 : List Op :=
  ⟨.gone, 38, some 2⟩ :: ⟨.gone, 50, some 2⟩ :: ⟨.gone, 39, some 2⟩ :: ⟨.gone, 51, some 2⟩ :: ⟨.gone, 16, some 1⟩ :: ⟨.gone, 28, some 1⟩ ::
  ⟨.gone, 40, some 1⟩ :: ⟨.gone, 52, some 1⟩ :: ⟨.gone, 17, some 1⟩ :: ⟨.gone, 29, some 1⟩ :: ⟨.gone, 41, some 1⟩ :: ⟨.gone, 53, some 1⟩ ::
  ⟨.gone, 18, some 1⟩ :: ⟨.gone, 30, some 1⟩ :: ⟨.gone, 42, some 1⟩ :: ⟨.gone, 54, some 1⟩ :: ⟨.gone, 19, some 1⟩ :: ⟨.gone, 31, some 1⟩ ::
  ⟨.gone, 43, some 1⟩ :: ⟨.gone, 55, some 1⟩ :: ⟨.gone, 12, some 3⟩ :: ⟨.gone, 24, some 3⟩ :: ⟨.gone, 13, some 3⟩ :: ⟨.gone, 25, some 3⟩ ::
  ⟨.gone, 14, some 3⟩ :: ⟨.gone, 26, some 3⟩ :: ⟨.gone, 15, some 3⟩ :: ⟨.gone, 27, some 3⟩ :: ⟨.gone, 36, some 3⟩ :: ⟨.gone, 48, some 3⟩ ::
  ⟨.gone, 37, some 3⟩ :: ⟨.gone, 49, some 3⟩ :: ⟨.gone, 38, some 3⟩ :: ⟨.gone, 50, some 3⟩ :: ⟨.gone, 39, some 3⟩ :: ⟨.gone, 51, some 3⟩ ::
  ⟨.gone, 16, some 2⟩ :: ⟨.gone, 28, some 2⟩ :: ⟨.gone, 40, some 2⟩ :: ⟨.gone, 52, some 2⟩ :: ⟨.gone, 17, some 2⟩ :: ⟨.gone, 29, some 2⟩ ::
  ⟨.gone, 41, some 2⟩ :: ⟨.gone, 53, some 2⟩ :: ⟨.gone, 18, some 2⟩ :: ⟨.gone, 30, some 2⟩ :: ⟨.gone, 42, some 2⟩ :: ⟨.gone, 54, some 2⟩ ::
  ⟨.gone, 19, some 2⟩ :: ⟨.gone, 31, some 2⟩ :: ⟨.gone, 43, some 2⟩ :: ⟨.gone, 55, some 2⟩ :: ⟨.gone, 16, some 3⟩ :: ⟨.gone, 28, some 3⟩ ::
  ⟨.gone, 40, some 3⟩ :: ⟨.gone, 52, some 3⟩ :: ⟨.gone, 17, some 3⟩ :: ⟨.gone, 29, some 3⟩ :: ⟨.gone, 41, some 3⟩ :: ⟨.gone, 53, some 3⟩ ::
  ⟨.gone, 18, some 3⟩ :: ⟨.gone, 30, some 3⟩ :: ⟨.gone, 42, some 3⟩ :: ⟨.gone, 54, some 3⟩ :: ⟨.gone, 19, some 3⟩ :: ⟨.gone, 31, some 3⟩ ::
  ⟨.gone, 43, some 3⟩ :: ⟨.gone, 55, some 3⟩ :: ⟨.gone, 20, none⟩ :: ⟨.gone, 32, none⟩ :: ⟨.gone, 44, none⟩ :: ⟨.gone, 56, none⟩ ::
  ⟨.gone, 21, none⟩ :: ⟨.gone, 33, none⟩ :: ⟨.gone, 45, none⟩ :: ⟨.gone, 57, none⟩ :: ⟨.gone, 22, none⟩ :: ⟨.gone, 34, none⟩ ::
  ⟨.gone, 46, none⟩ :: ⟨.gone, 58, none⟩ :: ⟨.gone, 23, none⟩ :: ⟨.gone, 35, none⟩ :: ⟨.gone, 47, none⟩ :: ⟨.gone, 59, none⟩ :: []

/-- The departures of the transfers started first. -/
def drain1 : List Op :=
  ⟨.gone, 0, none⟩ :: ⟨.gone, 3, none⟩ :: ⟨.gone, 6, none⟩ :: ⟨.gone, 9, none⟩ :: ⟨.gone, 12, some 0⟩ :: ⟨.gone, 24, some 0⟩ ::
  ⟨.gone, 36, some 0⟩ :: ⟨.gone, 48, some 0⟩ :: ⟨.gone, 13, some 0⟩ :: ⟨.gone, 25, some 0⟩ :: ⟨.gone, 37, some 0⟩ :: ⟨.gone, 49, some 0⟩ ::
  ⟨.gone, 14, some 0⟩ :: ⟨.gone, 26, some 0⟩ :: ⟨.gone, 38, some 0⟩ :: ⟨.gone, 50, some 0⟩ :: ⟨.gone, 15, some 0⟩ :: ⟨.gone, 27, some 0⟩ ::
  ⟨.gone, 39, some 0⟩ :: ⟨.gone, 51, some 0⟩ :: ⟨.gone, 1, none⟩ :: ⟨.gone, 4, none⟩ :: ⟨.gone, 7, none⟩ :: ⟨.gone, 10, none⟩ ::
  ⟨.gone, 12, some 1⟩ :: ⟨.gone, 24, some 1⟩ :: ⟨.gone, 13, some 1⟩ :: ⟨.gone, 25, some 1⟩ :: ⟨.gone, 14, some 1⟩ :: ⟨.gone, 26, some 1⟩ ::
  ⟨.gone, 15, some 1⟩ :: ⟨.gone, 27, some 1⟩ :: ⟨.gone, 36, some 1⟩ :: ⟨.gone, 48, some 1⟩ :: ⟨.gone, 37, some 1⟩ :: ⟨.gone, 49, some 1⟩ ::
  ⟨.gone, 38, some 1⟩ :: ⟨.gone, 50, some 1⟩ :: ⟨.gone, 39, some 1⟩ :: ⟨.gone, 51, some 1⟩ :: ⟨.gone, 16, some 0⟩ :: ⟨.gone, 28, some 0⟩ ::
  ⟨.gone, 40, some 0⟩ :: ⟨.gone, 52, some 0⟩ :: ⟨.gone, 17, some 0⟩ :: ⟨.gone, 29, some 0⟩ :: ⟨.gone, 41, some 0⟩ :: ⟨.gone, 53, some 0⟩ ::
  ⟨.gone, 18, some 0⟩ :: ⟨.gone, 30, some 0⟩ :: ⟨.gone, 42, some 0⟩ :: ⟨.gone, 54, some 0⟩ :: ⟨.gone, 19, some 0⟩ :: ⟨.gone, 31, some 0⟩ ::
  ⟨.gone, 43, some 0⟩ :: ⟨.gone, 55, some 0⟩ :: ⟨.gone, 2, none⟩ :: ⟨.gone, 5, none⟩ :: ⟨.gone, 8, none⟩ :: ⟨.gone, 11, none⟩ ::
  ⟨.gone, 12, some 2⟩ :: ⟨.gone, 24, some 2⟩ :: ⟨.gone, 13, some 2⟩ :: ⟨.gone, 25, some 2⟩ :: ⟨.gone, 14, some 2⟩ :: ⟨.gone, 26, some 2⟩ ::
  ⟨.gone, 15, some 2⟩ :: ⟨.gone, 27, some 2⟩ :: ⟨.gone, 36, some 2⟩ :: ⟨.gone, 48, some 2⟩ :: ⟨.gone, 37, some 2⟩ :: ⟨.gone, 49, some 2⟩ :: drain2

/-- The second exchange, last step. -/
def relay2 : List Op :=
  ⟨.recv, 20, none⟩ :: ⟨.recv, 32, none⟩ :: ⟨.recv, 44, none⟩ :: ⟨.recv, 56, none⟩ :: ⟨.recv, 21, none⟩ :: ⟨.recv, 33, none⟩ ::
  ⟨.recv, 45, none⟩ :: ⟨.recv, 57, none⟩ :: ⟨.recv, 22, none⟩ :: ⟨.recv, 34, none⟩ :: ⟨.recv, 46, none⟩ :: ⟨.recv, 58, none⟩ ::
  ⟨.recv, 23, none⟩ :: ⟨.recv, 35, none⟩ :: ⟨.recv, 47, none⟩ :: ⟨.recv, 59, none⟩ :: drain1

/-- The second exchange, second step. -/
def relay1 : List Op :=
  ⟨.recv, 16, none⟩ :: ⟨.recv, 28, none⟩ :: ⟨.send, 20, none⟩ :: ⟨.send, 32, none⟩ :: ⟨.recv, 40, none⟩ :: ⟨.recv, 52, none⟩ ::
  ⟨.send, 44, none⟩ :: ⟨.send, 56, none⟩ :: ⟨.recv, 17, none⟩ :: ⟨.recv, 29, none⟩ :: ⟨.send, 21, none⟩ :: ⟨.send, 33, none⟩ ::
  ⟨.recv, 41, none⟩ :: ⟨.recv, 53, none⟩ :: ⟨.send, 45, none⟩ :: ⟨.send, 57, none⟩ :: ⟨.recv, 18, none⟩ :: ⟨.recv, 30, none⟩ ::
  ⟨.send, 22, none⟩ :: ⟨.send, 34, none⟩ :: ⟨.recv, 42, none⟩ :: ⟨.recv, 54, none⟩ :: ⟨.send, 46, none⟩ :: ⟨.send, 58, none⟩ ::
  ⟨.recv, 19, none⟩ :: ⟨.recv, 31, none⟩ :: ⟨.send, 23, none⟩ :: ⟨.send, 35, none⟩ :: ⟨.recv, 43, none⟩ :: ⟨.recv, 55, none⟩ ::
  ⟨.send, 47, none⟩ :: ⟨.send, 59, none⟩ :: relay2

/-- Hop 3: only the second exchange still runs. -/
def hop3 : List Op :=
  ⟨.recv, 12, some 3⟩ :: ⟨.recv, 24, some 3⟩ :: ⟨.send, 16, some 3⟩ :: ⟨.send, 28, some 3⟩ :: ⟨.recv, 36, some 3⟩ :: ⟨.recv, 48, some 3⟩ ::
  ⟨.send, 40, some 3⟩ :: ⟨.send, 52, some 3⟩ :: ⟨.recv, 13, some 3⟩ :: ⟨.recv, 25, some 3⟩ :: ⟨.send, 17, some 3⟩ :: ⟨.send, 29, some 3⟩ ::
  ⟨.recv, 37, some 3⟩ :: ⟨.recv, 49, some 3⟩ :: ⟨.send, 41, some 3⟩ :: ⟨.send, 53, some 3⟩ :: ⟨.recv, 14, some 3⟩ :: ⟨.recv, 26, some 3⟩ ::
  ⟨.send, 18, some 3⟩ :: ⟨.send, 30, some 3⟩ :: ⟨.recv, 38, some 3⟩ :: ⟨.recv, 50, some 3⟩ :: ⟨.send, 42, some 3⟩ :: ⟨.send, 54, some 3⟩ ::
  ⟨.recv, 15, some 3⟩ :: ⟨.recv, 27, some 3⟩ :: ⟨.send, 19, some 3⟩ :: ⟨.send, 31, some 3⟩ :: ⟨.recv, 39, some 3⟩ :: ⟨.recv, 51, some 3⟩ ::
  ⟨.send, 43, some 3⟩ :: ⟨.send, 55, some 3⟩ :: relay1

/-- Hop 2. -/
def hop2 : List Op :=
  ⟨.recv, 2, none⟩ :: ⟨.recv, 5, none⟩ :: ⟨.recv, 8, none⟩ :: ⟨.recv, 11, none⟩ :: ⟨.send, 12, some 3⟩ :: ⟨.send, 24, some 3⟩ ::
  ⟨.send, 13, some 3⟩ :: ⟨.send, 25, some 3⟩ :: ⟨.send, 14, some 3⟩ :: ⟨.send, 26, some 3⟩ :: ⟨.send, 15, some 3⟩ :: ⟨.send, 27, some 3⟩ ::
  ⟨.send, 36, some 3⟩ :: ⟨.send, 48, some 3⟩ :: ⟨.send, 37, some 3⟩ :: ⟨.send, 49, some 3⟩ :: ⟨.send, 38, some 3⟩ :: ⟨.send, 50, some 3⟩ ::
  ⟨.send, 39, some 3⟩ :: ⟨.send, 51, some 3⟩ :: ⟨.recv, 12, some 2⟩ :: ⟨.recv, 24, some 2⟩ :: ⟨.send, 16, some 2⟩ :: ⟨.send, 28, some 2⟩ ::
  ⟨.recv, 36, some 2⟩ :: ⟨.recv, 48, some 2⟩ :: ⟨.send, 40, some 2⟩ :: ⟨.send, 52, some 2⟩ :: ⟨.recv, 13, some 2⟩ :: ⟨.recv, 25, some 2⟩ ::
  ⟨.send, 17, some 2⟩ :: ⟨.send, 29, some 2⟩ :: ⟨.recv, 37, some 2⟩ :: ⟨.recv, 49, some 2⟩ :: ⟨.send, 41, some 2⟩ :: ⟨.send, 53, some 2⟩ ::
  ⟨.recv, 14, some 2⟩ :: ⟨.recv, 26, some 2⟩ :: ⟨.send, 18, some 2⟩ :: ⟨.send, 30, some 2⟩ :: ⟨.recv, 38, some 2⟩ :: ⟨.recv, 50, some 2⟩ ::
  ⟨.send, 42, some 2⟩ :: ⟨.send, 54, some 2⟩ :: ⟨.recv, 15, some 2⟩ :: ⟨.recv, 27, some 2⟩ :: ⟨.send, 19, some 2⟩ :: ⟨.send, 31, some 2⟩ ::
  ⟨.recv, 39, some 2⟩ :: ⟨.recv, 51, some 2⟩ :: ⟨.send, 43, some 2⟩ :: ⟨.send, 55, some 2⟩ :: hop3

/-- Hop 1. -/
def hop1 : List Op :=
  ⟨.recv, 1, none⟩ :: ⟨.recv, 4, none⟩ :: ⟨.recv, 7, none⟩ :: ⟨.recv, 10, none⟩ :: ⟨.send, 2, none⟩ :: ⟨.send, 5, none⟩ ::
  ⟨.send, 8, none⟩ :: ⟨.send, 11, none⟩ :: ⟨.send, 12, some 2⟩ :: ⟨.send, 24, some 2⟩ :: ⟨.send, 13, some 2⟩ :: ⟨.send, 25, some 2⟩ ::
  ⟨.send, 14, some 2⟩ :: ⟨.send, 26, some 2⟩ :: ⟨.send, 15, some 2⟩ :: ⟨.send, 27, some 2⟩ :: ⟨.send, 36, some 2⟩ :: ⟨.send, 48, some 2⟩ ::
  ⟨.send, 37, some 2⟩ :: ⟨.send, 49, some 2⟩ :: ⟨.send, 38, some 2⟩ :: ⟨.send, 50, some 2⟩ :: ⟨.send, 39, some 2⟩ :: ⟨.send, 51, some 2⟩ ::
  ⟨.recv, 12, some 1⟩ :: ⟨.recv, 24, some 1⟩ :: ⟨.send, 16, some 1⟩ :: ⟨.send, 28, some 1⟩ :: ⟨.recv, 36, some 1⟩ :: ⟨.recv, 48, some 1⟩ ::
  ⟨.send, 40, some 1⟩ :: ⟨.send, 52, some 1⟩ :: ⟨.recv, 13, some 1⟩ :: ⟨.recv, 25, some 1⟩ :: ⟨.send, 17, some 1⟩ :: ⟨.send, 29, some 1⟩ ::
  ⟨.recv, 37, some 1⟩ :: ⟨.recv, 49, some 1⟩ :: ⟨.send, 41, some 1⟩ :: ⟨.send, 53, some 1⟩ :: ⟨.recv, 14, some 1⟩ :: ⟨.recv, 26, some 1⟩ ::
  ⟨.send, 18, some 1⟩ :: ⟨.send, 30, some 1⟩ :: ⟨.recv, 38, some 1⟩ :: ⟨.recv, 50, some 1⟩ :: ⟨.send, 42, some 1⟩ :: ⟨.send, 54, some 1⟩ ::
  ⟨.recv, 15, some 1⟩ :: ⟨.recv, 27, some 1⟩ :: ⟨.send, 19, some 1⟩ :: ⟨.send, 31, some 1⟩ :: ⟨.recv, 39, some 1⟩ :: ⟨.recv, 51, some 1⟩ ::
  ⟨.send, 43, some 1⟩ :: ⟨.send, 55, some 1⟩ :: hop2

/-- Hop 0: receive from distance one, pass on, start the column exchange of what has arrived. -/
def hop0 : List Op :=
  ⟨.recv, 0, none⟩ :: ⟨.recv, 3, none⟩ :: ⟨.recv, 6, none⟩ :: ⟨.recv, 9, none⟩ :: ⟨.send, 1, none⟩ :: ⟨.send, 4, none⟩ ::
  ⟨.send, 7, none⟩ :: ⟨.send, 10, none⟩ :: ⟨.send, 12, some 1⟩ :: ⟨.send, 24, some 1⟩ :: ⟨.send, 13, some 1⟩ :: ⟨.send, 25, some 1⟩ ::
  ⟨.send, 14, some 1⟩ :: ⟨.send, 26, some 1⟩ :: ⟨.send, 15, some 1⟩ :: ⟨.send, 27, some 1⟩ :: ⟨.send, 36, some 1⟩ :: ⟨.send, 48, some 1⟩ ::
  ⟨.send, 37, some 1⟩ :: ⟨.send, 49, some 1⟩ :: ⟨.send, 38, some 1⟩ :: ⟨.send, 50, some 1⟩ :: ⟨.send, 39, some 1⟩ :: ⟨.send, 51, some 1⟩ ::
  ⟨.recv, 12, some 0⟩ :: ⟨.recv, 24, some 0⟩ :: ⟨.send, 16, some 0⟩ :: ⟨.send, 28, some 0⟩ :: ⟨.recv, 36, some 0⟩ :: ⟨.recv, 48, some 0⟩ ::
  ⟨.send, 40, some 0⟩ :: ⟨.send, 52, some 0⟩ :: ⟨.recv, 13, some 0⟩ :: ⟨.recv, 25, some 0⟩ :: ⟨.send, 17, some 0⟩ :: ⟨.send, 29, some 0⟩ ::
  ⟨.recv, 37, some 0⟩ :: ⟨.recv, 49, some 0⟩ :: ⟨.send, 41, some 0⟩ :: ⟨.send, 53, some 0⟩ :: ⟨.recv, 14, some 0⟩ :: ⟨.recv, 26, some 0⟩ ::
  ⟨.send, 18, some 0⟩ :: ⟨.send, 30, some 0⟩ :: ⟨.recv, 38, some 0⟩ :: ⟨.recv, 50, some 0⟩ :: ⟨.send, 42, some 0⟩ :: ⟨.send, 54, some 0⟩ ::
  ⟨.recv, 15, some 0⟩ :: ⟨.recv, 27, some 0⟩ :: ⟨.send, 19, some 0⟩ :: ⟨.send, 31, some 0⟩ :: ⟨.recv, 39, some 0⟩ :: ⟨.recv, 51, some 0⟩ ::
  ⟨.send, 43, some 0⟩ :: ⟨.send, 55, some 0⟩ :: hop1

/-- Before the first hop: each device starts the transfers of its own row block. -/
def first : List Op :=
  ⟨.send, 0, none⟩ :: ⟨.send, 3, none⟩ :: ⟨.send, 6, none⟩ :: ⟨.send, 9, none⟩ :: ⟨.send, 12, some 0⟩ :: ⟨.send, 24, some 0⟩ ::
  ⟨.send, 36, some 0⟩ :: ⟨.send, 48, some 0⟩ :: ⟨.send, 13, some 0⟩ :: ⟨.send, 25, some 0⟩ :: ⟨.send, 37, some 0⟩ :: ⟨.send, 49, some 0⟩ ::
  ⟨.send, 14, some 0⟩ :: ⟨.send, 26, some 0⟩ :: ⟨.send, 38, some 0⟩ :: ⟨.send, 50, some 0⟩ :: ⟨.send, 15, some 0⟩ :: ⟨.send, 27, some 0⟩ ::
  ⟨.send, 39, some 0⟩ :: ⟨.send, 51, some 0⟩ :: hop0

/-! ## The books -/

/-- Where a device stands: which transfers it has started (`sent`), which of those have left (`gone`), which arrivals it
    has taken (`got`), and which quarters of which regions it holds (`held`, bit `4 r + k`). -/
structure Book where
  sent : ℕ
  gone : ℕ
  got : ℕ
  held : ℕ

set_option backward.proofsInPublic true in
/-- The bit of quarter `k` of region `r`. -/
def bit (r : Fin 32) (k : Fin 4) : ℕ := 4 * r.val + k.val

/-- How high the arrival of transfer `q` at device `c` stands in the order of waits. -/
def level (c : Dev nD) (q : Fin 60) : ℕ :=
  if phase q < 2 then 10 * hop q + 10
  else if hop q = 0 then 10 * away c q + 15 else 100 * hop q

/-- Whether the operation can be carried out: what it needs is there, and for the wait for an arrival, everything the
    device still has to start stands higher. -/
def legal (c : Dev nD) (s : Book) (o : Op) : Bool := match o.kind with
  | .send => sendOk c o.q && !s.sent.testBit o.q && !s.gone.testBit o.q && s.held.testBit (bit (sreg c o.q) (quarter o.q))
  | .recv => recvOk c o.q && !s.got.testBit o.q
      && (!s.held.testBit (bit (rreg c o.q) 0) && !s.held.testBit (bit (rreg c o.q) 1)
        && !s.held.testBit (bit (rreg c o.q) 2) && !s.held.testBit (bit (rreg c o.q) 3))
      && (List.finRange 60).all fun q' => !sendOk c q' || s.sent.testBit q' || decide (level c o.q < level (nbr c q') q')
  | .gone => sendOk c o.q && s.sent.testBit o.q && !s.gone.testBit o.q && !s.held.testBit (bit (sreg c o.q) (quarter o.q))

/-- The books after the operation. -/
def after (c : Dev nD) (s : Book) (o : Op) : Book := match o.kind with
  | .send => { s with sent := s.sent ||| 2 ^ o.q.val, held := s.held ^^^ 2 ^ bit (sreg c o.q) (quarter o.q) }
  | .recv => { s with got := s.got ||| 2 ^ o.q.val, held := s.held ||| 15 * 2 ^ bit (rreg c o.q) 0 }
  | .gone => { s with gone := s.gone ||| 2 ^ o.q.val, held := s.held ||| 2 ^ bit (sreg c o.q) (quarter o.q) }

/-- The books before the first operation: the device holds its own row block, both halves. -/
def book₀ (c : Dev nD) : Book := ⟨0, 0, 0, 15 * 2 ^ (4 * ownBlk c) + 15 * 2 ^ (4 * (ownBlk c + 16))⟩

/-- At the end: every transfer started has left, every arrival has been taken, every region is held whole. -/
def finished (c : Dev nD) (s : Book) : Bool :=
  ((List.finRange 60).all fun q => (!sendOk c q || (s.sent.testBit q && s.gone.testBit q)) && (!recvOk c q || s.got.testBit q))
    && s.held == 2 ^ 128 - 1

/-- The remaining operations can all be carried out from these books, and finish. -/
def runs (c : Dev nD) : Book → List Op → Bool
  | s, [] => finished c s
  | s, o :: L => bif active c o then legal c s o && runs c (after c s o) L else runs c s L

set_option maxRecDepth 100000 in
/-- Every device can carry the whole list out. -/
theorem runs_all (c : Dev nD) : runs c (book₀ c) first = true := by revert c; decide +kernel

end Cert.DistArLn

end
-- ==== Proof.Sched.lean ====
/-
# The protocol: every semaphore's schedule, with the contents each signal hands over

Each device has one barrier cell, two cells for its local copies, two departure and two arrival cells for the exchange
along `x`, and sixty departure and sixty arrival cells for the transfers of `Net`. Every cell has one round. What a
signal or a landing hands over is stated with its contents: a landed region of the result holds the final result's
values there (`out`), so "region held" and "region correct" are one fact throughout the run.
-/
module

public import proofs.«01_k».proof.Proof.Net
public import proofs.«01_k».proof.Proof.Gen.KernelIdeal.Skeleton
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.DistArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch pipeline's copy and the protocol's, whose duties are named by a direction -/

abbrev UX : Type := URounds (GSem nD τ sig) (Fin 5)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

/-- The memory at launch: arbitrary contents. -/
abbrev Mem (F : FTy → Type) : Type := (ℓ : Loc nD τ sig) → Buf (Elt F) ℓ

/-! ## The buffers -/

abbrev aM : Memref sig .tc .hbm S1x4096x4096 .f32 := Memref.whole main_arg0
abbrev eM : Memref sig .tc .hbm S4096x4096 .f32 := Memref.whole main_arg1
abbrev gM : Memref sig .tc .vmem S4096 .f32 := Memref.whole cc0_stg0_0
abbrev oM : Memref sig .tc .vmem S4096x4096 .bf16 := Memref.whole cc0_stg1_0
abbrev pM : Memref sig .tc .vmem S256x4096 .f32 := Memref.whole cc0_scratch0
abbrev bM : Memref sig .tc .vmem S256x4096 .bf16 := Memref.whole cc0_scratch1
abbrev hM : Memref sig .tc .vmem S256x4096 .bf16 := Memref.whole cc0_scratch2
abbrev rM : Memref sig .tc .vmem S256x4096 .f32 := Memref.whole cc0_scratch3

/-- The device's rows of its partial sum and of the residual: what its two local copies read. -/
abbrev aRows (c : Dev nD) : Memref sig .tc .hbm S256x4096 .f32 :=
  (aM.slice (Rect.unit (s := S1x4096x4096) (k0_off1 c) S1x256x4096.size (k0_off1_inb c)) (fun _ => rfl)).squeeze S256x4096 squeezes_S1x256x4096_S256x4096
abbrev eRows (c : Dev nD) : Memref sig .tc .hbm S256x4096 .f32 :=
  eM.slice (Rect.unit (s := S4096x4096) (k0_off2 c) S256x4096.size (k0_off2_inb c)) (fun _ => rfl)

/-- The upper and the lower 128 rows of a buffer of 256. -/
abbrev half0 : Rect S256x4096 := Rect.unit (s := S256x4096) ![0, 0] S128x4096.size inb_S256x4096_S128x4096_0_0
abbrev half1 : Rect S256x4096 := Rect.unit (s := S256x4096) ![128, 0] S128x4096.size inb_S256x4096_S128x4096_128_0
abbrev bHalf (i : Fin 2) : Memref sig .tc .vmem S128x4096 .bf16 :=
  match i with | 0 => bM.slice half0 (fun _ => rfl) | 1 => bM.slice half1 (fun _ => rfl)
abbrev hHalf (i : Fin 2) : Memref sig .tc .vmem S128x4096 .bf16 :=
  match i with | 0 => hM.slice half0 (fun _ => rfl) | 1 => hM.slice half1 (fun _ => rfl)

/-- Where region `r` of the result starts: row block `r % 16`, column half `r / 16`. -/
def regOff (r : Fin 32) : Fin 2 → ℕ := ![256 * (r.val % 16), 2048 * (r.val / 16)]
theorem regOff_inb (r : Fin 32) : ∀ a, regOff r a + S256x2048.size a ≤ S4096x4096.size a := by revert r; decide +kernel
abbrev regR (r : Fin 32) : Rect S4096x4096 := Rect.unit (s := S4096x4096) (regOff r) S256x2048.size (regOff_inb r)
/-- Region `r` of the result. -/
abbrev regM (r : Fin 32) : Memref sig .tc .vmem S256x2048 .bf16 := oM.slice (regR r) (fun _ => rfl)

/-! ## The semaphores and their cells -/

abbrev barS : Sem sig := (SemArray.scalar (sig.barrier 0 rfl) : Sems sig S_).sem
set_option backward.proofsInPublic true in
/-- The local copies' semaphores; the departure and arrival semaphores of the exchange along `x`. -/
abbrev locSem (i : Fin 2) : DmaSem sig := ⟨2 + i.val, by show _ < 128; omega⟩
set_option backward.proofsInPublic true in
abbrev xsSem (i : Fin 2) : DmaSem sig := ⟨4 + i.val, by show _ < 128; omega⟩
set_option backward.proofsInPublic true in
abbrev xrSem (i : Fin 2) : DmaSem sig := ⟨6 + i.val, by show _ < 128; omega⟩

abbrev barCell (c : Dev nD) : GSem nD τ sig := ((c : Thread nD τ), .reg barS)
abbrev dmaCell (c : Dev nD) (s : DmaSem sig) : GSem nD τ sig := ((c : Thread nD τ), .dma s)
abbrev sendCell (c : Dev nD) (q : Fin 60) : GSem nD τ sig := dmaCell c (sendSem q)
abbrev recvCell (c : Dev nD) (q : Fin 60) : GSem nD τ sig := dmaCell c (recvSem q)

/-- What a DMA semaphore is for. -/
inductive Use
  | stage | loc (i : Fin 2) | xs (i : Fin 2) | xr (i : Fin 2) | snd (q : Fin 60) | rcv (q : Fin 60)
  deriving DecidableEq

set_option backward.proofsInPublic true in
def qOf (n : ℕ) : Fin 60 := ⟨n % 60, Nat.mod_lt _ (by decide)⟩
set_option backward.proofsInPublic true in
def iOf (n : ℕ) : Fin 2 := ⟨n % 2, Nat.mod_lt _ (by decide)⟩
def useOf (s : DmaSem sig) : Use :=
  let n := s.val
  if n < 2 then .stage else if n < 4 then .loc (iOf n) else if n < 6 then .xs (iOf n) else if n < 8 then .xr (iOf n)
  else if n < 14 then .snd (qOf (n - 8)) else if n < 20 then .rcv (qOf (n - 14))
  else if n < 26 then .snd (qOf (n - 14)) else if n < 32 then .rcv (qOf (n - 20))
  else if n < 56 then .snd (qOf (n - 20)) else if n < 80 then .rcv (qOf (n - 44))
  else if n < 104 then .snd (qOf (n - 44)) else .rcv (qOf (n - 68))

theorem useOf_loc (i : Fin 2) : useOf (locSem i) = .loc i := by revert i; decide
theorem useOf_xs (i : Fin 2) : useOf (xsSem i) = .xs i := by revert i; decide
theorem useOf_xr (i : Fin 2) : useOf (xrSem i) = .xr i := by revert i; decide
theorem useOf_send (q : Fin 60) : useOf (sendSem q) = .snd q := by revert q; decide +kernel
theorem useOf_recv (q : Fin 60) : useOf (recvSem q) = .rcv q := by revert q; decide +kernel

/-! ## Contents -/

section Contents
variable (m : Mem F) (c : Dev nD)

/-- The device's rows of the partial sum, of the residual, its rounded rows, and the ones its `x` neighbour sends. -/
def pst : (cc0_scratch0 : Ref sig .tc).ty.Contents (Elt F) := (aRows c).view.read (Elt F) (m ((c : Thread nD τ).loc main_arg0))
def rst : (cc0_scratch3 : Ref sig .tc).ty.Contents (Elt F) := (eRows c).view.read (Elt F) (m ((c : Thread nD τ).loc main_arg1))
def pstb : (cc0_scratch1 : Ref sig .tc).ty.Contents (Elt F) := k0_pay1 (pst m c)
def peer : (cc0_scratch2 : Ref sig .tc).ty.Contents (Elt F) := pstb m (nb 0 c)
/-- The scale vector as staged. -/
def gam : (cc0_stg0_0 : Ref sig .tc).ty.Contents (Elt F) :=
  (win0_0.blk (0 : Fin 1)).view.read (Elt F) (m ((c : Thread nD τ).loc main_arg2))

/-- The first and the second 128 rows of the device's row block of the result. -/
def top : FVec F S128x4096 .bf16 :=
  k0_pay3 (k0_pay2 (gam m c)) (pM.view.readAt (Elt F) half0.toLoadRect (pst m c)) (hM.view.readAt (Elt F) half0.toLoadRect (peer m c))
    (rM.view.readAt (Elt F) half0.toLoadRect (rst m c))
def bottom : FVec F S128x4096 .bf16 :=
  k0_pay4 (k0_pay2 (gam m c)) (pM.view.readAt (Elt F) half1.toLoadRect (pst m c)) (hM.view.readAt (Elt F) half1.toLoadRect (peer m c))
    (rM.view.readAt (Elt F) half1.toLoadRect (rst m c))

/-- The rows of the result the device stores first and second. -/
abbrev rows0 : Rect S4096x4096 := Rect.unit (s := S4096x4096) (k0_off3 c 0#32) S128x4096.size (k0_off3_inb c 0)
abbrev rows1 : Rect S4096x4096 := Rect.unit (s := S4096x4096) (k0_off3 c 128#32) S128x4096.size (k0_off3_inb c 1)

/-- The two stores over contents `f`. -/
def stored (f : (cc0_stg1_0 : Ref sig .tc).ty.Contents (Elt F)) : (cc0_stg1_0 : Ref sig .tc).ty.Contents (Elt F) :=
  (oM.access (rows1 c)).write (Elt F) ((oM.access (rows0 c)).write (Elt F) f (top m c) Finset.univ) (bottom m c) Finset.univ

/-- The device of `c`'s half of the mesh that computes the row of an index. -/
def ownerAt (i : (cc0_stg1_0 : Ref sig .tc).ty.Idx) : Dev nD :=
  devAt (cx c) ((i 0).val / 1024) ((i 0).val / 256)

/-- The whole result: every row as the device that computes it stores it. -/
def out : (cc0_stg1_0 : Ref sig .tc).ty.Contents (Elt F) := fun i =>
  stored m (ownerAt c i) (m ((ownerAt c i : Thread nD τ).loc cc0_stg1_0)) i

/-- The result does not depend on where on its half of the mesh a device sits. -/
theorem out_congr (m : Mem F) {c c' : Dev nD} (h : cx c = cx c') : out m c = out m c' := by
  unfold out ownerAt; rw [h]

end Contents

/-! ## What is handed over -/

/-- A share of region `r` of device `c`'s result buffer, at contents `f`. -/
def regPts (c : Dev nD) (r : Fin 32) (q : PosShare TreeShare) (f : Buf (Elt F) ((regM r).view.loc (c : Thread nD τ))) : sProp 𝕄 :=
  (regM r).view.loc (c : Thread nD τ) ↦[(regM r).view.set]{q} f
def bPts (c : Dev nD) (i : Fin 2) (f : Buf (Elt F) ((bHalf i).view.loc (c : Thread nD τ))) : sProp 𝕄 :=
  (bHalf i).view.loc (c : Thread nD τ) ↦[(bHalf i).view.set]{fullShare} f
def hPts (c : Dev nD) (i : Fin 2) (f : Buf (Elt F) ((hHalf i).view.loc (c : Thread nD τ))) : sProp 𝕄 :=
  (hHalf i).view.loc (c : Thread nD τ) ↦[(hHalf i).view.set]{fullShare} f

instance regPts_storable (c : Dev nD) (r q f) : BI.Storable (upEmb : UEmb _ 𝕄) (regPts (F := F) c r q f) := by unfold regPts; infer_instance
instance bPts_storable (c : Dev nD) (i f) : BI.Storable (upEmb : UEmb _ 𝕄) (bPts (F := F) c i f) := by unfold bPts; infer_instance
instance hPts_storable (c : Dev nD) (i f) : BI.Storable (upEmb : UEmb _ 𝕄) (hPts (F := F) c i f) := by unfold hPts; infer_instance

/-- The share a transfer carries. -/
abbrev quarterShare (k : Fin 4) : PosShare TreeShare := ShareLeaves.leaf 2 fullShare k

/-- Room for one region on the device transfer `q` goes to, if `q` goes in direction `d`. -/
def roomAt (c : Dev nD) (d : Fin 5) (q : Fin 60) : sProp 𝕄 :=
  if dirOf q = d ∧ sendOk c q = true then iprop(∃ f, regPts (nb d c) (sreg c q) fullShare f) else iprop(emp)
instance roomAt_storable (c : Dev nD) (d q) : BI.Storable (upEmb : UEmb _ 𝕄) (roomAt (F := F) c d q) := by
  unfold roomAt; split <;> infer_instance

/-- What the neighbour in direction `d` hands device `c` with its barrier signal: room for all `c` will send it. -/
def barPay (c : Dev nD) (d : Fin 5) : sProp 𝕄 :=
  if d = 0 then iprop((∃ f, hPts (nb 0 c) 0 f) ∗ ∃ f, hPts (nb 0 c) 1 f)
  else bigSep Finset.univ fun q => roomAt c d q
instance barPay_storable (c : Dev nD) (d) : BI.Storable (upEmb : UEmb _ 𝕄) (barPay (F := F) c d) := by
  unfold barPay; split <;> infer_instance

/-- What a DMA semaphore's landing hands its owner. -/
def dmaPay (m : Mem F) (c : Dev nD) : Use → sProp 𝕄
  | .stage => iprop(emp)
  | .loc 0 => iprop((pM.view.loc (c : Thread nD τ) ↦[pM.view.set]{fullShare} pst m c)
      ∗ ((aRows c).view.loc (c : Thread nD τ) ↦[(aRows c).view.set]{fullShare} m ((c : Thread nD τ).loc main_arg0)))
  | .loc 1 => iprop((rM.view.loc (c : Thread nD τ) ↦[rM.view.set]{fullShare} rst m c)
      ∗ ((eRows c).view.loc (c : Thread nD τ) ↦[(eRows c).view.set]{fullShare} m ((c : Thread nD τ).loc main_arg1)))
  | .xs i => match i with
      | 0 => bPts c 0 (pstb m c)
      | 1 => bPts c 1 (pstb m c)
  | .xr i => match i with
      | 0 => hPts c 0 (peer m c)
      | 1 => hPts c 1 (peer m c)
  | .snd q => regPts c (sreg c q) (quarterShare (quarter q)) (out m c)
  | .rcv q => regPts c (rreg c q) fullShare (out m c)
instance dmaPay_storable (m : Mem F) (c : Dev nD) (u) : BI.Storable (upEmb : UEmb _ 𝕄) (dmaPay m c u) := by
  unfold dmaPay; (repeat' split) <;> infer_instance

/-! ## The schedule -/

/-- The credit of one region, of a local copy, of half an exchanged block. -/
abbrev NR : ℕ := (regM 0).view.dmaCredit
abbrev NL : ℕ := pM.view.dmaCredit
abbrev NH : ℕ := (hM.slice half0 (fun _ => rfl) : Memref sig .tc .vmem S128x4096 .bf16).view.dmaCredit
theorem NR_pos : 0 < NR := View.dmaCredit_pos _ (by decide)
theorem NL_pos : 0 < NL := View.dmaCredit_pos _ (by decide)
theorem NH_pos : 0 < NH := View.dmaCredit_pos _ (by decide)

def dmaAmt : Use → ℕ
  | .stage => 1 | .loc _ => NL | .xs _ => NH | .xr _ => NH | .snd _ => NR | .rcv _ => NR
def dmaDuties (c : Dev nD) : Use → Finset (Fin 5)
  | .stage => ∅ | .loc _ => {0} | .xs _ => {0} | .xr _ => {0}
  | .snd q => if sendOk c q then {0} else ∅
  | .rcv q => if recvOk c q then {0} else ∅
def semDuties (c : Dev nD) : SemLoc sig → Finset (Fin 5)
  | .reg _ => Finset.univ.filter fun d => hasNb d c = true
  | .dma s => dmaDuties c (useOf s)

/-- One round per cell. -/
def sched (m : Mem F) : Rounds.Schedule (GSem nD τ sig) (Fin 5) 𝕄 where
  duties g r := if r = 0 then semDuties g.1.1 g.2 else ∅
  unitless _ := False
  amount g _ _ := match g.2 with
    | .reg _ => 1
    | .dma s => dmaAmt (useOf s)
  payload g _ d := match g.2 with
    | .reg _ => barPay g.1.1 d
    | .dma s => dmaPay m g.1.1 (useOf s)
  amount_pos g _ _ _ := by
    rcases g with ⟨_, s | s⟩
    · exact Nat.one_pos
    · show 0 < dmaAmt (useOf s)
      cases useOf s <;> first | exact Nat.one_pos | exact NL_pos | exact NH_pos | exact NR_pos

instance sched_payload_storable (m : Mem F) (g : GSem nD τ sig) (r : ℕ) (d : Fin 5) :
    BI.Storable (upEmb : UEmb _ 𝕄) ((sched m).payload g r d) := by
  rcases g with ⟨_, s | s⟩
  · show BI.Storable upEmb (barPay _ d); infer_instance
  · show BI.Storable upEmb (dmaPay m _ (useOf s)); infer_instance

section Sched
variable (m : Mem F) (c : Dev nD)

theorem duties_later (g : GSem nD τ sig) : ∀ r, 1 ≤ r → (sched m).duties g r = ∅ :=
  fun r hr => if_neg (by omega)
theorem duties_bar : (sched m).duties (barCell c) 0 = Finset.univ.filter fun d => hasNb d c = true := rfl
theorem duties_dma (s : DmaSem sig) : (sched m).duties (dmaCell c s) 0 = dmaDuties c (useOf s) := rfl
theorem amount_bar (d : Fin 5) : (sched m).amount (barCell c) 0 d = 1 := rfl
theorem amount_dma (s : DmaSem sig) (d : Fin 5) : (sched m).amount (dmaCell c s) 0 d = dmaAmt (useOf s) := rfl
theorem payload_bar (d : Fin 5) : (sched m).payload (barCell c) 0 d = barPay c d := rfl
theorem payload_dma (s : DmaSem sig) (d : Fin 5) : (sched m).payload (dmaCell c s) 0 d = dmaPay m c (useOf s) := rfl

theorem expect_bar : (sched m).expect (barCell c) 0 = deg c := by
  unfold Schedule.expect Schedule.amountOf
  rw [duties_bar, Finset.sum_congr rfl fun d _ => amount_bar m c d, Finset.sum_const, smul_eq_mul, Nat.mul_one]; rfl
theorem expect_dma (s : DmaSem sig) (h : dmaDuties c (useOf s) = {0}) : (sched m).expect (dmaCell c s) 0 = dmaAmt (useOf s) := by
  unfold Schedule.expect Schedule.amountOf; rw [duties_dma, h, Finset.sum_singleton, amount_dma]
/-- The one payload of a DMA cell. -/
theorem rest_dma (s : DmaSem sig) (h : dmaDuties c (useOf s) = {0}) :
    bigSep ((sched m).duties (dmaCell c s) 0 \ ∅) (fun d => (sched m).payload (dmaCell c s) 0 d) = dmaPay m c (useOf s) := by
  rw [Finset.sdiff_empty, duties_dma, h, bigSep_singleton, payload_dma]
theorem duties_send {q : Fin 60} (h : sendOk c q = true) : dmaDuties c (useOf (sendSem q)) = {0} := by
  rw [useOf_send]; exact if_pos h
theorem duties_recv {q : Fin 60} (h : recvOk c q = true) : dmaDuties c (useOf (recvSem q)) = {0} := by
  rw [useOf_recv]; exact if_pos h

end Sched

/-! ## What a device owes; the order of waits -/

/-- What device `c` still owes for its transfers, those in `sent` started. -/
def oweT (c : Dev nD) (sent : ℕ) : CellTallies nD τ sig Unit :=
  ∑ q : Fin 60, if sendOk c q = true ∧ sent.testBit q.val = false then tallyAt (recvCell (nbr c q) q) () NR else 0
/-- … for the exchange along `x`. -/
def oweX (c : Dev nD) (i : Fin 2) : CellTallies nD τ sig Unit := tallyAt (dmaCell (nb 0 c) (xrSem i)) () NH
/-- … to the barrier cell of its neighbour in direction `d`. -/
def oweB (c : Dev nD) (d : Fin 5) : CellTallies nD τ sig Unit := if hasNb d c = true then tallyAt (barCell (nb d c)) () 1 else 0

/-- The wait order: copies and departures lowest, then the barrier, the exchange along `x`, the transfers by `level`. -/
def lvUse (c : Dev nD) : Use → ℕ
  | .stage => 0 | .loc _ => 0 | .xs _ => 0 | .xr _ => 2 | .snd _ => 0 | .rcv q => level c q
def lv (g : GSem nD τ sig) (_ : Unit) : ℕ := match g.2 with
  | .reg _ => 1
  | .dma s => lvUse g.1.1 (useOf s)
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem level_pos (c : Dev nD) (q : Fin 60) : 10 ≤ level c q := by revert q c; decide +kernel

/-- Everything in a tally is on a TensorCore's cell and stands above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.at {n k : ℕ} (c : Dev nD) (sm : SemLoc sig) (h : n < lv ((c : Thread nD τ), sm) ()) :
    Above n (tallyAt ((c : Thread nD τ), sm) () k) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem Above.sum {n : ℕ} {I : Type} (s : Finset I) (O : I → CellTallies nD τ sig Unit) (h : ∀ i ∈ s, Above n (O i)) : Above n (∑ i ∈ s, O i) := by
  classical
  induction s using Finset.induction_on with
  | empty => rw [Finset.sum_empty]; exact Above.zero n
  | insert a s ha ih =>
    rw [Finset.sum_insert ha]
    exact (h a (Finset.mem_insert_self _ _)).add (ih fun i hi => h i (Finset.mem_insert_of_mem hi))
theorem Above.mono {n k : ℕ} {O : CellTallies nD τ sig Unit} (h : Above n O) (hk : k ≤ n) : Above k O :=
  fun g u hg => ⟨(h g u hg).1, lt_of_le_of_lt hk (h g u hg).2⟩

theorem lv_recv (c : Dev nD) (q : Fin 60) (u : Unit) : lv (recvCell c q) u = level c q := by
  show lvUse c (useOf (recvSem q)) = _; rw [useOf_recv]; rfl
theorem Above.oweT {n : ℕ} (c : Dev nD) (sent : ℕ)
    (h : ∀ q, sendOk c q = true → sent.testBit q.val = false → n < level (nbr c q) q) : Above n (oweT c sent) :=
  Above.sum _ _ fun q _ => by
    split
    · next hq => exact Above.at _ _ (by rw [lv_recv]; exact h q hq.1 hq.2)
    · exact Above.zero n

/-- A device may wait on a cell that stands below everything it owes. -/
theorem mayWait (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.DistArLn

end
-- ==== Proof.Steps.lean ====
/-
# One lemma per kind of operation

`St m c ops X` is what device `c` holds when the operations `ops` remain: the protocol's records, the resources the
books describe, and `X`, whatever else it keeps. `step_send`, `step_recv` and `step_gone` carry out one guarded
operation of the kernel from it.
-/
module

public import proofs.«01_k».proof.Proof.Sched

@[expose] public section

noncomputable section

namespace Cert.DistArLn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families with one member changed -/

theorem at_one {I : Type} [Fintype I] [DecidableEq I] (i : I) (Φ : I → sProp 𝕄) :
    bigSep Finset.univ Φ = iprop(Φ i ∗ bigSep (Finset.univ.erase i) Φ) := bigSep_univ_split i
theorem only_one {I : Type} [Fintype I] [DecidableEq I] (i : I) (Φ : I → sProp 𝕄) :
    bigSep Finset.univ Φ ⊢ Φ i := by
  rw [at_one i]; iintro ⟨H, -⟩; iexact H

theorem bigSep_open {I : Type} [Fintype I] [DecidableEq I] (i : I) (Φ Φ' : I → sProp 𝕄) (h : ∀ j, j ≠ i → Φ j = Φ' j) :
    bigSep Finset.univ Φ ⊢ iprop(Φ i ∗ (Φ' i -∗ bigSep Finset.univ Φ')) := by
  rw [at_one i Φ, at_one i Φ',
    bigSep_congr (s := Finset.univ.erase i) (Φ := Φ) (Ψ := Φ') fun j hj => h j (Finset.ne_of_mem_erase hj)]
  iintro ⟨H, Hr⟩
  isplitl [H]; · iexact H
  iintro H'
  isplitl [H'] <;> iassumption

/-! ## What every device knows -/

/-- The cells the protocol runs on: on every device, the DMA semaphores from 2 on and the barrier semaphore. -/
abbrev Cells : Type := Fin 126 ⊕ Unit
set_option backward.proofsInPublic true in
abbrev dsem (j : Fin 126) : DmaSem sig := ⟨j.val + 2, by show _ < 128; omega⟩
abbrev csem : Cells → SemLoc sig
  | .inl j => .dma (dsem j)
  | .inr _ => .reg barS
abbrev kcell (ck : Dev nD × Cells) : GSem nD τ sig := ((ck.1 : Thread nD τ), csem ck.2)

section
variable (m : Mem F)

/-- Every cell's invariant, at some names, and that every cell's round has been reached. -/
def records (K : Dev nD × Cells → ℕ) : sProp 𝕄 :=
  iprop((bigSep Finset.univ fun ck : Dev nD × Cells => cellInv EX (sched m) (K ck) (kcell ck))
    ∗ bigSep Finset.univ fun ck : Dev nD × Cells => reached EX (kcell ck) 0)
instance records_persistent (K : Dev nD × Cells → ℕ) : BI.Persistent (records m K) := by unfold records; infer_instance

/-- What every device knows throughout: the records and the wait order. -/
def known : sProp 𝕄 := iprop((∃ K, records m K) ∗ levAts L lv)
instance known_persistent : BI.Persistent (known m) := by unfold known; infer_instance

theorem known_cell (ck : Dev nD × Cells) : known m ⊢ iprop(∃ κ : ℕ, cellInv EX (sched m) κ (kcell ck) ∗ reached EX (kcell ck) 0) := by
  unfold known records
  iintro ⟨⟨%K, HI, HR⟩, -⟩
  iexists (K ck)
  isplitl [HI]
  · iapply (only_one ck fun ck : Dev nD × Cells => (cellInv EX (sched m) (K ck) (kcell ck))); iexact HI
  · iapply (only_one ck fun ck : Dev nD × Cells => (reached EX (kcell ck) 0)); iexact HR

set_option backward.proofsInPublic true in
theorem known_dma (c : Dev nD) (s : DmaSem sig) (hs : 2 ≤ s.val) :
    known m ⊢ iprop(∃ κ : ℕ, cellInv EX (sched m) κ (dmaCell c s) ∗ reached EX (dmaCell c s) 0) := by
  have h : s = dsem ⟨s.val - 2, by have : s.val < 128 := s.isLt; omega⟩ := Fin.ext (by show s.val = s.val - 2 + 2; omega)
  rw [h]; exact known_cell m (c, .inl _)
theorem known_bar (c : Dev nD) :
    known m ⊢ iprop(∃ κ : ℕ, cellInv EX (sched m) κ (barCell c) ∗ reached EX (barCell c) 0) := known_cell m (c, .inr ())
theorem known_lev : known m ⊢ (levAts L lv : sProp 𝕄) := by
  unfold known; iintro ⟨-, H⟩; iexact H

end

theorem two_le_send (q : Fin 60) : 2 ≤ (sendSem q).val := by revert q; decide +kernel
theorem two_le_recv (q : Fin 60) : 2 ≤ (recvSem q).val := by revert q; decide +kernel

/-! ## The books as resources -/

section Books
variable (m : Mem F) (c : Dev nD)

/-- Departure of transfer `q`: what is needed to start it; once started, the right to wait for it to leave. -/
def sndRes (s : Book) (q : Fin 60) : sProp 𝕄 :=
  if s.sent.testBit q.val then
    (if s.gone.testBit q.val then atPos EX (sendCell c q) 1 ∅ 0
     else iprop(atPos EX (sendCell c q) 0 ∅ 0 ∗ cred (tallyAt (sendCell c q) () NR)))
  else iprop(atPos EX (sendCell c q) 0 ∅ 0 ∗ dutyTok EX (sendCell c q) 0 (0 : Fin 5) ∗ dutyTok EX (recvCell (nbr c q) q) 0 (0 : Fin 5)
    ∗ roomAt c (dirOf q) q)
/-- Arrival of transfer `q`: the right to wait for it, if there is one. -/
def rcvRes (s : Book) (q : Fin 60) : sProp 𝕄 :=
  if s.got.testBit q.val then atPos EX (recvCell c q) 1 ∅ 0
  else iprop(atPos EX (recvCell c q) 0 ∅ 0 ∗ if recvOk c q = true then cred (tallyAt (recvCell c q) () NR) else iprop(emp))
/-- The quarters of region `r` held, at the final values. -/
def heldRes (s : Book) (r : Fin 32) (k : Fin 4) : sProp 𝕄 :=
  if s.held.testBit (bit r k) then regPts c r (quarterShare k) (out m c) else iprop(emp)
def heldRegs (s : Book) (r : Fin 32) : sProp 𝕄 := bigSep Finset.univ fun k => heldRes m c s r k

def stand (s : Book) : sProp 𝕄 :=
  iprop((bigSep Finset.univ fun q => sndRes c s q) ∗ (bigSep Finset.univ fun q => rcvRes c s q)
    ∗ (bigSep Finset.univ fun r => heldRegs m c s r) ∗ ∃ W, owes (c : Thread nD τ) (oweT c s.sent) W)

/-- What device `c` holds when the operations `ops` remain. -/
def St (ops : List Op) (X : sProp 𝕄) : sProp 𝕄 :=
  iprop(known m ∗ (∃ s, ⌜runs c s ops = true⌝ ∗ stand m c s) ∗ X)

/-! ### Bits -/

theorem testBit_set (n i j : ℕ) : (n ||| 2 ^ i).testBit j = (n.testBit j || decide (i = j)) := by
  rw [Nat.testBit_or, Nat.testBit_two_pow]
theorem testBit_flip (n i j : ℕ) : (n ^^^ 2 ^ i).testBit j = (n.testBit j ^^ decide (i = j)) := by
  rw [Nat.testBit_xor, Nat.testBit_two_pow]
theorem bit_inj {r r' : Fin 32} {k k' : Fin 4} (h : bit r k = bit r' k') : r = r' ∧ k = k' := by
  unfold bit at h; exact ⟨Fin.ext (by omega), Fin.ext (by omega)⟩
theorem testBit_block (n : ℕ) (r r' : Fin 32) (k : Fin 4) :
    (n ||| 15 * 2 ^ bit r 0).testBit (bit r' k) = (n.testBit (bit r' k) || decide (r = r')) := by
  rw [Nat.testBit_or, Nat.testBit_mul_two_pow]
  congr 1
  by_cases h : r = r'
  · subst h
    have h1 : bit r 0 ≤ bit r k := by unfold bit; omega
    have h2 : bit r k - bit r 0 = k.val := by unfold bit; simp
    rw [h2, decide_eq_true h1, decide_eq_true rfl, Bool.true_and]; clear h1 h2; revert k; decide
  · rw [decide_eq_false h]
    by_cases h1 : bit r 0 ≤ bit r' k
    · rw [decide_eq_true h1, Bool.true_and]
      have h2 : 4 ≤ bit r' k - bit r 0 := by
        have h' : r.val ≠ r'.val := fun e => h (Fin.ext e)
        unfold bit at *; simp at *; omega
      exact Nat.testBit_lt_two_pow (lt_of_lt_of_le (by decide : 15 < 2 ^ 4) (Nat.pow_le_pow_right (by decide) h2))
    · rw [decide_eq_false h1, Bool.false_and]

theorem val_ne {n : ℕ} {i j : Fin n} (h : j ≠ i) : i.val ≠ j.val := fun e => h (Fin.ext e.symm)

/-! ### Starting a transfer -/

theorem oweT_send (c : Dev nD) (sent : ℕ) (q : Fin 60) (hok : sendOk c q = true) (hs : sent.testBit q.val = false) :
    oweT c sent = oweT c (sent ||| 2 ^ q.val) + tallyAt (recvCell (nbr c q) q) () NR := by
  unfold oweT
  rw [← Finset.sum_erase_add _ _ (Finset.mem_univ q), ← Finset.sum_erase_add (a := q) Finset.univ (fun q' => if sendOk c q' = true ∧ (sent ||| 2 ^ q.val).testBit q'.val = false then tallyAt (recvCell (nbr c q') q') () NR else 0) (Finset.mem_univ q),
    if_pos ⟨hok, hs⟩, if_neg (fun h => by have h := h.2; rw [testBit_set, decide_eq_true rfl, Bool.or_true] at h; exact absurd h (by decide)), add_zero]
  congr 1
  refine Finset.sum_congr rfl fun q' hq' => ?_
  rw [testBit_set, decide_eq_false (val_ne (Finset.ne_of_mem_erase hq')), Bool.or_false]

/-- Taking from the stand what starting transfer `q` needs, and putting back what it leaves. -/
theorem open_send (s : Book) (q : Fin 60) (hok : sendOk c q = true) (hs : s.sent.testBit q.val = false)
    (hg : s.gone.testBit q.val = false)
    (hh : s.held.testBit (bit (sreg c q) (quarter q)) = true) :
    stand m c s ⊢ iprop((atPos EX (sendCell c q) 0 ∅ 0 ∗ dutyTok EX (sendCell c q) 0 (0 : Fin 5) ∗ dutyTok EX (recvCell (nbr c q) q) 0 (0 : Fin 5)
        ∗ (∃ f, regPts (nbr c q) (sreg c q) fullShare f))
      ∗ regPts c (sreg c q) (quarterShare (quarter q)) (out m c)
      ∗ (∃ W, owes (c : Thread nD τ) (oweT c (s.sent ||| 2 ^ q.val) + tallyAt (recvCell (nbr c q) q) () NR) W)
      ∗ ((atPos EX (sendCell c q) 0 ∅ 0 ∗ cred (tallyAt (sendCell c q) () NR) ∗ (∃ W, owes (c : Thread nD τ) (oweT c (s.sent ||| 2 ^ q.val)) W))
          -∗ stand m c ⟨s.sent ||| 2 ^ q.val, s.gone, s.got, s.held ^^^ 2 ^ bit (sreg c q) (quarter q)⟩)) := by
  have h1 := bigSep_open q (sndRes (F := F) c s) (sndRes c ⟨s.sent ||| 2 ^ q.val, s.gone, s.got, s.held ^^^ 2 ^ bit (sreg c q) (quarter q)⟩)
    (fun j hj => by unfold sndRes; rw [testBit_set, decide_eq_false (val_ne hj), Bool.or_false])
  have h2 := bigSep_open (sreg c q) (heldRegs m c s) (heldRegs m c ⟨s.sent ||| 2 ^ q.val, s.gone, s.got, s.held ^^^ 2 ^ bit (sreg c q) (quarter q)⟩)
    (fun r hr => by
      unfold heldRegs heldRes
      refine bigSep_congr fun k _ => ?_
      rw [testBit_flip, decide_eq_false (fun e => hr (bit_inj e).1.symm), Bool.xor_false])
  have h3 := bigSep_open (quarter q) (heldRes m c s (sreg c q)) (heldRes m c ⟨s.sent ||| 2 ^ q.val, s.gone, s.got, s.held ^^^ 2 ^ bit (sreg c q) (quarter q)⟩ (sreg c q))
    (fun k hk => by
      unfold heldRes
      rw [testBit_flip, decide_eq_false (fun e => hk (bit_inj e).2.symm), Bool.xor_false])
  have e1 : sndRes (F := F) c s q = iprop(atPos EX (sendCell c q) 0 ∅ 0 ∗ dutyTok EX (sendCell c q) 0 (0 : Fin 5) ∗ dutyTok EX (recvCell (nbr c q) q) 0 (0 : Fin 5)
        ∗ (∃ f, regPts (nbr c q) (sreg c q) fullShare f)) := by
    unfold sndRes roomAt; rw [hs, if_neg (by decide), if_pos ⟨rfl, hok⟩]; rfl
  have e1' : sndRes (F := F) c ⟨s.sent ||| 2 ^ q.val, s.gone, s.got, s.held ^^^ 2 ^ bit (sreg c q) (quarter q)⟩ q
      = iprop(atPos EX (sendCell c q) 0 ∅ 0 ∗ cred (tallyAt (sendCell c q) () NR)) := by
    unfold sndRes; rw [testBit_set, hg, decide_eq_true rfl, Bool.or_true, if_pos rfl, if_neg (by decide)]
  have e3 : heldRes m c s (sreg c q) (quarter q) = regPts c (sreg c q) (quarterShare (quarter q)) (out m c) := by
    unfold heldRes; rw [if_pos hh]
  have e3' : heldRes m c ⟨s.sent ||| 2 ^ q.val, s.gone, s.got, s.held ^^^ 2 ^ bit (sreg c q) (quarter q)⟩ (sreg c q) (quarter q) = iprop(emp) := by
    unfold heldRes; rw [testBit_flip, hh, decide_eq_true rfl]; exact if_neg (by decide)
  rw [e1, e1'] at h1
  rw [e3, e3'] at h3
  unfold stand
  rw [oweT_send c s.sent q hok hs]
  iintro ⟨HS, HR, HH, HO⟩
  ihave HS := h1 $$ HS
  icases HS with ⟨HS, HSc⟩
  ihave HH := h2 $$ HH
  icases HH with ⟨HH, HHc⟩
  unfold heldRegs
  ihave HH := h3 $$ HH
  icases HH with ⟨HH, HHd⟩
  isplitl [HS]; · iexact HS
  isplitl [HH]; · iexact HH
  isplitl [HO]; · iexact HO
  iintro ⟨Ha, Hc, HO⟩
  isplitl [HSc Ha Hc]
  · iapply HSc; isplitl [Ha] <;> iassumption
  isplitl [HR]; · iexact HR
  isplitl [HHc HHd]
  · iapply HHc; iapply HHd; iempintro
  iexact HO

/-! ### Taking an arrival -/

theorem open_recv (s : Book) (q : Fin 60) (hok : recvOk c q = true) (hs : s.got.testBit q.val = false)
    (hh : ∀ k, s.held.testBit (bit (rreg c q) k) = false) :
    stand m c s ⊢ iprop((atPos EX (recvCell c q) 0 ∅ 0 ∗ cred (tallyAt (recvCell c q) () NR))
      ∗ (∃ W, owes (c : Thread nD τ) (oweT c s.sent) W)
      ∗ ((atPos EX (recvCell c q) 1 ∅ 0 ∗ regPts c (rreg c q) fullShare (out m c) ∗ (∃ W, owes (c : Thread nD τ) (oweT c s.sent) W))
          -∗ stand m c ⟨s.sent, s.gone, s.got ||| 2 ^ q.val, s.held ||| 15 * 2 ^ bit (rreg c q) 0⟩)) := by
  have h1 := bigSep_open q (rcvRes (F := F) c s) (rcvRes c ⟨s.sent, s.gone, s.got ||| 2 ^ q.val, s.held ||| 15 * 2 ^ bit (rreg c q) 0⟩)
    (fun j hj => by unfold rcvRes; rw [testBit_set, decide_eq_false (val_ne hj), Bool.or_false])
  have h2 := bigSep_open (rreg c q) (heldRegs m c s) (heldRegs m c ⟨s.sent, s.gone, s.got ||| 2 ^ q.val, s.held ||| 15 * 2 ^ bit (rreg c q) 0⟩)
    (fun r hr => by
      unfold heldRegs heldRes
      refine bigSep_congr fun k _ => ?_
      rw [testBit_block, decide_eq_false (fun e => hr e.symm), Bool.or_false])
  have e1 : rcvRes (F := F) c s q = iprop(atPos EX (recvCell c q) 0 ∅ 0 ∗ cred (tallyAt (recvCell c q) () NR)) := by
    unfold rcvRes; rw [hs, if_neg (by decide), if_pos hok]
  have e1' : rcvRes (F := F) c ⟨s.sent, s.gone, s.got ||| 2 ^ q.val, s.held ||| 15 * 2 ^ bit (rreg c q) 0⟩ q = atPos EX (recvCell c q) 1 ∅ 0 := by
    unfold rcvRes; rw [testBit_set, decide_eq_true rfl, Bool.or_true, if_pos rfl]
  have e2' : heldRegs m c ⟨s.sent, s.gone, s.got ||| 2 ^ q.val, s.held ||| 15 * 2 ^ bit (rreg c q) 0⟩ (rreg c q) = regPts c (rreg c q) fullShare (out m c) := by
    unfold heldRegs heldRes regPts
    rw [ShareLeaves.pointsTo_leaves _ _ 2 fullShare]
    refine bigSep_congr fun k _ => ?_
    rw [testBit_block, decide_eq_true rfl, Bool.or_true, if_pos rfl]
  rw [e1, e1'] at h1
  rw [e2'] at h2
  unfold stand
  iintro ⟨HS, HR, HH, HO⟩
  ihave HR := h1 $$ HR
  icases HR with ⟨HR, HRc⟩
  ihave HH := h2 $$ HH
  icases HH with ⟨-, HHc⟩
  isplitl [HR]; · iexact HR
  isplitl [HO]; · iexact HO
  iintro ⟨Ha, Hp, HO⟩
  isplitl [HS]; · iexact HS
  isplitl [HRc Ha]; · iapply HRc; iexact Ha
  isplitl [HHc Hp]; · iapply HHc; iexact Hp
  iexact HO

/-! ### Taking a departure -/

theorem open_gone (s : Book) (q : Fin 60) (hok : sendOk c q = true) (hs : s.sent.testBit q.val = true) (hg : s.gone.testBit q.val = false)
    (hh : s.held.testBit (bit (sreg c q) (quarter q)) = false) :
    stand m c s ⊢ iprop((atPos EX (sendCell c q) 0 ∅ 0 ∗ cred (tallyAt (sendCell c q) () NR))
      ∗ (∃ W, owes (c : Thread nD τ) (oweT c s.sent) W)
      ∗ ((atPos EX (sendCell c q) 1 ∅ 0 ∗ regPts c (sreg c q) (quarterShare (quarter q)) (out m c) ∗ (∃ W, owes (c : Thread nD τ) (oweT c s.sent) W))
          -∗ stand m c ⟨s.sent, s.gone ||| 2 ^ q.val, s.got, s.held ||| 2 ^ bit (sreg c q) (quarter q)⟩)) := by
  have h1 := bigSep_open q (sndRes (F := F) c s) (sndRes c ⟨s.sent, s.gone ||| 2 ^ q.val, s.got, s.held ||| 2 ^ bit (sreg c q) (quarter q)⟩)
    (fun j hj => by unfold sndRes; rw [testBit_set, decide_eq_false (val_ne hj), Bool.or_false])
  have h2 := bigSep_open (sreg c q) (heldRegs m c s) (heldRegs m c ⟨s.sent, s.gone ||| 2 ^ q.val, s.got, s.held ||| 2 ^ bit (sreg c q) (quarter q)⟩)
    (fun r hr => by
      unfold heldRegs heldRes
      refine bigSep_congr fun k _ => ?_
      rw [testBit_set, decide_eq_false (fun e => hr (bit_inj e).1.symm), Bool.or_false])
  have h3 := bigSep_open (quarter q) (heldRes m c s (sreg c q)) (heldRes m c ⟨s.sent, s.gone ||| 2 ^ q.val, s.got, s.held ||| 2 ^ bit (sreg c q) (quarter q)⟩ (sreg c q))
    (fun k hk => by
      unfold heldRes
      rw [testBit_set, decide_eq_false (fun e => hk (bit_inj e).2.symm), Bool.or_false])
  have e1 : sndRes (F := F) c s q = iprop(atPos EX (sendCell c q) 0 ∅ 0 ∗ cred (tallyAt (sendCell c q) () NR)) := by
    unfold sndRes; rw [hs, if_pos rfl, hg, if_neg (by decide)]
  have e1' : sndRes (F := F) c ⟨s.sent, s.gone ||| 2 ^ q.val, s.got, s.held ||| 2 ^ bit (sreg c q) (quarter q)⟩ q = atPos EX (sendCell c q) 1 ∅ 0 := by
    unfold sndRes; rw [hs, if_pos rfl, testBit_set, decide_eq_true rfl, Bool.or_true, if_pos rfl]
  have e3' : heldRes m c ⟨s.sent, s.gone ||| 2 ^ q.val, s.got, s.held ||| 2 ^ bit (sreg c q) (quarter q)⟩ (sreg c q) (quarter q)
      = regPts c (sreg c q) (quarterShare (quarter q)) (out m c) := by
    unfold heldRes; rw [testBit_set, decide_eq_true rfl, Bool.or_true, if_pos rfl]
  rw [e1, e1'] at h1
  rw [e3'] at h3
  unfold stand
  iintro ⟨HS, HR, HH, HO⟩
  ihave HS := h1 $$ HS
  icases HS with ⟨HS, HSc⟩
  ihave HH := h2 $$ HH
  icases HH with ⟨HH, HHc⟩
  unfold heldRegs
  ihave HH := h3 $$ HH
  icases HH with ⟨-, HHd⟩
  isplitl [HS]; · iexact HS
  isplitl [HO]; · iexact HO
  iintro ⟨Ha, Hp, HO⟩
  isplitl [HSc Ha]; · iapply HSc; iexact Ha
  isplitl [HR]; · iexact HR
  isplitl [HHc HHd Hp]
  · iapply HHc; iapply HHd; iexact Hp
  iexact HO

end Books

/-! ## One operation -/

section Step
variable (m : Mem F) (c : Dev nD)

/-- Device `c` runs `p`, then `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem runs_active {s : Book} {o : Op} {ops : List Op} (h : runs c s (o :: ops) = true) (ha : active c o = true) :
    legal c s o = true ∧ runs c (after c s o) ops = true := by
  have h' : (bif active c o then legal c s o && runs c (after c s o) ops else runs c s ops) = true := h
  rw [ha, cond_true, Bool.and_eq_true] at h'; exact h'
theorem runs_idle {s : Book} {o : Op} {ops : List Op} (h : runs c s (o :: ops) = true) (ha : ¬ active c o = true) :
    runs c s ops = true := by
  have h' : (bif active c o then legal c s o && runs c (after c s o) ops else runs c s ops) = true := h
  rw [Bool.eq_false_iff.mpr ha, cond_false] at h'; exact h'
theorem St_idle {o : Op} {ops : List Op} {X : sProp 𝕄} (ha : ¬ active c o = true) : St m c (o :: ops) X ⊢ St m c ops X := by
  unfold St
  iintro ⟨HK, ⟨%s, %hr, HS⟩, HX⟩
  isplitl [HK]; · iexact HK
  isplitl [HS]
  · iexists s; isplitr
    · ipureintro; exact runs_idle c hr ha
    · iexact HS
  iexact HX

/-- Writing what the view reads off `g` leaves `g` under the view. -/
theorem write_read_at {κ : Idealize.ShloMosaic.Kind} {sp : Space} {s : Shape} {e : EltTy} (v : View sig κ sp s e) (f g : v.ty.Contents (Elt F)) (i) (hi : i ∈ v.set) :
    v.write (Elt F) f (v.read (Elt F) g) Finset.univ i = g i := by
  rw [View.write_read_eq_piecewise]; exact Finset.piecewise_eq_of_mem _ _ _ hi

/-- What lands on the neighbour is the region at its final values. -/
theorem landed (q : Fin 60) (hok : sendOk c q = true) (f : Buf (Elt F) ((regM (sreg c q)).view.loc (nbr c q : Thread nD τ))) :
    ((regM (sreg c q)).view.loc (nbr c q : Thread nD τ) ↦[(regM (sreg c q)).view.set]{fullShare}
        ((regM (sreg c q)).view.write (Elt F) f ((regM (sreg c q)).view.read (Elt F) (out m c)) Finset.univ) : sProp 𝕄)
      ⊢ dmaPay m (nbr c q) (.rcv q) := by
  show _ ⊢ regPts (nbr c q) (rreg (nbr c q) q) fullShare (out m (nbr c q))
  rw [rreg_nbr c q hok, out_congr m (cx_nbr c q)]
  unfold regPts
  exact Entails.of_eq (pointsTo_congr fun i hi => write_read_at (regM (sreg c q)).view f (out m c) i hi)

theorem credit_reg (off : Fin 2 → ℕ) (inb : ∀ a, off a + S256x2048.size a ≤ S4096x4096.size a) :
    (oM.slice (Rect.unit (s := S4096x4096) off S256x2048.size inb) (fun _ => rfl)).view.dmaCredit = NR := rfl

set_option maxRecDepth 10000 in
/-- A wait for the whole of a DMA cell's round. -/
theorem wait_dma {α : Type} {sem : DmaSem sig} {sp sp' : Space} {s s' : Shape} {e e' : EltTy} {src : Memref sig .tc sp' s' e'} {dst : Memref sig .tc sp s e}
    {hsrc : src.view.WordExact} {hdst : dst.view.WordExact} {K : Prog (TpuEff nD τ sig (Elt F) Λ₀ .tc) α} (Q : α → sProp 𝕄)
    {O : CellTallies nD τ sig Unit} {W : Waits sig Unit} {N : ℕ} (hN : dst.view.dmaCredit = N) (hd : dmaDuties c (useOf sem) = {0})
    (ha : dmaAmt (useOf sem) = N) (hs : 2 ≤ sem.val) (hO : Above (lv (dmaCell c sem) ()) O) :
    iprop(known m ∗ cred (tallyAt (dmaCell c sem) () N) ∗ owes (c : Thread nD τ) O W ∗ atPos EX (dmaCell c sem) 0 ∅ 0)
      ⊢ iprop((((∃ W, owes (c : Thread nD τ) O W) ∗ atPos EX (dmaCell c sem) 1 ∅ 0 ∗ dmaPay m c (useOf sem)) -∗ Runs c K Q)
          -∗ Runs c (.op (.waitDma2 sem src dst hsrc hdst) fun _ => K) Q) := by
  subst hN
  have hexp : 0 + dst.view.dmaCredit = (sched m).expect (dmaCell c sem) 0 := by rw [expect_dma m c _ hd, ha, Nat.zero_add]
  iintro ⟨#HK, Hcr, HO, Ha⟩ Hk
  ihave HKr := (known_dma m c sem hs) $$ HK
  icases HKr with ⟨%κ, #HI, #HR⟩
  ihave #HL := (@known_lev F _ m) $$ HK
  iapply (Rounds.wp_wait_rest_token (Ix := Unit) (defs := defs₀ (F := F)) 𝒱₀ EX (sched m) (c : Thread nD τ) none (κ := κ) (wpE_waitDma2_eq 𝒱₀ (c : Thread nD τ) none Set.univ)
      (Set.mem_univ _) () (O := O) (W := W) (R := 0) (m := 0) (T := ∅) hexp) $$ [Hcr HO Ha]
  · isplitr; · iexact HI
    isplitl [Hcr]; · iexact Hcr
    isplitl [HO]; · iexact HO
    isplitr
    · iapply (mayWait (F := F) c (.dma sem) hO); iexact HL
    iexact Ha
  rw [rest_dma m c sem hd]
  iintro ⟨HO, Ha, -, Hpay⟩
  iapply Hk
  isplitl [HO]; · iexists _; iexact HO
  isplitl [Ha] <;> iassumption

variable {α : Type} {m c} {p : Prop} {dec : Decidable p} {off : Fin 2 → ℕ} {inb : p → ∀ a, off a + S256x2048.size a ≤ S4096x4096.size a}
  {ops : List Op} {q : Fin 60} {dist : Option ℕ} {K : Prog (TpuEff nD τ sig (Elt F) Λ₀ .tc) α}

theorem step_send {X : sProp 𝕄} {Q : α → sProp 𝕄} {sS sR : DmaSem sig} {nn : ℕ} {lt : p → nn < nD}
    {w₁ : ∀ h : p, ((oM.slice (Rect.unit (s := S4096x4096) off S256x2048.size (inb h)) (fun _ => rfl)).view.WordExact)}
    {w₂ : ∀ h : p, ((oM.slice (Rect.unit (s := S4096x4096) off S256x2048.size (inb h)) (fun _ => rfl)).view.WordExact)}
    {ty : ∀ h : p, DmaTarget.Typed .vmem (.dma sR) (.remote (Dev.tc (⟨nn, lt h⟩ : Dev nD)) (oM.slice (Rect.unit (s := S4096x4096) off S256x2048.size (inb h)) (fun _ => rfl)) (.dma sS))}
    (hS : sS = sendSem q) (hR : sR = recvSem q)
    (hf : (p ↔ active c ⟨.send, q, dist⟩ = true) ∧ (active c ⟨.send, q, dist⟩ = true → off = regOff (sreg c q) ∧ nn = (nbr c q).val))
    (h : St m c ops X ⊢ Runs c K Q) :
    St m c (⟨.send, q, dist⟩ :: ops) X ⊢ Runs c (dite p (fun h => Prog.lift (.enqueueDma (oM.slice (Rect.unit (s := S4096x4096) off S256x2048.size (inb h)) (fun _ => rfl))
      (.remote (Dev.tc (⟨nn, lt h⟩ : Dev nD)) (oM.slice (Rect.unit (s := S4096x4096) off S256x2048.size (inb h)) (fun _ => rfl)) (.dma sS)) (.dma sR) (w₁ h) (w₂ h) (ty h)) >>= fun _ => K) (fun _ => K)) Q := by
  by_cases hp : p
  · rw [dif_pos hp]
    have ha := hf.1.mp hp
    obtain ⟨ho, hn⟩ := hf.2 ha
    subst ho hn hS hR
    simp only [Prog.lift, Prog.bind_op, Prog.bind_ret]
    unfold St
    iintro ⟨#HK, ⟨%s, %hr, HS⟩, HX⟩
    obtain ⟨hl, hr'⟩ := runs_active c hr ha
    simp only [legal, Bool.and_eq_true, Bool.not_eq_true'] at hl
    obtain ⟨⟨⟨hok, hs⟩, hg⟩, hh⟩ := hl
    ihave HS := (open_send m c s q hok hs hg hh) $$ HS
    icases HS with ⟨⟨Ha, Ht1, Ht2, %f, Hd⟩, Hsrc, ⟨%W, HO⟩, Hback⟩
    ihave HKs := (known_dma m c (sendSem q) (two_le_send q)) $$ HK
    icases HKs with ⟨%κ₁, #HI1, #HR1⟩
    ihave HKr := (known_dma m (nbr c q) (recvSem q) (two_le_recv q)) $$ HK
    icases HKr with ⟨%κ₂, #HI2, #HR2⟩
    unfold regPts
    iapply (Rounds.wp_send_pointsTo (Ix := Unit) (defs := defs₀ (F := F)) 𝒱₀ EX (sched m) (c : Thread nD τ) none (c' := (nbr c q : Thread nD τ))
        (src := regM (sreg c q)) (dst := regM (sreg c q)) (q := quarterShare (quarter q)) (fs := out m c) (fd := f) (r₁ := 0) (r₂ := 0)
        (d₁ := 0) (d₂ := 0) (κ₁ := κ₁) (κ₂ := κ₂)
        (by rw [duties_dma, duties_send c hok]; exact Finset.mem_singleton_self _)
        (by rw [duties_dma, duties_recv _ (by rw [recvOk_nbr]; exact hok)]; exact Finset.mem_singleton_self _)
        () () NR rfl (by rw [amount_dma, useOf_send]; rfl) (by rw [amount_dma, useOf_recv]; rfl) (oweT c (s.sent ||| 2 ^ q.val)) rfl
        (by rw [payload_dma, useOf_send]; exact Entails.rfl) (by rw [payload_dma, useOf_recv]; exact landed m c q hok f)) $$ [Hsrc Hd HO Ht1 Ht2]
    · isplitr; · iexact HI1
      isplitr; · iexact HI2
      isplitl [Hsrc]; · iexact Hsrc
      isplitl [Hd]; · iexact Hd
      isplitl [HO]; · iexact HO
      isplitl [Ht1]; · iexact Ht1
      isplitr; · iexact HR1
      isplitl [Ht2]; · iexact Ht2
      iexact HR2
    iintro ⟨Hcr, HO⟩
    iapply h
    unfold St
    isplitr; · iexact HK
    isplitl [Hback Ha Hcr HO]
    · iexists (after c s ⟨.send, q, dist⟩)
      isplitr; · ipureintro; exact hr'
      iapply Hback
      isplitl [Ha]; · iexact Ha
      isplitl [Hcr]; · iexact Hcr
      iexists W; iexact HO
    iexact HX
  · rw [dif_neg hp]
    exact (St_idle m c (fun e => hp (hf.1.mpr e))).trans h

theorem step_recv {X : sProp 𝕄} {Q : α → sProp 𝕄} {sR : DmaSem sig}
    {w₁ : ∀ h : p, ((oM.slice (Rect.unit (s := S4096x4096) off S256x2048.size (inb h)) (fun _ => rfl)).view.WordExact)}
    {w₂ : ∀ h : p, ((oM.slice (Rect.unit (s := S4096x4096) off S256x2048.size (inb h)) (fun _ => rfl)).view.WordExact)}
    (hR : sR = recvSem q) (hf : p ↔ active c ⟨.recv, q, dist⟩ = true) (h : St m c ops X ⊢ Runs c K Q) :
    St m c (⟨.recv, q, dist⟩ :: ops) X ⊢ Runs c (dite p (fun h => Prog.lift (.waitDma2 sR (oM.slice (Rect.unit (s := S4096x4096) off S256x2048.size (inb h)) (fun _ => rfl))
      (oM.slice (Rect.unit (s := S4096x4096) off S256x2048.size (inb h)) (fun _ => rfl)) (w₁ h) (w₂ h)) >>= fun _ => K) (fun _ => K)) Q := by
  by_cases hp : p
  · rw [dif_pos hp]
    have ha := hf.mp hp
    subst hR
    simp only [Prog.lift, Prog.bind_op, Prog.bind_ret]
    unfold St
    iintro ⟨#HK, ⟨%s, %hr, HS⟩, HX⟩
    obtain ⟨hl, hr'⟩ := runs_active c hr ha
    simp only [legal, Bool.and_eq_true, Bool.not_eq_true'] at hl
    obtain ⟨⟨⟨hok, hs⟩, ⟨⟨⟨h0, h1⟩, h2⟩, h3⟩⟩, hlev⟩ := hl
    have hh : ∀ k, s.held.testBit (bit (rreg c q) k) = false := fun k => by
      match k with
      | 0 => exact h0
      | 1 => exact h1
      | 2 => exact h2
      | 3 => exact h3
    have hab : Above (lv (recvCell c q) ()) (oweT c s.sent) := Above.oweT c s.sent fun q' hq' hs' => by
      have := List.all_eq_true.mp hlev q' (List.mem_finRange q')
      rw [hq', hs'] at this
      rw [lv_recv]; simpa using this
    ihave HS := (open_recv m c s q hok hs hh) $$ HS
    icases HS with ⟨⟨Ha, Hcr⟩, ⟨%W, HO⟩, Hback⟩
    iapply (wait_dma m c (sem := recvSem q) (W := W) Q (N := NR) (credit_reg _ (inb hp)) (duties_recv c hok) (by rw [useOf_recv]; rfl) (two_le_recv q) hab) $$ [Hcr HO Ha]
    · isplitr; · iexact HK
      isplitl [Hcr]; · iexact Hcr
      isplitl [HO] <;> iassumption
    rw [useOf_recv, show dmaPay m c (.rcv q) = regPts c (rreg c q) fullShare (out m c) from rfl]
    iintro ⟨HO, Ha, Hpay⟩
    iapply h
    unfold St
    isplitr; · iexact HK
    isplitl [Hback Ha HO Hpay]
    · iexists (after c s ⟨.recv, q, dist⟩)
      isplitr; · ipureintro; exact hr'
      iapply Hback
      isplitl [Ha]; · iexact Ha
      isplitl [Hpay]; · iexact Hpay
      iexact HO
    iexact HX
  · rw [dif_neg hp]
    exact (St_idle m c (fun e => hp (hf.mpr e))).trans h

theorem above_send (c : Dev nD) (q : Fin 60) (sent : ℕ) : Above (lv (sendCell c q) ()) (oweT c sent) :=
  Above.oweT c sent fun q' hq' hs' => by
    have : lv (sendCell c q) () = 0 := by show lvUse c (useOf (sendSem q)) = 0; rw [useOf_send]; rfl
    rw [this]; exact lt_of_lt_of_le (by decide) (level_pos _ _)

theorem step_gone {X : sProp 𝕄} {Q : α → sProp 𝕄} {sS : DmaSem sig}
    {w₁ : ∀ h : p, ((oM.slice (Rect.unit (s := S4096x4096) off S256x2048.size (inb h)) (fun _ => rfl)).view.WordExact)}
    {w₂ : ∀ h : p, ((oM.slice (Rect.unit (s := S4096x4096) off S256x2048.size (inb h)) (fun _ => rfl)).view.WordExact)}
    (hS : sS = sendSem q) (hf : p ↔ active c ⟨.gone, q, dist⟩ = true) (h : St m c ops X ⊢ Runs c K Q) :
    St m c (⟨.gone, q, dist⟩ :: ops) X ⊢ Runs c (dite p (fun h => Prog.lift (.waitDma2 sS (oM.slice (Rect.unit (s := S4096x4096) off S256x2048.size (inb h)) (fun _ => rfl))
      (oM.slice (Rect.unit (s := S4096x4096) off S256x2048.size (inb h)) (fun _ => rfl)) (w₁ h) (w₂ h)) >>= fun _ => K) (fun _ => K)) Q := by
  by_cases hp : p
  · rw [dif_pos hp]
    have ha := hf.mp hp
    subst hS
    simp only [Prog.lift, Prog.bind_op, Prog.bind_ret]
    unfold St
    iintro ⟨#HK, ⟨%s, %hr, HS⟩, HX⟩
    obtain ⟨hl, hr'⟩ := runs_active c hr ha
    simp only [legal, Bool.and_eq_true, Bool.not_eq_true'] at hl
    obtain ⟨⟨⟨hok, hs⟩, hg⟩, hh⟩ := hl
    ihave HS := (open_gone m c s q hok hs hg hh) $$ HS
    icases HS with ⟨⟨Ha, Hcr⟩, ⟨%W, HO⟩, Hback⟩
    iapply (wait_dma m c (sem := sendSem q) (W := W) Q (N := NR) (credit_reg _ (inb hp)) (duties_send c hok) (by rw [useOf_send]; rfl) (two_le_send q) (above_send c q s.sent)) $$ [Hcr HO Ha]
    · isplitr; · iexact HK
      isplitl [Hcr]; · iexact Hcr
      isplitl [HO] <;> iassumption
    rw [useOf_send, show dmaPay m c (.snd q) = regPts c (sreg c q) (quarterShare (quarter q)) (out m c) from rfl]
    iintro ⟨HO, Ha, Hpay⟩
    iapply h
    unfold St
    isplitr; · iexact HK
    isplitl [Hback Ha HO Hpay]
    · iexists (after c s ⟨.gone, q, dist⟩)
      isplitr; · ipureintro; exact hr'
      iapply Hback
      isplitl [Ha]; · iexact Ha
      isplitl [Hpay]; · iexact Hpay
      iexact HO
    iexact HX
  · rw [dif_neg hp]
    exact (St_idle m c (fun e => hp (hf.mpr e))).trans h

/-- From the operations `ops` and `X` remaining, `p` leads to `ops'` and `X'` remaining and returns a value with `R`. -/
structure Does {α : Type} (m : Mem F) (c : Dev nD) (ops : List Op) (X : sProp 𝕄) (ops' : List Op) (X' : sProp 𝕄)
    (R : α → Prop) (p : Prog (TpuEff nD τ sig (Elt F) Λ₀ .tc) α) : Prop where
  run : ∀ Q : α → sProp 𝕄, (∀ a, R a → St m c ops' X' ⊢ Q a) → St m c ops X ⊢ Runs c p Q

theorem does_pure {X : sProp 𝕄} {R : α → Prop} (a : α) (ha : R a) : Does m c ops X ops X R (pure a : Prog (TpuEff nD τ sig (Elt F) Λ₀ .tc) α) :=
  ⟨fun Q hQ => by
    show _ ⊢ wp frame (wpE (defs₀ (F := F)) 𝒱₀ (c : Thread nD τ) none) Set.univ (.ret a) Q
    rw [wp_ret]; exact (hQ a ha).trans (fupd_intro (PROP := sProp 𝕄))⟩
theorem does_ret {X : sProp 𝕄} (a : α) : Does m c ops X ops X (fun _ => True) (pure a : Prog (TpuEff nD τ sig (Elt F) Λ₀ .tc) α) :=
  does_pure a trivial
theorem does_bind {β : Type} {X X' X'' : sProp 𝕄} {ops' ops'' : List Op} {p : Prog (TpuEff nD τ sig (Elt F) Λ₀ .tc) β}
    {f : β → Prog (TpuEff nD τ sig (Elt F) Λ₀ .tc) α} {R : α → Prop} (h : Does m c ops X ops' X' (fun _ => True) p) (h' : ∀ b, Does m c ops' X' ops'' X'' R (f b)) :
    Does m c ops X ops'' X'' R (p >>= f) :=
  ⟨fun Q hQ => by
    show _ ⊢ wp frame (wpE (defs₀ (F := F)) 𝒱₀ (c : Thread nD τ) none) Set.univ (p >>= f) Q
    rw [wp_bind]; exact h.run _ fun b _ => (h' b).run Q hQ⟩

theorem does_send {X X' : sProp 𝕄} {ops' : List Op} {R : α → Prop} {sS sR : DmaSem sig} {nn : ℕ} {lt : p → nn < nD}
    {w₁ : ∀ h : p, ((oM.slice (Rect.unit (s := S4096x4096) off S256x2048.size (inb h)) (fun _ => rfl)).view.WordExact)}
    {w₂ : ∀ h : p, ((oM.slice (Rect.unit (s := S4096x4096) off S256x2048.size (inb h)) (fun _ => rfl)).view.WordExact)}
    {ty : ∀ h : p, DmaTarget.Typed .vmem (.dma sR) (.remote (Dev.tc (⟨nn, lt h⟩ : Dev nD)) (oM.slice (Rect.unit (s := S4096x4096) off S256x2048.size (inb h)) (fun _ => rfl)) (.dma sS))}
    (hS : sS = sendSem q) (hR : sR = recvSem q)
    (hf : (p ↔ active c ⟨.send, q, dist⟩ = true) ∧ (active c ⟨.send, q, dist⟩ = true → off = regOff (sreg c q) ∧ nn = (nbr c q).val))
    (h : Does m c ops X ops' X' R K) :
    Does m c (⟨.send, q, dist⟩ :: ops) X ops' X' R (dite p (fun h => Prog.lift (.enqueueDma (oM.slice (Rect.unit (s := S4096x4096) off S256x2048.size (inb h)) (fun _ => rfl))
      (.remote (Dev.tc (⟨nn, lt h⟩ : Dev nD)) (oM.slice (Rect.unit (s := S4096x4096) off S256x2048.size (inb h)) (fun _ => rfl)) (.dma sS)) (.dma sR) (w₁ h) (w₂ h) (ty h)) >>= fun _ => K) (fun _ => K)) :=
  ⟨fun Q hQ => step_send hS hR hf (h.run Q hQ)⟩

theorem does_recv {X X' : sProp 𝕄} {ops' : List Op} {R : α → Prop} {sR : DmaSem sig}
    {w₁ : ∀ h : p, ((oM.slice (Rect.unit (s := S4096x4096) off S256x2048.size (inb h)) (fun _ => rfl)).view.WordExact)}
    {w₂ : ∀ h : p, ((oM.slice (Rect.unit (s := S4096x4096) off S256x2048.size (inb h)) (fun _ => rfl)).view.WordExact)}
    (hR : sR = recvSem q) (hf : p ↔ active c ⟨.recv, q, dist⟩ = true) (h : Does m c ops X ops' X' R K) :
    Does m c (⟨.recv, q, dist⟩ :: ops) X ops' X' R (dite p (fun h => Prog.lift (.waitDma2 sR (oM.slice (Rect.unit (s := S4096x4096) off S256x2048.size (inb h)) (fun _ => rfl))
      (oM.slice (Rect.unit (s := S4096x4096) off S256x2048.size (inb h)) (fun _ => rfl)) (w₁ h) (w₂ h)) >>= fun _ => K) (fun _ => K)) :=
  ⟨fun Q hQ => step_recv hR hf (h.run Q hQ)⟩

theorem does_gone {X X' : sProp 𝕄} {ops' : List Op} {R : α → Prop} {sS : DmaSem sig}
    {w₁ : ∀ h : p, ((oM.slice (Rect.unit (s := S4096x4096) off S256x2048.size (inb h)) (fun _ => rfl)).view.WordExact)}
    {w₂ : ∀ h : p, ((oM.slice (Rect.unit (s := S4096x4096) off S256x2048.size (inb h)) (fun _ => rfl)).view.WordExact)}
    (hS : sS = sendSem q) (hf : p ↔ active c ⟨.gone, q, dist⟩ = true) (h : Does m c ops X ops' X' R K) :
    Does m c (⟨.gone, q, dist⟩ :: ops) X ops' X' R (dite p (fun h => Prog.lift (.waitDma2 sS (oM.slice (Rect.unit (s := S4096x4096) off S256x2048.size (inb h)) (fun _ => rfl))
      (oM.slice (Rect.unit (s := S4096x4096) off S256x2048.size (inb h)) (fun _ => rfl)) (w₁ h) (w₂ h)) >>= fun _ => K) (fun _ => K)) :=
  ⟨fun Q hQ => step_gone hS hf (h.run Q hQ)⟩

/-- The right to wait for half `i` of the device's own rows to have left along `x`; afterwards, the half itself. -/
def xsBefore (c : Dev nD) (i : Fin 2) : sProp 𝕄 := iprop(atPos EX (dmaCell c (xsSem i)) 0 ∅ 0 ∗ cred (tallyAt (dmaCell c (xsSem i)) () NH))
def xsAfter (m : Mem F) (c : Dev nD) (i : Fin 2) : sProp 𝕄 := iprop(atPos EX (dmaCell c (xsSem i)) 1 ∅ 0 ∗ dmaPay m c (.xs i))

theorem does_xs {X X' : sProp 𝕄} {ops' : List Op} {R : α → Prop} {sS : DmaSem sig} (i : Fin 2) {src dst : Memref sig .tc .vmem S128x4096 .bf16} {w₁ : src.view.WordExact} {w₂ : dst.view.WordExact}
    (hS : sS = xsSem i) (hN : dst.view.dmaCredit = NH) (h : Does m c ops (iprop(xsAfter m c i ∗ X)) ops' X' R K) :
    Does m c ops (iprop(xsBefore c i ∗ X)) ops' X' R (Prog.lift (.waitDma2 sS src dst w₁ w₂) >>= fun _ => K) := ⟨fun Q hQ => by
  subst hS
  have hab : ∀ sent, Above (lv (dmaCell c (xsSem i)) ()) (oweT c sent) := fun sent => Above.oweT c sent fun q' hq' hs' => by
    have : lv (dmaCell c (xsSem i)) () = 0 := by show lvUse c (useOf (xsSem i)) = 0; rw [useOf_xs]; rfl
    rw [this]; exact lt_of_lt_of_le (by decide) (level_pos _ _)
  simp only [Prog.lift, Prog.bind_op, Prog.bind_ret]
  have h := h.run Q hQ
  unfold St stand xsBefore
  iintro ⟨#HK, ⟨%s, %hr, HS, HR, HH, %W, HO⟩, ⟨Ha, Hcr⟩, HX⟩
  iapply (wait_dma m c (sem := xsSem i) (W := W) Q (N := NH) hN (by rw [useOf_xs]; rfl) (by rw [useOf_xs]; rfl) (by show 2 ≤ 4 + i.val; omega) (hab s.sent)) $$ [Hcr HO Ha]
  · isplitr; · iexact HK
    isplitl [Hcr]; · iexact Hcr
    isplitl [HO] <;> iassumption
  rw [useOf_xs]
  iintro ⟨HO, Ha, Hpay⟩
  iapply h
  unfold St stand xsAfter
  isplitr; · iexact HK
  isplitl [HS HR HH HO]
  · iexists s
    isplitr; · ipureintro; exact hr
    isplitl [HS]; · iexact HS
    isplitl [HR]; · iexact HR
    isplitl [HH]; · iexact HH
    iexact HO
  isplitl [Ha Hpay]
  · isplitl [Ha] <;> iassumption
  iexact HX⟩

end Step

end Cert.DistArLn

end
-- ==== Proof.Regions.lean ====
/-
# The parts of the buffers

The result buffer as its 32 regions, which of them a device computes and which it makes room in for its neighbours; the
exchange buffers as their halves; the books at the start and at the end as parts of the buffers.
-/
module
public import proofs.«01_k».proof.Proof.Steps
public import Idealize.ShloMosaic.Lib.Ring
public import Idealize.ShloMosaic.Lib.Pipeline.ValueKit.Geometry
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

theorem same {P Q : sProp 𝕄} (h : P = Q) : P ⊢ Q := by rw [h]

theorem mem_reg (r : Fin 32) (i : (cc0_stg1_0 : Ref sig .tc).ty.Idx) :
    i ∈ (regM r).view.set ↔ (i 0).val / 256 = r.val % 16 ∧ (i 1).val / 2048 = r.val / 16 := by
  refine ValueKit.mem_set_slice_whole_iff cc0_stg1_0 (regR r) i ?_
  rw [Rect.mem_set_unit, ValueKit.forall_fin_iff_conj]
  show (256 * (r.val % 16) ≤ (i 0).val ∧ (i 0).val < 256 * (r.val % 16) + 256) ∧ (2048 * (r.val / 16) ≤ (i 1).val ∧ (i 1).val < 2048 * (r.val / 16) + 2048) ↔ _
  omega

theorem regs_disjoint (r r' : Fin 32) (h : r ≠ r') : Disjoint (regM r).view.set (regM r').view.set := by
  refine Finset.disjoint_left.mpr fun i h1 h2 => h (Fin.ext ?_)
  rw [mem_reg] at h1 h2; omega

/-- The indices of a region. -/
def regSet (r : Fin 32) : Finset (cc0_stg1_0 : Ref sig .tc).ty.Idx := (regM r).view.set

theorem regs_cover : (Finset.univ : Finset (Fin 32)).biUnion regSet = Finset.univ := by
  refine Finset.eq_univ_iff_forall.mpr fun i => Finset.mem_biUnion.mpr ?_
  have h0 : (i 0).val < 4096 := (i 0).isLt
  have h1 : (i 1).val < 4096 := (i 1).isLt
  refine ⟨⟨16 * ((i 1).val / 2048) + (i 0).val / 256, by omega⟩, Finset.mem_univ _, ?_⟩
  refine (mem_reg _ i).mpr ⟨?_, ?_⟩
  · show _ = (16 * ((i 1).val / 2048) + (i 0).val / 256) % 16; omega
  · show _ = (16 * ((i 1).val / 2048) + (i 0).val / 256) / 16; omega

theorem off3_0 (c : Dev nD) : k0_off3 c 0#32 = ![256 * ownBlk c, 0] := by revert c; decide +kernel
theorem off3_1 (c : Dev nD) : k0_off3 c 128#32 = ![256 * ownBlk c + 128, 0] := by revert c; decide +kernel

set_option maxRecDepth 4000 in
theorem mem_rows0 (c : Dev nD) (i : (cc0_stg1_0 : Ref sig .tc).ty.Idx) :
    i ∈ (oM.access (rows0 c)).set ↔ 256 * ownBlk c ≤ (i 0).val ∧ (i 0).val < 256 * ownBlk c + 128 := by
  refine ValueKit.mem_set_slice_whole_iff cc0_stg1_0 (rows0 c) i ?_
  rw [Rect.mem_set_unit, ValueKit.forall_fin_iff_conj, off3_0]
  have h1 : (i 1).val < 4096 := (i 1).isLt
  show (256 * ownBlk c ≤ (i 0).val ∧ (i 0).val < 256 * ownBlk c + 128) ∧ (0 ≤ (i 1).val ∧ (i 1).val < 0 + 4096) ↔ _
  omega
set_option maxRecDepth 4000 in
theorem mem_rows1 (c : Dev nD) (i : (cc0_stg1_0 : Ref sig .tc).ty.Idx) :
    i ∈ (oM.access (rows1 c)).set ↔ 256 * ownBlk c + 128 ≤ (i 0).val ∧ (i 0).val < 256 * ownBlk c + 256 := by
  refine ValueKit.mem_set_slice_whole_iff cc0_stg1_0 (rows1 c) i ?_
  rw [Rect.mem_set_unit, ValueKit.forall_fin_iff_conj, off3_1]
  have h1 : (i 1).val < 4096 := (i 1).isLt
  show (256 * ownBlk c + 128 ≤ (i 0).val ∧ (i 0).val < 256 * ownBlk c + 128 + 128) ∧ (0 ≤ (i 1).val ∧ (i 1).val < 0 + 4096) ↔ _
  omega

set_option backward.proofsInPublic true in
/-- The two regions the device computes. -/
def own (c : Dev nD) (k : Fin 2) : Fin 32 := ⟨(ownBlk c + 16 * k.val) % 32, Nat.mod_lt _ (by decide)⟩
theorem own_val (c : Dev nD) (k : Fin 2) : (own c k).val = ownBlk c + 16 * k.val := by revert k c; decide +kernel
theorem ownBlk_lt (c : Dev nD) : ownBlk c < 16 := by revert c; decide +kernel
theorem ownerAt_own (c : Dev nD) (i : (cc0_stg1_0 : Ref sig .tc).ty.Idx) (h : (i 0).val / 256 = ownBlk c) : ownerAt c i = c := by
  have e : (i 0).val / 1024 = ownBlk c / 4 := by omega
  unfold ownerAt; rw [h, e]; clear h e i; revert c; decide +kernel

/-- The rows the device computes. -/
def ownSet (c : Dev nD) : Finset (cc0_stg1_0 : Ref sig .tc).ty.Idx := (Finset.univ : Finset (Fin 2)).biUnion fun k => regSet (own c k)
theorem mem_ownSet (c : Dev nD) (i : (cc0_stg1_0 : Ref sig .tc).ty.Idx) : i ∈ ownSet c ↔ (i 0).val / 256 = ownBlk c := by
  unfold ownSet
  rw [Finset.mem_biUnion]
  have hlt := ownBlk_lt c
  have h1 : (i 1).val < 4096 := (i 1).isLt
  constructor
  · rintro ⟨k, -, hk⟩; have hk := (mem_reg _ i).mp hk; rw [own_val] at hk; omega
  · intro h; refine ⟨⟨(i 1).val / 2048, by omega⟩, Finset.mem_univ _, ?_⟩
    refine (mem_reg _ i).mpr ?_; rw [own_val]; constructor
    · show _ = (ownBlk c + 16 * ((i 1).val / 2048)) % 16; omega
    · show _ = (ownBlk c + 16 * ((i 1).val / 2048)) / 16; omega
theorem rows0_sub (c : Dev nD) : (oM.access (rows0 c)).set ⊆ ownSet c := fun i hi => by
  rw [mem_rows0] at hi; rw [mem_ownSet]; omega
theorem rows1_sub (c : Dev nD) : (oM.access (rows1 c)).set ⊆ ownSet c := fun i hi => by
  rw [mem_rows1] at hi; rw [mem_ownSet]; omega

/-- What the two stores leave on the device's own rows does not depend on what was there. -/
theorem stored_congr (m : Mem F) (c : Dev nD) (f g : (cc0_stg1_0 : Ref sig .tc).ty.Contents (Elt F)) (i) (h : (i 0).val / 256 = ownBlk c) :
    stored m c f i = stored m c g i := by
  unfold stored
  by_cases h1 : i ∈ (oM.access (rows1 c)).set
  · obtain ⟨x, -, rfl⟩ := Finset.mem_map.mp h1
    rw [View.write_emb_of_mem _ _ (Finset.mem_univ x), View.write_emb_of_mem _ _ (Finset.mem_univ x)]
  · rw [View.write_of_not_mem _ _ _ h1, View.write_of_not_mem _ _ _ h1]
    have h0 : i ∈ (oM.access (rows0 c)).set := by
      rw [mem_rows1] at h1; rw [mem_rows0]; omega
    obtain ⟨x, -, rfl⟩ := Finset.mem_map.mp h0
    rw [View.write_emb_of_mem _ _ (Finset.mem_univ x), View.write_emb_of_mem _ _ (Finset.mem_univ x)]

theorem stored_out (m : Mem F) (c : Dev nD) (f : (cc0_stg1_0 : Ref sig .tc).ty.Contents (Elt F)) (i) (h : i ∈ ownSet c) :
    stored m c f i = out m c i := by
  rw [mem_ownSet] at h
  unfold out; rw [ownerAt_own c i h]; exact stored_congr m c _ _ i h

theorem own_disjoint (c : Dev nD) (k k' : Fin 2) (h : k ≠ k') : Disjoint (regM (own c k)).view.set (regM (own c k')).view.set :=
  regs_disjoint _ _ fun e => h (Fin.ext (by have := congrArg Fin.val e; rw [own_val, own_val] at this; omega))

/-- The whole result as its regions, and the own rows as theirs. -/
theorem out_regs (c : Dev nD) (f : Buf (Elt F) ((c : Thread nD τ).loc cc0_stg1_0)) :
    ((c : Thread nD τ).loc cc0_stg1_0 ↦{fullShare} f : sProp 𝕄) = bigSep Finset.univ fun r => regPts c r fullShare f :=
  Ring.pointsTo_blocks (ℓ := (c : Thread nD τ).loc cc0_stg1_0) (fun r : Fin 32 => regSet r) regs_disjoint regs_cover f
theorem own_regs (c : Dev nD) (f : Buf (Elt F) ((c : Thread nD τ).loc cc0_stg1_0)) :
    ((c : Thread nD τ).loc cc0_stg1_0 ↦[ownSet c]{fullShare} f : sProp 𝕄) = bigSep Finset.univ fun k => regPts c (own c k) fullShare f :=
  Ring.pointsTo_sub_blocks (ℓ := (c : Thread nD τ).loc cc0_stg1_0) (fun k : Fin 2 => regSet (own c k)) (own_disjoint c) _ rfl f

/-! ### Rooms -/

/-- Where the regions go before the barrier: a region of direction `d` and transfer `q` is room for that transfer. -/
def goesTo (c : Dev nD) : (Fin 5 × Fin 60) ⊕ Fin 2 → Option (Fin 32)
  | .inl (d, q) => if dirOf q = opp d ∧ recvOk c q = true then some (rreg c q) else none
  | .inr k => some (own c k)

theorem goesTo_inj (c : Dev nD) (j j' : (Fin 5 × Fin 60) ⊕ Fin 2) (i : Fin 32) (h : goesTo c j = some i) (h' : goesTo c j' = some i) : j = j' := by
  have own_ne : ∀ q k, recvOk c q = true → rreg c q = own c k → False := fun q k h e => by
    have h1 := (bringer_iff c q (own c k)).mpr ⟨h, e⟩
    have h2 := (bringer_none c (own c k)).mpr (by have := ownBlk_lt c; rw [own_val]; omega)
    rw [h2] at h1; cases h1
  rcases j with ⟨d, q⟩ | k <;> rcases j' with ⟨d', q'⟩ | k'
  · simp only [goesTo] at h h'
    split at h <;> simp only [Option.some.injEq, reduceCtorEq] at h
    split at h' <;> simp only [Option.some.injEq, reduceCtorEq] at h'
    rename_i h1 h2
    have e1 := (bringer_iff c q i).mpr ⟨h1.2, h⟩
    have e2 := (bringer_iff c q' i).mpr ⟨h2.2, h'⟩
    rw [e1] at e2; cases e2
    have : d = d' := by rw [← opp_opp d, ← opp_opp d', ← h1.1, ← h2.1]
    rw [this]
  · simp only [goesTo] at h h'
    split at h <;> simp only [Option.some.injEq, reduceCtorEq] at h h'
    rename_i h1; exact (own_ne q k' h1.2 (h.trans h'.symm)).elim
  · simp only [goesTo] at h h'
    split at h' <;> simp only [Option.some.injEq, reduceCtorEq] at h h'
    rename_i h1; exact (own_ne q' k h1.2 (h'.trans h.symm)).elim
  · simp only [goesTo, Option.some.injEq] at h h'
    have e := congrArg Fin.val (h.trans h'.symm)
    rw [own_val, own_val] at e
    exact congrArg Sum.inr (Fin.ext (by omega))

theorem room_of (c : Dev nD) (d : Fin 5) (q : Fin 60) (f : Buf (Elt F) ((c : Thread nD τ).loc cc0_stg1_0)) :
    (((goesTo c (.inl (d, q))).elim iprop(emp) fun r => regPts c r fullShare f) : sProp 𝕄) ⊢ roomAt (nb d c) (opp d) q := by
  unfold roomAt
  by_cases h : dirOf q = opp d ∧ recvOk c q = true
  · have hn : nbr (nb d c) q = c := by unfold nbr; rw [h.1]; exact nb_opp d c
    have e := recvOk_nbr (nb d c) q
    rw [hn, h.2] at e
    have e2 := rreg_nbr (nb d c) q e.symm
    rw [hn] at e2
    have e3 : goesTo c (.inl (d, q)) = some (rreg c q) := if_pos h
    rw [e3, if_pos ⟨h.1, e.symm⟩, nb_opp, ← e2]
    show (regPts c (rreg c q) fullShare f : sProp 𝕄) ⊢ iprop(∃ f, regPts c (rreg c q) fullShare f)
    iintro H; iexists f; iexact H
  · have e : goesTo c (.inl (d, q)) = none := if_neg h
    rw [e]
    split
    · rename_i h'
      refine absurd ⟨h'.1, ?_⟩ h
      have hn : nbr (nb d c) q = c := by unfold nbr; rw [h'.1]; exact nb_opp d c
      have e := recvOk_nbr (nb d c) q
      rw [hn] at e; exact e.trans h'.2
    · exact Entails.rfl

/-- Before the barrier: the rows the device computes stay, every other region goes to the neighbour that fills it. -/
theorem deal_out (c : Dev nD) (f : Buf (Elt F) ((c : Thread nD τ).loc cc0_stg1_0)) :
    ((c : Thread nD τ).loc cc0_stg1_0 ↦{fullShare} f : sProp 𝕄)
      ⊢ ((c : Thread nD τ).loc cc0_stg1_0 ↦[ownSet c]{fullShare} f) ∗ bigSep Finset.univ fun d => bigSep Finset.univ fun q => roomAt (nb d c) (opp d) q := by
  rw [out_regs]
  refine (bigSep_along (goesTo c) (goesTo_inj c) _).trans ?_
  rw [bigSep_univ_sum, bigSep_univ_prod, own_regs]
  show iprop((bigSep Finset.univ fun d => bigSep Finset.univ fun q => (goesTo c (.inl (d, q))).elim iprop(emp) fun r => regPts c r fullShare f)
    ∗ bigSep Finset.univ fun k => regPts c (own c k) fullShare f) ⊢ (_ : sProp 𝕄)
  have h : (bigSep Finset.univ (fun d => bigSep Finset.univ fun q => (goesTo c (.inl (d, q))).elim iprop(emp) fun r => regPts c r fullShare f) : sProp 𝕄)
      ⊢ bigSep Finset.univ fun d => bigSep Finset.univ fun q => roomAt (nb d c) (opp d) q :=
    bigSep_mono fun d _ => bigSep_mono fun q _ => room_of c d q f
  iintro ⟨H1, H2⟩
  isplitl [H2]
  · iexact H2
  · iapply h $$ H1

/-- After it: what the neighbours handed over is room for every transfer. -/
theorem gather (c : Dev nD) :
    (bigSep Finset.univ fun d => if hasNb d c = true then barPay (F := F) c d else iprop(emp) : sProp 𝕄)
      ⊢ ((∃ f, hPts (nb 0 c) 0 f) ∗ ∃ f, hPts (nb 0 c) 1 f) ∗ bigSep Finset.univ fun q => roomAt c (dirOf q) q := by
  rw [bigSep_erase (Finset.mem_univ (0 : Fin 5))]
  refine BI.sep_mono ?_ ?_
  · rw [if_pos (by revert c; decide +kernel)]
    show barPay c 0 ⊢ (_ : sProp 𝕄)
    unfold barPay; rw [if_pos rfl]
  · have h : ∀ d ∈ (Finset.univ : Finset (Fin 5)).erase 0, (if hasNb d c = true then barPay (F := F) c d else iprop(emp) : sProp 𝕄)
        ⊢ bigSep Finset.univ fun q => if hasNb d c = true then roomAt c d q else iprop(emp) := fun d hd => by
      unfold barPay; rw [if_neg (Finset.ne_of_mem_erase hd)]
      split
      · exact Entails.rfl
      · exact Entails.of_eq (bigSep_emp_const _).symm
    refine (bigSep_mono h).trans ?_
    have h0 : (bigSep (Finset.univ.erase 0) (fun d => bigSep Finset.univ fun q => if hasNb d c = true then roomAt (F := F) c d q else iprop(emp)) : sProp 𝕄)
        ⊢ bigSep Finset.univ fun d => bigSep Finset.univ fun q => if hasNb d c = true then roomAt c d q else iprop(emp) := by
      rw [at_one (0 : Fin 5)]
      iintro H
      isplitr [H]
      · rw [bigSep_congr (Ψ := fun _ => iprop(emp)) fun q _ => by
          unfold roomAt; rw [if_neg fun h : dirOf q = 0 ∧ _ => dirOf_ne q h.1]; exact ite_self _]
        iapply (Entails.of_eq (bigSep_emp_const (M := 𝕄) (Finset.univ : Finset (Fin 60))).symm)
        iempintro
      · iexact H
    refine h0.trans ?_
    rw [bigSep_univ_comm]
    refine bigSep_mono fun q _ => ?_
    refine (bigSep_elim (i := dirOf q) (Finset.mem_univ _)).trans ?_
    split
    · exact same rfl
    · rename_i h
      unfold roomAt
      rw [if_neg fun h' => h (hasNb_of_send c q h'.2)]; exact same rfl

/-! ### The exchange buffers -/

theorem mem_half0 (i : (cc0_scratch1 : Ref sig .tc).ty.Idx) : i ∈ (bHalf 0).view.set ↔ (i 0).val < 128 := by
  refine ValueKit.mem_set_slice_whole_iff cc0_scratch1 half0 i ?_
  rw [Rect.mem_set_unit, ValueKit.forall_fin_iff_conj]
  have h1 : (i 1).val < 4096 := (i 1).isLt
  show (0 ≤ (i 0).val ∧ (i 0).val < 0 + 128) ∧ (0 ≤ (i 1).val ∧ (i 1).val < 0 + 4096) ↔ _
  omega
theorem mem_half1 (i : (cc0_scratch1 : Ref sig .tc).ty.Idx) : i ∈ (bHalf 1).view.set ↔ 128 ≤ (i 0).val := by
  refine ValueKit.mem_set_slice_whole_iff cc0_scratch1 half1 i ?_
  rw [Rect.mem_set_unit, ValueKit.forall_fin_iff_conj]
  have h0 : (i 0).val < 256 := (i 0).isLt
  have h1 : (i 1).val < 4096 := (i 1).isLt
  show (128 ≤ (i 0).val ∧ (i 0).val < 128 + 128) ∧ (0 ≤ (i 1).val ∧ (i 1).val < 0 + 4096) ↔ _
  omega
theorem halves_disjoint : Disjoint (bHalf 0).view.set (bHalf 1).view.set := by
  refine Finset.disjoint_left.mpr fun i h0 h1 => ?_
  have h0 := (mem_half0 i).mp h0
  have h1 := (mem_half1 i).mp h1
  omega
theorem halves_cover : (bHalf 0).view.set ∪ (bHalf 1).view.set = Finset.univ := by
  refine Finset.eq_univ_iff_forall.mpr fun i => Finset.mem_union.mpr ?_
  rcases Nat.lt_or_ge (i 0).val 128 with h | h
  · exact .inl ((mem_half0 i).mpr h)
  · exact .inr ((mem_half1 i).mpr h)

theorem b_halves (c : Dev nD) (f : Buf (Elt F) ((c : Thread nD τ).loc cc0_scratch1)) :
    ((c : Thread nD τ).loc cc0_scratch1 ↦{fullShare} f : sProp 𝕄) ⊣⊢ bPts c 0 f ∗ bPts c 1 f := by
  rw [← halves_cover]; exact pointsTo_union halves_disjoint
theorem h_halves (c : Dev nD) (f : Buf (Elt F) ((c : Thread nD τ).loc cc0_scratch2)) :
    ((c : Thread nD τ).loc cc0_scratch2 ↦{fullShare} f : sProp 𝕄) ⊣⊢ hPts c 0 f ∗ hPts c 1 f := by
  have h : ((hHalf 0).view.set ∪ (hHalf 1).view.set : Finset (cc0_scratch2 : Ref sig .tc).ty.Idx) = Finset.univ := halves_cover
  rw [← h]; exact pointsTo_union (show Disjoint (hHalf 0).view.set (hHalf 1).view.set from halves_disjoint)

/-! ### What the books say at either end -/

theorem reg_quarters (c : Dev nD) (r : Fin 32) (f : Buf (Elt F) ((c : Thread nD τ).loc cc0_stg1_0)) :
    (regPts c r fullShare f : sProp 𝕄) = bigSep Finset.univ fun k : Fin 4 => regPts c r (quarterShare k) f := by
  unfold regPts
  exact ShareLeaves.pointsTo_leaves (ℓ := (c : Thread nD τ).loc cc0_stg1_0) (regM r).view.set f 2 fullShare

/-- All quarters of all regions are the whole result. -/
theorem out_of_held (m : Mem F) (c : Dev nD) (s : Book) (h : s.held = 2 ^ 128 - 1) :
    (bigSep Finset.univ fun r => heldRegs m c s r : sProp 𝕄) ⊢ ((c : Thread nD τ).loc cc0_stg1_0 ↦{fullShare} out m c) := by
  rw [out_regs]
  refine bigSep_mono fun r _ => ?_
  rw [reg_quarters]
  refine bigSep_mono fun k _ => ?_
  unfold heldRes
  rw [if_pos (by rw [h, Nat.testBit_two_pow_sub_one]; have := r.isLt; have := k.isLt; unfold bit; simp only [decide_eq_true_eq]; omega)]
  exact same rfl

theorem book₀_held (c : Dev nD) (r : Fin 32) (k : Fin 4) : (book₀ c).held.testBit (bit r k) = true ↔ ∃ i, own c i = r := by
  revert k r c; decide +kernel

/-- The device's own rows, as the books have them at the start. -/
theorem held_of_own (m : Mem F) (c : Dev nD) (f : Buf (Elt F) ((c : Thread nD τ).loc cc0_stg1_0)) :
    ((c : Thread nD τ).loc cc0_stg1_0 ↦[ownSet c]{fullShare} stored m c f : sProp 𝕄) ⊢ bigSep Finset.univ fun r => heldRegs m c (book₀ c) r := by
  have h0 : ((c : Thread nD τ).loc cc0_stg1_0 ↦[ownSet c]{fullShare} stored m c f : sProp 𝕄)
      = ((c : Thread nD τ).loc cc0_stg1_0 ↦[ownSet c]{fullShare} out m c) := pointsTo_congr fun i hi => stored_out m c f i hi
  rw [h0, own_regs]
  refine (bigSep_along (fun r => (List.finRange 2).find? fun i => own c i == r) (fun j j' i h h' => by
    have h := List.find?_some h; have h' := List.find?_some h'
    simp only [beq_iff_eq] at h h'; exact h.symm.trans h') _).trans (bigSep_mono fun r _ => ?_)
  by_cases hr : ∃ i, own c i = r
  · cases hf : (List.finRange 2).find? fun i => own c i == r with
    | none => obtain ⟨i, hi⟩ := hr; exact absurd (beq_iff_eq.mpr hi) (by simpa using List.find?_eq_none.mp hf i (List.mem_finRange i))
    | some i =>
      have h := List.find?_some hf
      simp only [beq_iff_eq] at h
      show (regPts c (own c i) fullShare (out m c) : sProp 𝕄) ⊢ heldRegs m c (book₀ c) r
      rw [h, reg_quarters]
      refine bigSep_mono fun k _ => ?_
      unfold heldRes; rw [if_pos ((book₀_held c r k).mpr hr)]
      exact same rfl
  · have e : heldRegs m c (book₀ c) r = iprop(emp) := by
      unfold heldRegs
      rw [bigSep_congr (Ψ := fun _ => iprop(emp)) fun k _ => by unfold heldRes; rw [if_neg fun h => hr ((book₀_held c r k).mp h)]]
      exact bigSep_emp_const _
    rw [e]
    cases hf : (List.finRange 2).find? fun i => own c i == r with
    | none => exact same rfl
    | some i =>
      have h := List.find?_some hf
      simp only [beq_iff_eq] at h
      exact (hr ⟨i, h⟩).elim

end Cert.DistArLn

end
-- ==== Proof.Moves.lean ====
/-
# The moves before the chain

Signals to the neighbours' barriers, the waits on the device's own, the two local copies and the exchange along `x`: one
lemma each.
-/
module
public import proofs.«01_k».proof.Proof.Regions
public import Idealize.ShloMosaic.Lib.Ring
public import Idealize.ShloMosaic.Lib.Pipeline.ValueKit.Geometry
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

section Prologue
variable (m : Mem F) (c : Dev nD)

abbrev Owes (c : Dev nD) (O : CellTallies nD τ sig Unit) : sProp 𝕄 := iprop(∃ W, owes (c : Thread nD τ) O W)

/-- What device `c` needs for the signal in direction `d`: the duty's token and the room it hands over. -/
def sigRes (d : Fin 5) : sProp 𝕄 :=
  if hasNb d c = true then iprop(dutyTok EX (barCell (nb d c)) 0 (opp d) ∗ barPay (F := F) (nb d c) (opp d)) else iprop(emp)

variable {α : Type} {K : Prog (TpuEff nD τ sig (Elt F) Λ₀ .tc) α}

theorem signal {Q : α → sProp 𝕄} {O : CellTallies nD τ sig Unit} {n : Dev nD} (d : Fin 5) (hd : hasNb d c = true) (hn : n = nb d c) :
    iprop(known m ∗ sigRes c d ∗ Owes c (oweB c d + O))
      ⊢ iprop((Owes c O -∗ Runs c K Q) -∗ Runs c (semSignalWord n barS 1#32 >>= fun _ => K) Q) := by
  subst hn
  simp only [semSignalWord, Prog.bind_op, Prog.bind_ret]
  unfold sigRes oweB
  rw [if_pos hd, if_pos hd]
  iintro ⟨#HK, ⟨Ht, Hp⟩, ⟨%W, HO⟩⟩ Hk
  ihave HKr := (known_bar m (nb d c)) $$ HK
  icases HKr with ⟨%κ, #HI, #HR⟩
  iapply (Rounds.wp_signal (Ix := Unit) (defs := defs₀ (F := F)) 𝒱₀ EX (sched m) (c : Thread nD τ) none (dst := (nb d c : Thread nD τ)) (κ := κ)
      (d := opp d) (by rw [duties_bar]; exact Finset.mem_filter.mpr ⟨Finset.mem_univ _, by rw [hasNb_opp]; exact hd⟩) ((amount_bar m (nb d c) (opp d)).trans (by decide)) () O (add_comm _ _)) $$ [HO Ht Hp]
  · isplitr; · iexact HI
    isplitl [HO]; · iexact HO
    isplitl [Ht]; · iexact Ht
    isplitl [Hp]; · rw [payload_bar]; iexact Hp
    iexact HR
  iintro HO
  iapply Hk
  iexists W; iexact HO

theorem signal_if {Q : α → sProp 𝕄} {O : CellTallies nD τ sig Unit} {p : Prop} {dec : Decidable p} {n : p → Dev nD} (d : Fin 5) (hp : p ↔ hasNb d c = true) (hn : ∀ h, n h = nb d c) :
    iprop(known m ∗ sigRes c d ∗ Owes c (oweB c d + O))
      ⊢ iprop((Owes c O -∗ Runs c K Q) -∗ Runs c (dite p (fun h => semSignalWord (n h) barS 1#32 >>= fun _ => K) (fun _ => K)) Q) := by
  by_cases h : p
  · rw [dif_pos h]; exact signal m c d (hp.mp h) (hn h)
  · rw [dif_neg h]
    unfold oweB
    rw [if_neg fun e => h (hp.mpr e), zero_add]
    iintro ⟨-, -, HO⟩ Hk
    iapply Hk; iexact HO

/-- The barrier after `k` of its waits. -/
def barSt (k : ℕ) : sProp 𝕄 :=
  if k = deg c then iprop(atPos EX (barCell c) 1 ∅ 0 ∗ bigSep (Finset.univ.filter fun d => hasNb d c = true) fun d => barPay (F := F) c d)
  else iprop(cred (tallyAt (barCell c) () (deg c - k)) ∗ ∃ T, ⌜T ⊆ Finset.univ.filter fun d => hasNb d c = true⌝
    ∗ atPos EX (barCell c) 0 T k ∗ bigSep T fun d => barPay (F := F) c d)

/-- How many of the first `n` directions lead to a neighbour. -/
def upTo (n : ℕ) : ℕ := ((List.finRange 5).filter fun d => d.val < n && hasNb d c).length
theorem upTo_succ (d : Fin 5) : upTo c (d.val + 1) = upTo c d.val + if hasNb d c = true then 1 else 0 := by revert d c; decide +kernel
theorem upTo_lt (d : Fin 5) : hasNb d c = true → upTo c d.val < deg c := by revert d c; decide +kernel
theorem upTo_all : upTo c 5 = deg c := by revert c; decide +kernel

theorem above_bar (sent : ℕ) : Above (lv (barCell c) ()) (oweX c 0 + (oweX c 1 + oweT c sent)) := by
  have hx : ∀ i, Above 1 (oweX c i) := fun i => Above.at (nb 0 c) (.dma (xrSem i)) (by
    show 1 < lvUse _ (useOf (xrSem i)); rw [useOf_xr]; exact Nat.one_lt_two)
  exact (hx 0).add ((hx 1).add (Above.oweT c sent fun q' _ _ => lt_of_lt_of_le (by decide) (level_pos _ _)))

theorem bigSep_all {s t : Finset (Fin 5)} (h : t ⊆ s) {Φ : Fin 5 → sProp 𝕄} : bigSep s Φ = iprop(bigSep t Φ ∗ bigSep (s \ t) Φ) := bigSep_sdiff_split h

theorem bar_wait {Q : α → sProp 𝕄} (k : ℕ) (hk : k < deg c) :
    iprop(known m ∗ barSt c k ∗ Owes c (oweX c 0 + (oweX c 1 + oweT c 0)))
      ⊢ iprop(((barSt c (k + 1) ∗ Owes c (oweX c 0 + (oweX c 1 + oweT c 0))) -∗ Runs c K Q)
          -∗ Runs c (semWaitWord barS 1#32 >>= fun _ => K) Q) := by
  simp only [semWaitWord, Prog.bind_op, Prog.bind_ret]
  unfold barSt
  rw [if_neg (by omega)]
  by_cases he : k + 1 = deg c
  · rw [if_pos he, ← he, Nat.add_sub_cancel_left]
    iintro ⟨#HK, ⟨Hc, %T, %hT, Ha, Hp⟩, ⟨%W, HO⟩⟩ Hk
    ihave HKr := (known_bar m c) $$ HK
    icases HKr with ⟨%κ, #HI, #HR⟩
    ihave #HL := (@known_lev F _ m) $$ HK
    iapply (Rounds.wp_wait_rest_token (Ix := Unit) (defs := defs₀ (F := F)) 𝒱₀ EX (sched m) (c : Thread nD τ) none (κ := κ) (wpE_semWait_eq 𝒱₀ (c : Thread nD τ) none Set.univ)
      (Set.mem_univ _) () (O := oweX c 0 + (oweX c 1 + oweT c 0)) (W := W) (R := 0) (m := k) (T := T) (by rw [expect_bar, ← he]; rfl)) $$ [Hc HO Ha]
    · isplitr; · iexact HI
      isplitl [Hc]; · iexact Hc
      isplitl [HO]; · iexact HO
      isplitr
      · iapply (mayWait (F := F) c (.reg barS) (above_bar c 0)); iexact HL
      iexact Ha
    iintro ⟨HO, Ha, -, Hpay⟩
    iapply Hk
    isplitr [HO]
    · isplitl [Ha]; · iexact Ha
      rw [bigSep_all hT]
      isplitl [Hp]; · iexact Hp
      iexact Hpay
    iexists _; iexact HO
  · rw [if_neg he]
    iintro ⟨#HK, ⟨Hc, %T, %hT, Ha, Hp⟩, ⟨%W, HO⟩⟩ Hk
    ihave HKr := (known_bar m c) $$ HK
    icases HKr with ⟨%κ, #HI, #HR⟩
    ihave #HL := (@known_lev F _ m) $$ HK
    have e : tallyAt (barCell c) () (deg c - k) = tallyAt (barCell c) () 1 + tallyAt (barCell c) () (deg c - (k + 1)) := by
      rw [tallyAt_add]; congr 1; omega
    rw [e]
    ihave Hc := (cred_add _ _).1 $$ Hc
    icases Hc with ⟨Hc, Hc'⟩
    iapply (Rounds.wp_wait (Ix := Unit) (defs := defs₀ (F := F)) 𝒱₀ EX (sched m) (c : Thread nD τ) none (κ := κ) (wpE_semWait_eq 𝒱₀ (c : Thread nD τ) none Set.univ)
      (Set.mem_univ _) (cr := Finsupp.single () 1) (O := oweX c 0 + (oweX c 1 + oweT c 0)) (W := W) {(SemLoc.reg barS, ())} (R := 0) (m := k) (T := T)
      (by rw [Util.total_single]; rfl) (image_single_subset (SemLoc.reg barS) () 1)) $$ [Hc HO Ha]
    · isplitr; · iexact HI
      isplitl [Hc]; · iexact Hc
      isplitl [HO]; · iexact HO
      isplitr
      · iapply (mayWait (F := F) c (.reg barS) (above_bar c 0)); iexact HL
      iexact Ha
    iintro %S ⟨%hS, HO, Ha, Hpay⟩
    iapply Hk
    isplitr [HO]
    · isplitl [Hc']; · iexact Hc'
      iexists S
      isplitr; · ipureintro; exact hS.2.1
      isplitl [Ha]; · iexact Ha
      rw [bigSep_all hS.1]
      isplitl [Hp]; · iexact Hp
      iexact Hpay
    iexists _; iexact HO

theorem bar_wait_if {Q : α → sProp 𝕄} {p : Prop} {dec : Decidable p} (d : Fin 5) (hp : p ↔ hasNb d c = true) :
    iprop(known m ∗ barSt c (upTo c d.val) ∗ Owes c (oweX c 0 + (oweX c 1 + oweT c 0)))
      ⊢ iprop(((barSt c (upTo c (d.val + 1)) ∗ Owes c (oweX c 0 + (oweX c 1 + oweT c 0))) -∗ Runs c K Q)
          -∗ Runs c (dite p (fun _ => semWaitWord barS 1#32 >>= fun _ => K) (fun _ => K)) Q) := by
  rw [upTo_succ]
  by_cases h : p
  · rw [dif_pos h, if_pos (hp.mp h)]; exact bar_wait m c _ (upTo_lt c d (hp.mp h))
  · rw [dif_neg h, if_neg fun e => h (hp.mpr e)]
    iintro ⟨-, HB, HO⟩ Hk
    iapply Hk
    isplitl [HB] <;> iassumption

/-- A whole buffer written whole holds what was written. -/
theorem write_all {κ : Idealize.ShloMosaic.Kind} (b : Ref sig κ) (f w : b.ty.Contents (Elt F)) : (View.whole b).write (Elt F) f w Finset.univ = w := by
  exact View.write_whole_univ ..

theorem copy_a {Q : α → sProp 𝕄} {sem : DmaSem sig} {w₁ : (aRows c).view.WordExact} {w₂ : pM.view.WordExact} {ty} (hs : sem = locSem 0) :
    iprop(known m ∗ ((aRows c).view.loc (c : Thread nD τ) ↦[(aRows c).view.set]{fullShare} m ((c : Thread nD τ).loc main_arg0))
      ∗ (∃ f, (c : Thread nD τ).loc cc0_scratch0 ↦{fullShare} f) ∗ dutyTok EX (dmaCell c (locSem 0)) 0 (0 : Fin 5))
      ⊢ iprop((cred (tallyAt (dmaCell c (locSem 0)) () NL) -∗ Runs c K Q) -∗ Runs c (.op (.enqueueDma (aRows c) (.here pM) (.dma sem) w₁ w₂ ty) fun _ => K) Q) := by
  subst hs
  iintro ⟨#HK, Hs, ⟨%f, Hd⟩, Ht⟩ Hk
  ihave HKr := (known_dma m c (locSem 0) (by decide)) $$ HK
  icases HKr with ⟨%κ, #HI, #HR⟩
  have hset : pM.view.set = Finset.univ := View.set_whole _
  iapply (Rounds.wp_copy_pointsTo (Ix := Unit) (defs := defs₀ (F := F)) 𝒱₀ EX (sched m) (c : Thread nD τ) none (κ := κ) (src := aRows c) (dst := pM) (q := fullShare)
      (fs := m ((c : Thread nD τ).loc main_arg0)) (fd := f) (r := 0) (d := 0)
      (by rw [duties_dma, useOf_loc]; exact Finset.mem_singleton_self _) () NL rfl (by rw [amount_dma, useOf_loc]; rfl)
      (by rw [payload_dma, useOf_loc]
          show _ ⊢ iprop((pM.view.loc (c : Thread nD τ) ↦[pM.view.set]{fullShare} pst m c) ∗ _)
          rw [show pM.view.write (Elt F) f ((aRows c).view.read (Elt F) (m ((c : Thread nD τ).loc main_arg0))) Finset.univ = pst m c from write_all _ _ _])) $$ [Hs Hd Ht]
  · isplitr; · iexact HI
    isplitl [Hs]; · iexact Hs
    isplitl [Hd]; · rw [hset]; iexact Hd
    isplitl [Ht]; · iexact Ht
    iexact HR
  iexact Hk

theorem copy_e {Q : α → sProp 𝕄} {sem : DmaSem sig} {w₁ : (eRows c).view.WordExact} {w₂ : rM.view.WordExact} {ty} (hs : sem = locSem 1) :
    iprop(known m ∗ ((eRows c).view.loc (c : Thread nD τ) ↦[(eRows c).view.set]{fullShare} m ((c : Thread nD τ).loc main_arg1))
      ∗ (∃ f, (c : Thread nD τ).loc cc0_scratch3 ↦{fullShare} f) ∗ dutyTok EX (dmaCell c (locSem 1)) 0 (0 : Fin 5))
      ⊢ iprop((cred (tallyAt (dmaCell c (locSem 1)) () NL) -∗ Runs c K Q) -∗ Runs c (.op (.enqueueDma (eRows c) (.here rM) (.dma sem) w₁ w₂ ty) fun _ => K) Q) := by
  subst hs
  iintro ⟨#HK, Hs, ⟨%f, Hd⟩, Ht⟩ Hk
  ihave HKr := (known_dma m c (locSem 1) (by decide)) $$ HK
  icases HKr with ⟨%κ, #HI, #HR⟩
  have hset : rM.view.set = Finset.univ := View.set_whole _
  iapply (Rounds.wp_copy_pointsTo (Ix := Unit) (defs := defs₀ (F := F)) 𝒱₀ EX (sched m) (c : Thread nD τ) none (κ := κ) (src := eRows c) (dst := rM) (q := fullShare)
      (fs := m ((c : Thread nD τ).loc main_arg1)) (fd := f) (r := 0) (d := 0)
      (by rw [duties_dma, useOf_loc]; exact Finset.mem_singleton_self _) () NL rfl (by rw [amount_dma, useOf_loc]; rfl)
      (by rw [payload_dma, useOf_loc]
          show _ ⊢ iprop((rM.view.loc (c : Thread nD τ) ↦[rM.view.set]{fullShare} rst m c) ∗ _)
          rw [show rM.view.write (Elt F) f ((eRows c).view.read (Elt F) (m ((c : Thread nD τ).loc main_arg1))) Finset.univ = rst m c from write_all _ _ _])) $$ [Hs Hd Ht]
  · isplitr; · iexact HI
    isplitl [Hs]; · iexact Hs
    isplitl [Hd]; · rw [hset]; iexact Hd
    isplitl [Ht]; · iexact Ht
    iexact HR
  iexact Hk

section Exchange
variable (i : Fin 2) (off : Fin 2 → ℕ) (inb : ∀ a, off a + S128x4096.size a ≤ S256x4096.size a)

/-- Rows of the rounded block, and of the block received. -/
abbrev bPart : Memref sig .tc .vmem S128x4096 .bf16 := bM.slice (Rect.unit (s := S256x4096) off S128x4096.size inb) (fun _ => rfl)
abbrev hPart : Memref sig .tc .vmem S128x4096 .bf16 := hM.slice (Rect.unit (s := S256x4096) off S128x4096.size inb) (fun _ => rfl)

theorem landed_x (f : Buf (Elt F) ((hPart off inb).view.loc (nb 0 c : Thread nD τ))) :
    ((hPart off inb).view.loc (nb 0 c : Thread nD τ) ↦[(hPart off inb).view.set]{fullShare}
        ((hPart off inb).view.write (Elt F) f ((bPart off inb).view.read (Elt F) (pstb m c)) Finset.univ) : sProp 𝕄)
      ⊢ ((hPart off inb).view.loc (nb 0 c : Thread nD τ) ↦[(hPart off inb).view.set]{fullShare} peer m (nb 0 c)) := by
  have hp : peer m (nb 0 c) = pstb m c := by
    have h : nb 0 (nb 0 c) = c := nb_opp 0 c
    unfold peer; rw [h]
  rw [hp]
  exact Entails.of_eq (pointsTo_congr fun j hj => write_read_at (hPart off inb).view f (pstb m c) j hj)

theorem send_x {Q : α → sProp 𝕄} {O : CellTallies nD τ sig Unit} {sS sR : DmaSem sig} {n : Dev nD} (hn : n = nb 0 c)
    {w₁ : (bPart off inb).view.WordExact} {w₂ : (hPart off inb).view.WordExact} {ty} (hS : sS = xsSem i) (hR : sR = xrSem i)
    (h1 : ((bPart off inb).view.loc (c : Thread nD τ) ↦[(bPart off inb).view.set]{fullShare} pstb m c : sProp 𝕄) = dmaPay m c (.xs i))
    (h2 : ((hPart off inb).view.loc (nb 0 c : Thread nD τ) ↦[(hPart off inb).view.set]{fullShare} peer m (nb 0 c) : sProp 𝕄) = dmaPay m (nb 0 c) (.xr i)) :
    iprop(known m ∗ (dutyTok EX (dmaCell c (xsSem i)) 0 (0 : Fin 5) ∗ dutyTok EX (dmaCell (nb 0 c) (xrSem i)) 0 (0 : Fin 5))
        ∗ (∃ f, (hPart off inb).view.loc (nb 0 c : Thread nD τ) ↦[(hPart off inb).view.set]{fullShare} f)
        ∗ ((bPart off inb).view.loc (c : Thread nD τ) ↦[(bPart off inb).view.set]{fullShare} pstb m c) ∗ Owes c (oweX c i + O))
      ⊢ iprop(((cred (tallyAt (dmaCell c (xsSem i)) () NH) ∗ Owes c O) -∗ Runs c K Q)
          -∗ Runs c (.op (.enqueueDma (bPart off inb) (.remote (Dev.tc n) (hPart off inb) (.dma sS)) (.dma sR) w₁ w₂ ty) fun _ => K) Q) := by
  subst hn hS hR
  unfold oweX
  iintro ⟨#HK, ⟨Ht1, Ht2⟩, ⟨%f, Hd⟩, Hs, ⟨%W, HO⟩⟩ Hk
  ihave HKs := (known_dma m c (xsSem i) (by show 2 ≤ 4 + i.val; omega)) $$ HK
  icases HKs with ⟨%κ₁, #HI1, #HR1⟩
  ihave HKr := (known_dma m (nb 0 c) (xrSem i) (by show 2 ≤ 6 + i.val; omega)) $$ HK
  icases HKr with ⟨%κ₂, #HI2, #HR2⟩
  iapply (Rounds.wp_send_pointsTo (Ix := Unit) (defs := defs₀ (F := F)) 𝒱₀ EX (sched m) (c : Thread nD τ) none (c' := (nb 0 c : Thread nD τ))
        (src := bPart off inb) (dst := hPart off inb) (q := fullShare) (fs := pstb m c) (fd := f) (r₁ := 0) (r₂ := 0)
        (d₁ := 0) (d₂ := 0) (κ₁ := κ₁) (κ₂ := κ₂)
        (by rw [duties_dma, useOf_xs]; exact Finset.mem_singleton_self _)
        (by rw [duties_dma, useOf_xr]; exact Finset.mem_singleton_self _)
        () () NH rfl (by rw [amount_dma, useOf_xs]; rfl) (by rw [amount_dma, useOf_xr]; rfl) O (add_comm _ _)
        (by rw [payload_dma, useOf_xs]; exact same h1) (by rw [payload_dma, useOf_xr, ← h2]; exact landed_x m c off inb f)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hcr, HO⟩
  iapply Hk
  isplitl [Hcr]; · iexact Hcr
  iexists W; iexact HO

end Exchange

end Prologue

end Cert.DistArLn

end
-- ==== Proof.Prologue.lean ====
/-
# The kernel before the chain

The five parts before the first transfer: local copies, barrier, exchange along `x`, and the device's own rows.
-/
module
public import proofs.«01_k».proof.Proof.Moves
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

section Prologue
variable (m : Mem F) (c : Dev nD)

theorem dev1_eq : (⟨k0_dev1 c, k0_dev1_lt c⟩ : Dev nD) = nb 0 c := by revert c; decide +kernel
theorem dev6_eq : (⟨k0_dev6 c, k0_dev6_lt c⟩ : Dev nD) = nb 0 c := by revert c; decide +kernel
theorem dev7_eq : (⟨k0_dev7 c, k0_dev7_lt c⟩ : Dev nD) = nb 0 c := by revert c; decide +kernel

abbrev w5 : BitVec 32 := Scalar.remsi (Scalar.divsi (Dev.word c) 4#32) 4#32
abbrev w8 : BitVec 32 := Scalar.remsi (Scalar.divsi (Dev.word c) 1#32) 4#32

set_option maxHeartbeats 1000000 in
theorem run1 {Q : _ → sProp 𝕄} {O : CellTallies nD τ sig Unit} {h0 h1 h2 h3 h4 h5 h6 h7} :
    iprop(known m
      ∗ (((aRows c).view.loc (c : Thread nD τ) ↦[(aRows c).view.set]{fullShare} m ((c : Thread nD τ).loc main_arg0))
        ∗ (∃ f, (c : Thread nD τ).loc cc0_scratch0 ↦{fullShare} f) ∗ dutyTok EX (dmaCell c (locSem 0)) 0 (0 : Fin 5))
      ∗ (((eRows c).view.loc (c : Thread nD τ) ↦[(eRows c).view.set]{fullShare} m ((c : Thread nD τ).loc main_arg1))
        ∗ (∃ f, (c : Thread nD τ).loc cc0_scratch3 ↦{fullShare} f) ∗ dutyTok EX (dmaCell c (locSem 1)) 0 (0 : Fin 5))
      ∗ sigRes c 0 ∗ sigRes c 1 ∗ Owes c (oweB c 0 + (oweB c 1 + O)))
    ⊢ iprop((∀ v2 v11 v31 c0, (cred (tallyAt (dmaCell c (locSem 0)) () NL) ∗ cred (tallyAt (dmaCell c (locSem 1)) () NL) ∗ Owes c O)
          -∗ Q ⟨c, v2, w5 c, w8 c, v11, SemArray.scalar (sig.barrier 0 rfl), v31, c0⟩)
        -∗ Runs c (k0_part1 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14) Q) := by
  rw [k0_part1_eq_skeleton]; unfold k0_part1_skel
  simp only [Prog.lift, Prog.bind_op, Prog.bind_ret, Prog.pure_eq_ret]
  unfold Runs
  simp only [wp_deviceId]
  iintro ⟨#HK, HA, HE, Hs0, Hs1, HO⟩ Hk
  iapply (copy_a m c rfl) $$ [HA]
  · isplitr; · iexact HK
    iexact HA
  iintro HcA
  iapply (copy_e m c rfl) $$ [HE]
  · isplitr; · iexact HK
    iexact HE
  iintro HcE
  iapply (signal m c 0 (by revert c; decide +kernel) (dev1_eq c)) $$ [Hs0 HO]
  · isplitr; · iexact HK
    isplitl [Hs0] <;> iassumption
  iintro HO
  iapply (signal_if m c 1 (by revert c; decide +kernel) (by revert c; decide +kernel)) $$ [Hs1 HO]
  · isplitr; · iexact HK
    isplitl [Hs1] <;> iassumption
  iintro HO
  unfold Runs
  rw [wp_ret]; imodintro
  iapply Hk
  isplitl [HcA]; · iexact HcA
  isplitl [HcE] <;> iassumption

theorem upTo_one : upTo c 1 = 1 := by revert c; decide +kernel

/-- Everything owed once the barriers are signalled stands above the copies and departures. -/
theorem above_low (s : DmaSem sig) (h : lv (dmaCell c s) () = 0) (i : Fin 2) : Above (lv (dmaCell c s) ()) (oweX c 0 + (oweX c 1 + oweT c 0)) := by
  rw [h]; exact (above_bar c 0).mono (Nat.zero_le _)

abbrev bR : Rect S256x4096 := Rect.unit (s := S256x4096) ![0, 0] S256x4096.size inb_S256x4096_S256x4096_0_0
theorem hz2 : (![0, 0] : Fin 2 → Nat) = fun _ => 0 := funext fun a => by fin_cases a <;> rfl

theorem read_pst : pM.view.readAt (Elt F) bR.toLoadRect (pst m c) = pst m c := Memref.readAt_unit_zero (Elt F) cc0_scratch0 hz2 _ _
theorem write_pstb (f w : (cc0_scratch1 : Ref sig .tc).ty.Contents (Elt F)) : (bM.access bR).write (Elt F) f w Finset.univ = w :=
  Memref.write_access_unit_zero_univ (Elt F) cc0_scratch1 hz2 _ _ _

set_option maxHeartbeats 1000000 in
theorem run2 {Q : _ → sProp 𝕄} {h0 h1 h2 h3 h4 h5 h6 h7} {v2 v31 c0 : BitVec 32} :
    iprop(known m ∗ sigRes c 2 ∗ sigRes c 3 ∗ sigRes c 4 ∗ Owes c (oweB c 2 + (oweB c 3 + (oweB c 4 + (oweX c 0 + (oweX c 1 + oweT c 0)))))
      ∗ barSt c 0 ∗ (atPos EX (dmaCell c (locSem 0)) 0 ∅ 0 ∗ cred (tallyAt (dmaCell c (locSem 0)) () NL))
      ∗ ∃ f, (c : Thread nD τ).loc cc0_scratch1 ↦{fullShare} f)
    ⊢ iprop(((barSt c (deg c) ∗ Owes c (oweX c 0 + (oweX c 1 + oweT c 0)) ∗ atPos EX (dmaCell c (locSem 0)) 1 ∅ 0 ∗ dmaPay m c (.loc 0)
          ∗ ((c : Thread nD τ).loc cc0_scratch1 ↦{fullShare} pstb m c))
          -∗ Q 1#32)
        -∗ Runs c (k0_part2 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14
      c v2 (w5 c) (w8 c) (SemArray.scalar (sig.barrier 0 rfl)) v31 c0) Q) := by
  rw [k0_part2_eq_skeleton]; unfold k0_part2_skel
  simp only [Prog.lift, Prog.bind_op, Prog.bind_ret, Prog.pure_eq_ret]
  iintro ⟨#HK, Hs2, Hs3, Hs4, HO, HB, ⟨Ha, Hc⟩, Hb⟩ Hk
  iapply (signal_if m c 2 (by revert c; decide +kernel) (by revert c; decide +kernel)) $$ [Hs2 HO]
  · isplitr; · iexact HK
    isplitl [Hs2] <;> iassumption
  iintro HO
  iapply (signal_if m c 3 (by revert c; decide +kernel) (by revert c; decide +kernel)) $$ [Hs3 HO]
  · isplitr; · iexact HK
    isplitl [Hs3] <;> iassumption
  iintro HO
  iapply (signal_if m c 4 (by revert c; decide +kernel) (by revert c; decide +kernel)) $$ [Hs4 HO]
  · isplitr; · iexact HK
    isplitl [Hs4] <;> iassumption
  iintro HO
  iapply (bar_wait m c 0 (by revert c; decide +kernel)) $$ [HB HO]
  · isplitr; · iexact HK
    isplitl [HB]; · iexact HB
    iexact HO
  rw [show 0 + 1 = upTo c 1 from (upTo_one c).symm]
  iintro ⟨HB, HO⟩
  iapply (bar_wait_if m c 1 (by revert c; decide +kernel)) $$ [HB HO]
  · isplitr; · iexact HK
    isplitl [HB]; · iexact HB
    iexact HO
  iintro ⟨HB, HO⟩
  iapply (bar_wait_if m c 2 (by revert c; decide +kernel)) $$ [HB HO]
  · isplitr; · iexact HK
    isplitl [HB]; · iexact HB
    iexact HO
  iintro ⟨HB, HO⟩
  iapply (bar_wait_if m c 3 (by revert c; decide +kernel)) $$ [HB HO]
  · isplitr; · iexact HK
    isplitl [HB]; · iexact HB
    iexact HO
  iintro ⟨HB, HO⟩
  iapply (bar_wait_if m c 4 (by revert c; decide +kernel)) $$ [HB HO]
  · isplitr; · iexact HK
    isplitl [HB]; · iexact HB
    iexact HO
  iintro ⟨HB, ⟨%W, HO⟩⟩
  iapply (wait_dma m c (sem := locSem 0) (W := W) Q (N := NL) rfl (by rw [useOf_loc]; rfl) (by rw [useOf_loc]; rfl) (by decide)
    (above_low c (locSem 0) (by show lvUse c (useOf (locSem 0)) = 0; rw [useOf_loc]; rfl) 0)) $$ [Hc HO Ha]
  · isplitr; · iexact HK
    isplitl [Hc]; · iexact Hc
    isplitl [HO] <;> iassumption
  rw [useOf_loc, show dmaPay m c (.loc 0) = iprop(((c : Thread nD τ).loc cc0_scratch0 ↦[pM.view.set]{fullShare} pst m c)
      ∗ ((aRows c).view.loc (c : Thread nD τ) ↦[(aRows c).view.set]{fullShare} m ((c : Thread nD τ).loc main_arg0))) from rfl]
  iintro ⟨HO, Ha, Hp, HA⟩
  unfold Runs
  iapply (wp_load 𝒱₀ (c : Thread nD τ) none Set.univ (m := pM) (by rw [show pM.view.set = Finset.univ from View.set_whole _]; exact Finset.subset_univ _)) $$ Hp; iintro Hp
  icases Hb with ⟨%fb, Hb⟩
  rw [read_pst m c]
  iapply (wp_load 𝒱₀ (c : Thread nD τ) none Set.univ (m := bM) (Finset.subset_univ _)) $$ Hb; iintro Hb
  iapply (wp_store 𝒱₀ (c : Thread nD τ) none Set.univ (m := bM) (r := bR) (Mk := Finset.univ) (Finset.subset_univ _)) $$ Hb; iintro Hb
  rw [write_pstb fb (k0_pay1 (pst m c))]
  rw [wp_ret]; imodintro
  iapply Hk
  rw [show upTo c ((4 : Fin 5).val + 1) = deg c from upTo_all c]
  isplitl [HB]; · iexact HB
  isplitl [HO]; · iexact HO
  isplitl [Ha]; · iexact Ha
  isplitl [Hp HA]
  · isplitl [Hp] <;> iassumption
  iexact Hb

abbrev gR : Rect S4096 := Rect.unit (s := S4096) ![0] S4096.size inb_S4096_S4096_0
theorem hz1 : (![0] : Fin 1 → Nat) = fun _ => 0 := funext fun a => by fin_cases a; rfl
theorem read_gam : gM.view.readAt (Elt F) gR.toLoadRect (gam m c) = gam m c := Memref.readAt_unit_zero (Elt F) cc0_stg0_0 hz1 _ _

theorem b0_eq : (bPts c 0 (pstb m c) : sProp 𝕄) = ((bPart ![0, 0] inb_S256x4096_S128x4096_0_0).view.loc (c : Thread nD τ)
    ↦[(bPart ![0, 0] inb_S256x4096_S128x4096_0_0).view.set]{fullShare} pstb m c) := rfl
theorem b1_eq : (bPts c 1 (pstb m c) : sProp 𝕄) = ((bPart ![128, 0] inb_S256x4096_S128x4096_128_0).view.loc (c : Thread nD τ)
    ↦[(bPart ![128, 0] inb_S256x4096_S128x4096_128_0).view.set]{fullShare} pstb m c) := rfl

/-- The tokens for sending half `i` along `x`. -/
def toksX (i : Fin 2) : sProp 𝕄 := iprop(dutyTok EX (dmaCell c (xsSem i)) 0 (0 : Fin 5) ∗ dutyTok EX (dmaCell (nb 0 c) (xrSem i)) 0 (0 : Fin 5))

set_option maxHeartbeats 1000000 in
theorem run3 {Q : _ → sProp 𝕄} {h0 h1 h2 h3 h4 h5 h6 h7} {v2 c1 : BitVec 32} :
    iprop(known m ∗ toksX c 0 ∗ toksX c 1 ∗ ((∃ f, hPts (nb 0 c) 0 f) ∗ ∃ f, hPts (nb 0 c) 1 f) ∗ (bPts c 0 (pstb m c) ∗ bPts c 1 (pstb m c))
      ∗ Owes c (oweX c 0 + (oweX c 1 + oweT c 0)) ∗ (atPos EX (dmaCell c (locSem 1)) 0 ∅ 0 ∗ cred (tallyAt (dmaCell c (locSem 1)) () NL))
      ∗ ((c : Thread nD τ).loc cc0_stg0_0 ↦{fullShare} gam m c))
    ⊢ iprop((∀ v60 v73, (cred (tallyAt (dmaCell c (xsSem 0)) () NH) ∗ cred (tallyAt (dmaCell c (xsSem 1)) () NH) ∗ Owes c (oweT c 0)
          ∗ atPos EX (dmaCell c (locSem 1)) 1 ∅ 0 ∗ dmaPay m c (.loc 1) ∗ ((c : Thread nD τ).loc cc0_stg0_0 ↦{fullShare} gam m c))
          -∗ Q ⟨v60, v73, k0_pay2 (gam m c)⟩)
        -∗ Runs c (k0_part3 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14
      c v2 (w5 c) (w8 c) c1) Q) := by
  rw [k0_part3_eq_skeleton]; unfold k0_part3_skel
  simp only [Prog.lift, Prog.bind_op, Prog.bind_ret, Prog.pure_eq_ret]
  unfold toksX
  iintro ⟨#HK, Ht0, Ht1, ⟨Hh0, Hh1⟩, ⟨Hb0, Hb1⟩, HO, ⟨Ha, Hc⟩, Hg⟩ Hk
  iapply (send_x m c 0 ![0, 0] inb_S256x4096_S128x4096_0_0 (dev6_eq c) rfl rfl rfl rfl) $$ [Ht0 Hh0 Hb0 HO]
  · isplitr; · iexact HK
    isplitl [Ht0]; · iexact Ht0
    isplitl [Hh0]; · iexact Hh0
    isplitl [Hb0]; · rw [← b0_eq]; iexact Hb0
    iexact HO
  iintro ⟨Hc0, HO⟩
  iapply (send_x m c 1 ![128, 0] inb_S256x4096_S128x4096_128_0 (dev7_eq c) rfl rfl rfl rfl) $$ [Ht1 Hh1 Hb1 HO]
  · isplitr; · iexact HK
    isplitl [Ht1]; · iexact Ht1
    isplitl [Hh1]; · iexact Hh1
    isplitl [Hb1]; · rw [← b1_eq]; iexact Hb1
    iexact HO
  iintro ⟨Hc1, %W, HO⟩
  iapply (wait_dma m c (sem := locSem 1) (dst := rM) (W := W) Q (N := NL) rfl (by rw [useOf_loc]; rfl) (by rw [useOf_loc]; rfl) (by decide)
    (by rw [show lv (dmaCell c (locSem 1)) () = 0 by show lvUse c (useOf (locSem 1)) = 0; rw [useOf_loc]; rfl]
        exact Above.oweT c 0 fun q' _ _ => lt_of_lt_of_le (by decide) (level_pos _ _))) $$ [Hc HO Ha]
  · isplitr; · iexact HK
    isplitl [Hc]; · iexact Hc
    isplitl [HO] <;> iassumption
  rw [useOf_loc]
  iintro ⟨HO, Ha, Hp⟩
  unfold Runs
  iapply (wp_load 𝒱₀ (c : Thread nD τ) none Set.univ (m := gM) (Finset.subset_univ _)) $$ Hg; iintro Hg
  rw [read_gam m c]
  rw [wp_ret]; imodintro
  iapply Hk
  isplitl [Hc0]; · iexact Hc0
  isplitl [Hc1]; · iexact Hc1
  isplitl [HO]; · iexact HO
  isplitl [Ha]; · iexact Ha
  isplitl [Hp] <;> iassumption

theorem setOn_part {s : Shape} {e : EltTy} {sp : Space} (v : View sig .tc sp s e) (r : Rect s) : v.setOn r.toLoadRect.set = (v.slice r).set :=
  (View.set_slice v r).symm

/-- The blocks the rows are computed from. -/
def blocks (m : Mem F) (c : Dev nD) : sProp 𝕄 :=
  iprop(((c : Thread nD τ).loc cc0_scratch0 ↦{fullShare} pst m c) ∗ ((c : Thread nD τ).loc cc0_scratch3 ↦{fullShare} rst m c))

set_option maxHeartbeats 1000000 in
theorem run4 {Q : _ → sProp 𝕄} {h0 h1 h2 h3 h4 h5 h6 h7} {f : Buf (Elt F) ((c : Thread nD τ).loc cc0_stg1_0)} {v11 v60 v73 : BitVec 32} :
    iprop(known m ∗ blocks m c ∗ Owes c (oweT c 0) ∗ (atPos EX (dmaCell c (xrSem 0)) 0 ∅ 0 ∗ cred (tallyAt (dmaCell c (xrSem 0)) () NH))
      ∗ ((c : Thread nD τ).loc cc0_stg1_0 ↦[ownSet c]{fullShare} f))
    ⊢ iprop((∀ v125, (blocks m c ∗ Owes c (oweT c 0) ∗ atPos EX (dmaCell c (xrSem 0)) 1 ∅ 0 ∗ hPts c 0 (peer m c)
          ∗ ((c : Thread nD τ).loc cc0_stg1_0 ↦[ownSet c]{fullShare} ((oM.access (rows0 c)).write (Elt F) f (top m c) Finset.univ)))
          -∗ Q v125)
        -∗ Runs c (k0_part4 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14
      c (w5 c) (w8 c) v11 v60 v73 (k0_pay2 (gam m c))) Q) := by
  rw [k0_part4_eq_skeleton]; unfold k0_part4_skel
  simp only [Prog.lift, Prog.bind_op, Prog.bind_ret, Prog.pure_eq_ret]
  unfold blocks
  iintro ⟨#HK, ⟨Hp, Hr⟩, ⟨%W, HO⟩, ⟨Ha, Hc⟩, Ho⟩ Hk
  iapply (wait_dma m c (sem := xrSem 0) (dst := hM.slice half0 (fun _ => rfl)) (W := W) Q (N := NH) rfl (by rw [useOf_xr]; rfl) (by rw [useOf_xr]; rfl) (by decide)
    (by rw [show lv (dmaCell c (xrSem 0)) () = 2 by show lvUse c (useOf (xrSem 0)) = 2; rw [useOf_xr]; rfl]
        exact Above.oweT c 0 fun q' _ _ => lt_of_lt_of_le (by decide) (level_pos _ _))) $$ [Hc HO Ha]
  · isplitr; · iexact HK
    isplitl [Hc]; · iexact Hc
    isplitl [HO] <;> iassumption
  rw [useOf_xr, show dmaPay m c (.xr 0) = ((hHalf 0).view.loc (c : Thread nD τ) ↦[(hHalf 0).view.set]{fullShare} peer m c : sProp 𝕄) from rfl]
  iintro ⟨HO, Ha, Hh⟩
  unfold Runs
  iapply (wp_load 𝒱₀ (c : Thread nD τ) none Set.univ (m := pM) (Finset.subset_univ _)) $$ Hp; iintro Hp
  iapply (wp_load 𝒱₀ (c : Thread nD τ) none Set.univ (m := hM) (r := half0.toLoadRect) (S := (hHalf 0).view.set) (by rw [setOn_part])) $$ Hh; iintro Hh
  iapply (wp_load 𝒱₀ (c : Thread nD τ) none Set.univ (m := rM) (Finset.subset_univ _)) $$ Hr; iintro Hr
  iapply (wp_load 𝒱₀ (c : Thread nD τ) none Set.univ (m := oM) (r := (rows0 c).toLoadRect) (S := ownSet c) (by rw [setOn_part]; exact rows0_sub c)) $$ Ho; iintro Ho
  iapply (wp_store 𝒱₀ (c : Thread nD τ) none Set.univ (m := oM) (r := rows0 c) (S := ownSet c) (Mk := Finset.univ) (rows0_sub c)) $$ Ho; iintro Ho
  rw [wp_ret]; imodintro
  iapply Hk
  isplitl [Hp Hr]
  · isplitl [Hp] <;> iassumption
  isplitl [HO]; · iexact HO
  isplitl [Ha]; · iexact Ha
  isplitl [Hh]; · unfold hPts; iexact Hh
  iexact Ho

set_option maxHeartbeats 1000000 in
theorem run5 {Q : _ → sProp 𝕄} {h0 h1 h2 h3 h4 h5 h6 h7} {f : Buf (Elt F) ((c : Thread nD τ).loc cc0_stg1_0)} {v11 v125 : BitVec 32} :
    iprop(known m ∗ blocks m c ∗ Owes c (oweT c 0) ∗ (atPos EX (dmaCell c (xrSem 1)) 0 ∅ 0 ∗ cred (tallyAt (dmaCell c (xrSem 1)) () NH))
      ∗ ((c : Thread nD τ).loc cc0_stg1_0 ↦[ownSet c]{fullShare} f))
    ⊢ iprop((∀ v158 v161, (blocks m c ∗ Owes c (oweT c 0) ∗ atPos EX (dmaCell c (xrSem 1)) 1 ∅ 0 ∗ hPts c 1 (peer m c)
          ∗ ((c : Thread nD τ).loc cc0_stg1_0 ↦[ownSet c]{fullShare} ((oM.access (rows1 c)).write (Elt F) f (bottom m c) Finset.univ)))
          -∗ Q ⟨v158, v161⟩)
        -∗ Runs c (k0_part5 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14
      c (w5 c) (w8 c) v11 (k0_pay2 (gam m c)) v125) Q) := by
  rw [k0_part5_eq_skeleton]; unfold k0_part5_skel
  simp only [Prog.lift, Prog.bind_op, Prog.bind_ret, Prog.pure_eq_ret]
  unfold blocks
  iintro ⟨#HK, ⟨Hp, Hr⟩, ⟨%W, HO⟩, ⟨Ha, Hc⟩, Ho⟩ Hk
  iapply (wait_dma m c (sem := xrSem 1) (dst := hM.slice half1 (fun _ => rfl)) (W := W) Q (N := NH) rfl (by rw [useOf_xr]; rfl) (by rw [useOf_xr]; rfl) (by decide)
    (by rw [show lv (dmaCell c (xrSem 1)) () = 2 by show lvUse c (useOf (xrSem 1)) = 2; rw [useOf_xr]; rfl]
        exact Above.oweT c 0 fun q' _ _ => lt_of_lt_of_le (by decide) (level_pos _ _))) $$ [Hc HO Ha]
  · isplitr; · iexact HK
    isplitl [Hc]; · iexact Hc
    isplitl [HO] <;> iassumption
  rw [useOf_xr, show dmaPay m c (.xr 1) = ((hHalf 1).view.loc (c : Thread nD τ) ↦[(hHalf 1).view.set]{fullShare} peer m c : sProp 𝕄) from rfl]
  iintro ⟨HO, Ha, Hh⟩
  unfold Runs
  iapply (wp_load 𝒱₀ (c : Thread nD τ) none Set.univ (m := pM) (Finset.subset_univ _)) $$ Hp; iintro Hp
  iapply (wp_load 𝒱₀ (c : Thread nD τ) none Set.univ (m := hM) (r := half1.toLoadRect) (S := (hHalf 1).view.set) (by rw [setOn_part])) $$ Hh; iintro Hh
  iapply (wp_load 𝒱₀ (c : Thread nD τ) none Set.univ (m := rM) (Finset.subset_univ _)) $$ Hr; iintro Hr
  iapply (wp_load 𝒱₀ (c : Thread nD τ) none Set.univ (m := oM) (r := (rows1 c).toLoadRect) (S := ownSet c) (by rw [setOn_part]; exact rows1_sub c)) $$ Ho; iintro Ho
  iapply (wp_store 𝒱₀ (c : Thread nD τ) none Set.univ (m := oM) (r := rows1 c) (S := ownSet c) (Mk := Finset.univ) (rows1_sub c)) $$ Ho; iintro Ho
  rw [wp_ret]; imodintro
  iapply Hk
  isplitl [Hp Hr]
  · isplitl [Hp] <;> iassumption
  isplitl [HO]; · iexact HO
  isplitl [Ha]; · iexact Ha
  isplitl [Hh]; · unfold hPts; iexact Hh
  iexact Ho
end Prologue

end Cert.DistArLn

end
-- ==== Proof.Chain.lean ====
/-
# The chain of transfers

From the second third of the kernel on, every operation is a guarded start of a transfer, a guarded wait for an arrival
or for a departure, or one of the two waits for the departures along `x`. The operations follow the lists of `Net`.
-/
module
public import proofs.«01_k».proof.Proof.Steps
@[expose] public section
noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

variable {α : Type} {c : Dev nD} {ops : List Op} {m : Mem F}

/-- What lies beside the chain may be rearranged. -/
theorem does_mono {X X₀ X' : sProp 𝕄} {ops' : List Op} {R : α → Prop} {p : Prog (TpuEff nD τ sig (Elt F) Λ₀ .tc) α} (hX : X ⊢ X₀)
    (h : Does m c ops X₀ ops' X' R p) : Does m c ops X ops' X' R p := ⟨fun Q hQ => by
  refine BIBase.Entails.trans ?_ (h.run Q hQ)
  unfold St
  iintro ⟨HK, HS, HX⟩
  isplitl [HK]; · iexact HK
  isplitl [HS]; · iexact HS
  iapply hX $$ HX⟩

theorem does_swap {A B X X' : sProp 𝕄} {ops' : List Op} {R : α → Prop} {p : Prog (TpuEff nD τ sig (Elt F) Λ₀ .tc) α}
    (h : Does m c ops (iprop(B ∗ (A ∗ X))) ops' X' R p) : Does m c ops (iprop(A ∗ (B ∗ X))) ops' X' R p := by
  refine does_mono ?_ h
  iintro ⟨HA, HB, HX⟩
  isplitl [HB]; · iexact HB
  isplitl [HA]; · iexact HA
  iexact HX

set_option maxHeartbeats 0 in
set_option maxRecDepth 100000 in
/-- The second third of the kernel: from hop 1 of the exchanges to the last step of the second. -/
theorem run166 (m : Mem F) (c : Dev nD) (X : sProp 𝕄) (v2 v5 v8 : BitVec 32) {v1591 v1617 : BitVec 1} {v1618 c0 : BitVec 32} {h0 h1 h2 h3 h4 h5 h6 h7} :
    Does m c (hop1.drop 30) X (relay1.drop 6) X (fun _ => True) (k0_part166 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14
      c v2 v5 v8 v1591 v1617 v1618 c0) := by
  unfold k0_part166
  iterate 60
    refine does_bind (ops' := ?_) (X' := ?_) ?_ fun _ => ?_
    rotate_left 2
    · repeat first
        | refine does_send (by rfl) (by rfl) (by revert c; decide +kernel) ?_
        | refine does_recv (by rfl) (by revert c; decide +kernel) ?_
        | refine does_gone (by rfl) (by revert c; decide +kernel) ?_
      exact does_ret (F := F) (m := m) (c := c) _
  exact does_ret (F := F) (m := m) (c := c) _

set_option maxHeartbeats 0 in
set_option maxRecDepth 100000 in
/-- The last third: the end of the second exchange, then the waits for the departures. -/
theorem run167 (m : Mem F) (c : Dev nD) (X : sProp 𝕄) (v2 v5 v8 : BitVec 32) {h0 h1 h2 h3 h4 h5 h6 h7}
    {v158 v170 v182 v194 v208 v221 v235 v247 v260 v273 v287 v299 v312 v325 v339 v351 v364 v377 v391 v403 v458 v470 v482 v494 v514 v527 v547 v560 v580 v593
      v613 v626 v646 v658 v677 v689 v708 v720 v739 v751 v792 v805 v845 v857 v898 v911 v951 v963 v1004 v1017 v1057 v1069 v1110 v1123 v1163 v1175 v1230 v1242
      v1254 v1266 v1286 v1299 v1319 v1332 v1352 v1365 v1385 v1398 v1418 v1430 v1449 v1461 v1480 v1492 v1511 v1523 v1564 v1577 v1617 v1629 v1670 v1683 v1723
      v1735 v1776 v1789 v1829 v1841 v1882 v1895 v1935 v1947 v2010 v2023 v2043 v2056 v2076 v2089 v2109 v2122 v2142 v2154 v2173 v2185 v2204 v2216 v2235 v2247
      v2288 v2301 v2341 v2353 v2394 v2407 v2447 v2459 v2500 v2513 v2553 v2565 v2606 v2619 v2659 v2671 v2712 v2725 v2765 v2777 v2818 v2831 v2871 v2883 v2924
      v2937 v2977 v2989 v3030 v3043 v3083 v3095 v3128 v3140 v3172 : BitVec 1} {v3176 : BitVec 32} :
    Does m c (relay1.drop 6) iprop(xsBefore c 0 ∗ (xsBefore c 1 ∗ X)) (drain2.drop 80) iprop(xsAfter m c 1 ∗ (xsAfter m c 0 ∗ X)) (fun _ => True)
      (k0_part167 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14
      c v2 v5 v8
      v158 v170 v182 v194 v208 v221 v235 v247 v260 v273 v287 v299 v312 v325 v339 v351 v364 v377 v391 v403 v458 v470 v482 v494 v514 v527 v547 v560 v580 v593
      v613 v626 v646 v658 v677 v689 v708 v720 v739 v751 v792 v805 v845 v857 v898 v911 v951 v963 v1004 v1017 v1057 v1069 v1110 v1123 v1163 v1175 v1230 v1242
      v1254 v1266 v1286 v1299 v1319 v1332 v1352 v1365 v1385 v1398 v1418 v1430 v1449 v1461 v1480 v1492 v1511 v1523 v1564 v1577 v1617 v1629 v1670 v1683 v1723
      v1735 v1776 v1789 v1829 v1841 v1882 v1895 v1935 v1947 v2010 v2023 v2043 v2056 v2076 v2089 v2109 v2122 v2142 v2154 v2173 v2185 v2204 v2216 v2235 v2247
      v2288 v2301 v2341 v2353 v2394 v2407 v2447 v2459 v2500 v2513 v2553 v2565 v2606 v2619 v2659 v2671 v2712 v2725 v2765 v2777 v2818 v2831 v2871 v2883 v2924
      v2937 v2977 v2989 v3030 v3043 v3083 v3095 v3128 v3140 v3172 v3176) := by
  unfold k0_part167
  iterate 44
    refine does_bind (ops' := ?_) (X' := ?_) ?_ fun _ => ?_
    rotate_left 2
    · repeat first
        | refine does_send (by rfl) (by rfl) (by revert c; decide +kernel) ?_
        | refine does_recv (by rfl) (by revert c; decide +kernel) ?_
        | refine does_gone (by rfl) (by revert c; decide +kernel) ?_
        | refine does_xs 0 (by rfl) (by rfl) ?_
        | refine does_swap (does_xs 1 (by rfl) (by rfl) ?_)
      exact does_ret (F := F) (m := m) (c := c) _
  refine does_gone (by rfl) (by revert c; decide +kernel) ?_
  refine does_gone (by rfl) (by revert c; decide +kernel) ?_
  exact does_ret (F := F) (m := m) (c := c) _

end Cert.DistArLn

end
-- ==== Proof.Body.lean ====
/-
# The whole kernel, run

From what a device holds at the start to what it holds when no operation of the chain is left.
-/
module
public import proofs.«01_k».proof.Proof.Prologue
public import proofs.«01_k».proof.Proof.Chain
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

section Whole
variable (m : Mem F) (c : Dev nD)

/-- The chain may stand in for a run whose continuation takes the books up. -/
theorem does_run {α : Type} {ops ops' : List Op} {X X' : sProp 𝕄} {R : α → Prop} {p : Prog (TpuEff nD τ sig (Elt F) Λ₀ .tc) α} {Q : α → sProp 𝕄}
    (h : Does m c ops X ops' X' R p) (hQ : ∀ a, R a → St m c ops' X' ⊢ Q a) : St m c ops X ⊢ Runs c p Q := h.run Q hQ

theorem bind_run {α β : Type} {p : Prog (TpuEff nD τ sig (Elt F) Λ₀ .tc) β} {k : β → Prog (TpuEff nD τ sig (Elt F) Λ₀ .tc) α} {Q : α → sProp 𝕄} :
    (Runs c p fun b => Runs c (k b) Q) ⊢ Runs c (p >>= k) Q := by
  show wp frame (wpE (defs₀ (F := F)) 𝒱₀ (c : Thread nD τ) none) Set.univ p (fun b => wp frame (wpE (defs₀ (F := F)) 𝒱₀ (c : Thread nD τ) none) Set.univ (k b) Q)
    ⊢ wp frame (wpE (defs₀ (F := F)) 𝒱₀ (c : Thread nD τ) none) Set.univ (p >>= k) Q
  rw [wp_bind]

/-- The two rows of the arguments a device copies. -/
abbrev aPts : sProp 𝕄 := ((aRows c).view.loc (c : Thread nD τ) ↦[(aRows c).view.set]{fullShare} m ((c : Thread nD τ).loc main_arg0))
abbrev ePts : sProp 𝕄 := ((eRows c).view.loc (c : Thread nD τ) ↦[(eRows c).view.set]{fullShare} m ((c : Thread nD τ).loc main_arg1))

/-- What a device holds of a semaphore `s` it may wait on once. -/
abbrev one (s : DmaSem sig) (n : ℕ) : sProp 𝕄 := iprop(atPos EX (dmaCell c s) 0 ∅ 0 ∗ cred (tallyAt (dmaCell c s) () n))

/-- For the transfers: what it takes to start each, and to wait for each. -/
def sndStart (q : Fin 60) : sProp 𝕄 :=
  iprop(atPos EX (sendCell c q) 0 ∅ 0 ∗ dutyTok EX (sendCell c q) 0 (0 : Fin 5) ∗ dutyTok EX (recvCell (nbr c q) q) 0 (0 : Fin 5))
def rcvStart (q : Fin 60) : sProp 𝕄 :=
  iprop(atPos EX (recvCell c q) 0 ∅ 0 ∗ if recvOk c q = true then cred (tallyAt (recvCell c q) () NR) else iprop(emp))

/-- All a device owes at the start. -/
def O₀ : CellTallies nD τ sig Unit :=
  oweB c 0 + (oweB c 1 + (oweB c 2 + (oweB c 3 + (oweB c 4 + (oweX c 0 + (oweX c 1 + oweT c 0))))))

/-- What lies beside the chain of transfers. -/
def Rest : sProp 𝕄 :=
  iprop(atPos EX (barCell c) 1 ∅ 0 ∗ atPos EX (dmaCell c (locSem 0)) 1 ∅ 0 ∗ atPos EX (dmaCell c (locSem 1)) 1 ∅ 0
    ∗ atPos EX (dmaCell c (xrSem 0)) 1 ∅ 0 ∗ atPos EX (dmaCell c (xrSem 1)) 1 ∅ 0
    ∗ hPts c 0 (peer m c) ∗ hPts c 1 (peer m c) ∗ blocks m c ∗ aPts m c ∗ ePts m c ∗ ((c : Thread nD τ).loc cc0_stg0_0 ↦{fullShare} gam m c))

theorem sent0 (q : Fin 60) : (book₀ c).sent.testBit q.val = false := Nat.zero_testBit _
theorem got0 (q : Fin 60) : (book₀ c).got.testBit q.val = false := Nat.zero_testBit _

/-- The books opened. -/
theorem open_books (f : Buf (Elt F) ((c : Thread nD τ).loc cc0_stg1_0)) (X : sProp 𝕄) :
    iprop(known m ∗ (bigSep Finset.univ fun q => sndStart c q) ∗ (bigSep Finset.univ fun q => roomAt c (dirOf q) q) ∗ (bigSep Finset.univ fun q => rcvStart c q)
      ∗ ((c : Thread nD τ).loc cc0_stg1_0 ↦[ownSet c]{fullShare} stored m c f) ∗ Owes c (oweT c 0) ∗ X)
    ⊢ St m c first X := by
  have h1 : iprop((bigSep Finset.univ fun q => sndStart c q) ∗ (bigSep Finset.univ fun q => roomAt c (dirOf q) q))
      ⊢ (bigSep Finset.univ fun q => sndRes c (book₀ c) q : sProp 𝕄) := by
    rw [← bigSep_sep']
    refine bigSep_mono fun q _ => ?_
    unfold sndStart sndRes; rw [sent0]
    show iprop(_ ∗ _) ⊢ iprop(atPos EX (sendCell c q) 0 ∅ 0 ∗ dutyTok EX (sendCell c q) 0 (0 : Fin 5) ∗ dutyTok EX (recvCell (nbr c q) q) 0 (0 : Fin 5)
      ∗ roomAt c (dirOf q) q)
    iintro ⟨⟨H1, H2, H3⟩, H4⟩
    isplitl [H1]; · iexact H1
    isplitl [H2]; · iexact H2
    isplitl [H3]; · iexact H3
    iexact H4
  have h2 : (bigSep Finset.univ fun q => rcvStart c q : sProp 𝕄) ⊢ bigSep Finset.univ fun q => rcvRes c (book₀ c) q := by
    refine bigSep_mono fun q _ => ?_
    unfold rcvStart rcvRes; rw [got0]; exact same rfl
  unfold St stand
  iintro ⟨#HK, Hs, Hr, Hv, Ho, HO, HX⟩
  isplitr; · iexact HK
  isplitr [HX]
  · iexists (book₀ c)
    isplitr; · ipureintro; exact runs_all c
    isplitl [Hs Hr]
    · iapply h1
      isplitl [Hs] <;> iassumption
    isplitl [Hv]; · iapply h2 $$ Hv
    isplitl [Ho]; · iapply (held_of_own m c f) $$ Ho
    iexact HO
  · iexact HX

/-- What the neighbours handed over, direction by direction. -/
theorem bar_all : (barSt c (deg c) : sProp 𝕄) ⊢ iprop(atPos EX (barCell c) 1 ∅ 0
    ∗ (((∃ f, hPts (nb 0 c) 0 f) ∗ ∃ f, hPts (nb 0 c) 1 f) ∗ bigSep Finset.univ fun q => roomAt c (dirOf q) q)) := by
  have h := (Entails.of_eq (bigSep_filter (M := 𝕄) Finset.univ (fun d : Fin 5 => hasNb d c = true) (fun d => barPay c d))).trans (gather c)
  unfold barSt; rw [if_pos rfl]
  iintro ⟨H1, H2⟩
  isplitl [H1]; · iexact H1
  iapply h $$ H2

/-- All a device holds at the start of the kernel, its own buffers apart. -/
def Begin : sProp 𝕄 :=
  iprop(known m ∗ (dutyTok EX (dmaCell c (locSem 0)) 0 (0 : Fin 5) ∗ dutyTok EX (dmaCell c (locSem 1)) 0 (0 : Fin 5))
    ∗ (bigSep Finset.univ fun d => sigRes c d) ∗ barSt c 0
    ∗ (atPos EX (dmaCell c (locSem 0)) 0 ∅ 0 ∗ atPos EX (dmaCell c (locSem 1)) 0 ∅ 0)
    ∗ (atPos EX (dmaCell c (xsSem 0)) 0 ∅ 0 ∗ atPos EX (dmaCell c (xsSem 1)) 0 ∅ 0)
    ∗ (toksX c 0 ∗ toksX c 1) ∗ (one c (xrSem 0) NH ∗ one c (xrSem 1) NH)
    ∗ (bigSep Finset.univ fun q => sndStart c q) ∗ (bigSep Finset.univ fun q => rcvStart c q))

theorem five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

set_option maxHeartbeats 0 in
set_option maxRecDepth 100000 in
/-- The first third: up to hop 1 of the exchanges. -/
theorem run165 {Q : _ → sProp 𝕄} {f : Buf (Elt F) ((c : Thread nD τ).loc cc0_stg1_0)} {h0 h1 h2 h3 h4 h5 h6 h7}
    (hQ : ∀ a : _, a.1 = c → St m c (hop1.drop 30) iprop(xsBefore c 0 ∗ (xsBefore c 1 ∗ Rest m c)) ⊢ Q a) :
    iprop(Begin m c ∗ (aPts m c ∗ ∃ f, (c : Thread nD τ).loc cc0_scratch0 ↦{fullShare} f) ∗ (ePts m c ∗ ∃ f, (c : Thread nD τ).loc cc0_scratch3 ↦{fullShare} f)
      ∗ (∃ f, (c : Thread nD τ).loc cc0_scratch1 ↦{fullShare} f) ∗ ((c : Thread nD τ).loc cc0_stg0_0 ↦{fullShare} gam m c)
      ∗ ((c : Thread nD τ).loc cc0_stg1_0 ↦[ownSet c]{fullShare} f) ∗ Owes c (O₀ c))
    ⊢ Runs c (k0_part165 (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14) Q := by
  unfold k0_part165 Begin
  rw [five]
  iintro ⟨⟨#HK, ⟨Tl0, Tl1⟩, ⟨S0, S1, S2, S3, S4⟩, HB, ⟨Al0, Al1⟩, ⟨As0, As1⟩, ⟨Tx0, Tx1⟩, ⟨Xr0, Xr1⟩, Hs, Hv⟩, ⟨HA, Hp⟩, ⟨HE, Hr⟩, Hb, Hg, Ho, HO⟩
  iapply (bind_run c)
  iapply (run1 m c (O := oweB c 2 + (oweB c 3 + (oweB c 4 + (oweX c 0 + (oweX c 1 + oweT c 0)))))) $$ [Tl0 Tl1 S0 S1 HA Hp HE Hr HO]
  · isplitr; · iexact HK
    isplitl [HA Hp Tl0]
    · isplitl [HA]; · iexact HA
      isplitl [Hp] <;> iassumption
    isplitl [HE Hr Tl1]
    · isplitl [HE]; · iexact HE
      isplitl [Hr] <;> iassumption
    isplitl [S0]; · iexact S0
    isplitl [S1]; · iexact S1
    iexact HO
  iintro %v2 %v11 %v31 %c0 ⟨Cl0, Cl1, HO⟩
  iapply (bind_run c)
  iapply (run2 m c) $$ [S2 S3 S4 HO HB Al0 Cl0 Hb]
  · isplitr; · iexact HK
    isplitl [S2]; · iexact S2
    isplitl [S3]; · iexact S3
    isplitl [S4]; · iexact S4
    isplitl [HO]; · iexact HO
    isplitl [HB]; · iexact HB
    isplitl [Al0 Cl0]
    · isplitl [Al0] <;> iassumption
    iexact Hb
  iintro ⟨HB, HO, Al0, P0, Hb⟩
  ihave HB' := (bar_all (F := F) c) $$ HB
  icases HB' with ⟨HB, Hh, Hroom⟩
  ihave Hb' := (b_halves c (pstb m c)).1 $$ Hb
  iapply (bind_run c)
  iapply (run3 m c) $$ [Tx0 Tx1 Hh Hb' HO Al1 Cl1 Hg]
  · isplitr; · iexact HK
    isplitl [Tx0]; · iexact Tx0
    isplitl [Tx1]; · iexact Tx1
    isplitl [Hh]; · iexact Hh
    isplitl [Hb']; · iexact Hb'
    isplitl [HO]; · iexact HO
    isplitl [Al1 Cl1]
    · isplitl [Al1] <;> iassumption
    iexact Hg
  iintro %v60 %v73 ⟨Cx0, Cx1, HO, Al1, P1, Hg⟩
  ihave P0' := (same (F := F) (P := dmaPay m c (.loc 0)) (Q := iprop((pM.view.loc (c : Thread nD τ) ↦[pM.view.set]{fullShare} pst m c) ∗ aPts m c)) rfl) $$ P0
  ihave P1' := (same (F := F) (P := dmaPay m c (.loc 1)) (Q := iprop((rM.view.loc (c : Thread nD τ) ↦[rM.view.set]{fullShare} rst m c) ∗ ePts m c)) rfl) $$ P1
  icases P0' with ⟨Hp, HA⟩
  icases P1' with ⟨Hr, HE⟩
  ihave Hbl := (show iprop((pM.view.loc (c : Thread nD τ) ↦[pM.view.set]{fullShare} pst m c) ∗ (rM.view.loc (c : Thread nD τ) ↦[rM.view.set]{fullShare} rst m c)) ⊢ (blocks m c : sProp 𝕄) by
    unfold blocks
    rw [show pM.view.set = Finset.univ from View.set_whole cc0_scratch0, show rM.view.set = Finset.univ from View.set_whole cc0_scratch3]) $$ [Hp Hr]
  · isplitl [Hp] <;> iassumption
  iapply (bind_run c)
  iapply (run4 m c) $$ [Hbl HO Xr0 Ho]
  · isplitr; · iexact HK
    isplitl [Hbl]; · iexact Hbl
    isplitl [HO]; · iexact HO
    isplitl [Xr0] <;> iassumption
  iintro %v125 ⟨Hbl, HO, Ar0, Hh0, Ho⟩
  iapply (bind_run c)
  iapply (run5 m c) $$ [Hbl HO Xr1 Ho]
  · isplitr; · iexact HK
    isplitl [Hbl]; · iexact Hbl
    isplitl [HO]; · iexact HO
    isplitl [Xr1] <;> iassumption
  iintro %v158 %v161 ⟨Hbl, HO, Ar1, Hh1, Ho⟩
  iapply (does_run m c (ops := first) (ops' := hop1.drop 30) (X := iprop(xsBefore c 0 ∗ (xsBefore c 1 ∗ Rest m c))) (X' := iprop(xsBefore c 0 ∗ (xsBefore c 1 ∗ Rest m c)))
    (R := fun a => a.1 = c) ?tail hQ)
  case tail =>
    clear hQ f
    iterate 55
      refine does_bind (ops' := ?_) (X' := ?_) ?_ fun _ => ?_
      rotate_left 2
      · repeat first
          | refine does_send (by rfl) (by rfl) (by revert c; decide +kernel) ?_
          | refine does_recv (by rfl) (by revert c; decide +kernel) ?_
          | refine does_gone (by rfl) (by revert c; decide +kernel) ?_
        exact does_ret (F := F) (m := m) (c := c) _
    refine does_pure _ ?_
    rfl
  iapply (open_books m c f)
  isplitr; · iexact HK
  isplitl [Hs]; · iexact Hs
  isplitl [Hroom]; · iexact Hroom
  isplitl [Hv]; · iexact Hv
  isplitl [Ho]; · unfold stored; iexact Ho
  isplitl [HO]; · iexact HO
  unfold xsBefore Rest
  isplitl [As0 Cx0]
  · isplitl [As0] <;> iassumption
  isplitl [As1 Cx1]
  · isplitl [As1] <;> iassumption
  isplitl [HB]; · iexact HB
  isplitl [Al0]; · iexact Al0
  isplitl [Al1]; · iexact Al1
  isplitl [Ar0]; · iexact Ar0
  isplitl [Ar1]; · iexact Ar1
  isplitl [Hh0]; · iexact Hh0
  isplitl [Hh1]; · iexact Hh1
  isplitl [Hbl]; · iexact Hbl
  isplitl [HA]; · iexact HA
  isplitl [HE]; · iexact HE
  iexact Hg

set_option maxHeartbeats 0 in
set_option maxRecDepth 100000 in
/-- Whatever the operations of the chain leave to do, the run of the whole kernel. -/
theorem run_whole {Q : PUnit → sProp 𝕄} {f : Buf (Elt F) ((c : Thread nD τ).loc cc0_stg1_0)} {h0 h1 h2 h3 h4 h5 h6 h7}
    (hQ : St m c [] iprop(xsAfter m c 1 ∗ (xsAfter m c 0 ∗ Rest m c)) ⊢ Q ⟨⟩) :
    iprop(Begin m c ∗ (aPts m c ∗ ∃ f, (c : Thread nD τ).loc cc0_scratch0 ↦{fullShare} f) ∗ (ePts m c ∗ ∃ f, (c : Thread nD τ).loc cc0_scratch3 ↦{fullShare} f)
      ∗ (∃ f, (c : Thread nD τ).loc cc0_scratch1 ↦{fullShare} f) ∗ ((c : Thread nD τ).loc cc0_stg0_0 ↦{fullShare} gam m c)
      ∗ ((c : Thread nD τ).loc cc0_stg1_0 ↦[ownSet c]{fullShare} f) ∗ Owes c (O₀ c))
    ⊢ Runs c (cc0_body (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14) Q := by
  rw [cc0_body_eq_skeleton]; unfold cc0_body_skel
  refine BIBase.Entails.trans ?_ (bind_run c)
  refine run165 m c fun a ha => ?_
  obtain ⟨d0, rest⟩ := a
  obtain rfl : d0 = c := ha
  refine does_run m d0 (ops' := []) (X' := iprop(xsAfter m d0 1 ∗ (xsAfter m d0 0 ∗ Rest m d0))) (R := fun _ => True) ?_ fun _ _ => hQ
  refine does_bind (run166 m d0 _ _ _ _) fun _ => ?_
  refine does_bind (run167 m d0 _ _ _ _) fun _ => ?_
  refine does_gone (by rfl) (by clear hQ f; revert d0; decide +kernel) ?_
  refine does_gone (by rfl) (by clear hQ f; revert d0; decide +kernel) ?_
  refine does_gone (by rfl) (by clear hQ f; revert d0; decide +kernel) ?_
  refine does_gone (by rfl) (by clear hQ f; revert d0; decide +kernel) ?_
  exact does_ret (F := F) (m := m) (c := d0) _

end Whole

end Cert.DistArLn

end
-- ==== Proof.Ends.lean ====
/-
# The beginning and the end

From what the launch hands a device to what its run needs; and, the chain done, every semaphore closed at zero.
-/
module
public import proofs.«01_k».proof.Proof.Body
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

/-! ## The semaphores, by use -/

abbrev J : Type := (Fin 2 ⊕ Fin 2 ⊕ Fin 2) ⊕ (Fin 60 ⊕ Fin 60)
def semJ : J → DmaSem sig
  | .inl (.inl i) => locSem i
  | .inl (.inr (.inl i)) => xsSem i
  | .inl (.inr (.inr i)) => xrSem i
  | .inr (.inl q) => sendSem q
  | .inr (.inr q) => recvSem q
def useJ : J → Use
  | .inl (.inl i) => .loc i
  | .inl (.inr (.inl i)) => .xs i
  | .inl (.inr (.inr i)) => .xr i
  | .inr (.inl q) => .snd q
  | .inr (.inr q) => .rcv q
theorem useOf_semJ (j : J) : useOf (semJ j) = useJ j := by
  rcases j with (i | i | i) | (q | q)
  · exact useOf_loc i
  · exact useOf_xs i
  · exact useOf_xr i
  · exact useOf_send q
  · exact useOf_recv q
theorem semJ_inj : Function.Injective semJ := fun j j' h => by
  have h' : useJ j = useJ j' := by rw [← useOf_semJ, ← useOf_semJ, h]
  rcases j with (i | i | i) | (q | q) <;> rcases j' with (i' | i' | i') | (q' | q') <;> simp only [useJ, reduceCtorEq, Use.loc.injEq, Use.xs.injEq, Use.xr.injEq, Use.snd.injEq, Use.rcv.injEq] at h' <;> rw [h']
theorem semJ_two (j : J) : 2 ≤ (semJ j).val := by
  rcases j with (i | i | i) | (q | q)
  · exact Nat.le_add_right 2 i.val
  · show 2 ≤ 4 + i.val; omega
  · show 2 ≤ 6 + i.val; omega
  · exact two_le_send q
  · exact two_le_recv q
set_option backward.proofsInPublic true in
def idxJ (j : J) : Fin 126 := ⟨(semJ j).val - 2, by have := (semJ j).isLt; have h : (semJ j).val < 128 := this; omega⟩
theorem dsem_idxJ (j : J) : dsem (idxJ j) = semJ j := Fin.ext (by have := semJ_two j; show (semJ j).val - 2 + 2 = _; omega)
theorem idxJ_bij : Function.Bijective idxJ := (Fintype.bijective_iff_injective_and_card _).mpr
  ⟨fun j j' h => semJ_inj (by rw [← dsem_idxJ, ← dsem_idxJ, h]), by simp only [Fintype.card_sum, Fintype.card_fin]⟩
def eJ : J ≃ Fin 126 := Equiv.ofBijective idxJ idxJ_bij

theorem two (Φ : Fin 2 → sProp 𝕄) : bigSep Finset.univ Φ = iprop(Φ 0 ∗ Φ 1) := bigSep_univ_eq_bigSepL [0, 1] (by decide) (by decide) Φ

theorem dma_split (Φ : DmaSem sig → sProp 𝕄) : (bigSep Finset.univ fun j : Fin 126 => Φ (dsem j))
    = iprop(((Φ (locSem 0) ∗ Φ (locSem 1)) ∗ (Φ (xsSem 0) ∗ Φ (xsSem 1)) ∗ (Φ (xrSem 0) ∗ Φ (xrSem 1)))
      ∗ (bigSep Finset.univ fun q => Φ (sendSem q)) ∗ (bigSep Finset.univ fun q => Φ (recvSem q))) := by
  rw [bigSep_univ_equiv eJ, bigSep_congr (s := Finset.univ) (Ψ := fun j => Φ (semJ j)) fun j _ => show Φ (dsem (eJ j)) = Φ (semJ j) from congrArg Φ (dsem_idxJ j),
    bigSep_univ_sum, bigSep_univ_sum, bigSep_univ_sum, bigSep_univ_sum, two, two, two]
  rfl
theorem cells_split (Φ : SemLoc sig → sProp 𝕄) : (bigSep Finset.univ fun k : Cells => Φ (csem k))
    = iprop((((Φ (.dma (locSem 0)) ∗ Φ (.dma (locSem 1))) ∗ (Φ (.dma (xsSem 0)) ∗ Φ (.dma (xsSem 1))) ∗ (Φ (.dma (xrSem 0)) ∗ Φ (.dma (xrSem 1))))
      ∗ (bigSep Finset.univ fun q => Φ (.dma (sendSem q))) ∗ (bigSep Finset.univ fun q => Φ (.dma (recvSem q)))) ∗ Φ (.reg barS)) := by
  rw [bigSep_univ_sum, dma_split fun s => Φ (.dma s), bigSep_univ_eq_bigSepL [()] (by decide) (by decide)]
  rfl

/-! ## The end -/

section Finish
variable (m : Mem F) (c : Dev nD)

theorem with_known {I : Type} [DecidableEq I] {S : Finset I} {Φ Ψ : I → sProp 𝕄}
    (h : ∀ i ∈ S, iprop(known m ∗ Φ i) ⊢ |={Set.univ}=> Ψ i) : iprop(known m ∗ bigSep S Φ) ⊢ |={Set.univ}=> bigSep S Ψ := by
  have h1 : iprop(known m ∗ bigSep S Φ) ⊢ (bigSep S fun i => iprop(known m ∗ Φ i) : sProp 𝕄) := by
    rw [bigSep_sep']
    iintro ⟨HK, H⟩
    isplitl [HK]
    · iapply (BI.bigSep_of_persistent S (known m)) $$ HK
    · iexact H
  exact h1.trans ((bigSep_mono h).trans (bigSep_fupd _ _))

theorem close_cell (k : Cells) (R : ℕ) (h : ∀ r, R ≤ r → (sched m).duties (kcell (c, k)) r = ∅) :
    iprop(known m ∗ atPos EX (kcell (c, k)) R ∅ 0) ⊢ |={Set.univ}=> (semVal (kcell (c, k)) 0 : sProp 𝕄) := by
  iintro ⟨#HK, Ha⟩
  ihave HI := (known_cell m (c, k)) $$ HK
  icases HI with ⟨%κ, HI, -⟩
  iapply (Rounds.cell_close EX (sched m) (Set.mem_univ κ) (fun h => h) (R := R) h)
  isplitl [HI] <;> iassumption

theorem close_dma (s : DmaSem sig) (hs : 2 ≤ s.val) (R : ℕ) (h : 1 ≤ R ∨ dmaDuties c (useOf s) = ∅) :
    iprop(known m ∗ atPos EX (dmaCell c s) R ∅ 0) ⊢ |={Set.univ}=> (semVal (dmaCell c s) 0 : sProp 𝕄) := by
  have hd : s = dsem ⟨s.val - 2, by have : s.val < 128 := s.isLt; omega⟩ := Fin.ext (by show s.val = s.val - 2 + 2; omega)
  have hR : ∀ r, R ≤ r → (sched m).duties (dmaCell c s) r = ∅ := fun r hr => by
    rcases h with h | h
    · exact duties_later m _ r (h.trans hr)
    · rcases Nat.eq_zero_or_pos r with rfl | h0
      · rw [duties_dma, h]
      · exact duties_later m _ r h0
  rw [hd] at hR ⊢
  exact close_cell m c (.inl _) R hR

theorem close_snd (s : Book) (q : Fin 60) (h : (!sendOk c q || (s.sent.testBit q.val && s.gone.testBit q.val)) = true) :
    iprop(known m ∗ sndRes c s q) ⊢ |={Set.univ}=> (semVal (sendCell c q) 0 : sProp 𝕄) := by
  have hq := two_le_send q
  have h0 : sendOk c q = false → dmaDuties c (useOf (sendSem q)) = ∅ := fun e => by
    rw [useOf_send]; show (if sendOk c q = true then ({0} : Finset (Fin 5)) else ∅) = ∅; rw [if_neg (by rw [e]; decide)]
  unfold sndRes
  split
  · split
    · exact close_dma m c _ hq 1 (.inl le_rfl)
    · rename_i hg
      refine BIBase.Entails.trans ?_ (close_dma m c _ hq 0 (.inr (h0 ?_)))
      · iintro ⟨HK, Ha, -⟩
        isplitl [HK] <;> iassumption
      · revert h; rw [Bool.not_eq_true] at hg; rw [hg, Bool.and_false, Bool.or_false]; simp only [Bool.not_eq_true', imp_self]
  · rename_i hg
    refine BIBase.Entails.trans ?_ (close_dma m c _ hq 0 (.inr (h0 ?_)))
    · iintro ⟨HK, Ha, -⟩
      isplitl [HK] <;> iassumption
    · revert h; rw [Bool.not_eq_true] at hg; rw [hg, Bool.false_and, Bool.or_false]; simp only [Bool.not_eq_true', imp_self]

theorem close_rcv (s : Book) (q : Fin 60) (h : (!recvOk c q || s.got.testBit q.val) = true) :
    iprop(known m ∗ rcvRes c s q) ⊢ |={Set.univ}=> (semVal (recvCell c q) 0 : sProp 𝕄) := by
  have hq := two_le_recv q
  have h0 : recvOk c q = false → dmaDuties c (useOf (recvSem q)) = ∅ := fun e => by
    rw [useOf_recv]; show (if recvOk c q = true then ({0} : Finset (Fin 5)) else ∅) = ∅; rw [if_neg (by rw [e]; decide)]
  unfold rcvRes
  split
  · exact close_dma m c _ hq 1 (.inl le_rfl)
  · rename_i hg
    refine BIBase.Entails.trans ?_ (close_dma m c _ hq 0 (.inr (h0 ?_)))
    · iintro ⟨HK, Ha, -⟩
      isplitl [HK] <;> iassumption
    · revert h; rw [Bool.not_eq_true] at hg; rw [hg, Bool.or_false]; simp only [Bool.not_eq_true', imp_self]

theorem owe_none (s : Book) (h : ∀ q, (!sendOk c q || (s.sent.testBit q.val && s.gone.testBit q.val)) = true) : oweT c s.sent = 0 :=
  Finset.sum_eq_zero fun q _ => if_neg fun ⟨h1, h2⟩ => by
    have := h q; rw [h1, h2, Bool.false_and] at this; exact absurd this (by decide)

/-- What a device holds once its cells are closed. -/
def Done : sProp 𝕄 :=
  iprop((bigSep Finset.univ fun k : Cells => semVal (kcell (c, k)) 0) ∗ (aPts m c ∗ ePts m c) ∗ blocks m c
    ∗ ((∃ f, (c : Thread nD τ).loc cc0_scratch1 ↦{fullShare} f) ∗ (∃ f, (c : Thread nD τ).loc cc0_scratch2 ↦{fullShare} f))
    ∗ ((c : Thread nD τ).loc cc0_stg0_0 ↦{fullShare} gam m c) ∗ ((c : Thread nD τ).loc cc0_stg1_0 ↦{fullShare} out m c) ∗ Owes c 0)

theorem finish : St m c [] iprop(xsAfter m c 1 ∗ (xsAfter m c 0 ∗ Rest m c)) ⊢ |={Set.univ}=> Done m c := by
  unfold St stand xsAfter Rest Done
  iintro ⟨#HK, ⟨%s, %hs, Hs, Hv, Hr, ⟨%W, HO⟩⟩, ⟨A1, P1⟩, ⟨A0, P0⟩, HB, L0, L1, R0, R1, Hh0, Hh1, Hbl, HA, HE, Hg⟩
  have hf : finished c s = true := hs
  unfold finished at hf
  rw [Bool.and_eq_true, List.all_eq_true] at hf
  obtain ⟨hq, hh⟩ := hf
  have hsnd : ∀ q, (!sendOk c q || (s.sent.testBit q.val && s.gone.testBit q.val)) = true := fun q => (Bool.and_eq_true_iff.mp (hq q (List.mem_finRange q))).1
  have hrcv : ∀ q, (!recvOk c q || s.got.testBit q.val) = true := fun q => (Bool.and_eq_true_iff.mp (hq q (List.mem_finRange q))).2
  rw [owe_none c s hsnd, cells_split fun sm => (semVal ((c : Thread nD τ), sm) 0 : sProp 𝕄)]
  imod (with_known m (Ψ := fun q => semVal (sendCell c q) 0) fun q _ => close_snd m c s q (hsnd q)) $$ [Hs] with Zs
  · isplitr; · iexact HK
    iexact Hs
  imod (with_known m (Ψ := fun q => semVal (recvCell c q) 0) fun q _ => close_rcv m c s q (hrcv q)) $$ [Hv] with Zv
  · isplitr; · iexact HK
    iexact Hv
  imod (close_dma m c (locSem 0) (by decide) 1 (.inl le_rfl)) $$ [L0] with L0
  · isplitr; · iexact HK
    iexact L0
  imod (close_dma m c (locSem 1) (by decide) 1 (.inl le_rfl)) $$ [L1] with L1
  · isplitr; · iexact HK
    iexact L1
  imod (close_dma m c (xsSem 0) (by decide) 1 (.inl le_rfl)) $$ [A0] with A0
  · isplitr; · iexact HK
    iexact A0
  imod (close_dma m c (xsSem 1) (by decide) 1 (.inl le_rfl)) $$ [A1] with A1
  · isplitr; · iexact HK
    iexact A1
  imod (close_dma m c (xrSem 0) (by decide) 1 (.inl le_rfl)) $$ [R0] with R0
  · isplitr; · iexact HK
    iexact R0
  imod (close_dma m c (xrSem 1) (by decide) 1 (.inl le_rfl)) $$ [R1] with R1
  · isplitr; · iexact HK
    iexact R1
  imod (close_cell m c (.inr ()) 1 (duties_later m _)) $$ [HB] with HB
  · isplitr; · iexact HK
    iexact HB
  ihave Hr' := (out_of_held m c s (by simpa only [beq_iff_eq] using hh)) $$ Hr
  imodintro
  isplitl [Zs Zv L0 L1 A0 A1 R0 R1 HB]
  · isplitr [HB]
    · isplitl [L0 L1 A0 A1 R0 R1]
      · isplitl [L0 L1]
        · isplitl [L0]; · iexact L0
          iexact L1
        isplitl [A0 A1]
        · isplitl [A0]; · iexact A0
          iexact A1
        isplitl [R0]; · iexact R0
        iexact R1
      isplitl [Zs]; · iexact Zs
      iexact Zv
    · iexact HB
  isplitl [HA HE]
  · isplitl [HA] <;> iassumption
  isplitl [Hbl]; · iexact Hbl
  isplitl [P0 P1 Hh0 Hh1]
  · isplitl [P0 P1]
    · iexists (pstb m c)
      iapply (b_halves c (pstb m c)).2
      isplitl [P0]; · iapply (same (F := F) (P := dmaPay m c (.xs 0)) (Q := bPts c 0 (pstb m c)) rfl) $$ P0
      iapply (same (F := F) (P := dmaPay m c (.xs 1)) (Q := bPts c 1 (pstb m c)) rfl) $$ P1
    · iexists (peer m c)
      iapply (h_halves c (peer m c)).2
      isplitl [Hh0] <;> iassumption
  isplitl [Hg]; · iexact Hg
  isplitl [Hr']; · iexact Hr'
  iexists W; iexact HO
/-! ## The beginning -/

/-- The tokens of the duties a device pays; -/
def payToks (c : Dev nD) : sProp 𝕄 :=
  iprop((((dutyTok EX (dmaCell c (locSem 0)) 0 (0 : Fin 5) ∗ dutyTok EX (dmaCell c (locSem 1)) 0 (0 : Fin 5))
      ∗ (dutyTok EX (dmaCell c (xsSem 0)) 0 (0 : Fin 5) ∗ dutyTok EX (dmaCell c (xsSem 1)) 0 (0 : Fin 5))
      ∗ (dutyTok EX (dmaCell (nb 0 c) (xrSem 0)) 0 (0 : Fin 5) ∗ dutyTok EX (dmaCell (nb 0 c) (xrSem 1)) 0 (0 : Fin 5)))
    ∗ (bigSep Finset.univ fun q => dutyTok EX (sendCell c q) 0 (0 : Fin 5)) ∗ (bigSep Finset.univ fun q => dutyTok EX (recvCell (nbr c q) q) 0 (0 : Fin 5)))
    ∗ bigSep Finset.univ fun d => dutyTok EX (barCell (nb d c)) 0 (opp d))
/-- the credit of what its neighbours owe it; -/
def credits (c : Dev nD) : sProp 𝕄 :=
  iprop(cred (tallyAt (barCell c) () (deg c)) ∗ (cred (tallyAt (dmaCell c (xrSem 0)) () NH) ∗ cred (tallyAt (dmaCell c (xrSem 1)) () NH))
    ∗ bigSep Finset.univ fun q => if recvOk c q = true then cred (tallyAt (recvCell c q) () NR) else iprop(emp))
/-- with its positions, all it starts from. -/
def start : sProp 𝕄 := iprop(known m ∗ (bigSep Finset.univ fun k : Cells => atPos EX (kcell (c, k)) 0 ∅ 0) ∗ payToks c ∗ credits c)

theorem deg_pos : 0 < deg c := by revert c; decide +kernel

theorem hasNb_zero : hasNb 0 c = true := by revert c; decide +kernel

theorem sig_zero (f : Buf (Elt F) ((c : Thread nD τ).loc cc0_scratch2)) :
    iprop(dutyTok EX (barCell (nb 0 c)) 0 (opp 0) ∗ (hPts c 0 f ∗ hPts c 1 f)) ⊢ (sigRes c 0 : sProp 𝕄) := by
  unfold sigRes; rw [if_pos (hasNb_zero c)]
  have e : nb 0 (nb 0 c) = c := nb_opp 0 c
  show _ ⊢ iprop(_ ∗ barPay (nb 0 c) (0 : Fin 5))
  unfold barPay; rw [if_pos rfl, e]
  iintro ⟨HT, H0, H1⟩
  isplitl [HT]; · iexact HT
  isplitl [H0]
  · iexists f; iexact H0
  · iexists f; iexact H1

theorem sig_other (d : Fin 5) (hd : opp d ≠ 0) :
    iprop(dutyTok EX (barCell (nb d c)) 0 (opp d) ∗ bigSep Finset.univ fun q => roomAt (nb d c) (opp d) q) ⊢ (sigRes c d : sProp 𝕄) := by
  unfold sigRes barPay; rw [if_neg hd]
  split
  · exact same rfl
  · iintro -; iempintro

theorem begin_intro : iprop(start m c ∗ (∃ f, (c : Thread nD τ).loc cc0_scratch2 ↦{fullShare} f) ∗ ∃ f, (c : Thread nD τ).loc cc0_stg1_0 ↦{fullShare} f)
    ⊢ iprop(Begin m c ∗ ∃ f, (c : Thread nD τ).loc cc0_stg1_0 ↦[ownSet c]{fullShare} f) := by
  unfold start payToks credits Begin toksX one sndStart rcvStart
  rw [cells_split fun sm => (atPos EX ((c : Thread nD τ), sm) 0 ∅ 0 : sProp 𝕄), bigSep_sep', bigSep_sep', bigSep_sep', five, five]
  iintro ⟨⟨#HK, ⟨⟨⟨⟨L0, L1⟩, ⟨X0, X1⟩, ⟨R0, R1⟩⟩, HS, HV⟩, HB⟩, ⟨⟨⟨⟨TL0, TL1⟩, ⟨TX0, TX1⟩, ⟨TR0, TR1⟩⟩, TS, TV⟩, ⟨T0, T1, T2, T3, T4⟩⟩, ⟨CB, ⟨C0, C1⟩, CV⟩⟩, ⟨%g, Hh⟩, ⟨%f, Ho⟩⟩
  ihave Hh' := (h_halves c g).1 $$ Hh
  ihave Ho' := (deal_out c f) $$ Ho
  icases Ho' with ⟨Ho, Hd⟩
  ihave Hd' := (same (five fun d => bigSep Finset.univ fun q => roomAt (F := F) (nb d c) (opp d) q)) $$ Hd
  icases Hd' with ⟨-, D1, D2, D3, D4⟩
  isplitr [Ho]
  · isplitr; · iexact HK
    isplitl [TL0 TL1]
    · isplitl [TL0] <;> iassumption
    isplitl [T0 T1 T2 T3 T4 Hh' D1 D2 D3 D4]
    · isplitl [T0 Hh']
      · iapply (sig_zero c g); isplitl [T0] <;> iassumption
      isplitl [T1 D1]
      · iapply (sig_other c 1 (by decide)); isplitl [T1] <;> iassumption
      isplitl [T2 D2]
      · iapply (sig_other c 2 (by decide)); isplitl [T2] <;> iassumption
      isplitl [T3 D3]
      · iapply (sig_other c 3 (by decide)); isplitl [T3] <;> iassumption
      · iapply (sig_other c 4 (by decide)); isplitl [T4] <;> iassumption
    isplitl [CB HB]
    · unfold barSt
      rw [if_neg (Nat.ne_of_lt (deg_pos c)), Nat.sub_zero]
      isplitl [CB]; · iexact CB
      iexists ∅
      isplitr; · ipureintro; exact Finset.empty_subset _
      isplitl [HB]; · iexact HB
      rw [bigSep_empty]; iempintro
    isplitl [L0 L1]
    · isplitl [L0] <;> iassumption
    isplitl [X0 X1]
    · isplitl [X0] <;> iassumption
    isplitl [TX0 TX1 TR0 TR1]
    · isplitl [TX0 TR0]
      · isplitl [TX0] <;> iassumption
      · isplitl [TX1] <;> iassumption
    isplitl [R0 R1 C0 C1]
    · isplitl [R0 C0]
      · isplitl [R0] <;> iassumption
      · isplitl [R1] <;> iassumption
    isplitl [HS TS TV]
    · isplitl [HS]; · iexact HS
      isplitl [TS] <;> iassumption
    isplitl [HV] <;> iassumption
  · iexists f; iexact Ho

end Finish

end Cert.DistArLn

end
-- ==== Proof.Launch.lean ====
/-
# The kernel at its launch

The proof data of the one region, and its body's obligation: what the launch hands a device suffices for its whole run, and the run
leaves every semaphore at zero, the inputs as they were and the result in its staging buffer.
-/
module
public import proofs.«01_k».proof.Proof.Ends
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

/-! ## The proof data of the region -/

section Data
variable (m : Mem F)

/-- The blocks the region does not stage, as the kernel finds and leaves them. -/
def argPts (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1)))
/-- The scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- Before the kernel; -/
def Φ₀ (c : Dev nD) : sProp 𝕄 := iprop(start m c ∗ argPts m c ∗ scratch (F := F) c)
/-- after it: every semaphore at zero. -/
def Φ₁ (c : Dev nD) : sProp 𝕄 := iprop((bigSep Finset.univ fun k : Cells => semVal (kcell (c, k)) 0) ∗ argPts m c ∗ scratch (F := F) c)

def dats (_ : Fin 1) (c : Dev nD) : Pipeline.Dat τ (Elt F) Unit ℕ UU ℕ cfg0 c where
  A w := m ((cfg0.win w).arr.view.loc (c : Thread nD τ))
  after w _ := match w with
    | ⟨0, _⟩ => gam m c
    | ⟨1, _⟩ => out m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev holding (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem cut_a (c : Dev nD) (f : Buf (Elt F) ((c : Thread nD τ).loc main_arg0)) :
    (((c : Thread nD τ).loc main_arg0 ↦{fullShare} f : sProp 𝕄)) ⊣⊢
      iprop(((aRows c).view.loc (c : Thread nD τ) ↦[(aRows c).view.set]{fullShare} f) ∗ ((c : Thread nD τ).loc main_arg0 ↦[Finset.univ \ (aRows c).view.set]{fullShare} f)) :=
  pointsTo_split_subset (Finset.subset_univ _)
theorem cut_e (c : Dev nD) (f : Buf (Elt F) ((c : Thread nD τ).loc main_arg1)) :
    (((c : Thread nD τ).loc main_arg1 ↦{fullShare} f : sProp 𝕄)) ⊣⊢
      iprop(((eRows c).view.loc (c : Thread nD τ) ↦[(eRows c).view.set]{fullShare} f) ∗ ((c : Thread nD τ).loc main_arg1 ↦[Finset.univ \ (eRows c).view.set]{fullShare} f)) :=
  pointsTo_split_subset (Finset.subset_univ _)

def pre (c : Dev nD) : sProp 𝕄 :=
  iprop(Φ₀ m c ∗ (dats m 0 c).owesAt () t0_0.castSucc
    ∗ (∃ d, holding c cc0_stg0_0 ((dats m 0 c).before (0 : Fin 2) t0_0 d))
    ∗ (∃ d, holding c cc0_stg1_0 ((dats m 0 c).before (1 : Fin 2) t0_0 d)))
def post (c : Dev nD) : sProp 𝕄 :=
  iprop(Φ₁ m c ∗ (dats m 0 c).owesAt () t0_0.succ ∗ holding c cc0_stg0_0 (gam m c) ∗ holding c cc0_stg1_0 (out m c))

/-- What of the two inputs lies outside the device's rows. -/
def outside (c : Dev nD) : sProp 𝕄 :=
  iprop(((c : Thread nD τ).loc main_arg0 ↦[Finset.univ \ (aRows c).view.set]{fullShare} m ((c : Thread nD τ).loc main_arg0))
    ∗ ((c : Thread nD τ).loc main_arg1 ↦[Finset.univ \ (eRows c).view.set]{fullShare} m ((c : Thread nD τ).loc main_arg1)))

theorem before_gam (c : Dev nD) (d) : (dats m 0 c).before (0 : Fin 2) t0_0 d = gam m c := by
  unfold Pipeline.Dat.before; rw [if_pos (fetch0_0 t0_0)]; rfl

theorem done_post (c : Dev nD) : iprop(Done m c ∗ outside m c) ⊢ post m c := by
  unfold Done outside post Φ₁ argPts scratch blocks Pipeline.Dat.owesAt Pipeline.owesWithin
  iintro ⟨⟨Hz, ⟨HA, HE⟩, ⟨H0, H3⟩, ⟨H1, H2⟩, Hg, Ho, %W, HO⟩, HA', HE'⟩
  isplitl [Hz HA HE H0 H1 H2 H3 HA' HE']
  · isplitl [Hz]; · iexact Hz
    isplitl [HA HE HA' HE']
    · isplitl [HA HA']
      · iapply (cut_a c _).2; isplitl [HA] <;> iassumption
      · iapply (cut_e c _).2; isplitl [HE] <;> iassumption
    isplitl [H0]; · iexists _; iexact H0
    isplitl [H1]; · iexact H1
    isplitl [H2]; · iexact H2
    iexists _; iexact H3
  isplitl [HO]
  · iexists W
    isplitr; · ipureintro; exact fun _ _ => Or.inl trivial
    iexact HO
  isplitl [Hg]
  · iexists _; isplitr; · (ipureintro; rfl)
    iexact Hg
  iexists _; isplitr; · (ipureintro; rfl)
  iexact Ho

set_option maxRecDepth 4000 in
theorem whole_run (c : Dev nD) {Q : PUnit → sProp 𝕄} (h : ∀ a, post m c ⊢ Q a) {h0 h1 h2 h3 h4 h5 h6 h7} : pre m c ⊢ Runs c (cc0_body (F := F) aM h0 eM h1 gM h2 oM h3 pM h4 bM h5 hM h6 rM h7
      cc0_scratch4 cc0_scratch5 cc0_scratch6 cc0_scratch7 cc0_scratch8 cc0_scratch9 cc0_scratch10 cc0_scratch11 cc0_scratch12 cc0_scratch13 cc0_scratch14) Q := by
  have hsplit : pre m c ⊢ iprop((Begin m c ∗ (aPts m c ∗ ∃ f, (c : Thread nD τ).loc cc0_scratch0 ↦{fullShare} f) ∗ (ePts m c ∗ ∃ f, (c : Thread nD τ).loc cc0_scratch3 ↦{fullShare} f)
      ∗ (∃ f, (c : Thread nD τ).loc cc0_scratch1 ↦{fullShare} f) ∗ ((c : Thread nD τ).loc cc0_stg0_0 ↦{fullShare} gam m c)
      ∗ (∃ f, (c : Thread nD τ).loc cc0_stg1_0 ↦[ownSet c]{fullShare} f) ∗ Owes c (O₀ c)) ∗ outside m c) := by
    unfold pre Φ₀ argPts scratch outside Pipeline.Dat.owesAt Pipeline.owesWithin
    rw [show (dats m 0 c).owed t0_0.castSucc = O₀ c from rfl]
    iintro ⟨⟨HS, ⟨HA, HE⟩, H0, H1, H2, H3⟩, ⟨%W, %hW, HO⟩, ⟨%d0, %f0, %hf0, Hg⟩, ⟨%d1, %f1, %hf1, Ho⟩⟩
    rw [before_gam] at hf0
    subst hf0
    ihave HA := (cut_a c _).1 $$ HA
    ihave HE := (cut_e c _).1 $$ HE
    icases HA with ⟨HA, HA'⟩
    icases HE with ⟨HE, HE'⟩
    ihave HB := (begin_intro m c) $$ [HS H2 Ho]
    · isplitl [HS]; · iexact HS
      isplitl [H2]; · iexact H2
      iexists f1; iexact Ho
    icases HB with ⟨HB, Ho⟩
    isplitr [HA' HE']
    · isplitl [HB]; · iexact HB
      isplitl [HA H0]
      · isplitl [HA] <;> iassumption
      isplitl [HE H3]
      · isplitl [HE] <;> iassumption
      isplitl [H1]; · iexact H1
      isplitl [Hg]; · iexact Hg
      isplitl [Ho]; · iexact Ho
      iexists W; iexact HO
    · isplitl [HA'] <;> iassumption
  refine hsplit.trans ?_
  have hrun : iprop(Begin m c ∗ (aPts m c ∗ ∃ f, (c : Thread nD τ).loc cc0_scratch0 ↦{fullShare} f) ∗ (ePts m c ∗ ∃ f, (c : Thread nD τ).loc cc0_scratch3 ↦{fullShare} f)
      ∗ (∃ f, (c : Thread nD τ).loc cc0_scratch1 ↦{fullShare} f) ∗ ((c : Thread nD τ).loc cc0_stg0_0 ↦{fullShare} gam m c)
      ∗ (∃ f, (c : Thread nD τ).loc cc0_stg1_0 ↦[ownSet c]{fullShare} f) ∗ Owes c (O₀ c))
      ⊢ Runs c (cc0_body (F := F) aM h0 eM h1 gM h2 oM h3 pM h4 bM h5 hM h6 rM h7
        cc0_scratch4 cc0_scratch5 cc0_scratch6 cc0_scratch7 cc0_scratch8 cc0_scratch9 cc0_scratch10 cc0_scratch11 cc0_scratch12 cc0_scratch13 cc0_scratch14) (fun _ => iprop(|={Set.univ}=> Done m c)) := by
    iintro ⟨HB, HA, HE, H1, Hg, ⟨%f, Ho⟩, HO⟩
    iapply (run_whole m c (Q := fun _ => iprop(|={Set.univ}=> Done m c)) (f := f) (finish m c))
    isplitl [HB]; · iexact HB
    isplitl [HA]; · iexact HA
    isplitl [HE]; · iexact HE
    isplitl [H1]; · iexact H1
    isplitl [Hg]; · iexact Hg
    isplitl [Ho] <;> iassumption
  exact (sep_mono_left (hrun.trans (wp_fupd _ _ _ _ _))).trans ((wp_frame_r _ _ _).trans (wp_mono _ _ _ fun a => (done_post m c).trans (h a)))

set_option maxRecDepth 10000 in
theorem row_at : defs₀ (F := F) .tc 0 (t0_0, cfg0.slots t0_0) = bodyAt0 t0_0 := rfl
set_option maxRecDepth 10000 in
theorem row_body : (bodyAt0 (F := F) t0_0) = cc0_body (F := F) aM (Memref.isWhole_whole _) eM (Memref.isWhole_whole _) gM (hstage0_0 0) oM (hstage0_1 0)
      pM (Memref.isWhole_whole _) bM (Memref.isWhole_whole _) hM (Memref.isWhole_whole _) rM (Memref.isWhole_whole _)
      cc0_scratch4 cc0_scratch5 cc0_scratch6 cc0_scratch7 cc0_scratch8 cc0_scratch9 cc0_scratch10 cc0_scratch11 cc0_scratch12 cc0_scratch13 cc0_scratch14 := rfl

theorem row_run (c : Dev nD) {Q : PUnit → sProp 𝕄} (h : ∀ a, post m c ⊢ Q a) : pre m c ⊢ Runs c (defs₀ (F := F) .tc 0 (t0_0, cfg0.slots t0_0)) Q := by
  rw [row_at, row_body]; exact whole_run m c h

attribute [local irreducible] out gam Φ₁ in
theorem phi_succ (c : Dev nD) : (dats m 0 c).Φ t0_0.succ = Φ₁ m c := rfl
attribute [local irreducible] out gam in
theorem after_gam (c : Dev nD) : (dats m 0 c).after (0 : Fin 2) t0_0 = gam m c := rfl
attribute [local irreducible] out gam in
theorem after_out (c : Dev nD) : (dats m 0 c).after (1 : Fin 2) t0_0 = out m c := rfl

attribute [local irreducible] out gam Φ₁ in
theorem body_obligation (c : Dev nD) : Pipeline.BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [staged]
  rw [phi_succ, after_gam, after_out]
  refine BIBase.Entails.trans (show _ ⊢ pre m c from same rfl) ?_
  refine row_run m c ?_
  intro a
  exact same rfl

end Data

end Cert.DistArLn

end
-- ==== Proof.Deal.lean ====
/-
# The launch dealt

Which records the launch makes, which tokens it mints and to which devices they go, and the credit each device starts with.
-/
module
public import proofs.«01_k».proof.Proof.Launch
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

section Deal
variable (m : Mem F)

/-! ## The cells and the tokens minted -/

theorem csem_injective : Function.Injective csem := fun k k' h => by
  rcases k with j | u <;> rcases k' with j' | u'
  · have h1 : dsem j = dsem j' := SemLoc.dma.inj h
    have h2 : j.val + 2 = j'.val + 2 := congrArg Fin.val h1
    exact congrArg Sum.inl (Fin.ext (by omega))
  · exact absurd h (by intro h; cases h)
  · exact absurd h (by intro h; cases h)
  · rfl
theorem kcell_injective : Function.Injective kcell := fun ck ck' h =>
  Prod.ext (congrArg (fun g : GSem nD τ sig => g.1.1) h) (csem_injective (congrArg Prod.snd h))
def theCells : Finset (GSem nD τ sig) := Finset.univ.map ⟨kcell, kcell_injective⟩

/-- A device's tokens as minted: one for each of its transfer semaphores, five for its barrier. -/
abbrev tokAt : Fin 126 ⊕ Fin 5 → SemLoc sig × Fin 5
  | .inl j => (.dma (dsem j), 0)
  | .inr d => (.reg barS, d)
theorem tokAt_injective : Function.Injective tokAt := fun k k' h => by
  rcases k with j | d <;> rcases k' with j' | d'
  · have h1 : dsem j = dsem j' := SemLoc.dma.inj (congrArg Prod.fst h)
    have h2 : j.val + 2 = j'.val + 2 := congrArg Fin.val h1
    exact congrArg Sum.inl (Fin.ext (by omega))
  · exact absurd (congrArg Prod.fst h) (by intro h; cases h)
  · exact absurd (congrArg Prod.fst h) (by intro h; cases h)
  · exact congrArg Sum.inr (congrArg Prod.snd h)
abbrev tokOf (ct : Dev nD × (Fin 126 ⊕ Fin 5)) : GSem nD τ sig × ℕ × Fin 5 := (((ct.1 : Thread nD τ), (tokAt ct.2).1), 0, (tokAt ct.2).2)
theorem tokOf_injective : Function.Injective tokOf := fun ct ct' h =>
  Prod.ext (congrArg (fun x : GSem nD τ sig × ℕ × Fin 5 => x.1.1.1) h)
    (tokAt_injective (Prod.ext (congrArg (fun x : GSem nD τ sig × ℕ × Fin 5 => x.1.2) h) (congrArg (fun x : GSem nD τ sig × ℕ × Fin 5 => x.2.2) h)))
def theToks : Finset (GSem nD τ sig × ℕ × Fin 5) := Finset.univ.map ⟨tokOf, tokOf_injective⟩

def u₀ : UU := (initOf (Pipeline.cells cfgs cellOf_inj) (Pipeline.launchToks cfgs cellOf_inj), initOf theCells theToks)

/-- The tokens of a device's own cells. -/
def toks (c : Dev nD) : sProp 𝕄 :=
  iprop((bigSep Finset.univ fun j : Fin 126 => dutyTok EX (dmaCell c (dsem j)) 0 (0 : Fin 5)) ∗ bigSep Finset.univ fun d : Fin 5 => dutyTok EX (barCell c) 0 d)

/-- What a device is dealt; -/
def G (c : Dev nD) : sProp 𝕄 :=
  iprop((bigSep Finset.univ fun k : Cells => roundState EX (sched m) (kcell (c, k)) 0)
    ∗ (bigSep Finset.univ fun k : Cells => iprop(atPos EX (kcell (c, k)) 0 ∅ 0 ∗ reached EX (kcell (c, k)) 0)) ∗ toks c)
/-- and what it holds once every cell's record is made and the tokens have gone to the devices that pay with them. -/
def G' (c : Dev nD) : sProp 𝕄 :=
  iprop((∃ K, records m K) ∗ (bigSep Finset.univ fun k : Cells => atPos EX (kcell (c, k)) 0 ∅ 0) ∗ payToks c)

theorem fund_all : BI.own (EX (initOf theCells theToks)) ⊢ (|==> bigSep Finset.univ (G m) : sProp 𝕄) := by
  have hX (Φ : GSem nD τ sig → sProp 𝕄) : bigSep theCells Φ = bigSep Finset.univ fun c : Dev nD => bigSep Finset.univ fun k : Cells => Φ (kcell (c, k)) := by
    unfold theCells; rw [bigSep_map, bigSep_univ_prod]; rfl
  have hT : bigSep theToks (fun x => (dutyTok EX x.1 x.2.1 x.2.2 : sProp 𝕄)) = bigSep Finset.univ fun c : Dev nD => toks c := by
    unfold theToks; rw [bigSep_map, bigSep_univ_prod]
    exact bigSep_congr fun c _ => by unfold toks; rw [bigSep_univ_sum]; rfl
  iintro HX
  imod (Rounds.fund EX (sched m) theCells theToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The records -/

/-- The kernel's own semaphores. -/
abbrev osem (j : Fin 126) : SemLoc sig := .dma (dsem j)
theorem ownSemFacts : Pipeline.OwnSemFacts cfg0.spec osem where
  isScoped := by decide +kernel
  inj := fun j j' h => Sum.inl.inj (csem_injective (a₁ := .inl j) (a₂ := .inl j') h)
  disj := by decide +kernel

theorem unscoped_sems (c : Dev nD) : (unscopedSems0 c : sProp 𝕄) = semVal (barCell c) 0 := by
  unfold unscopedSems0; rw [bigSep_eq_bigSepL_of_eq [SemLoc.reg barS] (by decide +kernel) (by decide)]; rfl
theorem all_sems (c : Dev nD) :
    (bigSep Finset.univ fun k : Cells => semVal (kcell (c, k)) 0 : sProp 𝕄)
      = iprop(Pipeline.ownSems0 (Ix := Unit) (Name := ℕ) (U := UU) (Lvl := ℕ) (Val := Elt F) (τ := τ) osem c ∗ unscopedSems0 c) := by
  rw [unscoped_sems, bigSep_univ_sum, bigSep_univ_eq_bigSepL [()] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cells => iprop(∃ κ : ℕ, cellInv EX (sched m) κ (kcell (c, k))))
          ∗ (bigSep Finset.univ fun k : Cells => iprop(atPos EX (kcell (c, k)) 0 ∅ 0 ∗ reached EX (kcell (c, k)) 0)) ∗ toks c) := by
  unfold G
  iintro ⟨Hos, Hus, Hst, Hat, Htok⟩
  ihave Hv := (Entails.of_eq (all_sems (F := F) c).symm) $$ [Hos Hus]
  · isplitl [Hos] <;> iassumption
  imod (show iprop((bigSep Finset.univ fun k : Cells => semVal (kcell (c, k)) 0) ∗ bigSep Finset.univ fun k : Cells => roundState EX (sched m) (kcell (c, k)) 0)
      ⊢ (|={Set.univ}=> bigSep Finset.univ fun k : Cells => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- Each device with its neighbour in a direction. -/
def around (d : Fin 5) : Dev nD ≃ Dev nD := ⟨nb d, nb (opp d), nb_opp d, nb_opp' d⟩
/-- Each device and direction with that neighbour and the direction back. -/
def across : Dev nD × Fin 5 ≃ Dev nD × Fin 5 :=
  ⟨fun x => (nb x.2 x.1, opp x.2), fun x => (nb x.2 x.1, opp x.2), fun x => Prod.ext (nb_opp x.2 x.1) (opp_opp x.2), fun x => Prod.ext (nb_opp x.2 x.1) (opp_opp x.2)⟩

theorem move_one (d : Fin 5) (Φ : Dev nD → sProp 𝕄) : (bigSep Finset.univ fun c => Φ c) = bigSep Finset.univ fun c => Φ (nb d c) :=
  bigSep_univ_equiv (around d) Φ
theorem move_recv (Φ : Dev nD → Fin 60 → sProp 𝕄) :
    (bigSep Finset.univ fun c => bigSep Finset.univ fun q => Φ c q) = bigSep Finset.univ fun c => bigSep Finset.univ fun q => Φ (nbr c q) q := by
  rw [Pipeline.bigSep_univ_comm, Pipeline.bigSep_univ_comm (fun c q => Φ (nbr c q) q)]
  exact bigSep_congr fun q _ => move_one (dirOf q) fun c => Φ c q
theorem move_bar (Φ : Dev nD → Fin 5 → sProp 𝕄) :
    (bigSep Finset.univ fun c => bigSep Finset.univ fun d => Φ c d) = bigSep Finset.univ fun c => bigSep Finset.univ fun d => Φ (nb d c) (opp d) := by
  rw [← bigSep_univ_prod (fun x : Dev nD × Fin 5 => Φ x.1 x.2), ← bigSep_univ_prod (fun x : Dev nD × Fin 5 => Φ (nb x.2 x.1) (opp x.2))]
  exact bigSep_univ_equiv across _

theorem toks_dealt : (bigSep Finset.univ fun c : Dev nD => (toks c : sProp 𝕄)) = bigSep Finset.univ fun c : Dev nD => payToks c := by
  have h : ∀ c : Dev nD, (toks c : sProp 𝕄) = iprop((((dutyTok EX (dmaCell c (locSem 0)) 0 (0 : Fin 5) ∗ dutyTok EX (dmaCell c (locSem 1)) 0 (0 : Fin 5))
      ∗ (dutyTok EX (dmaCell c (xsSem 0)) 0 (0 : Fin 5) ∗ dutyTok EX (dmaCell c (xsSem 1)) 0 (0 : Fin 5))
      ∗ (dutyTok EX (dmaCell c (xrSem 0)) 0 (0 : Fin 5) ∗ dutyTok EX (dmaCell c (xrSem 1)) 0 (0 : Fin 5)))
    ∗ (bigSep Finset.univ fun q => dutyTok EX (sendCell c q) 0 (0 : Fin 5)) ∗ (bigSep Finset.univ fun q => dutyTok EX (recvCell c q) 0 (0 : Fin 5)))
    ∗ bigSep Finset.univ fun d => dutyTok EX (barCell c) 0 d) := fun c => by
    unfold toks; rw [dma_split fun s => (dutyTok EX (dmaCell c s) 0 (0 : Fin 5) : sProp 𝕄)]
  rw [bigSep_congr fun c _ => h c]
  unfold payToks
  simp only [bigSep_sep']
  rw [move_recv fun c q => (dutyTok EX (recvCell c q) 0 (0 : Fin 5) : sProp 𝕄), move_bar fun c d => (dutyTok EX (barCell c) 0 d : sProp 𝕄),
    move_one 0 fun c => (dutyTok EX (dmaCell c (xrSem 0)) 0 (0 : Fin 5) : sProp 𝕄), move_one 0 fun c => (dutyTok EX (dmaCell c (xrSem 1)) 0 (0 : Fin 5) : sProp 𝕄)]

theorem deal_records {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cells => iprop(∃ κ : ℕ, cellInv EX (sched m) κ (kcell (c, k))))
          ∗ (bigSep Finset.univ fun k : Cells => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Cells => iprop(∃ κ : ℕ, cellInv EX (sched m) κ (kcell ck))),
    bigSep_congr (s := Finset.univ) (fun (c : Dev nD) _ => bigSep_sep' Finset.univ (fun k : Cells => (atPos EX (kcell (c, k)) 0 ∅ 0 : sProp 𝕄)) (fun k => reached EX (kcell (c, k)) 0)),
    bigSep_sep', ← bigSep_univ_prod (fun ck : Dev nD × Cells => (reached EX (kcell ck) 0 : sProp 𝕄)), toks_dealt]
  iintro ⟨HI, ⟨Hat, #HR⟩, Htok⟩
  ihave HK := (BI.bigSep_exists_pi Finset.univ (fun (ck : Dev nD × Cells) (κ : ℕ) => (cellInv EX (sched m) κ (kcell ck) : sProp 𝕄))) $$ HI
  icases HK with ⟨%K, #HI⟩
  iapply (deal_records (R := records m K) (Φ := fun c => iprop((bigSep Finset.univ fun k : Cells => atPos EX (kcell (c, k)) 0 ∅ 0) ∗ payToks c)) (fun c _ => by
    unfold G'
    iintro ⟨HR, H⟩
    isplitl [HR]; · iexists K; iexact HR
    iexact H))
  isplitr
  · unfold records; isplitl; · iexact HI
    iexact HR
  · rw [bigSep_sep']
    isplitl [Hat]; · iexact Hat
    iexact Htok

/-- Every semaphore of every device given to its record at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Deal

section Credits
variable {c : Dev nD}

/-! ## The credit dealt -/

theorem bar_eq_iff {a b : Dev nD} : Iff (barCell a = barCell b) (a = b) :=
  ⟨fun h => congrArg (fun g : GSem nD τ sig => g.1.1) h, fun h => h ▸ rfl⟩
theorem dma_eq_iff {a b : Dev nD} {s s' : DmaSem sig} : Iff (dmaCell a s = dmaCell b s') (a = b ∧ s = s') :=
  ⟨fun h => ⟨congrArg (fun g : GSem nD τ sig => g.1.1) h, SemLoc.dma.inj (congrArg Prod.snd h)⟩, fun h => by rw [h.1, h.2]⟩
theorem bar_ne_dma {a b : Dev nD} {s : DmaSem sig} : barCell a ≠ dmaCell b s := fun h => by
  have := congrArg Prod.snd h; cases this

theorem oweT_bar (d c : Dev nD) : oweT d 0 (barCell c) () = 0 := by
  unfold oweT
  rw [Finset.sum_apply, Finsupp.finset_sum_apply]
  refine Finset.sum_eq_zero fun q _ => ?_
  split
  · rw [tallyAt_ne_cell bar_ne_dma]; rfl
  · rfl
theorem oweT_xr (d c : Dev nD) (i : Fin 2) : oweT d 0 (dmaCell c (xrSem i)) () = 0 := by
  unfold oweT
  rw [Finset.sum_apply, Finsupp.finset_sum_apply]
  refine Finset.sum_eq_zero fun q _ => ?_
  split
  · rw [tallyAt_ne_cell fun h => ?_]; · rfl
    have h1 := (dma_eq_iff.mp h).2
    have h2 := useOf_recv q
    rw [← h1, useOf_xr] at h2; cases h2
  · rfl
theorem oweT_recv (d c : Dev nD) (q : Fin 60) : oweT d 0 (recvCell c q) () = if nbr d q = c ∧ sendOk d q = true then NR else 0 := by
  unfold oweT
  rw [Finset.sum_apply, Finsupp.finset_sum_apply, Finset.sum_eq_single q]
  · by_cases h : sendOk d q = true
    · rw [if_pos ⟨h, Nat.zero_testBit _⟩, tallyAt_apply]
      by_cases h' : nbr d q = c
      · rw [if_pos ⟨dma_eq_iff.mpr ⟨h'.symm, rfl⟩, rfl⟩, if_pos ⟨h', h⟩]
      · rw [if_neg fun e => h' (dma_eq_iff.mp e.1).1.symm, if_neg fun e => h' e.1]
    · rw [if_neg fun e => h e.1, if_neg fun e => h e.2]; rfl
  · intro q' _ hq
    split
    · rw [tallyAt_ne_cell fun h => ?_]; · rfl
      have h1 := (dma_eq_iff.mp h).2
      have h2 := useOf_recv q
      rw [h1, useOf_recv] at h2
      exact hq (Use.rcv.inj h2)
    · rfl
  · exact fun h => absurd (Finset.mem_univ q) h

theorem oweX_bar (d c : Dev nD) (i : Fin 2) : oweX d i (barCell c) () = 0 := by
  unfold oweX; rw [tallyAt_ne_cell bar_ne_dma]; rfl
theorem oweX_recv (d c : Dev nD) (i : Fin 2) (q : Fin 60) : oweX d i (recvCell c q) () = 0 := by
  unfold oweX; rw [tallyAt_ne_cell fun h => ?_]; · rfl
  have h1 := (dma_eq_iff.mp h).2
  have h2 := useOf_recv q
  rw [h1, useOf_xr] at h2; cases h2
theorem oweX_xr (d c : Dev nD) (i j : Fin 2) : oweX d i (dmaCell c (xrSem j)) () = if nb 0 d = c ∧ i = j then NH else 0 := by
  unfold oweX; rw [tallyAt_apply]
  by_cases h : nb 0 d = c ∧ i = j
  · rw [if_pos h, if_pos ⟨by rw [h.1, h.2], rfl⟩]
  · rw [if_neg h, if_neg fun e => h ?_]
    obtain ⟨h1, h2⟩ := dma_eq_iff.mp e.1
    have h3 := useOf_xr j
    rw [h2, useOf_xr] at h3
    exact ⟨h1.symm, Use.xr.inj h3⟩

theorem oweB_bar (d c : Dev nD) (k : Fin 5) : oweB d k (barCell c) () = if nb k d = c ∧ hasNb k d = true then 1 else 0 := by
  unfold oweB
  by_cases h : hasNb k d = true
  · rw [if_pos h, tallyAt_apply]
    by_cases h' : nb k d = c
    · rw [if_pos ⟨bar_eq_iff.mpr h'.symm, rfl⟩, if_pos ⟨h', h⟩]
    · rw [if_neg fun e => h' (bar_eq_iff.mp e.1).symm, if_neg fun e => h' e.1]
  · rw [if_neg h, if_neg fun e => h e.2]; rfl
theorem oweB_dma (d c : Dev nD) (k : Fin 5) (s : DmaSem sig) : oweB d k (dmaCell c s) () = 0 := by
  unfold oweB
  split
  · rw [tallyAt_ne_cell fun h => bar_ne_dma h.symm]; rfl
  · rfl

theorem O₀_at (d : Dev nD) (g : GSem nD τ sig) : O₀ d g () = oweB d 0 g () + (oweB d 1 g () + (oweB d 2 g () + (oweB d 3 g () + (oweB d 4 g ()
    + (oweX d 0 g () + (oweX d 1 g () + oweT d 0 g ())))))) := rfl

theorem sum_bar (c : Dev nD) : ∑ d, O₀ d (barCell c) () = deg c := by
  rw [Finset.sum_congr rfl fun d _ => show O₀ d (barCell c) () = _ from by rw [O₀_at, oweB_bar, oweB_bar, oweB_bar, oweB_bar, oweB_bar, oweX_bar, oweX_bar, oweT_bar]]
  revert c; decide +kernel
theorem sum_xr (c : Dev nD) (i : Fin 2) : ∑ d, O₀ d (dmaCell c (xrSem i)) () = NH := by
  rw [Finset.sum_congr rfl fun d _ => show O₀ d (dmaCell c (xrSem i)) () = if d = nb 0 c then NH else 0 from by
    rw [O₀_at, oweB_dma, oweB_dma, oweB_dma, oweB_dma, oweB_dma, oweX_xr, oweX_xr, oweT_xr]
    have h : nb 0 d = c ↔ d = nb 0 c := ⟨fun h => by rw [← h]; exact (nb_opp 0 d).symm, fun h => by rw [h]; exact nb_opp 0 c⟩
    simp only [h]
    by_cases hd : d = nb 0 c <;> fin_cases i <;> simp [hd]]
  rw [Finset.sum_ite_eq' Finset.univ (nb 0 c) fun _ => NH, if_pos (Finset.mem_univ _)]
theorem sum_recv (c : Dev nD) (q : Fin 60) : ∑ d, O₀ d (recvCell c q) () = if recvOk c q = true then NR else 0 := by
  rw [Finset.sum_congr rfl fun d _ => show O₀ d (recvCell c q) () = if d = nb (opp (dirOf q)) c then (if recvOk c q = true then NR else 0) else 0 from by
    rw [O₀_at, oweB_dma, oweB_dma, oweB_dma, oweB_dma, oweB_dma, oweX_recv, oweX_recv, oweT_recv]
    simp only [Nat.zero_add]
    by_cases hd : d = nb (opp (dirOf q)) c
    · have h : nbr d q = c := by rw [hd]; exact nb_opp' (dirOf q) c
      rw [if_pos hd, ← recvOk_nbr, h]
      by_cases hr : recvOk c q = true
      · rw [if_pos hr, if_pos ⟨rfl, hr⟩]
      · rw [if_neg hr, if_neg fun e => hr e.2]
    · rw [if_neg hd, if_neg fun e => hd ?_]
      rw [← e.1]; exact (nb_opp (dirOf q) d).symm]
  rw [Finset.sum_ite_eq' Finset.univ (nb (opp (dirOf q)) c) fun _ => (if recvOk c q = true then NR else 0), if_pos (Finset.mem_univ _)]

theorem launched (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ credits c := by
  unfold Pipeline.launchCred
  have h1 : (bigSep Finset.univ fun sm : SemLoc sig => (cred (tallyOn ((c : Thread nD τ), sm) (launchCredit (Pipeline.owing O₀) 0 ((c : Thread nD τ), sm))) : sProp 𝕄))
      ⊢ bigSep Finset.univ fun k : Cells => cred (tallyOn ((c : Thread nD τ), csem k) (launchCredit (Pipeline.owing O₀) 0 ((c : Thread nD τ), csem k))) := by
    refine (bigSep_subset (Finset.subset_univ (Finset.univ.map ⟨csem, csem_injective⟩))).trans ?_
    rw [bigSep_map]; exact same rfl
  refine h1.trans ?_
  rw [cells_split fun sm => (cred (tallyOn ((c : Thread nD τ), sm) (launchCredit (Pipeline.owing O₀) 0 ((c : Thread nD τ), sm))) : sProp 𝕄),
    launched (barCell c) _ (sum_bar c), launched (dmaCell c (xrSem 0)) _ (sum_xr c 0), launched (dmaCell c (xrSem 1)) _ (sum_xr c 1)]
  have h2 : (bigSep Finset.univ fun q => (cred (tallyOn (recvCell c q) (launchCredit (Pipeline.owing O₀) 0 (recvCell c q))) : sProp 𝕄))
      ⊢ bigSep Finset.univ fun q => if recvOk c q = true then cred (tallyAt (recvCell c q) () NR) else iprop(emp) :=
    bigSep_mono fun q _ => by
      rw [launched _ _ (sum_recv c q)]
      split
      · exact same rfl
      · show iprop(cred (tallyAt (recvCell c q) () 0)) ⊢ (iprop(emp) : sProp 𝕄)
        iintro -; iempintro
  unfold credits
  iintro ⟨⟨⟨-, -, ⟨H0, H1⟩⟩, -, HV⟩, HB⟩
  isplitl [HB]; · iexact HB
  isplitl [H0 H1]
  · isplitl [H0] <;> iassumption
  iapply h2 $$ HV

end Credits

end Cert.DistArLn

end
-- ==== Proof.Run.lean ====
/-
# Every execution

From any contents every fair execution of the program ends, with the inputs as they were, the result in place on every device and every
semaphore at zero; for any float values.
-/
module
public import proofs.«01_k».proof.Proof.Deal
public import Idealize.ShloMosaic.Lib.Pipeline.CollectiveSegs
public import Idealize.ShloMosaic.Lib.Pipeline.ValueKit.Geometry
public import Idealize.ShloMosaic.Lib.Quiescent
@[expose] public section

noncomputable section
namespace Cert.DistArLn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

section Run
variable (m : Mem F) (ρ : Dev nD → PrngReg)

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ argPts m c) ∗ emp) := by
  rw [Pipeline.unscopedRestP_none, unscopedRest0_eq]
  unfold start known G' argPts
  iintro ⟨HA, HL, Hcr, -, HK, Hat, Htok⟩
  ihave Hc := (creds (F := F) c) $$ Hcr
  imodintro
  isplitl
  · isplitr [HA]
    · isplitl [HK HL]
      · isplitl [HK] <;> iassumption
      isplitl [Hat]; · iexact Hat
      isplitl [Htok] <;> iassumption
    · iexact HA
  · iempintro

theorem enter (c : Dev nD) :
    iprop((start m c ∗ argPts m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, HA⟩, -, Hr⟩
  isplitl [Hs]; · iexact Hs
  isplitl [HA] <;> iassumption

attribute [local irreducible] out gam Φ₁ in
theorem phi_last (c : Dev nD) : (dats m 0 c).Φ (Fin.last cfg0.N) = Φ₁ m c := rfl
theorem leave (c : Dev nD) :
    (dats m 0 c).Φ (Fin.last cfg0.N) ⊢ iprop((unscopedSems0 c ∗ argPts m c) ∗ Pipeline.ownSems0 osem c ∗ Pipeline.scopedRest cfg0.spec c) := by
  rw [phi_last, scopedRest0_eq]
  unfold Φ₁ scratch
  rw [all_sems]
  iintro ⟨⟨Hos, Hus⟩, HA, Hr⟩
  isplitl [Hus HA]
  · isplitl [Hus] <;> iassumption
  isplitl [Hos] <;> iassumption

theorem oweX_above (d : Dev nD) (i : Fin 2) : Above 0 (oweX d i) := Above.at _ _ (by
  show 0 < lvUse _ (useOf (xrSem i)); rw [useOf_xr]; exact Nat.zero_lt_two)
theorem oweB_above (d : Dev nD) (k : Fin 5) : Above 0 (oweB d k) := by
  unfold oweB; split
  · exact Above.at _ _ Nat.zero_lt_one
  · exact Above.zero 0
theorem O₀_above (c : Dev nD) : Above 0 (O₀ c) :=
  (oweB_above c 0).add ((oweB_above c 1).add ((oweB_above c 2).add ((oweB_above c 3).add ((oweB_above c 4).add
    ((oweX_above c 0).add ((oweX_above c 1).add (Above.oweT c 0 fun q _ _ => lt_of_lt_of_le (by decide) (level_pos _ q))))))))

theorem waits (c : Dev nD) : (levAts L lv : sProp 𝕄) ⊢ Pipeline.cellsWaits cfgs (dats m) () 0 c :=
  Pipeline.cellsWaits_intro cfgs (dats m) () 0 c fun w s t => by
    have hz : ∀ (w : Fin 2) (s : Fin (cfg0.win w).nbuf), lv ((c : Thread nD τ), .dma ((cfg0.win w).sem s)) () = 0 := fun w s => by
      fin_cases w <;> fin_cases s <;> rfl
    refine mayWait c (.dma _) ?_
    rw [hz w s]
    rcases t with ⟨_ | _, ht⟩
    · exact O₀_above c
    · exact Above.zero 0

end Run

section Final
variable (m : Mem F) (ρ : Dev nD → PrngReg)

theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) (Finset.univ : Finset Unit) (fun _ => ℓ) (fun _ => f) s'
  rw [bigSep_univ_eq_bigSepL [()] (by decide) (by decide), bigSepL_singleton] at h
  refine BIBase.Entails.trans h ?_
  iintro ⟨%hh, HS⟩
  isplitr; · ipureintro; exact hh () (Finset.mem_univ _)
  iexact HS

theorem read_all (c : Dev nD) (s' : Phys nD τ sig (Elt F)) :
    iprop((unscopedSems0 c ∗ argPts m c) ∗ emp ∗ SI s') ⊢ |={Set.univ}=> iprop(⌜((∀ sm : SemLoc sig, sm.isScoped .tc = false → s'.mem.sem ((c.tc : Thread nD τ), sm) = 0)
      ∧ s'.mem.mem ((c : Thread nD τ).loc main_arg0) = m ((c : Thread nD τ).loc main_arg0)
      ∧ s'.mem.mem ((c : Thread nD τ).loc main_arg1) = m ((c : Thread nD τ).loc main_arg1))⌝ ∗ (SI s' : sProp 𝕄)) := by
  unfold argPts
  iintro ⟨⟨Hu, HA, HE⟩, -, HSI⟩
  ihave H := (read_one _ _ s') $$ [HA HSI]
  · isplitl [HA]; · iexact HA
    iexact HSI
  icases H with ⟨%h0, HSI⟩
  ihave H := (read_one _ _ s') $$ [HE HSI]
  · isplitl [HE]; · iexact HE
    iexact HSI
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h0, h1⟩
  iexact HSI

attribute [local irreducible] out gam in
theorem final_gam (c : Dev nD) : (dats m 0 c).arrAt (0 : Fin 2) cfg0.N = m ((c : Thread nD τ).loc main_arg2) :=
  (dats m 0 c).arrAt_in (0 : Fin 2) rfl _
attribute [local irreducible] out gam in
theorem final_out (c : Dev nD) : (dats m 0 c).arrAt (1 : Fin 2) cfg0.N = out m c := by
  refine (dats m 0 c).arrAt_eq_of_after_last (1 : Fin 2) t0_0 (by decide +kernel) (out m c) fun j => ?_
  rw [after_out]; rfl

/-- What every execution ends in: the inputs as they were, the result in place on every device, every semaphore at zero. -/
def Ended (s : MemSt nD τ sig (Elt F)) : Prop :=
  (∀ c : Dev nD, s.mem ((c : Thread nD τ).loc main_v1) = out m c ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2))
    ∧ s.sem = fun _ => 0

theorem run_main : θ_run defs (onTc (τ := τ) (main (F := F))) ⟨m, fun _ => 0, ρ⟩ (fun r => Ended m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := fun c => iprop(start m c ∗ argPts m c)) (Y := fun c => iprop(unscopedSems0 c ∗ argPts m c)) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_arg1) = m ((c : Thread nD τ).loc main_arg1))
    (hY := read_all m)
    (hQ := fun s h hs => ⟨fun c => ⟨((h c).1 (1 : Fin 2)).trans (final_out m c), (h c).2.2.2.1, (h c).2.2.2.2, ((h c).1 (0 : Fin 2)).trans (final_gam m c)⟩,
      sem_eq_zero hs fun c => (h c).2.2.1⟩)

end Final

end Cert.DistArLn

end
-- ==== Proof.Value.lean ====
/- What the kernel leaves in the result, index by index, over the extended reals.

   A device adds its own shard, the shard of its neighbour along the first mesh axis and the residual, and scales every row
   of that sum by the reciprocal root of the row's mean square plus a small number, then by the scale vector. The mean square plus
   the small number is positive whatever the sum holds, so multiplying by the reciprocal root is dividing by the root. -/
module

public import proofs.«01_k».proof.Proof.Regions
public import Idealize.ShloMosaic.PureOps.Ideal.Laws
public import Idealize.ShloMosaic.Lib.IdealHost
public import Idealize.ShloMosaic.Lib.ValueIdxCore
public import Idealize.ShloMosaic.Lib.ValueLayout
public import Idealize.ShloMosaic.Lib.ValueLayoutCasts
public import Idealize.ShloMosaic.Lib.Pipeline.Value

@[expose] public section

noncomputable section

namespace Cert.DistArLn

open Cert.KernelIdeal Cert.KernelIdeal.Gen
open Idealize.ShloMosaic Idealize.ShloMosaic.TcCoe Idealize.ShloMosaic.ValueIdx

/-! ## Numbers -/

/-- The two constants of both programs: the row length, and the small number under the root. -/
abbrev rowLen : EReal := Ideal.ofBits .f32 0x45800000#32
abbrev eps : EReal := Ideal.ofBits .f32 0x358637BD#32

theorem rowLen_eq : rowLen = ((4096 : ℝ) : EReal) := by
  simp [rowLen, Ideal.ofBits, Ideal.ieee, -EReal.coe_mul]; norm_num
theorem eps_pos : ∃ e : ℝ, 0 < e ∧ eps = (e : EReal) := by
  refine ⟨(2 ^ 23 + 407485 : ℕ) * (2 : ℝ) ^ (-43 : ℤ), by positivity, ?_⟩
  simp [eps, Ideal.ofBits, Ideal.ieee, -EReal.coe_mul]

theorem sq_nonneg' (x : EReal) : 0 ≤ x * x := by
  rcases le_total 0 x with h | h
  · exact mul_nonneg h h
  · have := mul_nonneg (EReal.neg_nonneg.mpr h) (EReal.neg_nonneg.mpr h); rwa [neg_mul_neg] at this

/-- The mean of a row's squares plus the small number. -/
def meanSq (u : Fin 4096 → EReal) : EReal := Ideal.div (∑ j, u j * u j) rowLen + eps

/-- A row's mean square plus the small number is positive. -/
theorem meanSq_pos (u : Fin 4096 → EReal) : 0 < meanSq u := by
  obtain ⟨e, he, h⟩ := eps_pos
  unfold meanSq
  rw [h, rowLen_eq, Ideal.div_coe (by norm_num)]
  have h0 : 0 ≤ (∑ j, u j * u j) * ((1 / 4096 : ℝ) : EReal) :=
    mul_nonneg (Finset.sum_nonneg fun j _ => sq_nonneg' (u j)) (by exact_mod_cast (by norm_num : (0 : ℝ) ≤ 1 / 4096))
  exact lt_of_lt_of_le (by exact_mod_cast he) (le_add_of_nonneg_left h0)

/-- Multiplying by the reciprocal root of a positive number is dividing by its root. -/
theorem mul_rsqrt (x t : EReal) (h : 0 < t) : x * Ideal.rsqrt t = Ideal.div x (Ideal.sqrt t) := by
  induction t using EReal.rec with
  | bot => exact absurd h (by simp)
  | top => simp [Ideal.div]
  | coe r =>
    have hr : 0 < r := by exact_mod_cast h
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div_coe hs, one_div]

/-- A row scaled to unit mean square. -/
def scaled (u : Fin 4096 → EReal) (k : Fin 4096) : EReal := Ideal.div (u k) (Ideal.sqrt (meanSq u))

/-! ## The kernel's rows -/

/-- A column broadcast over many columns reads, at `(p, c)`, the column at `p`. -/
theorem column_apply {α : Type} (v : S128x1.Idx → α) (p : Fin 128) (c : Fin 4096) :
    broadcastTo S128x4096 v broadcasts_S128x1_S128x4096 (ix2 p c) = v (ix2 p (0 : Fin 1)) :=
  broadcastTo_apply v _ (ix2 p c) (ix2 p (0 : Fin 1)) fun ax => match ax with | ⟨0, _⟩ => rfl | ⟨1, _⟩ => rfl

/-- The scale vector as the kernel broadcasts it. -/
theorem scale_row (g : Vec Ideal S4096 .f32) (p : Fin 128) (k : Fin 4096) :
    broadcastTo S128x4096 (k0_pay2 (F := Ideal) g) broadcasts_S1x4096_S128x4096 (ix2 p k) = g (ix1 k) := by
  rw [broadcastTo_1b_ab_apply]
  show shapeCast S1x4096 (shapeCast S4096 g shapeCasts_S4096_S4096) shapeCasts_S4096_S1x4096 (ix2 (0 : Fin 1) k) = _
  rw [shapeCast_a_1a_apply, shapeCast_self]

/-- The sum of a row of 4096 lanes. -/
theorem row_sum (x : FVec Ideal S128x4096 .f32) (p : Fin 128) :
    shapeCast S128x1 (multiReduction .add [1] S128 x 0x00000000#32 reduces_S128x4096_S128 (.inl rfl) rfl) shapeCasts_S128_S128x1 (ix2 p (0 : Fin 1))
      = ∑ j : Fin 4096, x (ix2 p j) := by
  rw [shapeCast_a_a1_apply]
  refine (Ideal.multiReduction_add_single x _ _ _ _ _).trans ?_
  exact Finset.sum_congr rfl fun j _ => congrArg x (funext fun a => match a with | ⟨0, _⟩ => rfl | ⟨1, _⟩ => rfl)

variable (g : Vec Ideal S4096 .f32) (P : Vec Ideal S128x4096 .f32) (H : Vec Ideal S128x4096 .bf16) (R : Vec Ideal S128x4096 .f32)

theorem pay3_apply (p : Fin 128) (k : Fin 4096) :
    k0_pay3 (k0_pay2 g) P H R (ix2 p k) = scaled (fun j => P (ix2 p j) + H (ix2 p j) + R (ix2 p j)) k * g (ix1 k) := by
  unfold scaled
  rw [← mul_rsqrt _ _ (meanSq_pos _)]
  unfold k0_pay3
  refine congrArg₂ (· * ·) (congrArg₂ (· * ·) rfl ?_) (scale_row g p k)
  refine (column_apply _ p k).trans ?_
  refine congrArg Ideal.rsqrt (congrArg₂ (· + ·) (congrArg₂ Ideal.div ?_ rfl) rfl)
  exact row_sum _ p

theorem pay4_apply (p : Fin 128) (k : Fin 4096) :
    k0_pay4 (k0_pay2 g) P H R (ix2 p k) = scaled (fun j => P (ix2 p j) + H (ix2 p j) + R (ix2 p j)) k * g (ix1 k) :=
  pay3_apply g P H R p k

/-! ## What the kernel reads -/

section Reads
variable (m : Mem Ideal) (c : Dev nD)

set_option backward.proofsInPublic true in
/-- The row of the whole arrays that row `p` of a device's row block is. -/
def rowOf (c : Dev nD) (p : ℕ) (hp : p < 256) : Fin 4096 :=
  ⟨256 * ownBlk c + p, by have := ownBlk_lt c; omega⟩

theorem off1_own (c : Dev nD) : k0_off1 c = ![0, 256 * ownBlk c, 0] := by revert c; decide +kernel
theorem off2_own (c : Dev nD) : k0_off2 c = ![256 * ownBlk c, 0] := by revert c; decide +kernel

theorem pst_apply (p : Fin 256) (k : Fin 4096) :
    pst m c (ix2 p k) = m ((c : Thread nD τ).loc main_arg0) (ix3 (0 : Fin 1) (rowOf c p.val p.isLt) k) := by
  refine congrArg (m ((c : Thread nD τ).loc main_arg0)) ?_
  show (Rect.unit (s := S1x4096x4096) (k0_off1 c) S1x256x4096.size (k0_off1_inb c)).emb (Shape.reshapeEquiv _ (ix2 p k)) = _
  rw [reshapeEquiv_ix2_1ab]
  funext a
  refine Fin.ext ?_
  match a with
  | ⟨0, _⟩ => rfl
  | ⟨1, _⟩ =>
    show k0_off1 c 1 + 1 * p.val = 256 * ownBlk c + p.val
    rw [off1_own]; show 256 * ownBlk c + 1 * p.val = _; omega
  | ⟨2, _⟩ =>
    show k0_off1 c 2 + 1 * k.val = k.val
    rw [off1_own]; show 0 + 1 * k.val = _; omega

theorem rst_apply (p : Fin 256) (k : Fin 4096) :
    rst m c (ix2 p k) = m ((c : Thread nD τ).loc main_arg1) (ix2 (rowOf c p.val p.isLt) k) := by
  refine congrArg (m ((c : Thread nD τ).loc main_arg1)) ?_
  funext a
  refine Fin.ext ?_
  match a with
  | ⟨0, _⟩ =>
    show k0_off2 c 0 + 1 * p.val = 256 * ownBlk c + p.val
    rw [off2_own]; show 256 * ownBlk c + 1 * p.val = _; omega
  | ⟨1, _⟩ =>
    show k0_off2 c 1 + 1 * k.val = k.val
    rw [off2_own]; show 0 + 1 * k.val = _; omega

set_option maxRecDepth 20000 in
theorem gam_apply (k : Fin 4096) : gam m c (ix1 k) = m ((c : Thread nD τ).loc main_arg2) (ix1 k) := by
  refine congrArg (m ((c : Thread nD τ).loc main_arg2)) ?_
  funext a
  refine Fin.ext ?_
  match a with
  | ⟨0, _⟩ => show 0 + 1 * k.val = k.val; omega

/-- A format change is the identity on the extended reals, so the rounded rows are the rows. -/
theorem pstb_eq : pstb m c = pst m c := by
  unfold pstb k0_pay1
  exact shapeCast_self _ _

theorem half0_apply {e : EltTy} (v : View sig .tc .vmem S256x4096 e) (f : v.ty.Contents (Elt Ideal)) (p : Fin 128) (k : Fin 4096) :
    v.readAt (Elt Ideal) half0.toLoadRect f (ix2 p k) = v.read (Elt Ideal) f (ix2 (⟨p.val, by omega⟩ : Fin 256) k) := by
  refine congrArg (v.read (Elt Ideal) f) ?_
  funext a
  refine Fin.ext ?_
  match a with
  | ⟨0, _⟩ => show 0 + 1 * p.val = p.val; omega
  | ⟨1, _⟩ => show 0 + 1 * k.val = k.val; omega
theorem half1_apply {e : EltTy} (v : View sig .tc .vmem S256x4096 e) (f : v.ty.Contents (Elt Ideal)) (p : Fin 128) (k : Fin 4096) :
    v.readAt (Elt Ideal) half1.toLoadRect f (ix2 p k) = v.read (Elt Ideal) f (ix2 (⟨128 + p.val, by omega⟩ : Fin 256) k) := by
  refine congrArg (v.read (Elt Ideal) f) ?_
  funext a
  refine Fin.ext ?_
  match a with
  | ⟨0, _⟩ => show 128 + 1 * p.val = 128 + p.val; omega
  | ⟨1, _⟩ => show 0 + 1 * k.val = k.val; omega

/-- Three numbers added. -/
abbrev add3 (a b d : EReal) : EReal := a + b + d

/-- What device `c` adds up, in row `r` of the whole arrays. -/
def summed (r : Fin 4096) (j : Fin 4096) : EReal :=
  add3 (m ((c : Thread nD τ).loc main_arg0) (ix3 (0 : Fin 1) r j)) (m ((nb 0 c : Thread nD τ).loc main_arg0) (ix3 (0 : Fin 1) r j))
    (m ((c : Thread nD τ).loc main_arg1) (ix2 r j))

theorem ownBlk_nb0 (c : Dev nD) : ownBlk (nb 0 c) = ownBlk c := by revert c; decide +kernel
theorem rowOf_nb0 (p : ℕ) (hp : p < 256) : rowOf (nb 0 c) p hp = rowOf c p hp :=
  Fin.ext (by show 256 * ownBlk (nb 0 c) + p = 256 * ownBlk c + p; rw [ownBlk_nb0])

theorem row_eq (p : Fin 256) (j : Fin 4096) :
    add3 (pst m c (ix2 p j)) (peer m c (ix2 p j)) (rst m c (ix2 p j)) = summed m c (rowOf c p.val p.isLt) j := by
  show add3 _ (pstb m (nb 0 c) (ix2 p j)) _ = _
  rw [pstb_eq, pst_apply, pst_apply, rst_apply, rowOf_nb0]
  rfl

theorem top_apply (p : Fin 128) (k : Fin 4096) :
    top m c (ix2 p k) = scaled (summed m c (rowOf c p.val (by omega))) k * (m ((c : Thread nD τ).loc main_arg2) (ix1 k) : EReal) := by
  unfold top
  rw [pay3_apply, gam_apply]
  refine congrArg₂ (· * ·) (congrArg (fun u => scaled u k) (funext fun j => ?_)) rfl
  rw [half0_apply, half0_apply, half0_apply]
  exact row_eq m c ⟨p.val, by omega⟩ j
theorem bottom_apply (p : Fin 128) (k : Fin 4096) :
    bottom m c (ix2 p k) = scaled (summed m c (rowOf c (128 + p.val) (by omega))) k * (m ((c : Thread nD τ).loc main_arg2) (ix1 k) : EReal) := by
  unfold bottom
  rw [pay4_apply, gam_apply]
  refine congrArg₂ (· * ·) (congrArg (fun u => scaled u k) (funext fun j => ?_)) rfl
  rw [half1_apply, half1_apply, half1_apply]
  exact row_eq m c ⟨128 + p.val, by omega⟩ j

end Reads

/-! ## The whole result -/

section Whole
variable (m : Mem Ideal)

theorem ownBlk_ownerAt (c : Dev nD) (i : (cc0_stg1_0 : Ref sig .tc).ty.Idx) : ownBlk (ownerAt c i) = (i 0).val / 256 := by
  have h : (i 0).val < 4096 := (i 0).isLt
  have e : (i 0).val / 1024 = ((i 0).val / 256) / 4 := by omega
  have hb : (i 0).val / 256 < 16 := by omega
  unfold ownerAt; rw [e]
  generalize (i 0).val / 256 = b at hb ⊢
  clear e h i
  revert c b; decide +kernel

/-- The stored rows at an index: the row of sums, scaled. -/
theorem stored_apply (d : Dev nD) (f : (cc0_stg1_0 : Ref sig .tc).ty.Contents (Elt Ideal)) (r k : Fin 4096) (h : r.val / 256 = ownBlk d) :
    stored m d f (ix2 r k) = scaled (summed m d r) k * (m ((d : Thread nD τ).loc main_arg2) (ix1 k) : EReal) := by
  unfold stored
  by_cases h1 : (ix2 r k : (cc0_stg1_0 : Ref sig .tc).ty.Idx) ∈ (oM.access (rows1 d)).set
  · rw [mem_rows1] at h1
    have h1' : 256 * ownBlk d + 128 ≤ r.val ∧ r.val < 256 * ownBlk d + 256 := h1
    have e : (ix2 r k : (cc0_stg1_0 : Ref sig .tc).ty.Idx)
        = (oM.access (rows1 d)).emb (ix2 (⟨r.val - (256 * ownBlk d + 128), by omega⟩ : Fin 128) k) := by
      funext a
      refine Fin.ext ?_
      match a with
      | ⟨0, _⟩ =>
        show r.val = k0_off3 d 128#32 0 + 1 * (r.val - (256 * ownBlk d + 128))
        rw [off3_1]; show r.val = 256 * ownBlk d + 128 + 1 * _; omega
      | ⟨1, _⟩ =>
        show k.val = k0_off3 d 128#32 1 + 1 * k.val
        rw [off3_1]; show k.val = 0 + 1 * k.val; omega
    rw [e, View.write_emb_of_mem _ _ (Finset.mem_univ _), bottom_apply]
    have er : rowOf d (128 + (r.val - (256 * ownBlk d + 128))) (by omega) = r := Fin.ext (by show 256 * ownBlk d + _ = _; omega)
    exact congrArg₂ (· * ·) (congrArg (fun x => scaled (summed m d x) k) er) rfl
  · rw [View.write_of_not_mem _ _ _ h1]
    have h0 : 256 * ownBlk d ≤ r.val ∧ r.val < 256 * ownBlk d + 128 := by
      rw [mem_rows1] at h1
      have h1' : ¬ (256 * ownBlk d + 128 ≤ r.val ∧ r.val < 256 * ownBlk d + 256) := h1
      omega
    have e : (ix2 r k : (cc0_stg1_0 : Ref sig .tc).ty.Idx)
        = (oM.access (rows0 d)).emb (ix2 (⟨r.val - 256 * ownBlk d, by omega⟩ : Fin 128) k) := by
      funext a
      refine Fin.ext ?_
      match a with
      | ⟨0, _⟩ =>
        show r.val = k0_off3 d 0#32 0 + 1 * (r.val - 256 * ownBlk d)
        rw [off3_0]; show r.val = 256 * ownBlk d + 1 * _; omega
      | ⟨1, _⟩ =>
        show k.val = k0_off3 d 0#32 1 + 1 * k.val
        rw [off3_0]; show k.val = 0 + 1 * k.val; omega
    rw [e, View.write_emb_of_mem _ _ (Finset.mem_univ _), top_apply]
    have er : rowOf d (r.val - 256 * ownBlk d) (by omega) = r := Fin.ext (by show 256 * ownBlk d + _ = _; omega)
    exact congrArg₂ (· * ·) (congrArg (fun x => scaled (summed m d x) k) er) rfl

/-- The whole result at an index: the row of sums of the device that computes it, scaled. -/
theorem out_apply (c : Dev nD) (r k : Fin 4096) :
    out m c (ix2 r k) = scaled (summed m (ownerAt c (ix2 r k)) r) k
      * (m ((ownerAt c (ix2 r k) : Thread nD τ).loc main_arg2) (ix1 k) : EReal) :=
  stored_apply m _ _ r k (ownBlk_ownerAt c (ix2 r k)).symm

end Whole

end Cert.DistArLn

end
-- ==== Proof.Reference.lean ====
/- What the reference leaves in the result, index by index, over the extended reals: the sum of the two shards and the residual,
   each row divided by the root of its mean square plus a small number, times the scale vector. -/
module

public import proofs.«01_k».proof.Proof.Value
public import proofs.«01_k».proof.Proof.Gen.ReferenceIdeal.Run

@[expose] public section

noncomputable section

namespace Cert.DistArLn

open Cert.ReferenceIdeal Cert.ReferenceIdeal.Gen
open Idealize.ShloMosaic Idealize.ShloMosaic.TcCoe Idealize.ShloMosaic.ValueIdx

variable (X : FVec Ideal S2x4096x4096 .f32) (E : FVec Ideal S4096x4096 .f32) (G : FVec Ideal S4096 .f32)

/-- The sum of the two shards and the residual. -/
def refSum : FVec Ideal S4096x4096 .f32 :=
  addf (Host.reduceAdd X (constant S_ .f32 0x00000000#32) reducesTo_S2x4096x4096_S4096x4096_d0 h_S_) E

/-- The mean of every row's squares plus the small number. -/
def refMean (Y : FVec Ideal S4096x4096 .f32) : FVec Ideal S4096x1 .f32 :=
  addf (Host.divf (broadcastInDim S4096x1 ![0] bcast_S4096_S4096x1_0
      (Host.reduceAdd (mulf Y Y) (constant S_ .f32 0x00000000#32) reducesTo_S4096x4096_S4096_d1 h_S_))
    (broadcastInDim S4096x1 ![] bcast_S_S4096x1 (constant S_ .f32 0x45800000#32)))
    (broadcastInDim S4096x1 ![] bcast_S_S4096x1 (constant S_ .f32 0x358637BD#32))

/-- The reference's result. -/
def refOut : FVec Ideal S4096x4096 .bf16 :=
  truncf .bf16 (mulf (Host.divf (refSum X E) (broadcastInDim S4096x4096 ![0, 1] bcast_S4096x1_S4096x4096_0_1 (Host.sqrt (refMean (refSum X E)))))
    (broadcastInDim S4096x4096 ![0, 1] bcast_S1x4096_S4096x4096_0_1 (broadcastInDim S1x4096 ![1] bcast_S4096_S1x4096_1 G))) bitsLt_bf16_f32

/-- The sum of the first axis's two entries. -/
theorem shards_sum (r j : Fin 4096) :
    Host.reduceAdd X (constant S_ .f32 0x00000000#32) reducesTo_S2x4096x4096_S4096x4096_d0 h_S_ (ix2 r j)
      = (X (ix3 (0 : Fin 2) r j) + X (ix3 (1 : Fin 2) r j) : EReal) := by
  rw [hostReduceAdd_apply]
  refine (Ideal.hostReduceAdd_single _ (by decide) X _ _).trans ?_
  have h0 : constant (F := Ideal) S_ .f32 0x00000000#32 (Shape.Idx.first h_S_) = (0 : EReal) := Ideal.ofBits_zero_f32
  rw [h0, zero_add]
  refine (Fin.sum_univ_two _).trans ?_
  exact congrArg₂ (· + ·) (congrArg X (funext fun a => match a with | ⟨0, _⟩ => rfl | ⟨1, _⟩ => rfl | ⟨2, _⟩ => rfl))
    (congrArg X (funext fun a => match a with | ⟨0, _⟩ => rfl | ⟨1, _⟩ => rfl | ⟨2, _⟩ => rfl))

theorem refSum_apply (r j : Fin 4096) :
    refSum X E (ix2 r j) = add3 (X (ix3 (0 : Fin 2) r j)) (X (ix3 (1 : Fin 2) r j)) (E (ix2 r j)) :=
  congrArg₂ (· + ·) (shards_sum X r j) rfl

/-- The sum of a row. -/
theorem lanes_sum (Y : FVec Ideal S4096x4096 .f32) (r : Fin 4096) :
    Host.reduceAdd Y (constant S_ .f32 0x00000000#32) reducesTo_S4096x4096_S4096_d1 h_S_ (ix1 r) = ∑ j : Fin 4096, (Y (ix2 r j) : EReal) := by
  rw [hostReduceAdd_apply]
  refine (Ideal.hostReduceAdd_single _ (by decide) Y _ _).trans ?_
  have h0 : constant (F := Ideal) S_ .f32 0x00000000#32 (Shape.Idx.first h_S_) = (0 : EReal) := Ideal.ofBits_zero_f32
  rw [h0, zero_add]
  exact Finset.sum_congr rfl fun j _ => congrArg Y (funext fun a => match a with | ⟨0, _⟩ => rfl | ⟨1, _⟩ => rfl)

theorem refMean_apply (Y : FVec Ideal S4096x4096 .f32) (r : Fin 4096) :
    refMean Y (ix2 r (0 : Fin 1)) = meanSq fun j => Y (ix2 r j) := by
  refine congrArg₂ (· + ·) (congrArg₂ Ideal.div ?_ ?_) ?_
  · refine (broadcastInDim_apply _ _ _ (ix2 r (0 : Fin 1)) (ix1 r) fun a => match a with | ⟨0, _⟩ => rfl).trans ?_
    exact lanes_sum (mulf Y Y) r
  · exact broadcastInDim_scalar_apply ..
  · exact broadcastInDim_scalar_apply ..

/-- The reference's result at an index. -/
theorem refOut_apply (r k : Fin 4096) :
    refOut X E G (ix2 r k)
      = (scaled (fun j => add3 (X (ix3 (0 : Fin 2) r j)) (X (ix3 (1 : Fin 2) r j)) (E (ix2 r j))) k * G (ix1 k) : EReal) := by
  have hs : (fun j => add3 (X (ix3 (0 : Fin 2) r j)) (X (ix3 (1 : Fin 2) r j)) (E (ix2 r j))) = fun j => refSum X E (ix2 r j) :=
    funext fun j => (refSum_apply X E r j).symm
  rw [hs]
  refine congrArg₂ (· * ·) (congrArg₂ Ideal.div rfl ?_) ?_
  · refine (broadcastInDim_apply _ _ _ (ix2 r k) (ix2 r (0 : Fin 1)) fun a => match a with | ⟨0, _⟩ => rfl | ⟨1, _⟩ => rfl).trans ?_
    exact congrArg Ideal.sqrt (refMean_apply (refSum X E) r)
  · refine (broadcastInDim_apply _ _ _ (ix2 r k) (ix2 (0 : Fin 1) k) fun a => match a with | ⟨0, _⟩ => rfl | ⟨1, _⟩ => rfl).trans ?_
    exact broadcastInDim_apply _ _ G (ix2 (0 : Fin 1) k) (ix1 k) fun a => match a with | ⟨0, _⟩ => rfl

end Cert.DistArLn

end
-- ==== Proof.Claims.lean ====
/- The kernel's and the reference's runs, and that they end with the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Reference
public import Idealize.ShloMosaic.Lib.Quiescent

@[expose] public section

noncomputable section

namespace Cert.Proof

open Idealize.ShloMosaic Idealize.SL.Sem Idealize.ShloMosaic.ValueIdx Cert.DistArLn

/-! ## How the runs end -/

/-- From any memory the kernel ends with its arguments as they were and every counter at zero. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => (h.1 c).2, h.2⟩) (Cert.DistArLn.run_main m ρ)

set_option maxRecDepth 65536 in
set_option smartUnfolding false in
/-- The kernel's frame: the two printed kernels have the same text, so one run gives both. -/
theorem frame_kernel : Cert.quiescent_Kernel := fun m ρ _ => kept (F := Bits) m ρ

/-- The frame of the kernel over the extended reals. -/
theorem frame_ideal : Cert.quiescent_KernelIdeal := fun m ρ _ => kept (F := Ideal) m ρ

/-- The reference's frame: it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ## The two results -/

section Results

variable (m : (ℓ : Loc Cert.KernelIdeal.nD Cert.KernelIdeal.τ Cert.KernelIdeal.sig) → Buf (Elt Ideal) ℓ)
  (X : FVec Ideal Cert.ReferenceIdeal.S2x4096x4096 .f32) (E : FVec Ideal Cert.ReferenceIdeal.S4096x4096 .f32)
  (G : FVec Ideal Cert.ReferenceIdeal.S4096 .f32)

/-- The devices hold the whole arrays as the program lays them out: the partial sums cut along the first mesh axis, the rest whole. -/
def Held : Prop := ∀ c : Dev Cert.KernelIdeal.nD,
  m ((c.tc : Thread Cert.KernelIdeal.nD Cert.KernelIdeal.τ).loc Cert.KernelIdeal.main_arg0)
      = Layout.blockN ⟨3, ![1, 4096, 4096]⟩ ⟨3, ![2, 4096, 4096]⟩ (Layout.meshBlock [2, 4, 4] ![[0], [], []] c) X
  ∧ m ((c.tc : Thread Cert.KernelIdeal.nD Cert.KernelIdeal.τ).loc Cert.KernelIdeal.main_arg1) = E
  ∧ m ((c.tc : Thread Cert.KernelIdeal.nD Cert.KernelIdeal.τ).loc Cert.KernelIdeal.main_arg2) = G

theorem shard_val (c : Dev Cert.KernelIdeal.nD) : ((Layout.meshBlock [2, 4, 4] ![[0], [], []] c) (0 : Fin 3)).val = cx c := by
  revert c; decide +kernel

/-- A device's shard of the partial sums is the one its first coordinate names. -/
theorem shard_apply (h : Held m X E G) (c : Dev Cert.KernelIdeal.nD) (x : Fin 2) (hx : cx c = x.val) (r j : Fin 4096) :
    m ((c.tc : Thread Cert.KernelIdeal.nD Cert.KernelIdeal.τ).loc Cert.KernelIdeal.main_arg0) (ix3 (0 : Fin 1) r j) = X (ix3 x r j) := by
  rw [(h c).1]
  refine congrArg X (funext fun a => Fin.ext ?_)
  match a with
  | ⟨0, _⟩ =>
    show ((Layout.meshBlock [2, 4, 4] ![[0], [], []] c) (0 : Fin 3)).val * 1 + 0 = x.val
    rw [shard_val, hx]; omega
  | ⟨1, _⟩ => show 0 * 4096 + r.val = r.val; omega
  | ⟨2, _⟩ => show 0 * 4096 + j.val = j.val; omega

theorem cx_cases (c : Dev Cert.KernelIdeal.nD) : cx c = 0 ∧ cx (nb 0 c) = 1 ∨ cx c = 1 ∧ cx (nb 0 c) = 0 := by
  revert c; decide +kernel

/-- What a device adds up is what the reference does: its neighbour along the first axis holds the other shard. -/
theorem summed_eq (h : Held m X E G) (c : Dev Cert.KernelIdeal.nD) (r j : Fin 4096) :
    summed m c r j = add3 (X (ix3 (0 : Fin 2) r j)) (X (ix3 (1 : Fin 2) r j)) (E (ix2 r j)) := by
  have hE : m ((c.tc : Thread Cert.KernelIdeal.nD Cert.KernelIdeal.τ).loc Cert.KernelIdeal.main_arg1) (ix2 r j) = E (ix2 r j) :=
    congrFun (h c).2.1 (ix2 r j)
  unfold summed
  rw [hE]
  rcases cx_cases c with ⟨h0, h1⟩ | ⟨h0, h1⟩
  · rw [shard_apply m X E G h c 0 h0, shard_apply m X E G h (nb 0 c) 1 h1]
  · rw [shard_apply m X E G h c 1 h0, shard_apply m X E G h (nb 0 c) 0 h1]
    exact congrArg (· + E (ix2 r j)) (add_comm (X (ix3 (1 : Fin 2) r j) : EReal) (X (ix3 (0 : Fin 2) r j)))

/-- Every device's result is the reference's, entry by entry, -/
theorem out_eq_at (h : Held m X E G) (c : Dev Cert.KernelIdeal.nD) (r k : Fin 4096) : out m c (ix2 r k) = refOut X E G (ix2 r k) := by
  refine (out_apply m c r k).trans (Eq.trans ?_ (refOut_apply X E G r k).symm)
  refine congrArg₂ (fun x y : EReal => x * y) (congrArg (fun u => scaled u k) (funext fun j => summed_eq m X E G h _ r j)) ?_
  exact congrFun (h _).2.2 (ix1 k)

attribute [local irreducible] out refOut in
/-- and so as a whole. -/
theorem out_eq (h : Held m X E G) (c : Dev Cert.KernelIdeal.nD) : out m c = refOut X E G := by
  funext i
  have hi : ∃ r k : Fin 4096, i = ix2 r k := ⟨i 0, i 1, eq_ix2 i⟩
  obtain ⟨r, k, rfl⟩ := hi
  exact out_eq_at m X E G h c r k

end Results

/-- The kernel's result on every device is the reference's. -/
theorem algebraic : Cert.algebraic_KernelIdeal_ReferenceIdeal := fun m g m' g' _ h =>
  ⟨refOut _ _ _,
    (θ_run Cert.KernelIdeal.defs _ _).mono (fun r e c => ⟨(e.1 c).1.trans (out_eq m _ _ _ h c), (e.1 c).2⟩) (Cert.DistArLn.run_main m g),
    (θ_run Cert.ReferenceIdeal.defs _ _).mono (fun r e => e 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial, algebraic⟩

end Cert.Proof

end
